-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatRefIdeal (m : (ℓ : Loc Cert.LatRefIdeal.nD Cert.LatRefIdeal.τ Cert.LatRefIdeal.sig) → Buf (Elt Ideal) ℓ) : Prop :=
  True

def Pre_LatDw (m : (ℓ : Loc Cert.LatDw.nD Cert.LatDw.τ Cert.LatDw.sig) → Buf (Elt Bits) ℓ) : Prop :=
  True

def Pre_LatDwIdeal (m : (ℓ : Loc Cert.LatDwIdeal.nD Cert.LatDwIdeal.τ Cert.LatDwIdeal.sig) → Buf (Elt Ideal) ℓ) : Prop :=
  True

def Pre_LatDwRefIdeal (m : (ℓ : Loc Cert.LatDwRefIdeal.nD Cert.LatDwRefIdeal.τ Cert.LatDwRefIdeal.sig) → Buf (Elt Ideal) ℓ) : Prop :=
  True

def Pre_LatDx (m : (ℓ : Loc Cert.LatDx.nD Cert.LatDx.τ Cert.LatDx.sig) → Buf (Elt Bits) ℓ) : Prop :=
  True

def Pre_LatDxIdeal (m : (ℓ : Loc Cert.LatDxIdeal.nD Cert.LatDxIdeal.τ Cert.LatDxIdeal.sig) → Buf (Elt Ideal) ℓ) : Prop :=
  True

def Pre_LatDxRefIdeal (m : (ℓ : Loc Cert.LatDxRefIdeal.nD Cert.LatDxRefIdeal.τ Cert.LatDxRefIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_UqDw (m : (ℓ : Loc Cert.UqDw.nD Cert.UqDw.τ Cert.UqDw.sig) → Buf (Elt Bits) ℓ) : Prop :=
  True

def Pre_UqDwIdeal (m : (ℓ : Loc Cert.UqDwIdeal.nD Cert.UqDwIdeal.τ Cert.UqDwIdeal.sig) → Buf (Elt Ideal) ℓ) : Prop :=
  True

def Pre_UqDwRefIdeal (m : (ℓ : Loc Cert.UqDwRefIdeal.nD Cert.UqDwRefIdeal.τ Cert.UqDwRefIdeal.sig) → Buf (Elt Ideal) ℓ) : Prop :=
  True

def Pre_UqDx (m : (ℓ : Loc Cert.UqDx.nD Cert.UqDx.τ Cert.UqDx.sig) → Buf (Elt Bits) ℓ) : Prop :=
  True

def Pre_UqDxIdeal (m : (ℓ : Loc Cert.UqDxIdeal.nD Cert.UqDxIdeal.τ Cert.UqDxIdeal.sig) → Buf (Elt Ideal) ℓ) : Prop :=
  True

def Pre_UqDxRefIdeal (m : (ℓ : Loc Cert.UqDxRefIdeal.nD Cert.UqDxRefIdeal.τ Cert.UqDxRefIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvRefIdeal (m : (ℓ : Loc Cert.UkvRefIdeal.nD Cert.UkvRefIdeal.τ Cert.UkvRefIdeal.sig) → Buf (Elt Ideal) ℓ) : Prop :=
  True

def Pre_UkvDw (m : (ℓ : Loc Cert.UkvDw.nD Cert.UkvDw.τ Cert.UkvDw.sig) → Buf (Elt Bits) ℓ) : Prop :=
  True

def Pre_UkvDwIdeal (m : (ℓ : Loc Cert.UkvDwIdeal.nD Cert.UkvDwIdeal.τ Cert.UkvDwIdeal.sig) → Buf (Elt Ideal) ℓ) : Prop :=
  True

def Pre_UkvDwRefIdeal (m : (ℓ : Loc Cert.UkvDwRefIdeal.nD Cert.UkvDwRefIdeal.τ Cert.UkvDwRefIdeal.sig) → Buf (Elt Ideal) ℓ) : Prop :=
  True

def Pre_UkvDx (m : (ℓ : Loc Cert.UkvDx.nD Cert.UkvDx.τ Cert.UkvDx.sig) → Buf (Elt Bits) ℓ) : Prop :=
  True

def Pre_UkvDxIdeal (m : (ℓ : Loc Cert.UkvDxIdeal.nD Cert.UkvDxIdeal.τ Cert.UkvDxIdeal.sig) → Buf (Elt Ideal) ℓ) : Prop :=
  True

def Pre_UkvDxRefIdeal (m : (ℓ : Loc Cert.UkvDxRefIdeal.nD Cert.UkvDxRefIdeal.τ Cert.UkvDxRefIdeal.sig) → Buf (Elt Ideal) ℓ) : Prop :=
  True

def Pre_O (m : (ℓ : Loc Cert.O.nD Cert.O.τ Cert.O.sig) → Buf (Elt Bits) ℓ) : Prop :=
  True

def Pre_OIdeal (m : (ℓ : Loc Cert.OIdeal.nD Cert.OIdeal.τ Cert.OIdeal.sig) → Buf (Elt Ideal) ℓ) : Prop :=
  True

def Pre_ORefIdeal (m : (ℓ : Loc Cert.ORefIdeal.nD Cert.ORefIdeal.τ Cert.ORefIdeal.sig) → Buf (Elt Ideal) ℓ) : Prop :=
  True

def Pre_ODw (m : (ℓ : Loc Cert.ODw.nD Cert.ODw.τ Cert.ODw.sig) → Buf (Elt Bits) ℓ) : Prop :=
  True

def Pre_ODwIdeal (m : (ℓ : Loc Cert.ODwIdeal.nD Cert.ODwIdeal.τ Cert.ODwIdeal.sig) → Buf (Elt Ideal) ℓ) : Prop :=
  True

def Pre_ODwRefIdeal (m : (ℓ : Loc Cert.ODwRefIdeal.nD Cert.ODwRefIdeal.τ Cert.ODwRefIdeal.sig) → Buf (Elt Ideal) ℓ) : Prop :=
  True

def Pre_ODx (m : (ℓ : Loc Cert.ODx.nD Cert.ODx.τ Cert.ODx.sig) → Buf (Elt Bits) ℓ) : Prop :=
  True

def Pre_ODxIdeal (m : (ℓ : Loc Cert.ODxIdeal.nD Cert.ODxIdeal.τ Cert.ODxIdeal.sig) → Buf (Elt Ideal) ℓ) : Prop :=
  True

def Pre_ODxRefIdeal (m : (ℓ : Loc Cert.ODxRefIdeal.nD Cert.ODxRefIdeal.τ Cert.ODxRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_QNorm (m : (ℓ : Loc Cert.QNorm.nD Cert.QNorm.τ Cert.QNorm.sig) → Buf (Elt Bits) ℓ) : Prop :=
  True

def Pre_QNormIdeal (m : (ℓ : Loc Cert.QNormIdeal.nD Cert.QNormIdeal.τ Cert.QNormIdeal.sig) → Buf (Elt Ideal) ℓ) : Prop :=
  True

def Pre_QNormRefIdeal (m : (ℓ : Loc Cert.QNormRefIdeal.nD Cert.QNormRefIdeal.τ Cert.QNormRefIdeal.sig) → Buf (Elt Ideal) ℓ) : Prop :=
  True

def Pre_KvNorm (m : (ℓ : Loc Cert.KvNorm.nD Cert.KvNorm.τ Cert.KvNorm.sig) → Buf (Elt Bits) ℓ) : Prop :=
  True

def Pre_KvNormIdeal (m : (ℓ : Loc Cert.KvNormIdeal.nD Cert.KvNormIdeal.τ Cert.KvNormIdeal.sig) → Buf (Elt Ideal) ℓ) : Prop :=
  True

def Pre_KvNormRefIdeal (m : (ℓ : Loc Cert.KvNormRefIdeal.nD Cert.KvNormRefIdeal.τ Cert.KvNormRefIdeal.sig) → Buf (Elt Ideal) ℓ) : Prop :=
  True

def Pre_NormDx (m : (ℓ : Loc Cert.NormDx.nD Cert.NormDx.τ Cert.NormDx.sig) → Buf (Elt Bits) ℓ) : Prop :=
  True

def Pre_NormDxIdeal (m : (ℓ : Loc Cert.NormDxIdeal.nD Cert.NormDxIdeal.τ Cert.NormDxIdeal.sig) → Buf (Elt Ideal) ℓ) : Prop :=
  True

def Pre_NormDxRefIdeal (m : (ℓ : Loc Cert.NormDxRefIdeal.nD Cert.NormDxRefIdeal.τ Cert.NormDxRefIdeal.sig) → Buf (Elt Ideal) ℓ) : Prop :=
  True

def Pre_NormDxFirst (m : (ℓ : Loc Cert.NormDxFirst.nD Cert.NormDxFirst.τ Cert.NormDxFirst.sig) → Buf (Elt Bits) ℓ) : Prop :=
  True

def Pre_NormDxFirstIdeal (m : (ℓ : Loc Cert.NormDxFirstIdeal.nD Cert.NormDxFirstIdeal.τ Cert.NormDxFirstIdeal.sig) → Buf (Elt Ideal) ℓ) : Prop :=
  True

def Pre_NormDxFirstRefIdeal (m : (ℓ : Loc Cert.NormDxFirstRefIdeal.nD Cert.NormDxFirstRefIdeal.τ Cert.NormDxFirstRefIdeal.sig) → Buf (Elt Ideal) ℓ) : Prop :=
  True

def Pre_QNormDx (m : (ℓ : Loc Cert.QNormDx.nD Cert.QNormDx.τ Cert.QNormDx.sig) → Buf (Elt Bits) ℓ) : Prop :=
  True

def Pre_QNormDxIdeal (m : (ℓ : Loc Cert.QNormDxIdeal.nD Cert.QNormDxIdeal.τ Cert.QNormDxIdeal.sig) → Buf (Elt Ideal) ℓ) : Prop :=
  True

def Pre_QNormDxRefIdeal (m : (ℓ : Loc Cert.QNormDxRefIdeal.nD Cert.QNormDxRefIdeal.τ Cert.QNormDxRefIdeal.sig) → Buf (Elt Ideal) ℓ) : Prop :=
  True

def Pre_KvNormDx (m : (ℓ : Loc Cert.KvNormDx.nD Cert.KvNormDx.τ Cert.KvNormDx.sig) → Buf (Elt Bits) ℓ) : Prop :=
  True

def Pre_KvNormDxIdeal (m : (ℓ : Loc Cert.KvNormDxIdeal.nD Cert.KvNormDxIdeal.τ Cert.KvNormDxIdeal.sig) → Buf (Elt Ideal) ℓ) : Prop :=
  True

def Pre_KvNormDxRefIdeal (m : (ℓ : Loc Cert.KvNormDxRefIdeal.nD Cert.KvNormDxRefIdeal.τ Cert.KvNormDxRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamRelBias (m : (ℓ : Loc Cert.AdamRelBias.nD Cert.AdamRelBias.τ Cert.AdamRelBias.sig) → Buf (Elt Bits) ℓ) : Prop :=
  True

def Pre_AdamRelBiasIdeal (m : (ℓ : Loc Cert.AdamRelBiasIdeal.nD Cert.AdamRelBiasIdeal.τ Cert.AdamRelBiasIdeal.sig) → Buf (Elt Ideal) ℓ) : Prop :=
  True

def Pre_AdamRelBiasRefIdeal (m : (ℓ : Loc Cert.AdamRelBiasRefIdeal.nD Cert.AdamRelBiasRefIdeal.τ Cert.AdamRelBiasRefIdeal.sig) → Buf (Elt Ideal) ℓ) : Prop :=
  True

def Pre_AdamLayerNorms (m : (ℓ : Loc Cert.AdamLayerNorms.nD Cert.AdamLayerNorms.τ Cert.AdamLayerNorms.sig) → Buf (Elt Bits) ℓ) : Prop :=
  True

def Pre_AdamLayerNormsIdeal (m : (ℓ : Loc Cert.AdamLayerNormsIdeal.nD Cert.AdamLayerNormsIdeal.τ Cert.AdamLayerNormsIdeal.sig) → Buf (Elt Ideal) ℓ) : Prop :=
  True

def Pre_AdamLayerNormsRefIdeal (m : (ℓ : Loc Cert.AdamLayerNormsRefIdeal.nD Cert.AdamLayerNormsRefIdeal.τ Cert.AdamLayerNormsRefIdeal.sig) → Buf (Elt Ideal) ℓ) : Prop :=
  True

def Pre_AdamFinalNorm (m : (ℓ : Loc Cert.AdamFinalNorm.nD Cert.AdamFinalNorm.τ Cert.AdamFinalNorm.sig) → Buf (Elt Bits) ℓ) : Prop :=
  True

def Pre_AdamFinalNormIdeal (m : (ℓ : Loc Cert.AdamFinalNormIdeal.nD Cert.AdamFinalNormIdeal.τ Cert.AdamFinalNormIdeal.sig) → Buf (Elt Ideal) ℓ) : Prop :=
  True

def Pre_AdamFinalNormRefIdeal (m : (ℓ : Loc Cert.AdamFinalNormRefIdeal.nD Cert.AdamFinalNormRefIdeal.τ Cert.AdamFinalNormRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamSinks (m : (ℓ : Loc Cert.AdamSinks.nD Cert.AdamSinks.τ Cert.AdamSinks.sig) → Buf (Elt Bits) ℓ) : Prop :=
  True

def Pre_AdamSinksIdeal (m : (ℓ : Loc Cert.AdamSinksIdeal.nD Cert.AdamSinksIdeal.τ Cert.AdamSinksIdeal.sig) → Buf (Elt Ideal) ℓ) : Prop :=
  True

def Pre_AdamSinksRefIdeal (m : (ℓ : Loc Cert.AdamSinksRefIdeal.nD Cert.AdamSinksRefIdeal.τ Cert.AdamSinksRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamWDown (m : (ℓ : Loc Cert.AdamWDown.nD Cert.AdamWDown.τ Cert.AdamWDown.sig) → Buf (Elt Bits) ℓ) : Prop :=
  True

def Pre_AdamWDownIdeal (m : (ℓ : Loc Cert.AdamWDownIdeal.nD Cert.AdamWDownIdeal.τ Cert.AdamWDownIdeal.sig) → Buf (Elt Ideal) ℓ) : Prop :=
  True

def Pre_AdamWDownRefIdeal (m : (ℓ : Loc Cert.AdamWDownRefIdeal.nD Cert.AdamWDownRefIdeal.τ Cert.AdamWDownRefIdeal.sig) → Buf (Elt Ideal) ℓ) : Prop :=
  True

def Pre_AdamQNorms (m : (ℓ : Loc Cert.AdamQNorms.nD Cert.AdamQNorms.τ Cert.AdamQNorms.sig) → Buf (Elt Bits) ℓ) : Prop :=
  True

def Pre_AdamQNormsIdeal (m : (ℓ : Loc Cert.AdamQNormsIdeal.nD Cert.AdamQNormsIdeal.τ Cert.AdamQNormsIdeal.sig) → Buf (Elt Ideal) ℓ) : Prop :=
  True

def Pre_AdamQNormsRefIdeal (m : (ℓ : Loc Cert.AdamQNormsRefIdeal.nD Cert.AdamQNormsRefIdeal.τ Cert.AdamQNormsRefIdeal.sig) → Buf (Elt Ideal) ℓ) : Prop :=
  True

def Pre_AdamWUq (m : (ℓ : Loc Cert.AdamWUq.nD Cert.AdamWUq.τ Cert.AdamWUq.sig) → Buf (Elt Bits) ℓ) : Prop :=
  True

def Pre_AdamWUqIdeal (m : (ℓ : Loc Cert.AdamWUqIdeal.nD Cert.AdamWUqIdeal.τ Cert.AdamWUqIdeal.sig) → Buf (Elt Ideal) ℓ) : Prop :=
  True

def Pre_AdamWUqRefIdeal (m : (ℓ : Loc Cert.AdamWUqRefIdeal.nD Cert.AdamWUqRefIdeal.τ Cert.AdamWUqRefIdeal.sig) → Buf (Elt Ideal) ℓ) : Prop :=
  True

def Pre_AdamKvNorms (m : (ℓ : Loc Cert.AdamKvNorms.nD Cert.AdamKvNorms.τ Cert.AdamKvNorms.sig) → Buf (Elt Bits) ℓ) : Prop :=
  True

def Pre_AdamKvNormsIdeal (m : (ℓ : Loc Cert.AdamKvNormsIdeal.nD Cert.AdamKvNormsIdeal.τ Cert.AdamKvNormsIdeal.sig) → Buf (Elt Ideal) ℓ) : Prop :=
  True

def Pre_AdamKvNormsRefIdeal (m : (ℓ : Loc Cert.AdamKvNormsRefIdeal.nD Cert.AdamKvNormsRefIdeal.τ Cert.AdamKvNormsRefIdeal.sig) → Buf (Elt Ideal) ℓ) : Prop :=
  True

def Pre_AdamWUkv (m : (ℓ : Loc Cert.AdamWUkv.nD Cert.AdamWUkv.τ Cert.AdamWUkv.sig) → Buf (Elt Bits) ℓ) : Prop :=
  True

def Pre_AdamWUkvIdeal (m : (ℓ : Loc Cert.AdamWUkvIdeal.nD Cert.AdamWUkvIdeal.τ Cert.AdamWUkvIdeal.sig) → Buf (Elt Ideal) ℓ) : Prop :=
  True

def Pre_AdamWUkvRefIdeal (m : (ℓ : Loc Cert.AdamWUkvRefIdeal.nD Cert.AdamWUkvRefIdeal.τ Cert.AdamWUkvRefIdeal.sig) → Buf (Elt Ideal) ℓ) : Prop :=
  True

def Pre_AdamWO (m : (ℓ : Loc Cert.AdamWO.nD Cert.AdamWO.τ Cert.AdamWO.sig) → Buf (Elt Bits) ℓ) : Prop :=
  True

def Pre_AdamWOIdeal (m : (ℓ : Loc Cert.AdamWOIdeal.nD Cert.AdamWOIdeal.τ Cert.AdamWOIdeal.sig) → Buf (Elt Ideal) ℓ) : Prop :=
  True

def Pre_AdamWORefIdeal (m : (ℓ : Loc Cert.AdamWORefIdeal.nD Cert.AdamWORefIdeal.τ Cert.AdamWORefIdeal.sig) → Buf (Elt Ideal) ℓ) : Prop :=
  True

def Pre_AdamWMlp (m : (ℓ : Loc Cert.AdamWMlp.nD Cert.AdamWMlp.τ Cert.AdamWMlp.sig) → Buf (Elt Bits) ℓ) : Prop :=
  True

def Pre_AdamWMlpIdeal (m : (ℓ : Loc Cert.AdamWMlpIdeal.nD Cert.AdamWMlpIdeal.τ Cert.AdamWMlpIdeal.sig) → Buf (Elt Ideal) ℓ) : Prop :=
  True

def Pre_AdamWMlpRefIdeal (m : (ℓ : Loc Cert.AdamWMlpRefIdeal.nD Cert.AdamWMlpRefIdeal.τ Cert.AdamWMlpRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_RopeDx (m : (ℓ : Loc Cert.RopeDx.nD Cert.RopeDx.τ Cert.RopeDx.sig) → Buf (Elt Bits) ℓ) : Prop :=
  True

def Pre_RopeDxIdeal (m : (ℓ : Loc Cert.RopeDxIdeal.nD Cert.RopeDxIdeal.τ Cert.RopeDxIdeal.sig) → Buf (Elt Ideal) ℓ) : Prop :=
  True

def Pre_RopeDxRefIdeal (m : (ℓ : Loc Cert.RopeDxRefIdeal.nD Cert.RopeDxRefIdeal.τ Cert.RopeDxRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_QSplit (m : (ℓ : Loc Cert.QSplit.nD Cert.QSplit.τ Cert.QSplit.sig) → Buf (Elt Bits) ℓ) : Prop :=
  True

def Pre_QSplitIdeal (m : (ℓ : Loc Cert.QSplitIdeal.nD Cert.QSplitIdeal.τ Cert.QSplitIdeal.sig) → Buf (Elt Ideal) ℓ) : Prop :=
  True

def Pre_QSplitRefIdeal (m : (ℓ : Loc Cert.QSplitRefIdeal.nD Cert.QSplitRefIdeal.τ Cert.QSplitRefIdeal.sig) → Buf (Elt Ideal) ℓ) : Prop :=
  True

def Pre_DoSplit (m : (ℓ : Loc Cert.DoSplit.nD Cert.DoSplit.τ Cert.DoSplit.sig) → Buf (Elt Bits) ℓ) : Prop :=
  True

def Pre_DoSplitIdeal (m : (ℓ : Loc Cert.DoSplitIdeal.nD Cert.DoSplitIdeal.τ Cert.DoSplitIdeal.sig) → Buf (Elt Ideal) ℓ) : Prop :=
  True

def Pre_DoSplitRefIdeal (m : (ℓ : Loc Cert.DoSplitRefIdeal.nD Cert.DoSplitRefIdeal.τ Cert.DoSplitRefIdeal.sig) → Buf (Elt Ideal) ℓ) : Prop :=
  True

def Pre_DqMerge (m : (ℓ : Loc Cert.DqMerge.nD Cert.DqMerge.τ Cert.DqMerge.sig) → Buf (Elt Bits) ℓ) : Prop :=
  True

def Pre_DqMergeIdeal (m : (ℓ : Loc Cert.DqMergeIdeal.nD Cert.DqMergeIdeal.τ Cert.DqMergeIdeal.sig) → Buf (Elt Ideal) ℓ) : Prop :=
  True

def Pre_DqMergeRefIdeal (m : (ℓ : Loc Cert.DqMergeRefIdeal.nD Cert.DqMergeRefIdeal.τ Cert.DqMergeRefIdeal.sig) → Buf (Elt Ideal) ℓ) : Prop :=
  True

def Pre_OMerge (m : (ℓ : Loc Cert.OMerge.nD Cert.OMerge.τ Cert.OMerge.sig) → Buf (Elt Bits) ℓ) : Prop :=
  True

def Pre_OMergeIdeal (m : (ℓ : Loc Cert.OMergeIdeal.nD Cert.OMergeIdeal.τ Cert.OMergeIdeal.sig) → Buf (Elt Ideal) ℓ) : Prop :=
  True

def Pre_OMergeRefIdeal (m : (ℓ : Loc Cert.OMergeRefIdeal.nD Cert.OMergeRefIdeal.τ Cert.OMergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2)
      ∧ r.2.mem ((c.tc : Thread Cert.DownDw.nD Cert.DownDw.τ).loc Cert.DownDw.main_arg3) = m ((c.tc : Thread Cert.DownDw.nD Cert.DownDw.τ).loc Cert.DownDw.main_arg3))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2)
      ∧ r.2.mem ((c.tc : Thread Cert.DownDwIdeal.nD Cert.DownDwIdeal.τ).loc Cert.DownDwIdeal.main_arg3) = m ((c.tc : Thread Cert.DownDwIdeal.nD Cert.DownDwIdeal.τ).loc Cert.DownDwIdeal.main_arg3))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2)
      ∧ r.2.mem ((c.tc : Thread Cert.DownDwRefIdeal.nD Cert.DownDwRefIdeal.τ).loc Cert.DownDwRefIdeal.main_arg3) = m ((c.tc : Thread Cert.DownDwRefIdeal.nD Cert.DownDwRefIdeal.τ).loc Cert.DownDwRefIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2)
      ∧ r.2.mem ((c.tc : Thread Cert.DownDx.nD Cert.DownDx.τ).loc Cert.DownDx.main_arg3) = m ((c.tc : Thread Cert.DownDx.nD Cert.DownDx.τ).loc Cert.DownDx.main_arg3))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
      ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2)
      ∧ r.2.mem ((c.tc : Thread Cert.DownDxRefIdeal.nD Cert.DownDxRefIdeal.τ).loc Cert.DownDxRefIdeal.main_arg3) = m ((c.tc : Thread Cert.DownDxRefIdeal.nD Cert.DownDxRefIdeal.τ).loc Cert.DownDxRefIdeal.main_arg3))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2)
      ∧ r.2.mem ((c.tc : Thread Cert.UpDw.nD Cert.UpDw.τ).loc Cert.UpDw.main_arg3) = m ((c.tc : Thread Cert.UpDw.nD Cert.UpDw.τ).loc Cert.UpDw.main_arg3))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
      ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2)
      ∧ r.2.mem ((c.tc : Thread Cert.UpDwRefIdeal.nD Cert.UpDwRefIdeal.τ).loc Cert.UpDwRefIdeal.main_arg3) = m ((c.tc : Thread Cert.UpDwRefIdeal.nD Cert.UpDwRefIdeal.τ).loc Cert.UpDwRefIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1))
      ∧ r.2.sem = fun _ => 0)

def quiescent_LatDw [hLatDw : Cert.LatDw.Facts] : Prop :=
  ∀ (m : (ℓ : Loc Cert.LatDw.nD Cert.LatDw.τ Cert.LatDw.sig) → Buf (Elt Bits) ℓ) (g : Dev Cert.LatDw.nD → PrngReg), Pre_LatDw m →
    θ_run (Cert.LatDw.defs (F := Bits)) (onTc (τ := Cert.LatDw.τ) (Cert.LatDw.main (F := Bits))) ⟨m, fun _ => 0, g⟩ (fun r => (∀ c : Dev Cert.LatDw.nD,
      r.2.mem ((c.tc : Thread Cert.LatDw.nD Cert.LatDw.τ).loc Cert.LatDw.main_arg0) = m ((c.tc : Thread Cert.LatDw.nD Cert.LatDw.τ).loc Cert.LatDw.main_arg0)
      ∧ r.2.mem ((c.tc : Thread Cert.LatDw.nD Cert.LatDw.τ).loc Cert.LatDw.main_arg1) = m ((c.tc : Thread Cert.LatDw.nD Cert.LatDw.τ).loc Cert.LatDw.main_arg1)
      ∧ r.2.mem ((c.tc : Thread Cert.LatDw.nD Cert.LatDw.τ).loc Cert.LatDw.main_arg2) = m ((c.tc : Thread Cert.LatDw.nD Cert.LatDw.τ).loc Cert.LatDw.main_arg2))
      ∧ r.2.sem = fun _ => 0)

def quiescent_LatDwIdeal [hLatDwIdeal : Cert.LatDwIdeal.Facts] : Prop :=
  ∀ (m : (ℓ : Loc Cert.LatDwIdeal.nD Cert.LatDwIdeal.τ Cert.LatDwIdeal.sig) → Buf (Elt Ideal) ℓ) (g : Dev Cert.LatDwIdeal.nD → PrngReg), Pre_LatDwIdeal m →
    θ_run (Cert.LatDwIdeal.defs (F := Ideal)) (onTc (τ := Cert.LatDwIdeal.τ) (Cert.LatDwIdeal.main (F := Ideal))) ⟨m, fun _ => 0, g⟩ (fun r => (∀ c : Dev Cert.LatDwIdeal.nD,
      r.2.mem ((c.tc : Thread Cert.LatDwIdeal.nD Cert.LatDwIdeal.τ).loc Cert.LatDwIdeal.main_arg0) = m ((c.tc : Thread Cert.LatDwIdeal.nD Cert.LatDwIdeal.τ).loc Cert.LatDwIdeal.main_arg0)
      ∧ r.2.mem ((c.tc : Thread Cert.LatDwIdeal.nD Cert.LatDwIdeal.τ).loc Cert.LatDwIdeal.main_arg1) = m ((c.tc : Thread Cert.LatDwIdeal.nD Cert.LatDwIdeal.τ).loc Cert.LatDwIdeal.main_arg1)
      ∧ r.2.mem ((c.tc : Thread Cert.LatDwIdeal.nD Cert.LatDwIdeal.τ).loc Cert.LatDwIdeal.main_arg2) = m ((c.tc : Thread Cert.LatDwIdeal.nD Cert.LatDwIdeal.τ).loc Cert.LatDwIdeal.main_arg2))
      ∧ r.2.sem = fun _ => 0)

def quiescent_LatDwRefIdeal [hLatDwRefIdeal : Cert.LatDwRefIdeal.Facts] : Prop :=
  ∀ (m : (ℓ : Loc Cert.LatDwRefIdeal.nD Cert.LatDwRefIdeal.τ Cert.LatDwRefIdeal.sig) → Buf (Elt Ideal) ℓ) (g : Dev Cert.LatDwRefIdeal.nD → PrngReg), Pre_LatDwRefIdeal m →
    θ_run (Cert.LatDwRefIdeal.defs (F := Ideal)) (onTc (τ := Cert.LatDwRefIdeal.τ) (Cert.LatDwRefIdeal.main (F := Ideal))) ⟨m, fun _ => 0, g⟩ (fun r => (∀ c : Dev Cert.LatDwRefIdeal.nD,
      r.2.mem ((c.tc : Thread Cert.LatDwRefIdeal.nD Cert.LatDwRefIdeal.τ).loc Cert.LatDwRefIdeal.main_arg0) = m ((c.tc : Thread Cert.LatDwRefIdeal.nD Cert.LatDwRefIdeal.τ).loc Cert.LatDwRefIdeal.main_arg0)
      ∧ r.2.mem ((c.tc : Thread Cert.LatDwRefIdeal.nD Cert.LatDwRefIdeal.τ).loc Cert.LatDwRefIdeal.main_arg1) = m ((c.tc : Thread Cert.LatDwRefIdeal.nD Cert.LatDwRefIdeal.τ).loc Cert.LatDwRefIdeal.main_arg1)
      ∧ r.2.mem ((c.tc : Thread Cert.LatDwRefIdeal.nD Cert.LatDwRefIdeal.τ).loc Cert.LatDwRefIdeal.main_arg2) = m ((c.tc : Thread Cert.LatDwRefIdeal.nD Cert.LatDwRefIdeal.τ).loc Cert.LatDwRefIdeal.main_arg2))
      ∧ r.2.sem = fun _ => 0)

def quiescent_LatDx [hLatDx : Cert.LatDx.Facts] : Prop :=
  ∀ (m : (ℓ : Loc Cert.LatDx.nD Cert.LatDx.τ Cert.LatDx.sig) → Buf (Elt Bits) ℓ) (g : Dev Cert.LatDx.nD → PrngReg), Pre_LatDx m →
    θ_run (Cert.LatDx.defs (F := Bits)) (onTc (τ := Cert.LatDx.τ) (Cert.LatDx.main (F := Bits))) ⟨m, fun _ => 0, g⟩ (fun r => (∀ c : Dev Cert.LatDx.nD,
      r.2.mem ((c.tc : Thread Cert.LatDx.nD Cert.LatDx.τ).loc Cert.LatDx.main_arg0) = m ((c.tc : Thread Cert.LatDx.nD Cert.LatDx.τ).loc Cert.LatDx.main_arg0)
      ∧ r.2.mem ((c.tc : Thread Cert.LatDx.nD Cert.LatDx.τ).loc Cert.LatDx.main_arg1) = m ((c.tc : Thread Cert.LatDx.nD Cert.LatDx.τ).loc Cert.LatDx.main_arg1)
      ∧ r.2.mem ((c.tc : Thread Cert.LatDx.nD Cert.LatDx.τ).loc Cert.LatDx.main_arg2) = m ((c.tc : Thread Cert.LatDx.nD Cert.LatDx.τ).loc Cert.LatDx.main_arg2))
      ∧ r.2.sem = fun _ => 0)

def quiescent_LatDxIdeal [hLatDxIdeal : Cert.LatDxIdeal.Facts] : Prop :=
  ∀ (m : (ℓ : Loc Cert.LatDxIdeal.nD Cert.LatDxIdeal.τ Cert.LatDxIdeal.sig) → Buf (Elt Ideal) ℓ) (g : Dev Cert.LatDxIdeal.nD → PrngReg), Pre_LatDxIdeal m →
    θ_run (Cert.LatDxIdeal.defs (F := Ideal)) (onTc (τ := Cert.LatDxIdeal.τ) (Cert.LatDxIdeal.main (F := Ideal))) ⟨m, fun _ => 0, g⟩ (fun r => (∀ c : Dev Cert.LatDxIdeal.nD,
      r.2.mem ((c.tc : Thread Cert.LatDxIdeal.nD Cert.LatDxIdeal.τ).loc Cert.LatDxIdeal.main_arg0) = m ((c.tc : Thread Cert.LatDxIdeal.nD Cert.LatDxIdeal.τ).loc Cert.LatDxIdeal.main_arg0)
      ∧ r.2.mem ((c.tc : Thread Cert.LatDxIdeal.nD Cert.LatDxIdeal.τ).loc Cert.LatDxIdeal.main_arg1) = m ((c.tc : Thread Cert.LatDxIdeal.nD Cert.LatDxIdeal.τ).loc Cert.LatDxIdeal.main_arg1)
      ∧ r.2.mem ((c.tc : Thread Cert.LatDxIdeal.nD Cert.LatDxIdeal.τ).loc Cert.LatDxIdeal.main_arg2) = m ((c.tc : Thread Cert.LatDxIdeal.nD Cert.LatDxIdeal.τ).loc Cert.LatDxIdeal.main_arg2))
      ∧ r.2.sem = fun _ => 0)

def quiescent_LatDxRefIdeal [hLatDxRefIdeal : Cert.LatDxRefIdeal.Facts] : Prop :=
  ∀ (m : (ℓ : Loc Cert.LatDxRefIdeal.nD Cert.LatDxRefIdeal.τ Cert.LatDxRefIdeal.sig) → Buf (Elt Ideal) ℓ) (g : Dev Cert.LatDxRefIdeal.nD → PrngReg), Pre_LatDxRefIdeal m →
    θ_run (Cert.LatDxRefIdeal.defs (F := Ideal)) (onTc (τ := Cert.LatDxRefIdeal.τ) (Cert.LatDxRefIdeal.main (F := Ideal))) ⟨m, fun _ => 0, g⟩ (fun r => (∀ c : Dev Cert.LatDxRefIdeal.nD,
      r.2.mem ((c.tc : Thread Cert.LatDxRefIdeal.nD Cert.LatDxRefIdeal.τ).loc Cert.LatDxRefIdeal.main_arg0) = m ((c.tc : Thread Cert.LatDxRefIdeal.nD Cert.LatDxRefIdeal.τ).loc Cert.LatDxRefIdeal.main_arg0)
      ∧ r.2.mem ((c.tc : Thread Cert.LatDxRefIdeal.nD Cert.LatDxRefIdeal.τ).loc Cert.LatDxRefIdeal.main_arg1) = m ((c.tc : Thread Cert.LatDxRefIdeal.nD Cert.LatDxRefIdeal.τ).loc Cert.LatDxRefIdeal.main_arg1)
      ∧ r.2.mem ((c.tc : Thread Cert.LatDxRefIdeal.nD Cert.LatDxRefIdeal.τ).loc Cert.LatDxRefIdeal.main_arg2) = m ((c.tc : Thread Cert.LatDxRefIdeal.nD Cert.LatDxRefIdeal.τ).loc Cert.LatDxRefIdeal.main_arg2))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1))
      ∧ r.2.sem = fun _ => 0)

def quiescent_UqDw [hUqDw : Cert.UqDw.Facts] : Prop :=
  ∀ (m : (ℓ : Loc Cert.UqDw.nD Cert.UqDw.τ Cert.UqDw.sig) → Buf (Elt Bits) ℓ) (g : Dev Cert.UqDw.nD → PrngReg), Pre_UqDw m →
    θ_run (Cert.UqDw.defs (F := Bits)) (onTc (τ := Cert.UqDw.τ) (Cert.UqDw.main (F := Bits))) ⟨m, fun _ => 0, g⟩ (fun r => (∀ c : Dev Cert.UqDw.nD,
      r.2.mem ((c.tc : Thread Cert.UqDw.nD Cert.UqDw.τ).loc Cert.UqDw.main_arg0) = m ((c.tc : Thread Cert.UqDw.nD Cert.UqDw.τ).loc Cert.UqDw.main_arg0)
      ∧ r.2.mem ((c.tc : Thread Cert.UqDw.nD Cert.UqDw.τ).loc Cert.UqDw.main_arg1) = m ((c.tc : Thread Cert.UqDw.nD Cert.UqDw.τ).loc Cert.UqDw.main_arg1)
      ∧ r.2.mem ((c.tc : Thread Cert.UqDw.nD Cert.UqDw.τ).loc Cert.UqDw.main_arg2) = m ((c.tc : Thread Cert.UqDw.nD Cert.UqDw.τ).loc Cert.UqDw.main_arg2))
      ∧ r.2.sem = fun _ => 0)

def quiescent_UqDwIdeal [hUqDwIdeal : Cert.UqDwIdeal.Facts] : Prop :=
  ∀ (m : (ℓ : Loc Cert.UqDwIdeal.nD Cert.UqDwIdeal.τ Cert.UqDwIdeal.sig) → Buf (Elt Ideal) ℓ) (g : Dev Cert.UqDwIdeal.nD → PrngReg), Pre_UqDwIdeal m →
    θ_run (Cert.UqDwIdeal.defs (F := Ideal)) (onTc (τ := Cert.UqDwIdeal.τ) (Cert.UqDwIdeal.main (F := Ideal))) ⟨m, fun _ => 0, g⟩ (fun r => (∀ c : Dev Cert.UqDwIdeal.nD,
      r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
      ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1)
      ∧ r.2.mem ((c.tc : Thread Cert.UqDwIdeal.nD Cert.UqDwIdeal.τ).loc Cert.UqDwIdeal.main_arg2) = m ((c.tc : Thread Cert.UqDwIdeal.nD Cert.UqDwIdeal.τ).loc Cert.UqDwIdeal.main_arg2))
      ∧ r.2.sem = fun _ => 0)

def quiescent_UqDwRefIdeal [hUqDwRefIdeal : Cert.UqDwRefIdeal.Facts] : Prop :=
  ∀ (m : (ℓ : Loc Cert.UqDwRefIdeal.nD Cert.UqDwRefIdeal.τ Cert.UqDwRefIdeal.sig) → Buf (Elt Ideal) ℓ) (g : Dev Cert.UqDwRefIdeal.nD → PrngReg), Pre_UqDwRefIdeal m →
    θ_run (Cert.UqDwRefIdeal.defs (F := Ideal)) (onTc (τ := Cert.UqDwRefIdeal.τ) (Cert.UqDwRefIdeal.main (F := Ideal))) ⟨m, fun _ => 0, g⟩ (fun r => (∀ c : Dev Cert.UqDwRefIdeal.nD,
      r.2.mem ((c.tc : Thread Cert.UqDwRefIdeal.nD Cert.UqDwRefIdeal.τ).loc Cert.UqDwRefIdeal.main_arg0) = m ((c.tc : Thread Cert.UqDwRefIdeal.nD Cert.UqDwRefIdeal.τ).loc Cert.UqDwRefIdeal.main_arg0)
      ∧ r.2.mem ((c.tc : Thread Cert.UqDwRefIdeal.nD Cert.UqDwRefIdeal.τ).loc Cert.UqDwRefIdeal.main_arg1) = m ((c.tc : Thread Cert.UqDwRefIdeal.nD Cert.UqDwRefIdeal.τ).loc Cert.UqDwRefIdeal.main_arg1)
      ∧ r.2.mem ((c.tc : Thread Cert.UqDwRefIdeal.nD Cert.UqDwRefIdeal.τ).loc Cert.UqDwRefIdeal.main_arg2) = m ((c.tc : Thread Cert.UqDwRefIdeal.nD Cert.UqDwRefIdeal.τ).loc Cert.UqDwRefIdeal.main_arg2))
      ∧ r.2.sem = fun _ => 0)

def quiescent_UqDx [hUqDx : Cert.UqDx.Facts] : Prop :=
  ∀ (m : (ℓ : Loc Cert.UqDx.nD Cert.UqDx.τ Cert.UqDx.sig) → Buf (Elt Bits) ℓ) (g : Dev Cert.UqDx.nD → PrngReg), Pre_UqDx m →
    θ_run (Cert.UqDx.defs (F := Bits)) (onTc (τ := Cert.UqDx.τ) (Cert.UqDx.main (F := Bits))) ⟨m, fun _ => 0, g⟩ (fun r => (∀ c : Dev Cert.UqDx.nD,
      r.2.mem ((c.tc : Thread Cert.UqDx.nD Cert.UqDx.τ).loc Cert.UqDx.main_arg0) = m ((c.tc : Thread Cert.UqDx.nD Cert.UqDx.τ).loc Cert.UqDx.main_arg0)
      ∧ r.2.mem ((c.tc : Thread Cert.UqDx.nD Cert.UqDx.τ).loc Cert.UqDx.main_arg1) = m ((c.tc : Thread Cert.UqDx.nD Cert.UqDx.τ).loc Cert.UqDx.main_arg1)
      ∧ r.2.mem ((c.tc : Thread Cert.UqDx.nD Cert.UqDx.τ).loc Cert.UqDx.main_arg2) = m ((c.tc : Thread Cert.UqDx.nD Cert.UqDx.τ).loc Cert.UqDx.main_arg2))
      ∧ r.2.sem = fun _ => 0)

def quiescent_UqDxIdeal [hUqDxIdeal : Cert.UqDxIdeal.Facts] : Prop :=
  ∀ (m : (ℓ : Loc Cert.UqDxIdeal.nD Cert.UqDxIdeal.τ Cert.UqDxIdeal.sig) → Buf (Elt Ideal) ℓ) (g : Dev Cert.UqDxIdeal.nD → PrngReg), Pre_UqDxIdeal m →
    θ_run (Cert.UqDxIdeal.defs (F := Ideal)) (onTc (τ := Cert.UqDxIdeal.τ) (Cert.UqDxIdeal.main (F := Ideal))) ⟨m, fun _ => 0, g⟩ (fun r => (∀ c : Dev Cert.UqDxIdeal.nD,
      r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
      ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1)
      ∧ r.2.mem ((c.tc : Thread Cert.UqDxIdeal.nD Cert.UqDxIdeal.τ).loc Cert.UqDxIdeal.main_arg2) = m ((c.tc : Thread Cert.UqDxIdeal.nD Cert.UqDxIdeal.τ).loc Cert.UqDxIdeal.main_arg2))
      ∧ r.2.sem = fun _ => 0)

def quiescent_UqDxRefIdeal [hUqDxRefIdeal : Cert.UqDxRefIdeal.Facts] : Prop :=
  ∀ (m : (ℓ : Loc Cert.UqDxRefIdeal.nD Cert.UqDxRefIdeal.τ Cert.UqDxRefIdeal.sig) → Buf (Elt Ideal) ℓ) (g : Dev Cert.UqDxRefIdeal.nD → PrngReg), Pre_UqDxRefIdeal m →
    θ_run (Cert.UqDxRefIdeal.defs (F := Ideal)) (onTc (τ := Cert.UqDxRefIdeal.τ) (Cert.UqDxRefIdeal.main (F := Ideal))) ⟨m, fun _ => 0, g⟩ (fun r => (∀ c : Dev Cert.UqDxRefIdeal.nD,
      r.2.mem ((c.tc : Thread Cert.UqDxRefIdeal.nD Cert.UqDxRefIdeal.τ).loc Cert.UqDxRefIdeal.main_arg0) = m ((c.tc : Thread Cert.UqDxRefIdeal.nD Cert.UqDxRefIdeal.τ).loc Cert.UqDxRefIdeal.main_arg0)
      ∧ r.2.mem ((c.tc : Thread Cert.UqDxRefIdeal.nD Cert.UqDxRefIdeal.τ).loc Cert.UqDxRefIdeal.main_arg1) = m ((c.tc : Thread Cert.UqDxRefIdeal.nD Cert.UqDxRefIdeal.τ).loc Cert.UqDxRefIdeal.main_arg1)
      ∧ r.2.mem ((c.tc : Thread Cert.UqDxRefIdeal.nD Cert.UqDxRefIdeal.τ).loc Cert.UqDxRefIdeal.main_arg2) = m ((c.tc : Thread Cert.UqDxRefIdeal.nD Cert.UqDxRefIdeal.τ).loc Cert.UqDxRefIdeal.main_arg2))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvRefIdeal [hUkvRefIdeal : Cert.UkvRefIdeal.Facts] : Prop :=
  ∀ (m : (ℓ : Loc Cert.UkvRefIdeal.nD Cert.UkvRefIdeal.τ Cert.UkvRefIdeal.sig) → Buf (Elt Ideal) ℓ) (g : Dev Cert.UkvRefIdeal.nD → PrngReg), Pre_UkvRefIdeal m →
    θ_run (Cert.UkvRefIdeal.defs (F := Ideal)) (onTc (τ := Cert.UkvRefIdeal.τ) (Cert.UkvRefIdeal.main (F := Ideal))) ⟨m, fun _ => 0, g⟩ (fun r => (∀ c : Dev Cert.UkvRefIdeal.nD,
      r.2.mem ((c.tc : Thread Cert.UkvRefIdeal.nD Cert.UkvRefIdeal.τ).loc Cert.UkvRefIdeal.main_arg0) = m ((c.tc : Thread Cert.UkvRefIdeal.nD Cert.UkvRefIdeal.τ).loc Cert.UkvRefIdeal.main_arg0)
      ∧ r.2.mem ((c.tc : Thread Cert.UkvRefIdeal.nD Cert.UkvRefIdeal.τ).loc Cert.UkvRefIdeal.main_arg1) = m ((c.tc : Thread Cert.UkvRefIdeal.nD Cert.UkvRefIdeal.τ).loc Cert.UkvRefIdeal.main_arg1))
      ∧ r.2.sem = fun _ => 0)

def quiescent_UkvDw [hUkvDw : Cert.UkvDw.Facts] : Prop :=
  ∀ (m : (ℓ : Loc Cert.UkvDw.nD Cert.UkvDw.τ Cert.UkvDw.sig) → Buf (Elt Bits) ℓ) (g : Dev Cert.UkvDw.nD → PrngReg), Pre_UkvDw m →
    θ_run (Cert.UkvDw.defs (F := Bits)) (onTc (τ := Cert.UkvDw.τ) (Cert.UkvDw.main (F := Bits))) ⟨m, fun _ => 0, g⟩ (fun r => (∀ c : Dev Cert.UkvDw.nD,
      r.2.mem ((c.tc : Thread Cert.UkvDw.nD Cert.UkvDw.τ).loc Cert.UkvDw.main_arg0) = m ((c.tc : Thread Cert.UkvDw.nD Cert.UkvDw.τ).loc Cert.UkvDw.main_arg0)
      ∧ r.2.mem ((c.tc : Thread Cert.UkvDw.nD Cert.UkvDw.τ).loc Cert.UkvDw.main_arg1) = m ((c.tc : Thread Cert.UkvDw.nD Cert.UkvDw.τ).loc Cert.UkvDw.main_arg1)
      ∧ r.2.mem ((c.tc : Thread Cert.UkvDw.nD Cert.UkvDw.τ).loc Cert.UkvDw.main_arg2) = m ((c.tc : Thread Cert.UkvDw.nD Cert.UkvDw.τ).loc Cert.UkvDw.main_arg2))
      ∧ r.2.sem = fun _ => 0)

def quiescent_UkvDwIdeal [hUkvDwIdeal : Cert.UkvDwIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg), Pre_UkvDwIdeal m →
    θ_run (Cert.UkvDwIdeal.defs (F := Ideal)) (onTc (τ := Cert.UkvDwIdeal.τ) (Cert.UkvDwIdeal.main (F := Ideal))) ⟨m, fun _ => 0, g⟩ (fun r => (∀ c : Dev Cert.UkvDwIdeal.nD,
      r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
      ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1)
      ∧ r.2.mem ((c.tc : Thread Cert.UkvDwIdeal.nD Cert.UkvDwIdeal.τ).loc Cert.UkvDwIdeal.main_arg2) = m ((c.tc : Thread Cert.UkvDwIdeal.nD Cert.UkvDwIdeal.τ).loc Cert.UkvDwIdeal.main_arg2))
      ∧ r.2.sem = fun _ => 0)

def quiescent_UkvDwRefIdeal [hUkvDwRefIdeal : Cert.UkvDwRefIdeal.Facts] : Prop :=
  ∀ (m : (ℓ : Loc Cert.UkvDwRefIdeal.nD Cert.UkvDwRefIdeal.τ Cert.UkvDwRefIdeal.sig) → Buf (Elt Ideal) ℓ) (g : Dev Cert.UkvDwRefIdeal.nD → PrngReg), Pre_UkvDwRefIdeal m →
    θ_run (Cert.UkvDwRefIdeal.defs (F := Ideal)) (onTc (τ := Cert.UkvDwRefIdeal.τ) (Cert.UkvDwRefIdeal.main (F := Ideal))) ⟨m, fun _ => 0, g⟩ (fun r => (∀ c : Dev Cert.UkvDwRefIdeal.nD,
      r.2.mem ((c.tc : Thread Cert.UkvDwRefIdeal.nD Cert.UkvDwRefIdeal.τ).loc Cert.UkvDwRefIdeal.main_arg0) = m ((c.tc : Thread Cert.UkvDwRefIdeal.nD Cert.UkvDwRefIdeal.τ).loc Cert.UkvDwRefIdeal.main_arg0)
      ∧ r.2.mem ((c.tc : Thread Cert.UkvDwRefIdeal.nD Cert.UkvDwRefIdeal.τ).loc Cert.UkvDwRefIdeal.main_arg1) = m ((c.tc : Thread Cert.UkvDwRefIdeal.nD Cert.UkvDwRefIdeal.τ).loc Cert.UkvDwRefIdeal.main_arg1)
      ∧ r.2.mem ((c.tc : Thread Cert.UkvDwRefIdeal.nD Cert.UkvDwRefIdeal.τ).loc Cert.UkvDwRefIdeal.main_arg2) = m ((c.tc : Thread Cert.UkvDwRefIdeal.nD Cert.UkvDwRefIdeal.τ).loc Cert.UkvDwRefIdeal.main_arg2))
      ∧ r.2.sem = fun _ => 0)

def quiescent_UkvDx [hUkvDx : Cert.UkvDx.Facts] : Prop :=
  ∀ (m : (ℓ : Loc Cert.UkvDx.nD Cert.UkvDx.τ Cert.UkvDx.sig) → Buf (Elt Bits) ℓ) (g : Dev Cert.UkvDx.nD → PrngReg), Pre_UkvDx m →
    θ_run (Cert.UkvDx.defs (F := Bits)) (onTc (τ := Cert.UkvDx.τ) (Cert.UkvDx.main (F := Bits))) ⟨m, fun _ => 0, g⟩ (fun r => (∀ c : Dev Cert.UkvDx.nD,
      r.2.mem ((c.tc : Thread Cert.UkvDx.nD Cert.UkvDx.τ).loc Cert.UkvDx.main_arg0) = m ((c.tc : Thread Cert.UkvDx.nD Cert.UkvDx.τ).loc Cert.UkvDx.main_arg0)
      ∧ r.2.mem ((c.tc : Thread Cert.UkvDx.nD Cert.UkvDx.τ).loc Cert.UkvDx.main_arg1) = m ((c.tc : Thread Cert.UkvDx.nD Cert.UkvDx.τ).loc Cert.UkvDx.main_arg1)
      ∧ r.2.mem ((c.tc : Thread Cert.UkvDx.nD Cert.UkvDx.τ).loc Cert.UkvDx.main_arg2) = m ((c.tc : Thread Cert.UkvDx.nD Cert.UkvDx.τ).loc Cert.UkvDx.main_arg2))
      ∧ r.2.sem = fun _ => 0)

def quiescent_UkvDxIdeal [hUkvDxIdeal : Cert.UkvDxIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg), Pre_UkvDxIdeal m →
    θ_run (Cert.UkvDxIdeal.defs (F := Ideal)) (onTc (τ := Cert.UkvDxIdeal.τ) (Cert.UkvDxIdeal.main (F := Ideal))) ⟨m, fun _ => 0, g⟩ (fun r => (∀ c : Dev Cert.UkvDxIdeal.nD,
      r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
      ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1)
      ∧ r.2.mem ((c.tc : Thread Cert.UkvDxIdeal.nD Cert.UkvDxIdeal.τ).loc Cert.UkvDxIdeal.main_arg2) = m ((c.tc : Thread Cert.UkvDxIdeal.nD Cert.UkvDxIdeal.τ).loc Cert.UkvDxIdeal.main_arg2))
      ∧ r.2.sem = fun _ => 0)

def quiescent_UkvDxRefIdeal [hUkvDxRefIdeal : Cert.UkvDxRefIdeal.Facts] : Prop :=
  ∀ (m : (ℓ : Loc Cert.UkvDxRefIdeal.nD Cert.UkvDxRefIdeal.τ Cert.UkvDxRefIdeal.sig) → Buf (Elt Ideal) ℓ) (g : Dev Cert.UkvDxRefIdeal.nD → PrngReg), Pre_UkvDxRefIdeal m →
    θ_run (Cert.UkvDxRefIdeal.defs (F := Ideal)) (onTc (τ := Cert.UkvDxRefIdeal.τ) (Cert.UkvDxRefIdeal.main (F := Ideal))) ⟨m, fun _ => 0, g⟩ (fun r => (∀ c : Dev Cert.UkvDxRefIdeal.nD,
      r.2.mem ((c.tc : Thread Cert.UkvDxRefIdeal.nD Cert.UkvDxRefIdeal.τ).loc Cert.UkvDxRefIdeal.main_arg0) = m ((c.tc : Thread Cert.UkvDxRefIdeal.nD Cert.UkvDxRefIdeal.τ).loc Cert.UkvDxRefIdeal.main_arg0)
      ∧ r.2.mem ((c.tc : Thread Cert.UkvDxRefIdeal.nD Cert.UkvDxRefIdeal.τ).loc Cert.UkvDxRefIdeal.main_arg1) = m ((c.tc : Thread Cert.UkvDxRefIdeal.nD Cert.UkvDxRefIdeal.τ).loc Cert.UkvDxRefIdeal.main_arg1)
      ∧ r.2.mem ((c.tc : Thread Cert.UkvDxRefIdeal.nD Cert.UkvDxRefIdeal.τ).loc Cert.UkvDxRefIdeal.main_arg2) = m ((c.tc : Thread Cert.UkvDxRefIdeal.nD Cert.UkvDxRefIdeal.τ).loc Cert.UkvDxRefIdeal.main_arg2))
      ∧ r.2.sem = fun _ => 0)

def quiescent_O [hO : Cert.O.Facts] : Prop :=
  ∀ (m : (ℓ : Loc Cert.O.nD Cert.O.τ Cert.O.sig) → Buf (Elt Bits) ℓ) (g : Dev Cert.O.nD → PrngReg), Pre_O m →
    θ_run (Cert.O.defs (F := Bits)) (onTc (τ := Cert.O.τ) (Cert.O.main (F := Bits))) ⟨m, fun _ => 0, g⟩ (fun r => (∀ c : Dev Cert.O.nD,
      r.2.mem ((c.tc : Thread Cert.O.nD Cert.O.τ).loc Cert.O.main_arg0) = m ((c.tc : Thread Cert.O.nD Cert.O.τ).loc Cert.O.main_arg0)
      ∧ r.2.mem ((c.tc : Thread Cert.O.nD Cert.O.τ).loc Cert.O.main_arg1) = m ((c.tc : Thread Cert.O.nD Cert.O.τ).loc Cert.O.main_arg1)
      ∧ r.2.mem ((c.tc : Thread Cert.O.nD Cert.O.τ).loc Cert.O.main_arg2) = m ((c.tc : Thread Cert.O.nD Cert.O.τ).loc Cert.O.main_arg2))
      ∧ r.2.sem = fun _ => 0)

def quiescent_OIdeal [hOIdeal : Cert.OIdeal.Facts] : Prop :=
  ∀ (m : (ℓ : Loc Cert.OIdeal.nD Cert.OIdeal.τ Cert.OIdeal.sig) → Buf (Elt Ideal) ℓ) (g : Dev Cert.OIdeal.nD → PrngReg), Pre_OIdeal m →
    θ_run (Cert.OIdeal.defs (F := Ideal)) (onTc (τ := Cert.OIdeal.τ) (Cert.OIdeal.main (F := Ideal))) ⟨m, fun _ => 0, g⟩ (fun r => (∀ c : Dev Cert.OIdeal.nD,
      r.2.mem ((c.tc : Thread Cert.OIdeal.nD Cert.OIdeal.τ).loc Cert.OIdeal.main_arg0) = m ((c.tc : Thread Cert.OIdeal.nD Cert.OIdeal.τ).loc Cert.OIdeal.main_arg0)
      ∧ r.2.mem ((c.tc : Thread Cert.OIdeal.nD Cert.OIdeal.τ).loc Cert.OIdeal.main_arg1) = m ((c.tc : Thread Cert.OIdeal.nD Cert.OIdeal.τ).loc Cert.OIdeal.main_arg1)
      ∧ r.2.mem ((c.tc : Thread Cert.OIdeal.nD Cert.OIdeal.τ).loc Cert.OIdeal.main_arg2) = m ((c.tc : Thread Cert.OIdeal.nD Cert.OIdeal.τ).loc Cert.OIdeal.main_arg2))
      ∧ r.2.sem = fun _ => 0)

def quiescent_ORefIdeal [hORefIdeal : Cert.ORefIdeal.Facts] : Prop :=
  ∀ (m : (ℓ : Loc Cert.ORefIdeal.nD Cert.ORefIdeal.τ Cert.ORefIdeal.sig) → Buf (Elt Ideal) ℓ) (g : Dev Cert.ORefIdeal.nD → PrngReg), Pre_ORefIdeal m →
    θ_run (Cert.ORefIdeal.defs (F := Ideal)) (onTc (τ := Cert.ORefIdeal.τ) (Cert.ORefIdeal.main (F := Ideal))) ⟨m, fun _ => 0, g⟩ (fun r => (∀ c : Dev Cert.ORefIdeal.nD,
      r.2.mem ((c.tc : Thread Cert.ORefIdeal.nD Cert.ORefIdeal.τ).loc Cert.ORefIdeal.main_arg0) = m ((c.tc : Thread Cert.ORefIdeal.nD Cert.ORefIdeal.τ).loc Cert.ORefIdeal.main_arg0)
      ∧ r.2.mem ((c.tc : Thread Cert.ORefIdeal.nD Cert.ORefIdeal.τ).loc Cert.ORefIdeal.main_arg1) = m ((c.tc : Thread Cert.ORefIdeal.nD Cert.ORefIdeal.τ).loc Cert.ORefIdeal.main_arg1)
      ∧ r.2.mem ((c.tc : Thread Cert.ORefIdeal.nD Cert.ORefIdeal.τ).loc Cert.ORefIdeal.main_arg2) = m ((c.tc : Thread Cert.ORefIdeal.nD Cert.ORefIdeal.τ).loc Cert.ORefIdeal.main_arg2))
      ∧ r.2.sem = fun _ => 0)

def quiescent_ODw [hODw : Cert.ODw.Facts] : Prop :=
  ∀ (m : (ℓ : Loc Cert.ODw.nD Cert.ODw.τ Cert.ODw.sig) → Buf (Elt Bits) ℓ) (g : Dev Cert.ODw.nD → PrngReg), Pre_ODw m →
    θ_run (Cert.ODw.defs (F := Bits)) (onTc (τ := Cert.ODw.τ) (Cert.ODw.main (F := Bits))) ⟨m, fun _ => 0, g⟩ (fun r => (∀ c : Dev Cert.ODw.nD,
      r.2.mem ((c.tc : Thread Cert.ODw.nD Cert.ODw.τ).loc Cert.ODw.main_arg0) = m ((c.tc : Thread Cert.ODw.nD Cert.ODw.τ).loc Cert.ODw.main_arg0)
      ∧ r.2.mem ((c.tc : Thread Cert.ODw.nD Cert.ODw.τ).loc Cert.ODw.main_arg1) = m ((c.tc : Thread Cert.ODw.nD Cert.ODw.τ).loc Cert.ODw.main_arg1)
      ∧ r.2.mem ((c.tc : Thread Cert.ODw.nD Cert.ODw.τ).loc Cert.ODw.main_arg2) = m ((c.tc : Thread Cert.ODw.nD Cert.ODw.τ).loc Cert.ODw.main_arg2))
      ∧ r.2.sem = fun _ => 0)

def quiescent_ODwIdeal [hODwIdeal : Cert.ODwIdeal.Facts] : Prop :=
  ∀ (m : (ℓ : Loc Cert.ODwIdeal.nD Cert.ODwIdeal.τ Cert.ODwIdeal.sig) → Buf (Elt Ideal) ℓ) (g : Dev Cert.ODwIdeal.nD → PrngReg), Pre_ODwIdeal m →
    θ_run (Cert.ODwIdeal.defs (F := Ideal)) (onTc (τ := Cert.ODwIdeal.τ) (Cert.ODwIdeal.main (F := Ideal))) ⟨m, fun _ => 0, g⟩ (fun r => (∀ c : Dev Cert.ODwIdeal.nD,
      r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
      ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1)
      ∧ r.2.mem ((c.tc : Thread Cert.ODwIdeal.nD Cert.ODwIdeal.τ).loc Cert.ODwIdeal.main_arg2) = m ((c.tc : Thread Cert.ODwIdeal.nD Cert.ODwIdeal.τ).loc Cert.ODwIdeal.main_arg2))
      ∧ r.2.sem = fun _ => 0)

def quiescent_ODwRefIdeal [hODwRefIdeal : Cert.ODwRefIdeal.Facts] : Prop :=
  ∀ (m : (ℓ : Loc Cert.ODwRefIdeal.nD Cert.ODwRefIdeal.τ Cert.ODwRefIdeal.sig) → Buf (Elt Ideal) ℓ) (g : Dev Cert.ODwRefIdeal.nD → PrngReg), Pre_ODwRefIdeal m →
    θ_run (Cert.ODwRefIdeal.defs (F := Ideal)) (onTc (τ := Cert.ODwRefIdeal.τ) (Cert.ODwRefIdeal.main (F := Ideal))) ⟨m, fun _ => 0, g⟩ (fun r => (∀ c : Dev Cert.ODwRefIdeal.nD,
      r.2.mem ((c.tc : Thread Cert.ODwRefIdeal.nD Cert.ODwRefIdeal.τ).loc Cert.ODwRefIdeal.main_arg0) = m ((c.tc : Thread Cert.ODwRefIdeal.nD Cert.ODwRefIdeal.τ).loc Cert.ODwRefIdeal.main_arg0)
      ∧ r.2.mem ((c.tc : Thread Cert.ODwRefIdeal.nD Cert.ODwRefIdeal.τ).loc Cert.ODwRefIdeal.main_arg1) = m ((c.tc : Thread Cert.ODwRefIdeal.nD Cert.ODwRefIdeal.τ).loc Cert.ODwRefIdeal.main_arg1)
      ∧ r.2.mem ((c.tc : Thread Cert.ODwRefIdeal.nD Cert.ODwRefIdeal.τ).loc Cert.ODwRefIdeal.main_arg2) = m ((c.tc : Thread Cert.ODwRefIdeal.nD Cert.ODwRefIdeal.τ).loc Cert.ODwRefIdeal.main_arg2))
      ∧ r.2.sem = fun _ => 0)

def quiescent_ODx [hODx : Cert.ODx.Facts] : Prop :=
  ∀ (m : (ℓ : Loc Cert.ODx.nD Cert.ODx.τ Cert.ODx.sig) → Buf (Elt Bits) ℓ) (g : Dev Cert.ODx.nD → PrngReg), Pre_ODx m →
    θ_run (Cert.ODx.defs (F := Bits)) (onTc (τ := Cert.ODx.τ) (Cert.ODx.main (F := Bits))) ⟨m, fun _ => 0, g⟩ (fun r => (∀ c : Dev Cert.ODx.nD,
      r.2.mem ((c.tc : Thread Cert.ODx.nD Cert.ODx.τ).loc Cert.ODx.main_arg0) = m ((c.tc : Thread Cert.ODx.nD Cert.ODx.τ).loc Cert.ODx.main_arg0)
      ∧ r.2.mem ((c.tc : Thread Cert.ODx.nD Cert.ODx.τ).loc Cert.ODx.main_arg1) = m ((c.tc : Thread Cert.ODx.nD Cert.ODx.τ).loc Cert.ODx.main_arg1)
      ∧ r.2.mem ((c.tc : Thread Cert.ODx.nD Cert.ODx.τ).loc Cert.ODx.main_arg2) = m ((c.tc : Thread Cert.ODx.nD Cert.ODx.τ).loc Cert.ODx.main_arg2))
      ∧ r.2.sem = fun _ => 0)

def quiescent_ODxIdeal [hODxIdeal : Cert.ODxIdeal.Facts] : Prop :=
  ∀ (m : (ℓ : Loc Cert.ODxIdeal.nD Cert.ODxIdeal.τ Cert.ODxIdeal.sig) → Buf (Elt Ideal) ℓ) (g : Dev Cert.ODxIdeal.nD → PrngReg), Pre_ODxIdeal m →
    θ_run (Cert.ODxIdeal.defs (F := Ideal)) (onTc (τ := Cert.ODxIdeal.τ) (Cert.ODxIdeal.main (F := Ideal))) ⟨m, fun _ => 0, g⟩ (fun r => (∀ c : Dev Cert.ODxIdeal.nD,
      r.2.mem ((c.tc : Thread Cert.ODxIdeal.nD Cert.ODxIdeal.τ).loc Cert.ODxIdeal.main_arg0) = m ((c.tc : Thread Cert.ODxIdeal.nD Cert.ODxIdeal.τ).loc Cert.ODxIdeal.main_arg0)
      ∧ r.2.mem ((c.tc : Thread Cert.ODxIdeal.nD Cert.ODxIdeal.τ).loc Cert.ODxIdeal.main_arg1) = m ((c.tc : Thread Cert.ODxIdeal.nD Cert.ODxIdeal.τ).loc Cert.ODxIdeal.main_arg1)
      ∧ r.2.mem ((c.tc : Thread Cert.ODxIdeal.nD Cert.ODxIdeal.τ).loc Cert.ODxIdeal.main_arg2) = m ((c.tc : Thread Cert.ODxIdeal.nD Cert.ODxIdeal.τ).loc Cert.ODxIdeal.main_arg2))
      ∧ r.2.sem = fun _ => 0)

def quiescent_ODxRefIdeal [hODxRefIdeal : Cert.ODxRefIdeal.Facts] : Prop :=
  ∀ (m : (ℓ : Loc Cert.ODxRefIdeal.nD Cert.ODxRefIdeal.τ Cert.ODxRefIdeal.sig) → Buf (Elt Ideal) ℓ) (g : Dev Cert.ODxRefIdeal.nD → PrngReg), Pre_ODxRefIdeal m →
    θ_run (Cert.ODxRefIdeal.defs (F := Ideal)) (onTc (τ := Cert.ODxRefIdeal.τ) (Cert.ODxRefIdeal.main (F := Ideal))) ⟨m, fun _ => 0, g⟩ (fun r => (∀ c : Dev Cert.ODxRefIdeal.nD,
      r.2.mem ((c.tc : Thread Cert.ODxRefIdeal.nD Cert.ODxRefIdeal.τ).loc Cert.ODxRefIdeal.main_arg0) = m ((c.tc : Thread Cert.ODxRefIdeal.nD Cert.ODxRefIdeal.τ).loc Cert.ODxRefIdeal.main_arg0)
      ∧ r.2.mem ((c.tc : Thread Cert.ODxRefIdeal.nD Cert.ODxRefIdeal.τ).loc Cert.ODxRefIdeal.main_arg1) = m ((c.tc : Thread Cert.ODxRefIdeal.nD Cert.ODxRefIdeal.τ).loc Cert.ODxRefIdeal.main_arg1)
      ∧ r.2.mem ((c.tc : Thread Cert.ODxRefIdeal.nD Cert.ODxRefIdeal.τ).loc Cert.ODxRefIdeal.main_arg2) = m ((c.tc : Thread Cert.ODxRefIdeal.nD Cert.ODxRefIdeal.τ).loc Cert.ODxRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_QNorm [hQNorm : Cert.QNorm.Facts] : Prop :=
  ∀ (m : (ℓ : Loc Cert.QNorm.nD Cert.QNorm.τ Cert.QNorm.sig) → Buf (Elt Bits) ℓ) (g : Dev Cert.QNorm.nD → PrngReg), Pre_QNorm m →
    θ_run (Cert.QNorm.defs (F := Bits)) (onTc (τ := Cert.QNorm.τ) (Cert.QNorm.main (F := Bits))) ⟨m, fun _ => 0, g⟩ (fun r => (∀ c : Dev Cert.QNorm.nD,
      r.2.mem ((c.tc : Thread Cert.QNorm.nD Cert.QNorm.τ).loc Cert.QNorm.main_arg0) = m ((c.tc : Thread Cert.QNorm.nD Cert.QNorm.τ).loc Cert.QNorm.main_arg0)
      ∧ r.2.mem ((c.tc : Thread Cert.QNorm.nD Cert.QNorm.τ).loc Cert.QNorm.main_arg1) = m ((c.tc : Thread Cert.QNorm.nD Cert.QNorm.τ).loc Cert.QNorm.main_arg1))
      ∧ r.2.sem = fun _ => 0)

def quiescent_QNormIdeal [hQNormIdeal : Cert.QNormIdeal.Facts] : Prop :=
  ∀ (m : (ℓ : Loc Cert.QNormIdeal.nD Cert.QNormIdeal.τ Cert.QNormIdeal.sig) → Buf (Elt Ideal) ℓ) (g : Dev Cert.QNormIdeal.nD → PrngReg), Pre_QNormIdeal m →
    θ_run (Cert.QNormIdeal.defs (F := Ideal)) (onTc (τ := Cert.QNormIdeal.τ) (Cert.QNormIdeal.main (F := Ideal))) ⟨m, fun _ => 0, g⟩ (fun r => (∀ c : Dev Cert.QNormIdeal.nD,
      r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
      ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1))
      ∧ r.2.sem = fun _ => 0)

def quiescent_QNormRefIdeal [hQNormRefIdeal : Cert.QNormRefIdeal.Facts] : Prop :=
  ∀ (m : (ℓ : Loc Cert.QNormRefIdeal.nD Cert.QNormRefIdeal.τ Cert.QNormRefIdeal.sig) → Buf (Elt Ideal) ℓ) (g : Dev Cert.QNormRefIdeal.nD → PrngReg), Pre_QNormRefIdeal m →
    θ_run (Cert.QNormRefIdeal.defs (F := Ideal)) (onTc (τ := Cert.QNormRefIdeal.τ) (Cert.QNormRefIdeal.main (F := Ideal))) ⟨m, fun _ => 0, g⟩ (fun r => (∀ c : Dev Cert.QNormRefIdeal.nD,
      r.2.mem ((c.tc : Thread Cert.QNormRefIdeal.nD Cert.QNormRefIdeal.τ).loc Cert.QNormRefIdeal.main_arg0) = m ((c.tc : Thread Cert.QNormRefIdeal.nD Cert.QNormRefIdeal.τ).loc Cert.QNormRefIdeal.main_arg0)
      ∧ r.2.mem ((c.tc : Thread Cert.QNormRefIdeal.nD Cert.QNormRefIdeal.τ).loc Cert.QNormRefIdeal.main_arg1) = m ((c.tc : Thread Cert.QNormRefIdeal.nD Cert.QNormRefIdeal.τ).loc Cert.QNormRefIdeal.main_arg1))
      ∧ r.2.sem = fun _ => 0)

def quiescent_KvNorm [hKvNorm : Cert.KvNorm.Facts] : Prop :=
  ∀ (m : (ℓ : Loc Cert.KvNorm.nD Cert.KvNorm.τ Cert.KvNorm.sig) → Buf (Elt Bits) ℓ) (g : Dev Cert.KvNorm.nD → PrngReg), Pre_KvNorm m →
    θ_run (Cert.KvNorm.defs (F := Bits)) (onTc (τ := Cert.KvNorm.τ) (Cert.KvNorm.main (F := Bits))) ⟨m, fun _ => 0, g⟩ (fun r => (∀ c : Dev Cert.KvNorm.nD,
      r.2.mem ((c.tc : Thread Cert.KvNorm.nD Cert.KvNorm.τ).loc Cert.KvNorm.main_arg0) = m ((c.tc : Thread Cert.KvNorm.nD Cert.KvNorm.τ).loc Cert.KvNorm.main_arg0)
      ∧ r.2.mem ((c.tc : Thread Cert.KvNorm.nD Cert.KvNorm.τ).loc Cert.KvNorm.main_arg1) = m ((c.tc : Thread Cert.KvNorm.nD Cert.KvNorm.τ).loc Cert.KvNorm.main_arg1))
      ∧ r.2.sem = fun _ => 0)

def quiescent_KvNormIdeal [hKvNormIdeal : Cert.KvNormIdeal.Facts] : Prop :=
  ∀ (m : (ℓ : Loc Cert.KvNormIdeal.nD Cert.KvNormIdeal.τ Cert.KvNormIdeal.sig) → Buf (Elt Ideal) ℓ) (g : Dev Cert.KvNormIdeal.nD → PrngReg), Pre_KvNormIdeal m →
    θ_run (Cert.KvNormIdeal.defs (F := Ideal)) (onTc (τ := Cert.KvNormIdeal.τ) (Cert.KvNormIdeal.main (F := Ideal))) ⟨m, fun _ => 0, g⟩ (fun r => (∀ c : Dev Cert.KvNormIdeal.nD,
      r.2.mem ((c.tc : Thread Cert.KvNormIdeal.nD Cert.KvNormIdeal.τ).loc Cert.KvNormIdeal.main_arg0) = m ((c.tc : Thread Cert.KvNormIdeal.nD Cert.KvNormIdeal.τ).loc Cert.KvNormIdeal.main_arg0)
      ∧ r.2.mem ((c.tc : Thread Cert.KvNormIdeal.nD Cert.KvNormIdeal.τ).loc Cert.KvNormIdeal.main_arg1) = m ((c.tc : Thread Cert.KvNormIdeal.nD Cert.KvNormIdeal.τ).loc Cert.KvNormIdeal.main_arg1))
      ∧ r.2.sem = fun _ => 0)

def quiescent_KvNormRefIdeal [hKvNormRefIdeal : Cert.KvNormRefIdeal.Facts] : Prop :=
  ∀ (m : (ℓ : Loc Cert.KvNormRefIdeal.nD Cert.KvNormRefIdeal.τ Cert.KvNormRefIdeal.sig) → Buf (Elt Ideal) ℓ) (g : Dev Cert.KvNormRefIdeal.nD → PrngReg), Pre_KvNormRefIdeal m →
    θ_run (Cert.KvNormRefIdeal.defs (F := Ideal)) (onTc (τ := Cert.KvNormRefIdeal.τ) (Cert.KvNormRefIdeal.main (F := Ideal))) ⟨m, fun _ => 0, g⟩ (fun r => (∀ c : Dev Cert.KvNormRefIdeal.nD,
      r.2.mem ((c.tc : Thread Cert.KvNormRefIdeal.nD Cert.KvNormRefIdeal.τ).loc Cert.KvNormRefIdeal.main_arg0) = m ((c.tc : Thread Cert.KvNormRefIdeal.nD Cert.KvNormRefIdeal.τ).loc Cert.KvNormRefIdeal.main_arg0)
      ∧ r.2.mem ((c.tc : Thread Cert.KvNormRefIdeal.nD Cert.KvNormRefIdeal.τ).loc Cert.KvNormRefIdeal.main_arg1) = m ((c.tc : Thread Cert.KvNormRefIdeal.nD Cert.KvNormRefIdeal.τ).loc Cert.KvNormRefIdeal.main_arg1))
      ∧ r.2.sem = fun _ => 0)

def quiescent_NormDx [hNormDx : Cert.NormDx.Facts] : Prop :=
  ∀ (m : (ℓ : Loc Cert.NormDx.nD Cert.NormDx.τ Cert.NormDx.sig) → Buf (Elt Bits) ℓ) (g : Dev Cert.NormDx.nD → PrngReg), Pre_NormDx m →
    θ_run (Cert.NormDx.defs (F := Bits)) (onTc (τ := Cert.NormDx.τ) (Cert.NormDx.main (F := Bits))) ⟨m, fun _ => 0, g⟩ (fun r => (∀ c : Dev Cert.NormDx.nD,
      r.2.mem ((c.tc : Thread Cert.NormDx.nD Cert.NormDx.τ).loc Cert.NormDx.main_arg0) = m ((c.tc : Thread Cert.NormDx.nD Cert.NormDx.τ).loc Cert.NormDx.main_arg0)
      ∧ r.2.mem ((c.tc : Thread Cert.NormDx.nD Cert.NormDx.τ).loc Cert.NormDx.main_arg1) = m ((c.tc : Thread Cert.NormDx.nD Cert.NormDx.τ).loc Cert.NormDx.main_arg1)
      ∧ r.2.mem ((c.tc : Thread Cert.NormDx.nD Cert.NormDx.τ).loc Cert.NormDx.main_arg2) = m ((c.tc : Thread Cert.NormDx.nD Cert.NormDx.τ).loc Cert.NormDx.main_arg2)
      ∧ r.2.mem ((c.tc : Thread Cert.NormDx.nD Cert.NormDx.τ).loc Cert.NormDx.main_arg3) = m ((c.tc : Thread Cert.NormDx.nD Cert.NormDx.τ).loc Cert.NormDx.main_arg3))
      ∧ r.2.sem = fun _ => 0)

def quiescent_NormDxIdeal [hNormDxIdeal : Cert.NormDxIdeal.Facts] : Prop :=
  ∀ (m : (ℓ : Loc Cert.NormDxIdeal.nD Cert.NormDxIdeal.τ Cert.NormDxIdeal.sig) → Buf (Elt Ideal) ℓ) (g : Dev Cert.NormDxIdeal.nD → PrngReg), Pre_NormDxIdeal m →
    θ_run (Cert.NormDxIdeal.defs (F := Ideal)) (onTc (τ := Cert.NormDxIdeal.τ) (Cert.NormDxIdeal.main (F := Ideal))) ⟨m, fun _ => 0, g⟩ (fun r => (∀ c : Dev Cert.NormDxIdeal.nD,
      r.2.mem ((c.tc : Thread Cert.NormDxIdeal.nD Cert.NormDxIdeal.τ).loc Cert.NormDxIdeal.main_arg0) = m ((c.tc : Thread Cert.NormDxIdeal.nD Cert.NormDxIdeal.τ).loc Cert.NormDxIdeal.main_arg0)
      ∧ r.2.mem ((c.tc : Thread Cert.NormDxIdeal.nD Cert.NormDxIdeal.τ).loc Cert.NormDxIdeal.main_arg1) = m ((c.tc : Thread Cert.NormDxIdeal.nD Cert.NormDxIdeal.τ).loc Cert.NormDxIdeal.main_arg1)
      ∧ r.2.mem ((c.tc : Thread Cert.NormDxIdeal.nD Cert.NormDxIdeal.τ).loc Cert.NormDxIdeal.main_arg2) = m ((c.tc : Thread Cert.NormDxIdeal.nD Cert.NormDxIdeal.τ).loc Cert.NormDxIdeal.main_arg2)
      ∧ r.2.mem ((c.tc : Thread Cert.NormDxIdeal.nD Cert.NormDxIdeal.τ).loc Cert.NormDxIdeal.main_arg3) = m ((c.tc : Thread Cert.NormDxIdeal.nD Cert.NormDxIdeal.τ).loc Cert.NormDxIdeal.main_arg3))
      ∧ r.2.sem = fun _ => 0)

def quiescent_NormDxRefIdeal [hNormDxRefIdeal : Cert.NormDxRefIdeal.Facts] : Prop :=
  ∀ (m : (ℓ : Loc Cert.NormDxRefIdeal.nD Cert.NormDxRefIdeal.τ Cert.NormDxRefIdeal.sig) → Buf (Elt Ideal) ℓ) (g : Dev Cert.NormDxRefIdeal.nD → PrngReg), Pre_NormDxRefIdeal m →
    θ_run (Cert.NormDxRefIdeal.defs (F := Ideal)) (onTc (τ := Cert.NormDxRefIdeal.τ) (Cert.NormDxRefIdeal.main (F := Ideal))) ⟨m, fun _ => 0, g⟩ (fun r => (∀ c : Dev Cert.NormDxRefIdeal.nD,
      r.2.mem ((c.tc : Thread Cert.NormDxRefIdeal.nD Cert.NormDxRefIdeal.τ).loc Cert.NormDxRefIdeal.main_arg0) = m ((c.tc : Thread Cert.NormDxRefIdeal.nD Cert.NormDxRefIdeal.τ).loc Cert.NormDxRefIdeal.main_arg0)
      ∧ r.2.mem ((c.tc : Thread Cert.NormDxRefIdeal.nD Cert.NormDxRefIdeal.τ).loc Cert.NormDxRefIdeal.main_arg1) = m ((c.tc : Thread Cert.NormDxRefIdeal.nD Cert.NormDxRefIdeal.τ).loc Cert.NormDxRefIdeal.main_arg1)
      ∧ r.2.mem ((c.tc : Thread Cert.NormDxRefIdeal.nD Cert.NormDxRefIdeal.τ).loc Cert.NormDxRefIdeal.main_arg2) = m ((c.tc : Thread Cert.NormDxRefIdeal.nD Cert.NormDxRefIdeal.τ).loc Cert.NormDxRefIdeal.main_arg2)
      ∧ r.2.mem ((c.tc : Thread Cert.NormDxRefIdeal.nD Cert.NormDxRefIdeal.τ).loc Cert.NormDxRefIdeal.main_arg3) = m ((c.tc : Thread Cert.NormDxRefIdeal.nD Cert.NormDxRefIdeal.τ).loc Cert.NormDxRefIdeal.main_arg3))
      ∧ r.2.sem = fun _ => 0)

def quiescent_NormDxFirst [hNormDxFirst : Cert.NormDxFirst.Facts] : Prop :=
  ∀ (m : (ℓ : Loc Cert.NormDxFirst.nD Cert.NormDxFirst.τ Cert.NormDxFirst.sig) → Buf (Elt Bits) ℓ) (g : Dev Cert.NormDxFirst.nD → PrngReg), Pre_NormDxFirst m →
    θ_run (Cert.NormDxFirst.defs (F := Bits)) (onTc (τ := Cert.NormDxFirst.τ) (Cert.NormDxFirst.main (F := Bits))) ⟨m, fun _ => 0, g⟩ (fun r => (∀ c : Dev Cert.NormDxFirst.nD,
      r.2.mem ((c.tc : Thread Cert.NormDxFirst.nD Cert.NormDxFirst.τ).loc Cert.NormDxFirst.main_arg0) = m ((c.tc : Thread Cert.NormDxFirst.nD Cert.NormDxFirst.τ).loc Cert.NormDxFirst.main_arg0)
      ∧ r.2.mem ((c.tc : Thread Cert.NormDxFirst.nD Cert.NormDxFirst.τ).loc Cert.NormDxFirst.main_arg1) = m ((c.tc : Thread Cert.NormDxFirst.nD Cert.NormDxFirst.τ).loc Cert.NormDxFirst.main_arg1)
      ∧ r.2.mem ((c.tc : Thread Cert.NormDxFirst.nD Cert.NormDxFirst.τ).loc Cert.NormDxFirst.main_arg2) = m ((c.tc : Thread Cert.NormDxFirst.nD Cert.NormDxFirst.τ).loc Cert.NormDxFirst.main_arg2)
      ∧ r.2.mem ((c.tc : Thread Cert.NormDxFirst.nD Cert.NormDxFirst.τ).loc Cert.NormDxFirst.main_arg3) = m ((c.tc : Thread Cert.NormDxFirst.nD Cert.NormDxFirst.τ).loc Cert.NormDxFirst.main_arg3))
      ∧ r.2.sem = fun _ => 0)

def quiescent_NormDxFirstIdeal [hNormDxFirstIdeal : Cert.NormDxFirstIdeal.Facts] : Prop :=
  ∀ (m : (ℓ : Loc Cert.NormDxFirstIdeal.nD Cert.NormDxFirstIdeal.τ Cert.NormDxFirstIdeal.sig) → Buf (Elt Ideal) ℓ) (g : Dev Cert.NormDxFirstIdeal.nD → PrngReg), Pre_NormDxFirstIdeal m →
    θ_run (Cert.NormDxFirstIdeal.defs (F := Ideal)) (onTc (τ := Cert.NormDxFirstIdeal.τ) (Cert.NormDxFirstIdeal.main (F := Ideal))) ⟨m, fun _ => 0, g⟩ (fun r => (∀ c : Dev Cert.NormDxFirstIdeal.nD,
      r.2.mem ((c.tc : Thread Cert.NormDxFirstIdeal.nD Cert.NormDxFirstIdeal.τ).loc Cert.NormDxFirstIdeal.main_arg0) = m ((c.tc : Thread Cert.NormDxFirstIdeal.nD Cert.NormDxFirstIdeal.τ).loc Cert.NormDxFirstIdeal.main_arg0)
      ∧ r.2.mem ((c.tc : Thread Cert.NormDxFirstIdeal.nD Cert.NormDxFirstIdeal.τ).loc Cert.NormDxFirstIdeal.main_arg1) = m ((c.tc : Thread Cert.NormDxFirstIdeal.nD Cert.NormDxFirstIdeal.τ).loc Cert.NormDxFirstIdeal.main_arg1)
      ∧ r.2.mem ((c.tc : Thread Cert.NormDxFirstIdeal.nD Cert.NormDxFirstIdeal.τ).loc Cert.NormDxFirstIdeal.main_arg2) = m ((c.tc : Thread Cert.NormDxFirstIdeal.nD Cert.NormDxFirstIdeal.τ).loc Cert.NormDxFirstIdeal.main_arg2)
      ∧ r.2.mem ((c.tc : Thread Cert.NormDxFirstIdeal.nD Cert.NormDxFirstIdeal.τ).loc Cert.NormDxFirstIdeal.main_arg3) = m ((c.tc : Thread Cert.NormDxFirstIdeal.nD Cert.NormDxFirstIdeal.τ).loc Cert.NormDxFirstIdeal.main_arg3))
      ∧ r.2.sem = fun _ => 0)

def quiescent_NormDxFirstRefIdeal [hNormDxFirstRefIdeal : Cert.NormDxFirstRefIdeal.Facts] : Prop :=
  ∀ (m : (ℓ : Loc Cert.NormDxFirstRefIdeal.nD Cert.NormDxFirstRefIdeal.τ Cert.NormDxFirstRefIdeal.sig) → Buf (Elt Ideal) ℓ) (g : Dev Cert.NormDxFirstRefIdeal.nD → PrngReg), Pre_NormDxFirstRefIdeal m →
    θ_run (Cert.NormDxFirstRefIdeal.defs (F := Ideal)) (onTc (τ := Cert.NormDxFirstRefIdeal.τ) (Cert.NormDxFirstRefIdeal.main (F := Ideal))) ⟨m, fun _ => 0, g⟩ (fun r => (∀ c : Dev Cert.NormDxFirstRefIdeal.nD,
      r.2.mem ((c.tc : Thread Cert.NormDxFirstRefIdeal.nD Cert.NormDxFirstRefIdeal.τ).loc Cert.NormDxFirstRefIdeal.main_arg0) = m ((c.tc : Thread Cert.NormDxFirstRefIdeal.nD Cert.NormDxFirstRefIdeal.τ).loc Cert.NormDxFirstRefIdeal.main_arg0)
      ∧ r.2.mem ((c.tc : Thread Cert.NormDxFirstRefIdeal.nD Cert.NormDxFirstRefIdeal.τ).loc Cert.NormDxFirstRefIdeal.main_arg1) = m ((c.tc : Thread Cert.NormDxFirstRefIdeal.nD Cert.NormDxFirstRefIdeal.τ).loc Cert.NormDxFirstRefIdeal.main_arg1)
      ∧ r.2.mem ((c.tc : Thread Cert.NormDxFirstRefIdeal.nD Cert.NormDxFirstRefIdeal.τ).loc Cert.NormDxFirstRefIdeal.main_arg2) = m ((c.tc : Thread Cert.NormDxFirstRefIdeal.nD Cert.NormDxFirstRefIdeal.τ).loc Cert.NormDxFirstRefIdeal.main_arg2)
      ∧ r.2.mem ((c.tc : Thread Cert.NormDxFirstRefIdeal.nD Cert.NormDxFirstRefIdeal.τ).loc Cert.NormDxFirstRefIdeal.main_arg3) = m ((c.tc : Thread Cert.NormDxFirstRefIdeal.nD Cert.NormDxFirstRefIdeal.τ).loc Cert.NormDxFirstRefIdeal.main_arg3))
      ∧ r.2.sem = fun _ => 0)

def quiescent_QNormDx [hQNormDx : Cert.QNormDx.Facts] : Prop :=
  ∀ (m : (ℓ : Loc Cert.QNormDx.nD Cert.QNormDx.τ Cert.QNormDx.sig) → Buf (Elt Bits) ℓ) (g : Dev Cert.QNormDx.nD → PrngReg), Pre_QNormDx m →
    θ_run (Cert.QNormDx.defs (F := Bits)) (onTc (τ := Cert.QNormDx.τ) (Cert.QNormDx.main (F := Bits))) ⟨m, fun _ => 0, g⟩ (fun r => (∀ c : Dev Cert.QNormDx.nD,
      r.2.mem ((c.tc : Thread Cert.QNormDx.nD Cert.QNormDx.τ).loc Cert.QNormDx.main_arg0) = m ((c.tc : Thread Cert.QNormDx.nD Cert.QNormDx.τ).loc Cert.QNormDx.main_arg0)
      ∧ r.2.mem ((c.tc : Thread Cert.QNormDx.nD Cert.QNormDx.τ).loc Cert.QNormDx.main_arg1) = m ((c.tc : Thread Cert.QNormDx.nD Cert.QNormDx.τ).loc Cert.QNormDx.main_arg1)
      ∧ r.2.mem ((c.tc : Thread Cert.QNormDx.nD Cert.QNormDx.τ).loc Cert.QNormDx.main_arg2) = m ((c.tc : Thread Cert.QNormDx.nD Cert.QNormDx.τ).loc Cert.QNormDx.main_arg2))
      ∧ r.2.sem = fun _ => 0)

def quiescent_QNormDxIdeal [hQNormDxIdeal : Cert.QNormDxIdeal.Facts] : Prop :=
  ∀ (m : (ℓ : Loc Cert.QNormDxIdeal.nD Cert.QNormDxIdeal.τ Cert.QNormDxIdeal.sig) → Buf (Elt Ideal) ℓ) (g : Dev Cert.QNormDxIdeal.nD → PrngReg), Pre_QNormDxIdeal m →
    θ_run (Cert.QNormDxIdeal.defs (F := Ideal)) (onTc (τ := Cert.QNormDxIdeal.τ) (Cert.QNormDxIdeal.main (F := Ideal))) ⟨m, fun _ => 0, g⟩ (fun r => (∀ c : Dev Cert.QNormDxIdeal.nD,
      r.2.mem ((c.tc : Thread Cert.QNormDxIdeal.nD Cert.QNormDxIdeal.τ).loc Cert.QNormDxIdeal.main_arg0) = m ((c.tc : Thread Cert.QNormDxIdeal.nD Cert.QNormDxIdeal.τ).loc Cert.QNormDxIdeal.main_arg0)
      ∧ r.2.mem ((c.tc : Thread Cert.QNormDxIdeal.nD Cert.QNormDxIdeal.τ).loc Cert.QNormDxIdeal.main_arg1) = m ((c.tc : Thread Cert.QNormDxIdeal.nD Cert.QNormDxIdeal.τ).loc Cert.QNormDxIdeal.main_arg1)
      ∧ r.2.mem ((c.tc : Thread Cert.QNormDxIdeal.nD Cert.QNormDxIdeal.τ).loc Cert.QNormDxIdeal.main_arg2) = m ((c.tc : Thread Cert.QNormDxIdeal.nD Cert.QNormDxIdeal.τ).loc Cert.QNormDxIdeal.main_arg2))
      ∧ r.2.sem = fun _ => 0)

def quiescent_QNormDxRefIdeal [hQNormDxRefIdeal : Cert.QNormDxRefIdeal.Facts] : Prop :=
  ∀ (m : (ℓ : Loc Cert.QNormDxRefIdeal.nD Cert.QNormDxRefIdeal.τ Cert.QNormDxRefIdeal.sig) → Buf (Elt Ideal) ℓ) (g : Dev Cert.QNormDxRefIdeal.nD → PrngReg), Pre_QNormDxRefIdeal m →
    θ_run (Cert.QNormDxRefIdeal.defs (F := Ideal)) (onTc (τ := Cert.QNormDxRefIdeal.τ) (Cert.QNormDxRefIdeal.main (F := Ideal))) ⟨m, fun _ => 0, g⟩ (fun r => (∀ c : Dev Cert.QNormDxRefIdeal.nD,
      r.2.mem ((c.tc : Thread Cert.QNormDxRefIdeal.nD Cert.QNormDxRefIdeal.τ).loc Cert.QNormDxRefIdeal.main_arg0) = m ((c.tc : Thread Cert.QNormDxRefIdeal.nD Cert.QNormDxRefIdeal.τ).loc Cert.QNormDxRefIdeal.main_arg0)
      ∧ r.2.mem ((c.tc : Thread Cert.QNormDxRefIdeal.nD Cert.QNormDxRefIdeal.τ).loc Cert.QNormDxRefIdeal.main_arg1) = m ((c.tc : Thread Cert.QNormDxRefIdeal.nD Cert.QNormDxRefIdeal.τ).loc Cert.QNormDxRefIdeal.main_arg1)
      ∧ r.2.mem ((c.tc : Thread Cert.QNormDxRefIdeal.nD Cert.QNormDxRefIdeal.τ).loc Cert.QNormDxRefIdeal.main_arg2) = m ((c.tc : Thread Cert.QNormDxRefIdeal.nD Cert.QNormDxRefIdeal.τ).loc Cert.QNormDxRefIdeal.main_arg2))
      ∧ r.2.sem = fun _ => 0)

def quiescent_KvNormDx [hKvNormDx : Cert.KvNormDx.Facts] : Prop :=
  ∀ (m : (ℓ : Loc Cert.KvNormDx.nD Cert.KvNormDx.τ Cert.KvNormDx.sig) → Buf (Elt Bits) ℓ) (g : Dev Cert.KvNormDx.nD → PrngReg), Pre_KvNormDx m →
    θ_run (Cert.KvNormDx.defs (F := Bits)) (onTc (τ := Cert.KvNormDx.τ) (Cert.KvNormDx.main (F := Bits))) ⟨m, fun _ => 0, g⟩ (fun r => (∀ c : Dev Cert.KvNormDx.nD,
      r.2.mem ((c.tc : Thread Cert.KvNormDx.nD Cert.KvNormDx.τ).loc Cert.KvNormDx.main_arg0) = m ((c.tc : Thread Cert.KvNormDx.nD Cert.KvNormDx.τ).loc Cert.KvNormDx.main_arg0)
      ∧ r.2.mem ((c.tc : Thread Cert.KvNormDx.nD Cert.KvNormDx.τ).loc Cert.KvNormDx.main_arg1) = m ((c.tc : Thread Cert.KvNormDx.nD Cert.KvNormDx.τ).loc Cert.KvNormDx.main_arg1)
      ∧ r.2.mem ((c.tc : Thread Cert.KvNormDx.nD Cert.KvNormDx.τ).loc Cert.KvNormDx.main_arg2) = m ((c.tc : Thread Cert.KvNormDx.nD Cert.KvNormDx.τ).loc Cert.KvNormDx.main_arg2))
      ∧ r.2.sem = fun _ => 0)

def quiescent_KvNormDxIdeal [hKvNormDxIdeal : Cert.KvNormDxIdeal.Facts] : Prop :=
  ∀ (m : (ℓ : Loc Cert.KvNormDxIdeal.nD Cert.KvNormDxIdeal.τ Cert.KvNormDxIdeal.sig) → Buf (Elt Ideal) ℓ) (g : Dev Cert.KvNormDxIdeal.nD → PrngReg), Pre_KvNormDxIdeal m →
    θ_run (Cert.KvNormDxIdeal.defs (F := Ideal)) (onTc (τ := Cert.KvNormDxIdeal.τ) (Cert.KvNormDxIdeal.main (F := Ideal))) ⟨m, fun _ => 0, g⟩ (fun r => (∀ c : Dev Cert.KvNormDxIdeal.nD,
      r.2.mem ((c.tc : Thread Cert.KvNormDxIdeal.nD Cert.KvNormDxIdeal.τ).loc Cert.KvNormDxIdeal.main_arg0) = m ((c.tc : Thread Cert.KvNormDxIdeal.nD Cert.KvNormDxIdeal.τ).loc Cert.KvNormDxIdeal.main_arg0)
      ∧ r.2.mem ((c.tc : Thread Cert.KvNormDxIdeal.nD Cert.KvNormDxIdeal.τ).loc Cert.KvNormDxIdeal.main_arg1) = m ((c.tc : Thread Cert.KvNormDxIdeal.nD Cert.KvNormDxIdeal.τ).loc Cert.KvNormDxIdeal.main_arg1)
      ∧ r.2.mem ((c.tc : Thread Cert.KvNormDxIdeal.nD Cert.KvNormDxIdeal.τ).loc Cert.KvNormDxIdeal.main_arg2) = m ((c.tc : Thread Cert.KvNormDxIdeal.nD Cert.KvNormDxIdeal.τ).loc Cert.KvNormDxIdeal.main_arg2))
      ∧ r.2.sem = fun _ => 0)

def quiescent_KvNormDxRefIdeal [hKvNormDxRefIdeal : Cert.KvNormDxRefIdeal.Facts] : Prop :=
  ∀ (m : (ℓ : Loc Cert.KvNormDxRefIdeal.nD Cert.KvNormDxRefIdeal.τ Cert.KvNormDxRefIdeal.sig) → Buf (Elt Ideal) ℓ) (g : Dev Cert.KvNormDxRefIdeal.nD → PrngReg), Pre_KvNormDxRefIdeal m →
    θ_run (Cert.KvNormDxRefIdeal.defs (F := Ideal)) (onTc (τ := Cert.KvNormDxRefIdeal.τ) (Cert.KvNormDxRefIdeal.main (F := Ideal))) ⟨m, fun _ => 0, g⟩ (fun r => (∀ c : Dev Cert.KvNormDxRefIdeal.nD,
      r.2.mem ((c.tc : Thread Cert.KvNormDxRefIdeal.nD Cert.KvNormDxRefIdeal.τ).loc Cert.KvNormDxRefIdeal.main_arg0) = m ((c.tc : Thread Cert.KvNormDxRefIdeal.nD Cert.KvNormDxRefIdeal.τ).loc Cert.KvNormDxRefIdeal.main_arg0)
      ∧ r.2.mem ((c.tc : Thread Cert.KvNormDxRefIdeal.nD Cert.KvNormDxRefIdeal.τ).loc Cert.KvNormDxRefIdeal.main_arg1) = m ((c.tc : Thread Cert.KvNormDxRefIdeal.nD Cert.KvNormDxRefIdeal.τ).loc Cert.KvNormDxRefIdeal.main_arg1)
      ∧ r.2.mem ((c.tc : Thread Cert.KvNormDxRefIdeal.nD Cert.KvNormDxRefIdeal.τ).loc Cert.KvNormDxRefIdeal.main_arg2) = m ((c.tc : Thread Cert.KvNormDxRefIdeal.nD Cert.KvNormDxRefIdeal.τ).loc Cert.KvNormDxRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_AdamRelBias [hAdamRelBias : Cert.AdamRelBias.Facts] : Prop :=
  ∀ (m : (ℓ : Loc Cert.AdamRelBias.nD Cert.AdamRelBias.τ Cert.AdamRelBias.sig) → Buf (Elt Bits) ℓ) (g : Dev Cert.AdamRelBias.nD → PrngReg), Pre_AdamRelBias m →
    θ_run (Cert.AdamRelBias.defs (F := Bits)) (onTc (τ := Cert.AdamRelBias.τ) (Cert.AdamRelBias.main (F := Bits))) ⟨m, fun _ => 0, g⟩ (fun r => (∀ c : Dev Cert.AdamRelBias.nD,
      r.2.mem ((c.tc : Thread Cert.AdamRelBias.nD Cert.AdamRelBias.τ).loc Cert.AdamRelBias.main_arg0) = m ((c.tc : Thread Cert.AdamRelBias.nD Cert.AdamRelBias.τ).loc Cert.AdamRelBias.main_arg0)
      ∧ r.2.mem ((c.tc : Thread Cert.AdamRelBias.nD Cert.AdamRelBias.τ).loc Cert.AdamRelBias.main_arg1) = m ((c.tc : Thread Cert.AdamRelBias.nD Cert.AdamRelBias.τ).loc Cert.AdamRelBias.main_arg1)
      ∧ r.2.mem ((c.tc : Thread Cert.AdamRelBias.nD Cert.AdamRelBias.τ).loc Cert.AdamRelBias.main_arg2) = m ((c.tc : Thread Cert.AdamRelBias.nD Cert.AdamRelBias.τ).loc Cert.AdamRelBias.main_arg2)
      ∧ r.2.mem ((c.tc : Thread Cert.AdamRelBias.nD Cert.AdamRelBias.τ).loc Cert.AdamRelBias.main_arg3) = m ((c.tc : Thread Cert.AdamRelBias.nD Cert.AdamRelBias.τ).loc Cert.AdamRelBias.main_arg3))
      ∧ r.2.sem = fun _ => 0)

def quiescent_AdamRelBiasIdeal [hAdamRelBiasIdeal : Cert.AdamRelBiasIdeal.Facts] : Prop :=
  ∀ (m : (ℓ : Loc Cert.AdamRelBiasIdeal.nD Cert.AdamRelBiasIdeal.τ Cert.AdamRelBiasIdeal.sig) → Buf (Elt Ideal) ℓ) (g : Dev Cert.AdamRelBiasIdeal.nD → PrngReg), Pre_AdamRelBiasIdeal m →
    θ_run (Cert.AdamRelBiasIdeal.defs (F := Ideal)) (onTc (τ := Cert.AdamRelBiasIdeal.τ) (Cert.AdamRelBiasIdeal.main (F := Ideal))) ⟨m, fun _ => 0, g⟩ (fun r => (∀ c : Dev Cert.AdamRelBiasIdeal.nD,
      r.2.mem ((c.tc : Thread Cert.AdamRelBiasIdeal.nD Cert.AdamRelBiasIdeal.τ).loc Cert.AdamRelBiasIdeal.main_arg0) = m ((c.tc : Thread Cert.AdamRelBiasIdeal.nD Cert.AdamRelBiasIdeal.τ).loc Cert.AdamRelBiasIdeal.main_arg0)
      ∧ r.2.mem ((c.tc : Thread Cert.AdamRelBiasIdeal.nD Cert.AdamRelBiasIdeal.τ).loc Cert.AdamRelBiasIdeal.main_arg1) = m ((c.tc : Thread Cert.AdamRelBiasIdeal.nD Cert.AdamRelBiasIdeal.τ).loc Cert.AdamRelBiasIdeal.main_arg1)
      ∧ r.2.mem ((c.tc : Thread Cert.AdamRelBiasIdeal.nD Cert.AdamRelBiasIdeal.τ).loc Cert.AdamRelBiasIdeal.main_arg2) = m ((c.tc : Thread Cert.AdamRelBiasIdeal.nD Cert.AdamRelBiasIdeal.τ).loc Cert.AdamRelBiasIdeal.main_arg2)
      ∧ r.2.mem ((c.tc : Thread Cert.AdamRelBiasIdeal.nD Cert.AdamRelBiasIdeal.τ).loc Cert.AdamRelBiasIdeal.main_arg3) = m ((c.tc : Thread Cert.AdamRelBiasIdeal.nD Cert.AdamRelBiasIdeal.τ).loc Cert.AdamRelBiasIdeal.main_arg3))
      ∧ r.2.sem = fun _ => 0)

def quiescent_AdamRelBiasRefIdeal [hAdamRelBiasRefIdeal : Cert.AdamRelBiasRefIdeal.Facts] : Prop :=
  ∀ (m : (ℓ : Loc Cert.AdamRelBiasRefIdeal.nD Cert.AdamRelBiasRefIdeal.τ Cert.AdamRelBiasRefIdeal.sig) → Buf (Elt Ideal) ℓ) (g : Dev Cert.AdamRelBiasRefIdeal.nD → PrngReg), Pre_AdamRelBiasRefIdeal m →
    θ_run (Cert.AdamRelBiasRefIdeal.defs (F := Ideal)) (onTc (τ := Cert.AdamRelBiasRefIdeal.τ) (Cert.AdamRelBiasRefIdeal.main (F := Ideal))) ⟨m, fun _ => 0, g⟩ (fun r => (∀ c : Dev Cert.AdamRelBiasRefIdeal.nD,
      r.2.mem ((c.tc : Thread Cert.AdamRelBiasRefIdeal.nD Cert.AdamRelBiasRefIdeal.τ).loc Cert.AdamRelBiasRefIdeal.main_arg0) = m ((c.tc : Thread Cert.AdamRelBiasRefIdeal.nD Cert.AdamRelBiasRefIdeal.τ).loc Cert.AdamRelBiasRefIdeal.main_arg0)
      ∧ r.2.mem ((c.tc : Thread Cert.AdamRelBiasRefIdeal.nD Cert.AdamRelBiasRefIdeal.τ).loc Cert.AdamRelBiasRefIdeal.main_arg1) = m ((c.tc : Thread Cert.AdamRelBiasRefIdeal.nD Cert.AdamRelBiasRefIdeal.τ).loc Cert.AdamRelBiasRefIdeal.main_arg1)
      ∧ r.2.mem ((c.tc : Thread Cert.AdamRelBiasRefIdeal.nD Cert.AdamRelBiasRefIdeal.τ).loc Cert.AdamRelBiasRefIdeal.main_arg2) = m ((c.tc : Thread Cert.AdamRelBiasRefIdeal.nD Cert.AdamRelBiasRefIdeal.τ).loc Cert.AdamRelBiasRefIdeal.main_arg2)
      ∧ r.2.mem ((c.tc : Thread Cert.AdamRelBiasRefIdeal.nD Cert.AdamRelBiasRefIdeal.τ).loc Cert.AdamRelBiasRefIdeal.main_arg3) = m ((c.tc : Thread Cert.AdamRelBiasRefIdeal.nD Cert.AdamRelBiasRefIdeal.τ).loc Cert.AdamRelBiasRefIdeal.main_arg3))
      ∧ r.2.sem = fun _ => 0)

def quiescent_AdamLayerNorms [hAdamLayerNorms : Cert.AdamLayerNorms.Facts] : Prop :=
  ∀ (m : (ℓ : Loc Cert.AdamLayerNorms.nD Cert.AdamLayerNorms.τ Cert.AdamLayerNorms.sig) → Buf (Elt Bits) ℓ) (g : Dev Cert.AdamLayerNorms.nD → PrngReg), Pre_AdamLayerNorms m →
    θ_run (Cert.AdamLayerNorms.defs (F := Bits)) (onTc (τ := Cert.AdamLayerNorms.τ) (Cert.AdamLayerNorms.main (F := Bits))) ⟨m, fun _ => 0, g⟩ (fun r => (∀ c : Dev Cert.AdamLayerNorms.nD,
      r.2.mem ((c.tc : Thread Cert.AdamLayerNorms.nD Cert.AdamLayerNorms.τ).loc Cert.AdamLayerNorms.main_arg0) = m ((c.tc : Thread Cert.AdamLayerNorms.nD Cert.AdamLayerNorms.τ).loc Cert.AdamLayerNorms.main_arg0)
      ∧ r.2.mem ((c.tc : Thread Cert.AdamLayerNorms.nD Cert.AdamLayerNorms.τ).loc Cert.AdamLayerNorms.main_arg1) = m ((c.tc : Thread Cert.AdamLayerNorms.nD Cert.AdamLayerNorms.τ).loc Cert.AdamLayerNorms.main_arg1)
      ∧ r.2.mem ((c.tc : Thread Cert.AdamLayerNorms.nD Cert.AdamLayerNorms.τ).loc Cert.AdamLayerNorms.main_arg2) = m ((c.tc : Thread Cert.AdamLayerNorms.nD Cert.AdamLayerNorms.τ).loc Cert.AdamLayerNorms.main_arg2)
      ∧ r.2.mem ((c.tc : Thread Cert.AdamLayerNorms.nD Cert.AdamLayerNorms.τ).loc Cert.AdamLayerNorms.main_arg3) = m ((c.tc : Thread Cert.AdamLayerNorms.nD Cert.AdamLayerNorms.τ).loc Cert.AdamLayerNorms.main_arg3))
      ∧ r.2.sem = fun _ => 0)

def quiescent_AdamLayerNormsIdeal [hAdamLayerNormsIdeal : Cert.AdamLayerNormsIdeal.Facts] : Prop :=
  ∀ (m : (ℓ : Loc Cert.AdamLayerNormsIdeal.nD Cert.AdamLayerNormsIdeal.τ Cert.AdamLayerNormsIdeal.sig) → Buf (Elt Ideal) ℓ) (g : Dev Cert.AdamLayerNormsIdeal.nD → PrngReg), Pre_AdamLayerNormsIdeal m →
    θ_run (Cert.AdamLayerNormsIdeal.defs (F := Ideal)) (onTc (τ := Cert.AdamLayerNormsIdeal.τ) (Cert.AdamLayerNormsIdeal.main (F := Ideal))) ⟨m, fun _ => 0, g⟩ (fun r => (∀ c : Dev Cert.AdamLayerNormsIdeal.nD,
      r.2.mem ((c.tc : Thread Cert.AdamLayerNormsIdeal.nD Cert.AdamLayerNormsIdeal.τ).loc Cert.AdamLayerNormsIdeal.main_arg0) = m ((c.tc : Thread Cert.AdamLayerNormsIdeal.nD Cert.AdamLayerNormsIdeal.τ).loc Cert.AdamLayerNormsIdeal.main_arg0)
      ∧ r.2.mem ((c.tc : Thread Cert.AdamLayerNormsIdeal.nD Cert.AdamLayerNormsIdeal.τ).loc Cert.AdamLayerNormsIdeal.main_arg1) = m ((c.tc : Thread Cert.AdamLayerNormsIdeal.nD Cert.AdamLayerNormsIdeal.τ).loc Cert.AdamLayerNormsIdeal.main_arg1)
      ∧ r.2.mem ((c.tc : Thread Cert.AdamLayerNormsIdeal.nD Cert.AdamLayerNormsIdeal.τ).loc Cert.AdamLayerNormsIdeal.main_arg2) = m ((c.tc : Thread Cert.AdamLayerNormsIdeal.nD Cert.AdamLayerNormsIdeal.τ).loc Cert.AdamLayerNormsIdeal.main_arg2)
      ∧ r.2.mem ((c.tc : Thread Cert.AdamLayerNormsIdeal.nD Cert.AdamLayerNormsIdeal.τ).loc Cert.AdamLayerNormsIdeal.main_arg3) = m ((c.tc : Thread Cert.AdamLayerNormsIdeal.nD Cert.AdamLayerNormsIdeal.τ).loc Cert.AdamLayerNormsIdeal.main_arg3))
      ∧ r.2.sem = fun _ => 0)

def quiescent_AdamLayerNormsRefIdeal [hAdamLayerNormsRefIdeal : Cert.AdamLayerNormsRefIdeal.Facts] : Prop :=
  ∀ (m : (ℓ : Loc Cert.AdamLayerNormsRefIdeal.nD Cert.AdamLayerNormsRefIdeal.τ Cert.AdamLayerNormsRefIdeal.sig) → Buf (Elt Ideal) ℓ) (g : Dev Cert.AdamLayerNormsRefIdeal.nD → PrngReg), Pre_AdamLayerNormsRefIdeal m →
    θ_run (Cert.AdamLayerNormsRefIdeal.defs (F := Ideal)) (onTc (τ := Cert.AdamLayerNormsRefIdeal.τ) (Cert.AdamLayerNormsRefIdeal.main (F := Ideal))) ⟨m, fun _ => 0, g⟩ (fun r => (∀ c : Dev Cert.AdamLayerNormsRefIdeal.nD,
      r.2.mem ((c.tc : Thread Cert.AdamLayerNormsRefIdeal.nD Cert.AdamLayerNormsRefIdeal.τ).loc Cert.AdamLayerNormsRefIdeal.main_arg0) = m ((c.tc : Thread Cert.AdamLayerNormsRefIdeal.nD Cert.AdamLayerNormsRefIdeal.τ).loc Cert.AdamLayerNormsRefIdeal.main_arg0)
      ∧ r.2.mem ((c.tc : Thread Cert.AdamLayerNormsRefIdeal.nD Cert.AdamLayerNormsRefIdeal.τ).loc Cert.AdamLayerNormsRefIdeal.main_arg1) = m ((c.tc : Thread Cert.AdamLayerNormsRefIdeal.nD Cert.AdamLayerNormsRefIdeal.τ).loc Cert.AdamLayerNormsRefIdeal.main_arg1)
      ∧ r.2.mem ((c.tc : Thread Cert.AdamLayerNormsRefIdeal.nD Cert.AdamLayerNormsRefIdeal.τ).loc Cert.AdamLayerNormsRefIdeal.main_arg2) = m ((c.tc : Thread Cert.AdamLayerNormsRefIdeal.nD Cert.AdamLayerNormsRefIdeal.τ).loc Cert.AdamLayerNormsRefIdeal.main_arg2)
      ∧ r.2.mem ((c.tc : Thread Cert.AdamLayerNormsRefIdeal.nD Cert.AdamLayerNormsRefIdeal.τ).loc Cert.AdamLayerNormsRefIdeal.main_arg3) = m ((c.tc : Thread Cert.AdamLayerNormsRefIdeal.nD Cert.AdamLayerNormsRefIdeal.τ).loc Cert.AdamLayerNormsRefIdeal.main_arg3))
      ∧ r.2.sem = fun _ => 0)

def quiescent_AdamFinalNorm [hAdamFinalNorm : Cert.AdamFinalNorm.Facts] : Prop :=
  ∀ (m : (ℓ : Loc Cert.AdamFinalNorm.nD Cert.AdamFinalNorm.τ Cert.AdamFinalNorm.sig) → Buf (Elt Bits) ℓ) (g : Dev Cert.AdamFinalNorm.nD → PrngReg), Pre_AdamFinalNorm m →
    θ_run (Cert.AdamFinalNorm.defs (F := Bits)) (onTc (τ := Cert.AdamFinalNorm.τ) (Cert.AdamFinalNorm.main (F := Bits))) ⟨m, fun _ => 0, g⟩ (fun r => (∀ c : Dev Cert.AdamFinalNorm.nD,
      r.2.mem ((c.tc : Thread Cert.AdamFinalNorm.nD Cert.AdamFinalNorm.τ).loc Cert.AdamFinalNorm.main_arg0) = m ((c.tc : Thread Cert.AdamFinalNorm.nD Cert.AdamFinalNorm.τ).loc Cert.AdamFinalNorm.main_arg0)
      ∧ r.2.mem ((c.tc : Thread Cert.AdamFinalNorm.nD Cert.AdamFinalNorm.τ).loc Cert.AdamFinalNorm.main_arg1) = m ((c.tc : Thread Cert.AdamFinalNorm.nD Cert.AdamFinalNorm.τ).loc Cert.AdamFinalNorm.main_arg1)
      ∧ r.2.mem ((c.tc : Thread Cert.AdamFinalNorm.nD Cert.AdamFinalNorm.τ).loc Cert.AdamFinalNorm.main_arg2) = m ((c.tc : Thread Cert.AdamFinalNorm.nD Cert.AdamFinalNorm.τ).loc Cert.AdamFinalNorm.main_arg2)
      ∧ r.2.mem ((c.tc : Thread Cert.AdamFinalNorm.nD Cert.AdamFinalNorm.τ).loc Cert.AdamFinalNorm.main_arg3) = m ((c.tc : Thread Cert.AdamFinalNorm.nD Cert.AdamFinalNorm.τ).loc Cert.AdamFinalNorm.main_arg3))
      ∧ r.2.sem = fun _ => 0)

def quiescent_AdamFinalNormIdeal [hAdamFinalNormIdeal : Cert.AdamFinalNormIdeal.Facts] : Prop :=
  ∀ (m : (ℓ : Loc Cert.AdamFinalNormIdeal.nD Cert.AdamFinalNormIdeal.τ Cert.AdamFinalNormIdeal.sig) → Buf (Elt Ideal) ℓ) (g : Dev Cert.AdamFinalNormIdeal.nD → PrngReg), Pre_AdamFinalNormIdeal m →
    θ_run (Cert.AdamFinalNormIdeal.defs (F := Ideal)) (onTc (τ := Cert.AdamFinalNormIdeal.τ) (Cert.AdamFinalNormIdeal.main (F := Ideal))) ⟨m, fun _ => 0, g⟩ (fun r => (∀ c : Dev Cert.AdamFinalNormIdeal.nD,
      r.2.mem ((c.tc : Thread Cert.AdamFinalNormIdeal.nD Cert.AdamFinalNormIdeal.τ).loc Cert.AdamFinalNormIdeal.main_arg0) = m ((c.tc : Thread Cert.AdamFinalNormIdeal.nD Cert.AdamFinalNormIdeal.τ).loc Cert.AdamFinalNormIdeal.main_arg0)
      ∧ r.2.mem ((c.tc : Thread Cert.AdamFinalNormIdeal.nD Cert.AdamFinalNormIdeal.τ).loc Cert.AdamFinalNormIdeal.main_arg1) = m ((c.tc : Thread Cert.AdamFinalNormIdeal.nD Cert.AdamFinalNormIdeal.τ).loc Cert.AdamFinalNormIdeal.main_arg1)
      ∧ r.2.mem ((c.tc : Thread Cert.AdamFinalNormIdeal.nD Cert.AdamFinalNormIdeal.τ).loc Cert.AdamFinalNormIdeal.main_arg2) = m ((c.tc : Thread Cert.AdamFinalNormIdeal.nD Cert.AdamFinalNormIdeal.τ).loc Cert.AdamFinalNormIdeal.main_arg2)
      ∧ r.2.mem ((c.tc : Thread Cert.AdamFinalNormIdeal.nD Cert.AdamFinalNormIdeal.τ).loc Cert.AdamFinalNormIdeal.main_arg3) = m ((c.tc : Thread Cert.AdamFinalNormIdeal.nD Cert.AdamFinalNormIdeal.τ).loc Cert.AdamFinalNormIdeal.main_arg3))
      ∧ r.2.sem = fun _ => 0)

def quiescent_AdamFinalNormRefIdeal [hAdamFinalNormRefIdeal : Cert.AdamFinalNormRefIdeal.Facts] : Prop :=
  ∀ (m : (ℓ : Loc Cert.AdamFinalNormRefIdeal.nD Cert.AdamFinalNormRefIdeal.τ Cert.AdamFinalNormRefIdeal.sig) → Buf (Elt Ideal) ℓ) (g : Dev Cert.AdamFinalNormRefIdeal.nD → PrngReg), Pre_AdamFinalNormRefIdeal m →
    θ_run (Cert.AdamFinalNormRefIdeal.defs (F := Ideal)) (onTc (τ := Cert.AdamFinalNormRefIdeal.τ) (Cert.AdamFinalNormRefIdeal.main (F := Ideal))) ⟨m, fun _ => 0, g⟩ (fun r => (∀ c : Dev Cert.AdamFinalNormRefIdeal.nD,
      r.2.mem ((c.tc : Thread Cert.AdamFinalNormRefIdeal.nD Cert.AdamFinalNormRefIdeal.τ).loc Cert.AdamFinalNormRefIdeal.main_arg0) = m ((c.tc : Thread Cert.AdamFinalNormRefIdeal.nD Cert.AdamFinalNormRefIdeal.τ).loc Cert.AdamFinalNormRefIdeal.main_arg0)
      ∧ r.2.mem ((c.tc : Thread Cert.AdamFinalNormRefIdeal.nD Cert.AdamFinalNormRefIdeal.τ).loc Cert.AdamFinalNormRefIdeal.main_arg1) = m ((c.tc : Thread Cert.AdamFinalNormRefIdeal.nD Cert.AdamFinalNormRefIdeal.τ).loc Cert.AdamFinalNormRefIdeal.main_arg1)
      ∧ r.2.mem ((c.tc : Thread Cert.AdamFinalNormRefIdeal.nD Cert.AdamFinalNormRefIdeal.τ).loc Cert.AdamFinalNormRefIdeal.main_arg2) = m ((c.tc : Thread Cert.AdamFinalNormRefIdeal.nD Cert.AdamFinalNormRefIdeal.τ).loc Cert.AdamFinalNormRefIdeal.main_arg2)
      ∧ r.2.mem ((c.tc : Thread Cert.AdamFinalNormRefIdeal.nD Cert.AdamFinalNormRefIdeal.τ).loc Cert.AdamFinalNormRefIdeal.main_arg3) = m ((c.tc : Thread Cert.AdamFinalNormRefIdeal.nD Cert.AdamFinalNormRefIdeal.τ).loc Cert.AdamFinalNormRefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamSinks [hAdamSinks : Cert.AdamSinks.Facts] : Prop :=
  ∀ (m : (ℓ : Loc Cert.AdamSinks.nD Cert.AdamSinks.τ Cert.AdamSinks.sig) → Buf (Elt Bits) ℓ) (g : Dev Cert.AdamSinks.nD → PrngReg), Pre_AdamSinks m →
    θ_run (Cert.AdamSinks.defs (F := Bits)) (onTc (τ := Cert.AdamSinks.τ) (Cert.AdamSinks.main (F := Bits))) ⟨m, fun _ => 0, g⟩ (fun r => (∀ c : Dev Cert.AdamSinks.nD,
      r.2.mem ((c.tc : Thread Cert.AdamSinks.nD Cert.AdamSinks.τ).loc Cert.AdamSinks.main_arg0) = m ((c.tc : Thread Cert.AdamSinks.nD Cert.AdamSinks.τ).loc Cert.AdamSinks.main_arg0)
      ∧ r.2.mem ((c.tc : Thread Cert.AdamSinks.nD Cert.AdamSinks.τ).loc Cert.AdamSinks.main_arg1) = m ((c.tc : Thread Cert.AdamSinks.nD Cert.AdamSinks.τ).loc Cert.AdamSinks.main_arg1)
      ∧ r.2.mem ((c.tc : Thread Cert.AdamSinks.nD Cert.AdamSinks.τ).loc Cert.AdamSinks.main_arg2) = m ((c.tc : Thread Cert.AdamSinks.nD Cert.AdamSinks.τ).loc Cert.AdamSinks.main_arg2)
      ∧ r.2.mem ((c.tc : Thread Cert.AdamSinks.nD Cert.AdamSinks.τ).loc Cert.AdamSinks.main_arg3) = m ((c.tc : Thread Cert.AdamSinks.nD Cert.AdamSinks.τ).loc Cert.AdamSinks.main_arg3))
      ∧ r.2.sem = fun _ => 0)

def quiescent_AdamSinksIdeal [hAdamSinksIdeal : Cert.AdamSinksIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg), Pre_AdamSinksIdeal m →
    θ_run (Cert.AdamSinksIdeal.defs (F := Ideal)) (onTc (τ := Cert.AdamSinksIdeal.τ) (Cert.AdamSinksIdeal.main (F := Ideal))) ⟨m, fun _ => 0, g⟩ (fun r => (∀ c : Dev Cert.AdamSinksIdeal.nD,
      r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
      ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
      ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
      ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ r.2.sem = fun _ => 0)

def quiescent_AdamSinksRefIdeal [hAdamSinksRefIdeal : Cert.AdamSinksRefIdeal.Facts] : Prop :=
  ∀ (m : (ℓ : Loc Cert.AdamSinksRefIdeal.nD Cert.AdamSinksRefIdeal.τ Cert.AdamSinksRefIdeal.sig) → Buf (Elt Ideal) ℓ) (g : Dev Cert.AdamSinksRefIdeal.nD → PrngReg), Pre_AdamSinksRefIdeal m →
    θ_run (Cert.AdamSinksRefIdeal.defs (F := Ideal)) (onTc (τ := Cert.AdamSinksRefIdeal.τ) (Cert.AdamSinksRefIdeal.main (F := Ideal))) ⟨m, fun _ => 0, g⟩ (fun r => (∀ c : Dev Cert.AdamSinksRefIdeal.nD,
      r.2.mem ((c.tc : Thread Cert.AdamSinksRefIdeal.nD Cert.AdamSinksRefIdeal.τ).loc Cert.AdamSinksRefIdeal.main_arg0) = m ((c.tc : Thread Cert.AdamSinksRefIdeal.nD Cert.AdamSinksRefIdeal.τ).loc Cert.AdamSinksRefIdeal.main_arg0)
      ∧ r.2.mem ((c.tc : Thread Cert.AdamSinksRefIdeal.nD Cert.AdamSinksRefIdeal.τ).loc Cert.AdamSinksRefIdeal.main_arg1) = m ((c.tc : Thread Cert.AdamSinksRefIdeal.nD Cert.AdamSinksRefIdeal.τ).loc Cert.AdamSinksRefIdeal.main_arg1)
      ∧ r.2.mem ((c.tc : Thread Cert.AdamSinksRefIdeal.nD Cert.AdamSinksRefIdeal.τ).loc Cert.AdamSinksRefIdeal.main_arg2) = m ((c.tc : Thread Cert.AdamSinksRefIdeal.nD Cert.AdamSinksRefIdeal.τ).loc Cert.AdamSinksRefIdeal.main_arg2)
      ∧ r.2.mem ((c.tc : Thread Cert.AdamSinksRefIdeal.nD Cert.AdamSinksRefIdeal.τ).loc Cert.AdamSinksRefIdeal.main_arg3) = m ((c.tc : Thread Cert.AdamSinksRefIdeal.nD Cert.AdamSinksRefIdeal.τ).loc Cert.AdamSinksRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamWDown [hAdamWDown : Cert.AdamWDown.Facts] : Prop :=
  ∀ (m : (ℓ : Loc Cert.AdamWDown.nD Cert.AdamWDown.τ Cert.AdamWDown.sig) → Buf (Elt Bits) ℓ) (g : Dev Cert.AdamWDown.nD → PrngReg), Pre_AdamWDown m →
    θ_run (Cert.AdamWDown.defs (F := Bits)) (onTc (τ := Cert.AdamWDown.τ) (Cert.AdamWDown.main (F := Bits))) ⟨m, fun _ => 0, g⟩ (fun r => (∀ c : Dev Cert.AdamWDown.nD,
      r.2.mem ((c.tc : Thread Cert.AdamWDown.nD Cert.AdamWDown.τ).loc Cert.AdamWDown.main_arg0) = m ((c.tc : Thread Cert.AdamWDown.nD Cert.AdamWDown.τ).loc Cert.AdamWDown.main_arg0)
      ∧ r.2.mem ((c.tc : Thread Cert.AdamWDown.nD Cert.AdamWDown.τ).loc Cert.AdamWDown.main_arg1) = m ((c.tc : Thread Cert.AdamWDown.nD Cert.AdamWDown.τ).loc Cert.AdamWDown.main_arg1)
      ∧ r.2.mem ((c.tc : Thread Cert.AdamWDown.nD Cert.AdamWDown.τ).loc Cert.AdamWDown.main_arg2) = m ((c.tc : Thread Cert.AdamWDown.nD Cert.AdamWDown.τ).loc Cert.AdamWDown.main_arg2)
      ∧ r.2.mem ((c.tc : Thread Cert.AdamWDown.nD Cert.AdamWDown.τ).loc Cert.AdamWDown.main_arg3) = m ((c.tc : Thread Cert.AdamWDown.nD Cert.AdamWDown.τ).loc Cert.AdamWDown.main_arg3))
      ∧ r.2.sem = fun _ => 0)

def quiescent_AdamWDownIdeal [hAdamWDownIdeal : Cert.AdamWDownIdeal.Facts] : Prop :=
  ∀ (m : (ℓ : Loc Cert.AdamWDownIdeal.nD Cert.AdamWDownIdeal.τ Cert.AdamWDownIdeal.sig) → Buf (Elt Ideal) ℓ) (g : Dev Cert.AdamWDownIdeal.nD → PrngReg), Pre_AdamWDownIdeal m →
    θ_run (Cert.AdamWDownIdeal.defs (F := Ideal)) (onTc (τ := Cert.AdamWDownIdeal.τ) (Cert.AdamWDownIdeal.main (F := Ideal))) ⟨m, fun _ => 0, g⟩ (fun r => (∀ c : Dev Cert.AdamWDownIdeal.nD,
      r.2.mem ((c.tc : Thread Cert.AdamWDownIdeal.nD Cert.AdamWDownIdeal.τ).loc Cert.AdamWDownIdeal.main_arg0) = m ((c.tc : Thread Cert.AdamWDownIdeal.nD Cert.AdamWDownIdeal.τ).loc Cert.AdamWDownIdeal.main_arg0)
      ∧ r.2.mem ((c.tc : Thread Cert.AdamWDownIdeal.nD Cert.AdamWDownIdeal.τ).loc Cert.AdamWDownIdeal.main_arg1) = m ((c.tc : Thread Cert.AdamWDownIdeal.nD Cert.AdamWDownIdeal.τ).loc Cert.AdamWDownIdeal.main_arg1)
      ∧ r.2.mem ((c.tc : Thread Cert.AdamWDownIdeal.nD Cert.AdamWDownIdeal.τ).loc Cert.AdamWDownIdeal.main_arg2) = m ((c.tc : Thread Cert.AdamWDownIdeal.nD Cert.AdamWDownIdeal.τ).loc Cert.AdamWDownIdeal.main_arg2)
      ∧ r.2.mem ((c.tc : Thread Cert.AdamWDownIdeal.nD Cert.AdamWDownIdeal.τ).loc Cert.AdamWDownIdeal.main_arg3) = m ((c.tc : Thread Cert.AdamWDownIdeal.nD Cert.AdamWDownIdeal.τ).loc Cert.AdamWDownIdeal.main_arg3))
      ∧ r.2.sem = fun _ => 0)

def quiescent_AdamWDownRefIdeal [hAdamWDownRefIdeal : Cert.AdamWDownRefIdeal.Facts] : Prop :=
  ∀ (m : (ℓ : Loc Cert.AdamWDownRefIdeal.nD Cert.AdamWDownRefIdeal.τ Cert.AdamWDownRefIdeal.sig) → Buf (Elt Ideal) ℓ) (g : Dev Cert.AdamWDownRefIdeal.nD → PrngReg), Pre_AdamWDownRefIdeal m →
    θ_run (Cert.AdamWDownRefIdeal.defs (F := Ideal)) (onTc (τ := Cert.AdamWDownRefIdeal.τ) (Cert.AdamWDownRefIdeal.main (F := Ideal))) ⟨m, fun _ => 0, g⟩ (fun r => (∀ c : Dev Cert.AdamWDownRefIdeal.nD,
      r.2.mem ((c.tc : Thread Cert.AdamWDownRefIdeal.nD Cert.AdamWDownRefIdeal.τ).loc Cert.AdamWDownRefIdeal.main_arg0) = m ((c.tc : Thread Cert.AdamWDownRefIdeal.nD Cert.AdamWDownRefIdeal.τ).loc Cert.AdamWDownRefIdeal.main_arg0)
      ∧ r.2.mem ((c.tc : Thread Cert.AdamWDownRefIdeal.nD Cert.AdamWDownRefIdeal.τ).loc Cert.AdamWDownRefIdeal.main_arg1) = m ((c.tc : Thread Cert.AdamWDownRefIdeal.nD Cert.AdamWDownRefIdeal.τ).loc Cert.AdamWDownRefIdeal.main_arg1)
      ∧ r.2.mem ((c.tc : Thread Cert.AdamWDownRefIdeal.nD Cert.AdamWDownRefIdeal.τ).loc Cert.AdamWDownRefIdeal.main_arg2) = m ((c.tc : Thread Cert.AdamWDownRefIdeal.nD Cert.AdamWDownRefIdeal.τ).loc Cert.AdamWDownRefIdeal.main_arg2)
      ∧ r.2.mem ((c.tc : Thread Cert.AdamWDownRefIdeal.nD Cert.AdamWDownRefIdeal.τ).loc Cert.AdamWDownRefIdeal.main_arg3) = m ((c.tc : Thread Cert.AdamWDownRefIdeal.nD Cert.AdamWDownRefIdeal.τ).loc Cert.AdamWDownRefIdeal.main_arg3))
      ∧ r.2.sem = fun _ => 0)

def quiescent_AdamQNorms [hAdamQNorms : Cert.AdamQNorms.Facts] : Prop :=
  ∀ (m : (ℓ : Loc Cert.AdamQNorms.nD Cert.AdamQNorms.τ Cert.AdamQNorms.sig) → Buf (Elt Bits) ℓ) (g : Dev Cert.AdamQNorms.nD → PrngReg), Pre_AdamQNorms m →
    θ_run (Cert.AdamQNorms.defs (F := Bits)) (onTc (τ := Cert.AdamQNorms.τ) (Cert.AdamQNorms.main (F := Bits))) ⟨m, fun _ => 0, g⟩ (fun r => (∀ c : Dev Cert.AdamQNorms.nD,
      r.2.mem ((c.tc : Thread Cert.AdamQNorms.nD Cert.AdamQNorms.τ).loc Cert.AdamQNorms.main_arg0) = m ((c.tc : Thread Cert.AdamQNorms.nD Cert.AdamQNorms.τ).loc Cert.AdamQNorms.main_arg0)
      ∧ r.2.mem ((c.tc : Thread Cert.AdamQNorms.nD Cert.AdamQNorms.τ).loc Cert.AdamQNorms.main_arg1) = m ((c.tc : Thread Cert.AdamQNorms.nD Cert.AdamQNorms.τ).loc Cert.AdamQNorms.main_arg1)
      ∧ r.2.mem ((c.tc : Thread Cert.AdamQNorms.nD Cert.AdamQNorms.τ).loc Cert.AdamQNorms.main_arg2) = m ((c.tc : Thread Cert.AdamQNorms.nD Cert.AdamQNorms.τ).loc Cert.AdamQNorms.main_arg2)
      ∧ r.2.mem ((c.tc : Thread Cert.AdamQNorms.nD Cert.AdamQNorms.τ).loc Cert.AdamQNorms.main_arg3) = m ((c.tc : Thread Cert.AdamQNorms.nD Cert.AdamQNorms.τ).loc Cert.AdamQNorms.main_arg3))
      ∧ r.2.sem = fun _ => 0)

def quiescent_AdamQNormsIdeal [hAdamQNormsIdeal : Cert.AdamQNormsIdeal.Facts] : Prop :=
  ∀ (m : (ℓ : Loc Cert.AdamQNormsIdeal.nD Cert.AdamQNormsIdeal.τ Cert.AdamQNormsIdeal.sig) → Buf (Elt Ideal) ℓ) (g : Dev Cert.AdamQNormsIdeal.nD → PrngReg), Pre_AdamQNormsIdeal m →
    θ_run (Cert.AdamQNormsIdeal.defs (F := Ideal)) (onTc (τ := Cert.AdamQNormsIdeal.τ) (Cert.AdamQNormsIdeal.main (F := Ideal))) ⟨m, fun _ => 0, g⟩ (fun r => (∀ c : Dev Cert.AdamQNormsIdeal.nD,
      r.2.mem ((c.tc : Thread Cert.AdamQNormsIdeal.nD Cert.AdamQNormsIdeal.τ).loc Cert.AdamQNormsIdeal.main_arg0) = m ((c.tc : Thread Cert.AdamQNormsIdeal.nD Cert.AdamQNormsIdeal.τ).loc Cert.AdamQNormsIdeal.main_arg0)
      ∧ r.2.mem ((c.tc : Thread Cert.AdamQNormsIdeal.nD Cert.AdamQNormsIdeal.τ).loc Cert.AdamQNormsIdeal.main_arg1) = m ((c.tc : Thread Cert.AdamQNormsIdeal.nD Cert.AdamQNormsIdeal.τ).loc Cert.AdamQNormsIdeal.main_arg1)
      ∧ r.2.mem ((c.tc : Thread Cert.AdamQNormsIdeal.nD Cert.AdamQNormsIdeal.τ).loc Cert.AdamQNormsIdeal.main_arg2) = m ((c.tc : Thread Cert.AdamQNormsIdeal.nD Cert.AdamQNormsIdeal.τ).loc Cert.AdamQNormsIdeal.main_arg2)
      ∧ r.2.mem ((c.tc : Thread Cert.AdamQNormsIdeal.nD Cert.AdamQNormsIdeal.τ).loc Cert.AdamQNormsIdeal.main_arg3) = m ((c.tc : Thread Cert.AdamQNormsIdeal.nD Cert.AdamQNormsIdeal.τ).loc Cert.AdamQNormsIdeal.main_arg3))
      ∧ r.2.sem = fun _ => 0)

def quiescent_AdamQNormsRefIdeal [hAdamQNormsRefIdeal : Cert.AdamQNormsRefIdeal.Facts] : Prop :=
  ∀ (m : (ℓ : Loc Cert.AdamQNormsRefIdeal.nD Cert.AdamQNormsRefIdeal.τ Cert.AdamQNormsRefIdeal.sig) → Buf (Elt Ideal) ℓ) (g : Dev Cert.AdamQNormsRefIdeal.nD → PrngReg), Pre_AdamQNormsRefIdeal m →
    θ_run (Cert.AdamQNormsRefIdeal.defs (F := Ideal)) (onTc (τ := Cert.AdamQNormsRefIdeal.τ) (Cert.AdamQNormsRefIdeal.main (F := Ideal))) ⟨m, fun _ => 0, g⟩ (fun r => (∀ c : Dev Cert.AdamQNormsRefIdeal.nD,
      r.2.mem ((c.tc : Thread Cert.AdamQNormsRefIdeal.nD Cert.AdamQNormsRefIdeal.τ).loc Cert.AdamQNormsRefIdeal.main_arg0) = m ((c.tc : Thread Cert.AdamQNormsRefIdeal.nD Cert.AdamQNormsRefIdeal.τ).loc Cert.AdamQNormsRefIdeal.main_arg0)
      ∧ r.2.mem ((c.tc : Thread Cert.AdamQNormsRefIdeal.nD Cert.AdamQNormsRefIdeal.τ).loc Cert.AdamQNormsRefIdeal.main_arg1) = m ((c.tc : Thread Cert.AdamQNormsRefIdeal.nD Cert.AdamQNormsRefIdeal.τ).loc Cert.AdamQNormsRefIdeal.main_arg1)
      ∧ r.2.mem ((c.tc : Thread Cert.AdamQNormsRefIdeal.nD Cert.AdamQNormsRefIdeal.τ).loc Cert.AdamQNormsRefIdeal.main_arg2) = m ((c.tc : Thread Cert.AdamQNormsRefIdeal.nD Cert.AdamQNormsRefIdeal.τ).loc Cert.AdamQNormsRefIdeal.main_arg2)
      ∧ r.2.mem ((c.tc : Thread Cert.AdamQNormsRefIdeal.nD Cert.AdamQNormsRefIdeal.τ).loc Cert.AdamQNormsRefIdeal.main_arg3) = m ((c.tc : Thread Cert.AdamQNormsRefIdeal.nD Cert.AdamQNormsRefIdeal.τ).loc Cert.AdamQNormsRefIdeal.main_arg3))
      ∧ r.2.sem = fun _ => 0)

def quiescent_AdamWUq [hAdamWUq : Cert.AdamWUq.Facts] : Prop :=
  ∀ (m : (ℓ : Loc Cert.AdamWUq.nD Cert.AdamWUq.τ Cert.AdamWUq.sig) → Buf (Elt Bits) ℓ) (g : Dev Cert.AdamWUq.nD → PrngReg), Pre_AdamWUq m →
    θ_run (Cert.AdamWUq.defs (F := Bits)) (onTc (τ := Cert.AdamWUq.τ) (Cert.AdamWUq.main (F := Bits))) ⟨m, fun _ => 0, g⟩ (fun r => (∀ c : Dev Cert.AdamWUq.nD,
      r.2.mem ((c.tc : Thread Cert.AdamWUq.nD Cert.AdamWUq.τ).loc Cert.AdamWUq.main_arg0) = m ((c.tc : Thread Cert.AdamWUq.nD Cert.AdamWUq.τ).loc Cert.AdamWUq.main_arg0)
      ∧ r.2.mem ((c.tc : Thread Cert.AdamWUq.nD Cert.AdamWUq.τ).loc Cert.AdamWUq.main_arg1) = m ((c.tc : Thread Cert.AdamWUq.nD Cert.AdamWUq.τ).loc Cert.AdamWUq.main_arg1)
      ∧ r.2.mem ((c.tc : Thread Cert.AdamWUq.nD Cert.AdamWUq.τ).loc Cert.AdamWUq.main_arg2) = m ((c.tc : Thread Cert.AdamWUq.nD Cert.AdamWUq.τ).loc Cert.AdamWUq.main_arg2)
      ∧ r.2.mem ((c.tc : Thread Cert.AdamWUq.nD Cert.AdamWUq.τ).loc Cert.AdamWUq.main_arg3) = m ((c.tc : Thread Cert.AdamWUq.nD Cert.AdamWUq.τ).loc Cert.AdamWUq.main_arg3))
      ∧ r.2.sem = fun _ => 0)

def quiescent_AdamWUqIdeal [hAdamWUqIdeal : Cert.AdamWUqIdeal.Facts] : Prop :=
  ∀ (m : (ℓ : Loc Cert.AdamWUqIdeal.nD Cert.AdamWUqIdeal.τ Cert.AdamWUqIdeal.sig) → Buf (Elt Ideal) ℓ) (g : Dev Cert.AdamWUqIdeal.nD → PrngReg), Pre_AdamWUqIdeal m →
    θ_run (Cert.AdamWUqIdeal.defs (F := Ideal)) (onTc (τ := Cert.AdamWUqIdeal.τ) (Cert.AdamWUqIdeal.main (F := Ideal))) ⟨m, fun _ => 0, g⟩ (fun r => (∀ c : Dev Cert.AdamWUqIdeal.nD,
      r.2.mem ((c.tc : Thread Cert.AdamWUqIdeal.nD Cert.AdamWUqIdeal.τ).loc Cert.AdamWUqIdeal.main_arg0) = m ((c.tc : Thread Cert.AdamWUqIdeal.nD Cert.AdamWUqIdeal.τ).loc Cert.AdamWUqIdeal.main_arg0)
      ∧ r.2.mem ((c.tc : Thread Cert.AdamWUqIdeal.nD Cert.AdamWUqIdeal.τ).loc Cert.AdamWUqIdeal.main_arg1) = m ((c.tc : Thread Cert.AdamWUqIdeal.nD Cert.AdamWUqIdeal.τ).loc Cert.AdamWUqIdeal.main_arg1)
      ∧ r.2.mem ((c.tc : Thread Cert.AdamWUqIdeal.nD Cert.AdamWUqIdeal.τ).loc Cert.AdamWUqIdeal.main_arg2) = m ((c.tc : Thread Cert.AdamWUqIdeal.nD Cert.AdamWUqIdeal.τ).loc Cert.AdamWUqIdeal.main_arg2)
      ∧ r.2.mem ((c.tc : Thread Cert.AdamWUqIdeal.nD Cert.AdamWUqIdeal.τ).loc Cert.AdamWUqIdeal.main_arg3) = m ((c.tc : Thread Cert.AdamWUqIdeal.nD Cert.AdamWUqIdeal.τ).loc Cert.AdamWUqIdeal.main_arg3))
      ∧ r.2.sem = fun _ => 0)

def quiescent_AdamWUqRefIdeal [hAdamWUqRefIdeal : Cert.AdamWUqRefIdeal.Facts] : Prop :=
  ∀ (m : (ℓ : Loc Cert.AdamWUqRefIdeal.nD Cert.AdamWUqRefIdeal.τ Cert.AdamWUqRefIdeal.sig) → Buf (Elt Ideal) ℓ) (g : Dev Cert.AdamWUqRefIdeal.nD → PrngReg), Pre_AdamWUqRefIdeal m →
    θ_run (Cert.AdamWUqRefIdeal.defs (F := Ideal)) (onTc (τ := Cert.AdamWUqRefIdeal.τ) (Cert.AdamWUqRefIdeal.main (F := Ideal))) ⟨m, fun _ => 0, g⟩ (fun r => (∀ c : Dev Cert.AdamWUqRefIdeal.nD,
      r.2.mem ((c.tc : Thread Cert.AdamWUqRefIdeal.nD Cert.AdamWUqRefIdeal.τ).loc Cert.AdamWUqRefIdeal.main_arg0) = m ((c.tc : Thread Cert.AdamWUqRefIdeal.nD Cert.AdamWUqRefIdeal.τ).loc Cert.AdamWUqRefIdeal.main_arg0)
      ∧ r.2.mem ((c.tc : Thread Cert.AdamWUqRefIdeal.nD Cert.AdamWUqRefIdeal.τ).loc Cert.AdamWUqRefIdeal.main_arg1) = m ((c.tc : Thread Cert.AdamWUqRefIdeal.nD Cert.AdamWUqRefIdeal.τ).loc Cert.AdamWUqRefIdeal.main_arg1)
      ∧ r.2.mem ((c.tc : Thread Cert.AdamWUqRefIdeal.nD Cert.AdamWUqRefIdeal.τ).loc Cert.AdamWUqRefIdeal.main_arg2) = m ((c.tc : Thread Cert.AdamWUqRefIdeal.nD Cert.AdamWUqRefIdeal.τ).loc Cert.AdamWUqRefIdeal.main_arg2)
      ∧ r.2.mem ((c.tc : Thread Cert.AdamWUqRefIdeal.nD Cert.AdamWUqRefIdeal.τ).loc Cert.AdamWUqRefIdeal.main_arg3) = m ((c.tc : Thread Cert.AdamWUqRefIdeal.nD Cert.AdamWUqRefIdeal.τ).loc Cert.AdamWUqRefIdeal.main_arg3))
      ∧ r.2.sem = fun _ => 0)

def quiescent_AdamKvNorms [hAdamKvNorms : Cert.AdamKvNorms.Facts] : Prop :=
  ∀ (m : (ℓ : Loc Cert.AdamKvNorms.nD Cert.AdamKvNorms.τ Cert.AdamKvNorms.sig) → Buf (Elt Bits) ℓ) (g : Dev Cert.AdamKvNorms.nD → PrngReg), Pre_AdamKvNorms m →
    θ_run (Cert.AdamKvNorms.defs (F := Bits)) (onTc (τ := Cert.AdamKvNorms.τ) (Cert.AdamKvNorms.main (F := Bits))) ⟨m, fun _ => 0, g⟩ (fun r => (∀ c : Dev Cert.AdamKvNorms.nD,
      r.2.mem ((c.tc : Thread Cert.AdamKvNorms.nD Cert.AdamKvNorms.τ).loc Cert.AdamKvNorms.main_arg0) = m ((c.tc : Thread Cert.AdamKvNorms.nD Cert.AdamKvNorms.τ).loc Cert.AdamKvNorms.main_arg0)
      ∧ r.2.mem ((c.tc : Thread Cert.AdamKvNorms.nD Cert.AdamKvNorms.τ).loc Cert.AdamKvNorms.main_arg1) = m ((c.tc : Thread Cert.AdamKvNorms.nD Cert.AdamKvNorms.τ).loc Cert.AdamKvNorms.main_arg1)
      ∧ r.2.mem ((c.tc : Thread Cert.AdamKvNorms.nD Cert.AdamKvNorms.τ).loc Cert.AdamKvNorms.main_arg2) = m ((c.tc : Thread Cert.AdamKvNorms.nD Cert.AdamKvNorms.τ).loc Cert.AdamKvNorms.main_arg2)
      ∧ r.2.mem ((c.tc : Thread Cert.AdamKvNorms.nD Cert.AdamKvNorms.τ).loc Cert.AdamKvNorms.main_arg3) = m ((c.tc : Thread Cert.AdamKvNorms.nD Cert.AdamKvNorms.τ).loc Cert.AdamKvNorms.main_arg3))
      ∧ r.2.sem = fun _ => 0)

def quiescent_AdamKvNormsIdeal [hAdamKvNormsIdeal : Cert.AdamKvNormsIdeal.Facts] : Prop :=
  ∀ (m : (ℓ : Loc Cert.AdamKvNormsIdeal.nD Cert.AdamKvNormsIdeal.τ Cert.AdamKvNormsIdeal.sig) → Buf (Elt Ideal) ℓ) (g : Dev Cert.AdamKvNormsIdeal.nD → PrngReg), Pre_AdamKvNormsIdeal m →
    θ_run (Cert.AdamKvNormsIdeal.defs (F := Ideal)) (onTc (τ := Cert.AdamKvNormsIdeal.τ) (Cert.AdamKvNormsIdeal.main (F := Ideal))) ⟨m, fun _ => 0, g⟩ (fun r => (∀ c : Dev Cert.AdamKvNormsIdeal.nD,
      r.2.mem ((c.tc : Thread Cert.AdamKvNormsIdeal.nD Cert.AdamKvNormsIdeal.τ).loc Cert.AdamKvNormsIdeal.main_arg0) = m ((c.tc : Thread Cert.AdamKvNormsIdeal.nD Cert.AdamKvNormsIdeal.τ).loc Cert.AdamKvNormsIdeal.main_arg0)
      ∧ r.2.mem ((c.tc : Thread Cert.AdamKvNormsIdeal.nD Cert.AdamKvNormsIdeal.τ).loc Cert.AdamKvNormsIdeal.main_arg1) = m ((c.tc : Thread Cert.AdamKvNormsIdeal.nD Cert.AdamKvNormsIdeal.τ).loc Cert.AdamKvNormsIdeal.main_arg1)
      ∧ r.2.mem ((c.tc : Thread Cert.AdamKvNormsIdeal.nD Cert.AdamKvNormsIdeal.τ).loc Cert.AdamKvNormsIdeal.main_arg2) = m ((c.tc : Thread Cert.AdamKvNormsIdeal.nD Cert.AdamKvNormsIdeal.τ).loc Cert.AdamKvNormsIdeal.main_arg2)
      ∧ r.2.mem ((c.tc : Thread Cert.AdamKvNormsIdeal.nD Cert.AdamKvNormsIdeal.τ).loc Cert.AdamKvNormsIdeal.main_arg3) = m ((c.tc : Thread Cert.AdamKvNormsIdeal.nD Cert.AdamKvNormsIdeal.τ).loc Cert.AdamKvNormsIdeal.main_arg3))
      ∧ r.2.sem = fun _ => 0)

def quiescent_AdamKvNormsRefIdeal [hAdamKvNormsRefIdeal : Cert.AdamKvNormsRefIdeal.Facts] : Prop :=
  ∀ (m : (ℓ : Loc Cert.AdamKvNormsRefIdeal.nD Cert.AdamKvNormsRefIdeal.τ Cert.AdamKvNormsRefIdeal.sig) → Buf (Elt Ideal) ℓ) (g : Dev Cert.AdamKvNormsRefIdeal.nD → PrngReg), Pre_AdamKvNormsRefIdeal m →
    θ_run (Cert.AdamKvNormsRefIdeal.defs (F := Ideal)) (onTc (τ := Cert.AdamKvNormsRefIdeal.τ) (Cert.AdamKvNormsRefIdeal.main (F := Ideal))) ⟨m, fun _ => 0, g⟩ (fun r => (∀ c : Dev Cert.AdamKvNormsRefIdeal.nD,
      r.2.mem ((c.tc : Thread Cert.AdamKvNormsRefIdeal.nD Cert.AdamKvNormsRefIdeal.τ).loc Cert.AdamKvNormsRefIdeal.main_arg0) = m ((c.tc : Thread Cert.AdamKvNormsRefIdeal.nD Cert.AdamKvNormsRefIdeal.τ).loc Cert.AdamKvNormsRefIdeal.main_arg0)
      ∧ r.2.mem ((c.tc : Thread Cert.AdamKvNormsRefIdeal.nD Cert.AdamKvNormsRefIdeal.τ).loc Cert.AdamKvNormsRefIdeal.main_arg1) = m ((c.tc : Thread Cert.AdamKvNormsRefIdeal.nD Cert.AdamKvNormsRefIdeal.τ).loc Cert.AdamKvNormsRefIdeal.main_arg1)
      ∧ r.2.mem ((c.tc : Thread Cert.AdamKvNormsRefIdeal.nD Cert.AdamKvNormsRefIdeal.τ).loc Cert.AdamKvNormsRefIdeal.main_arg2) = m ((c.tc : Thread Cert.AdamKvNormsRefIdeal.nD Cert.AdamKvNormsRefIdeal.τ).loc Cert.AdamKvNormsRefIdeal.main_arg2)
      ∧ r.2.mem ((c.tc : Thread Cert.AdamKvNormsRefIdeal.nD Cert.AdamKvNormsRefIdeal.τ).loc Cert.AdamKvNormsRefIdeal.main_arg3) = m ((c.tc : Thread Cert.AdamKvNormsRefIdeal.nD Cert.AdamKvNormsRefIdeal.τ).loc Cert.AdamKvNormsRefIdeal.main_arg3))
      ∧ r.2.sem = fun _ => 0)

def quiescent_AdamWUkv [hAdamWUkv : Cert.AdamWUkv.Facts] : Prop :=
  ∀ (m : (ℓ : Loc Cert.AdamWUkv.nD Cert.AdamWUkv.τ Cert.AdamWUkv.sig) → Buf (Elt Bits) ℓ) (g : Dev Cert.AdamWUkv.nD → PrngReg), Pre_AdamWUkv m →
    θ_run (Cert.AdamWUkv.defs (F := Bits)) (onTc (τ := Cert.AdamWUkv.τ) (Cert.AdamWUkv.main (F := Bits))) ⟨m, fun _ => 0, g⟩ (fun r => (∀ c : Dev Cert.AdamWUkv.nD,
      r.2.mem ((c.tc : Thread Cert.AdamWUkv.nD Cert.AdamWUkv.τ).loc Cert.AdamWUkv.main_arg0) = m ((c.tc : Thread Cert.AdamWUkv.nD Cert.AdamWUkv.τ).loc Cert.AdamWUkv.main_arg0)
      ∧ r.2.mem ((c.tc : Thread Cert.AdamWUkv.nD Cert.AdamWUkv.τ).loc Cert.AdamWUkv.main_arg1) = m ((c.tc : Thread Cert.AdamWUkv.nD Cert.AdamWUkv.τ).loc Cert.AdamWUkv.main_arg1)
      ∧ r.2.mem ((c.tc : Thread Cert.AdamWUkv.nD Cert.AdamWUkv.τ).loc Cert.AdamWUkv.main_arg2) = m ((c.tc : Thread Cert.AdamWUkv.nD Cert.AdamWUkv.τ).loc Cert.AdamWUkv.main_arg2)
      ∧ r.2.mem ((c.tc : Thread Cert.AdamWUkv.nD Cert.AdamWUkv.τ).loc Cert.AdamWUkv.main_arg3) = m ((c.tc : Thread Cert.AdamWUkv.nD Cert.AdamWUkv.τ).loc Cert.AdamWUkv.main_arg3))
      ∧ r.2.sem = fun _ => 0)

def quiescent_AdamWUkvIdeal [hAdamWUkvIdeal : Cert.AdamWUkvIdeal.Facts] : Prop :=
  ∀ (m : (ℓ : Loc Cert.AdamWUkvIdeal.nD Cert.AdamWUkvIdeal.τ Cert.AdamWUkvIdeal.sig) → Buf (Elt Ideal) ℓ) (g : Dev Cert.AdamWUkvIdeal.nD → PrngReg), Pre_AdamWUkvIdeal m →
    θ_run (Cert.AdamWUkvIdeal.defs (F := Ideal)) (onTc (τ := Cert.AdamWUkvIdeal.τ) (Cert.AdamWUkvIdeal.main (F := Ideal))) ⟨m, fun _ => 0, g⟩ (fun r => (∀ c : Dev Cert.AdamWUkvIdeal.nD,
      r.2.mem ((c.tc : Thread Cert.AdamWUkvIdeal.nD Cert.AdamWUkvIdeal.τ).loc Cert.AdamWUkvIdeal.main_arg0) = m ((c.tc : Thread Cert.AdamWUkvIdeal.nD Cert.AdamWUkvIdeal.τ).loc Cert.AdamWUkvIdeal.main_arg0)
      ∧ r.2.mem ((c.tc : Thread Cert.AdamWUkvIdeal.nD Cert.AdamWUkvIdeal.τ).loc Cert.AdamWUkvIdeal.main_arg1) = m ((c.tc : Thread Cert.AdamWUkvIdeal.nD Cert.AdamWUkvIdeal.τ).loc Cert.AdamWUkvIdeal.main_arg1)
      ∧ r.2.mem ((c.tc : Thread Cert.AdamWUkvIdeal.nD Cert.AdamWUkvIdeal.τ).loc Cert.AdamWUkvIdeal.main_arg2) = m ((c.tc : Thread Cert.AdamWUkvIdeal.nD Cert.AdamWUkvIdeal.τ).loc Cert.AdamWUkvIdeal.main_arg2)
      ∧ r.2.mem ((c.tc : Thread Cert.AdamWUkvIdeal.nD Cert.AdamWUkvIdeal.τ).loc Cert.AdamWUkvIdeal.main_arg3) = m ((c.tc : Thread Cert.AdamWUkvIdeal.nD Cert.AdamWUkvIdeal.τ).loc Cert.AdamWUkvIdeal.main_arg3))
      ∧ r.2.sem = fun _ => 0)

def quiescent_AdamWUkvRefIdeal [hAdamWUkvRefIdeal : Cert.AdamWUkvRefIdeal.Facts] : Prop :=
  ∀ (m : (ℓ : Loc Cert.AdamWUkvRefIdeal.nD Cert.AdamWUkvRefIdeal.τ Cert.AdamWUkvRefIdeal.sig) → Buf (Elt Ideal) ℓ) (g : Dev Cert.AdamWUkvRefIdeal.nD → PrngReg), Pre_AdamWUkvRefIdeal m →
    θ_run (Cert.AdamWUkvRefIdeal.defs (F := Ideal)) (onTc (τ := Cert.AdamWUkvRefIdeal.τ) (Cert.AdamWUkvRefIdeal.main (F := Ideal))) ⟨m, fun _ => 0, g⟩ (fun r => (∀ c : Dev Cert.AdamWUkvRefIdeal.nD,
      r.2.mem ((c.tc : Thread Cert.AdamWUkvRefIdeal.nD Cert.AdamWUkvRefIdeal.τ).loc Cert.AdamWUkvRefIdeal.main_arg0) = m ((c.tc : Thread Cert.AdamWUkvRefIdeal.nD Cert.AdamWUkvRefIdeal.τ).loc Cert.AdamWUkvRefIdeal.main_arg0)
      ∧ r.2.mem ((c.tc : Thread Cert.AdamWUkvRefIdeal.nD Cert.AdamWUkvRefIdeal.τ).loc Cert.AdamWUkvRefIdeal.main_arg1) = m ((c.tc : Thread Cert.AdamWUkvRefIdeal.nD Cert.AdamWUkvRefIdeal.τ).loc Cert.AdamWUkvRefIdeal.main_arg1)
      ∧ r.2.mem ((c.tc : Thread Cert.AdamWUkvRefIdeal.nD Cert.AdamWUkvRefIdeal.τ).loc Cert.AdamWUkvRefIdeal.main_arg2) = m ((c.tc : Thread Cert.AdamWUkvRefIdeal.nD Cert.AdamWUkvRefIdeal.τ).loc Cert.AdamWUkvRefIdeal.main_arg2)
      ∧ r.2.mem ((c.tc : Thread Cert.AdamWUkvRefIdeal.nD Cert.AdamWUkvRefIdeal.τ).loc Cert.AdamWUkvRefIdeal.main_arg3) = m ((c.tc : Thread Cert.AdamWUkvRefIdeal.nD Cert.AdamWUkvRefIdeal.τ).loc Cert.AdamWUkvRefIdeal.main_arg3))
      ∧ r.2.sem = fun _ => 0)

def quiescent_AdamWO [hAdamWO : Cert.AdamWO.Facts] : Prop :=
  ∀ (m : (ℓ : Loc Cert.AdamWO.nD Cert.AdamWO.τ Cert.AdamWO.sig) → Buf (Elt Bits) ℓ) (g : Dev Cert.AdamWO.nD → PrngReg), Pre_AdamWO m →
    θ_run (Cert.AdamWO.defs (F := Bits)) (onTc (τ := Cert.AdamWO.τ) (Cert.AdamWO.main (F := Bits))) ⟨m, fun _ => 0, g⟩ (fun r => (∀ c : Dev Cert.AdamWO.nD,
      r.2.mem ((c.tc : Thread Cert.AdamWO.nD Cert.AdamWO.τ).loc Cert.AdamWO.main_arg0) = m ((c.tc : Thread Cert.AdamWO.nD Cert.AdamWO.τ).loc Cert.AdamWO.main_arg0)
      ∧ r.2.mem ((c.tc : Thread Cert.AdamWO.nD Cert.AdamWO.τ).loc Cert.AdamWO.main_arg1) = m ((c.tc : Thread Cert.AdamWO.nD Cert.AdamWO.τ).loc Cert.AdamWO.main_arg1)
      ∧ r.2.mem ((c.tc : Thread Cert.AdamWO.nD Cert.AdamWO.τ).loc Cert.AdamWO.main_arg2) = m ((c.tc : Thread Cert.AdamWO.nD Cert.AdamWO.τ).loc Cert.AdamWO.main_arg2)
      ∧ r.2.mem ((c.tc : Thread Cert.AdamWO.nD Cert.AdamWO.τ).loc Cert.AdamWO.main_arg3) = m ((c.tc : Thread Cert.AdamWO.nD Cert.AdamWO.τ).loc Cert.AdamWO.main_arg3))
      ∧ r.2.sem = fun _ => 0)

def quiescent_AdamWOIdeal [hAdamWOIdeal : Cert.AdamWOIdeal.Facts] : Prop :=
  ∀ (m : (ℓ : Loc Cert.AdamWOIdeal.nD Cert.AdamWOIdeal.τ Cert.AdamWOIdeal.sig) → Buf (Elt Ideal) ℓ) (g : Dev Cert.AdamWOIdeal.nD → PrngReg), Pre_AdamWOIdeal m →
    θ_run (Cert.AdamWOIdeal.defs (F := Ideal)) (onTc (τ := Cert.AdamWOIdeal.τ) (Cert.AdamWOIdeal.main (F := Ideal))) ⟨m, fun _ => 0, g⟩ (fun r => (∀ c : Dev Cert.AdamWOIdeal.nD,
      r.2.mem ((c.tc : Thread Cert.AdamWOIdeal.nD Cert.AdamWOIdeal.τ).loc Cert.AdamWOIdeal.main_arg0) = m ((c.tc : Thread Cert.AdamWOIdeal.nD Cert.AdamWOIdeal.τ).loc Cert.AdamWOIdeal.main_arg0)
      ∧ r.2.mem ((c.tc : Thread Cert.AdamWOIdeal.nD Cert.AdamWOIdeal.τ).loc Cert.AdamWOIdeal.main_arg1) = m ((c.tc : Thread Cert.AdamWOIdeal.nD Cert.AdamWOIdeal.τ).loc Cert.AdamWOIdeal.main_arg1)
      ∧ r.2.mem ((c.tc : Thread Cert.AdamWOIdeal.nD Cert.AdamWOIdeal.τ).loc Cert.AdamWOIdeal.main_arg2) = m ((c.tc : Thread Cert.AdamWOIdeal.nD Cert.AdamWOIdeal.τ).loc Cert.AdamWOIdeal.main_arg2)
      ∧ r.2.mem ((c.tc : Thread Cert.AdamWOIdeal.nD Cert.AdamWOIdeal.τ).loc Cert.AdamWOIdeal.main_arg3) = m ((c.tc : Thread Cert.AdamWOIdeal.nD Cert.AdamWOIdeal.τ).loc Cert.AdamWOIdeal.main_arg3))
      ∧ r.2.sem = fun _ => 0)

def quiescent_AdamWORefIdeal [hAdamWORefIdeal : Cert.AdamWORefIdeal.Facts] : Prop :=
  ∀ (m : (ℓ : Loc Cert.AdamWORefIdeal.nD Cert.AdamWORefIdeal.τ Cert.AdamWORefIdeal.sig) → Buf (Elt Ideal) ℓ) (g : Dev Cert.AdamWORefIdeal.nD → PrngReg), Pre_AdamWORefIdeal m →
    θ_run (Cert.AdamWORefIdeal.defs (F := Ideal)) (onTc (τ := Cert.AdamWORefIdeal.τ) (Cert.AdamWORefIdeal.main (F := Ideal))) ⟨m, fun _ => 0, g⟩ (fun r => (∀ c : Dev Cert.AdamWORefIdeal.nD,
      r.2.mem ((c.tc : Thread Cert.AdamWORefIdeal.nD Cert.AdamWORefIdeal.τ).loc Cert.AdamWORefIdeal.main_arg0) = m ((c.tc : Thread Cert.AdamWORefIdeal.nD Cert.AdamWORefIdeal.τ).loc Cert.AdamWORefIdeal.main_arg0)
      ∧ r.2.mem ((c.tc : Thread Cert.AdamWORefIdeal.nD Cert.AdamWORefIdeal.τ).loc Cert.AdamWORefIdeal.main_arg1) = m ((c.tc : Thread Cert.AdamWORefIdeal.nD Cert.AdamWORefIdeal.τ).loc Cert.AdamWORefIdeal.main_arg1)
      ∧ r.2.mem ((c.tc : Thread Cert.AdamWORefIdeal.nD Cert.AdamWORefIdeal.τ).loc Cert.AdamWORefIdeal.main_arg2) = m ((c.tc : Thread Cert.AdamWORefIdeal.nD Cert.AdamWORefIdeal.τ).loc Cert.AdamWORefIdeal.main_arg2)
      ∧ r.2.mem ((c.tc : Thread Cert.AdamWORefIdeal.nD Cert.AdamWORefIdeal.τ).loc Cert.AdamWORefIdeal.main_arg3) = m ((c.tc : Thread Cert.AdamWORefIdeal.nD Cert.AdamWORefIdeal.τ).loc Cert.AdamWORefIdeal.main_arg3))
      ∧ r.2.sem = fun _ => 0)

def quiescent_AdamWMlp [hAdamWMlp : Cert.AdamWMlp.Facts] : Prop :=
  ∀ (m : (ℓ : Loc Cert.AdamWMlp.nD Cert.AdamWMlp.τ Cert.AdamWMlp.sig) → Buf (Elt Bits) ℓ) (g : Dev Cert.AdamWMlp.nD → PrngReg), Pre_AdamWMlp m →
    θ_run (Cert.AdamWMlp.defs (F := Bits)) (onTc (τ := Cert.AdamWMlp.τ) (Cert.AdamWMlp.main (F := Bits))) ⟨m, fun _ => 0, g⟩ (fun r => (∀ c : Dev Cert.AdamWMlp.nD,
      r.2.mem ((c.tc : Thread Cert.AdamWMlp.nD Cert.AdamWMlp.τ).loc Cert.AdamWMlp.main_arg0) = m ((c.tc : Thread Cert.AdamWMlp.nD Cert.AdamWMlp.τ).loc Cert.AdamWMlp.main_arg0)
      ∧ r.2.mem ((c.tc : Thread Cert.AdamWMlp.nD Cert.AdamWMlp.τ).loc Cert.AdamWMlp.main_arg1) = m ((c.tc : Thread Cert.AdamWMlp.nD Cert.AdamWMlp.τ).loc Cert.AdamWMlp.main_arg1)
      ∧ r.2.mem ((c.tc : Thread Cert.AdamWMlp.nD Cert.AdamWMlp.τ).loc Cert.AdamWMlp.main_arg2) = m ((c.tc : Thread Cert.AdamWMlp.nD Cert.AdamWMlp.τ).loc Cert.AdamWMlp.main_arg2)
      ∧ r.2.mem ((c.tc : Thread Cert.AdamWMlp.nD Cert.AdamWMlp.τ).loc Cert.AdamWMlp.main_arg3) = m ((c.tc : Thread Cert.AdamWMlp.nD Cert.AdamWMlp.τ).loc Cert.AdamWMlp.main_arg3))
      ∧ r.2.sem = fun _ => 0)

def quiescent_AdamWMlpIdeal [hAdamWMlpIdeal : Cert.AdamWMlpIdeal.Facts] : Prop :=
  ∀ (m : (ℓ : Loc Cert.AdamWMlpIdeal.nD Cert.AdamWMlpIdeal.τ Cert.AdamWMlpIdeal.sig) → Buf (Elt Ideal) ℓ) (g : Dev Cert.AdamWMlpIdeal.nD → PrngReg), Pre_AdamWMlpIdeal m →
    θ_run (Cert.AdamWMlpIdeal.defs (F := Ideal)) (onTc (τ := Cert.AdamWMlpIdeal.τ) (Cert.AdamWMlpIdeal.main (F := Ideal))) ⟨m, fun _ => 0, g⟩ (fun r => (∀ c : Dev Cert.AdamWMlpIdeal.nD,
      r.2.mem ((c.tc : Thread Cert.AdamWMlpIdeal.nD Cert.AdamWMlpIdeal.τ).loc Cert.AdamWMlpIdeal.main_arg0) = m ((c.tc : Thread Cert.AdamWMlpIdeal.nD Cert.AdamWMlpIdeal.τ).loc Cert.AdamWMlpIdeal.main_arg0)
      ∧ r.2.mem ((c.tc : Thread Cert.AdamWMlpIdeal.nD Cert.AdamWMlpIdeal.τ).loc Cert.AdamWMlpIdeal.main_arg1) = m ((c.tc : Thread Cert.AdamWMlpIdeal.nD Cert.AdamWMlpIdeal.τ).loc Cert.AdamWMlpIdeal.main_arg1)
      ∧ r.2.mem ((c.tc : Thread Cert.AdamWMlpIdeal.nD Cert.AdamWMlpIdeal.τ).loc Cert.AdamWMlpIdeal.main_arg2) = m ((c.tc : Thread Cert.AdamWMlpIdeal.nD Cert.AdamWMlpIdeal.τ).loc Cert.AdamWMlpIdeal.main_arg2)
      ∧ r.2.mem ((c.tc : Thread Cert.AdamWMlpIdeal.nD Cert.AdamWMlpIdeal.τ).loc Cert.AdamWMlpIdeal.main_arg3) = m ((c.tc : Thread Cert.AdamWMlpIdeal.nD Cert.AdamWMlpIdeal.τ).loc Cert.AdamWMlpIdeal.main_arg3))
      ∧ r.2.sem = fun _ => 0)

def quiescent_AdamWMlpRefIdeal [hAdamWMlpRefIdeal : Cert.AdamWMlpRefIdeal.Facts] : Prop :=
  ∀ (m : (ℓ : Loc Cert.AdamWMlpRefIdeal.nD Cert.AdamWMlpRefIdeal.τ Cert.AdamWMlpRefIdeal.sig) → Buf (Elt Ideal) ℓ) (g : Dev Cert.AdamWMlpRefIdeal.nD → PrngReg), Pre_AdamWMlpRefIdeal m →
    θ_run (Cert.AdamWMlpRefIdeal.defs (F := Ideal)) (onTc (τ := Cert.AdamWMlpRefIdeal.τ) (Cert.AdamWMlpRefIdeal.main (F := Ideal))) ⟨m, fun _ => 0, g⟩ (fun r => (∀ c : Dev Cert.AdamWMlpRefIdeal.nD,
      r.2.mem ((c.tc : Thread Cert.AdamWMlpRefIdeal.nD Cert.AdamWMlpRefIdeal.τ).loc Cert.AdamWMlpRefIdeal.main_arg0) = m ((c.tc : Thread Cert.AdamWMlpRefIdeal.nD Cert.AdamWMlpRefIdeal.τ).loc Cert.AdamWMlpRefIdeal.main_arg0)
      ∧ r.2.mem ((c.tc : Thread Cert.AdamWMlpRefIdeal.nD Cert.AdamWMlpRefIdeal.τ).loc Cert.AdamWMlpRefIdeal.main_arg1) = m ((c.tc : Thread Cert.AdamWMlpRefIdeal.nD Cert.AdamWMlpRefIdeal.τ).loc Cert.AdamWMlpRefIdeal.main_arg1)
      ∧ r.2.mem ((c.tc : Thread Cert.AdamWMlpRefIdeal.nD Cert.AdamWMlpRefIdeal.τ).loc Cert.AdamWMlpRefIdeal.main_arg2) = m ((c.tc : Thread Cert.AdamWMlpRefIdeal.nD Cert.AdamWMlpRefIdeal.τ).loc Cert.AdamWMlpRefIdeal.main_arg2)
      ∧ r.2.mem ((c.tc : Thread Cert.AdamWMlpRefIdeal.nD Cert.AdamWMlpRefIdeal.τ).loc Cert.AdamWMlpRefIdeal.main_arg3) = m ((c.tc : Thread Cert.AdamWMlpRefIdeal.nD Cert.AdamWMlpRefIdeal.τ).loc Cert.AdamWMlpRefIdeal.main_arg3))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_RopeDx [hRopeDx : Cert.RopeDx.Facts] : Prop :=
  ∀ (m : (ℓ : Loc Cert.RopeDx.nD Cert.RopeDx.τ Cert.RopeDx.sig) → Buf (Elt Bits) ℓ) (g : Dev Cert.RopeDx.nD → PrngReg), Pre_RopeDx m →
    θ_run (Cert.RopeDx.defs (F := Bits)) (onTc (τ := Cert.RopeDx.τ) (Cert.RopeDx.main (F := Bits))) ⟨m, fun _ => 0, g⟩ (fun r => (∀ c : Dev Cert.RopeDx.nD,
      r.2.mem ((c.tc : Thread Cert.RopeDx.nD Cert.RopeDx.τ).loc Cert.RopeDx.main_arg0) = m ((c.tc : Thread Cert.RopeDx.nD Cert.RopeDx.τ).loc Cert.RopeDx.main_arg0))
      ∧ r.2.sem = fun _ => 0)

def quiescent_RopeDxIdeal [hRopeDxIdeal : Cert.RopeDxIdeal.Facts] : Prop :=
  ∀ (m : (ℓ : Loc Cert.RopeDxIdeal.nD Cert.RopeDxIdeal.τ Cert.RopeDxIdeal.sig) → Buf (Elt Ideal) ℓ) (g : Dev Cert.RopeDxIdeal.nD → PrngReg), Pre_RopeDxIdeal m →
    θ_run (Cert.RopeDxIdeal.defs (F := Ideal)) (onTc (τ := Cert.RopeDxIdeal.τ) (Cert.RopeDxIdeal.main (F := Ideal))) ⟨m, fun _ => 0, g⟩ (fun r => (∀ c : Dev Cert.RopeDxIdeal.nD,
      r.2.mem ((c.tc : Thread Cert.RopeDxIdeal.nD Cert.RopeDxIdeal.τ).loc Cert.RopeDxIdeal.main_arg0) = m ((c.tc : Thread Cert.RopeDxIdeal.nD Cert.RopeDxIdeal.τ).loc Cert.RopeDxIdeal.main_arg0))
      ∧ r.2.sem = fun _ => 0)

def quiescent_RopeDxRefIdeal [hRopeDxRefIdeal : Cert.RopeDxRefIdeal.Facts] : Prop :=
  ∀ (m : (ℓ : Loc Cert.RopeDxRefIdeal.nD Cert.RopeDxRefIdeal.τ Cert.RopeDxRefIdeal.sig) → Buf (Elt Ideal) ℓ) (g : Dev Cert.RopeDxRefIdeal.nD → PrngReg), Pre_RopeDxRefIdeal m →
    θ_run (Cert.RopeDxRefIdeal.defs (F := Ideal)) (onTc (τ := Cert.RopeDxRefIdeal.τ) (Cert.RopeDxRefIdeal.main (F := Ideal))) ⟨m, fun _ => 0, g⟩ (fun r => (∀ c : Dev Cert.RopeDxRefIdeal.nD,
      r.2.mem ((c.tc : Thread Cert.RopeDxRefIdeal.nD Cert.RopeDxRefIdeal.τ).loc Cert.RopeDxRefIdeal.main_arg0) = m ((c.tc : Thread Cert.RopeDxRefIdeal.nD Cert.RopeDxRefIdeal.τ).loc Cert.RopeDxRefIdeal.main_arg0))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1))
      ∧ r.2.sem = fun _ => 0)

def quiescent_QSplit [hQSplit : Cert.QSplit.Facts] : Prop :=
  ∀ (m : (ℓ : Loc Cert.QSplit.nD Cert.QSplit.τ Cert.QSplit.sig) → Buf (Elt Bits) ℓ) (g : Dev Cert.QSplit.nD → PrngReg), Pre_QSplit m →
    θ_run (Cert.QSplit.defs (F := Bits)) (onTc (τ := Cert.QSplit.τ) (Cert.QSplit.main (F := Bits))) ⟨m, fun _ => 0, g⟩ (fun r => (∀ c : Dev Cert.QSplit.nD,
      r.2.mem ((c.tc : Thread Cert.QSplit.nD Cert.QSplit.τ).loc Cert.QSplit.main_arg0) = m ((c.tc : Thread Cert.QSplit.nD Cert.QSplit.τ).loc Cert.QSplit.main_arg0))
      ∧ r.2.sem = fun _ => 0)

def quiescent_QSplitIdeal [hQSplitIdeal : Cert.QSplitIdeal.Facts] : Prop :=
  ∀ (m : (ℓ : Loc Cert.QSplitIdeal.nD Cert.QSplitIdeal.τ Cert.QSplitIdeal.sig) → Buf (Elt Ideal) ℓ) (g : Dev Cert.QSplitIdeal.nD → PrngReg), Pre_QSplitIdeal m →
    θ_run (Cert.QSplitIdeal.defs (F := Ideal)) (onTc (τ := Cert.QSplitIdeal.τ) (Cert.QSplitIdeal.main (F := Ideal))) ⟨m, fun _ => 0, g⟩ (fun r => (∀ c : Dev Cert.QSplitIdeal.nD,
      r.2.mem ((c.tc : Thread Cert.QSplitIdeal.nD Cert.QSplitIdeal.τ).loc Cert.QSplitIdeal.main_arg0) = m ((c.tc : Thread Cert.QSplitIdeal.nD Cert.QSplitIdeal.τ).loc Cert.QSplitIdeal.main_arg0))
      ∧ r.2.sem = fun _ => 0)

def quiescent_QSplitRefIdeal [hQSplitRefIdeal : Cert.QSplitRefIdeal.Facts] : Prop :=
  ∀ (m : (ℓ : Loc Cert.QSplitRefIdeal.nD Cert.QSplitRefIdeal.τ Cert.QSplitRefIdeal.sig) → Buf (Elt Ideal) ℓ) (g : Dev Cert.QSplitRefIdeal.nD → PrngReg), Pre_QSplitRefIdeal m →
    θ_run (Cert.QSplitRefIdeal.defs (F := Ideal)) (onTc (τ := Cert.QSplitRefIdeal.τ) (Cert.QSplitRefIdeal.main (F := Ideal))) ⟨m, fun _ => 0, g⟩ (fun r => (∀ c : Dev Cert.QSplitRefIdeal.nD,
      r.2.mem ((c.tc : Thread Cert.QSplitRefIdeal.nD Cert.QSplitRefIdeal.τ).loc Cert.QSplitRefIdeal.main_arg0) = m ((c.tc : Thread Cert.QSplitRefIdeal.nD Cert.QSplitRefIdeal.τ).loc Cert.QSplitRefIdeal.main_arg0))
      ∧ r.2.sem = fun _ => 0)

def quiescent_DoSplit [hDoSplit : Cert.DoSplit.Facts] : Prop :=
  ∀ (m : (ℓ : Loc Cert.DoSplit.nD Cert.DoSplit.τ Cert.DoSplit.sig) → Buf (Elt Bits) ℓ) (g : Dev Cert.DoSplit.nD → PrngReg), Pre_DoSplit m →
    θ_run (Cert.DoSplit.defs (F := Bits)) (onTc (τ := Cert.DoSplit.τ) (Cert.DoSplit.main (F := Bits))) ⟨m, fun _ => 0, g⟩ (fun r => (∀ c : Dev Cert.DoSplit.nD,
      r.2.mem ((c.tc : Thread Cert.DoSplit.nD Cert.DoSplit.τ).loc Cert.DoSplit.main_arg0) = m ((c.tc : Thread Cert.DoSplit.nD Cert.DoSplit.τ).loc Cert.DoSplit.main_arg0))
      ∧ r.2.sem = fun _ => 0)

def quiescent_DoSplitIdeal [hDoSplitIdeal : Cert.DoSplitIdeal.Facts] : Prop :=
  ∀ (m : (ℓ : Loc Cert.DoSplitIdeal.nD Cert.DoSplitIdeal.τ Cert.DoSplitIdeal.sig) → Buf (Elt Ideal) ℓ) (g : Dev Cert.DoSplitIdeal.nD → PrngReg), Pre_DoSplitIdeal m →
    θ_run (Cert.DoSplitIdeal.defs (F := Ideal)) (onTc (τ := Cert.DoSplitIdeal.τ) (Cert.DoSplitIdeal.main (F := Ideal))) ⟨m, fun _ => 0, g⟩ (fun r => (∀ c : Dev Cert.DoSplitIdeal.nD,
      r.2.mem ((c.tc : Thread Cert.DoSplitIdeal.nD Cert.DoSplitIdeal.τ).loc Cert.DoSplitIdeal.main_arg0) = m ((c.tc : Thread Cert.DoSplitIdeal.nD Cert.DoSplitIdeal.τ).loc Cert.DoSplitIdeal.main_arg0))
      ∧ r.2.sem = fun _ => 0)

def quiescent_DoSplitRefIdeal [hDoSplitRefIdeal : Cert.DoSplitRefIdeal.Facts] : Prop :=
  ∀ (m : (ℓ : Loc Cert.DoSplitRefIdeal.nD Cert.DoSplitRefIdeal.τ Cert.DoSplitRefIdeal.sig) → Buf (Elt Ideal) ℓ) (g : Dev Cert.DoSplitRefIdeal.nD → PrngReg), Pre_DoSplitRefIdeal m →
    θ_run (Cert.DoSplitRefIdeal.defs (F := Ideal)) (onTc (τ := Cert.DoSplitRefIdeal.τ) (Cert.DoSplitRefIdeal.main (F := Ideal))) ⟨m, fun _ => 0, g⟩ (fun r => (∀ c : Dev Cert.DoSplitRefIdeal.nD,
      r.2.mem ((c.tc : Thread Cert.DoSplitRefIdeal.nD Cert.DoSplitRefIdeal.τ).loc Cert.DoSplitRefIdeal.main_arg0) = m ((c.tc : Thread Cert.DoSplitRefIdeal.nD Cert.DoSplitRefIdeal.τ).loc Cert.DoSplitRefIdeal.main_arg0))
      ∧ r.2.sem = fun _ => 0)

def quiescent_DqMerge [hDqMerge : Cert.DqMerge.Facts] : Prop :=
  ∀ (m : (ℓ : Loc Cert.DqMerge.nD Cert.DqMerge.τ Cert.DqMerge.sig) → Buf (Elt Bits) ℓ) (g : Dev Cert.DqMerge.nD → PrngReg), Pre_DqMerge m →
    θ_run (Cert.DqMerge.defs (F := Bits)) (onTc (τ := Cert.DqMerge.τ) (Cert.DqMerge.main (F := Bits))) ⟨m, fun _ => 0, g⟩ (fun r => (∀ c : Dev Cert.DqMerge.nD,
      r.2.mem ((c.tc : Thread Cert.DqMerge.nD Cert.DqMerge.τ).loc Cert.DqMerge.main_arg0) = m ((c.tc : Thread Cert.DqMerge.nD Cert.DqMerge.τ).loc Cert.DqMerge.main_arg0))
      ∧ r.2.sem = fun _ => 0)

def quiescent_DqMergeIdeal [hDqMergeIdeal : Cert.DqMergeIdeal.Facts] : Prop :=
  ∀ (m : (ℓ : Loc Cert.DqMergeIdeal.nD Cert.DqMergeIdeal.τ Cert.DqMergeIdeal.sig) → Buf (Elt Ideal) ℓ) (g : Dev Cert.DqMergeIdeal.nD → PrngReg), Pre_DqMergeIdeal m →
    θ_run (Cert.DqMergeIdeal.defs (F := Ideal)) (onTc (τ := Cert.DqMergeIdeal.τ) (Cert.DqMergeIdeal.main (F := Ideal))) ⟨m, fun _ => 0, g⟩ (fun r => (∀ c : Dev Cert.DqMergeIdeal.nD,
      r.2.mem ((c.tc : Thread Cert.DqMergeIdeal.nD Cert.DqMergeIdeal.τ).loc Cert.DqMergeIdeal.main_arg0) = m ((c.tc : Thread Cert.DqMergeIdeal.nD Cert.DqMergeIdeal.τ).loc Cert.DqMergeIdeal.main_arg0))
      ∧ r.2.sem = fun _ => 0)

def quiescent_DqMergeRefIdeal [hDqMergeRefIdeal : Cert.DqMergeRefIdeal.Facts] : Prop :=
  ∀ (m : (ℓ : Loc Cert.DqMergeRefIdeal.nD Cert.DqMergeRefIdeal.τ Cert.DqMergeRefIdeal.sig) → Buf (Elt Ideal) ℓ) (g : Dev Cert.DqMergeRefIdeal.nD → PrngReg), Pre_DqMergeRefIdeal m →
    θ_run (Cert.DqMergeRefIdeal.defs (F := Ideal)) (onTc (τ := Cert.DqMergeRefIdeal.τ) (Cert.DqMergeRefIdeal.main (F := Ideal))) ⟨m, fun _ => 0, g⟩ (fun r => (∀ c : Dev Cert.DqMergeRefIdeal.nD,
      r.2.mem ((c.tc : Thread Cert.DqMergeRefIdeal.nD Cert.DqMergeRefIdeal.τ).loc Cert.DqMergeRefIdeal.main_arg0) = m ((c.tc : Thread Cert.DqMergeRefIdeal.nD Cert.DqMergeRefIdeal.τ).loc Cert.DqMergeRefIdeal.main_arg0))
      ∧ r.2.sem = fun _ => 0)

def quiescent_OMerge [hOMerge : Cert.OMerge.Facts] : Prop :=
  ∀ (m : (ℓ : Loc Cert.OMerge.nD Cert.OMerge.τ Cert.OMerge.sig) → Buf (Elt Bits) ℓ) (g : Dev Cert.OMerge.nD → PrngReg), Pre_OMerge m →
    θ_run (Cert.OMerge.defs (F := Bits)) (onTc (τ := Cert.OMerge.τ) (Cert.OMerge.main (F := Bits))) ⟨m, fun _ => 0, g⟩ (fun r => (∀ c : Dev Cert.OMerge.nD,
      r.2.mem ((c.tc : Thread Cert.OMerge.nD Cert.OMerge.τ).loc Cert.OMerge.main_arg0) = m ((c.tc : Thread Cert.OMerge.nD Cert.OMerge.τ).loc Cert.OMerge.main_arg0))
      ∧ r.2.sem = fun _ => 0)

def quiescent_OMergeIdeal [hOMergeIdeal : Cert.OMergeIdeal.Facts] : Prop :=
  ∀ (m : (ℓ : Loc Cert.OMergeIdeal.nD Cert.OMergeIdeal.τ Cert.OMergeIdeal.sig) → Buf (Elt Ideal) ℓ) (g : Dev Cert.OMergeIdeal.nD → PrngReg), Pre_OMergeIdeal m →
    θ_run (Cert.OMergeIdeal.defs (F := Ideal)) (onTc (τ := Cert.OMergeIdeal.τ) (Cert.OMergeIdeal.main (F := Ideal))) ⟨m, fun _ => 0, g⟩ (fun r => (∀ c : Dev Cert.OMergeIdeal.nD,
      r.2.mem ((c.tc : Thread Cert.OMergeIdeal.nD Cert.OMergeIdeal.τ).loc Cert.OMergeIdeal.main_arg0) = m ((c.tc : Thread Cert.OMergeIdeal.nD Cert.OMergeIdeal.τ).loc Cert.OMergeIdeal.main_arg0))
      ∧ r.2.sem = fun _ => 0)

def quiescent_OMergeRefIdeal [hOMergeRefIdeal : Cert.OMergeRefIdeal.Facts] : Prop :=
  ∀ (m : (ℓ : Loc Cert.OMergeRefIdeal.nD Cert.OMergeRefIdeal.τ Cert.OMergeRefIdeal.sig) → Buf (Elt Ideal) ℓ) (g : Dev Cert.OMergeRefIdeal.nD → PrngReg), Pre_OMergeRefIdeal m →
    θ_run (Cert.OMergeRefIdeal.defs (F := Ideal)) (onTc (τ := Cert.OMergeRefIdeal.τ) (Cert.OMergeRefIdeal.main (F := Ideal))) ⟨m, fun _ => 0, g⟩ (fun r => (∀ c : Dev Cert.OMergeRefIdeal.nD,
      r.2.mem ((c.tc : Thread Cert.OMergeRefIdeal.nD Cert.OMergeRefIdeal.τ).loc Cert.OMergeRefIdeal.main_arg0) = m ((c.tc : Thread Cert.OMergeRefIdeal.nD Cert.OMergeRefIdeal.τ).loc Cert.OMergeRefIdeal.main_arg0))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E16C740#32 (((Real.sqrt 96)⁻¹ * (Real.log 2)⁻¹ : ℝ) : EReal)
  ∧ IdealRules.named_const.Statement Cert.KernelIdeal.κ "scale" .f32 0x3DD105EC#32 (((Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_v6) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v7) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)
      ∧ m' ((c.tc : Thread Cert.DownDwRefIdeal.nD Cert.DownDwRefIdeal.τ).loc Cert.DownDwRefIdeal.main_arg3) = m ((c.tc : Thread Cert.DownDwIdeal.nD Cert.DownDwIdeal.τ).loc Cert.DownDwIdeal.main_arg3)) →
    ∃ (v0 : (c : Dev Cert.DownDwIdeal.nD) → Buf (Elt Ideal) ((c.tc : Thread Cert.DownDwIdeal.nD Cert.DownDwIdeal.τ).loc Cert.DownDwIdeal.main_v6)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v6) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2)
          ∧ r.2.mem ((c.tc : Thread Cert.DownDwIdeal.nD Cert.DownDwIdeal.τ).loc Cert.DownDwIdeal.main_arg3) = m ((c.tc : Thread Cert.DownDwIdeal.nD Cert.DownDwIdeal.τ).loc Cert.DownDwIdeal.main_arg3))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v9) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2)
          ∧ r.2.mem ((c.tc : Thread Cert.DownDwRefIdeal.nD Cert.DownDwRefIdeal.τ).loc Cert.DownDwRefIdeal.main_arg3) = m' ((c.tc : Thread Cert.DownDwRefIdeal.nD Cert.DownDwRefIdeal.τ).loc Cert.DownDwRefIdeal.main_arg3))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)
      ∧ m' ((c.tc : Thread Cert.DownDxRefIdeal.nD Cert.DownDxRefIdeal.τ).loc Cert.DownDxRefIdeal.main_arg3) = m ((c.tc : Thread Cert.DownDxIdeal.nD Cert.DownDxIdeal.τ).loc Cert.DownDxIdeal.main_arg3)) →
    ∃ (v0 : (c : Dev Cert.DownDxIdeal.nD) → Buf (Elt Ideal) ((c.tc : Thread Cert.DownDxIdeal.nD Cert.DownDxIdeal.τ).loc Cert.DownDxIdeal.main_v5)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v5) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
          ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v17) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2)
          ∧ r.2.mem ((c.tc : Thread Cert.DownDxRefIdeal.nD Cert.DownDxRefIdeal.τ).loc Cert.DownDxRefIdeal.main_arg3) = m' ((c.tc : Thread Cert.DownDxRefIdeal.nD Cert.DownDxRefIdeal.τ).loc Cert.DownDxRefIdeal.main_arg3))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)
      ∧ m' ((c.tc : Thread Cert.UpDwRefIdeal.nD Cert.UpDwRefIdeal.τ).loc Cert.UpDwRefIdeal.main_arg3) = m ((c.tc : Thread Cert.UpDwIdeal.nD Cert.UpDwIdeal.τ).loc Cert.UpDwIdeal.main_arg3)) →
    ∃ (v0 : (c : Dev Cert.UpDwIdeal.nD) → Buf (Elt Ideal) ((c.tc : Thread Cert.UpDwIdeal.nD Cert.UpDwIdeal.τ).loc Cert.UpDwIdeal.main_v18)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v18) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
          ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v18) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2)
          ∧ r.2.mem ((c.tc : Thread Cert.UpDwRefIdeal.nD Cert.UpDwRefIdeal.τ).loc Cert.UpDwRefIdeal.main_arg3) = m' ((c.tc : Thread Cert.UpDwRefIdeal.nD Cert.UpDwRefIdeal.τ).loc Cert.UpDwRefIdeal.main_arg3))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)) →
    ∃ (v0 : (c : Dev Cert.UpDxIdeal.nD) → Buf (Elt Ideal) ((c.tc : Thread Cert.UpDxIdeal.nD Cert.UpDxIdeal.τ).loc Cert.UpDxIdeal.main_v18)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v18) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v17) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v3) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2))

def preserves_Lat_LatIdeal : Prop :=
  True

def algebraic_LatIdeal_LatRefIdeal [hLatIdeal : Cert.LatIdeal.Facts] [hLatRefIdeal : Cert.LatRefIdeal.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)) →
    ∃ (v0 : (c : Dev Cert.LatIdeal.nD) → Buf (Elt Ideal) ((c.tc : Thread Cert.LatIdeal.nD Cert.LatIdeal.τ).loc Cert.LatIdeal.main_v0)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v0) = v0 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v2) = v0 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1))

def preserves_LatDw_LatDwIdeal : Prop :=
  True

def algebraic_LatDwIdeal_LatDwRefIdeal [hLatDwIdeal : Cert.LatDwIdeal.Facts] [hLatDwRefIdeal : Cert.LatDwRefIdeal.Facts] : Prop :=
  ∀ (m : (ℓ : Loc Cert.LatDwIdeal.nD Cert.LatDwIdeal.τ Cert.LatDwIdeal.sig) → Buf (Elt Ideal) ℓ) (g : Dev Cert.LatDwIdeal.nD → PrngReg)
    (m' : (ℓ : Loc Cert.LatDwRefIdeal.nD Cert.LatDwRefIdeal.τ Cert.LatDwRefIdeal.sig) → Buf (Elt Ideal) ℓ) (g' : Dev Cert.LatDwRefIdeal.nD → PrngReg), Pre_LatDwIdeal m →
    (∀ c : Dev Cert.LatDwIdeal.nD,
      m' ((c.tc : Thread Cert.LatDwRefIdeal.nD Cert.LatDwRefIdeal.τ).loc Cert.LatDwRefIdeal.main_arg0) = m ((c.tc : Thread Cert.LatDwIdeal.nD Cert.LatDwIdeal.τ).loc Cert.LatDwIdeal.main_arg0)
      ∧ m' ((c.tc : Thread Cert.LatDwRefIdeal.nD Cert.LatDwRefIdeal.τ).loc Cert.LatDwRefIdeal.main_arg1) = m ((c.tc : Thread Cert.LatDwIdeal.nD Cert.LatDwIdeal.τ).loc Cert.LatDwIdeal.main_arg1)
      ∧ m' ((c.tc : Thread Cert.LatDwRefIdeal.nD Cert.LatDwRefIdeal.τ).loc Cert.LatDwRefIdeal.main_arg2) = m ((c.tc : Thread Cert.LatDwIdeal.nD Cert.LatDwIdeal.τ).loc Cert.LatDwIdeal.main_arg2)) →
    ∃ (v0 : (c : Dev Cert.LatDwIdeal.nD) → Buf (Elt Ideal) ((c.tc : Thread Cert.LatDwIdeal.nD Cert.LatDwIdeal.τ).loc Cert.LatDwIdeal.main_v0)),
      θ_run (Cert.LatDwIdeal.defs (F := Ideal)) (onTc (τ := Cert.LatDwIdeal.τ) (Cert.LatDwIdeal.main (F := Ideal))) ⟨m, fun _ => 0, g⟩ (fun r => ∀ c : Dev Cert.LatDwIdeal.nD,
          r.2.mem ((c.tc : Thread Cert.LatDwIdeal.nD Cert.LatDwIdeal.τ).loc Cert.LatDwIdeal.main_v0) = v0 c
          ∧ r.2.mem ((c.tc : Thread Cert.LatDwIdeal.nD Cert.LatDwIdeal.τ).loc Cert.LatDwIdeal.main_arg0) = m ((c.tc : Thread Cert.LatDwIdeal.nD Cert.LatDwIdeal.τ).loc Cert.LatDwIdeal.main_arg0)
          ∧ r.2.mem ((c.tc : Thread Cert.LatDwIdeal.nD Cert.LatDwIdeal.τ).loc Cert.LatDwIdeal.main_arg1) = m ((c.tc : Thread Cert.LatDwIdeal.nD Cert.LatDwIdeal.τ).loc Cert.LatDwIdeal.main_arg1)
          ∧ r.2.mem ((c.tc : Thread Cert.LatDwIdeal.nD Cert.LatDwIdeal.τ).loc Cert.LatDwIdeal.main_arg2) = m ((c.tc : Thread Cert.LatDwIdeal.nD Cert.LatDwIdeal.τ).loc Cert.LatDwIdeal.main_arg2))
      ∧ θ_run (Cert.LatDwRefIdeal.defs (F := Ideal)) (onTc (τ := Cert.LatDwRefIdeal.τ) (Cert.LatDwRefIdeal.main (F := Ideal))) ⟨m', fun _ => 0, g'⟩ (fun r => ∀ c : Dev Cert.LatDwRefIdeal.nD,
          r.2.mem ((c.tc : Thread Cert.LatDwRefIdeal.nD Cert.LatDwRefIdeal.τ).loc Cert.LatDwRefIdeal.main_v5) = v0 c
          ∧ r.2.mem ((c.tc : Thread Cert.LatDwRefIdeal.nD Cert.LatDwRefIdeal.τ).loc Cert.LatDwRefIdeal.main_arg0) = m' ((c.tc : Thread Cert.LatDwRefIdeal.nD Cert.LatDwRefIdeal.τ).loc Cert.LatDwRefIdeal.main_arg0)
          ∧ r.2.mem ((c.tc : Thread Cert.LatDwRefIdeal.nD Cert.LatDwRefIdeal.τ).loc Cert.LatDwRefIdeal.main_arg1) = m' ((c.tc : Thread Cert.LatDwRefIdeal.nD Cert.LatDwRefIdeal.τ).loc Cert.LatDwRefIdeal.main_arg1)
          ∧ r.2.mem ((c.tc : Thread Cert.LatDwRefIdeal.nD Cert.LatDwRefIdeal.τ).loc Cert.LatDwRefIdeal.main_arg2) = m' ((c.tc : Thread Cert.LatDwRefIdeal.nD Cert.LatDwRefIdeal.τ).loc Cert.LatDwRefIdeal.main_arg2))

def preserves_LatDx_LatDxIdeal : Prop :=
  True

def algebraic_LatDxIdeal_LatDxRefIdeal [hLatDxIdeal : Cert.LatDxIdeal.Facts] [hLatDxRefIdeal : Cert.LatDxRefIdeal.Facts] : Prop :=
  ∀ (m : (ℓ : Loc Cert.LatDxIdeal.nD Cert.LatDxIdeal.τ Cert.LatDxIdeal.sig) → Buf (Elt Ideal) ℓ) (g : Dev Cert.LatDxIdeal.nD → PrngReg)
    (m' : (ℓ : Loc Cert.LatDxRefIdeal.nD Cert.LatDxRefIdeal.τ Cert.LatDxRefIdeal.sig) → Buf (Elt Ideal) ℓ) (g' : Dev Cert.LatDxRefIdeal.nD → PrngReg), Pre_LatDxIdeal m →
    (∀ c : Dev Cert.LatDxIdeal.nD,
      m' ((c.tc : Thread Cert.LatDxRefIdeal.nD Cert.LatDxRefIdeal.τ).loc Cert.LatDxRefIdeal.main_arg0) = m ((c.tc : Thread Cert.LatDxIdeal.nD Cert.LatDxIdeal.τ).loc Cert.LatDxIdeal.main_arg0)
      ∧ m' ((c.tc : Thread Cert.LatDxRefIdeal.nD Cert.LatDxRefIdeal.τ).loc Cert.LatDxRefIdeal.main_arg1) = m ((c.tc : Thread Cert.LatDxIdeal.nD Cert.LatDxIdeal.τ).loc Cert.LatDxIdeal.main_arg1)
      ∧ m' ((c.tc : Thread Cert.LatDxRefIdeal.nD Cert.LatDxRefIdeal.τ).loc Cert.LatDxRefIdeal.main_arg2) = m ((c.tc : Thread Cert.LatDxIdeal.nD Cert.LatDxIdeal.τ).loc Cert.LatDxIdeal.main_arg2)) →
    ∃ (v0 : (c : Dev Cert.LatDxIdeal.nD) → Buf (Elt Ideal) ((c.tc : Thread Cert.LatDxIdeal.nD Cert.LatDxIdeal.τ).loc Cert.LatDxIdeal.main_v0)),
      θ_run (Cert.LatDxIdeal.defs (F := Ideal)) (onTc (τ := Cert.LatDxIdeal.τ) (Cert.LatDxIdeal.main (F := Ideal))) ⟨m, fun _ => 0, g⟩ (fun r => ∀ c : Dev Cert.LatDxIdeal.nD,
          r.2.mem ((c.tc : Thread Cert.LatDxIdeal.nD Cert.LatDxIdeal.τ).loc Cert.LatDxIdeal.main_v0) = v0 c
          ∧ r.2.mem ((c.tc : Thread Cert.LatDxIdeal.nD Cert.LatDxIdeal.τ).loc Cert.LatDxIdeal.main_arg0) = m ((c.tc : Thread Cert.LatDxIdeal.nD Cert.LatDxIdeal.τ).loc Cert.LatDxIdeal.main_arg0)
          ∧ r.2.mem ((c.tc : Thread Cert.LatDxIdeal.nD Cert.LatDxIdeal.τ).loc Cert.LatDxIdeal.main_arg1) = m ((c.tc : Thread Cert.LatDxIdeal.nD Cert.LatDxIdeal.τ).loc Cert.LatDxIdeal.main_arg1)
          ∧ r.2.mem ((c.tc : Thread Cert.LatDxIdeal.nD Cert.LatDxIdeal.τ).loc Cert.LatDxIdeal.main_arg2) = m ((c.tc : Thread Cert.LatDxIdeal.nD Cert.LatDxIdeal.τ).loc Cert.LatDxIdeal.main_arg2))
      ∧ θ_run (Cert.LatDxRefIdeal.defs (F := Ideal)) (onTc (τ := Cert.LatDxRefIdeal.τ) (Cert.LatDxRefIdeal.main (F := Ideal))) ⟨m', fun _ => 0, g'⟩ (fun r => ∀ c : Dev Cert.LatDxRefIdeal.nD,
          r.2.mem ((c.tc : Thread Cert.LatDxRefIdeal.nD Cert.LatDxRefIdeal.τ).loc Cert.LatDxRefIdeal.main_v4) = v0 c
          ∧ r.2.mem ((c.tc : Thread Cert.LatDxRefIdeal.nD Cert.LatDxRefIdeal.τ).loc Cert.LatDxRefIdeal.main_arg0) = m' ((c.tc : Thread Cert.LatDxRefIdeal.nD Cert.LatDxRefIdeal.τ).loc Cert.LatDxRefIdeal.main_arg0)
          ∧ r.2.mem ((c.tc : Thread Cert.LatDxRefIdeal.nD Cert.LatDxRefIdeal.τ).loc Cert.LatDxRefIdeal.main_arg1) = m' ((c.tc : Thread Cert.LatDxRefIdeal.nD Cert.LatDxRefIdeal.τ).loc Cert.LatDxRefIdeal.main_arg1)
          ∧ r.2.mem ((c.tc : Thread Cert.LatDxRefIdeal.nD Cert.LatDxRefIdeal.τ).loc Cert.LatDxRefIdeal.main_arg2) = m' ((c.tc : Thread Cert.LatDxRefIdeal.nD Cert.LatDxRefIdeal.τ).loc Cert.LatDxRefIdeal.main_arg2))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v0)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v0) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v2) = v0 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1))

def preserves_UqDw_UqDwIdeal : Prop :=
  True

def algebraic_UqDwIdeal_UqDwRefIdeal [hUqDwIdeal : Cert.UqDwIdeal.Facts] [hUqDwRefIdeal : Cert.UqDwRefIdeal.Facts] : Prop :=
  ∀ (m : (ℓ : Loc Cert.UqDwIdeal.nD Cert.UqDwIdeal.τ Cert.UqDwIdeal.sig) → Buf (Elt Ideal) ℓ) (g : Dev Cert.UqDwIdeal.nD → PrngReg)
    (m' : (ℓ : Loc Cert.UqDwRefIdeal.nD Cert.UqDwRefIdeal.τ Cert.UqDwRefIdeal.sig) → Buf (Elt Ideal) ℓ) (g' : Dev Cert.UqDwRefIdeal.nD → PrngReg), Pre_UqDwIdeal m →
    (∀ c : Dev Cert.UqDwIdeal.nD,
      m' ((c.tc : Thread Cert.UqDwRefIdeal.nD Cert.UqDwRefIdeal.τ).loc Cert.UqDwRefIdeal.main_arg0) = m ((c.tc : Thread Cert.UqDwIdeal.nD Cert.UqDwIdeal.τ).loc Cert.UqDwIdeal.main_arg0)
      ∧ m' ((c.tc : Thread Cert.UqDwRefIdeal.nD Cert.UqDwRefIdeal.τ).loc Cert.UqDwRefIdeal.main_arg1) = m ((c.tc : Thread Cert.UqDwIdeal.nD Cert.UqDwIdeal.τ).loc Cert.UqDwIdeal.main_arg1)
      ∧ m' ((c.tc : Thread Cert.UqDwRefIdeal.nD Cert.UqDwRefIdeal.τ).loc Cert.UqDwRefIdeal.main_arg2) = m ((c.tc : Thread Cert.UqDwIdeal.nD Cert.UqDwIdeal.τ).loc Cert.UqDwIdeal.main_arg2)) →
    ∃ (v0 : (c : Dev Cert.UqDwIdeal.nD) → Buf (Elt Ideal) ((c.tc : Thread Cert.UqDwIdeal.nD Cert.UqDwIdeal.τ).loc Cert.UqDwIdeal.main_v0)),
      θ_run (Cert.UqDwIdeal.defs (F := Ideal)) (onTc (τ := Cert.UqDwIdeal.τ) (Cert.UqDwIdeal.main (F := Ideal))) ⟨m, fun _ => 0, g⟩ (fun r => ∀ c : Dev Cert.UqDwIdeal.nD,
          r.2.mem ((c.tc : Thread Cert.UqDwIdeal.nD Cert.UqDwIdeal.τ).loc Cert.UqDwIdeal.main_v0) = v0 c
          ∧ r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
          ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1)
          ∧ r.2.mem ((c.tc : Thread Cert.UqDwIdeal.nD Cert.UqDwIdeal.τ).loc Cert.UqDwIdeal.main_arg2) = m ((c.tc : Thread Cert.UqDwIdeal.nD Cert.UqDwIdeal.τ).loc Cert.UqDwIdeal.main_arg2))
      ∧ θ_run (Cert.UqDwRefIdeal.defs (F := Ideal)) (onTc (τ := Cert.UqDwRefIdeal.τ) (Cert.UqDwRefIdeal.main (F := Ideal))) ⟨m', fun _ => 0, g'⟩ (fun r => ∀ c : Dev Cert.UqDwRefIdeal.nD,
          r.2.mem ((c.tc : Thread Cert.UqDwRefIdeal.nD Cert.UqDwRefIdeal.τ).loc Cert.UqDwRefIdeal.main_v5) = v0 c
          ∧ r.2.mem ((c.tc : Thread Cert.UqDwRefIdeal.nD Cert.UqDwRefIdeal.τ).loc Cert.UqDwRefIdeal.main_arg0) = m' ((c.tc : Thread Cert.UqDwRefIdeal.nD Cert.UqDwRefIdeal.τ).loc Cert.UqDwRefIdeal.main_arg0)
          ∧ r.2.mem ((c.tc : Thread Cert.UqDwRefIdeal.nD Cert.UqDwRefIdeal.τ).loc Cert.UqDwRefIdeal.main_arg1) = m' ((c.tc : Thread Cert.UqDwRefIdeal.nD Cert.UqDwRefIdeal.τ).loc Cert.UqDwRefIdeal.main_arg1)
          ∧ r.2.mem ((c.tc : Thread Cert.UqDwRefIdeal.nD Cert.UqDwRefIdeal.τ).loc Cert.UqDwRefIdeal.main_arg2) = m' ((c.tc : Thread Cert.UqDwRefIdeal.nD Cert.UqDwRefIdeal.τ).loc Cert.UqDwRefIdeal.main_arg2))

def preserves_UqDx_UqDxIdeal : Prop :=
  True

def algebraic_UqDxIdeal_UqDxRefIdeal [hUqDxIdeal : Cert.UqDxIdeal.Facts] [hUqDxRefIdeal : Cert.UqDxRefIdeal.Facts] : Prop :=
  ∀ (m : (ℓ : Loc Cert.UqDxIdeal.nD Cert.UqDxIdeal.τ Cert.UqDxIdeal.sig) → Buf (Elt Ideal) ℓ) (g : Dev Cert.UqDxIdeal.nD → PrngReg)
    (m' : (ℓ : Loc Cert.UqDxRefIdeal.nD Cert.UqDxRefIdeal.τ Cert.UqDxRefIdeal.sig) → Buf (Elt Ideal) ℓ) (g' : Dev Cert.UqDxRefIdeal.nD → PrngReg), Pre_UqDxIdeal m →
    (∀ c : Dev Cert.UqDxIdeal.nD,
      m' ((c.tc : Thread Cert.UqDxRefIdeal.nD Cert.UqDxRefIdeal.τ).loc Cert.UqDxRefIdeal.main_arg0) = m ((c.tc : Thread Cert.UqDxIdeal.nD Cert.UqDxIdeal.τ).loc Cert.UqDxIdeal.main_arg0)
      ∧ m' ((c.tc : Thread Cert.UqDxRefIdeal.nD Cert.UqDxRefIdeal.τ).loc Cert.UqDxRefIdeal.main_arg1) = m ((c.tc : Thread Cert.UqDxIdeal.nD Cert.UqDxIdeal.τ).loc Cert.UqDxIdeal.main_arg1)
      ∧ m' ((c.tc : Thread Cert.UqDxRefIdeal.nD Cert.UqDxRefIdeal.τ).loc Cert.UqDxRefIdeal.main_arg2) = m ((c.tc : Thread Cert.UqDxIdeal.nD Cert.UqDxIdeal.τ).loc Cert.UqDxIdeal.main_arg2)) →
    ∃ (v0 : (c : Dev Cert.UqDxIdeal.nD) → Buf (Elt Ideal) ((c.tc : Thread Cert.UqDxIdeal.nD Cert.UqDxIdeal.τ).loc Cert.UqDxIdeal.main_v0)),
      θ_run (Cert.UqDxIdeal.defs (F := Ideal)) (onTc (τ := Cert.UqDxIdeal.τ) (Cert.UqDxIdeal.main (F := Ideal))) ⟨m, fun _ => 0, g⟩ (fun r => ∀ c : Dev Cert.UqDxIdeal.nD,
          r.2.mem ((c.tc : Thread Cert.UqDxIdeal.nD Cert.UqDxIdeal.τ).loc Cert.UqDxIdeal.main_v0) = v0 c
          ∧ r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
          ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1)
          ∧ r.2.mem ((c.tc : Thread Cert.UqDxIdeal.nD Cert.UqDxIdeal.τ).loc Cert.UqDxIdeal.main_arg2) = m ((c.tc : Thread Cert.UqDxIdeal.nD Cert.UqDxIdeal.τ).loc Cert.UqDxIdeal.main_arg2))
      ∧ θ_run (Cert.UqDxRefIdeal.defs (F := Ideal)) (onTc (τ := Cert.UqDxRefIdeal.τ) (Cert.UqDxRefIdeal.main (F := Ideal))) ⟨m', fun _ => 0, g'⟩ (fun r => ∀ c : Dev Cert.UqDxRefIdeal.nD,
          r.2.mem ((c.tc : Thread Cert.UqDxRefIdeal.nD Cert.UqDxRefIdeal.τ).loc Cert.UqDxRefIdeal.main_v4) = v0 c
          ∧ r.2.mem ((c.tc : Thread Cert.UqDxRefIdeal.nD Cert.UqDxRefIdeal.τ).loc Cert.UqDxRefIdeal.main_arg0) = m' ((c.tc : Thread Cert.UqDxRefIdeal.nD Cert.UqDxRefIdeal.τ).loc Cert.UqDxRefIdeal.main_arg0)
          ∧ r.2.mem ((c.tc : Thread Cert.UqDxRefIdeal.nD Cert.UqDxRefIdeal.τ).loc Cert.UqDxRefIdeal.main_arg1) = m' ((c.tc : Thread Cert.UqDxRefIdeal.nD Cert.UqDxRefIdeal.τ).loc Cert.UqDxRefIdeal.main_arg1)
          ∧ r.2.mem ((c.tc : Thread Cert.UqDxRefIdeal.nD Cert.UqDxRefIdeal.τ).loc Cert.UqDxRefIdeal.main_arg2) = m' ((c.tc : Thread Cert.UqDxRefIdeal.nD Cert.UqDxRefIdeal.τ).loc Cert.UqDxRefIdeal.main_arg2))

def preserves_Ukv_UkvIdeal : Prop :=
  True

def algebraic_UkvIdeal_UkvRefIdeal [hUkvIdeal : Cert.UkvIdeal.Facts] [hUkvRefIdeal : Cert.UkvRefIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvRefIdeal.nD Cert.UkvRefIdeal.τ Cert.UkvRefIdeal.sig) → Buf (Elt Ideal) ℓ) (g' : Dev Cert.UkvRefIdeal.nD → PrngReg), Pre_UkvIdeal m →
    (∀ c : Dev Cert.UkvIdeal.nD,
      m' ((c.tc : Thread Cert.UkvRefIdeal.nD Cert.UkvRefIdeal.τ).loc Cert.UkvRefIdeal.main_arg0) = m ((c.tc : Thread Cert.UkvIdeal.nD Cert.UkvIdeal.τ).loc Cert.UkvIdeal.main_arg0)
      ∧ m' ((c.tc : Thread Cert.UkvRefIdeal.nD Cert.UkvRefIdeal.τ).loc Cert.UkvRefIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v0)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v0) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvRefIdeal.defs (F := Ideal)) (onTc (τ := Cert.UkvRefIdeal.τ) (Cert.UkvRefIdeal.main (F := Ideal))) ⟨m', fun _ => 0, g'⟩ (fun r => ∀ c : Dev Cert.UkvRefIdeal.nD,
          r.2.mem ((c.tc : Thread Cert.UkvRefIdeal.nD Cert.UkvRefIdeal.τ).loc Cert.UkvRefIdeal.main_v3) = v0 c
          ∧ r.2.mem ((c.tc : Thread Cert.UkvRefIdeal.nD Cert.UkvRefIdeal.τ).loc Cert.UkvRefIdeal.main_arg0) = m' ((c.tc : Thread Cert.UkvRefIdeal.nD Cert.UkvRefIdeal.τ).loc Cert.UkvRefIdeal.main_arg0)
          ∧ r.2.mem ((c.tc : Thread Cert.UkvRefIdeal.nD Cert.UkvRefIdeal.τ).loc Cert.UkvRefIdeal.main_arg1) = m' ((c.tc : Thread Cert.UkvRefIdeal.nD Cert.UkvRefIdeal.τ).loc Cert.UkvRefIdeal.main_arg1))

def preserves_UkvDw_UkvDwIdeal : Prop :=
  True

def algebraic_UkvDwIdeal_UkvDwRefIdeal [hUkvDwIdeal : Cert.UkvDwIdeal.Facts] [hUkvDwRefIdeal : Cert.UkvDwRefIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg)
    (m' : (ℓ : Loc Cert.UkvDwRefIdeal.nD Cert.UkvDwRefIdeal.τ Cert.UkvDwRefIdeal.sig) → Buf (Elt Ideal) ℓ) (g' : Dev Cert.UkvDwRefIdeal.nD → PrngReg), Pre_UkvDwIdeal m →
    (∀ c : Dev Cert.UkvDwIdeal.nD,
      m' ((c.tc : Thread Cert.UkvDwRefIdeal.nD Cert.UkvDwRefIdeal.τ).loc Cert.UkvDwRefIdeal.main_arg0) = m ((c.tc : Thread Cert.UkvDwIdeal.nD Cert.UkvDwIdeal.τ).loc Cert.UkvDwIdeal.main_arg0)
      ∧ m' ((c.tc : Thread Cert.UkvDwRefIdeal.nD Cert.UkvDwRefIdeal.τ).loc Cert.UkvDwRefIdeal.main_arg1) = m ((c.tc : Thread Cert.UkvDwIdeal.nD Cert.UkvDwIdeal.τ).loc Cert.UkvDwIdeal.main_arg1)
      ∧ m' ((c.tc : Thread Cert.UkvDwRefIdeal.nD Cert.UkvDwRefIdeal.τ).loc Cert.UkvDwRefIdeal.main_arg2) = m ((c.tc : Thread Cert.UkvDwIdeal.nD Cert.UkvDwIdeal.τ).loc Cert.UkvDwIdeal.main_arg2)) →
    ∃ (v0 : (c : Dev Cert.UkvDwIdeal.nD) → Buf (Elt Ideal) ((c.tc : Thread Cert.UkvDwIdeal.nD Cert.UkvDwIdeal.τ).loc Cert.UkvDwIdeal.main_v0)),
      θ_run (Cert.UkvDwIdeal.defs (F := Ideal)) (onTc (τ := Cert.UkvDwIdeal.τ) (Cert.UkvDwIdeal.main (F := Ideal))) ⟨m, fun _ => 0, g⟩ (fun r => ∀ c : Dev Cert.UkvDwIdeal.nD,
          r.2.mem ((c.tc : Thread Cert.UkvDwIdeal.nD Cert.UkvDwIdeal.τ).loc Cert.UkvDwIdeal.main_v0) = v0 c
          ∧ r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
          ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1)
          ∧ r.2.mem ((c.tc : Thread Cert.UkvDwIdeal.nD Cert.UkvDwIdeal.τ).loc Cert.UkvDwIdeal.main_arg2) = m ((c.tc : Thread Cert.UkvDwIdeal.nD Cert.UkvDwIdeal.τ).loc Cert.UkvDwIdeal.main_arg2))
      ∧ θ_run (Cert.UkvDwRefIdeal.defs (F := Ideal)) (onTc (τ := Cert.UkvDwRefIdeal.τ) (Cert.UkvDwRefIdeal.main (F := Ideal))) ⟨m', fun _ => 0, g'⟩ (fun r => ∀ c : Dev Cert.UkvDwRefIdeal.nD,
          r.2.mem ((c.tc : Thread Cert.UkvDwRefIdeal.nD Cert.UkvDwRefIdeal.τ).loc Cert.UkvDwRefIdeal.main_v5) = v0 c
          ∧ r.2.mem ((c.tc : Thread Cert.UkvDwRefIdeal.nD Cert.UkvDwRefIdeal.τ).loc Cert.UkvDwRefIdeal.main_arg0) = m' ((c.tc : Thread Cert.UkvDwRefIdeal.nD Cert.UkvDwRefIdeal.τ).loc Cert.UkvDwRefIdeal.main_arg0)
          ∧ r.2.mem ((c.tc : Thread Cert.UkvDwRefIdeal.nD Cert.UkvDwRefIdeal.τ).loc Cert.UkvDwRefIdeal.main_arg1) = m' ((c.tc : Thread Cert.UkvDwRefIdeal.nD Cert.UkvDwRefIdeal.τ).loc Cert.UkvDwRefIdeal.main_arg1)
          ∧ r.2.mem ((c.tc : Thread Cert.UkvDwRefIdeal.nD Cert.UkvDwRefIdeal.τ).loc Cert.UkvDwRefIdeal.main_arg2) = m' ((c.tc : Thread Cert.UkvDwRefIdeal.nD Cert.UkvDwRefIdeal.τ).loc Cert.UkvDwRefIdeal.main_arg2))

def preserves_UkvDx_UkvDxIdeal : Prop :=
  True

def algebraic_UkvDxIdeal_UkvDxRefIdeal [hUkvDxIdeal : Cert.UkvDxIdeal.Facts] [hUkvDxRefIdeal : Cert.UkvDxRefIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg)
    (m' : (ℓ : Loc Cert.UkvDxRefIdeal.nD Cert.UkvDxRefIdeal.τ Cert.UkvDxRefIdeal.sig) → Buf (Elt Ideal) ℓ) (g' : Dev Cert.UkvDxRefIdeal.nD → PrngReg), Pre_UkvDxIdeal m →
    (∀ c : Dev Cert.UkvDxIdeal.nD,
      m' ((c.tc : Thread Cert.UkvDxRefIdeal.nD Cert.UkvDxRefIdeal.τ).loc Cert.UkvDxRefIdeal.main_arg0) = m ((c.tc : Thread Cert.UkvDxIdeal.nD Cert.UkvDxIdeal.τ).loc Cert.UkvDxIdeal.main_arg0)
      ∧ m' ((c.tc : Thread Cert.UkvDxRefIdeal.nD Cert.UkvDxRefIdeal.τ).loc Cert.UkvDxRefIdeal.main_arg1) = m ((c.tc : Thread Cert.UkvDxIdeal.nD Cert.UkvDxIdeal.τ).loc Cert.UkvDxIdeal.main_arg1)
      ∧ m' ((c.tc : Thread Cert.UkvDxRefIdeal.nD Cert.UkvDxRefIdeal.τ).loc Cert.UkvDxRefIdeal.main_arg2) = m ((c.tc : Thread Cert.UkvDxIdeal.nD Cert.UkvDxIdeal.τ).loc Cert.UkvDxIdeal.main_arg2)) →
    ∃ (v0 : (c : Dev Cert.UkvDxIdeal.nD) → Buf (Elt Ideal) ((c.tc : Thread Cert.UkvDxIdeal.nD Cert.UkvDxIdeal.τ).loc Cert.UkvDxIdeal.main_v0)),
      θ_run (Cert.UkvDxIdeal.defs (F := Ideal)) (onTc (τ := Cert.UkvDxIdeal.τ) (Cert.UkvDxIdeal.main (F := Ideal))) ⟨m, fun _ => 0, g⟩ (fun r => ∀ c : Dev Cert.UkvDxIdeal.nD,
          r.2.mem ((c.tc : Thread Cert.UkvDxIdeal.nD Cert.UkvDxIdeal.τ).loc Cert.UkvDxIdeal.main_v0) = v0 c
          ∧ r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
          ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1)
          ∧ r.2.mem ((c.tc : Thread Cert.UkvDxIdeal.nD Cert.UkvDxIdeal.τ).loc Cert.UkvDxIdeal.main_arg2) = m ((c.tc : Thread Cert.UkvDxIdeal.nD Cert.UkvDxIdeal.τ).loc Cert.UkvDxIdeal.main_arg2))
      ∧ θ_run (Cert.UkvDxRefIdeal.defs (F := Ideal)) (onTc (τ := Cert.UkvDxRefIdeal.τ) (Cert.UkvDxRefIdeal.main (F := Ideal))) ⟨m', fun _ => 0, g'⟩ (fun r => ∀ c : Dev Cert.UkvDxRefIdeal.nD,
          r.2.mem ((c.tc : Thread Cert.UkvDxRefIdeal.nD Cert.UkvDxRefIdeal.τ).loc Cert.UkvDxRefIdeal.main_v4) = v0 c
          ∧ r.2.mem ((c.tc : Thread Cert.UkvDxRefIdeal.nD Cert.UkvDxRefIdeal.τ).loc Cert.UkvDxRefIdeal.main_arg0) = m' ((c.tc : Thread Cert.UkvDxRefIdeal.nD Cert.UkvDxRefIdeal.τ).loc Cert.UkvDxRefIdeal.main_arg0)
          ∧ r.2.mem ((c.tc : Thread Cert.UkvDxRefIdeal.nD Cert.UkvDxRefIdeal.τ).loc Cert.UkvDxRefIdeal.main_arg1) = m' ((c.tc : Thread Cert.UkvDxRefIdeal.nD Cert.UkvDxRefIdeal.τ).loc Cert.UkvDxRefIdeal.main_arg1)
          ∧ r.2.mem ((c.tc : Thread Cert.UkvDxRefIdeal.nD Cert.UkvDxRefIdeal.τ).loc Cert.UkvDxRefIdeal.main_arg2) = m' ((c.tc : Thread Cert.UkvDxRefIdeal.nD Cert.UkvDxRefIdeal.τ).loc Cert.UkvDxRefIdeal.main_arg2))

def preserves_O_OIdeal : Prop :=
  True

def algebraic_OIdeal_ORefIdeal [hOIdeal : Cert.OIdeal.Facts] [hORefIdeal : Cert.ORefIdeal.Facts] : Prop :=
  ∀ (m : (ℓ : Loc Cert.OIdeal.nD Cert.OIdeal.τ Cert.OIdeal.sig) → Buf (Elt Ideal) ℓ) (g : Dev Cert.OIdeal.nD → PrngReg)
    (m' : (ℓ : Loc Cert.ORefIdeal.nD Cert.ORefIdeal.τ Cert.ORefIdeal.sig) → Buf (Elt Ideal) ℓ) (g' : Dev Cert.ORefIdeal.nD → PrngReg), Pre_OIdeal m →
    (∀ c : Dev Cert.OIdeal.nD,
      m' ((c.tc : Thread Cert.ORefIdeal.nD Cert.ORefIdeal.τ).loc Cert.ORefIdeal.main_arg0) = m ((c.tc : Thread Cert.OIdeal.nD Cert.OIdeal.τ).loc Cert.OIdeal.main_arg0)
      ∧ m' ((c.tc : Thread Cert.ORefIdeal.nD Cert.ORefIdeal.τ).loc Cert.ORefIdeal.main_arg1) = m ((c.tc : Thread Cert.OIdeal.nD Cert.OIdeal.τ).loc Cert.OIdeal.main_arg1)
      ∧ m' ((c.tc : Thread Cert.ORefIdeal.nD Cert.ORefIdeal.τ).loc Cert.ORefIdeal.main_arg2) = m ((c.tc : Thread Cert.OIdeal.nD Cert.OIdeal.τ).loc Cert.OIdeal.main_arg2)) →
    ∃ (v0 : (c : Dev Cert.OIdeal.nD) → Buf (Elt Ideal) ((c.tc : Thread Cert.OIdeal.nD Cert.OIdeal.τ).loc Cert.OIdeal.main_v0)),
      θ_run (Cert.OIdeal.defs (F := Ideal)) (onTc (τ := Cert.OIdeal.τ) (Cert.OIdeal.main (F := Ideal))) ⟨m, fun _ => 0, g⟩ (fun r => ∀ c : Dev Cert.OIdeal.nD,
          r.2.mem ((c.tc : Thread Cert.OIdeal.nD Cert.OIdeal.τ).loc Cert.OIdeal.main_v0) = v0 c
          ∧ r.2.mem ((c.tc : Thread Cert.OIdeal.nD Cert.OIdeal.τ).loc Cert.OIdeal.main_arg0) = m ((c.tc : Thread Cert.OIdeal.nD Cert.OIdeal.τ).loc Cert.OIdeal.main_arg0)
          ∧ r.2.mem ((c.tc : Thread Cert.OIdeal.nD Cert.OIdeal.τ).loc Cert.OIdeal.main_arg1) = m ((c.tc : Thread Cert.OIdeal.nD Cert.OIdeal.τ).loc Cert.OIdeal.main_arg1)
          ∧ r.2.mem ((c.tc : Thread Cert.OIdeal.nD Cert.OIdeal.τ).loc Cert.OIdeal.main_arg2) = m ((c.tc : Thread Cert.OIdeal.nD Cert.OIdeal.τ).loc Cert.OIdeal.main_arg2))
      ∧ θ_run (Cert.ORefIdeal.defs (F := Ideal)) (onTc (τ := Cert.ORefIdeal.τ) (Cert.ORefIdeal.main (F := Ideal))) ⟨m', fun _ => 0, g'⟩ (fun r => ∀ c : Dev Cert.ORefIdeal.nD,
          r.2.mem ((c.tc : Thread Cert.ORefIdeal.nD Cert.ORefIdeal.τ).loc Cert.ORefIdeal.main_v3) = v0 c
          ∧ r.2.mem ((c.tc : Thread Cert.ORefIdeal.nD Cert.ORefIdeal.τ).loc Cert.ORefIdeal.main_arg0) = m' ((c.tc : Thread Cert.ORefIdeal.nD Cert.ORefIdeal.τ).loc Cert.ORefIdeal.main_arg0)
          ∧ r.2.mem ((c.tc : Thread Cert.ORefIdeal.nD Cert.ORefIdeal.τ).loc Cert.ORefIdeal.main_arg1) = m' ((c.tc : Thread Cert.ORefIdeal.nD Cert.ORefIdeal.τ).loc Cert.ORefIdeal.main_arg1)
          ∧ r.2.mem ((c.tc : Thread Cert.ORefIdeal.nD Cert.ORefIdeal.τ).loc Cert.ORefIdeal.main_arg2) = m' ((c.tc : Thread Cert.ORefIdeal.nD Cert.ORefIdeal.τ).loc Cert.ORefIdeal.main_arg2))

def preserves_ODw_ODwIdeal : Prop :=
  True

def algebraic_ODwIdeal_ODwRefIdeal [hODwIdeal : Cert.ODwIdeal.Facts] [hODwRefIdeal : Cert.ODwRefIdeal.Facts] : Prop :=
  ∀ (m : (ℓ : Loc Cert.ODwIdeal.nD Cert.ODwIdeal.τ Cert.ODwIdeal.sig) → Buf (Elt Ideal) ℓ) (g : Dev Cert.ODwIdeal.nD → PrngReg)
    (m' : (ℓ : Loc Cert.ODwRefIdeal.nD Cert.ODwRefIdeal.τ Cert.ODwRefIdeal.sig) → Buf (Elt Ideal) ℓ) (g' : Dev Cert.ODwRefIdeal.nD → PrngReg), Pre_ODwIdeal m →
    (∀ c : Dev Cert.ODwIdeal.nD,
      m' ((c.tc : Thread Cert.ODwRefIdeal.nD Cert.ODwRefIdeal.τ).loc Cert.ODwRefIdeal.main_arg0) = m ((c.tc : Thread Cert.ODwIdeal.nD Cert.ODwIdeal.τ).loc Cert.ODwIdeal.main_arg0)
      ∧ m' ((c.tc : Thread Cert.ODwRefIdeal.nD Cert.ODwRefIdeal.τ).loc Cert.ODwRefIdeal.main_arg1) = m ((c.tc : Thread Cert.ODwIdeal.nD Cert.ODwIdeal.τ).loc Cert.ODwIdeal.main_arg1)
      ∧ m' ((c.tc : Thread Cert.ODwRefIdeal.nD Cert.ODwRefIdeal.τ).loc Cert.ODwRefIdeal.main_arg2) = m ((c.tc : Thread Cert.ODwIdeal.nD Cert.ODwIdeal.τ).loc Cert.ODwIdeal.main_arg2)) →
    ∃ (v0 : (c : Dev Cert.ODwIdeal.nD) → Buf (Elt Ideal) ((c.tc : Thread Cert.ODwIdeal.nD Cert.ODwIdeal.τ).loc Cert.ODwIdeal.main_v0)),
      θ_run (Cert.ODwIdeal.defs (F := Ideal)) (onTc (τ := Cert.ODwIdeal.τ) (Cert.ODwIdeal.main (F := Ideal))) ⟨m, fun _ => 0, g⟩ (fun r => ∀ c : Dev Cert.ODwIdeal.nD,
          r.2.mem ((c.tc : Thread Cert.ODwIdeal.nD Cert.ODwIdeal.τ).loc Cert.ODwIdeal.main_v0) = v0 c
          ∧ r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
          ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1)
          ∧ r.2.mem ((c.tc : Thread Cert.ODwIdeal.nD Cert.ODwIdeal.τ).loc Cert.ODwIdeal.main_arg2) = m ((c.tc : Thread Cert.ODwIdeal.nD Cert.ODwIdeal.τ).loc Cert.ODwIdeal.main_arg2))
      ∧ θ_run (Cert.ODwRefIdeal.defs (F := Ideal)) (onTc (τ := Cert.ODwRefIdeal.τ) (Cert.ODwRefIdeal.main (F := Ideal))) ⟨m', fun _ => 0, g'⟩ (fun r => ∀ c : Dev Cert.ODwRefIdeal.nD,
          r.2.mem ((c.tc : Thread Cert.ODwRefIdeal.nD Cert.ODwRefIdeal.τ).loc Cert.ODwRefIdeal.main_v5) = v0 c
          ∧ r.2.mem ((c.tc : Thread Cert.ODwRefIdeal.nD Cert.ODwRefIdeal.τ).loc Cert.ODwRefIdeal.main_arg0) = m' ((c.tc : Thread Cert.ODwRefIdeal.nD Cert.ODwRefIdeal.τ).loc Cert.ODwRefIdeal.main_arg0)
          ∧ r.2.mem ((c.tc : Thread Cert.ODwRefIdeal.nD Cert.ODwRefIdeal.τ).loc Cert.ODwRefIdeal.main_arg1) = m' ((c.tc : Thread Cert.ODwRefIdeal.nD Cert.ODwRefIdeal.τ).loc Cert.ODwRefIdeal.main_arg1)
          ∧ r.2.mem ((c.tc : Thread Cert.ODwRefIdeal.nD Cert.ODwRefIdeal.τ).loc Cert.ODwRefIdeal.main_arg2) = m' ((c.tc : Thread Cert.ODwRefIdeal.nD Cert.ODwRefIdeal.τ).loc Cert.ODwRefIdeal.main_arg2))

def preserves_ODx_ODxIdeal : Prop :=
  True

def algebraic_ODxIdeal_ODxRefIdeal [hODxIdeal : Cert.ODxIdeal.Facts] [hODxRefIdeal : Cert.ODxRefIdeal.Facts] : Prop :=
  ∀ (m : (ℓ : Loc Cert.ODxIdeal.nD Cert.ODxIdeal.τ Cert.ODxIdeal.sig) → Buf (Elt Ideal) ℓ) (g : Dev Cert.ODxIdeal.nD → PrngReg)
    (m' : (ℓ : Loc Cert.ODxRefIdeal.nD Cert.ODxRefIdeal.τ Cert.ODxRefIdeal.sig) → Buf (Elt Ideal) ℓ) (g' : Dev Cert.ODxRefIdeal.nD → PrngReg), Pre_ODxIdeal m →
    (∀ c : Dev Cert.ODxIdeal.nD,
      m' ((c.tc : Thread Cert.ODxRefIdeal.nD Cert.ODxRefIdeal.τ).loc Cert.ODxRefIdeal.main_arg0) = m ((c.tc : Thread Cert.ODxIdeal.nD Cert.ODxIdeal.τ).loc Cert.ODxIdeal.main_arg0)
      ∧ m' ((c.tc : Thread Cert.ODxRefIdeal.nD Cert.ODxRefIdeal.τ).loc Cert.ODxRefIdeal.main_arg1) = m ((c.tc : Thread Cert.ODxIdeal.nD Cert.ODxIdeal.τ).loc Cert.ODxIdeal.main_arg1)
      ∧ m' ((c.tc : Thread Cert.ODxRefIdeal.nD Cert.ODxRefIdeal.τ).loc Cert.ODxRefIdeal.main_arg2) = m ((c.tc : Thread Cert.ODxIdeal.nD Cert.ODxIdeal.τ).loc Cert.ODxIdeal.main_arg2)) →
    ∃ (v0 : (c : Dev Cert.ODxIdeal.nD) → Buf (Elt Ideal) ((c.tc : Thread Cert.ODxIdeal.nD Cert.ODxIdeal.τ).loc Cert.ODxIdeal.main_v0)),
      θ_run (Cert.ODxIdeal.defs (F := Ideal)) (onTc (τ := Cert.ODxIdeal.τ) (Cert.ODxIdeal.main (F := Ideal))) ⟨m, fun _ => 0, g⟩ (fun r => ∀ c : Dev Cert.ODxIdeal.nD,
          r.2.mem ((c.tc : Thread Cert.ODxIdeal.nD Cert.ODxIdeal.τ).loc Cert.ODxIdeal.main_v0) = v0 c
          ∧ r.2.mem ((c.tc : Thread Cert.ODxIdeal.nD Cert.ODxIdeal.τ).loc Cert.ODxIdeal.main_arg0) = m ((c.tc : Thread Cert.ODxIdeal.nD Cert.ODxIdeal.τ).loc Cert.ODxIdeal.main_arg0)
          ∧ r.2.mem ((c.tc : Thread Cert.ODxIdeal.nD Cert.ODxIdeal.τ).loc Cert.ODxIdeal.main_arg1) = m ((c.tc : Thread Cert.ODxIdeal.nD Cert.ODxIdeal.τ).loc Cert.ODxIdeal.main_arg1)
          ∧ r.2.mem ((c.tc : Thread Cert.ODxIdeal.nD Cert.ODxIdeal.τ).loc Cert.ODxIdeal.main_arg2) = m ((c.tc : Thread Cert.ODxIdeal.nD Cert.ODxIdeal.τ).loc Cert.ODxIdeal.main_arg2))
      ∧ θ_run (Cert.ODxRefIdeal.defs (F := Ideal)) (onTc (τ := Cert.ODxRefIdeal.τ) (Cert.ODxRefIdeal.main (F := Ideal))) ⟨m', fun _ => 0, g'⟩ (fun r => ∀ c : Dev Cert.ODxRefIdeal.nD,
          r.2.mem ((c.tc : Thread Cert.ODxRefIdeal.nD Cert.ODxRefIdeal.τ).loc Cert.ODxRefIdeal.main_v5) = v0 c
          ∧ r.2.mem ((c.tc : Thread Cert.ODxRefIdeal.nD Cert.ODxRefIdeal.τ).loc Cert.ODxRefIdeal.main_arg0) = m' ((c.tc : Thread Cert.ODxRefIdeal.nD Cert.ODxRefIdeal.τ).loc Cert.ODxRefIdeal.main_arg0)
          ∧ r.2.mem ((c.tc : Thread Cert.ODxRefIdeal.nD Cert.ODxRefIdeal.τ).loc Cert.ODxRefIdeal.main_arg1) = m' ((c.tc : Thread Cert.ODxRefIdeal.nD Cert.ODxRefIdeal.τ).loc Cert.ODxRefIdeal.main_arg1)
          ∧ r.2.mem ((c.tc : Thread Cert.ODxRefIdeal.nD Cert.ODxRefIdeal.τ).loc Cert.ODxRefIdeal.main_arg2) = m' ((c.tc : Thread Cert.ODxRefIdeal.nD Cert.ODxRefIdeal.τ).loc Cert.ODxRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_QNorm_QNormIdeal : Prop :=
  True

def algebraic_QNormIdeal_QNormRefIdeal [hQNormIdeal : Cert.QNormIdeal.Facts] [hQNormRefIdeal : Cert.QNormRefIdeal.Facts] : Prop :=
  ∀ (m : (ℓ : Loc Cert.QNormIdeal.nD Cert.QNormIdeal.τ Cert.QNormIdeal.sig) → Buf (Elt Ideal) ℓ) (g : Dev Cert.QNormIdeal.nD → PrngReg)
    (m' : (ℓ : Loc Cert.QNormRefIdeal.nD Cert.QNormRefIdeal.τ Cert.QNormRefIdeal.sig) → Buf (Elt Ideal) ℓ) (g' : Dev Cert.QNormRefIdeal.nD → PrngReg), Pre_QNormIdeal m →
    (∀ c : Dev Cert.QNormIdeal.nD,
      m' ((c.tc : Thread Cert.QNormRefIdeal.nD Cert.QNormRefIdeal.τ).loc Cert.QNormRefIdeal.main_arg0) = m ((c.tc : Thread Cert.QNormIdeal.nD Cert.QNormIdeal.τ).loc Cert.QNormIdeal.main_arg0)
      ∧ m' ((c.tc : Thread Cert.QNormRefIdeal.nD Cert.QNormRefIdeal.τ).loc Cert.QNormRefIdeal.main_arg1) = m ((c.tc : Thread Cert.QNormIdeal.nD Cert.QNormIdeal.τ).loc Cert.QNormIdeal.main_arg1)) →
    ∃ (v0 : (c : Dev Cert.QNormIdeal.nD) → Buf (Elt Ideal) ((c.tc : Thread Cert.QNormIdeal.nD Cert.QNormIdeal.τ).loc Cert.QNormIdeal.main_v1)),
      θ_run (Cert.QNormIdeal.defs (F := Ideal)) (onTc (τ := Cert.QNormIdeal.τ) (Cert.QNormIdeal.main (F := Ideal))) ⟨m, fun _ => 0, g⟩ (fun r => ∀ c : Dev Cert.QNormIdeal.nD,
          r.2.mem ((c.tc : Thread Cert.QNormIdeal.nD Cert.QNormIdeal.τ).loc Cert.QNormIdeal.main_v1) = v0 c
          ∧ r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
          ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1))
      ∧ θ_run (Cert.QNormRefIdeal.defs (F := Ideal)) (onTc (τ := Cert.QNormRefIdeal.τ) (Cert.QNormRefIdeal.main (F := Ideal))) ⟨m', fun _ => 0, g'⟩ (fun r => ∀ c : Dev Cert.QNormRefIdeal.nD,
          r.2.mem ((c.tc : Thread Cert.QNormRefIdeal.nD Cert.QNormRefIdeal.τ).loc Cert.QNormRefIdeal.main_v13) = v0 c
          ∧ r.2.mem ((c.tc : Thread Cert.QNormRefIdeal.nD Cert.QNormRefIdeal.τ).loc Cert.QNormRefIdeal.main_arg0) = m' ((c.tc : Thread Cert.QNormRefIdeal.nD Cert.QNormRefIdeal.τ).loc Cert.QNormRefIdeal.main_arg0)
          ∧ r.2.mem ((c.tc : Thread Cert.QNormRefIdeal.nD Cert.QNormRefIdeal.τ).loc Cert.QNormRefIdeal.main_arg1) = m' ((c.tc : Thread Cert.QNormRefIdeal.nD Cert.QNormRefIdeal.τ).loc Cert.QNormRefIdeal.main_arg1))

def preserves_KvNorm_KvNormIdeal : Prop :=
  True

def algebraic_KvNormIdeal_KvNormRefIdeal [hKvNormIdeal : Cert.KvNormIdeal.Facts] [hKvNormRefIdeal : Cert.KvNormRefIdeal.Facts] : Prop :=
  ∀ (m : (ℓ : Loc Cert.KvNormIdeal.nD Cert.KvNormIdeal.τ Cert.KvNormIdeal.sig) → Buf (Elt Ideal) ℓ) (g : Dev Cert.KvNormIdeal.nD → PrngReg)
    (m' : (ℓ : Loc Cert.KvNormRefIdeal.nD Cert.KvNormRefIdeal.τ Cert.KvNormRefIdeal.sig) → Buf (Elt Ideal) ℓ) (g' : Dev Cert.KvNormRefIdeal.nD → PrngReg), Pre_KvNormIdeal m →
    (∀ c : Dev Cert.KvNormIdeal.nD,
      m' ((c.tc : Thread Cert.KvNormRefIdeal.nD Cert.KvNormRefIdeal.τ).loc Cert.KvNormRefIdeal.main_arg0) = m ((c.tc : Thread Cert.KvNormIdeal.nD Cert.KvNormIdeal.τ).loc Cert.KvNormIdeal.main_arg0)
      ∧ m' ((c.tc : Thread Cert.KvNormRefIdeal.nD Cert.KvNormRefIdeal.τ).loc Cert.KvNormRefIdeal.main_arg1) = m ((c.tc : Thread Cert.KvNormIdeal.nD Cert.KvNormIdeal.τ).loc Cert.KvNormIdeal.main_arg1)) →
    ∃ (v0 : (c : Dev Cert.KvNormIdeal.nD) → Buf (Elt Ideal) ((c.tc : Thread Cert.KvNormIdeal.nD Cert.KvNormIdeal.τ).loc Cert.KvNormIdeal.main_v1)),
      θ_run (Cert.KvNormIdeal.defs (F := Ideal)) (onTc (τ := Cert.KvNormIdeal.τ) (Cert.KvNormIdeal.main (F := Ideal))) ⟨m, fun _ => 0, g⟩ (fun r => ∀ c : Dev Cert.KvNormIdeal.nD,
          r.2.mem ((c.tc : Thread Cert.KvNormIdeal.nD Cert.KvNormIdeal.τ).loc Cert.KvNormIdeal.main_v1) = v0 c
          ∧ r.2.mem ((c.tc : Thread Cert.KvNormIdeal.nD Cert.KvNormIdeal.τ).loc Cert.KvNormIdeal.main_arg0) = m ((c.tc : Thread Cert.KvNormIdeal.nD Cert.KvNormIdeal.τ).loc Cert.KvNormIdeal.main_arg0)
          ∧ r.2.mem ((c.tc : Thread Cert.KvNormIdeal.nD Cert.KvNormIdeal.τ).loc Cert.KvNormIdeal.main_arg1) = m ((c.tc : Thread Cert.KvNormIdeal.nD Cert.KvNormIdeal.τ).loc Cert.KvNormIdeal.main_arg1))
      ∧ θ_run (Cert.KvNormRefIdeal.defs (F := Ideal)) (onTc (τ := Cert.KvNormRefIdeal.τ) (Cert.KvNormRefIdeal.main (F := Ideal))) ⟨m', fun _ => 0, g'⟩ (fun r => ∀ c : Dev Cert.KvNormRefIdeal.nD,
          r.2.mem ((c.tc : Thread Cert.KvNormRefIdeal.nD Cert.KvNormRefIdeal.τ).loc Cert.KvNormRefIdeal.main_v13) = v0 c
          ∧ r.2.mem ((c.tc : Thread Cert.KvNormRefIdeal.nD Cert.KvNormRefIdeal.τ).loc Cert.KvNormRefIdeal.main_arg0) = m' ((c.tc : Thread Cert.KvNormRefIdeal.nD Cert.KvNormRefIdeal.τ).loc Cert.KvNormRefIdeal.main_arg0)
          ∧ r.2.mem ((c.tc : Thread Cert.KvNormRefIdeal.nD Cert.KvNormRefIdeal.τ).loc Cert.KvNormRefIdeal.main_arg1) = m' ((c.tc : Thread Cert.KvNormRefIdeal.nD Cert.KvNormRefIdeal.τ).loc Cert.KvNormRefIdeal.main_arg1))

def preserves_NormDx_NormDxIdeal : Prop :=
  True

def algebraic_NormDxIdeal_NormDxRefIdeal [hNormDxIdeal : Cert.NormDxIdeal.Facts] [hNormDxRefIdeal : Cert.NormDxRefIdeal.Facts] : Prop :=
  ∀ (m : (ℓ : Loc Cert.NormDxIdeal.nD Cert.NormDxIdeal.τ Cert.NormDxIdeal.sig) → Buf (Elt Ideal) ℓ) (g : Dev Cert.NormDxIdeal.nD → PrngReg)
    (m' : (ℓ : Loc Cert.NormDxRefIdeal.nD Cert.NormDxRefIdeal.τ Cert.NormDxRefIdeal.sig) → Buf (Elt Ideal) ℓ) (g' : Dev Cert.NormDxRefIdeal.nD → PrngReg), Pre_NormDxIdeal m →
    (∀ c : Dev Cert.NormDxIdeal.nD,
      m' ((c.tc : Thread Cert.NormDxRefIdeal.nD Cert.NormDxRefIdeal.τ).loc Cert.NormDxRefIdeal.main_arg0) = m ((c.tc : Thread Cert.NormDxIdeal.nD Cert.NormDxIdeal.τ).loc Cert.NormDxIdeal.main_arg0)
      ∧ m' ((c.tc : Thread Cert.NormDxRefIdeal.nD Cert.NormDxRefIdeal.τ).loc Cert.NormDxRefIdeal.main_arg1) = m ((c.tc : Thread Cert.NormDxIdeal.nD Cert.NormDxIdeal.τ).loc Cert.NormDxIdeal.main_arg1)
      ∧ m' ((c.tc : Thread Cert.NormDxRefIdeal.nD Cert.NormDxRefIdeal.τ).loc Cert.NormDxRefIdeal.main_arg2) = m ((c.tc : Thread Cert.NormDxIdeal.nD Cert.NormDxIdeal.τ).loc Cert.NormDxIdeal.main_arg2)
      ∧ m' ((c.tc : Thread Cert.NormDxRefIdeal.nD Cert.NormDxRefIdeal.τ).loc Cert.NormDxRefIdeal.main_arg3) = m ((c.tc : Thread Cert.NormDxIdeal.nD Cert.NormDxIdeal.τ).loc Cert.NormDxIdeal.main_arg3)) →
    ∃ (v0 : (c : Dev Cert.NormDxIdeal.nD) → Buf (Elt Ideal) ((c.tc : Thread Cert.NormDxIdeal.nD Cert.NormDxIdeal.τ).loc Cert.NormDxIdeal.main_v1_0)) (v1 : (c : Dev Cert.NormDxIdeal.nD) → Buf (Elt Ideal) ((c.tc : Thread Cert.NormDxIdeal.nD Cert.NormDxIdeal.τ).loc Cert.NormDxIdeal.main_v1_1)) (v2 : (c : Dev Cert.NormDxIdeal.nD) → Buf (Elt Ideal) ((c.tc : Thread Cert.NormDxIdeal.nD Cert.NormDxIdeal.τ).loc Cert.NormDxIdeal.main_v1_2)),
      θ_run (Cert.NormDxIdeal.defs (F := Ideal)) (onTc (τ := Cert.NormDxIdeal.τ) (Cert.NormDxIdeal.main (F := Ideal))) ⟨m, fun _ => 0, g⟩ (fun r => ∀ c : Dev Cert.NormDxIdeal.nD,
          r.2.mem ((c.tc : Thread Cert.NormDxIdeal.nD Cert.NormDxIdeal.τ).loc Cert.NormDxIdeal.main_v1_0) = v0 c
          ∧ r.2.mem ((c.tc : Thread Cert.NormDxIdeal.nD Cert.NormDxIdeal.τ).loc Cert.NormDxIdeal.main_v1_1) = v1 c
          ∧ r.2.mem ((c.tc : Thread Cert.NormDxIdeal.nD Cert.NormDxIdeal.τ).loc Cert.NormDxIdeal.main_v1_2) = v2 c
          ∧ r.2.mem ((c.tc : Thread Cert.NormDxIdeal.nD Cert.NormDxIdeal.τ).loc Cert.NormDxIdeal.main_arg0) = m ((c.tc : Thread Cert.NormDxIdeal.nD Cert.NormDxIdeal.τ).loc Cert.NormDxIdeal.main_arg0)
          ∧ r.2.mem ((c.tc : Thread Cert.NormDxIdeal.nD Cert.NormDxIdeal.τ).loc Cert.NormDxIdeal.main_arg1) = m ((c.tc : Thread Cert.NormDxIdeal.nD Cert.NormDxIdeal.τ).loc Cert.NormDxIdeal.main_arg1)
          ∧ r.2.mem ((c.tc : Thread Cert.NormDxIdeal.nD Cert.NormDxIdeal.τ).loc Cert.NormDxIdeal.main_arg2) = m ((c.tc : Thread Cert.NormDxIdeal.nD Cert.NormDxIdeal.τ).loc Cert.NormDxIdeal.main_arg2)
          ∧ r.2.mem ((c.tc : Thread Cert.NormDxIdeal.nD Cert.NormDxIdeal.τ).loc Cert.NormDxIdeal.main_arg3) = m ((c.tc : Thread Cert.NormDxIdeal.nD Cert.NormDxIdeal.τ).loc Cert.NormDxIdeal.main_arg3))
      ∧ θ_run (Cert.NormDxRefIdeal.defs (F := Ideal)) (onTc (τ := Cert.NormDxRefIdeal.τ) (Cert.NormDxRefIdeal.main (F := Ideal))) ⟨m', fun _ => 0, g'⟩ (fun r => ∀ c : Dev Cert.NormDxRefIdeal.nD,
          r.2.mem ((c.tc : Thread Cert.NormDxRefIdeal.nD Cert.NormDxRefIdeal.τ).loc Cert.NormDxRefIdeal.main_v36) = v0 c
          ∧ r.2.mem ((c.tc : Thread Cert.NormDxRefIdeal.nD Cert.NormDxRefIdeal.τ).loc Cert.NormDxRefIdeal.main_v37) = v1 c
          ∧ r.2.mem ((c.tc : Thread Cert.NormDxRefIdeal.nD Cert.NormDxRefIdeal.τ).loc Cert.NormDxRefIdeal.main_v38) = v2 c
          ∧ r.2.mem ((c.tc : Thread Cert.NormDxRefIdeal.nD Cert.NormDxRefIdeal.τ).loc Cert.NormDxRefIdeal.main_arg0) = m' ((c.tc : Thread Cert.NormDxRefIdeal.nD Cert.NormDxRefIdeal.τ).loc Cert.NormDxRefIdeal.main_arg0)
          ∧ r.2.mem ((c.tc : Thread Cert.NormDxRefIdeal.nD Cert.NormDxRefIdeal.τ).loc Cert.NormDxRefIdeal.main_arg1) = m' ((c.tc : Thread Cert.NormDxRefIdeal.nD Cert.NormDxRefIdeal.τ).loc Cert.NormDxRefIdeal.main_arg1)
          ∧ r.2.mem ((c.tc : Thread Cert.NormDxRefIdeal.nD Cert.NormDxRefIdeal.τ).loc Cert.NormDxRefIdeal.main_arg2) = m' ((c.tc : Thread Cert.NormDxRefIdeal.nD Cert.NormDxRefIdeal.τ).loc Cert.NormDxRefIdeal.main_arg2)
          ∧ r.2.mem ((c.tc : Thread Cert.NormDxRefIdeal.nD Cert.NormDxRefIdeal.τ).loc Cert.NormDxRefIdeal.main_arg3) = m' ((c.tc : Thread Cert.NormDxRefIdeal.nD Cert.NormDxRefIdeal.τ).loc Cert.NormDxRefIdeal.main_arg3))

def preserves_NormDxFirst_NormDxFirstIdeal : Prop :=
  True

def algebraic_NormDxFirstIdeal_NormDxFirstRefIdeal [hNormDxFirstIdeal : Cert.NormDxFirstIdeal.Facts] [hNormDxFirstRefIdeal : Cert.NormDxFirstRefIdeal.Facts] : Prop :=
  ∀ (m : (ℓ : Loc Cert.NormDxFirstIdeal.nD Cert.NormDxFirstIdeal.τ Cert.NormDxFirstIdeal.sig) → Buf (Elt Ideal) ℓ) (g : Dev Cert.NormDxFirstIdeal.nD → PrngReg)
    (m' : (ℓ : Loc Cert.NormDxFirstRefIdeal.nD Cert.NormDxFirstRefIdeal.τ Cert.NormDxFirstRefIdeal.sig) → Buf (Elt Ideal) ℓ) (g' : Dev Cert.NormDxFirstRefIdeal.nD → PrngReg), Pre_NormDxFirstIdeal m →
    (∀ c : Dev Cert.NormDxFirstIdeal.nD,
      m' ((c.tc : Thread Cert.NormDxFirstRefIdeal.nD Cert.NormDxFirstRefIdeal.τ).loc Cert.NormDxFirstRefIdeal.main_arg0) = m ((c.tc : Thread Cert.NormDxFirstIdeal.nD Cert.NormDxFirstIdeal.τ).loc Cert.NormDxFirstIdeal.main_arg0)
      ∧ m' ((c.tc : Thread Cert.NormDxFirstRefIdeal.nD Cert.NormDxFirstRefIdeal.τ).loc Cert.NormDxFirstRefIdeal.main_arg1) = m ((c.tc : Thread Cert.NormDxFirstIdeal.nD Cert.NormDxFirstIdeal.τ).loc Cert.NormDxFirstIdeal.main_arg1)
      ∧ m' ((c.tc : Thread Cert.NormDxFirstRefIdeal.nD Cert.NormDxFirstRefIdeal.τ).loc Cert.NormDxFirstRefIdeal.main_arg2) = m ((c.tc : Thread Cert.NormDxFirstIdeal.nD Cert.NormDxFirstIdeal.τ).loc Cert.NormDxFirstIdeal.main_arg2)
      ∧ m' ((c.tc : Thread Cert.NormDxFirstRefIdeal.nD Cert.NormDxFirstRefIdeal.τ).loc Cert.NormDxFirstRefIdeal.main_arg3) = m ((c.tc : Thread Cert.NormDxFirstIdeal.nD Cert.NormDxFirstIdeal.τ).loc Cert.NormDxFirstIdeal.main_arg3)) →
    ∃ (v0 : (c : Dev Cert.NormDxFirstIdeal.nD) → Buf (Elt Ideal) ((c.tc : Thread Cert.NormDxFirstIdeal.nD Cert.NormDxFirstIdeal.τ).loc Cert.NormDxFirstIdeal.main_v1_0)) (v1 : (c : Dev Cert.NormDxFirstIdeal.nD) → Buf (Elt Ideal) ((c.tc : Thread Cert.NormDxFirstIdeal.nD Cert.NormDxFirstIdeal.τ).loc Cert.NormDxFirstIdeal.main_v1_1)),
      θ_run (Cert.NormDxFirstIdeal.defs (F := Ideal)) (onTc (τ := Cert.NormDxFirstIdeal.τ) (Cert.NormDxFirstIdeal.main (F := Ideal))) ⟨m, fun _ => 0, g⟩ (fun r => ∀ c : Dev Cert.NormDxFirstIdeal.nD,
          r.2.mem ((c.tc : Thread Cert.NormDxFirstIdeal.nD Cert.NormDxFirstIdeal.τ).loc Cert.NormDxFirstIdeal.main_v1_0) = v0 c
          ∧ r.2.mem ((c.tc : Thread Cert.NormDxFirstIdeal.nD Cert.NormDxFirstIdeal.τ).loc Cert.NormDxFirstIdeal.main_v1_1) = v1 c
          ∧ r.2.mem ((c.tc : Thread Cert.NormDxFirstIdeal.nD Cert.NormDxFirstIdeal.τ).loc Cert.NormDxFirstIdeal.main_arg0) = m ((c.tc : Thread Cert.NormDxFirstIdeal.nD Cert.NormDxFirstIdeal.τ).loc Cert.NormDxFirstIdeal.main_arg0)
          ∧ r.2.mem ((c.tc : Thread Cert.NormDxFirstIdeal.nD Cert.NormDxFirstIdeal.τ).loc Cert.NormDxFirstIdeal.main_arg1) = m ((c.tc : Thread Cert.NormDxFirstIdeal.nD Cert.NormDxFirstIdeal.τ).loc Cert.NormDxFirstIdeal.main_arg1)
          ∧ r.2.mem ((c.tc : Thread Cert.NormDxFirstIdeal.nD Cert.NormDxFirstIdeal.τ).loc Cert.NormDxFirstIdeal.main_arg2) = m ((c.tc : Thread Cert.NormDxFirstIdeal.nD Cert.NormDxFirstIdeal.τ).loc Cert.NormDxFirstIdeal.main_arg2)
          ∧ r.2.mem ((c.tc : Thread Cert.NormDxFirstIdeal.nD Cert.NormDxFirstIdeal.τ).loc Cert.NormDxFirstIdeal.main_arg3) = m ((c.tc : Thread Cert.NormDxFirstIdeal.nD Cert.NormDxFirstIdeal.τ).loc Cert.NormDxFirstIdeal.main_arg3))
      ∧ θ_run (Cert.NormDxFirstRefIdeal.defs (F := Ideal)) (onTc (τ := Cert.NormDxFirstRefIdeal.τ) (Cert.NormDxFirstRefIdeal.main (F := Ideal))) ⟨m', fun _ => 0, g'⟩ (fun r => ∀ c : Dev Cert.NormDxFirstRefIdeal.nD,
          r.2.mem ((c.tc : Thread Cert.NormDxFirstRefIdeal.nD Cert.NormDxFirstRefIdeal.τ).loc Cert.NormDxFirstRefIdeal.main_v36) = v0 c
          ∧ r.2.mem ((c.tc : Thread Cert.NormDxFirstRefIdeal.nD Cert.NormDxFirstRefIdeal.τ).loc Cert.NormDxFirstRefIdeal.main_v37) = v1 c
          ∧ r.2.mem ((c.tc : Thread Cert.NormDxFirstRefIdeal.nD Cert.NormDxFirstRefIdeal.τ).loc Cert.NormDxFirstRefIdeal.main_arg0) = m' ((c.tc : Thread Cert.NormDxFirstRefIdeal.nD Cert.NormDxFirstRefIdeal.τ).loc Cert.NormDxFirstRefIdeal.main_arg0)
          ∧ r.2.mem ((c.tc : Thread Cert.NormDxFirstRefIdeal.nD Cert.NormDxFirstRefIdeal.τ).loc Cert.NormDxFirstRefIdeal.main_arg1) = m' ((c.tc : Thread Cert.NormDxFirstRefIdeal.nD Cert.NormDxFirstRefIdeal.τ).loc Cert.NormDxFirstRefIdeal.main_arg1)
          ∧ r.2.mem ((c.tc : Thread Cert.NormDxFirstRefIdeal.nD Cert.NormDxFirstRefIdeal.τ).loc Cert.NormDxFirstRefIdeal.main_arg2) = m' ((c.tc : Thread Cert.NormDxFirstRefIdeal.nD Cert.NormDxFirstRefIdeal.τ).loc Cert.NormDxFirstRefIdeal.main_arg2)
          ∧ r.2.mem ((c.tc : Thread Cert.NormDxFirstRefIdeal.nD Cert.NormDxFirstRefIdeal.τ).loc Cert.NormDxFirstRefIdeal.main_arg3) = m' ((c.tc : Thread Cert.NormDxFirstRefIdeal.nD Cert.NormDxFirstRefIdeal.τ).loc Cert.NormDxFirstRefIdeal.main_arg3))

def preserves_QNormDx_QNormDxIdeal : Prop :=
  True

def algebraic_QNormDxIdeal_QNormDxRefIdeal [hQNormDxIdeal : Cert.QNormDxIdeal.Facts] [hQNormDxRefIdeal : Cert.QNormDxRefIdeal.Facts] : Prop :=
  ∀ (m : (ℓ : Loc Cert.QNormDxIdeal.nD Cert.QNormDxIdeal.τ Cert.QNormDxIdeal.sig) → Buf (Elt Ideal) ℓ) (g : Dev Cert.QNormDxIdeal.nD → PrngReg)
    (m' : (ℓ : Loc Cert.QNormDxRefIdeal.nD Cert.QNormDxRefIdeal.τ Cert.QNormDxRefIdeal.sig) → Buf (Elt Ideal) ℓ) (g' : Dev Cert.QNormDxRefIdeal.nD → PrngReg), Pre_QNormDxIdeal m →
    (∀ c : Dev Cert.QNormDxIdeal.nD,
      m' ((c.tc : Thread Cert.QNormDxRefIdeal.nD Cert.QNormDxRefIdeal.τ).loc Cert.QNormDxRefIdeal.main_arg0) = m ((c.tc : Thread Cert.QNormDxIdeal.nD Cert.QNormDxIdeal.τ).loc Cert.QNormDxIdeal.main_arg0)
      ∧ m' ((c.tc : Thread Cert.QNormDxRefIdeal.nD Cert.QNormDxRefIdeal.τ).loc Cert.QNormDxRefIdeal.main_arg1) = m ((c.tc : Thread Cert.QNormDxIdeal.nD Cert.QNormDxIdeal.τ).loc Cert.QNormDxIdeal.main_arg1)
      ∧ m' ((c.tc : Thread Cert.QNormDxRefIdeal.nD Cert.QNormDxRefIdeal.τ).loc Cert.QNormDxRefIdeal.main_arg2) = m ((c.tc : Thread Cert.QNormDxIdeal.nD Cert.QNormDxIdeal.τ).loc Cert.QNormDxIdeal.main_arg2)) →
    ∃ (v0 : (c : Dev Cert.QNormDxIdeal.nD) → Buf (Elt Ideal) ((c.tc : Thread Cert.QNormDxIdeal.nD Cert.QNormDxIdeal.τ).loc Cert.QNormDxIdeal.main_v1_0)) (v1 : (c : Dev Cert.QNormDxIdeal.nD) → Buf (Elt Ideal) ((c.tc : Thread Cert.QNormDxIdeal.nD Cert.QNormDxIdeal.τ).loc Cert.QNormDxIdeal.main_v1_1)),
      θ_run (Cert.QNormDxIdeal.defs (F := Ideal)) (onTc (τ := Cert.QNormDxIdeal.τ) (Cert.QNormDxIdeal.main (F := Ideal))) ⟨m, fun _ => 0, g⟩ (fun r => ∀ c : Dev Cert.QNormDxIdeal.nD,
          r.2.mem ((c.tc : Thread Cert.QNormDxIdeal.nD Cert.QNormDxIdeal.τ).loc Cert.QNormDxIdeal.main_v1_0) = v0 c
          ∧ r.2.mem ((c.tc : Thread Cert.QNormDxIdeal.nD Cert.QNormDxIdeal.τ).loc Cert.QNormDxIdeal.main_v1_1) = v1 c
          ∧ r.2.mem ((c.tc : Thread Cert.QNormDxIdeal.nD Cert.QNormDxIdeal.τ).loc Cert.QNormDxIdeal.main_arg0) = m ((c.tc : Thread Cert.QNormDxIdeal.nD Cert.QNormDxIdeal.τ).loc Cert.QNormDxIdeal.main_arg0)
          ∧ r.2.mem ((c.tc : Thread Cert.QNormDxIdeal.nD Cert.QNormDxIdeal.τ).loc Cert.QNormDxIdeal.main_arg1) = m ((c.tc : Thread Cert.QNormDxIdeal.nD Cert.QNormDxIdeal.τ).loc Cert.QNormDxIdeal.main_arg1)
          ∧ r.2.mem ((c.tc : Thread Cert.QNormDxIdeal.nD Cert.QNormDxIdeal.τ).loc Cert.QNormDxIdeal.main_arg2) = m ((c.tc : Thread Cert.QNormDxIdeal.nD Cert.QNormDxIdeal.τ).loc Cert.QNormDxIdeal.main_arg2))
      ∧ θ_run (Cert.QNormDxRefIdeal.defs (F := Ideal)) (onTc (τ := Cert.QNormDxRefIdeal.τ) (Cert.QNormDxRefIdeal.main (F := Ideal))) ⟨m', fun _ => 0, g'⟩ (fun r => ∀ c : Dev Cert.QNormDxRefIdeal.nD,
          r.2.mem ((c.tc : Thread Cert.QNormDxRefIdeal.nD Cert.QNormDxRefIdeal.τ).loc Cert.QNormDxRefIdeal.main_v35) = v0 c
          ∧ r.2.mem ((c.tc : Thread Cert.QNormDxRefIdeal.nD Cert.QNormDxRefIdeal.τ).loc Cert.QNormDxRefIdeal.main_v36) = v1 c
          ∧ r.2.mem ((c.tc : Thread Cert.QNormDxRefIdeal.nD Cert.QNormDxRefIdeal.τ).loc Cert.QNormDxRefIdeal.main_arg0) = m' ((c.tc : Thread Cert.QNormDxRefIdeal.nD Cert.QNormDxRefIdeal.τ).loc Cert.QNormDxRefIdeal.main_arg0)
          ∧ r.2.mem ((c.tc : Thread Cert.QNormDxRefIdeal.nD Cert.QNormDxRefIdeal.τ).loc Cert.QNormDxRefIdeal.main_arg1) = m' ((c.tc : Thread Cert.QNormDxRefIdeal.nD Cert.QNormDxRefIdeal.τ).loc Cert.QNormDxRefIdeal.main_arg1)
          ∧ r.2.mem ((c.tc : Thread Cert.QNormDxRefIdeal.nD Cert.QNormDxRefIdeal.τ).loc Cert.QNormDxRefIdeal.main_arg2) = m' ((c.tc : Thread Cert.QNormDxRefIdeal.nD Cert.QNormDxRefIdeal.τ).loc Cert.QNormDxRefIdeal.main_arg2))

def preserves_KvNormDx_KvNormDxIdeal : Prop :=
  True

def algebraic_KvNormDxIdeal_KvNormDxRefIdeal [hKvNormDxIdeal : Cert.KvNormDxIdeal.Facts] [hKvNormDxRefIdeal : Cert.KvNormDxRefIdeal.Facts] : Prop :=
  ∀ (m : (ℓ : Loc Cert.KvNormDxIdeal.nD Cert.KvNormDxIdeal.τ Cert.KvNormDxIdeal.sig) → Buf (Elt Ideal) ℓ) (g : Dev Cert.KvNormDxIdeal.nD → PrngReg)
    (m' : (ℓ : Loc Cert.KvNormDxRefIdeal.nD Cert.KvNormDxRefIdeal.τ Cert.KvNormDxRefIdeal.sig) → Buf (Elt Ideal) ℓ) (g' : Dev Cert.KvNormDxRefIdeal.nD → PrngReg), Pre_KvNormDxIdeal m →
    (∀ c : Dev Cert.KvNormDxIdeal.nD,
      m' ((c.tc : Thread Cert.KvNormDxRefIdeal.nD Cert.KvNormDxRefIdeal.τ).loc Cert.KvNormDxRefIdeal.main_arg0) = m ((c.tc : Thread Cert.KvNormDxIdeal.nD Cert.KvNormDxIdeal.τ).loc Cert.KvNormDxIdeal.main_arg0)
      ∧ m' ((c.tc : Thread Cert.KvNormDxRefIdeal.nD Cert.KvNormDxRefIdeal.τ).loc Cert.KvNormDxRefIdeal.main_arg1) = m ((c.tc : Thread Cert.KvNormDxIdeal.nD Cert.KvNormDxIdeal.τ).loc Cert.KvNormDxIdeal.main_arg1)
      ∧ m' ((c.tc : Thread Cert.KvNormDxRefIdeal.nD Cert.KvNormDxRefIdeal.τ).loc Cert.KvNormDxRefIdeal.main_arg2) = m ((c.tc : Thread Cert.KvNormDxIdeal.nD Cert.KvNormDxIdeal.τ).loc Cert.KvNormDxIdeal.main_arg2)) →
    ∃ (v0 : (c : Dev Cert.KvNormDxIdeal.nD) → Buf (Elt Ideal) ((c.tc : Thread Cert.KvNormDxIdeal.nD Cert.KvNormDxIdeal.τ).loc Cert.KvNormDxIdeal.main_v1_0)) (v1 : (c : Dev Cert.KvNormDxIdeal.nD) → Buf (Elt Ideal) ((c.tc : Thread Cert.KvNormDxIdeal.nD Cert.KvNormDxIdeal.τ).loc Cert.KvNormDxIdeal.main_v1_1)),
      θ_run (Cert.KvNormDxIdeal.defs (F := Ideal)) (onTc (τ := Cert.KvNormDxIdeal.τ) (Cert.KvNormDxIdeal.main (F := Ideal))) ⟨m, fun _ => 0, g⟩ (fun r => ∀ c : Dev Cert.KvNormDxIdeal.nD,
          r.2.mem ((c.tc : Thread Cert.KvNormDxIdeal.nD Cert.KvNormDxIdeal.τ).loc Cert.KvNormDxIdeal.main_v1_0) = v0 c
          ∧ r.2.mem ((c.tc : Thread Cert.KvNormDxIdeal.nD Cert.KvNormDxIdeal.τ).loc Cert.KvNormDxIdeal.main_v1_1) = v1 c
          ∧ r.2.mem ((c.tc : Thread Cert.KvNormDxIdeal.nD Cert.KvNormDxIdeal.τ).loc Cert.KvNormDxIdeal.main_arg0) = m ((c.tc : Thread Cert.KvNormDxIdeal.nD Cert.KvNormDxIdeal.τ).loc Cert.KvNormDxIdeal.main_arg0)
          ∧ r.2.mem ((c.tc : Thread Cert.KvNormDxIdeal.nD Cert.KvNormDxIdeal.τ).loc Cert.KvNormDxIdeal.main_arg1) = m ((c.tc : Thread Cert.KvNormDxIdeal.nD Cert.KvNormDxIdeal.τ).loc Cert.KvNormDxIdeal.main_arg1)
          ∧ r.2.mem ((c.tc : Thread Cert.KvNormDxIdeal.nD Cert.KvNormDxIdeal.τ).loc Cert.KvNormDxIdeal.main_arg2) = m ((c.tc : Thread Cert.KvNormDxIdeal.nD Cert.KvNormDxIdeal.τ).loc Cert.KvNormDxIdeal.main_arg2))
      ∧ θ_run (Cert.KvNormDxRefIdeal.defs (F := Ideal)) (onTc (τ := Cert.KvNormDxRefIdeal.τ) (Cert.KvNormDxRefIdeal.main (F := Ideal))) ⟨m', fun _ => 0, g'⟩ (fun r => ∀ c : Dev Cert.KvNormDxRefIdeal.nD,
          r.2.mem ((c.tc : Thread Cert.KvNormDxRefIdeal.nD Cert.KvNormDxRefIdeal.τ).loc Cert.KvNormDxRefIdeal.main_v35) = v0 c
          ∧ r.2.mem ((c.tc : Thread Cert.KvNormDxRefIdeal.nD Cert.KvNormDxRefIdeal.τ).loc Cert.KvNormDxRefIdeal.main_v36) = v1 c
          ∧ r.2.mem ((c.tc : Thread Cert.KvNormDxRefIdeal.nD Cert.KvNormDxRefIdeal.τ).loc Cert.KvNormDxRefIdeal.main_arg0) = m' ((c.tc : Thread Cert.KvNormDxRefIdeal.nD Cert.KvNormDxRefIdeal.τ).loc Cert.KvNormDxRefIdeal.main_arg0)
          ∧ r.2.mem ((c.tc : Thread Cert.KvNormDxRefIdeal.nD Cert.KvNormDxRefIdeal.τ).loc Cert.KvNormDxRefIdeal.main_arg1) = m' ((c.tc : Thread Cert.KvNormDxRefIdeal.nD Cert.KvNormDxRefIdeal.τ).loc Cert.KvNormDxRefIdeal.main_arg1)
          ∧ r.2.mem ((c.tc : Thread Cert.KvNormDxRefIdeal.nD Cert.KvNormDxRefIdeal.τ).loc Cert.KvNormDxRefIdeal.main_arg2) = m' ((c.tc : Thread Cert.KvNormDxRefIdeal.nD Cert.KvNormDxRefIdeal.τ).loc Cert.KvNormDxRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_AdamRelBias_AdamRelBiasIdeal : Prop :=
  True

def algebraic_AdamRelBiasIdeal_AdamRelBiasRefIdeal [hAdamRelBiasIdeal : Cert.AdamRelBiasIdeal.Facts] [hAdamRelBiasRefIdeal : Cert.AdamRelBiasRefIdeal.Facts] : Prop :=
  ∀ (m : (ℓ : Loc Cert.AdamRelBiasIdeal.nD Cert.AdamRelBiasIdeal.τ Cert.AdamRelBiasIdeal.sig) → Buf (Elt Ideal) ℓ) (g : Dev Cert.AdamRelBiasIdeal.nD → PrngReg)
    (m' : (ℓ : Loc Cert.AdamRelBiasRefIdeal.nD Cert.AdamRelBiasRefIdeal.τ Cert.AdamRelBiasRefIdeal.sig) → Buf (Elt Ideal) ℓ) (g' : Dev Cert.AdamRelBiasRefIdeal.nD → PrngReg), Pre_AdamRelBiasIdeal m →
    (∀ c : Dev Cert.AdamRelBiasIdeal.nD,
      m' ((c.tc : Thread Cert.AdamRelBiasRefIdeal.nD Cert.AdamRelBiasRefIdeal.τ).loc Cert.AdamRelBiasRefIdeal.main_arg0) = m ((c.tc : Thread Cert.AdamRelBiasIdeal.nD Cert.AdamRelBiasIdeal.τ).loc Cert.AdamRelBiasIdeal.main_arg0)
      ∧ m' ((c.tc : Thread Cert.AdamRelBiasRefIdeal.nD Cert.AdamRelBiasRefIdeal.τ).loc Cert.AdamRelBiasRefIdeal.main_arg1) = m ((c.tc : Thread Cert.AdamRelBiasIdeal.nD Cert.AdamRelBiasIdeal.τ).loc Cert.AdamRelBiasIdeal.main_arg1)
      ∧ m' ((c.tc : Thread Cert.AdamRelBiasRefIdeal.nD Cert.AdamRelBiasRefIdeal.τ).loc Cert.AdamRelBiasRefIdeal.main_arg2) = m ((c.tc : Thread Cert.AdamRelBiasIdeal.nD Cert.AdamRelBiasIdeal.τ).loc Cert.AdamRelBiasIdeal.main_arg2)
      ∧ m' ((c.tc : Thread Cert.AdamRelBiasRefIdeal.nD Cert.AdamRelBiasRefIdeal.τ).loc Cert.AdamRelBiasRefIdeal.main_arg3) = m ((c.tc : Thread Cert.AdamRelBiasIdeal.nD Cert.AdamRelBiasIdeal.τ).loc Cert.AdamRelBiasIdeal.main_arg3)) →
    ∃ (v0 : (c : Dev Cert.AdamRelBiasIdeal.nD) → Buf (Elt Ideal) ((c.tc : Thread Cert.AdamRelBiasIdeal.nD Cert.AdamRelBiasIdeal.τ).loc Cert.AdamRelBiasIdeal.main_v0_0)) (v1 : (c : Dev Cert.AdamRelBiasIdeal.nD) → Buf (Elt Ideal) ((c.tc : Thread Cert.AdamRelBiasIdeal.nD Cert.AdamRelBiasIdeal.τ).loc Cert.AdamRelBiasIdeal.main_v0_1)) (v2 : (c : Dev Cert.AdamRelBiasIdeal.nD) → Buf (Elt Ideal) ((c.tc : Thread Cert.AdamRelBiasIdeal.nD Cert.AdamRelBiasIdeal.τ).loc Cert.AdamRelBiasIdeal.main_v0_2)),
      θ_run (Cert.AdamRelBiasIdeal.defs (F := Ideal)) (onTc (τ := Cert.AdamRelBiasIdeal.τ) (Cert.AdamRelBiasIdeal.main (F := Ideal))) ⟨m, fun _ => 0, g⟩ (fun r => ∀ c : Dev Cert.AdamRelBiasIdeal.nD,
          r.2.mem ((c.tc : Thread Cert.AdamRelBiasIdeal.nD Cert.AdamRelBiasIdeal.τ).loc Cert.AdamRelBiasIdeal.main_v0_0) = v0 c
          ∧ r.2.mem ((c.tc : Thread Cert.AdamRelBiasIdeal.nD Cert.AdamRelBiasIdeal.τ).loc Cert.AdamRelBiasIdeal.main_v0_1) = v1 c
          ∧ r.2.mem ((c.tc : Thread Cert.AdamRelBiasIdeal.nD Cert.AdamRelBiasIdeal.τ).loc Cert.AdamRelBiasIdeal.main_v0_2) = v2 c
          ∧ r.2.mem ((c.tc : Thread Cert.AdamRelBiasIdeal.nD Cert.AdamRelBiasIdeal.τ).loc Cert.AdamRelBiasIdeal.main_arg0) = m ((c.tc : Thread Cert.AdamRelBiasIdeal.nD Cert.AdamRelBiasIdeal.τ).loc Cert.AdamRelBiasIdeal.main_arg0)
          ∧ r.2.mem ((c.tc : Thread Cert.AdamRelBiasIdeal.nD Cert.AdamRelBiasIdeal.τ).loc Cert.AdamRelBiasIdeal.main_arg1) = m ((c.tc : Thread Cert.AdamRelBiasIdeal.nD Cert.AdamRelBiasIdeal.τ).loc Cert.AdamRelBiasIdeal.main_arg1)
          ∧ r.2.mem ((c.tc : Thread Cert.AdamRelBiasIdeal.nD Cert.AdamRelBiasIdeal.τ).loc Cert.AdamRelBiasIdeal.main_arg2) = m ((c.tc : Thread Cert.AdamRelBiasIdeal.nD Cert.AdamRelBiasIdeal.τ).loc Cert.AdamRelBiasIdeal.main_arg2)
          ∧ r.2.mem ((c.tc : Thread Cert.AdamRelBiasIdeal.nD Cert.AdamRelBiasIdeal.τ).loc Cert.AdamRelBiasIdeal.main_arg3) = m ((c.tc : Thread Cert.AdamRelBiasIdeal.nD Cert.AdamRelBiasIdeal.τ).loc Cert.AdamRelBiasIdeal.main_arg3))
      ∧ θ_run (Cert.AdamRelBiasRefIdeal.defs (F := Ideal)) (onTc (τ := Cert.AdamRelBiasRefIdeal.τ) (Cert.AdamRelBiasRefIdeal.main (F := Ideal))) ⟨m', fun _ => 0, g'⟩ (fun r => ∀ c : Dev Cert.AdamRelBiasRefIdeal.nD,
          r.2.mem ((c.tc : Thread Cert.AdamRelBiasRefIdeal.nD Cert.AdamRelBiasRefIdeal.τ).loc Cert.AdamRelBiasRefIdeal.main_v23) = v0 c
          ∧ r.2.mem ((c.tc : Thread Cert.AdamRelBiasRefIdeal.nD Cert.AdamRelBiasRefIdeal.τ).loc Cert.AdamRelBiasRefIdeal.main_v4) = v1 c
          ∧ r.2.mem ((c.tc : Thread Cert.AdamRelBiasRefIdeal.nD Cert.AdamRelBiasRefIdeal.τ).loc Cert.AdamRelBiasRefIdeal.main_v10) = v2 c
          ∧ r.2.mem ((c.tc : Thread Cert.AdamRelBiasRefIdeal.nD Cert.AdamRelBiasRefIdeal.τ).loc Cert.AdamRelBiasRefIdeal.main_arg0) = m' ((c.tc : Thread Cert.AdamRelBiasRefIdeal.nD Cert.AdamRelBiasRefIdeal.τ).loc Cert.AdamRelBiasRefIdeal.main_arg0)
          ∧ r.2.mem ((c.tc : Thread Cert.AdamRelBiasRefIdeal.nD Cert.AdamRelBiasRefIdeal.τ).loc Cert.AdamRelBiasRefIdeal.main_arg1) = m' ((c.tc : Thread Cert.AdamRelBiasRefIdeal.nD Cert.AdamRelBiasRefIdeal.τ).loc Cert.AdamRelBiasRefIdeal.main_arg1)
          ∧ r.2.mem ((c.tc : Thread Cert.AdamRelBiasRefIdeal.nD Cert.AdamRelBiasRefIdeal.τ).loc Cert.AdamRelBiasRefIdeal.main_arg2) = m' ((c.tc : Thread Cert.AdamRelBiasRefIdeal.nD Cert.AdamRelBiasRefIdeal.τ).loc Cert.AdamRelBiasRefIdeal.main_arg2)
          ∧ r.2.mem ((c.tc : Thread Cert.AdamRelBiasRefIdeal.nD Cert.AdamRelBiasRefIdeal.τ).loc Cert.AdamRelBiasRefIdeal.main_arg3) = m' ((c.tc : Thread Cert.AdamRelBiasRefIdeal.nD Cert.AdamRelBiasRefIdeal.τ).loc Cert.AdamRelBiasRefIdeal.main_arg3))

def preserves_AdamLayerNorms_AdamLayerNormsIdeal : Prop :=
  True

def algebraic_AdamLayerNormsIdeal_AdamLayerNormsRefIdeal [hAdamLayerNormsIdeal : Cert.AdamLayerNormsIdeal.Facts] [hAdamLayerNormsRefIdeal : Cert.AdamLayerNormsRefIdeal.Facts] : Prop :=
  ∀ (m : (ℓ : Loc Cert.AdamLayerNormsIdeal.nD Cert.AdamLayerNormsIdeal.τ Cert.AdamLayerNormsIdeal.sig) → Buf (Elt Ideal) ℓ) (g : Dev Cert.AdamLayerNormsIdeal.nD → PrngReg)
    (m' : (ℓ : Loc Cert.AdamLayerNormsRefIdeal.nD Cert.AdamLayerNormsRefIdeal.τ Cert.AdamLayerNormsRefIdeal.sig) → Buf (Elt Ideal) ℓ) (g' : Dev Cert.AdamLayerNormsRefIdeal.nD → PrngReg), Pre_AdamLayerNormsIdeal m →
    (∀ c : Dev Cert.AdamLayerNormsIdeal.nD,
      m' ((c.tc : Thread Cert.AdamLayerNormsRefIdeal.nD Cert.AdamLayerNormsRefIdeal.τ).loc Cert.AdamLayerNormsRefIdeal.main_arg0) = m ((c.tc : Thread Cert.AdamLayerNormsIdeal.nD Cert.AdamLayerNormsIdeal.τ).loc Cert.AdamLayerNormsIdeal.main_arg0)
      ∧ m' ((c.tc : Thread Cert.AdamLayerNormsRefIdeal.nD Cert.AdamLayerNormsRefIdeal.τ).loc Cert.AdamLayerNormsRefIdeal.main_arg1) = m ((c.tc : Thread Cert.AdamLayerNormsIdeal.nD Cert.AdamLayerNormsIdeal.τ).loc Cert.AdamLayerNormsIdeal.main_arg1)
      ∧ m' ((c.tc : Thread Cert.AdamLayerNormsRefIdeal.nD Cert.AdamLayerNormsRefIdeal.τ).loc Cert.AdamLayerNormsRefIdeal.main_arg2) = m ((c.tc : Thread Cert.AdamLayerNormsIdeal.nD Cert.AdamLayerNormsIdeal.τ).loc Cert.AdamLayerNormsIdeal.main_arg2)
      ∧ m' ((c.tc : Thread Cert.AdamLayerNormsRefIdeal.nD Cert.AdamLayerNormsRefIdeal.τ).loc Cert.AdamLayerNormsRefIdeal.main_arg3) = m ((c.tc : Thread Cert.AdamLayerNormsIdeal.nD Cert.AdamLayerNormsIdeal.τ).loc Cert.AdamLayerNormsIdeal.main_arg3)) →
    ∃ (v0 : (c : Dev Cert.AdamLayerNormsIdeal.nD) → Buf (Elt Ideal) ((c.tc : Thread Cert.AdamLayerNormsIdeal.nD Cert.AdamLayerNormsIdeal.τ).loc Cert.AdamLayerNormsIdeal.main_v0_0)) (v1 : (c : Dev Cert.AdamLayerNormsIdeal.nD) → Buf (Elt Ideal) ((c.tc : Thread Cert.AdamLayerNormsIdeal.nD Cert.AdamLayerNormsIdeal.τ).loc Cert.AdamLayerNormsIdeal.main_v0_1)) (v2 : (c : Dev Cert.AdamLayerNormsIdeal.nD) → Buf (Elt Ideal) ((c.tc : Thread Cert.AdamLayerNormsIdeal.nD Cert.AdamLayerNormsIdeal.τ).loc Cert.AdamLayerNormsIdeal.main_v0_2)),
      θ_run (Cert.AdamLayerNormsIdeal.defs (F := Ideal)) (onTc (τ := Cert.AdamLayerNormsIdeal.τ) (Cert.AdamLayerNormsIdeal.main (F := Ideal))) ⟨m, fun _ => 0, g⟩ (fun r => ∀ c : Dev Cert.AdamLayerNormsIdeal.nD,
          r.2.mem ((c.tc : Thread Cert.AdamLayerNormsIdeal.nD Cert.AdamLayerNormsIdeal.τ).loc Cert.AdamLayerNormsIdeal.main_v0_0) = v0 c
          ∧ r.2.mem ((c.tc : Thread Cert.AdamLayerNormsIdeal.nD Cert.AdamLayerNormsIdeal.τ).loc Cert.AdamLayerNormsIdeal.main_v0_1) = v1 c
          ∧ r.2.mem ((c.tc : Thread Cert.AdamLayerNormsIdeal.nD Cert.AdamLayerNormsIdeal.τ).loc Cert.AdamLayerNormsIdeal.main_v0_2) = v2 c
          ∧ r.2.mem ((c.tc : Thread Cert.AdamLayerNormsIdeal.nD Cert.AdamLayerNormsIdeal.τ).loc Cert.AdamLayerNormsIdeal.main_arg0) = m ((c.tc : Thread Cert.AdamLayerNormsIdeal.nD Cert.AdamLayerNormsIdeal.τ).loc Cert.AdamLayerNormsIdeal.main_arg0)
          ∧ r.2.mem ((c.tc : Thread Cert.AdamLayerNormsIdeal.nD Cert.AdamLayerNormsIdeal.τ).loc Cert.AdamLayerNormsIdeal.main_arg1) = m ((c.tc : Thread Cert.AdamLayerNormsIdeal.nD Cert.AdamLayerNormsIdeal.τ).loc Cert.AdamLayerNormsIdeal.main_arg1)
          ∧ r.2.mem ((c.tc : Thread Cert.AdamLayerNormsIdeal.nD Cert.AdamLayerNormsIdeal.τ).loc Cert.AdamLayerNormsIdeal.main_arg2) = m ((c.tc : Thread Cert.AdamLayerNormsIdeal.nD Cert.AdamLayerNormsIdeal.τ).loc Cert.AdamLayerNormsIdeal.main_arg2)
          ∧ r.2.mem ((c.tc : Thread Cert.AdamLayerNormsIdeal.nD Cert.AdamLayerNormsIdeal.τ).loc Cert.AdamLayerNormsIdeal.main_arg3) = m ((c.tc : Thread Cert.AdamLayerNormsIdeal.nD Cert.AdamLayerNormsIdeal.τ).loc Cert.AdamLayerNormsIdeal.main_arg3))
      ∧ θ_run (Cert.AdamLayerNormsRefIdeal.defs (F := Ideal)) (onTc (τ := Cert.AdamLayerNormsRefIdeal.τ) (Cert.AdamLayerNormsRefIdeal.main (F := Ideal))) ⟨m', fun _ => 0, g'⟩ (fun r => ∀ c : Dev Cert.AdamLayerNormsRefIdeal.nD,
          r.2.mem ((c.tc : Thread Cert.AdamLayerNormsRefIdeal.nD Cert.AdamLayerNormsRefIdeal.τ).loc Cert.AdamLayerNormsRefIdeal.main_v23) = v0 c
          ∧ r.2.mem ((c.tc : Thread Cert.AdamLayerNormsRefIdeal.nD Cert.AdamLayerNormsRefIdeal.τ).loc Cert.AdamLayerNormsRefIdeal.main_v4) = v1 c
          ∧ r.2.mem ((c.tc : Thread Cert.AdamLayerNormsRefIdeal.nD Cert.AdamLayerNormsRefIdeal.τ).loc Cert.AdamLayerNormsRefIdeal.main_v10) = v2 c
          ∧ r.2.mem ((c.tc : Thread Cert.AdamLayerNormsRefIdeal.nD Cert.AdamLayerNormsRefIdeal.τ).loc Cert.AdamLayerNormsRefIdeal.main_arg0) = m' ((c.tc : Thread Cert.AdamLayerNormsRefIdeal.nD Cert.AdamLayerNormsRefIdeal.τ).loc Cert.AdamLayerNormsRefIdeal.main_arg0)
          ∧ r.2.mem ((c.tc : Thread Cert.AdamLayerNormsRefIdeal.nD Cert.AdamLayerNormsRefIdeal.τ).loc Cert.AdamLayerNormsRefIdeal.main_arg1) = m' ((c.tc : Thread Cert.AdamLayerNormsRefIdeal.nD Cert.AdamLayerNormsRefIdeal.τ).loc Cert.AdamLayerNormsRefIdeal.main_arg1)
          ∧ r.2.mem ((c.tc : Thread Cert.AdamLayerNormsRefIdeal.nD Cert.AdamLayerNormsRefIdeal.τ).loc Cert.AdamLayerNormsRefIdeal.main_arg2) = m' ((c.tc : Thread Cert.AdamLayerNormsRefIdeal.nD Cert.AdamLayerNormsRefIdeal.τ).loc Cert.AdamLayerNormsRefIdeal.main_arg2)
          ∧ r.2.mem ((c.tc : Thread Cert.AdamLayerNormsRefIdeal.nD Cert.AdamLayerNormsRefIdeal.τ).loc Cert.AdamLayerNormsRefIdeal.main_arg3) = m' ((c.tc : Thread Cert.AdamLayerNormsRefIdeal.nD Cert.AdamLayerNormsRefIdeal.τ).loc Cert.AdamLayerNormsRefIdeal.main_arg3))

def preserves_AdamFinalNorm_AdamFinalNormIdeal : Prop :=
  True

def algebraic_AdamFinalNormIdeal_AdamFinalNormRefIdeal [hAdamFinalNormIdeal : Cert.AdamFinalNormIdeal.Facts] [hAdamFinalNormRefIdeal : Cert.AdamFinalNormRefIdeal.Facts] : Prop :=
  ∀ (m : (ℓ : Loc Cert.AdamFinalNormIdeal.nD Cert.AdamFinalNormIdeal.τ Cert.AdamFinalNormIdeal.sig) → Buf (Elt Ideal) ℓ) (g : Dev Cert.AdamFinalNormIdeal.nD → PrngReg)
    (m' : (ℓ : Loc Cert.AdamFinalNormRefIdeal.nD Cert.AdamFinalNormRefIdeal.τ Cert.AdamFinalNormRefIdeal.sig) → Buf (Elt Ideal) ℓ) (g' : Dev Cert.AdamFinalNormRefIdeal.nD → PrngReg), Pre_AdamFinalNormIdeal m →
    (∀ c : Dev Cert.AdamFinalNormIdeal.nD,
      m' ((c.tc : Thread Cert.AdamFinalNormRefIdeal.nD Cert.AdamFinalNormRefIdeal.τ).loc Cert.AdamFinalNormRefIdeal.main_arg0) = m ((c.tc : Thread Cert.AdamFinalNormIdeal.nD Cert.AdamFinalNormIdeal.τ).loc Cert.AdamFinalNormIdeal.main_arg0)
      ∧ m' ((c.tc : Thread Cert.AdamFinalNormRefIdeal.nD Cert.AdamFinalNormRefIdeal.τ).loc Cert.AdamFinalNormRefIdeal.main_arg1) = m ((c.tc : Thread Cert.AdamFinalNormIdeal.nD Cert.AdamFinalNormIdeal.τ).loc Cert.AdamFinalNormIdeal.main_arg1)
      ∧ m' ((c.tc : Thread Cert.AdamFinalNormRefIdeal.nD Cert.AdamFinalNormRefIdeal.τ).loc Cert.AdamFinalNormRefIdeal.main_arg2) = m ((c.tc : Thread Cert.AdamFinalNormIdeal.nD Cert.AdamFinalNormIdeal.τ).loc Cert.AdamFinalNormIdeal.main_arg2)
      ∧ m' ((c.tc : Thread Cert.AdamFinalNormRefIdeal.nD Cert.AdamFinalNormRefIdeal.τ).loc Cert.AdamFinalNormRefIdeal.main_arg3) = m ((c.tc : Thread Cert.AdamFinalNormIdeal.nD Cert.AdamFinalNormIdeal.τ).loc Cert.AdamFinalNormIdeal.main_arg3)) →
    ∃ (v0 : (c : Dev Cert.AdamFinalNormIdeal.nD) → Buf (Elt Ideal) ((c.tc : Thread Cert.AdamFinalNormIdeal.nD Cert.AdamFinalNormIdeal.τ).loc Cert.AdamFinalNormIdeal.main_v0_0)) (v1 : (c : Dev Cert.AdamFinalNormIdeal.nD) → Buf (Elt Ideal) ((c.tc : Thread Cert.AdamFinalNormIdeal.nD Cert.AdamFinalNormIdeal.τ).loc Cert.AdamFinalNormIdeal.main_v0_1)) (v2 : (c : Dev Cert.AdamFinalNormIdeal.nD) → Buf (Elt Ideal) ((c.tc : Thread Cert.AdamFinalNormIdeal.nD Cert.AdamFinalNormIdeal.τ).loc Cert.AdamFinalNormIdeal.main_v0_2)),
      θ_run (Cert.AdamFinalNormIdeal.defs (F := Ideal)) (onTc (τ := Cert.AdamFinalNormIdeal.τ) (Cert.AdamFinalNormIdeal.main (F := Ideal))) ⟨m, fun _ => 0, g⟩ (fun r => ∀ c : Dev Cert.AdamFinalNormIdeal.nD,
          r.2.mem ((c.tc : Thread Cert.AdamFinalNormIdeal.nD Cert.AdamFinalNormIdeal.τ).loc Cert.AdamFinalNormIdeal.main_v0_0) = v0 c
          ∧ r.2.mem ((c.tc : Thread Cert.AdamFinalNormIdeal.nD Cert.AdamFinalNormIdeal.τ).loc Cert.AdamFinalNormIdeal.main_v0_1) = v1 c
          ∧ r.2.mem ((c.tc : Thread Cert.AdamFinalNormIdeal.nD Cert.AdamFinalNormIdeal.τ).loc Cert.AdamFinalNormIdeal.main_v0_2) = v2 c
          ∧ r.2.mem ((c.tc : Thread Cert.AdamFinalNormIdeal.nD Cert.AdamFinalNormIdeal.τ).loc Cert.AdamFinalNormIdeal.main_arg0) = m ((c.tc : Thread Cert.AdamFinalNormIdeal.nD Cert.AdamFinalNormIdeal.τ).loc Cert.AdamFinalNormIdeal.main_arg0)
          ∧ r.2.mem ((c.tc : Thread Cert.AdamFinalNormIdeal.nD Cert.AdamFinalNormIdeal.τ).loc Cert.AdamFinalNormIdeal.main_arg1) = m ((c.tc : Thread Cert.AdamFinalNormIdeal.nD Cert.AdamFinalNormIdeal.τ).loc Cert.AdamFinalNormIdeal.main_arg1)
          ∧ r.2.mem ((c.tc : Thread Cert.AdamFinalNormIdeal.nD Cert.AdamFinalNormIdeal.τ).loc Cert.AdamFinalNormIdeal.main_arg2) = m ((c.tc : Thread Cert.AdamFinalNormIdeal.nD Cert.AdamFinalNormIdeal.τ).loc Cert.AdamFinalNormIdeal.main_arg2)
          ∧ r.2.mem ((c.tc : Thread Cert.AdamFinalNormIdeal.nD Cert.AdamFinalNormIdeal.τ).loc Cert.AdamFinalNormIdeal.main_arg3) = m ((c.tc : Thread Cert.AdamFinalNormIdeal.nD Cert.AdamFinalNormIdeal.τ).loc Cert.AdamFinalNormIdeal.main_arg3))
      ∧ θ_run (Cert.AdamFinalNormRefIdeal.defs (F := Ideal)) (onTc (τ := Cert.AdamFinalNormRefIdeal.τ) (Cert.AdamFinalNormRefIdeal.main (F := Ideal))) ⟨m', fun _ => 0, g'⟩ (fun r => ∀ c : Dev Cert.AdamFinalNormRefIdeal.nD,
          r.2.mem ((c.tc : Thread Cert.AdamFinalNormRefIdeal.nD Cert.AdamFinalNormRefIdeal.τ).loc Cert.AdamFinalNormRefIdeal.main_v23) = v0 c
          ∧ r.2.mem ((c.tc : Thread Cert.AdamFinalNormRefIdeal.nD Cert.AdamFinalNormRefIdeal.τ).loc Cert.AdamFinalNormRefIdeal.main_v4) = v1 c
          ∧ r.2.mem ((c.tc : Thread Cert.AdamFinalNormRefIdeal.nD Cert.AdamFinalNormRefIdeal.τ).loc Cert.AdamFinalNormRefIdeal.main_v10) = v2 c
          ∧ r.2.mem ((c.tc : Thread Cert.AdamFinalNormRefIdeal.nD Cert.AdamFinalNormRefIdeal.τ).loc Cert.AdamFinalNormRefIdeal.main_arg0) = m' ((c.tc : Thread Cert.AdamFinalNormRefIdeal.nD Cert.AdamFinalNormRefIdeal.τ).loc Cert.AdamFinalNormRefIdeal.main_arg0)
          ∧ r.2.mem ((c.tc : Thread Cert.AdamFinalNormRefIdeal.nD Cert.AdamFinalNormRefIdeal.τ).loc Cert.AdamFinalNormRefIdeal.main_arg1) = m' ((c.tc : Thread Cert.AdamFinalNormRefIdeal.nD Cert.AdamFinalNormRefIdeal.τ).loc Cert.AdamFinalNormRefIdeal.main_arg1)
          ∧ r.2.mem ((c.tc : Thread Cert.AdamFinalNormRefIdeal.nD Cert.AdamFinalNormRefIdeal.τ).loc Cert.AdamFinalNormRefIdeal.main_arg2) = m' ((c.tc : Thread Cert.AdamFinalNormRefIdeal.nD Cert.AdamFinalNormRefIdeal.τ).loc Cert.AdamFinalNormRefIdeal.main_arg2)
          ∧ r.2.mem ((c.tc : Thread Cert.AdamFinalNormRefIdeal.nD Cert.AdamFinalNormRefIdeal.τ).loc Cert.AdamFinalNormRefIdeal.main_arg3) = m' ((c.tc : Thread Cert.AdamFinalNormRefIdeal.nD Cert.AdamFinalNormRefIdeal.τ).loc Cert.AdamFinalNormRefIdeal.main_arg3))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v23) = v0 c
          ∧ r.2.mem ((c.tc : Thread Cert.AdamWInRefIdeal.nD Cert.AdamWInRefIdeal.τ).loc Cert.AdamWInRefIdeal.main_v4) = v1 c
          ∧ r.2.mem ((c.tc : Thread Cert.AdamWInRefIdeal.nD Cert.AdamWInRefIdeal.τ).loc Cert.AdamWInRefIdeal.main_v10) = v2 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamSinks_AdamSinksIdeal : Prop :=
  True

def algebraic_AdamSinksIdeal_AdamSinksRefIdeal [hAdamSinksIdeal : Cert.AdamSinksIdeal.Facts] [hAdamSinksRefIdeal : Cert.AdamSinksRefIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg)
    (m' : (ℓ : Loc Cert.AdamSinksRefIdeal.nD Cert.AdamSinksRefIdeal.τ Cert.AdamSinksRefIdeal.sig) → Buf (Elt Ideal) ℓ) (g' : Dev Cert.AdamSinksRefIdeal.nD → PrngReg), Pre_AdamSinksIdeal m →
    (∀ c : Dev Cert.AdamSinksIdeal.nD,
      m' ((c.tc : Thread Cert.AdamSinksRefIdeal.nD Cert.AdamSinksRefIdeal.τ).loc Cert.AdamSinksRefIdeal.main_arg0) = m ((c.tc : Thread Cert.AdamSinksIdeal.nD Cert.AdamSinksIdeal.τ).loc Cert.AdamSinksIdeal.main_arg0)
      ∧ m' ((c.tc : Thread Cert.AdamSinksRefIdeal.nD Cert.AdamSinksRefIdeal.τ).loc Cert.AdamSinksRefIdeal.main_arg1) = m ((c.tc : Thread Cert.AdamSinksIdeal.nD Cert.AdamSinksIdeal.τ).loc Cert.AdamSinksIdeal.main_arg1)
      ∧ m' ((c.tc : Thread Cert.AdamSinksRefIdeal.nD Cert.AdamSinksRefIdeal.τ).loc Cert.AdamSinksRefIdeal.main_arg2) = m ((c.tc : Thread Cert.AdamSinksIdeal.nD Cert.AdamSinksIdeal.τ).loc Cert.AdamSinksIdeal.main_arg2)
      ∧ m' ((c.tc : Thread Cert.AdamSinksRefIdeal.nD Cert.AdamSinksRefIdeal.τ).loc Cert.AdamSinksRefIdeal.main_arg3) = m ((c.tc : Thread Cert.AdamSinksIdeal.nD Cert.AdamSinksIdeal.τ).loc Cert.AdamSinksIdeal.main_arg3)) →
    ∃ (v0 : (c : Dev Cert.AdamSinksIdeal.nD) → Buf (Elt Ideal) ((c.tc : Thread Cert.AdamSinksIdeal.nD Cert.AdamSinksIdeal.τ).loc Cert.AdamSinksIdeal.main_v0_0)) (v1 : (c : Dev Cert.AdamSinksIdeal.nD) → Buf (Elt Ideal) ((c.tc : Thread Cert.AdamSinksIdeal.nD Cert.AdamSinksIdeal.τ).loc Cert.AdamSinksIdeal.main_v0_1)) (v2 : (c : Dev Cert.AdamSinksIdeal.nD) → Buf (Elt Ideal) ((c.tc : Thread Cert.AdamSinksIdeal.nD Cert.AdamSinksIdeal.τ).loc Cert.AdamSinksIdeal.main_v0_2)),
      θ_run (Cert.AdamSinksIdeal.defs (F := Ideal)) (onTc (τ := Cert.AdamSinksIdeal.τ) (Cert.AdamSinksIdeal.main (F := Ideal))) ⟨m, fun _ => 0, g⟩ (fun r => ∀ c : Dev Cert.AdamSinksIdeal.nD,
          r.2.mem ((c.tc : Thread Cert.AdamSinksIdeal.nD Cert.AdamSinksIdeal.τ).loc Cert.AdamSinksIdeal.main_v0_0) = v0 c
          ∧ r.2.mem ((c.tc : Thread Cert.AdamSinksIdeal.nD Cert.AdamSinksIdeal.τ).loc Cert.AdamSinksIdeal.main_v0_1) = v1 c
          ∧ r.2.mem ((c.tc : Thread Cert.AdamSinksIdeal.nD Cert.AdamSinksIdeal.τ).loc Cert.AdamSinksIdeal.main_v0_2) = v2 c
          ∧ r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
          ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
          ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
          ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ θ_run (Cert.AdamSinksRefIdeal.defs (F := Ideal)) (onTc (τ := Cert.AdamSinksRefIdeal.τ) (Cert.AdamSinksRefIdeal.main (F := Ideal))) ⟨m', fun _ => 0, g'⟩ (fun r => ∀ c : Dev Cert.AdamSinksRefIdeal.nD,
          r.2.mem ((c.tc : Thread Cert.AdamSinksRefIdeal.nD Cert.AdamSinksRefIdeal.τ).loc Cert.AdamSinksRefIdeal.main_v23) = v0 c
          ∧ r.2.mem ((c.tc : Thread Cert.AdamSinksRefIdeal.nD Cert.AdamSinksRefIdeal.τ).loc Cert.AdamSinksRefIdeal.main_v4) = v1 c
          ∧ r.2.mem ((c.tc : Thread Cert.AdamSinksRefIdeal.nD Cert.AdamSinksRefIdeal.τ).loc Cert.AdamSinksRefIdeal.main_v10) = v2 c
          ∧ r.2.mem ((c.tc : Thread Cert.AdamSinksRefIdeal.nD Cert.AdamSinksRefIdeal.τ).loc Cert.AdamSinksRefIdeal.main_arg0) = m' ((c.tc : Thread Cert.AdamSinksRefIdeal.nD Cert.AdamSinksRefIdeal.τ).loc Cert.AdamSinksRefIdeal.main_arg0)
          ∧ r.2.mem ((c.tc : Thread Cert.AdamSinksRefIdeal.nD Cert.AdamSinksRefIdeal.τ).loc Cert.AdamSinksRefIdeal.main_arg1) = m' ((c.tc : Thread Cert.AdamSinksRefIdeal.nD Cert.AdamSinksRefIdeal.τ).loc Cert.AdamSinksRefIdeal.main_arg1)
          ∧ r.2.mem ((c.tc : Thread Cert.AdamSinksRefIdeal.nD Cert.AdamSinksRefIdeal.τ).loc Cert.AdamSinksRefIdeal.main_arg2) = m' ((c.tc : Thread Cert.AdamSinksRefIdeal.nD Cert.AdamSinksRefIdeal.τ).loc Cert.AdamSinksRefIdeal.main_arg2)
          ∧ r.2.mem ((c.tc : Thread Cert.AdamSinksRefIdeal.nD Cert.AdamSinksRefIdeal.τ).loc Cert.AdamSinksRefIdeal.main_arg3) = m' ((c.tc : Thread Cert.AdamSinksRefIdeal.nD Cert.AdamSinksRefIdeal.τ).loc Cert.AdamSinksRefIdeal.main_arg3))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v23) = v0 c
          ∧ r.2.mem ((c.tc : Thread Cert.AdamWOutRefIdeal.nD Cert.AdamWOutRefIdeal.τ).loc Cert.AdamWOutRefIdeal.main_v4) = v1 c
          ∧ r.2.mem ((c.tc : Thread Cert.AdamWOutRefIdeal.nD Cert.AdamWOutRefIdeal.τ).loc Cert.AdamWOutRefIdeal.main_v10) = v2 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamWDown_AdamWDownIdeal : Prop :=
  True

def algebraic_AdamWDownIdeal_AdamWDownRefIdeal [hAdamWDownIdeal : Cert.AdamWDownIdeal.Facts] [hAdamWDownRefIdeal : Cert.AdamWDownRefIdeal.Facts] : Prop :=
  ∀ (m : (ℓ : Loc Cert.AdamWDownIdeal.nD Cert.AdamWDownIdeal.τ Cert.AdamWDownIdeal.sig) → Buf (Elt Ideal) ℓ) (g : Dev Cert.AdamWDownIdeal.nD → PrngReg)
    (m' : (ℓ : Loc Cert.AdamWDownRefIdeal.nD Cert.AdamWDownRefIdeal.τ Cert.AdamWDownRefIdeal.sig) → Buf (Elt Ideal) ℓ) (g' : Dev Cert.AdamWDownRefIdeal.nD → PrngReg), Pre_AdamWDownIdeal m →
    (∀ c : Dev Cert.AdamWDownIdeal.nD,
      m' ((c.tc : Thread Cert.AdamWDownRefIdeal.nD Cert.AdamWDownRefIdeal.τ).loc Cert.AdamWDownRefIdeal.main_arg0) = m ((c.tc : Thread Cert.AdamWDownIdeal.nD Cert.AdamWDownIdeal.τ).loc Cert.AdamWDownIdeal.main_arg0)
      ∧ m' ((c.tc : Thread Cert.AdamWDownRefIdeal.nD Cert.AdamWDownRefIdeal.τ).loc Cert.AdamWDownRefIdeal.main_arg1) = m ((c.tc : Thread Cert.AdamWDownIdeal.nD Cert.AdamWDownIdeal.τ).loc Cert.AdamWDownIdeal.main_arg1)
      ∧ m' ((c.tc : Thread Cert.AdamWDownRefIdeal.nD Cert.AdamWDownRefIdeal.τ).loc Cert.AdamWDownRefIdeal.main_arg2) = m ((c.tc : Thread Cert.AdamWDownIdeal.nD Cert.AdamWDownIdeal.τ).loc Cert.AdamWDownIdeal.main_arg2)
      ∧ m' ((c.tc : Thread Cert.AdamWDownRefIdeal.nD Cert.AdamWDownRefIdeal.τ).loc Cert.AdamWDownRefIdeal.main_arg3) = m ((c.tc : Thread Cert.AdamWDownIdeal.nD Cert.AdamWDownIdeal.τ).loc Cert.AdamWDownIdeal.main_arg3)) →
    ∃ (v0 : (c : Dev Cert.AdamWDownIdeal.nD) → Buf (Elt Ideal) ((c.tc : Thread Cert.AdamWDownIdeal.nD Cert.AdamWDownIdeal.τ).loc Cert.AdamWDownIdeal.main_v0_0)) (v1 : (c : Dev Cert.AdamWDownIdeal.nD) → Buf (Elt Ideal) ((c.tc : Thread Cert.AdamWDownIdeal.nD Cert.AdamWDownIdeal.τ).loc Cert.AdamWDownIdeal.main_v0_1)) (v2 : (c : Dev Cert.AdamWDownIdeal.nD) → Buf (Elt Ideal) ((c.tc : Thread Cert.AdamWDownIdeal.nD Cert.AdamWDownIdeal.τ).loc Cert.AdamWDownIdeal.main_v0_2)),
      θ_run (Cert.AdamWDownIdeal.defs (F := Ideal)) (onTc (τ := Cert.AdamWDownIdeal.τ) (Cert.AdamWDownIdeal.main (F := Ideal))) ⟨m, fun _ => 0, g⟩ (fun r => ∀ c : Dev Cert.AdamWDownIdeal.nD,
          r.2.mem ((c.tc : Thread Cert.AdamWDownIdeal.nD Cert.AdamWDownIdeal.τ).loc Cert.AdamWDownIdeal.main_v0_0) = v0 c
          ∧ r.2.mem ((c.tc : Thread Cert.AdamWDownIdeal.nD Cert.AdamWDownIdeal.τ).loc Cert.AdamWDownIdeal.main_v0_1) = v1 c
          ∧ r.2.mem ((c.tc : Thread Cert.AdamWDownIdeal.nD Cert.AdamWDownIdeal.τ).loc Cert.AdamWDownIdeal.main_v0_2) = v2 c
          ∧ r.2.mem ((c.tc : Thread Cert.AdamWDownIdeal.nD Cert.AdamWDownIdeal.τ).loc Cert.AdamWDownIdeal.main_arg0) = m ((c.tc : Thread Cert.AdamWDownIdeal.nD Cert.AdamWDownIdeal.τ).loc Cert.AdamWDownIdeal.main_arg0)
          ∧ r.2.mem ((c.tc : Thread Cert.AdamWDownIdeal.nD Cert.AdamWDownIdeal.τ).loc Cert.AdamWDownIdeal.main_arg1) = m ((c.tc : Thread Cert.AdamWDownIdeal.nD Cert.AdamWDownIdeal.τ).loc Cert.AdamWDownIdeal.main_arg1)
          ∧ r.2.mem ((c.tc : Thread Cert.AdamWDownIdeal.nD Cert.AdamWDownIdeal.τ).loc Cert.AdamWDownIdeal.main_arg2) = m ((c.tc : Thread Cert.AdamWDownIdeal.nD Cert.AdamWDownIdeal.τ).loc Cert.AdamWDownIdeal.main_arg2)
          ∧ r.2.mem ((c.tc : Thread Cert.AdamWDownIdeal.nD Cert.AdamWDownIdeal.τ).loc Cert.AdamWDownIdeal.main_arg3) = m ((c.tc : Thread Cert.AdamWDownIdeal.nD Cert.AdamWDownIdeal.τ).loc Cert.AdamWDownIdeal.main_arg3))
      ∧ θ_run (Cert.AdamWDownRefIdeal.defs (F := Ideal)) (onTc (τ := Cert.AdamWDownRefIdeal.τ) (Cert.AdamWDownRefIdeal.main (F := Ideal))) ⟨m', fun _ => 0, g'⟩ (fun r => ∀ c : Dev Cert.AdamWDownRefIdeal.nD,
          r.2.mem ((c.tc : Thread Cert.AdamWDownRefIdeal.nD Cert.AdamWDownRefIdeal.τ).loc Cert.AdamWDownRefIdeal.main_v23) = v0 c
          ∧ r.2.mem ((c.tc : Thread Cert.AdamWDownRefIdeal.nD Cert.AdamWDownRefIdeal.τ).loc Cert.AdamWDownRefIdeal.main_v4) = v1 c
          ∧ r.2.mem ((c.tc : Thread Cert.AdamWDownRefIdeal.nD Cert.AdamWDownRefIdeal.τ).loc Cert.AdamWDownRefIdeal.main_v10) = v2 c
          ∧ r.2.mem ((c.tc : Thread Cert.AdamWDownRefIdeal.nD Cert.AdamWDownRefIdeal.τ).loc Cert.AdamWDownRefIdeal.main_arg0) = m' ((c.tc : Thread Cert.AdamWDownRefIdeal.nD Cert.AdamWDownRefIdeal.τ).loc Cert.AdamWDownRefIdeal.main_arg0)
          ∧ r.2.mem ((c.tc : Thread Cert.AdamWDownRefIdeal.nD Cert.AdamWDownRefIdeal.τ).loc Cert.AdamWDownRefIdeal.main_arg1) = m' ((c.tc : Thread Cert.AdamWDownRefIdeal.nD Cert.AdamWDownRefIdeal.τ).loc Cert.AdamWDownRefIdeal.main_arg1)
          ∧ r.2.mem ((c.tc : Thread Cert.AdamWDownRefIdeal.nD Cert.AdamWDownRefIdeal.τ).loc Cert.AdamWDownRefIdeal.main_arg2) = m' ((c.tc : Thread Cert.AdamWDownRefIdeal.nD Cert.AdamWDownRefIdeal.τ).loc Cert.AdamWDownRefIdeal.main_arg2)
          ∧ r.2.mem ((c.tc : Thread Cert.AdamWDownRefIdeal.nD Cert.AdamWDownRefIdeal.τ).loc Cert.AdamWDownRefIdeal.main_arg3) = m' ((c.tc : Thread Cert.AdamWDownRefIdeal.nD Cert.AdamWDownRefIdeal.τ).loc Cert.AdamWDownRefIdeal.main_arg3))

def preserves_AdamQNorms_AdamQNormsIdeal : Prop :=
  True

def algebraic_AdamQNormsIdeal_AdamQNormsRefIdeal [hAdamQNormsIdeal : Cert.AdamQNormsIdeal.Facts] [hAdamQNormsRefIdeal : Cert.AdamQNormsRefIdeal.Facts] : Prop :=
  ∀ (m : (ℓ : Loc Cert.AdamQNormsIdeal.nD Cert.AdamQNormsIdeal.τ Cert.AdamQNormsIdeal.sig) → Buf (Elt Ideal) ℓ) (g : Dev Cert.AdamQNormsIdeal.nD → PrngReg)
    (m' : (ℓ : Loc Cert.AdamQNormsRefIdeal.nD Cert.AdamQNormsRefIdeal.τ Cert.AdamQNormsRefIdeal.sig) → Buf (Elt Ideal) ℓ) (g' : Dev Cert.AdamQNormsRefIdeal.nD → PrngReg), Pre_AdamQNormsIdeal m →
    (∀ c : Dev Cert.AdamQNormsIdeal.nD,
      m' ((c.tc : Thread Cert.AdamQNormsRefIdeal.nD Cert.AdamQNormsRefIdeal.τ).loc Cert.AdamQNormsRefIdeal.main_arg0) = m ((c.tc : Thread Cert.AdamQNormsIdeal.nD Cert.AdamQNormsIdeal.τ).loc Cert.AdamQNormsIdeal.main_arg0)
      ∧ m' ((c.tc : Thread Cert.AdamQNormsRefIdeal.nD Cert.AdamQNormsRefIdeal.τ).loc Cert.AdamQNormsRefIdeal.main_arg1) = m ((c.tc : Thread Cert.AdamQNormsIdeal.nD Cert.AdamQNormsIdeal.τ).loc Cert.AdamQNormsIdeal.main_arg1)
      ∧ m' ((c.tc : Thread Cert.AdamQNormsRefIdeal.nD Cert.AdamQNormsRefIdeal.τ).loc Cert.AdamQNormsRefIdeal.main_arg2) = m ((c.tc : Thread Cert.AdamQNormsIdeal.nD Cert.AdamQNormsIdeal.τ).loc Cert.AdamQNormsIdeal.main_arg2)
      ∧ m' ((c.tc : Thread Cert.AdamQNormsRefIdeal.nD Cert.AdamQNormsRefIdeal.τ).loc Cert.AdamQNormsRefIdeal.main_arg3) = m ((c.tc : Thread Cert.AdamQNormsIdeal.nD Cert.AdamQNormsIdeal.τ).loc Cert.AdamQNormsIdeal.main_arg3)) →
    ∃ (v0 : (c : Dev Cert.AdamQNormsIdeal.nD) → Buf (Elt Ideal) ((c.tc : Thread Cert.AdamQNormsIdeal.nD Cert.AdamQNormsIdeal.τ).loc Cert.AdamQNormsIdeal.main_v0_0)) (v1 : (c : Dev Cert.AdamQNormsIdeal.nD) → Buf (Elt Ideal) ((c.tc : Thread Cert.AdamQNormsIdeal.nD Cert.AdamQNormsIdeal.τ).loc Cert.AdamQNormsIdeal.main_v0_1)) (v2 : (c : Dev Cert.AdamQNormsIdeal.nD) → Buf (Elt Ideal) ((c.tc : Thread Cert.AdamQNormsIdeal.nD Cert.AdamQNormsIdeal.τ).loc Cert.AdamQNormsIdeal.main_v0_2)),
      θ_run (Cert.AdamQNormsIdeal.defs (F := Ideal)) (onTc (τ := Cert.AdamQNormsIdeal.τ) (Cert.AdamQNormsIdeal.main (F := Ideal))) ⟨m, fun _ => 0, g⟩ (fun r => ∀ c : Dev Cert.AdamQNormsIdeal.nD,
          r.2.mem ((c.tc : Thread Cert.AdamQNormsIdeal.nD Cert.AdamQNormsIdeal.τ).loc Cert.AdamQNormsIdeal.main_v0_0) = v0 c
          ∧ r.2.mem ((c.tc : Thread Cert.AdamQNormsIdeal.nD Cert.AdamQNormsIdeal.τ).loc Cert.AdamQNormsIdeal.main_v0_1) = v1 c
          ∧ r.2.mem ((c.tc : Thread Cert.AdamQNormsIdeal.nD Cert.AdamQNormsIdeal.τ).loc Cert.AdamQNormsIdeal.main_v0_2) = v2 c
          ∧ r.2.mem ((c.tc : Thread Cert.AdamQNormsIdeal.nD Cert.AdamQNormsIdeal.τ).loc Cert.AdamQNormsIdeal.main_arg0) = m ((c.tc : Thread Cert.AdamQNormsIdeal.nD Cert.AdamQNormsIdeal.τ).loc Cert.AdamQNormsIdeal.main_arg0)
          ∧ r.2.mem ((c.tc : Thread Cert.AdamQNormsIdeal.nD Cert.AdamQNormsIdeal.τ).loc Cert.AdamQNormsIdeal.main_arg1) = m ((c.tc : Thread Cert.AdamQNormsIdeal.nD Cert.AdamQNormsIdeal.τ).loc Cert.AdamQNormsIdeal.main_arg1)
          ∧ r.2.mem ((c.tc : Thread Cert.AdamQNormsIdeal.nD Cert.AdamQNormsIdeal.τ).loc Cert.AdamQNormsIdeal.main_arg2) = m ((c.tc : Thread Cert.AdamQNormsIdeal.nD Cert.AdamQNormsIdeal.τ).loc Cert.AdamQNormsIdeal.main_arg2)
          ∧ r.2.mem ((c.tc : Thread Cert.AdamQNormsIdeal.nD Cert.AdamQNormsIdeal.τ).loc Cert.AdamQNormsIdeal.main_arg3) = m ((c.tc : Thread Cert.AdamQNormsIdeal.nD Cert.AdamQNormsIdeal.τ).loc Cert.AdamQNormsIdeal.main_arg3))
      ∧ θ_run (Cert.AdamQNormsRefIdeal.defs (F := Ideal)) (onTc (τ := Cert.AdamQNormsRefIdeal.τ) (Cert.AdamQNormsRefIdeal.main (F := Ideal))) ⟨m', fun _ => 0, g'⟩ (fun r => ∀ c : Dev Cert.AdamQNormsRefIdeal.nD,
          r.2.mem ((c.tc : Thread Cert.AdamQNormsRefIdeal.nD Cert.AdamQNormsRefIdeal.τ).loc Cert.AdamQNormsRefIdeal.main_v23) = v0 c
          ∧ r.2.mem ((c.tc : Thread Cert.AdamQNormsRefIdeal.nD Cert.AdamQNormsRefIdeal.τ).loc Cert.AdamQNormsRefIdeal.main_v4) = v1 c
          ∧ r.2.mem ((c.tc : Thread Cert.AdamQNormsRefIdeal.nD Cert.AdamQNormsRefIdeal.τ).loc Cert.AdamQNormsRefIdeal.main_v10) = v2 c
          ∧ r.2.mem ((c.tc : Thread Cert.AdamQNormsRefIdeal.nD Cert.AdamQNormsRefIdeal.τ).loc Cert.AdamQNormsRefIdeal.main_arg0) = m' ((c.tc : Thread Cert.AdamQNormsRefIdeal.nD Cert.AdamQNormsRefIdeal.τ).loc Cert.AdamQNormsRefIdeal.main_arg0)
          ∧ r.2.mem ((c.tc : Thread Cert.AdamQNormsRefIdeal.nD Cert.AdamQNormsRefIdeal.τ).loc Cert.AdamQNormsRefIdeal.main_arg1) = m' ((c.tc : Thread Cert.AdamQNormsRefIdeal.nD Cert.AdamQNormsRefIdeal.τ).loc Cert.AdamQNormsRefIdeal.main_arg1)
          ∧ r.2.mem ((c.tc : Thread Cert.AdamQNormsRefIdeal.nD Cert.AdamQNormsRefIdeal.τ).loc Cert.AdamQNormsRefIdeal.main_arg2) = m' ((c.tc : Thread Cert.AdamQNormsRefIdeal.nD Cert.AdamQNormsRefIdeal.τ).loc Cert.AdamQNormsRefIdeal.main_arg2)
          ∧ r.2.mem ((c.tc : Thread Cert.AdamQNormsRefIdeal.nD Cert.AdamQNormsRefIdeal.τ).loc Cert.AdamQNormsRefIdeal.main_arg3) = m' ((c.tc : Thread Cert.AdamQNormsRefIdeal.nD Cert.AdamQNormsRefIdeal.τ).loc Cert.AdamQNormsRefIdeal.main_arg3))

def preserves_AdamWUq_AdamWUqIdeal : Prop :=
  True

def algebraic_AdamWUqIdeal_AdamWUqRefIdeal [hAdamWUqIdeal : Cert.AdamWUqIdeal.Facts] [hAdamWUqRefIdeal : Cert.AdamWUqRefIdeal.Facts] : Prop :=
  ∀ (m : (ℓ : Loc Cert.AdamWUqIdeal.nD Cert.AdamWUqIdeal.τ Cert.AdamWUqIdeal.sig) → Buf (Elt Ideal) ℓ) (g : Dev Cert.AdamWUqIdeal.nD → PrngReg)
    (m' : (ℓ : Loc Cert.AdamWUqRefIdeal.nD Cert.AdamWUqRefIdeal.τ Cert.AdamWUqRefIdeal.sig) → Buf (Elt Ideal) ℓ) (g' : Dev Cert.AdamWUqRefIdeal.nD → PrngReg), Pre_AdamWUqIdeal m →
    (∀ c : Dev Cert.AdamWUqIdeal.nD,
      m' ((c.tc : Thread Cert.AdamWUqRefIdeal.nD Cert.AdamWUqRefIdeal.τ).loc Cert.AdamWUqRefIdeal.main_arg0) = m ((c.tc : Thread Cert.AdamWUqIdeal.nD Cert.AdamWUqIdeal.τ).loc Cert.AdamWUqIdeal.main_arg0)
      ∧ m' ((c.tc : Thread Cert.AdamWUqRefIdeal.nD Cert.AdamWUqRefIdeal.τ).loc Cert.AdamWUqRefIdeal.main_arg1) = m ((c.tc : Thread Cert.AdamWUqIdeal.nD Cert.AdamWUqIdeal.τ).loc Cert.AdamWUqIdeal.main_arg1)
      ∧ m' ((c.tc : Thread Cert.AdamWUqRefIdeal.nD Cert.AdamWUqRefIdeal.τ).loc Cert.AdamWUqRefIdeal.main_arg2) = m ((c.tc : Thread Cert.AdamWUqIdeal.nD Cert.AdamWUqIdeal.τ).loc Cert.AdamWUqIdeal.main_arg2)
      ∧ m' ((c.tc : Thread Cert.AdamWUqRefIdeal.nD Cert.AdamWUqRefIdeal.τ).loc Cert.AdamWUqRefIdeal.main_arg3) = m ((c.tc : Thread Cert.AdamWUqIdeal.nD Cert.AdamWUqIdeal.τ).loc Cert.AdamWUqIdeal.main_arg3)) →
    ∃ (v0 : (c : Dev Cert.AdamWUqIdeal.nD) → Buf (Elt Ideal) ((c.tc : Thread Cert.AdamWUqIdeal.nD Cert.AdamWUqIdeal.τ).loc Cert.AdamWUqIdeal.main_v0_0)) (v1 : (c : Dev Cert.AdamWUqIdeal.nD) → Buf (Elt Ideal) ((c.tc : Thread Cert.AdamWUqIdeal.nD Cert.AdamWUqIdeal.τ).loc Cert.AdamWUqIdeal.main_v0_1)) (v2 : (c : Dev Cert.AdamWUqIdeal.nD) → Buf (Elt Ideal) ((c.tc : Thread Cert.AdamWUqIdeal.nD Cert.AdamWUqIdeal.τ).loc Cert.AdamWUqIdeal.main_v0_2)),
      θ_run (Cert.AdamWUqIdeal.defs (F := Ideal)) (onTc (τ := Cert.AdamWUqIdeal.τ) (Cert.AdamWUqIdeal.main (F := Ideal))) ⟨m, fun _ => 0, g⟩ (fun r => ∀ c : Dev Cert.AdamWUqIdeal.nD,
          r.2.mem ((c.tc : Thread Cert.AdamWUqIdeal.nD Cert.AdamWUqIdeal.τ).loc Cert.AdamWUqIdeal.main_v0_0) = v0 c
          ∧ r.2.mem ((c.tc : Thread Cert.AdamWUqIdeal.nD Cert.AdamWUqIdeal.τ).loc Cert.AdamWUqIdeal.main_v0_1) = v1 c
          ∧ r.2.mem ((c.tc : Thread Cert.AdamWUqIdeal.nD Cert.AdamWUqIdeal.τ).loc Cert.AdamWUqIdeal.main_v0_2) = v2 c
          ∧ r.2.mem ((c.tc : Thread Cert.AdamWUqIdeal.nD Cert.AdamWUqIdeal.τ).loc Cert.AdamWUqIdeal.main_arg0) = m ((c.tc : Thread Cert.AdamWUqIdeal.nD Cert.AdamWUqIdeal.τ).loc Cert.AdamWUqIdeal.main_arg0)
          ∧ r.2.mem ((c.tc : Thread Cert.AdamWUqIdeal.nD Cert.AdamWUqIdeal.τ).loc Cert.AdamWUqIdeal.main_arg1) = m ((c.tc : Thread Cert.AdamWUqIdeal.nD Cert.AdamWUqIdeal.τ).loc Cert.AdamWUqIdeal.main_arg1)
          ∧ r.2.mem ((c.tc : Thread Cert.AdamWUqIdeal.nD Cert.AdamWUqIdeal.τ).loc Cert.AdamWUqIdeal.main_arg2) = m ((c.tc : Thread Cert.AdamWUqIdeal.nD Cert.AdamWUqIdeal.τ).loc Cert.AdamWUqIdeal.main_arg2)
          ∧ r.2.mem ((c.tc : Thread Cert.AdamWUqIdeal.nD Cert.AdamWUqIdeal.τ).loc Cert.AdamWUqIdeal.main_arg3) = m ((c.tc : Thread Cert.AdamWUqIdeal.nD Cert.AdamWUqIdeal.τ).loc Cert.AdamWUqIdeal.main_arg3))
      ∧ θ_run (Cert.AdamWUqRefIdeal.defs (F := Ideal)) (onTc (τ := Cert.AdamWUqRefIdeal.τ) (Cert.AdamWUqRefIdeal.main (F := Ideal))) ⟨m', fun _ => 0, g'⟩ (fun r => ∀ c : Dev Cert.AdamWUqRefIdeal.nD,
          r.2.mem ((c.tc : Thread Cert.AdamWUqRefIdeal.nD Cert.AdamWUqRefIdeal.τ).loc Cert.AdamWUqRefIdeal.main_v23) = v0 c
          ∧ r.2.mem ((c.tc : Thread Cert.AdamWUqRefIdeal.nD Cert.AdamWUqRefIdeal.τ).loc Cert.AdamWUqRefIdeal.main_v4) = v1 c
          ∧ r.2.mem ((c.tc : Thread Cert.AdamWUqRefIdeal.nD Cert.AdamWUqRefIdeal.τ).loc Cert.AdamWUqRefIdeal.main_v10) = v2 c
          ∧ r.2.mem ((c.tc : Thread Cert.AdamWUqRefIdeal.nD Cert.AdamWUqRefIdeal.τ).loc Cert.AdamWUqRefIdeal.main_arg0) = m' ((c.tc : Thread Cert.AdamWUqRefIdeal.nD Cert.AdamWUqRefIdeal.τ).loc Cert.AdamWUqRefIdeal.main_arg0)
          ∧ r.2.mem ((c.tc : Thread Cert.AdamWUqRefIdeal.nD Cert.AdamWUqRefIdeal.τ).loc Cert.AdamWUqRefIdeal.main_arg1) = m' ((c.tc : Thread Cert.AdamWUqRefIdeal.nD Cert.AdamWUqRefIdeal.τ).loc Cert.AdamWUqRefIdeal.main_arg1)
          ∧ r.2.mem ((c.tc : Thread Cert.AdamWUqRefIdeal.nD Cert.AdamWUqRefIdeal.τ).loc Cert.AdamWUqRefIdeal.main_arg2) = m' ((c.tc : Thread Cert.AdamWUqRefIdeal.nD Cert.AdamWUqRefIdeal.τ).loc Cert.AdamWUqRefIdeal.main_arg2)
          ∧ r.2.mem ((c.tc : Thread Cert.AdamWUqRefIdeal.nD Cert.AdamWUqRefIdeal.τ).loc Cert.AdamWUqRefIdeal.main_arg3) = m' ((c.tc : Thread Cert.AdamWUqRefIdeal.nD Cert.AdamWUqRefIdeal.τ).loc Cert.AdamWUqRefIdeal.main_arg3))

def preserves_AdamKvNorms_AdamKvNormsIdeal : Prop :=
  True

def algebraic_AdamKvNormsIdeal_AdamKvNormsRefIdeal [hAdamKvNormsIdeal : Cert.AdamKvNormsIdeal.Facts] [hAdamKvNormsRefIdeal : Cert.AdamKvNormsRefIdeal.Facts] : Prop :=
  ∀ (m : (ℓ : Loc Cert.AdamKvNormsIdeal.nD Cert.AdamKvNormsIdeal.τ Cert.AdamKvNormsIdeal.sig) → Buf (Elt Ideal) ℓ) (g : Dev Cert.AdamKvNormsIdeal.nD → PrngReg)
    (m' : (ℓ : Loc Cert.AdamKvNormsRefIdeal.nD Cert.AdamKvNormsRefIdeal.τ Cert.AdamKvNormsRefIdeal.sig) → Buf (Elt Ideal) ℓ) (g' : Dev Cert.AdamKvNormsRefIdeal.nD → PrngReg), Pre_AdamKvNormsIdeal m →
    (∀ c : Dev Cert.AdamKvNormsIdeal.nD,
      m' ((c.tc : Thread Cert.AdamKvNormsRefIdeal.nD Cert.AdamKvNormsRefIdeal.τ).loc Cert.AdamKvNormsRefIdeal.main_arg0) = m ((c.tc : Thread Cert.AdamKvNormsIdeal.nD Cert.AdamKvNormsIdeal.τ).loc Cert.AdamKvNormsIdeal.main_arg0)
      ∧ m' ((c.tc : Thread Cert.AdamKvNormsRefIdeal.nD Cert.AdamKvNormsRefIdeal.τ).loc Cert.AdamKvNormsRefIdeal.main_arg1) = m ((c.tc : Thread Cert.AdamKvNormsIdeal.nD Cert.AdamKvNormsIdeal.τ).loc Cert.AdamKvNormsIdeal.main_arg1)
      ∧ m' ((c.tc : Thread Cert.AdamKvNormsRefIdeal.nD Cert.AdamKvNormsRefIdeal.τ).loc Cert.AdamKvNormsRefIdeal.main_arg2) = m ((c.tc : Thread Cert.AdamKvNormsIdeal.nD Cert.AdamKvNormsIdeal.τ).loc Cert.AdamKvNormsIdeal.main_arg2)
      ∧ m' ((c.tc : Thread Cert.AdamKvNormsRefIdeal.nD Cert.AdamKvNormsRefIdeal.τ).loc Cert.AdamKvNormsRefIdeal.main_arg3) = m ((c.tc : Thread Cert.AdamKvNormsIdeal.nD Cert.AdamKvNormsIdeal.τ).loc Cert.AdamKvNormsIdeal.main_arg3)) →
    ∃ (v0 : (c : Dev Cert.AdamKvNormsIdeal.nD) → Buf (Elt Ideal) ((c.tc : Thread Cert.AdamKvNormsIdeal.nD Cert.AdamKvNormsIdeal.τ).loc Cert.AdamKvNormsIdeal.main_v0_0)) (v1 : (c : Dev Cert.AdamKvNormsIdeal.nD) → Buf (Elt Ideal) ((c.tc : Thread Cert.AdamKvNormsIdeal.nD Cert.AdamKvNormsIdeal.τ).loc Cert.AdamKvNormsIdeal.main_v0_1)) (v2 : (c : Dev Cert.AdamKvNormsIdeal.nD) → Buf (Elt Ideal) ((c.tc : Thread Cert.AdamKvNormsIdeal.nD Cert.AdamKvNormsIdeal.τ).loc Cert.AdamKvNormsIdeal.main_v0_2)),
      θ_run (Cert.AdamKvNormsIdeal.defs (F := Ideal)) (onTc (τ := Cert.AdamKvNormsIdeal.τ) (Cert.AdamKvNormsIdeal.main (F := Ideal))) ⟨m, fun _ => 0, g⟩ (fun r => ∀ c : Dev Cert.AdamKvNormsIdeal.nD,
          r.2.mem ((c.tc : Thread Cert.AdamKvNormsIdeal.nD Cert.AdamKvNormsIdeal.τ).loc Cert.AdamKvNormsIdeal.main_v0_0) = v0 c
          ∧ r.2.mem ((c.tc : Thread Cert.AdamKvNormsIdeal.nD Cert.AdamKvNormsIdeal.τ).loc Cert.AdamKvNormsIdeal.main_v0_1) = v1 c
          ∧ r.2.mem ((c.tc : Thread Cert.AdamKvNormsIdeal.nD Cert.AdamKvNormsIdeal.τ).loc Cert.AdamKvNormsIdeal.main_v0_2) = v2 c
          ∧ r.2.mem ((c.tc : Thread Cert.AdamKvNormsIdeal.nD Cert.AdamKvNormsIdeal.τ).loc Cert.AdamKvNormsIdeal.main_arg0) = m ((c.tc : Thread Cert.AdamKvNormsIdeal.nD Cert.AdamKvNormsIdeal.τ).loc Cert.AdamKvNormsIdeal.main_arg0)
          ∧ r.2.mem ((c.tc : Thread Cert.AdamKvNormsIdeal.nD Cert.AdamKvNormsIdeal.τ).loc Cert.AdamKvNormsIdeal.main_arg1) = m ((c.tc : Thread Cert.AdamKvNormsIdeal.nD Cert.AdamKvNormsIdeal.τ).loc Cert.AdamKvNormsIdeal.main_arg1)
          ∧ r.2.mem ((c.tc : Thread Cert.AdamKvNormsIdeal.nD Cert.AdamKvNormsIdeal.τ).loc Cert.AdamKvNormsIdeal.main_arg2) = m ((c.tc : Thread Cert.AdamKvNormsIdeal.nD Cert.AdamKvNormsIdeal.τ).loc Cert.AdamKvNormsIdeal.main_arg2)
          ∧ r.2.mem ((c.tc : Thread Cert.AdamKvNormsIdeal.nD Cert.AdamKvNormsIdeal.τ).loc Cert.AdamKvNormsIdeal.main_arg3) = m ((c.tc : Thread Cert.AdamKvNormsIdeal.nD Cert.AdamKvNormsIdeal.τ).loc Cert.AdamKvNormsIdeal.main_arg3))
      ∧ θ_run (Cert.AdamKvNormsRefIdeal.defs (F := Ideal)) (onTc (τ := Cert.AdamKvNormsRefIdeal.τ) (Cert.AdamKvNormsRefIdeal.main (F := Ideal))) ⟨m', fun _ => 0, g'⟩ (fun r => ∀ c : Dev Cert.AdamKvNormsRefIdeal.nD,
          r.2.mem ((c.tc : Thread Cert.AdamKvNormsRefIdeal.nD Cert.AdamKvNormsRefIdeal.τ).loc Cert.AdamKvNormsRefIdeal.main_v23) = v0 c
          ∧ r.2.mem ((c.tc : Thread Cert.AdamKvNormsRefIdeal.nD Cert.AdamKvNormsRefIdeal.τ).loc Cert.AdamKvNormsRefIdeal.main_v4) = v1 c
          ∧ r.2.mem ((c.tc : Thread Cert.AdamKvNormsRefIdeal.nD Cert.AdamKvNormsRefIdeal.τ).loc Cert.AdamKvNormsRefIdeal.main_v10) = v2 c
          ∧ r.2.mem ((c.tc : Thread Cert.AdamKvNormsRefIdeal.nD Cert.AdamKvNormsRefIdeal.τ).loc Cert.AdamKvNormsRefIdeal.main_arg0) = m' ((c.tc : Thread Cert.AdamKvNormsRefIdeal.nD Cert.AdamKvNormsRefIdeal.τ).loc Cert.AdamKvNormsRefIdeal.main_arg0)
          ∧ r.2.mem ((c.tc : Thread Cert.AdamKvNormsRefIdeal.nD Cert.AdamKvNormsRefIdeal.τ).loc Cert.AdamKvNormsRefIdeal.main_arg1) = m' ((c.tc : Thread Cert.AdamKvNormsRefIdeal.nD Cert.AdamKvNormsRefIdeal.τ).loc Cert.AdamKvNormsRefIdeal.main_arg1)
          ∧ r.2.mem ((c.tc : Thread Cert.AdamKvNormsRefIdeal.nD Cert.AdamKvNormsRefIdeal.τ).loc Cert.AdamKvNormsRefIdeal.main_arg2) = m' ((c.tc : Thread Cert.AdamKvNormsRefIdeal.nD Cert.AdamKvNormsRefIdeal.τ).loc Cert.AdamKvNormsRefIdeal.main_arg2)
          ∧ r.2.mem ((c.tc : Thread Cert.AdamKvNormsRefIdeal.nD Cert.AdamKvNormsRefIdeal.τ).loc Cert.AdamKvNormsRefIdeal.main_arg3) = m' ((c.tc : Thread Cert.AdamKvNormsRefIdeal.nD Cert.AdamKvNormsRefIdeal.τ).loc Cert.AdamKvNormsRefIdeal.main_arg3))

def preserves_AdamWUkv_AdamWUkvIdeal : Prop :=
  True

def algebraic_AdamWUkvIdeal_AdamWUkvRefIdeal [hAdamWUkvIdeal : Cert.AdamWUkvIdeal.Facts] [hAdamWUkvRefIdeal : Cert.AdamWUkvRefIdeal.Facts] : Prop :=
  ∀ (m : (ℓ : Loc Cert.AdamWUkvIdeal.nD Cert.AdamWUkvIdeal.τ Cert.AdamWUkvIdeal.sig) → Buf (Elt Ideal) ℓ) (g : Dev Cert.AdamWUkvIdeal.nD → PrngReg)
    (m' : (ℓ : Loc Cert.AdamWUkvRefIdeal.nD Cert.AdamWUkvRefIdeal.τ Cert.AdamWUkvRefIdeal.sig) → Buf (Elt Ideal) ℓ) (g' : Dev Cert.AdamWUkvRefIdeal.nD → PrngReg), Pre_AdamWUkvIdeal m →
    (∀ c : Dev Cert.AdamWUkvIdeal.nD,
      m' ((c.tc : Thread Cert.AdamWUkvRefIdeal.nD Cert.AdamWUkvRefIdeal.τ).loc Cert.AdamWUkvRefIdeal.main_arg0) = m ((c.tc : Thread Cert.AdamWUkvIdeal.nD Cert.AdamWUkvIdeal.τ).loc Cert.AdamWUkvIdeal.main_arg0)
      ∧ m' ((c.tc : Thread Cert.AdamWUkvRefIdeal.nD Cert.AdamWUkvRefIdeal.τ).loc Cert.AdamWUkvRefIdeal.main_arg1) = m ((c.tc : Thread Cert.AdamWUkvIdeal.nD Cert.AdamWUkvIdeal.τ).loc Cert.AdamWUkvIdeal.main_arg1)
      ∧ m' ((c.tc : Thread Cert.AdamWUkvRefIdeal.nD Cert.AdamWUkvRefIdeal.τ).loc Cert.AdamWUkvRefIdeal.main_arg2) = m ((c.tc : Thread Cert.AdamWUkvIdeal.nD Cert.AdamWUkvIdeal.τ).loc Cert.AdamWUkvIdeal.main_arg2)
      ∧ m' ((c.tc : Thread Cert.AdamWUkvRefIdeal.nD Cert.AdamWUkvRefIdeal.τ).loc Cert.AdamWUkvRefIdeal.main_arg3) = m ((c.tc : Thread Cert.AdamWUkvIdeal.nD Cert.AdamWUkvIdeal.τ).loc Cert.AdamWUkvIdeal.main_arg3)) →
    ∃ (v0 : (c : Dev Cert.AdamWUkvIdeal.nD) → Buf (Elt Ideal) ((c.tc : Thread Cert.AdamWUkvIdeal.nD Cert.AdamWUkvIdeal.τ).loc Cert.AdamWUkvIdeal.main_v0_0)) (v1 : (c : Dev Cert.AdamWUkvIdeal.nD) → Buf (Elt Ideal) ((c.tc : Thread Cert.AdamWUkvIdeal.nD Cert.AdamWUkvIdeal.τ).loc Cert.AdamWUkvIdeal.main_v0_1)) (v2 : (c : Dev Cert.AdamWUkvIdeal.nD) → Buf (Elt Ideal) ((c.tc : Thread Cert.AdamWUkvIdeal.nD Cert.AdamWUkvIdeal.τ).loc Cert.AdamWUkvIdeal.main_v0_2)),
      θ_run (Cert.AdamWUkvIdeal.defs (F := Ideal)) (onTc (τ := Cert.AdamWUkvIdeal.τ) (Cert.AdamWUkvIdeal.main (F := Ideal))) ⟨m, fun _ => 0, g⟩ (fun r => ∀ c : Dev Cert.AdamWUkvIdeal.nD,
          r.2.mem ((c.tc : Thread Cert.AdamWUkvIdeal.nD Cert.AdamWUkvIdeal.τ).loc Cert.AdamWUkvIdeal.main_v0_0) = v0 c
          ∧ r.2.mem ((c.tc : Thread Cert.AdamWUkvIdeal.nD Cert.AdamWUkvIdeal.τ).loc Cert.AdamWUkvIdeal.main_v0_1) = v1 c
          ∧ r.2.mem ((c.tc : Thread Cert.AdamWUkvIdeal.nD Cert.AdamWUkvIdeal.τ).loc Cert.AdamWUkvIdeal.main_v0_2) = v2 c
          ∧ r.2.mem ((c.tc : Thread Cert.AdamWUkvIdeal.nD Cert.AdamWUkvIdeal.τ).loc Cert.AdamWUkvIdeal.main_arg0) = m ((c.tc : Thread Cert.AdamWUkvIdeal.nD Cert.AdamWUkvIdeal.τ).loc Cert.AdamWUkvIdeal.main_arg0)
          ∧ r.2.mem ((c.tc : Thread Cert.AdamWUkvIdeal.nD Cert.AdamWUkvIdeal.τ).loc Cert.AdamWUkvIdeal.main_arg1) = m ((c.tc : Thread Cert.AdamWUkvIdeal.nD Cert.AdamWUkvIdeal.τ).loc Cert.AdamWUkvIdeal.main_arg1)
          ∧ r.2.mem ((c.tc : Thread Cert.AdamWUkvIdeal.nD Cert.AdamWUkvIdeal.τ).loc Cert.AdamWUkvIdeal.main_arg2) = m ((c.tc : Thread Cert.AdamWUkvIdeal.nD Cert.AdamWUkvIdeal.τ).loc Cert.AdamWUkvIdeal.main_arg2)
          ∧ r.2.mem ((c.tc : Thread Cert.AdamWUkvIdeal.nD Cert.AdamWUkvIdeal.τ).loc Cert.AdamWUkvIdeal.main_arg3) = m ((c.tc : Thread Cert.AdamWUkvIdeal.nD Cert.AdamWUkvIdeal.τ).loc Cert.AdamWUkvIdeal.main_arg3))
      ∧ θ_run (Cert.AdamWUkvRefIdeal.defs (F := Ideal)) (onTc (τ := Cert.AdamWUkvRefIdeal.τ) (Cert.AdamWUkvRefIdeal.main (F := Ideal))) ⟨m', fun _ => 0, g'⟩ (fun r => ∀ c : Dev Cert.AdamWUkvRefIdeal.nD,
          r.2.mem ((c.tc : Thread Cert.AdamWUkvRefIdeal.nD Cert.AdamWUkvRefIdeal.τ).loc Cert.AdamWUkvRefIdeal.main_v23) = v0 c
          ∧ r.2.mem ((c.tc : Thread Cert.AdamWUkvRefIdeal.nD Cert.AdamWUkvRefIdeal.τ).loc Cert.AdamWUkvRefIdeal.main_v4) = v1 c
          ∧ r.2.mem ((c.tc : Thread Cert.AdamWUkvRefIdeal.nD Cert.AdamWUkvRefIdeal.τ).loc Cert.AdamWUkvRefIdeal.main_v10) = v2 c
          ∧ r.2.mem ((c.tc : Thread Cert.AdamWUkvRefIdeal.nD Cert.AdamWUkvRefIdeal.τ).loc Cert.AdamWUkvRefIdeal.main_arg0) = m' ((c.tc : Thread Cert.AdamWUkvRefIdeal.nD Cert.AdamWUkvRefIdeal.τ).loc Cert.AdamWUkvRefIdeal.main_arg0)
          ∧ r.2.mem ((c.tc : Thread Cert.AdamWUkvRefIdeal.nD Cert.AdamWUkvRefIdeal.τ).loc Cert.AdamWUkvRefIdeal.main_arg1) = m' ((c.tc : Thread Cert.AdamWUkvRefIdeal.nD Cert.AdamWUkvRefIdeal.τ).loc Cert.AdamWUkvRefIdeal.main_arg1)
          ∧ r.2.mem ((c.tc : Thread Cert.AdamWUkvRefIdeal.nD Cert.AdamWUkvRefIdeal.τ).loc Cert.AdamWUkvRefIdeal.main_arg2) = m' ((c.tc : Thread Cert.AdamWUkvRefIdeal.nD Cert.AdamWUkvRefIdeal.τ).loc Cert.AdamWUkvRefIdeal.main_arg2)
          ∧ r.2.mem ((c.tc : Thread Cert.AdamWUkvRefIdeal.nD Cert.AdamWUkvRefIdeal.τ).loc Cert.AdamWUkvRefIdeal.main_arg3) = m' ((c.tc : Thread Cert.AdamWUkvRefIdeal.nD Cert.AdamWUkvRefIdeal.τ).loc Cert.AdamWUkvRefIdeal.main_arg3))

def preserves_AdamWO_AdamWOIdeal : Prop :=
  True

def algebraic_AdamWOIdeal_AdamWORefIdeal [hAdamWOIdeal : Cert.AdamWOIdeal.Facts] [hAdamWORefIdeal : Cert.AdamWORefIdeal.Facts] : Prop :=
  ∀ (m : (ℓ : Loc Cert.AdamWOIdeal.nD Cert.AdamWOIdeal.τ Cert.AdamWOIdeal.sig) → Buf (Elt Ideal) ℓ) (g : Dev Cert.AdamWOIdeal.nD → PrngReg)
    (m' : (ℓ : Loc Cert.AdamWORefIdeal.nD Cert.AdamWORefIdeal.τ Cert.AdamWORefIdeal.sig) → Buf (Elt Ideal) ℓ) (g' : Dev Cert.AdamWORefIdeal.nD → PrngReg), Pre_AdamWOIdeal m →
    (∀ c : Dev Cert.AdamWOIdeal.nD,
      m' ((c.tc : Thread Cert.AdamWORefIdeal.nD Cert.AdamWORefIdeal.τ).loc Cert.AdamWORefIdeal.main_arg0) = m ((c.tc : Thread Cert.AdamWOIdeal.nD Cert.AdamWOIdeal.τ).loc Cert.AdamWOIdeal.main_arg0)
      ∧ m' ((c.tc : Thread Cert.AdamWORefIdeal.nD Cert.AdamWORefIdeal.τ).loc Cert.AdamWORefIdeal.main_arg1) = m ((c.tc : Thread Cert.AdamWOIdeal.nD Cert.AdamWOIdeal.τ).loc Cert.AdamWOIdeal.main_arg1)
      ∧ m' ((c.tc : Thread Cert.AdamWORefIdeal.nD Cert.AdamWORefIdeal.τ).loc Cert.AdamWORefIdeal.main_arg2) = m ((c.tc : Thread Cert.AdamWOIdeal.nD Cert.AdamWOIdeal.τ).loc Cert.AdamWOIdeal.main_arg2)
      ∧ m' ((c.tc : Thread Cert.AdamWORefIdeal.nD Cert.AdamWORefIdeal.τ).loc Cert.AdamWORefIdeal.main_arg3) = m ((c.tc : Thread Cert.AdamWOIdeal.nD Cert.AdamWOIdeal.τ).loc Cert.AdamWOIdeal.main_arg3)) →
    ∃ (v0 : (c : Dev Cert.AdamWOIdeal.nD) → Buf (Elt Ideal) ((c.tc : Thread Cert.AdamWOIdeal.nD Cert.AdamWOIdeal.τ).loc Cert.AdamWOIdeal.main_v0_0)) (v1 : (c : Dev Cert.AdamWOIdeal.nD) → Buf (Elt Ideal) ((c.tc : Thread Cert.AdamWOIdeal.nD Cert.AdamWOIdeal.τ).loc Cert.AdamWOIdeal.main_v0_1)) (v2 : (c : Dev Cert.AdamWOIdeal.nD) → Buf (Elt Ideal) ((c.tc : Thread Cert.AdamWOIdeal.nD Cert.AdamWOIdeal.τ).loc Cert.AdamWOIdeal.main_v0_2)),
      θ_run (Cert.AdamWOIdeal.defs (F := Ideal)) (onTc (τ := Cert.AdamWOIdeal.τ) (Cert.AdamWOIdeal.main (F := Ideal))) ⟨m, fun _ => 0, g⟩ (fun r => ∀ c : Dev Cert.AdamWOIdeal.nD,
          r.2.mem ((c.tc : Thread Cert.AdamWOIdeal.nD Cert.AdamWOIdeal.τ).loc Cert.AdamWOIdeal.main_v0_0) = v0 c
          ∧ r.2.mem ((c.tc : Thread Cert.AdamWOIdeal.nD Cert.AdamWOIdeal.τ).loc Cert.AdamWOIdeal.main_v0_1) = v1 c
          ∧ r.2.mem ((c.tc : Thread Cert.AdamWOIdeal.nD Cert.AdamWOIdeal.τ).loc Cert.AdamWOIdeal.main_v0_2) = v2 c
          ∧ r.2.mem ((c.tc : Thread Cert.AdamWOIdeal.nD Cert.AdamWOIdeal.τ).loc Cert.AdamWOIdeal.main_arg0) = m ((c.tc : Thread Cert.AdamWOIdeal.nD Cert.AdamWOIdeal.τ).loc Cert.AdamWOIdeal.main_arg0)
          ∧ r.2.mem ((c.tc : Thread Cert.AdamWOIdeal.nD Cert.AdamWOIdeal.τ).loc Cert.AdamWOIdeal.main_arg1) = m ((c.tc : Thread Cert.AdamWOIdeal.nD Cert.AdamWOIdeal.τ).loc Cert.AdamWOIdeal.main_arg1)
          ∧ r.2.mem ((c.tc : Thread Cert.AdamWOIdeal.nD Cert.AdamWOIdeal.τ).loc Cert.AdamWOIdeal.main_arg2) = m ((c.tc : Thread Cert.AdamWOIdeal.nD Cert.AdamWOIdeal.τ).loc Cert.AdamWOIdeal.main_arg2)
          ∧ r.2.mem ((c.tc : Thread Cert.AdamWOIdeal.nD Cert.AdamWOIdeal.τ).loc Cert.AdamWOIdeal.main_arg3) = m ((c.tc : Thread Cert.AdamWOIdeal.nD Cert.AdamWOIdeal.τ).loc Cert.AdamWOIdeal.main_arg3))
      ∧ θ_run (Cert.AdamWORefIdeal.defs (F := Ideal)) (onTc (τ := Cert.AdamWORefIdeal.τ) (Cert.AdamWORefIdeal.main (F := Ideal))) ⟨m', fun _ => 0, g'⟩ (fun r => ∀ c : Dev Cert.AdamWORefIdeal.nD,
          r.2.mem ((c.tc : Thread Cert.AdamWORefIdeal.nD Cert.AdamWORefIdeal.τ).loc Cert.AdamWORefIdeal.main_v23) = v0 c
          ∧ r.2.mem ((c.tc : Thread Cert.AdamWORefIdeal.nD Cert.AdamWORefIdeal.τ).loc Cert.AdamWORefIdeal.main_v4) = v1 c
          ∧ r.2.mem ((c.tc : Thread Cert.AdamWORefIdeal.nD Cert.AdamWORefIdeal.τ).loc Cert.AdamWORefIdeal.main_v10) = v2 c
          ∧ r.2.mem ((c.tc : Thread Cert.AdamWORefIdeal.nD Cert.AdamWORefIdeal.τ).loc Cert.AdamWORefIdeal.main_arg0) = m' ((c.tc : Thread Cert.AdamWORefIdeal.nD Cert.AdamWORefIdeal.τ).loc Cert.AdamWORefIdeal.main_arg0)
          ∧ r.2.mem ((c.tc : Thread Cert.AdamWORefIdeal.nD Cert.AdamWORefIdeal.τ).loc Cert.AdamWORefIdeal.main_arg1) = m' ((c.tc : Thread Cert.AdamWORefIdeal.nD Cert.AdamWORefIdeal.τ).loc Cert.AdamWORefIdeal.main_arg1)
          ∧ r.2.mem ((c.tc : Thread Cert.AdamWORefIdeal.nD Cert.AdamWORefIdeal.τ).loc Cert.AdamWORefIdeal.main_arg2) = m' ((c.tc : Thread Cert.AdamWORefIdeal.nD Cert.AdamWORefIdeal.τ).loc Cert.AdamWORefIdeal.main_arg2)
          ∧ r.2.mem ((c.tc : Thread Cert.AdamWORefIdeal.nD Cert.AdamWORefIdeal.τ).loc Cert.AdamWORefIdeal.main_arg3) = m' ((c.tc : Thread Cert.AdamWORefIdeal.nD Cert.AdamWORefIdeal.τ).loc Cert.AdamWORefIdeal.main_arg3))

def preserves_AdamWMlp_AdamWMlpIdeal : Prop :=
  True

def algebraic_AdamWMlpIdeal_AdamWMlpRefIdeal [hAdamWMlpIdeal : Cert.AdamWMlpIdeal.Facts] [hAdamWMlpRefIdeal : Cert.AdamWMlpRefIdeal.Facts] : Prop :=
  ∀ (m : (ℓ : Loc Cert.AdamWMlpIdeal.nD Cert.AdamWMlpIdeal.τ Cert.AdamWMlpIdeal.sig) → Buf (Elt Ideal) ℓ) (g : Dev Cert.AdamWMlpIdeal.nD → PrngReg)
    (m' : (ℓ : Loc Cert.AdamWMlpRefIdeal.nD Cert.AdamWMlpRefIdeal.τ Cert.AdamWMlpRefIdeal.sig) → Buf (Elt Ideal) ℓ) (g' : Dev Cert.AdamWMlpRefIdeal.nD → PrngReg), Pre_AdamWMlpIdeal m →
    (∀ c : Dev Cert.AdamWMlpIdeal.nD,
      m' ((c.tc : Thread Cert.AdamWMlpRefIdeal.nD Cert.AdamWMlpRefIdeal.τ).loc Cert.AdamWMlpRefIdeal.main_arg0) = m ((c.tc : Thread Cert.AdamWMlpIdeal.nD Cert.AdamWMlpIdeal.τ).loc Cert.AdamWMlpIdeal.main_arg0)
      ∧ m' ((c.tc : Thread Cert.AdamWMlpRefIdeal.nD Cert.AdamWMlpRefIdeal.τ).loc Cert.AdamWMlpRefIdeal.main_arg1) = m ((c.tc : Thread Cert.AdamWMlpIdeal.nD Cert.AdamWMlpIdeal.τ).loc Cert.AdamWMlpIdeal.main_arg1)
      ∧ m' ((c.tc : Thread Cert.AdamWMlpRefIdeal.nD Cert.AdamWMlpRefIdeal.τ).loc Cert.AdamWMlpRefIdeal.main_arg2) = m ((c.tc : Thread Cert.AdamWMlpIdeal.nD Cert.AdamWMlpIdeal.τ).loc Cert.AdamWMlpIdeal.main_arg2)
      ∧ m' ((c.tc : Thread Cert.AdamWMlpRefIdeal.nD Cert.AdamWMlpRefIdeal.τ).loc Cert.AdamWMlpRefIdeal.main_arg3) = m ((c.tc : Thread Cert.AdamWMlpIdeal.nD Cert.AdamWMlpIdeal.τ).loc Cert.AdamWMlpIdeal.main_arg3)) →
    ∃ (v0 : (c : Dev Cert.AdamWMlpIdeal.nD) → Buf (Elt Ideal) ((c.tc : Thread Cert.AdamWMlpIdeal.nD Cert.AdamWMlpIdeal.τ).loc Cert.AdamWMlpIdeal.main_v0_0)) (v1 : (c : Dev Cert.AdamWMlpIdeal.nD) → Buf (Elt Ideal) ((c.tc : Thread Cert.AdamWMlpIdeal.nD Cert.AdamWMlpIdeal.τ).loc Cert.AdamWMlpIdeal.main_v0_1)) (v2 : (c : Dev Cert.AdamWMlpIdeal.nD) → Buf (Elt Ideal) ((c.tc : Thread Cert.AdamWMlpIdeal.nD Cert.AdamWMlpIdeal.τ).loc Cert.AdamWMlpIdeal.main_v0_2)),
      θ_run (Cert.AdamWMlpIdeal.defs (F := Ideal)) (onTc (τ := Cert.AdamWMlpIdeal.τ) (Cert.AdamWMlpIdeal.main (F := Ideal))) ⟨m, fun _ => 0, g⟩ (fun r => ∀ c : Dev Cert.AdamWMlpIdeal.nD,
          r.2.mem ((c.tc : Thread Cert.AdamWMlpIdeal.nD Cert.AdamWMlpIdeal.τ).loc Cert.AdamWMlpIdeal.main_v0_0) = v0 c
          ∧ r.2.mem ((c.tc : Thread Cert.AdamWMlpIdeal.nD Cert.AdamWMlpIdeal.τ).loc Cert.AdamWMlpIdeal.main_v0_1) = v1 c
          ∧ r.2.mem ((c.tc : Thread Cert.AdamWMlpIdeal.nD Cert.AdamWMlpIdeal.τ).loc Cert.AdamWMlpIdeal.main_v0_2) = v2 c
          ∧ r.2.mem ((c.tc : Thread Cert.AdamWMlpIdeal.nD Cert.AdamWMlpIdeal.τ).loc Cert.AdamWMlpIdeal.main_arg0) = m ((c.tc : Thread Cert.AdamWMlpIdeal.nD Cert.AdamWMlpIdeal.τ).loc Cert.AdamWMlpIdeal.main_arg0)
          ∧ r.2.mem ((c.tc : Thread Cert.AdamWMlpIdeal.nD Cert.AdamWMlpIdeal.τ).loc Cert.AdamWMlpIdeal.main_arg1) = m ((c.tc : Thread Cert.AdamWMlpIdeal.nD Cert.AdamWMlpIdeal.τ).loc Cert.AdamWMlpIdeal.main_arg1)
          ∧ r.2.mem ((c.tc : Thread Cert.AdamWMlpIdeal.nD Cert.AdamWMlpIdeal.τ).loc Cert.AdamWMlpIdeal.main_arg2) = m ((c.tc : Thread Cert.AdamWMlpIdeal.nD Cert.AdamWMlpIdeal.τ).loc Cert.AdamWMlpIdeal.main_arg2)
          ∧ r.2.mem ((c.tc : Thread Cert.AdamWMlpIdeal.nD Cert.AdamWMlpIdeal.τ).loc Cert.AdamWMlpIdeal.main_arg3) = m ((c.tc : Thread Cert.AdamWMlpIdeal.nD Cert.AdamWMlpIdeal.τ).loc Cert.AdamWMlpIdeal.main_arg3))
      ∧ θ_run (Cert.AdamWMlpRefIdeal.defs (F := Ideal)) (onTc (τ := Cert.AdamWMlpRefIdeal.τ) (Cert.AdamWMlpRefIdeal.main (F := Ideal))) ⟨m', fun _ => 0, g'⟩ (fun r => ∀ c : Dev Cert.AdamWMlpRefIdeal.nD,
          r.2.mem ((c.tc : Thread Cert.AdamWMlpRefIdeal.nD Cert.AdamWMlpRefIdeal.τ).loc Cert.AdamWMlpRefIdeal.main_v23) = v0 c
          ∧ r.2.mem ((c.tc : Thread Cert.AdamWMlpRefIdeal.nD Cert.AdamWMlpRefIdeal.τ).loc Cert.AdamWMlpRefIdeal.main_v4) = v1 c
          ∧ r.2.mem ((c.tc : Thread Cert.AdamWMlpRefIdeal.nD Cert.AdamWMlpRefIdeal.τ).loc Cert.AdamWMlpRefIdeal.main_v10) = v2 c
          ∧ r.2.mem ((c.tc : Thread Cert.AdamWMlpRefIdeal.nD Cert.AdamWMlpRefIdeal.τ).loc Cert.AdamWMlpRefIdeal.main_arg0) = m' ((c.tc : Thread Cert.AdamWMlpRefIdeal.nD Cert.AdamWMlpRefIdeal.τ).loc Cert.AdamWMlpRefIdeal.main_arg0)
          ∧ r.2.mem ((c.tc : Thread Cert.AdamWMlpRefIdeal.nD Cert.AdamWMlpRefIdeal.τ).loc Cert.AdamWMlpRefIdeal.main_arg1) = m' ((c.tc : Thread Cert.AdamWMlpRefIdeal.nD Cert.AdamWMlpRefIdeal.τ).loc Cert.AdamWMlpRefIdeal.main_arg1)
          ∧ r.2.mem ((c.tc : Thread Cert.AdamWMlpRefIdeal.nD Cert.AdamWMlpRefIdeal.τ).loc Cert.AdamWMlpRefIdeal.main_arg2) = m' ((c.tc : Thread Cert.AdamWMlpRefIdeal.nD Cert.AdamWMlpRefIdeal.τ).loc Cert.AdamWMlpRefIdeal.main_arg2)
          ∧ r.2.mem ((c.tc : Thread Cert.AdamWMlpRefIdeal.nD Cert.AdamWMlpRefIdeal.τ).loc Cert.AdamWMlpRefIdeal.main_arg3) = m' ((c.tc : Thread Cert.AdamWMlpRefIdeal.nD Cert.AdamWMlpRefIdeal.τ).loc Cert.AdamWMlpRefIdeal.main_arg3))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v34)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v34) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v38) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_RopeDx_RopeDxIdeal : Prop :=
  True

def algebraic_RopeDxIdeal_RopeDxRefIdeal [hRopeDxIdeal : Cert.RopeDxIdeal.Facts] [hRopeDxRefIdeal : Cert.RopeDxRefIdeal.Facts] : Prop :=
  ∀ (m : (ℓ : Loc Cert.RopeDxIdeal.nD Cert.RopeDxIdeal.τ Cert.RopeDxIdeal.sig) → Buf (Elt Ideal) ℓ) (g : Dev Cert.RopeDxIdeal.nD → PrngReg)
    (m' : (ℓ : Loc Cert.RopeDxRefIdeal.nD Cert.RopeDxRefIdeal.τ Cert.RopeDxRefIdeal.sig) → Buf (Elt Ideal) ℓ) (g' : Dev Cert.RopeDxRefIdeal.nD → PrngReg), Pre_RopeDxIdeal m →
    (∀ c : Dev Cert.RopeDxIdeal.nD,
      m' ((c.tc : Thread Cert.RopeDxRefIdeal.nD Cert.RopeDxRefIdeal.τ).loc Cert.RopeDxRefIdeal.main_arg0) = m ((c.tc : Thread Cert.RopeDxIdeal.nD Cert.RopeDxIdeal.τ).loc Cert.RopeDxIdeal.main_arg0)) →
    ∃ (v0 : (c : Dev Cert.RopeDxIdeal.nD) → Buf (Elt Ideal) ((c.tc : Thread Cert.RopeDxIdeal.nD Cert.RopeDxIdeal.τ).loc Cert.RopeDxIdeal.main_v34)),
      θ_run (Cert.RopeDxIdeal.defs (F := Ideal)) (onTc (τ := Cert.RopeDxIdeal.τ) (Cert.RopeDxIdeal.main (F := Ideal))) ⟨m, fun _ => 0, g⟩ (fun r => ∀ c : Dev Cert.RopeDxIdeal.nD,
          r.2.mem ((c.tc : Thread Cert.RopeDxIdeal.nD Cert.RopeDxIdeal.τ).loc Cert.RopeDxIdeal.main_v34) = v0 c
          ∧ r.2.mem ((c.tc : Thread Cert.RopeDxIdeal.nD Cert.RopeDxIdeal.τ).loc Cert.RopeDxIdeal.main_arg0) = m ((c.tc : Thread Cert.RopeDxIdeal.nD Cert.RopeDxIdeal.τ).loc Cert.RopeDxIdeal.main_arg0))
      ∧ θ_run (Cert.RopeDxRefIdeal.defs (F := Ideal)) (onTc (τ := Cert.RopeDxRefIdeal.τ) (Cert.RopeDxRefIdeal.main (F := Ideal))) ⟨m', fun _ => 0, g'⟩ (fun r => ∀ c : Dev Cert.RopeDxRefIdeal.nD,
          r.2.mem ((c.tc : Thread Cert.RopeDxRefIdeal.nD Cert.RopeDxRefIdeal.τ).loc Cert.RopeDxRefIdeal.main_v62) = v0 c
          ∧ r.2.mem ((c.tc : Thread Cert.RopeDxRefIdeal.nD Cert.RopeDxRefIdeal.τ).loc Cert.RopeDxRefIdeal.main_arg0) = m' ((c.tc : Thread Cert.RopeDxRefIdeal.nD Cert.RopeDxRefIdeal.τ).loc Cert.RopeDxRefIdeal.main_arg0))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)) →
    ∃ (v0 : (c : Dev Cert.KvDxIdeal.nD) → Buf (Elt Ideal) ((c.tc : Thread Cert.KvDxIdeal.nD Cert.KvDxIdeal.τ).loc Cert.KvDxIdeal.main_v34_0)) (v1 : (c : Dev Cert.KvDxIdeal.nD) → Buf (Elt Ideal) ((c.tc : Thread Cert.KvDxIdeal.nD Cert.KvDxIdeal.τ).loc Cert.KvDxIdeal.main_v34_1)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v34_0) = v0 c
          ∧ r.2.mem ((c.tc : Thread Cert.KvDxIdeal.nD Cert.KvDxIdeal.τ).loc Cert.KvDxIdeal.main_v34_1) = v1 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v60) = v0 c
          ∧ r.2.mem ((c.tc : Thread Cert.KvDxRefIdeal.nD Cert.KvDxRefIdeal.τ).loc Cert.KvDxRefIdeal.main_v57) = v1 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1))

def preserves_QSplit_QSplitIdeal : Prop :=
  True

def algebraic_QSplitIdeal_QSplitRefIdeal [hQSplitIdeal : Cert.QSplitIdeal.Facts] [hQSplitRefIdeal : Cert.QSplitRefIdeal.Facts] : Prop :=
  ∀ (m : (ℓ : Loc Cert.QSplitIdeal.nD Cert.QSplitIdeal.τ Cert.QSplitIdeal.sig) → Buf (Elt Ideal) ℓ) (g : Dev Cert.QSplitIdeal.nD → PrngReg)
    (m' : (ℓ : Loc Cert.QSplitRefIdeal.nD Cert.QSplitRefIdeal.τ Cert.QSplitRefIdeal.sig) → Buf (Elt Ideal) ℓ) (g' : Dev Cert.QSplitRefIdeal.nD → PrngReg), Pre_QSplitIdeal m →
    (∀ c : Dev Cert.QSplitIdeal.nD,
      m' ((c.tc : Thread Cert.QSplitRefIdeal.nD Cert.QSplitRefIdeal.τ).loc Cert.QSplitRefIdeal.main_arg0) = m ((c.tc : Thread Cert.QSplitIdeal.nD Cert.QSplitIdeal.τ).loc Cert.QSplitIdeal.main_arg0)) →
    ∃ (v0 : (c : Dev Cert.QSplitIdeal.nD) → Buf (Elt Ideal) ((c.tc : Thread Cert.QSplitIdeal.nD Cert.QSplitIdeal.τ).loc Cert.QSplitIdeal.main_v0)),
      θ_run (Cert.QSplitIdeal.defs (F := Ideal)) (onTc (τ := Cert.QSplitIdeal.τ) (Cert.QSplitIdeal.main (F := Ideal))) ⟨m, fun _ => 0, g⟩ (fun r => ∀ c : Dev Cert.QSplitIdeal.nD,
          r.2.mem ((c.tc : Thread Cert.QSplitIdeal.nD Cert.QSplitIdeal.τ).loc Cert.QSplitIdeal.main_v0) = v0 c
          ∧ r.2.mem ((c.tc : Thread Cert.QSplitIdeal.nD Cert.QSplitIdeal.τ).loc Cert.QSplitIdeal.main_arg0) = m ((c.tc : Thread Cert.QSplitIdeal.nD Cert.QSplitIdeal.τ).loc Cert.QSplitIdeal.main_arg0))
      ∧ θ_run (Cert.QSplitRefIdeal.defs (F := Ideal)) (onTc (τ := Cert.QSplitRefIdeal.τ) (Cert.QSplitRefIdeal.main (F := Ideal))) ⟨m', fun _ => 0, g'⟩ (fun r => ∀ c : Dev Cert.QSplitRefIdeal.nD,
          r.2.mem ((c.tc : Thread Cert.QSplitRefIdeal.nD Cert.QSplitRefIdeal.τ).loc Cert.QSplitRefIdeal.main_v1) = v0 c
          ∧ r.2.mem ((c.tc : Thread Cert.QSplitRefIdeal.nD Cert.QSplitRefIdeal.τ).loc Cert.QSplitRefIdeal.main_arg0) = m' ((c.tc : Thread Cert.QSplitRefIdeal.nD Cert.QSplitRefIdeal.τ).loc Cert.QSplitRefIdeal.main_arg0))

def preserves_DoSplit_DoSplitIdeal : Prop :=
  True

def algebraic_DoSplitIdeal_DoSplitRefIdeal [hDoSplitIdeal : Cert.DoSplitIdeal.Facts] [hDoSplitRefIdeal : Cert.DoSplitRefIdeal.Facts] : Prop :=
  ∀ (m : (ℓ : Loc Cert.DoSplitIdeal.nD Cert.DoSplitIdeal.τ Cert.DoSplitIdeal.sig) → Buf (Elt Ideal) ℓ) (g : Dev Cert.DoSplitIdeal.nD → PrngReg)
    (m' : (ℓ : Loc Cert.DoSplitRefIdeal.nD Cert.DoSplitRefIdeal.τ Cert.DoSplitRefIdeal.sig) → Buf (Elt Ideal) ℓ) (g' : Dev Cert.DoSplitRefIdeal.nD → PrngReg), Pre_DoSplitIdeal m →
    (∀ c : Dev Cert.DoSplitIdeal.nD,
      m' ((c.tc : Thread Cert.DoSplitRefIdeal.nD Cert.DoSplitRefIdeal.τ).loc Cert.DoSplitRefIdeal.main_arg0) = m ((c.tc : Thread Cert.DoSplitIdeal.nD Cert.DoSplitIdeal.τ).loc Cert.DoSplitIdeal.main_arg0)) →
    ∃ (v0 : (c : Dev Cert.DoSplitIdeal.nD) → Buf (Elt Ideal) ((c.tc : Thread Cert.DoSplitIdeal.nD Cert.DoSplitIdeal.τ).loc Cert.DoSplitIdeal.main_v0)),
      θ_run (Cert.DoSplitIdeal.defs (F := Ideal)) (onTc (τ := Cert.DoSplitIdeal.τ) (Cert.DoSplitIdeal.main (F := Ideal))) ⟨m, fun _ => 0, g⟩ (fun r => ∀ c : Dev Cert.DoSplitIdeal.nD,
          r.2.mem ((c.tc : Thread Cert.DoSplitIdeal.nD Cert.DoSplitIdeal.τ).loc Cert.DoSplitIdeal.main_v0) = v0 c
          ∧ r.2.mem ((c.tc : Thread Cert.DoSplitIdeal.nD Cert.DoSplitIdeal.τ).loc Cert.DoSplitIdeal.main_arg0) = m ((c.tc : Thread Cert.DoSplitIdeal.nD Cert.DoSplitIdeal.τ).loc Cert.DoSplitIdeal.main_arg0))
      ∧ θ_run (Cert.DoSplitRefIdeal.defs (F := Ideal)) (onTc (τ := Cert.DoSplitRefIdeal.τ) (Cert.DoSplitRefIdeal.main (F := Ideal))) ⟨m', fun _ => 0, g'⟩ (fun r => ∀ c : Dev Cert.DoSplitRefIdeal.nD,
          r.2.mem ((c.tc : Thread Cert.DoSplitRefIdeal.nD Cert.DoSplitRefIdeal.τ).loc Cert.DoSplitRefIdeal.main_v1) = v0 c
          ∧ r.2.mem ((c.tc : Thread Cert.DoSplitRefIdeal.nD Cert.DoSplitRefIdeal.τ).loc Cert.DoSplitRefIdeal.main_arg0) = m' ((c.tc : Thread Cert.DoSplitRefIdeal.nD Cert.DoSplitRefIdeal.τ).loc Cert.DoSplitRefIdeal.main_arg0))

def preserves_DqMerge_DqMergeIdeal : Prop :=
  True

def algebraic_DqMergeIdeal_DqMergeRefIdeal [hDqMergeIdeal : Cert.DqMergeIdeal.Facts] [hDqMergeRefIdeal : Cert.DqMergeRefIdeal.Facts] : Prop :=
  ∀ (m : (ℓ : Loc Cert.DqMergeIdeal.nD Cert.DqMergeIdeal.τ Cert.DqMergeIdeal.sig) → Buf (Elt Ideal) ℓ) (g : Dev Cert.DqMergeIdeal.nD → PrngReg)
    (m' : (ℓ : Loc Cert.DqMergeRefIdeal.nD Cert.DqMergeRefIdeal.τ Cert.DqMergeRefIdeal.sig) → Buf (Elt Ideal) ℓ) (g' : Dev Cert.DqMergeRefIdeal.nD → PrngReg), Pre_DqMergeIdeal m →
    (∀ c : Dev Cert.DqMergeIdeal.nD,
      m' ((c.tc : Thread Cert.DqMergeRefIdeal.nD Cert.DqMergeRefIdeal.τ).loc Cert.DqMergeRefIdeal.main_arg0) = m ((c.tc : Thread Cert.DqMergeIdeal.nD Cert.DqMergeIdeal.τ).loc Cert.DqMergeIdeal.main_arg0)) →
    ∃ (v0 : (c : Dev Cert.DqMergeIdeal.nD) → Buf (Elt Ideal) ((c.tc : Thread Cert.DqMergeIdeal.nD Cert.DqMergeIdeal.τ).loc Cert.DqMergeIdeal.main_v0)),
      θ_run (Cert.DqMergeIdeal.defs (F := Ideal)) (onTc (τ := Cert.DqMergeIdeal.τ) (Cert.DqMergeIdeal.main (F := Ideal))) ⟨m, fun _ => 0, g⟩ (fun r => ∀ c : Dev Cert.DqMergeIdeal.nD,
          r.2.mem ((c.tc : Thread Cert.DqMergeIdeal.nD Cert.DqMergeIdeal.τ).loc Cert.DqMergeIdeal.main_v0) = v0 c
          ∧ r.2.mem ((c.tc : Thread Cert.DqMergeIdeal.nD Cert.DqMergeIdeal.τ).loc Cert.DqMergeIdeal.main_arg0) = m ((c.tc : Thread Cert.DqMergeIdeal.nD Cert.DqMergeIdeal.τ).loc Cert.DqMergeIdeal.main_arg0))
      ∧ θ_run (Cert.DqMergeRefIdeal.defs (F := Ideal)) (onTc (τ := Cert.DqMergeRefIdeal.τ) (Cert.DqMergeRefIdeal.main (F := Ideal))) ⟨m', fun _ => 0, g'⟩ (fun r => ∀ c : Dev Cert.DqMergeRefIdeal.nD,
          r.2.mem ((c.tc : Thread Cert.DqMergeRefIdeal.nD Cert.DqMergeRefIdeal.τ).loc Cert.DqMergeRefIdeal.main_v1) = v0 c
          ∧ r.2.mem ((c.tc : Thread Cert.DqMergeRefIdeal.nD Cert.DqMergeRefIdeal.τ).loc Cert.DqMergeRefIdeal.main_arg0) = m' ((c.tc : Thread Cert.DqMergeRefIdeal.nD Cert.DqMergeRefIdeal.τ).loc Cert.DqMergeRefIdeal.main_arg0))

def preserves_OMerge_OMergeIdeal : Prop :=
  True

def algebraic_OMergeIdeal_OMergeRefIdeal [hOMergeIdeal : Cert.OMergeIdeal.Facts] [hOMergeRefIdeal : Cert.OMergeRefIdeal.Facts] : Prop :=
  ∀ (m : (ℓ : Loc Cert.OMergeIdeal.nD Cert.OMergeIdeal.τ Cert.OMergeIdeal.sig) → Buf (Elt Ideal) ℓ) (g : Dev Cert.OMergeIdeal.nD → PrngReg)
    (m' : (ℓ : Loc Cert.OMergeRefIdeal.nD Cert.OMergeRefIdeal.τ Cert.OMergeRefIdeal.sig) → Buf (Elt Ideal) ℓ) (g' : Dev Cert.OMergeRefIdeal.nD → PrngReg), Pre_OMergeIdeal m →
    (∀ c : Dev Cert.OMergeIdeal.nD,
      m' ((c.tc : Thread Cert.OMergeRefIdeal.nD Cert.OMergeRefIdeal.τ).loc Cert.OMergeRefIdeal.main_arg0) = m ((c.tc : Thread Cert.OMergeIdeal.nD Cert.OMergeIdeal.τ).loc Cert.OMergeIdeal.main_arg0)) →
    ∃ (v0 : (c : Dev Cert.OMergeIdeal.nD) → Buf (Elt Ideal) ((c.tc : Thread Cert.OMergeIdeal.nD Cert.OMergeIdeal.τ).loc Cert.OMergeIdeal.main_v0_0)) (v1 : (c : Dev Cert.OMergeIdeal.nD) → Buf (Elt Ideal) ((c.tc : Thread Cert.OMergeIdeal.nD Cert.OMergeIdeal.τ).loc Cert.OMergeIdeal.main_v0_1)),
      θ_run (Cert.OMergeIdeal.defs (F := Ideal)) (onTc (τ := Cert.OMergeIdeal.τ) (Cert.OMergeIdeal.main (F := Ideal))) ⟨m, fun _ => 0, g⟩ (fun r => ∀ c : Dev Cert.OMergeIdeal.nD,
          r.2.mem ((c.tc : Thread Cert.OMergeIdeal.nD Cert.OMergeIdeal.τ).loc Cert.OMergeIdeal.main_v0_0) = v0 c
          ∧ r.2.mem ((c.tc : Thread Cert.OMergeIdeal.nD Cert.OMergeIdeal.τ).loc Cert.OMergeIdeal.main_v0_1) = v1 c
          ∧ r.2.mem ((c.tc : Thread Cert.OMergeIdeal.nD Cert.OMergeIdeal.τ).loc Cert.OMergeIdeal.main_arg0) = m ((c.tc : Thread Cert.OMergeIdeal.nD Cert.OMergeIdeal.τ).loc Cert.OMergeIdeal.main_arg0))
      ∧ θ_run (Cert.OMergeRefIdeal.defs (F := Ideal)) (onTc (τ := Cert.OMergeRefIdeal.τ) (Cert.OMergeRefIdeal.main (F := Ideal))) ⟨m', fun _ => 0, g'⟩ (fun r => ∀ c : Dev Cert.OMergeRefIdeal.nD,
          r.2.mem ((c.tc : Thread Cert.OMergeRefIdeal.nD Cert.OMergeRefIdeal.τ).loc Cert.OMergeRefIdeal.main_v2) = v0 c
          ∧ r.2.mem ((c.tc : Thread Cert.OMergeRefIdeal.nD Cert.OMergeRefIdeal.τ).loc Cert.OMergeRefIdeal.main_v3) = v1 c
          ∧ r.2.mem ((c.tc : Thread Cert.OMergeRefIdeal.nD Cert.OMergeRefIdeal.τ).loc Cert.OMergeRefIdeal.main_arg0) = m' ((c.tc : Thread Cert.OMergeRefIdeal.nD Cert.OMergeRefIdeal.τ).loc Cert.OMergeRefIdeal.main_arg0))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hIn : Cert.In.Facts) (hInIdeal : Cert.InIdeal.Facts) (hInRefIdeal : Cert.InRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hOut : Cert.Out.Facts) (hOutIdeal : Cert.OutIdeal.Facts) (hOutRefIdeal : Cert.OutRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hLat : Cert.Lat.Facts) (hLatIdeal : Cert.LatIdeal.Facts) (hLatRefIdeal : Cert.LatRefIdeal.Facts) (hLatDw : Cert.LatDw.Facts) (hLatDwIdeal : Cert.LatDwIdeal.Facts) (hLatDwRefIdeal : Cert.LatDwRefIdeal.Facts) (hLatDx : Cert.LatDx.Facts) (hLatDxIdeal : Cert.LatDxIdeal.Facts) (hLatDxRefIdeal : Cert.LatDxRefIdeal.Facts) (hUq : Cert.Uq.Facts) (hUqIdeal : Cert.UqIdeal.Facts) (hUqRefIdeal : Cert.UqRefIdeal.Facts) (hUqDw : Cert.UqDw.Facts) (hUqDwIdeal : Cert.UqDwIdeal.Facts) (hUqDwRefIdeal : Cert.UqDwRefIdeal.Facts) (hUqDx : Cert.UqDx.Facts) (hUqDxIdeal : Cert.UqDxIdeal.Facts) (hUqDxRefIdeal : Cert.UqDxRefIdeal.Facts) (hUkv : Cert.Ukv.Facts) (hUkvIdeal : Cert.UkvIdeal.Facts) (hUkvRefIdeal : Cert.UkvRefIdeal.Facts) (hUkvDw : Cert.UkvDw.Facts) (hUkvDwIdeal : Cert.UkvDwIdeal.Facts) (hUkvDwRefIdeal : Cert.UkvDwRefIdeal.Facts) (hUkvDx : Cert.UkvDx.Facts) (hUkvDxIdeal : Cert.UkvDxIdeal.Facts) (hUkvDxRefIdeal : Cert.UkvDxRefIdeal.Facts) (hO : Cert.O.Facts) (hOIdeal : Cert.OIdeal.Facts) (hORefIdeal : Cert.ORefIdeal.Facts) (hODw : Cert.ODw.Facts) (hODwIdeal : Cert.ODwIdeal.Facts) (hODwRefIdeal : Cert.ODwRefIdeal.Facts) (hODx : Cert.ODx.Facts) (hODxIdeal : Cert.ODxIdeal.Facts) (hODxRefIdeal : Cert.ODxRefIdeal.Facts) (hNorm : Cert.Norm.Facts) (hNormIdeal : Cert.NormIdeal.Facts) (hNormRefIdeal : Cert.NormRefIdeal.Facts) (hQNorm : Cert.QNorm.Facts) (hQNormIdeal : Cert.QNormIdeal.Facts) (hQNormRefIdeal : Cert.QNormRefIdeal.Facts) (hKvNorm : Cert.KvNorm.Facts) (hKvNormIdeal : Cert.KvNormIdeal.Facts) (hKvNormRefIdeal : Cert.KvNormRefIdeal.Facts) (hNormDx : Cert.NormDx.Facts) (hNormDxIdeal : Cert.NormDxIdeal.Facts) (hNormDxRefIdeal : Cert.NormDxRefIdeal.Facts) (hNormDxFirst : Cert.NormDxFirst.Facts) (hNormDxFirstIdeal : Cert.NormDxFirstIdeal.Facts) (hNormDxFirstRefIdeal : Cert.NormDxFirstRefIdeal.Facts) (hQNormDx : Cert.QNormDx.Facts) (hQNormDxIdeal : Cert.QNormDxIdeal.Facts) (hQNormDxRefIdeal : Cert.QNormDxRefIdeal.Facts) (hKvNormDx : Cert.KvNormDx.Facts) (hKvNormDxIdeal : Cert.KvNormDxIdeal.Facts) (hKvNormDxRefIdeal : Cert.KvNormDxRefIdeal.Facts) (hLoss : Cert.Loss.Facts) (hLossIdeal : Cert.LossIdeal.Facts) (hLossRefIdeal : Cert.LossRefIdeal.Facts) (hAdamRelBias : Cert.AdamRelBias.Facts) (hAdamRelBiasIdeal : Cert.AdamRelBiasIdeal.Facts) (hAdamRelBiasRefIdeal : Cert.AdamRelBiasRefIdeal.Facts) (hAdamLayerNorms : Cert.AdamLayerNorms.Facts) (hAdamLayerNormsIdeal : Cert.AdamLayerNormsIdeal.Facts) (hAdamLayerNormsRefIdeal : Cert.AdamLayerNormsRefIdeal.Facts) (hAdamFinalNorm : Cert.AdamFinalNorm.Facts) (hAdamFinalNormIdeal : Cert.AdamFinalNormIdeal.Facts) (hAdamFinalNormRefIdeal : Cert.AdamFinalNormRefIdeal.Facts) (hAdamWIn : Cert.AdamWIn.Facts) (hAdamWInIdeal : Cert.AdamWInIdeal.Facts) (hAdamWInRefIdeal : Cert.AdamWInRefIdeal.Facts) (hAdamSinks : Cert.AdamSinks.Facts) (hAdamSinksIdeal : Cert.AdamSinksIdeal.Facts) (hAdamSinksRefIdeal : Cert.AdamSinksRefIdeal.Facts) (hAdamWOut : Cert.AdamWOut.Facts) (hAdamWOutIdeal : Cert.AdamWOutIdeal.Facts) (hAdamWOutRefIdeal : Cert.AdamWOutRefIdeal.Facts) (hAdamWDown : Cert.AdamWDown.Facts) (hAdamWDownIdeal : Cert.AdamWDownIdeal.Facts) (hAdamWDownRefIdeal : Cert.AdamWDownRefIdeal.Facts) (hAdamQNorms : Cert.AdamQNorms.Facts) (hAdamQNormsIdeal : Cert.AdamQNormsIdeal.Facts) (hAdamQNormsRefIdeal : Cert.AdamQNormsRefIdeal.Facts) (hAdamWUq : Cert.AdamWUq.Facts) (hAdamWUqIdeal : Cert.AdamWUqIdeal.Facts) (hAdamWUqRefIdeal : Cert.AdamWUqRefIdeal.Facts) (hAdamKvNorms : Cert.AdamKvNorms.Facts) (hAdamKvNormsIdeal : Cert.AdamKvNormsIdeal.Facts) (hAdamKvNormsRefIdeal : Cert.AdamKvNormsRefIdeal.Facts) (hAdamWUkv : Cert.AdamWUkv.Facts) (hAdamWUkvIdeal : Cert.AdamWUkvIdeal.Facts) (hAdamWUkvRefIdeal : Cert.AdamWUkvRefIdeal.Facts) (hAdamWO : Cert.AdamWO.Facts) (hAdamWOIdeal : Cert.AdamWOIdeal.Facts) (hAdamWORefIdeal : Cert.AdamWORefIdeal.Facts) (hAdamWMlp : Cert.AdamWMlp.Facts) (hAdamWMlpIdeal : Cert.AdamWMlpIdeal.Facts) (hAdamWMlpRefIdeal : Cert.AdamWMlpRefIdeal.Facts) (hRope : Cert.Rope.Facts) (hRopeIdeal : Cert.RopeIdeal.Facts) (hRopeRefIdeal : Cert.RopeRefIdeal.Facts) (hRopeDx : Cert.RopeDx.Facts) (hRopeDxIdeal : Cert.RopeDxIdeal.Facts) (hRopeDxRefIdeal : Cert.RopeDxRefIdeal.Facts) (hKvDx : Cert.KvDx.Facts) (hKvDxIdeal : Cert.KvDxIdeal.Facts) (hKvDxRefIdeal : Cert.KvDxRefIdeal.Facts) (hQSplit : Cert.QSplit.Facts) (hQSplitIdeal : Cert.QSplitIdeal.Facts) (hQSplitRefIdeal : Cert.QSplitRefIdeal.Facts) (hDoSplit : Cert.DoSplit.Facts) (hDoSplitIdeal : Cert.DoSplitIdeal.Facts) (hDoSplitRefIdeal : Cert.DoSplitRefIdeal.Facts) (hDqMerge : Cert.DqMerge.Facts) (hDqMergeIdeal : Cert.DqMergeIdeal.Facts) (hDqMergeRefIdeal : Cert.DqMergeRefIdeal.Facts) (hOMerge : Cert.OMerge.Facts) (hOMergeIdeal : Cert.OMergeIdeal.Facts) (hOMergeRefIdeal : Cert.OMergeRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_In (hIn := hIn)
    ∧ quiescent_InIdeal (hInIdeal := hInIdeal)
    ∧ quiescent_InRefIdeal (hInRefIdeal := hInRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_Out (hOut := hOut)
    ∧ quiescent_OutIdeal (hOutIdeal := hOutIdeal)
    ∧ quiescent_OutRefIdeal (hOutRefIdeal := hOutRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_Lat (hLat := hLat)
    ∧ quiescent_LatIdeal (hLatIdeal := hLatIdeal)
    ∧ quiescent_LatRefIdeal (hLatRefIdeal := hLatRefIdeal)
    ∧ quiescent_LatDw (hLatDw := hLatDw)
    ∧ quiescent_LatDwIdeal (hLatDwIdeal := hLatDwIdeal)
    ∧ quiescent_LatDwRefIdeal (hLatDwRefIdeal := hLatDwRefIdeal)
    ∧ quiescent_LatDx (hLatDx := hLatDx)
    ∧ quiescent_LatDxIdeal (hLatDxIdeal := hLatDxIdeal)
    ∧ quiescent_LatDxRefIdeal (hLatDxRefIdeal := hLatDxRefIdeal)
    ∧ quiescent_Uq (hUq := hUq)
    ∧ quiescent_UqIdeal (hUqIdeal := hUqIdeal)
    ∧ quiescent_UqRefIdeal (hUqRefIdeal := hUqRefIdeal)
    ∧ quiescent_UqDw (hUqDw := hUqDw)
    ∧ quiescent_UqDwIdeal (hUqDwIdeal := hUqDwIdeal)
    ∧ quiescent_UqDwRefIdeal (hUqDwRefIdeal := hUqDwRefIdeal)
    ∧ quiescent_UqDx (hUqDx := hUqDx)
    ∧ quiescent_UqDxIdeal (hUqDxIdeal := hUqDxIdeal)
    ∧ quiescent_UqDxRefIdeal (hUqDxRefIdeal := hUqDxRefIdeal)
    ∧ quiescent_Ukv (hUkv := hUkv)
    ∧ quiescent_UkvIdeal (hUkvIdeal := hUkvIdeal)
    ∧ quiescent_UkvRefIdeal (hUkvRefIdeal := hUkvRefIdeal)
    ∧ quiescent_UkvDw (hUkvDw := hUkvDw)
    ∧ quiescent_UkvDwIdeal (hUkvDwIdeal := hUkvDwIdeal)
    ∧ quiescent_UkvDwRefIdeal (hUkvDwRefIdeal := hUkvDwRefIdeal)
    ∧ quiescent_UkvDx (hUkvDx := hUkvDx)
    ∧ quiescent_UkvDxIdeal (hUkvDxIdeal := hUkvDxIdeal)
    ∧ quiescent_UkvDxRefIdeal (hUkvDxRefIdeal := hUkvDxRefIdeal)
    ∧ quiescent_O (hO := hO)
    ∧ quiescent_OIdeal (hOIdeal := hOIdeal)
    ∧ quiescent_ORefIdeal (hORefIdeal := hORefIdeal)
    ∧ quiescent_ODw (hODw := hODw)
    ∧ quiescent_ODwIdeal (hODwIdeal := hODwIdeal)
    ∧ quiescent_ODwRefIdeal (hODwRefIdeal := hODwRefIdeal)
    ∧ quiescent_ODx (hODx := hODx)
    ∧ quiescent_ODxIdeal (hODxIdeal := hODxIdeal)
    ∧ quiescent_ODxRefIdeal (hODxRefIdeal := hODxRefIdeal)
    ∧ quiescent_Norm (hNorm := hNorm)
    ∧ quiescent_NormIdeal (hNormIdeal := hNormIdeal)
    ∧ quiescent_NormRefIdeal (hNormRefIdeal := hNormRefIdeal)
    ∧ quiescent_QNorm (hQNorm := hQNorm)
    ∧ quiescent_QNormIdeal (hQNormIdeal := hQNormIdeal)
    ∧ quiescent_QNormRefIdeal (hQNormRefIdeal := hQNormRefIdeal)
    ∧ quiescent_KvNorm (hKvNorm := hKvNorm)
    ∧ quiescent_KvNormIdeal (hKvNormIdeal := hKvNormIdeal)
    ∧ quiescent_KvNormRefIdeal (hKvNormRefIdeal := hKvNormRefIdeal)
    ∧ quiescent_NormDx (hNormDx := hNormDx)
    ∧ quiescent_NormDxIdeal (hNormDxIdeal := hNormDxIdeal)
    ∧ quiescent_NormDxRefIdeal (hNormDxRefIdeal := hNormDxRefIdeal)
    ∧ quiescent_NormDxFirst (hNormDxFirst := hNormDxFirst)
    ∧ quiescent_NormDxFirstIdeal (hNormDxFirstIdeal := hNormDxFirstIdeal)
    ∧ quiescent_NormDxFirstRefIdeal (hNormDxFirstRefIdeal := hNormDxFirstRefIdeal)
    ∧ quiescent_QNormDx (hQNormDx := hQNormDx)
    ∧ quiescent_QNormDxIdeal (hQNormDxIdeal := hQNormDxIdeal)
    ∧ quiescent_QNormDxRefIdeal (hQNormDxRefIdeal := hQNormDxRefIdeal)
    ∧ quiescent_KvNormDx (hKvNormDx := hKvNormDx)
    ∧ quiescent_KvNormDxIdeal (hKvNormDxIdeal := hKvNormDxIdeal)
    ∧ quiescent_KvNormDxRefIdeal (hKvNormDxRefIdeal := hKvNormDxRefIdeal)
    ∧ quiescent_Loss (hLoss := hLoss)
    ∧ quiescent_LossIdeal (hLossIdeal := hLossIdeal)
    ∧ quiescent_LossRefIdeal (hLossRefIdeal := hLossRefIdeal)
    ∧ quiescent_AdamRelBias (hAdamRelBias := hAdamRelBias)
    ∧ quiescent_AdamRelBiasIdeal (hAdamRelBiasIdeal := hAdamRelBiasIdeal)
    ∧ quiescent_AdamRelBiasRefIdeal (hAdamRelBiasRefIdeal := hAdamRelBiasRefIdeal)
    ∧ quiescent_AdamLayerNorms (hAdamLayerNorms := hAdamLayerNorms)
    ∧ quiescent_AdamLayerNormsIdeal (hAdamLayerNormsIdeal := hAdamLayerNormsIdeal)
    ∧ quiescent_AdamLayerNormsRefIdeal (hAdamLayerNormsRefIdeal := hAdamLayerNormsRefIdeal)
    ∧ quiescent_AdamFinalNorm (hAdamFinalNorm := hAdamFinalNorm)
    ∧ quiescent_AdamFinalNormIdeal (hAdamFinalNormIdeal := hAdamFinalNormIdeal)
    ∧ quiescent_AdamFinalNormRefIdeal (hAdamFinalNormRefIdeal := hAdamFinalNormRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamSinks (hAdamSinks := hAdamSinks)
    ∧ quiescent_AdamSinksIdeal (hAdamSinksIdeal := hAdamSinksIdeal)
    ∧ quiescent_AdamSinksRefIdeal (hAdamSinksRefIdeal := hAdamSinksRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamWDown (hAdamWDown := hAdamWDown)
    ∧ quiescent_AdamWDownIdeal (hAdamWDownIdeal := hAdamWDownIdeal)
    ∧ quiescent_AdamWDownRefIdeal (hAdamWDownRefIdeal := hAdamWDownRefIdeal)
    ∧ quiescent_AdamQNorms (hAdamQNorms := hAdamQNorms)
    ∧ quiescent_AdamQNormsIdeal (hAdamQNormsIdeal := hAdamQNormsIdeal)
    ∧ quiescent_AdamQNormsRefIdeal (hAdamQNormsRefIdeal := hAdamQNormsRefIdeal)
    ∧ quiescent_AdamWUq (hAdamWUq := hAdamWUq)
    ∧ quiescent_AdamWUqIdeal (hAdamWUqIdeal := hAdamWUqIdeal)
    ∧ quiescent_AdamWUqRefIdeal (hAdamWUqRefIdeal := hAdamWUqRefIdeal)
    ∧ quiescent_AdamKvNorms (hAdamKvNorms := hAdamKvNorms)
    ∧ quiescent_AdamKvNormsIdeal (hAdamKvNormsIdeal := hAdamKvNormsIdeal)
    ∧ quiescent_AdamKvNormsRefIdeal (hAdamKvNormsRefIdeal := hAdamKvNormsRefIdeal)
    ∧ quiescent_AdamWUkv (hAdamWUkv := hAdamWUkv)
    ∧ quiescent_AdamWUkvIdeal (hAdamWUkvIdeal := hAdamWUkvIdeal)
    ∧ quiescent_AdamWUkvRefIdeal (hAdamWUkvRefIdeal := hAdamWUkvRefIdeal)
    ∧ quiescent_AdamWO (hAdamWO := hAdamWO)
    ∧ quiescent_AdamWOIdeal (hAdamWOIdeal := hAdamWOIdeal)
    ∧ quiescent_AdamWORefIdeal (hAdamWORefIdeal := hAdamWORefIdeal)
    ∧ quiescent_AdamWMlp (hAdamWMlp := hAdamWMlp)
    ∧ quiescent_AdamWMlpIdeal (hAdamWMlpIdeal := hAdamWMlpIdeal)
    ∧ quiescent_AdamWMlpRefIdeal (hAdamWMlpRefIdeal := hAdamWMlpRefIdeal)
    ∧ quiescent_Rope (hRope := hRope)
    ∧ quiescent_RopeIdeal (hRopeIdeal := hRopeIdeal)
    ∧ quiescent_RopeRefIdeal (hRopeRefIdeal := hRopeRefIdeal)
    ∧ quiescent_RopeDx (hRopeDx := hRopeDx)
    ∧ quiescent_RopeDxIdeal (hRopeDxIdeal := hRopeDxIdeal)
    ∧ quiescent_RopeDxRefIdeal (hRopeDxRefIdeal := hRopeDxRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_QSplit (hQSplit := hQSplit)
    ∧ quiescent_QSplitIdeal (hQSplitIdeal := hQSplitIdeal)
    ∧ quiescent_QSplitRefIdeal (hQSplitRefIdeal := hQSplitRefIdeal)
    ∧ quiescent_DoSplit (hDoSplit := hDoSplit)
    ∧ quiescent_DoSplitIdeal (hDoSplitIdeal := hDoSplitIdeal)
    ∧ quiescent_DoSplitRefIdeal (hDoSplitRefIdeal := hDoSplitRefIdeal)
    ∧ quiescent_DqMerge (hDqMerge := hDqMerge)
    ∧ quiescent_DqMergeIdeal (hDqMergeIdeal := hDqMergeIdeal)
    ∧ quiescent_DqMergeRefIdeal (hDqMergeRefIdeal := hDqMergeRefIdeal)
    ∧ quiescent_OMerge (hOMerge := hOMerge)
    ∧ quiescent_OMergeIdeal (hOMergeIdeal := hOMergeIdeal)
    ∧ quiescent_OMergeRefIdeal (hOMergeRefIdeal := hOMergeRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_In_InIdeal
    ∧ algebraic_InIdeal_InRefIdeal (hInIdeal := hInIdeal) (hInRefIdeal := hInRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_Out_OutIdeal
    ∧ algebraic_OutIdeal_OutRefIdeal (hOutIdeal := hOutIdeal) (hOutRefIdeal := hOutRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_Lat_LatIdeal
    ∧ algebraic_LatIdeal_LatRefIdeal (hLatIdeal := hLatIdeal) (hLatRefIdeal := hLatRefIdeal)
    ∧ preserves_LatDw_LatDwIdeal
    ∧ algebraic_LatDwIdeal_LatDwRefIdeal (hLatDwIdeal := hLatDwIdeal) (hLatDwRefIdeal := hLatDwRefIdeal)
    ∧ preserves_LatDx_LatDxIdeal
    ∧ algebraic_LatDxIdeal_LatDxRefIdeal (hLatDxIdeal := hLatDxIdeal) (hLatDxRefIdeal := hLatDxRefIdeal)
    ∧ preserves_Uq_UqIdeal
    ∧ algebraic_UqIdeal_UqRefIdeal (hUqIdeal := hUqIdeal) (hUqRefIdeal := hUqRefIdeal)
    ∧ preserves_UqDw_UqDwIdeal
    ∧ algebraic_UqDwIdeal_UqDwRefIdeal (hUqDwIdeal := hUqDwIdeal) (hUqDwRefIdeal := hUqDwRefIdeal)
    ∧ preserves_UqDx_UqDxIdeal
    ∧ algebraic_UqDxIdeal_UqDxRefIdeal (hUqDxIdeal := hUqDxIdeal) (hUqDxRefIdeal := hUqDxRefIdeal)
    ∧ preserves_Ukv_UkvIdeal
    ∧ algebraic_UkvIdeal_UkvRefIdeal (hUkvIdeal := hUkvIdeal) (hUkvRefIdeal := hUkvRefIdeal)
    ∧ preserves_UkvDw_UkvDwIdeal
    ∧ algebraic_UkvDwIdeal_UkvDwRefIdeal (hUkvDwIdeal := hUkvDwIdeal) (hUkvDwRefIdeal := hUkvDwRefIdeal)
    ∧ preserves_UkvDx_UkvDxIdeal
    ∧ algebraic_UkvDxIdeal_UkvDxRefIdeal (hUkvDxIdeal := hUkvDxIdeal) (hUkvDxRefIdeal := hUkvDxRefIdeal)
    ∧ preserves_O_OIdeal
    ∧ algebraic_OIdeal_ORefIdeal (hOIdeal := hOIdeal) (hORefIdeal := hORefIdeal)
    ∧ preserves_ODw_ODwIdeal
    ∧ algebraic_ODwIdeal_ODwRefIdeal (hODwIdeal := hODwIdeal) (hODwRefIdeal := hODwRefIdeal)
    ∧ preserves_ODx_ODxIdeal
    ∧ algebraic_ODxIdeal_ODxRefIdeal (hODxIdeal := hODxIdeal) (hODxRefIdeal := hODxRefIdeal)
    ∧ preserves_Norm_NormIdeal
    ∧ algebraic_NormIdeal_NormRefIdeal (hNormIdeal := hNormIdeal) (hNormRefIdeal := hNormRefIdeal)
    ∧ preserves_QNorm_QNormIdeal
    ∧ algebraic_QNormIdeal_QNormRefIdeal (hQNormIdeal := hQNormIdeal) (hQNormRefIdeal := hQNormRefIdeal)
    ∧ preserves_KvNorm_KvNormIdeal
    ∧ algebraic_KvNormIdeal_KvNormRefIdeal (hKvNormIdeal := hKvNormIdeal) (hKvNormRefIdeal := hKvNormRefIdeal)
    ∧ preserves_NormDx_NormDxIdeal
    ∧ algebraic_NormDxIdeal_NormDxRefIdeal (hNormDxIdeal := hNormDxIdeal) (hNormDxRefIdeal := hNormDxRefIdeal)
    ∧ preserves_NormDxFirst_NormDxFirstIdeal
    ∧ algebraic_NormDxFirstIdeal_NormDxFirstRefIdeal (hNormDxFirstIdeal := hNormDxFirstIdeal) (hNormDxFirstRefIdeal := hNormDxFirstRefIdeal)
    ∧ preserves_QNormDx_QNormDxIdeal
    ∧ algebraic_QNormDxIdeal_QNormDxRefIdeal (hQNormDxIdeal := hQNormDxIdeal) (hQNormDxRefIdeal := hQNormDxRefIdeal)
    ∧ preserves_KvNormDx_KvNormDxIdeal
    ∧ algebraic_KvNormDxIdeal_KvNormDxRefIdeal (hKvNormDxIdeal := hKvNormDxIdeal) (hKvNormDxRefIdeal := hKvNormDxRefIdeal)
    ∧ preserves_Loss_LossIdeal
    ∧ algebraic_LossIdeal_LossRefIdeal (hLossIdeal := hLossIdeal) (hLossRefIdeal := hLossRefIdeal)
    ∧ preserves_AdamRelBias_AdamRelBiasIdeal
    ∧ algebraic_AdamRelBiasIdeal_AdamRelBiasRefIdeal (hAdamRelBiasIdeal := hAdamRelBiasIdeal) (hAdamRelBiasRefIdeal := hAdamRelBiasRefIdeal)
    ∧ preserves_AdamLayerNorms_AdamLayerNormsIdeal
    ∧ algebraic_AdamLayerNormsIdeal_AdamLayerNormsRefIdeal (hAdamLayerNormsIdeal := hAdamLayerNormsIdeal) (hAdamLayerNormsRefIdeal := hAdamLayerNormsRefIdeal)
    ∧ preserves_AdamFinalNorm_AdamFinalNormIdeal
    ∧ algebraic_AdamFinalNormIdeal_AdamFinalNormRefIdeal (hAdamFinalNormIdeal := hAdamFinalNormIdeal) (hAdamFinalNormRefIdeal := hAdamFinalNormRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamSinks_AdamSinksIdeal
    ∧ algebraic_AdamSinksIdeal_AdamSinksRefIdeal (hAdamSinksIdeal := hAdamSinksIdeal) (hAdamSinksRefIdeal := hAdamSinksRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamWDown_AdamWDownIdeal
    ∧ algebraic_AdamWDownIdeal_AdamWDownRefIdeal (hAdamWDownIdeal := hAdamWDownIdeal) (hAdamWDownRefIdeal := hAdamWDownRefIdeal)
    ∧ preserves_AdamQNorms_AdamQNormsIdeal
    ∧ algebraic_AdamQNormsIdeal_AdamQNormsRefIdeal (hAdamQNormsIdeal := hAdamQNormsIdeal) (hAdamQNormsRefIdeal := hAdamQNormsRefIdeal)
    ∧ preserves_AdamWUq_AdamWUqIdeal
    ∧ algebraic_AdamWUqIdeal_AdamWUqRefIdeal (hAdamWUqIdeal := hAdamWUqIdeal) (hAdamWUqRefIdeal := hAdamWUqRefIdeal)
    ∧ preserves_AdamKvNorms_AdamKvNormsIdeal
    ∧ algebraic_AdamKvNormsIdeal_AdamKvNormsRefIdeal (hAdamKvNormsIdeal := hAdamKvNormsIdeal) (hAdamKvNormsRefIdeal := hAdamKvNormsRefIdeal)
    ∧ preserves_AdamWUkv_AdamWUkvIdeal
    ∧ algebraic_AdamWUkvIdeal_AdamWUkvRefIdeal (hAdamWUkvIdeal := hAdamWUkvIdeal) (hAdamWUkvRefIdeal := hAdamWUkvRefIdeal)
    ∧ preserves_AdamWO_AdamWOIdeal
    ∧ algebraic_AdamWOIdeal_AdamWORefIdeal (hAdamWOIdeal := hAdamWOIdeal) (hAdamWORefIdeal := hAdamWORefIdeal)
    ∧ preserves_AdamWMlp_AdamWMlpIdeal
    ∧ algebraic_AdamWMlpIdeal_AdamWMlpRefIdeal (hAdamWMlpIdeal := hAdamWMlpIdeal) (hAdamWMlpRefIdeal := hAdamWMlpRefIdeal)
    ∧ preserves_Rope_RopeIdeal
    ∧ algebraic_RopeIdeal_RopeRefIdeal (hRopeIdeal := hRopeIdeal) (hRopeRefIdeal := hRopeRefIdeal)
    ∧ preserves_RopeDx_RopeDxIdeal
    ∧ algebraic_RopeDxIdeal_RopeDxRefIdeal (hRopeDxIdeal := hRopeDxIdeal) (hRopeDxRefIdeal := hRopeDxRefIdeal)
    ∧ preserves_KvDx_KvDxIdeal
    ∧ algebraic_KvDxIdeal_KvDxRefIdeal (hKvDxIdeal := hKvDxIdeal) (hKvDxRefIdeal := hKvDxRefIdeal)
    ∧ preserves_QSplit_QSplitIdeal
    ∧ algebraic_QSplitIdeal_QSplitRefIdeal (hQSplitIdeal := hQSplitIdeal) (hQSplitRefIdeal := hQSplitRefIdeal)
    ∧ preserves_DoSplit_DoSplitIdeal
    ∧ algebraic_DoSplitIdeal_DoSplitRefIdeal (hDoSplitIdeal := hDoSplitIdeal) (hDoSplitRefIdeal := hDoSplitRefIdeal)
    ∧ preserves_DqMerge_DqMergeIdeal
    ∧ algebraic_DqMergeIdeal_DqMergeRefIdeal (hDqMergeIdeal := hDqMergeIdeal) (hDqMergeRefIdeal := hDqMergeRefIdeal)
    ∧ preserves_OMerge_OMergeIdeal
    ∧ algebraic_OMergeIdeal_OMergeRefIdeal (hOMergeIdeal := hOMergeIdeal) (hOMergeRefIdeal := hOMergeRefIdeal)
-- ==== Pre_finite.lean ====
abbrev S8x16384x96 : Shape := ⟨3, ![8, 16384, 96]⟩
abbrev S8x16384x64 : Shape := ⟨3, ![8, 16384, 64]⟩
abbrev S_ : Shape := ⟨0, ![]⟩

class Facts : Prop where
  bcast_S_S8x16384x96 : S_.BroadcastsInDim S8x16384x96 (![] : Fin 0 → Fin S8x16384x96.rank)
  bcast_S_S8x16384x64 : S_.BroadcastsInDim S8x16384x64 (![] : Fin 0 → Fin S8x16384x64.rank)

variable [Facts]

def fn {F : FTy → Type} [FloatOps F] (main_arg0 : FVec F S8x16384x96 .bf16) (main_arg1 : FVec F S8x16384x96 .bf16) (main_arg2 : FVec F S8x16384x64 .bf16) (main_arg3 : FVec F S8x16384x64 .bf16) : IVec S8x16384x96 1 × IVec S8x16384x96 1 × IVec S8x16384x64 1 × IVec S8x16384x64 1 :=
  let main_v0 : FVec F S8x16384x96 .bf16 := Host.absf main_arg0
  let main_cst : FVec F S_ .bf16 := constant S_ .bf16 0x7F80#16
  let main_v1 : FVec F S8x16384x96 .bf16 := broadcastInDim S8x16384x96 ![] bcast_S_S8x16384x96 main_cst
  let main_v2 : IVec S8x16384x96 1 := cmpf .olt main_v0 main_v1
  let main_v3 : FVec F S8x16384x96 .bf16 := Host.absf main_arg1
  let main_cst_0 : FVec F S_ .bf16 := constant S_ .bf16 0x7F80#16
  let main_v4 : FVec F S8x16384x96 .bf16 := broadcastInDim S8x16384x96 ![] bcast_S_S8x16384x96 main_cst_0
  let main_v5 : IVec S8x16384x96 1 := cmpf .olt main_v3 main_v4
  let main_v6 : FVec F S8x16384x64 .bf16 := Host.absf main_arg2
  let main_cst_1 : FVec F S_ .bf16 := constant S_ .bf16 0x7F80#16
  let main_v7 : FVec F S8x16384x64 .bf16 := broadcastInDim S8x16384x64 ![] bcast_S_S8x16384x64 main_cst_1
  let main_v8 : IVec S8x16384x64 1 := cmpf .olt main_v6 main_v7
  let main_v9 : FVec F S8x16384x64 .bf16 := Host.absf main_arg3
  let main_cst_2 : FVec F S_ .bf16 := constant S_ .bf16 0x7F80#16
  let main_v10 : FVec F S8x16384x64 .bf16 := broadcastInDim S8x16384x64 ![] bcast_S_S8x16384x64 main_cst_2
  let main_v11 : IVec S8x16384x64 1 := cmpf .olt main_v9 main_v10
  (main_v2, main_v5, main_v8, main_v11)
-- ==== Kernel.lean ====
abbrev S8x16384x96 : Shape := ⟨3, ![8, 16384, 96]⟩
abbrev S8x16384x64 : Shape := ⟨3, ![8, 16384, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S8x1x16384 : Shape := ⟨3, ![8, 1, 16384]⟩
abbrev S8x8x16384 : Shape := ⟨3, ![8, 8, 16384]⟩
abbrev S8x16384x63 : Shape := ⟨3, ![8, 16384, 63]⟩
abbrev S8x16384x128 : Shape := ⟨3, ![8, 16384, 128]⟩
abbrev S8x96x16384 : Shape := ⟨3, ![8, 96, 16384]⟩
abbrev S1x2048x96 : Shape := ⟨3, ![1, 2048, 96]⟩
abbrev S1x2048x128 : Shape := ⟨3, ![1, 2048, 128]⟩
abbrev S1x2048x64 : Shape := ⟨3, ![1, 2048, 64]⟩
abbrev S1x8x2048 : Shape := ⟨3, ![1, 8, 2048]⟩
abbrev S1x96x16384 : Shape := ⟨3, ![1, 96, 16384]⟩
abbrev S2048x96 : Shape := ⟨2, ![2048, 96]⟩
abbrev S2048x64 : Shape := ⟨2, ![2048, 64]⟩
abbrev S1x256x96 : Shape := ⟨3, ![1, 256, 96]⟩
abbrev S256x96 : Shape := ⟨2, ![256, 96]⟩
abbrev S1x256x64 : Shape := ⟨3, ![1, 256, 64]⟩
abbrev S256x64 : Shape := ⟨2, ![256, 64]⟩
abbrev S2048x256 : Shape := ⟨2, ![2048, 256]⟩
abbrev S1x1x256 : Shape := ⟨3, ![1, 1, 256]⟩
abbrev S1x256 : Shape := ⟨2, ![1, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x96x256 : Shape := ⟨3, ![1, 96, 256]⟩
abbrev S96x256 : Shape := ⟨2, ![96, 256]⟩
abbrev S256x256 : Shape := ⟨2, ![256, 256]⟩
abbrev S1x512x96 : Shape := ⟨3, ![1, 512, 96]⟩
abbrev S512x96 : Shape := ⟨2, ![512, 96]⟩
abbrev S512x256 : Shape := ⟨2, ![512, 256]⟩
abbrev S1x512x64 : Shape := ⟨3, ![1, 512, 64]⟩
abbrev S512x64 : Shape := ⟨2, ![512, 64]⟩
abbrev S1x768x96 : Shape := ⟨3, ![1, 768, 96]⟩
abbrev S768x96 : Shape := ⟨2, ![768, 96]⟩
abbrev S768x256 : Shape := ⟨2, ![768, 256]⟩
abbrev S1x768x64 : Shape := ⟨3, ![1, 768, 64]⟩
abbrev S768x64 : Shape := ⟨2, ![768, 64]⟩
abbrev S1x1024x96 : Shape := ⟨3, ![1, 1024, 96]⟩
abbrev S1024x96 : Shape := ⟨2, ![1024, 96]⟩
abbrev S1024x256 : Shape := ⟨2, ![1024, 256]⟩
abbrev S1x1024x64 : Shape := ⟨3, ![1, 1024, 64]⟩
abbrev S1024x64 : Shape := ⟨2, ![1024, 64]⟩
abbrev S1x1280x96 : Shape := ⟨3, ![1, 1280, 96]⟩
abbrev S1280x96 : Shape := ⟨2, ![1280, 96]⟩
abbrev S1280x256 : Shape := ⟨2, ![1280, 256]⟩
abbrev S1x1280x64 : Shape := ⟨3, ![1, 1280, 64]⟩
abbrev S1280x64 : Shape := ⟨2, ![1280, 64]⟩
abbrev S1x1536x96 : Shape := ⟨3, ![1, 1536, 96]⟩
abbrev S1536x96 : Shape := ⟨2, ![1536, 96]⟩
abbrev S1536x256 : Shape := ⟨2, ![1536, 256]⟩
abbrev S1x1536x64 : Shape := ⟨3, ![1, 1536, 64]⟩
abbrev S1536x64 : Shape := ⟨2, ![1536, 64]⟩
abbrev S1x1792x96 : Shape := ⟨3, ![1, 1792, 96]⟩
abbrev S1792x96 : Shape := ⟨2, ![1792, 96]⟩
abbrev S1792x256 : Shape := ⟨2, ![1792, 256]⟩
abbrev S1x1792x64 : Shape := ⟨3, ![1, 1792, 64]⟩
abbrev S1792x64 : Shape := ⟨2, ![1792, 64]⟩

abbrev nBuf : Space → Nat
  | .hbm => 47
  | .vmem => 20
  | .smem => 0
  | _ => 0

abbrev bufTy : (tb : Table) → Fin (tcTables nBuf tb) → BufTy
  | .hbm, ⟨0, _⟩ => ⟨S8x16384x96, .bf16⟩
  | .hbm, ⟨1, _⟩ => ⟨S8x16384x96, .bf16⟩
  | .hbm, ⟨2, _⟩ => ⟨S8x16384x64, .bf16⟩
  | .hbm, ⟨3, _⟩ => ⟨S8x16384x64, .bf16⟩
  | .hbm, ⟨4, _⟩ => ⟨S8x16384x96, .f32⟩
  | .hbm, ⟨5, _⟩ => ⟨S8x16384x96, .f32⟩
  | .hbm, ⟨6, _⟩ => ⟨S8x16384x64, .f32⟩
  | .hbm, ⟨7, _⟩ => ⟨S8x16384x16384, .f32⟩
  | .hbm, ⟨8, _⟩ => ⟨S_, .f32⟩
  | .hbm, ⟨9, _⟩ => ⟨S_, .f32⟩
  | .hbm, ⟨10, _⟩ => ⟨S8x16384x16384, .f32⟩
  | .hbm, ⟨11, _⟩ => ⟨S8x16384x16384, .f32⟩
  | .hbm, ⟨12, _⟩ => ⟨S16384, .i32⟩
  | .hbm, ⟨13, _⟩ => ⟨S1x16384, .i32⟩
  | .hbm, ⟨14, _⟩ => ⟨S16384x1, .i32⟩
  | .hbm, ⟨15, _⟩ => ⟨S16384x16384, .i32⟩
  | .hbm, ⟨16, _⟩ => ⟨S16384x16384, .i32⟩
  | .hbm, ⟨17, _⟩ => ⟨S16384x16384, .i1⟩
  | .hbm, ⟨18, _⟩ => ⟨S_, .f32⟩
  | .hbm, ⟨19, _⟩ => ⟨S_, .f32⟩
  | .hbm, ⟨20, _⟩ => ⟨S8x16384x16384, .i1⟩
  | .hbm, ⟨21, _⟩ => ⟨S8x16384x16384, .f32⟩
  | .hbm, ⟨22, _⟩ => ⟨S8x16384x16384, .f32⟩
  | .hbm, ⟨23, _⟩ => ⟨S_, .f32⟩
  | .hbm, ⟨24, _⟩ => ⟨S8x16384, .f32⟩
  | .hbm, ⟨25, _⟩ => ⟨S8x16384x1, .f32⟩
  | .hbm, ⟨26, _⟩ => ⟨S8x16384x16384, .f32⟩
  | .hbm, ⟨27, _⟩ => ⟨S8x16384x16384, .f32⟩
  | .hbm, ⟨28, _⟩ => ⟨S8x16384x16384, .f32⟩
  | .hbm, ⟨29, _⟩ => ⟨S_, .f32⟩
  | .hbm, ⟨30, _⟩ => ⟨S8x16384, .f32⟩
  | .hbm, ⟨31, _⟩ => ⟨S8x16384x1, .f32⟩
  | .hbm, ⟨32, _⟩ => ⟨S8x16384x16384, .f32⟩
  | .hbm, ⟨33, _⟩ => ⟨S8x16384x16384, .f32⟩
  | .hbm, ⟨34, _⟩ => ⟨S8x16384x64, .f32⟩
  | .hbm, ⟨35, _⟩ => ⟨S8x16384x1, .f32⟩
  | .hbm, ⟨36, _⟩ => ⟨S8x16384x1, .f32⟩
  | .hbm, ⟨37, _⟩ => ⟨S8x1x16384, .f32⟩
  | .hbm, ⟨38, _⟩ => ⟨S8x8x16384, .f32⟩
  | .hbm, ⟨39, _⟩ => ⟨S_, .bf16⟩
  | .hbm, ⟨40, _⟩ => ⟨S8x16384x1, .bf16⟩
  | .hbm, ⟨41, _⟩ => ⟨S_, .bf16⟩
  | .hbm, ⟨42, _⟩ => ⟨S8x16384x63, .bf16⟩
  | .hbm, ⟨43, _⟩ => ⟨S8x16384x128, .bf16⟩
  | .hbm, ⟨44, _⟩ => ⟨S8x96x16384, .f32⟩
  | .hbm, ⟨45, _⟩ => ⟨S8x16384x96, .f32⟩
  | .hbm, ⟨46, _⟩ => ⟨S8x16384x64, .f32⟩
  | .local _ .vmem, ⟨0, _⟩ => ⟨S1x2048x96, .bf16⟩
  | .local _ .vmem, ⟨1, _⟩ => ⟨S1x2048x96, .bf16⟩
  | .local _ .vmem, ⟨2, _⟩ => ⟨S1x2048x96, .bf16⟩
  | .local _ .vmem, ⟨3, _⟩ => ⟨S1x2048x96, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x64, .f32⟩
  | .local _ .vmem, ⟨7, _⟩ => ⟨S1x2048x64, .f32⟩
  | .local _ .vmem, ⟨8, _⟩ => ⟨S1x8x2048, .f32⟩
  | .local _ .vmem, ⟨9, _⟩ => ⟨S1x8x2048, .f32⟩
  | .local _ .vmem, ⟨10, _⟩ => ⟨S1x2048x64, .bf16⟩
  | .local _ .vmem, ⟨11, _⟩ => ⟨S1x2048x64, .bf16⟩
  | .local _ .vmem, ⟨12, _⟩ => ⟨S1x96x16384, .f32⟩
  | .local _ .vmem, ⟨13, _⟩ => ⟨S1x96x16384, .f32⟩
  | .local _ .vmem, ⟨14, _⟩ => ⟨S1x2048x96, .f32⟩
  | .local _ .vmem, ⟨15, _⟩ => ⟨S1x2048x96, .f32⟩
  | .local _ .vmem, ⟨16, _⟩ => ⟨S1x2048x64, .f32⟩
  | .local _ .vmem, ⟨17, _⟩ => ⟨S1x2048x64, .f32⟩
  | .local _ .vmem, ⟨18, _⟩ => ⟨S2048x96, .f32⟩
  | .local _ .vmem, ⟨19, _⟩ => ⟨S2048x64, .f32⟩
  | _, _ => ⟨S8x16384x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v31_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 8, 8], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_4 : BitVec 32 := 0#32
  let v10 : BitVec 1 := Scalar.cmpi .ne v9 c0_i32_4
  v10

def k0_mult1 (i : grid0.Coords) : BitVec 32 :=
  let arg2 : BitVec 32 := BitVec.ofNat 32 (i 2).val
  let c2048_i32 : BitVec 32 := 2048#32
  let v63 : BitVec 32 := Scalar.muli arg2 c2048_i32
  let c0_i32_38 : BitVec 32 := 0#32
  let v64 : BitVec 32 := Scalar.addi v63 c0_i32_38
  v64
def k0_off1 (i : grid0.Coords) (c0_i32_38 : BitVec 32) : Fin 3 → Nat :=
  let c0_39 : Index := 0#32
  let c0_40 : Index := 0#32
  let arg2 : BitVec 32 := BitVec.ofNat 32 (i 2).val
  let c2048_i32 : BitVec 32 := 2048#32
  let v63 : BitVec 32 := Scalar.muli arg2 c2048_i32
  let v64 : BitVec 32 := Scalar.addi v63 c0_i32_38
  let v65 : BitVec 32 := v64
  let v66 : Index := Scalar.indexCast v65
  ![0, 0, v66.toNat]
def k0_mult2 (i : grid0.Coords) : BitVec 32 :=
  let arg2 : BitVec 32 := BitVec.ofNat 32 (i 2).val
  let c2048_i32_80 : BitVec 32 := 2048#32
  let v125 : BitVec 32 := Scalar.muli arg2 c2048_i32_80
  let c256_i32 : BitVec 32 := 256#32
  let v126 : BitVec 32 := Scalar.addi v125 c256_i32
  v126
def k0_mult3 (i : grid0.Coords) : BitVec 32 :=
  let arg2 : BitVec 32 := BitVec.ofNat 32 (i 2).val
  let c2048_i32_122 : BitVec 32 := 2048#32
  let v187 : BitVec 32 := Scalar.muli arg2 c2048_i32_122
  let c512_i32 : BitVec 32 := 512#32
  let v188 : BitVec 32 := Scalar.addi v187 c512_i32
  v188
def k0_mult4 (i : grid0.Coords) : BitVec 32 :=
  let arg2 : BitVec 32 := BitVec.ofNat 32 (i 2).val
  let c2048_i32_164 : BitVec 32 := 2048#32
  let v249 : BitVec 32 := Scalar.muli arg2 c2048_i32_164
  let c768_i32 : BitVec 32 := 768#32
  let v250 : BitVec 32 := Scalar.addi v249 c768_i32
  v250
def k0_mult5 (i : grid0.Coords) : BitVec 32 :=
  let arg2 : BitVec 32 := BitVec.ofNat 32 (i 2).val
  let c2048_i32_206 : BitVec 32 := 2048#32
  let v311 : BitVec 32 := Scalar.muli arg2 c2048_i32_206
  let c1024_i32 : BitVec 32 := 1024#32
  let v312 : BitVec 32 := Scalar.addi v311 c1024_i32
  v312
def k0_mult6 (i : grid0.Coords) : BitVec 32 :=
  let arg2 : BitVec 32 := BitVec.ofNat 32 (i 2).val
  let c2048_i32_248 : BitVec 32 := 2048#32
  let v373 : BitVec 32 := Scalar.muli arg2 c2048_i32_248
  let c1280_i32 : BitVec 32 := 1280#32
  let v374 : BitVec 32 := Scalar.addi v373 c1280_i32
  v374
def k0_mult7 (i : grid0.Coords) : BitVec 32 :=
  let arg2 : BitVec 32 := BitVec.ofNat 32 (i 2).val
  let c2048_i32_290 : BitVec 32 := 2048#32
  let v435 : BitVec 32 := Scalar.muli arg2 c2048_i32_290
  let c1536_i32 : BitVec 32 := 1536#32
  let v436 : BitVec 32 := Scalar.addi v435 c1536_i32
  v436
def k0_mult8 (i : grid0.Coords) : BitVec 32 :=
  let arg2 : BitVec 32 := BitVec.ofNat 32 (i 2).val
  let c2048_i32_332 : BitVec 32 := 2048#32
  let v497 : BitVec 32 := Scalar.muli arg2 c2048_i32_332
  let c1792_i32 : BitVec 32 := 1792#32
  let v498 : BitVec 32 := Scalar.addi v497 c1792_i32
  v498
def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_5 : BitVec 32 := 0#32
  let v13 : BitVec 1 := Scalar.cmpi .ne v12 c0_i32_5
  v13

def k0_mult9 (i : grid0.Coords) : BitVec 32 :=
  let arg2 : BitVec 32 := BitVec.ofNat 32 (i 2).val
  let c2048_i32 : BitVec 32 := 2048#32
  let v70 : BitVec 32 := Scalar.muli arg2 c2048_i32
  let c0_i32_40 : BitVec 32 := 0#32
  let v71 : BitVec 32 := Scalar.addi v70 c0_i32_40
  v71
def k0_off2 (i : grid0.Coords) (c0_i32_40 : BitVec 32) : Fin 3 → Nat :=
  let c0_41 : Index := 0#32
  let c0_42 : Index := 0#32
  let arg2 : BitVec 32 := BitVec.ofNat 32 (i 2).val
  let c2048_i32 : BitVec 32 := 2048#32
  let v70 : BitVec 32 := Scalar.muli arg2 c2048_i32
  let v71 : BitVec 32 := Scalar.addi v70 c0_i32_40
  let v72 : BitVec 32 := v71
  let v73 : Index := Scalar.indexCast v72
  ![0, 0, v73.toNat]
def k0_mult10 (i : grid0.Coords) : BitVec 32 :=
  let arg2 : BitVec 32 := BitVec.ofNat 32 (i 2).val
  let c2048_i32_83 : BitVec 32 := 2048#32
  let v139 : BitVec 32 := Scalar.muli arg2 c2048_i32_83
  let c256_i32_84 : BitVec 32 := 256#32
  let v140 : BitVec 32 := Scalar.addi v139 c256_i32_84
  v140
def k0_mult11 (i : grid0.Coords) : BitVec 32 :=
  let arg2 : BitVec 32 := BitVec.ofNat 32 (i 2).val
  let c2048_i32_127 : BitVec 32 := 2048#32
  let v208 : BitVec 32 := Scalar.muli arg2 c2048_i32_127
  let c512_i32_128 : BitVec 32 := 512#32
  let v209 : BitVec 32 := Scalar.addi v208 c512_i32_128
  v209
def k0_mult12 (i : grid0.Coords) : BitVec 32 :=
  let arg2 : BitVec 32 := BitVec.ofNat 32 (i 2).val
  let c2048_i32_171 : BitVec 32 := 2048#32
  let v277 : BitVec 32 := Scalar.muli arg2 c2048_i32_171
  let c768_i32_172 : BitVec 32 := 768#32
  let v278 : BitVec 32 := Scalar.addi v277 c768_i32_172
  v278
def k0_mult13 (i : grid0.Coords) : BitVec 32 :=
  let arg2 : BitVec 32 := BitVec.ofNat 32 (i 2).val
  let c2048_i32_215 : BitVec 32 := 2048#32
  let v346 : BitVec 32 := Scalar.muli arg2 c2048_i32_215
  let c1024_i32_216 : BitVec 32 := 1024#32
  let v347 : BitVec 32 := Scalar.addi v346 c1024_i32_216
  v347
def k0_mult14 (i : grid0.Coords) : BitVec 32 :=
  let arg2 : BitVec 32 := BitVec.ofNat 32 (i 2).val
  let c2048_i32_259 : BitVec 32 := 2048#32
  let v415 : BitVec 32 := Scalar.muli arg2 c2048_i32_259
  let c1280_i32_260 : BitVec 32 := 1280#32
  let v416 : BitVec 32 := Scalar.addi v415 c1280_i32_260
  v416
def k0_mult15 (i : grid0.Coords) : BitVec 32 :=
  let arg2 : BitVec 32 := BitVec.ofNat 32 (i 2).val
  let c2048_i32_303 : BitVec 32 := 2048#32
  let v484 : BitVec 32 := Scalar.muli arg2 c2048_i32_303
  let c1536_i32_304 : BitVec 32 := 1536#32
  let v485 : BitVec 32 := Scalar.addi v484 c1536_i32_304
  v485
def k0_mult16 (i : grid0.Coords) : BitVec 32 :=
  let arg2 : BitVec 32 := BitVec.ofNat 32 (i 2).val
  let c2048_i32_347 : BitVec 32 := 2048#32
  let v553 : BitVec 32 := Scalar.muli arg2 c2048_i32_347
  let c1792_i32_348 : BitVec 32 := 1792#32
  let v554 : BitVec 32 := Scalar.addi v553 c1792_i32_348
  v554
def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg2 : BitVec 32 := BitVec.ofNat 32 (i 2).val
  let c0_i32_2 : BitVec 32 := 0#32
  let v4 : BitVec 1 := Scalar.cmpi .eq arg2 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond5 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_6 : BitVec 32 := 0#32
  let v16 : BitVec 1 := Scalar.cmpi .ne v15 c0_i32_6
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x96x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x2048x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
abbrev S8x16384x96 : Shape := ⟨3, ![8, 16384, 96]⟩
abbrev S8x16384x64 : Shape := ⟨3, ![8, 16384, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S8x1x16384 : Shape := ⟨3, ![8, 1, 16384]⟩
abbrev S8x8x16384 : Shape := ⟨3, ![8, 8, 16384]⟩
abbrev S8x16384x63 : Shape := ⟨3, ![8, 16384, 63]⟩
abbrev S8x16384x128 : Shape := ⟨3, ![8, 16384, 128]⟩
abbrev S8x96x16384 : Shape := ⟨3, ![8, 96, 16384]⟩
abbrev S1x2048x96 : Shape := ⟨3, ![1, 2048, 96]⟩
abbrev S1x2048x128 : Shape := ⟨3, ![1, 2048, 128]⟩
abbrev S1x2048x64 : Shape := ⟨3, ![1, 2048, 64]⟩
abbrev S1x8x2048 : Shape := ⟨3, ![1, 8, 2048]⟩
abbrev S1x96x16384 : Shape := ⟨3, ![1, 96, 16384]⟩
abbrev S2048x96 : Shape := ⟨2, ![2048, 96]⟩
abbrev S2048x64 : Shape := ⟨2, ![2048, 64]⟩
abbrev S1x256x96 : Shape := ⟨3, ![1, 256, 96]⟩
abbrev S256x96 : Shape := ⟨2, ![256, 96]⟩
abbrev S1x256x64 : Shape := ⟨3, ![1, 256, 64]⟩
abbrev S256x64 : Shape := ⟨2, ![256, 64]⟩
abbrev S2048x256 : Shape := ⟨2, ![2048, 256]⟩
abbrev S1x1x256 : Shape := ⟨3, ![1, 1, 256]⟩
abbrev S1x256 : Shape := ⟨2, ![1, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x96x256 : Shape := ⟨3, ![1, 96, 256]⟩
abbrev S96x256 : Shape := ⟨2, ![96, 256]⟩
abbrev S256x256 : Shape := ⟨2, ![256, 256]⟩
abbrev S1x512x96 : Shape := ⟨3, ![1, 512, 96]⟩
abbrev S512x96 : Shape := ⟨2, ![512, 96]⟩
abbrev S512x256 : Shape := ⟨2, ![512, 256]⟩
abbrev S1x512x64 : Shape := ⟨3, ![1, 512, 64]⟩
abbrev S512x64 : Shape := ⟨2, ![512, 64]⟩
abbrev S1x768x96 : Shape := ⟨3, ![1, 768, 96]⟩
abbrev S768x96 : Shape := ⟨2, ![768, 96]⟩
abbrev S768x256 : Shape := ⟨2, ![768, 256]⟩
abbrev S1x768x64 : Shape := ⟨3, ![1, 768, 64]⟩
abbrev S768x64 : Shape := ⟨2, ![768, 64]⟩
abbrev S1x1024x96 : Shape := ⟨3, ![1, 1024, 96]⟩
abbrev S1024x96 : Shape := ⟨2, ![1024, 96]⟩
abbrev S1024x256 : Shape := ⟨2, ![1024, 256]⟩
abbrev S1x1024x64 : Shape := ⟨3, ![1, 1024, 64]⟩
abbrev S1024x64 : Shape := ⟨2, ![1024, 64]⟩
abbrev S1x1280x96 : Shape := ⟨3, ![1, 1280, 96]⟩
abbrev S1280x96 : Shape := ⟨2, ![1280, 96]⟩
abbrev S1280x256 : Shape := ⟨2, ![1280, 256]⟩
abbrev S1x1280x64 : Shape := ⟨3, ![1, 1280, 64]⟩
abbrev S1280x64 : Shape := ⟨2, ![1280, 64]⟩
abbrev S1x1536x96 : Shape := ⟨3, ![1, 1536, 96]⟩
abbrev S1536x96 : Shape := ⟨2, ![1536, 96]⟩
abbrev S1536x256 : Shape := ⟨2, ![1536, 256]⟩
abbrev S1x1536x64 : Shape := ⟨3, ![1, 1536, 64]⟩
abbrev S1536x64 : Shape := ⟨2, ![1536, 64]⟩
abbrev S1x1792x96 : Shape := ⟨3, ![1, 1792, 96]⟩
abbrev S1792x96 : Shape := ⟨2, ![1792, 96]⟩
abbrev S1792x256 : Shape := ⟨2, ![1792, 256]⟩
abbrev S1x1792x64 : Shape := ⟨3, ![1, 1792, 64]⟩
abbrev S1792x64 : Shape := ⟨2, ![1792, 64]⟩

abbrev nBuf : Space → Nat
  | .hbm => 47
  | .vmem => 20
  | .smem => 0
  | _ => 0

abbrev bufTy : (tb : Table) → Fin (tcTables nBuf tb) → BufTy
  | .hbm, ⟨0, _⟩ => ⟨S8x16384x96, .bf16⟩
  | .hbm, ⟨1, _⟩ => ⟨S8x16384x96, .bf16⟩
  | .hbm, ⟨2, _⟩ => ⟨S8x16384x64, .bf16⟩
  | .hbm, ⟨3, _⟩ => ⟨S8x16384x64, .bf16⟩
  | .hbm, ⟨4, _⟩ => ⟨S8x16384x96, .f32⟩
  | .hbm, ⟨5, _⟩ => ⟨S8x16384x96, .f32⟩
  | .hbm, ⟨6, _⟩ => ⟨S8x16384x64, .f32⟩
  | .hbm, ⟨7, _⟩ => ⟨S8x16384x16384, .f32⟩
  | .hbm, ⟨8, _⟩ => ⟨S_, .f32⟩
  | .hbm, ⟨9, _⟩ => ⟨S_, .f32⟩
  | .hbm, ⟨10, _⟩ => ⟨S8x16384x16384, .f32⟩
  | .hbm, ⟨11, _⟩ => ⟨S8x16384x16384, .f32⟩
  | .hbm, ⟨12, _⟩ => ⟨S16384, .i32⟩
  | .hbm, ⟨13, _⟩ => ⟨S1x16384, .i32⟩
  | .hbm, ⟨14, _⟩ => ⟨S16384x1, .i32⟩
  | .hbm, ⟨15, _⟩ => ⟨S16384x16384, .i32⟩
  | .hbm, ⟨16, _⟩ => ⟨S16384x16384, .i32⟩
  | .hbm, ⟨17, _⟩ => ⟨S16384x16384, .i1⟩
  | .hbm, ⟨18, _⟩ => ⟨S_, .f32⟩
  | .hbm, ⟨19, _⟩ => ⟨S_, .f32⟩
  | .hbm, ⟨20, _⟩ => ⟨S8x16384x16384, .i1⟩
  | .hbm, ⟨21, _⟩ => ⟨S8x16384x16384, .f32⟩
  | .hbm, ⟨22, _⟩ => ⟨S8x16384x16384, .f32⟩
  | .hbm, ⟨23, _⟩ => ⟨S_, .f32⟩
  | .hbm, ⟨24, _⟩ => ⟨S8x16384, .f32⟩
  | .hbm, ⟨25, _⟩ => ⟨S8x16384x1, .f32⟩
  | .hbm, ⟨26, _⟩ => ⟨S8x16384x16384, .f32⟩
  | .hbm, ⟨27, _⟩ => ⟨S8x16384x16384, .f32⟩
  | .hbm, ⟨28, _⟩ => ⟨S8x16384x16384, .f32⟩
  | .hbm, ⟨29, _⟩ => ⟨S_, .f32⟩
  | .hbm, ⟨30, _⟩ => ⟨S8x16384, .f32⟩
  | .hbm, ⟨31, _⟩ => ⟨S8x16384x1, .f32⟩
  | .hbm, ⟨32, _⟩ => ⟨S8x16384x16384, .f32⟩
  | .hbm, ⟨33, _⟩ => ⟨S8x16384x16384, .f32⟩
  | .hbm, ⟨34, _⟩ => ⟨S8x16384x64, .f32⟩
  | .hbm, ⟨35, _⟩ => ⟨S8x16384x1, .f32⟩
  | .hbm, ⟨36, _⟩ => ⟨S8x16384x1, .f32⟩
  | .hbm, ⟨37, _⟩ => ⟨S8x1x16384, .f32⟩
  | .hbm, ⟨38, _⟩ => ⟨S8x8x16384, .f32⟩
  | .hbm, ⟨39, _⟩ => ⟨S_, .bf16⟩
  | .hbm, ⟨40, _⟩ => ⟨S8x16384x1, .bf16⟩
  | .hbm, ⟨41, _⟩ => ⟨S_, .bf16⟩
  | .hbm, ⟨42, _⟩ => ⟨S8x16384x63, .bf16⟩
  | .hbm, ⟨43, _⟩ => ⟨S8x16384x128, .bf16⟩
  | .hbm, ⟨44, _⟩ => ⟨S8x96x16384, .f32⟩
  | .hbm, ⟨45, _⟩ => ⟨S8x16384x96, .f32⟩
  | .hbm, ⟨46, _⟩ => ⟨S8x16384x64, .f32⟩
  | .local _ .vmem, ⟨0, _⟩ => ⟨S1x2048x96, .bf16⟩
  | .local _ .vmem, ⟨1, _⟩ => ⟨S1x2048x96, .bf16⟩
  | .local _ .vmem, ⟨2, _⟩ => ⟨S1x2048x96, .bf16⟩
  | .local _ .vmem, ⟨3, _⟩ => ⟨S1x2048x96, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x64, .f32⟩
  | .local _ .vmem, ⟨7, _⟩ => ⟨S1x2048x64, .f32⟩
  | .local _ .vmem, ⟨8, _⟩ => ⟨S1x8x2048, .f32⟩
  | .local _ .vmem, ⟨9, _⟩ => ⟨S1x8x2048, .f32⟩
  | .local _ .vmem, ⟨10, _⟩ => ⟨S1x2048x64, .bf16⟩
  | .local _ .vmem, ⟨11, _⟩ => ⟨S1x2048x64, .bf16⟩
  | .local _ .vmem, ⟨12, _⟩ => ⟨S1x96x16384, .f32⟩
  | .local _ .vmem, ⟨13, _⟩ => ⟨S1x96x16384, .f32⟩
  | .local _ .vmem, ⟨14, _⟩ => ⟨S1x2048x96, .f32⟩
  | .local _ .vmem, ⟨15, _⟩ => ⟨S1x2048x96, .f32⟩
  | .local _ .vmem, ⟨16, _⟩ => ⟨S1x2048x64, .f32⟩
  | .local _ .vmem, ⟨17, _⟩ => ⟨S1x2048x64, .f32⟩
  | .local _ .vmem, ⟨18, _⟩ => ⟨S2048x96, .f32⟩
  | .local _ .vmem, ⟨19, _⟩ => ⟨S2048x64, .f32⟩
  | _, _ => ⟨S8x16384x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v31_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "log2e" => some (((Real.log 2)⁻¹ : ℝ) : EReal)
  | "scale" => some (((Real.sqrt 96)⁻¹ : ℝ) : EReal)
  | "scale_log2e" => some (((Real.sqrt 96)⁻¹ * (Real.log 2)⁻¹ : ℝ) : EReal)
  | _ => none

abbrev grid0 : Pipeline.Grid := ⟨3, ![8, 8, 8], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_4 : BitVec 32 := 0#32
  let v10 : BitVec 1 := Scalar.cmpi .ne v9 c0_i32_4
  v10

def k0_mult1 (i : grid0.Coords) : BitVec 32 :=
  let arg2 : BitVec 32 := BitVec.ofNat 32 (i 2).val
  let c2048_i32 : BitVec 32 := 2048#32
  let v63 : BitVec 32 := Scalar.muli arg2 c2048_i32
  let c0_i32_38 : BitVec 32 := 0#32
  let v64 : BitVec 32 := Scalar.addi v63 c0_i32_38
  v64
def k0_off1 (i : grid0.Coords) (c0_i32_38 : BitVec 32) : Fin 3 → Nat :=
  let c0_39 : Index := 0#32
  let c0_40 : Index := 0#32
  let arg2 : BitVec 32 := BitVec.ofNat 32 (i 2).val
  let c2048_i32 : BitVec 32 := 2048#32
  let v63 : BitVec 32 := Scalar.muli arg2 c2048_i32
  let v64 : BitVec 32 := Scalar.addi v63 c0_i32_38
  let v65 : BitVec 32 := v64
  let v66 : Index := Scalar.indexCast v65
  ![0, 0, v66.toNat]
def k0_mult2 (i : grid0.Coords) : BitVec 32 :=
  let arg2 : BitVec 32 := BitVec.ofNat 32 (i 2).val
  let c2048_i32_80 : BitVec 32 := 2048#32
  let v125 : BitVec 32 := Scalar.muli arg2 c2048_i32_80
  let c256_i32 : BitVec 32 := 256#32
  let v126 : BitVec 32 := Scalar.addi v125 c256_i32
  v126
def k0_mult3 (i : grid0.Coords) : BitVec 32 :=
  let arg2 : BitVec 32 := BitVec.ofNat 32 (i 2).val
  let c2048_i32_122 : BitVec 32 := 2048#32
  let v187 : BitVec 32 := Scalar.muli arg2 c2048_i32_122
  let c512_i32 : BitVec 32 := 512#32
  let v188 : BitVec 32 := Scalar.addi v187 c512_i32
  v188
def k0_mult4 (i : grid0.Coords) : BitVec 32 :=
  let arg2 : BitVec 32 := BitVec.ofNat 32 (i 2).val
  let c2048_i32_164 : BitVec 32 := 2048#32
  let v249 : BitVec 32 := Scalar.muli arg2 c2048_i32_164
  let c768_i32 : BitVec 32 := 768#32
  let v250 : BitVec 32 := Scalar.addi v249 c768_i32
  v250
def k0_mult5 (i : grid0.Coords) : BitVec 32 :=
  let arg2 : BitVec 32 := BitVec.ofNat 32 (i 2).val
  let c2048_i32_206 : BitVec 32 := 2048#32
  let v311 : BitVec 32 := Scalar.muli arg2 c2048_i32_206
  let c1024_i32 : BitVec 32 := 1024#32
  let v312 : BitVec 32 := Scalar.addi v311 c1024_i32
  v312
def k0_mult6 (i : grid0.Coords) : BitVec 32 :=
  let arg2 : BitVec 32 := BitVec.ofNat 32 (i 2).val
  let c2048_i32_248 : BitVec 32 := 2048#32
  let v373 : BitVec 32 := Scalar.muli arg2 c2048_i32_248
  let c1280_i32 : BitVec 32 := 1280#32
  let v374 : BitVec 32 := Scalar.addi v373 c1280_i32
  v374
def k0_mult7 (i : grid0.Coords) : BitVec 32 :=
  let arg2 : BitVec 32 := BitVec.ofNat 32 (i 2).val
  let c2048_i32_290 : BitVec 32 := 2048#32
  let v435 : BitVec 32 := Scalar.muli arg2 c2048_i32_290
  let c1536_i32 : BitVec 32 := 1536#32
  let v436 : BitVec 32 := Scalar.addi v435 c1536_i32
  v436
def k0_mult8 (i : grid0.Coords) : BitVec 32 :=
  let arg2 : BitVec 32 := BitVec.ofNat 32 (i 2).val
  let c2048_i32_332 : BitVec 32 := 2048#32
  let v497 : BitVec 32 := Scalar.muli arg2 c2048_i32_332
  let c1792_i32 : BitVec 32 := 1792#32
  let v498 : BitVec 32 := Scalar.addi v497 c1792_i32
  v498
def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_5 : BitVec 32 := 0#32
  let v13 : BitVec 1 := Scalar.cmpi .ne v12 c0_i32_5
  v13

def k0_mult9 (i : grid0.Coords) : BitVec 32 :=
  let arg2 : BitVec 32 := BitVec.ofNat 32 (i 2).val
  let c2048_i32 : BitVec 32 := 2048#32
  let v70 : BitVec 32 := Scalar.muli arg2 c2048_i32
  let c0_i32_40 : BitVec 32 := 0#32
  let v71 : BitVec 32 := Scalar.addi v70 c0_i32_40
  v71
def k0_off2 (i : grid0.Coords) (c0_i32_40 : BitVec 32) : Fin 3 → Nat :=
  let c0_41 : Index := 0#32
  let c0_42 : Index := 0#32
  let arg2 : BitVec 32 := BitVec.ofNat 32 (i 2).val
  let c2048_i32 : BitVec 32 := 2048#32
  let v70 : BitVec 32 := Scalar.muli arg2 c2048_i32
  let v71 : BitVec 32 := Scalar.addi v70 c0_i32_40
  let v72 : BitVec 32 := v71
  let v73 : Index := Scalar.indexCast v72
  ![0, 0, v73.toNat]
def k0_mult10 (i : grid0.Coords) : BitVec 32 :=
  let arg2 : BitVec 32 := BitVec.ofNat 32 (i 2).val
  let c2048_i32_83 : BitVec 32 := 2048#32
  let v139 : BitVec 32 := Scalar.muli arg2 c2048_i32_83
  let c256_i32_84 : BitVec 32 := 256#32
  let v140 : BitVec 32 := Scalar.addi v139 c256_i32_84
  v140
def k0_mult11 (i : grid0.Coords) : BitVec 32 :=
  let arg2 : BitVec 32 := BitVec.ofNat 32 (i 2).val
  let c2048_i32_127 : BitVec 32 := 2048#32
  let v208 : BitVec 32 := Scalar.muli arg2 c2048_i32_127
  let c512_i32_128 : BitVec 32 := 512#32
  let v209 : BitVec 32 := Scalar.addi v208 c512_i32_128
  v209
def k0_mult12 (i : grid0.Coords) : BitVec 32 :=
  let arg2 : BitVec 32 := BitVec.ofNat 32 (i 2).val
  let c2048_i32_171 : BitVec 32 := 2048#32
  let v277 : BitVec 32 := Scalar.muli arg2 c2048_i32_171
  let c768_i32_172 : BitVec 32 := 768#32
  let v278 : BitVec 32 := Scalar.addi v277 c768_i32_172
  v278
def k0_mult13 (i : grid0.Coords) : BitVec 32 :=
  let arg2 : BitVec 32 := BitVec.ofNat 32 (i 2).val
  let c2048_i32_215 : BitVec 32 := 2048#32
  let v346 : BitVec 32 := Scalar.muli arg2 c2048_i32_215
  let c1024_i32_216 : BitVec 32 := 1024#32
  let v347 : BitVec 32 := Scalar.addi v346 c1024_i32_216
  v347
def k0_mult14 (i : grid0.Coords) : BitVec 32 :=
  let arg2 : BitVec 32 := BitVec.ofNat 32 (i 2).val
  let c2048_i32_259 : BitVec 32 := 2048#32
  let v415 : BitVec 32 := Scalar.muli arg2 c2048_i32_259
  let c1280_i32_260 : BitVec 32 := 1280#32
  let v416 : BitVec 32 := Scalar.addi v415 c1280_i32_260
  v416
def k0_mult15 (i : grid0.Coords) : BitVec 32 :=
  let arg2 : BitVec 32 := BitVec.ofNat 32 (i 2).val
  let c2048_i32_303 : BitVec 32 := 2048#32
  let v484 : BitVec 32 := Scalar.muli arg2 c2048_i32_303
  let c1536_i32_304 : BitVec 32 := 1536#32
  let v485 : BitVec 32 := Scalar.addi v484 c1536_i32_304
  v485
def k0_mult16 (i : grid0.Coords) : BitVec 32 :=
  let arg2 : BitVec 32 := BitVec.ofNat 32 (i 2).val
  let c2048_i32_347 : BitVec 32 := 2048#32
  let v553 : BitVec 32 := Scalar.muli arg2 c2048_i32_347
  let c1792_i32_348 : BitVec 32 := 1792#32
  let v554 : BitVec 32 := Scalar.addi v553 c1792_i32_348
  v554
def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg2 : BitVec 32 := BitVec.ofNat 32 (i 2).val
  let c0_i32_2 : BitVec 32 := 0#32
  let v4 : BitVec 1 := Scalar.cmpi .eq arg2 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond5 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_6 : BitVec 32 := 0#32
  let v16 : BitVec 1 := Scalar.cmpi .ne v15 c0_i32_6
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x96x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x2048x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S8x16384x96 : Shape := ⟨3, ![8, 16384, 96]⟩
abbrev S8x16384x64 : Shape := ⟨3, ![8, 16384, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x96x16384 : Shape := ⟨3, ![8, 96, 16384]⟩

abbrev nBuf : Space → Nat
  | .hbm => 90
  | .vmem => 0
  | .smem => 0
  | _ => 0

abbrev bufTy : (tb : Table) → Fin (tcTables nBuf tb) → BufTy
  | .hbm, ⟨0, _⟩ => ⟨S8x16384x96, .bf16⟩
  | .hbm, ⟨1, _⟩ => ⟨S8x16384x96, .bf16⟩
  | .hbm, ⟨2, _⟩ => ⟨S8x16384x64, .bf16⟩
  | .hbm, ⟨3, _⟩ => ⟨S8x16384x64, .bf16⟩
  | .hbm, ⟨4, _⟩ => ⟨S8x16384x96, .f32⟩
  | .hbm, ⟨5, _⟩ => ⟨S8x16384x96, .f32⟩
  | .hbm, ⟨6, _⟩ => ⟨S8x16384x64, .f32⟩
  | .hbm, ⟨7, _⟩ => ⟨S8x16384x16384, .f32⟩
  | .hbm, ⟨8, _⟩ => ⟨S_, .f32⟩
  | .hbm, ⟨9, _⟩ => ⟨S_, .f32⟩
  | .hbm, ⟨10, _⟩ => ⟨S8x16384x16384, .f32⟩
  | .hbm, ⟨11, _⟩ => ⟨S8x16384x16384, .f32⟩
  | .hbm, ⟨12, _⟩ => ⟨S16384, .i32⟩
  | .hbm, ⟨13, _⟩ => ⟨S1x16384, .i32⟩
  | .hbm, ⟨14, _⟩ => ⟨S16384x1, .i32⟩
  | .hbm, ⟨15, _⟩ => ⟨S16384x16384, .i32⟩
  | .hbm, ⟨16, _⟩ => ⟨S16384x16384, .i32⟩
  | .hbm, ⟨17, _⟩ => ⟨S16384x16384, .i1⟩
  | .hbm, ⟨18, _⟩ => ⟨S_, .f32⟩
  | .hbm, ⟨19, _⟩ => ⟨S_, .f32⟩
  | .hbm, ⟨20, _⟩ => ⟨S8x16384x16384, .i1⟩
  | .hbm, ⟨21, _⟩ => ⟨S8x16384x16384, .f32⟩
  | .hbm, ⟨22, _⟩ => ⟨S8x16384x16384, .f32⟩
  | .hbm, ⟨23, _⟩ => ⟨S_, .f32⟩
  | .hbm, ⟨24, _⟩ => ⟨S8x16384x16384, .f32⟩
  | .hbm, ⟨25, _⟩ => ⟨S_, .f32⟩
  | .hbm, ⟨26, _⟩ => ⟨S8x16384, .f32⟩
  | .hbm, ⟨27, _⟩ => ⟨S8x16384x1, .f32⟩
  | .hbm, ⟨28, _⟩ => ⟨S8x16384x16384, .f32⟩
  | .hbm, ⟨29, _⟩ => ⟨S8x16384x16384, .i1⟩
  | .hbm, ⟨30, _⟩ => ⟨S8x16384x16384, .f32⟩
  | .hbm, ⟨31, _⟩ => ⟨S_, .f32⟩
  | .hbm, ⟨32, _⟩ => ⟨S8x16384, .f32⟩
  | .hbm, ⟨33, _⟩ => ⟨S_, .f32⟩
  | .hbm, ⟨34, _⟩ => ⟨S8x16384, .f32⟩
  | .hbm, ⟨35, _⟩ => ⟨S8x16384, .f32⟩
  | .hbm, ⟨36, _⟩ => ⟨S_, .f32⟩
  | .hbm, ⟨37, _⟩ => ⟨S8x16384, .f32⟩
  | .hbm, ⟨38, _⟩ => ⟨S8x16384, .i1⟩
  | .hbm, ⟨39, _⟩ => ⟨S_, .f32⟩
  | .hbm, ⟨40, _⟩ => ⟨S8x16384, .f32⟩
  | .hbm, ⟨41, _⟩ => ⟨S8x16384, .i1⟩
  | .hbm, ⟨42, _⟩ => ⟨S_, .f32⟩
  | .hbm, ⟨43, _⟩ => ⟨S8x16384, .f32⟩
  | .hbm, ⟨44, _⟩ => ⟨S_, .f32⟩
  | .hbm, ⟨45, _⟩ => ⟨S8x16384, .f32⟩
  | .hbm, ⟨46, _⟩ => ⟨S_, .f32⟩
  | .hbm, ⟨47, _⟩ => ⟨S8x16384, .f32⟩
  | .hbm, ⟨48, _⟩ => ⟨S8x16384, .f32⟩
  | .hbm, ⟨49, _⟩ => ⟨S8x16384, .f32⟩
  | .hbm, ⟨50, _⟩ => ⟨S8x16384x1, .f32⟩
  | .hbm, ⟨51, _⟩ => ⟨S8x16384x16384, .f32⟩
  | .hbm, ⟨52, _⟩ => ⟨S8x16384x16384, .f32⟩
  | .hbm, ⟨53, _⟩ => ⟨S8x16384x16384, .f32⟩
  | .hbm, ⟨54, _⟩ => ⟨S_, .f32⟩
  | .hbm, ⟨55, _⟩ => ⟨S8x16384, .f32⟩
  | .hbm, ⟨56, _⟩ => ⟨S8x16384x1, .f32⟩
  | .hbm, ⟨57, _⟩ => ⟨S8x16384x16384, .f32⟩
  | .hbm, ⟨58, _⟩ => ⟨S8x16384x16384, .f32⟩
  | .hbm, ⟨59, _⟩ => ⟨S8x16384x1, .f32⟩
  | .hbm, ⟨60, _⟩ => ⟨S_, .f32⟩
  | .hbm, ⟨61, _⟩ => ⟨S8x16384x1, .f32⟩
  | .hbm, ⟨62, _⟩ => ⟨S8x16384x1, .f32⟩
  | .hbm, ⟨63, _⟩ => ⟨S8x16384x64, .f32⟩
  | .hbm, ⟨64, _⟩ => ⟨S8x16384x64, .f32⟩
  | .hbm, ⟨65, _⟩ => ⟨S8x64x16384, .f32⟩
  | .hbm, ⟨66, _⟩ => ⟨S8x16384x64, .f32⟩
  | .hbm, ⟨67, _⟩ => ⟨S8x16384x16384, .f32⟩
  | .hbm, ⟨68, _⟩ => ⟨S8x16384x16384, .f32⟩
  | .hbm, ⟨69, _⟩ => ⟨S8x16384x16384, .f32⟩
  | .hbm, ⟨70, _⟩ => ⟨S8x16384x16384, .f32⟩
  | .hbm, ⟨71, _⟩ => ⟨S_, .f32⟩
  | .hbm, ⟨72, _⟩ => ⟨S8x16384, .f32⟩
  | .hbm, ⟨73, _⟩ => ⟨S8x16384x1, .f32⟩
  | .hbm, ⟨74, _⟩ => ⟨S8x16384x1, .f32⟩
  | .hbm, ⟨75, _⟩ => ⟨S8x16384x16384, .f32⟩
  | .hbm, ⟨76, _⟩ => ⟨S8x16384x16384, .f32⟩
  | .hbm, ⟨77, _⟩ => ⟨S_, .f32⟩
  | .hbm, ⟨78, _⟩ => ⟨S8x16384, .f32⟩
  | .hbm, ⟨79, _⟩ => ⟨S8x16384x16384, .f32⟩
  | .hbm, ⟨80, _⟩ => ⟨S8x16384x16384, .f32⟩
  | .hbm, ⟨81, _⟩ => ⟨S8x16384x16384, .f32⟩
  | .hbm, ⟨82, _⟩ => ⟨S_, .f32⟩
  | .hbm, ⟨83, _⟩ => ⟨S8x16384x16384, .f32⟩
  | .hbm, ⟨84, _⟩ => ⟨S8x16384x16384, .f32⟩
  | .hbm, ⟨85, _⟩ => ⟨S8x16384x16384, .f32⟩
  | .hbm, ⟨86, _⟩ => ⟨S8x16384x16384, .f32⟩
  | .hbm, ⟨87, _⟩ => ⟨S8x16384x96, .f32⟩
  | .hbm, ⟨88, _⟩ => ⟨S8x16384x96, .f32⟩
  | .hbm, ⟨89, _⟩ => ⟨S8x96x16384, .f32⟩
  | _, _ => ⟨S8x16384x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_v13_1 : Ref sig .tc := ⟨.hbm, 20, rfl⟩
abbrev main_call0_v2 : Ref sig .tc := ⟨.hbm, 21, rfl⟩
abbrev main_v13_0 : Ref sig .tc := ⟨.hbm, 22, rfl⟩
abbrev main_call0_cst : Ref sig .tc := ⟨.hbm, 23, rfl⟩
abbrev main_v13_2 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]
-- ==== Up.lean ====
abbrev S16384x1024 : Shape := ⟨2, ![16384, 1024]⟩
abbrev S1024x4096 : Shape := ⟨2, ![1024, 4096]⟩
abbrev S16384x4096 : Shape := ⟨2, ![16384, 4096]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S16384x4096, .bf16⟩
  | .hbm, ⟨3, _⟩ => ⟨S16384x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S16384x1024 : Shape := ⟨2, ![16384, 1024]⟩
abbrev S1024x4096 : Shape := ⟨2, ![1024, 4096]⟩
abbrev S16384x4096 : Shape := ⟨2, ![16384, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S16384x1024, .f32⟩
  | .hbm, ⟨3, _⟩ => ⟨S1024x4096, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .bf16⟩
  | .hbm, ⟨10, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Down.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩
abbrev S1024x1024 : Shape := ⟨2, ![1024, 1024]⟩

abbrev nBuf : Space → Nat
  | .hbm => 13
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x4096, .bf16⟩
  | .hbm, ⟨3, _⟩ => ⟨S4096x1024, .bf16⟩
  | .hbm, ⟨4, _⟩ => ⟨S16384x1024, .f32⟩
  | .hbm, ⟨5, _⟩ => ⟨S1024x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .bf16⟩
  | .hbm, ⟨12, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x4096, .bf16⟩
  | .hbm, ⟨3, _⟩ => ⟨S4096x1024, .bf16⟩
  | .hbm, ⟨4, _⟩ => ⟨S16384x1024, .f32⟩
  | .hbm, ⟨5, _⟩ => ⟨S1024x4096, .f32⟩
  | .hbm, ⟨6, _⟩ => ⟨S4096x1024, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x1024, .f32⟩
  | .hbm, ⟨13, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== DownDw.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 13
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S4096x1024, .bf16⟩
  | .hbm, ⟨3, _⟩ => ⟨S16384x1024, .bf16⟩
  | .hbm, ⟨4, _⟩ => ⟨S16384x1024, .f32⟩
  | .hbm, ⟨5, _⟩ => ⟨S1024x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .bf16⟩
  | .hbm, ⟨12, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S4096x1024, .bf16⟩
  | .hbm, ⟨3, _⟩ => ⟨S16384x1024, .bf16⟩
  | .hbm, ⟨4, _⟩ => ⟨S4096x1024, .f32⟩
  | .hbm, ⟨5, _⟩ => ⟨S16384x1024, .f32⟩
  | .hbm, ⟨6, _⟩ => ⟨S1024x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x1024, .f32⟩
  | .hbm, ⟨13, _⟩ => ⟨S16384x1024, .f32⟩
  | .hbm, ⟨14, _⟩ => ⟨S1024x4096, .f32⟩
  | .hbm, ⟨15, _⟩ => ⟨S4096x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== DownDx.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩
abbrev S2048x1024 : Shape := ⟨2, ![2048, 1024]⟩
abbrev S1024x1024 : Shape := ⟨2, ![1024, 1024]⟩

abbrev nBuf : Space → Nat
  | .hbm => 12
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S4096x1024, .bf16⟩
  | .hbm, ⟨3, _⟩ => ⟨S16384x1024, .bf16⟩
  | .hbm, ⟨4, _⟩ => ⟨S16384x1024, .f32⟩
  | .hbm, ⟨5, _⟩ => ⟨S1024x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .bf16⟩
  | .hbm, ⟨11, _⟩ => ⟨S16384x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S4096x1024, .bf16⟩
  | .hbm, ⟨3, _⟩ => ⟨S16384x1024, .bf16⟩
  | .hbm, ⟨4, _⟩ => ⟨S16384x1024, .f32⟩
  | .hbm, ⟨5, _⟩ => ⟨S1024x4096, .f32⟩
  | .hbm, ⟨6, _⟩ => ⟨S16384x4096, .f32⟩
  | .hbm, ⟨7, _⟩ => ⟨S4096x1024, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .i1⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x1024, .f32⟩
  | .hbm, ⟨18, _⟩ => ⟨S16384x1024, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== UpDw.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩
abbrev S1024x1024 : Shape := ⟨2, ![1024, 1024]⟩

abbrev nBuf : Space → Nat
  | .hbm => 28
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S4096x1024, .bf16⟩
  | .hbm, ⟨3, _⟩ => ⟨S16384x1024, .bf16⟩
  | .hbm, ⟨4, _⟩ => ⟨S16384x1024, .f32⟩
  | .hbm, ⟨5, _⟩ => ⟨S1024x4096, .f32⟩
  | .hbm, ⟨6, _⟩ => ⟨S16384x4096, .f32⟩
  | .hbm, ⟨7, _⟩ => ⟨S4096x1024, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .i1⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x1024, .f32⟩
  | .hbm, ⟨18, _⟩ => ⟨S16384x1024, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S16384x4096, .bf16⟩
  | .hbm, ⟨27, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S4096x1024, .bf16⟩
  | .hbm, ⟨3, _⟩ => ⟨S16384x1024, .bf16⟩
  | .hbm, ⟨4, _⟩ => ⟨S1024x4096, .f32⟩
  | .hbm, ⟨5, _⟩ => ⟨S16384x1024, .f32⟩
  | .hbm, ⟨6, _⟩ => ⟨S4096x1024, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .i1⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x1024, .f32⟩
  | .hbm, ⟨18, _⟩ => ⟨S16384x1024, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S4096x1024, .f32⟩
  | .hbm, ⟨27, _⟩ => ⟨S1024x4096, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== UpDx.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩
abbrev S2048x1024 : Shape := ⟨2, ![2048, 1024]⟩
abbrev S1024x1024 : Shape := ⟨2, ![1024, 1024]⟩

abbrev nBuf : Space → Nat
  | .hbm => 28
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S4096x1024, .bf16⟩
  | .hbm, ⟨3, _⟩ => ⟨S16384x1024, .bf16⟩
  | .hbm, ⟨4, _⟩ => ⟨S16384x1024, .f32⟩
  | .hbm, ⟨5, _⟩ => ⟨S1024x4096, .f32⟩
  | .hbm, ⟨6, _⟩ => ⟨S16384x4096, .f32⟩
  | .hbm, ⟨7, _⟩ => ⟨S4096x1024, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .i1⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x1024, .f32⟩
  | .hbm, ⟨18, _⟩ => ⟨S16384x1024, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S16384x4096, .bf16⟩
  | .hbm, ⟨27, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S4096x1024, .bf16⟩
  | .hbm, ⟨3, _⟩ => ⟨S16384x1024, .bf16⟩
  | .hbm, ⟨4, _⟩ => ⟨S16384x1024, .f32⟩
  | .hbm, ⟨5, _⟩ => ⟨S1024x4096, .f32⟩
  | .hbm, ⟨6, _⟩ => ⟨S4096x1024, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .i1⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x1024, .f32⟩
  | .hbm, ⟨18, _⟩ => ⟨S16384x1024, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== In.lean ====
abbrev S16384x1024 : Shape := ⟨2, ![16384, 1024]⟩
abbrev S1024x3072 : Shape := ⟨2, ![1024, 3072]⟩
abbrev S16384x3072 : Shape := ⟨2, ![16384, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InIdeal.lean ====
abbrev S16384x1024 : Shape := ⟨2, ![16384, 1024]⟩
abbrev S1024x3072 : Shape := ⟨2, ![1024, 3072]⟩
abbrev S16384x3072 : Shape := ⟨2, ![16384, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x1024, .f32⟩
  | .hbm, ⟨3, _⟩ => ⟨S1024x3072, .f32⟩
  | .hbm, ⟨4, _⟩ => ⟨S16384x3072, .f32⟩
  | .hbm, ⟨5, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InDw.lean ====
abbrev S16384x1024 : Shape := ⟨2, ![16384, 1024]⟩
abbrev S1024x3072 : Shape := ⟨2, ![1024, 3072]⟩
abbrev S16384x3072 : Shape := ⟨2, ![16384, 3072]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x3072, .bf16⟩
  | .hbm, ⟨3, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwIdeal.lean ====
abbrev S16384x1024 : Shape := ⟨2, ![16384, 1024]⟩
abbrev S1024x3072 : Shape := ⟨2, ![1024, 3072]⟩
abbrev S16384x3072 : Shape := ⟨2, ![16384, 3072]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x3072, .bf16⟩
  | .hbm, ⟨3, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S16384x1024 : Shape := ⟨2, ![16384, 1024]⟩
abbrev S1024x3072 : Shape := ⟨2, ![1024, 3072]⟩
abbrev S16384x3072 : Shape := ⟨2, ![16384, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x3072, .bf16⟩
  | .hbm, ⟨3, _⟩ => ⟨S1024x3072, .f32⟩
  | .hbm, ⟨4, _⟩ => ⟨S16384x1024, .f32⟩
  | .hbm, ⟨5, _⟩ => ⟨S16384x3072, .f32⟩
  | .hbm, ⟨6, _⟩ => ⟨S16384x3072, .f32⟩
  | .hbm, ⟨7, _⟩ => ⟨S3072x1024, .f32⟩
  | .hbm, ⟨8, _⟩ => ⟨S1024x3072, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDx.lean ====
abbrev S16384x1024 : Shape := ⟨2, ![16384, 1024]⟩
abbrev S1024x3072 : Shape := ⟨2, ![1024, 3072]⟩
abbrev S16384x3072 : Shape := ⟨2, ![16384, 3072]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x3072, .bf16⟩
  | .hbm, ⟨3, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxIdeal.lean ====
abbrev S16384x1024 : Shape := ⟨2, ![16384, 1024]⟩
abbrev S1024x3072 : Shape := ⟨2, ![1024, 3072]⟩
abbrev S16384x3072 : Shape := ⟨2, ![16384, 3072]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x3072, .bf16⟩
  | .hbm, ⟨3, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x3072, .bf16⟩
  | .hbm, ⟨3, _⟩ => ⟨S16384x1024, .f32⟩
  | .hbm, ⟨4, _⟩ => ⟨S1024x3072, .f32⟩
  | .hbm, ⟨5, _⟩ => ⟨S16384x3072, .f32⟩
  | .hbm, ⟨6, _⟩ => ⟨S16384x3072, .f32⟩
  | .hbm, ⟨7, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Out.lean ====
abbrev S16384x1024 : Shape := ⟨2, ![16384, 1024]⟩
abbrev S16384x768 : Shape := ⟨2, ![16384, 768]⟩
abbrev S768x1024 : Shape := ⟨2, ![768, 1024]⟩
abbrev S1024x768 : Shape := ⟨2, ![1024, 768]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x768, .bf16⟩
  | .hbm, ⟨2, _⟩ => ⟨S768x1024, .bf16⟩
  | .hbm, ⟨3, _⟩ => ⟨S16384x1024, .f32⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutIdeal.lean ====
abbrev S16384x1024 : Shape := ⟨2, ![16384, 1024]⟩
abbrev S16384x768 : Shape := ⟨2, ![16384, 768]⟩
abbrev S768x1024 : Shape := ⟨2, ![768, 1024]⟩
abbrev S1024x768 : Shape := ⟨2, ![1024, 768]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x768, .bf16⟩
  | .hbm, ⟨2, _⟩ => ⟨S768x1024, .bf16⟩
  | .hbm, ⟨3, _⟩ => ⟨S16384x1024, .f32⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S16384x1024 : Shape := ⟨2, ![16384, 1024]⟩
abbrev S16384x768 : Shape := ⟨2, ![16384, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x768, .bf16⟩
  | .hbm, ⟨2, _⟩ => ⟨S768x1024, .bf16⟩
  | .hbm, ⟨3, _⟩ => ⟨S16384x768, .f32⟩
  | .hbm, ⟨4, _⟩ => ⟨S768x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S16384x768 : Shape := ⟨2, ![16384, 768]⟩
abbrev S768x1024 : Shape := ⟨2, ![768, 1024]⟩
abbrev S16384x1024 : Shape := ⟨2, ![16384, 1024]⟩
abbrev S1024x768 : Shape := ⟨2, ![1024, 768]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x768, .bf16⟩
  | .hbm, ⟨1, _⟩ => ⟨S768x1024, .bf16⟩
  | .hbm, ⟨2, _⟩ => ⟨S16384x1024, .bf16⟩
  | .hbm, ⟨3, _⟩ => ⟨S768x1024, .f32⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwIdeal.lean ====
abbrev S16384x768 : Shape := ⟨2, ![16384, 768]⟩
abbrev S768x1024 : Shape := ⟨2, ![768, 1024]⟩
abbrev S16384x1024 : Shape := ⟨2, ![16384, 1024]⟩
abbrev S1024x768 : Shape := ⟨2, ![1024, 768]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x768, .bf16⟩
  | .hbm, ⟨1, _⟩ => ⟨S768x1024, .bf16⟩
  | .hbm, ⟨2, _⟩ => ⟨S16384x1024, .bf16⟩
  | .hbm, ⟨3, _⟩ => ⟨S768x1024, .f32⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S16384x768 : Shape := ⟨2, ![16384, 768]⟩
abbrev S768x1024 : Shape := ⟨2, ![768, 1024]⟩
abbrev S16384x1024 : Shape := ⟨2, ![16384, 1024]⟩
abbrev S1024x768 : Shape := ⟨2, ![1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S768x1024, .bf16⟩
  | .hbm, ⟨2, _⟩ => ⟨S16384x1024, .bf16⟩
  | .hbm, ⟨3, _⟩ => ⟨S768x1024, .f32⟩
  | .hbm, ⟨4, _⟩ => ⟨S16384x768, .f32⟩
  | .hbm, ⟨5, _⟩ => ⟨S16384x1024, .f32⟩
  | .hbm, ⟨6, _⟩ => ⟨S16384x1024, .f32⟩
  | .hbm, ⟨7, _⟩ => ⟨S1024x768, .f32⟩
  | .hbm, ⟨8, _⟩ => ⟨S768x1024, .f32⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDx.lean ====
abbrev S16384x768 : Shape := ⟨2, ![16384, 768]⟩
abbrev S768x1024 : Shape := ⟨2, ![768, 1024]⟩
abbrev S16384x1024 : Shape := ⟨2, ![16384, 1024]⟩
abbrev S2048x1024 : Shape := ⟨2, ![2048, 1024]⟩
abbrev S2048x768 : Shape := ⟨2, ![2048, 768]⟩

abbrev nBuf : Space → Nat
  | .hbm => 4
  | .vmem => 5
  | .smem => 0
  | _ => 0

abbrev bufTy : (tb : Table) → Fin (tcTables nBuf tb) → BufTy
  | .hbm, ⟨0, _⟩ => ⟨S16384x768, .bf16⟩
  | .hbm, ⟨1, _⟩ => ⟨S768x1024, .bf16⟩
  | .hbm, ⟨2, _⟩ => ⟨S16384x1024, .bf16⟩
  | .hbm, ⟨3, _⟩ => ⟨S16384x768, .bf16⟩
  | .local _ .vmem, ⟨0, _⟩ => ⟨S2048x1024, .bf16⟩
  | .local _ .vmem, ⟨1, _⟩ => ⟨S2048x1024, .bf16⟩
  | .local _ .vmem, ⟨2, _⟩ => ⟨S768x1024, .bf16⟩
  | .local _ .vmem, ⟨3, _⟩ => ⟨S2048x768, .bf16⟩
  | .local _ .vmem, ⟨4, _⟩ => ⟨S2048x768, .bf16⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxIdeal.lean ====
abbrev S16384x768 : Shape := ⟨2, ![16384, 768]⟩
abbrev S768x1024 : Shape := ⟨2, ![768, 1024]⟩
abbrev S16384x1024 : Shape := ⟨2, ![16384, 1024]⟩
abbrev S2048x1024 : Shape := ⟨2, ![2048, 1024]⟩
abbrev S2048x768 : Shape := ⟨2, ![2048, 768]⟩

abbrev nBuf : Space → Nat
  | .hbm => 4
  | .vmem => 5
  | .smem => 0
  | _ => 0

abbrev bufTy : (tb : Table) → Fin (tcTables nBuf tb) → BufTy
  | .hbm, ⟨0, _⟩ => ⟨S16384x768, .bf16⟩
  | .hbm, ⟨1, _⟩ => ⟨S768x1024, .bf16⟩
  | .hbm, ⟨2, _⟩ => ⟨S16384x1024, .bf16⟩
  | .hbm, ⟨3, _⟩ => ⟨S16384x768, .bf16⟩
  | .local _ .vmem, ⟨0, _⟩ => ⟨S2048x1024, .bf16⟩
  | .local _ .vmem, ⟨1, _⟩ => ⟨S2048x1024, .bf16⟩
  | .local _ .vmem, ⟨2, _⟩ => ⟨S768x1024, .bf16⟩
  | .local _ .vmem, ⟨3, _⟩ => ⟨S2048x768, .bf16⟩
  | .local _ .vmem, ⟨4, _⟩ => ⟨S2048x768, .bf16⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S16384x768 : Shape := ⟨2, ![16384, 768]⟩
abbrev S768x1024 : Shape := ⟨2, ![768, 1024]⟩
abbrev S16384x1024 : Shape := ⟨2, ![16384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S768x1024, .bf16⟩
  | .hbm, ⟨2, _⟩ => ⟨S16384x1024, .bf16⟩
  | .hbm, ⟨3, _⟩ => ⟨S16384x768, .f32⟩
  | .hbm, ⟨4, _⟩ => ⟨S768x1024, .f32⟩
  | .hbm, ⟨5, _⟩ => ⟨S16384x1024, .f32⟩
  | .hbm, ⟨6, _⟩ => ⟨S16384x1024, .f32⟩
  | .hbm, ⟨7, _⟩ => ⟨S16384x768, .f32⟩
  | .hbm, ⟨8, _⟩ => ⟨S16384x768, .bf16⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Lat.lean ====
abbrev S16384x1024 : Shape := ⟨2, ![16384, 1024]⟩
abbrev S1024x672 : Shape := ⟨2, ![1024, 672]⟩
abbrev S16384x672 : Shape := ⟨2, ![16384, 672]⟩
abbrev S2048x1024 : Shape := ⟨2, ![2048, 1024]⟩
abbrev S2048x672 : Shape := ⟨2, ![2048, 672]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x672, .bf16⟩
  | .hbm, ⟨2, _⟩ => ⟨S16384x672, .f32⟩
  | .local _ .vmem, ⟨0, _⟩ => ⟨S2048x1024, .bf16⟩
  | .local _ .vmem, ⟨1, _⟩ => ⟨S2048x1024, .bf16⟩
  | .local _ .vmem, ⟨2, _⟩ => ⟨S1024x672, .bf16⟩
  | .local _ .vmem, ⟨3, _⟩ => ⟨S2048x672, .f32⟩
  | .local _ .vmem, ⟨4, _⟩ => ⟨S2048x672, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x672 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x672 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatIdeal.lean ====
abbrev S16384x1024 : Shape := ⟨2, ![16384, 1024]⟩
abbrev S1024x672 : Shape := ⟨2, ![1024, 672]⟩
abbrev S16384x672 : Shape := ⟨2, ![16384, 672]⟩
abbrev S2048x1024 : Shape := ⟨2, ![2048, 1024]⟩
abbrev S2048x672 : Shape := ⟨2, ![2048, 672]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x672, .bf16⟩
  | .hbm, ⟨2, _⟩ => ⟨S16384x672, .f32⟩
  | .local _ .vmem, ⟨0, _⟩ => ⟨S2048x1024, .bf16⟩
  | .local _ .vmem, ⟨1, _⟩ => ⟨S2048x1024, .bf16⟩
  | .local _ .vmem, ⟨2, _⟩ => ⟨S1024x672, .bf16⟩
  | .local _ .vmem, ⟨3, _⟩ => ⟨S2048x672, .f32⟩
  | .local _ .vmem, ⟨4, _⟩ => ⟨S2048x672, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x672 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x672 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatRefIdeal.lean ====
abbrev S16384x1024 : Shape := ⟨2, ![16384, 1024]⟩
abbrev S1024x672 : Shape := ⟨2, ![1024, 672]⟩
abbrev S16384x672 : Shape := ⟨2, ![16384, 672]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x672, .bf16⟩
  | .hbm, ⟨2, _⟩ => ⟨S16384x1024, .f32⟩
  | .hbm, ⟨3, _⟩ => ⟨S1024x672, .f32⟩
  | .hbm, ⟨4, _⟩ => ⟨S16384x672, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LatDw.lean ====
abbrev S16384x1024 : Shape := ⟨2, ![16384, 1024]⟩
abbrev S1024x672 : Shape := ⟨2, ![1024, 672]⟩
abbrev S16384x672 : Shape := ⟨2, ![16384, 672]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x672, .bf16⟩
  | .hbm, ⟨2, _⟩ => ⟨S16384x672, .bf16⟩
  | .hbm, ⟨3, _⟩ => ⟨S1024x672, .f32⟩
  | .local _ .vmem, ⟨0, _⟩ => ⟨S1024x1024, .bf16⟩
  | .local _ .vmem, ⟨1, _⟩ => ⟨S1024x1024, .bf16⟩
  | .local _ .vmem, ⟨2, _⟩ => ⟨S1024x672, .bf16⟩
  | .local _ .vmem, ⟨3, _⟩ => ⟨S1024x672, .bf16⟩
  | .local _ .vmem, ⟨4, _⟩ => ⟨S1024x672, .f32⟩
  | .local _ .vmem, ⟨5, _⟩ => ⟨S1024x672, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x672 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x672 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LatDwIdeal.lean ====
abbrev S16384x1024 : Shape := ⟨2, ![16384, 1024]⟩
abbrev S1024x672 : Shape := ⟨2, ![1024, 672]⟩
abbrev S16384x672 : Shape := ⟨2, ![16384, 672]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x672, .bf16⟩
  | .hbm, ⟨2, _⟩ => ⟨S16384x672, .bf16⟩
  | .hbm, ⟨3, _⟩ => ⟨S1024x672, .f32⟩
  | .local _ .vmem, ⟨0, _⟩ => ⟨S1024x1024, .bf16⟩
  | .local _ .vmem, ⟨1, _⟩ => ⟨S1024x1024, .bf16⟩
  | .local _ .vmem, ⟨2, _⟩ => ⟨S1024x672, .bf16⟩
  | .local _ .vmem, ⟨3, _⟩ => ⟨S1024x672, .bf16⟩
  | .local _ .vmem, ⟨4, _⟩ => ⟨S1024x672, .f32⟩
  | .local _ .vmem, ⟨5, _⟩ => ⟨S1024x672, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x672 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x672 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LatDwRefIdeal.lean ====
abbrev S16384x1024 : Shape := ⟨2, ![16384, 1024]⟩
abbrev S1024x672 : Shape := ⟨2, ![1024, 672]⟩
abbrev S16384x672 : Shape := ⟨2, ![16384, 672]⟩
abbrev S672x1024 : Shape := ⟨2, ![672, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x672, .bf16⟩
  | .hbm, ⟨2, _⟩ => ⟨S16384x672, .bf16⟩
  | .hbm, ⟨3, _⟩ => ⟨S1024x672, .f32⟩
  | .hbm, ⟨4, _⟩ => ⟨S16384x1024, .f32⟩
  | .hbm, ⟨5, _⟩ => ⟨S16384x672, .f32⟩
  | .hbm, ⟨6, _⟩ => ⟨S16384x672, .f32⟩
  | .hbm, ⟨7, _⟩ => ⟨S672x1024, .f32⟩
  | .hbm, ⟨8, _⟩ => ⟨S1024x672, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== LatDx.lean ====
abbrev S16384x1024 : Shape := ⟨2, ![16384, 1024]⟩
abbrev S1024x672 : Shape := ⟨2, ![1024, 672]⟩
abbrev S16384x672 : Shape := ⟨2, ![16384, 672]⟩
abbrev S2048x672 : Shape := ⟨2, ![2048, 672]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x672, .bf16⟩
  | .hbm, ⟨2, _⟩ => ⟨S16384x672, .bf16⟩
  | .hbm, ⟨3, _⟩ => ⟨S16384x1024, .f32⟩
  | .local _ .vmem, ⟨0, _⟩ => ⟨S2048x672, .bf16⟩
  | .local _ .vmem, ⟨1, _⟩ => ⟨S2048x672, .bf16⟩
  | .local _ .vmem, ⟨2, _⟩ => ⟨S1024x672, .bf16⟩
  | .local _ .vmem, ⟨3, _⟩ => ⟨S2048x1024, .f32⟩
  | .local _ .vmem, ⟨4, _⟩ => ⟨S2048x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x672 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x672 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatDxIdeal.lean ====
abbrev S16384x1024 : Shape := ⟨2, ![16384, 1024]⟩
abbrev S1024x672 : Shape := ⟨2, ![1024, 672]⟩
abbrev S16384x672 : Shape := ⟨2, ![16384, 672]⟩
abbrev S2048x672 : Shape := ⟨2, ![2048, 672]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x672, .bf16⟩
  | .hbm, ⟨2, _⟩ => ⟨S16384x672, .bf16⟩
  | .hbm, ⟨3, _⟩ => ⟨S16384x1024, .f32⟩
  | .local _ .vmem, ⟨0, _⟩ => ⟨S2048x672, .bf16⟩
  | .local _ .vmem, ⟨1, _⟩ => ⟨S2048x672, .bf16⟩
  | .local _ .vmem, ⟨2, _⟩ => ⟨S1024x672, .bf16⟩
  | .local _ .vmem, ⟨3, _⟩ => ⟨S2048x1024, .f32⟩
  | .local _ .vmem, ⟨4, _⟩ => ⟨S2048x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x672 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x672 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatDxRefIdeal.lean ====
abbrev S16384x1024 : Shape := ⟨2, ![16384, 1024]⟩
abbrev S1024x672 : Shape := ⟨2, ![1024, 672]⟩
abbrev S16384x672 : Shape := ⟨2, ![16384, 672]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x672, .bf16⟩
  | .hbm, ⟨2, _⟩ => ⟨S16384x672, .bf16⟩
  | .hbm, ⟨3, _⟩ => ⟨S16384x1024, .f32⟩
  | .hbm, ⟨4, _⟩ => ⟨S1024x672, .f32⟩
  | .hbm, ⟨5, _⟩ => ⟨S16384x672, .f32⟩
  | .hbm, ⟨6, _⟩ => ⟨S16384x672, .f32⟩
  | .hbm, ⟨7, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Uq.lean ====
abbrev S16384x384 : Shape := ⟨2, ![16384, 384]⟩
abbrev S384x768 : Shape := ⟨2, ![384, 768]⟩
abbrev S16384x768 : Shape := ⟨2, ![16384, 768]⟩
abbrev S2048x384 : Shape := ⟨2, ![2048, 384]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S16384x384, .bf16⟩
  | .hbm, ⟨1, _⟩ => ⟨S384x768, .bf16⟩
  | .hbm, ⟨2, _⟩ => ⟨S16384x768, .f32⟩
  | .local _ .vmem, ⟨0, _⟩ => ⟨S2048x384, .bf16⟩
  | .local _ .vmem, ⟨1, _⟩ => ⟨S2048x384, .bf16⟩
  | .local _ .vmem, ⟨2, _⟩ => ⟨S384x768, .bf16⟩
  | .local _ .vmem, ⟨3, _⟩ => ⟨S2048x768, .f32⟩
  | .local _ .vmem, ⟨4, _⟩ => ⟨S2048x768, .f32⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqIdeal.lean ====
abbrev S16384x384 : Shape := ⟨2, ![16384, 384]⟩
abbrev S384x768 : Shape := ⟨2, ![384, 768]⟩
abbrev S16384x768 : Shape := ⟨2, ![16384, 768]⟩
abbrev S2048x384 : Shape := ⟨2, ![2048, 384]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S16384x384, .bf16⟩
  | .hbm, ⟨1, _⟩ => ⟨S384x768, .bf16⟩
  | .hbm, ⟨2, _⟩ => ⟨S16384x768, .f32⟩
  | .local _ .vmem, ⟨0, _⟩ => ⟨S2048x384, .bf16⟩
  | .local _ .vmem, ⟨1, _⟩ => ⟨S2048x384, .bf16⟩
  | .local _ .vmem, ⟨2, _⟩ => ⟨S384x768, .bf16⟩
  | .local _ .vmem, ⟨3, _⟩ => ⟨S2048x768, .f32⟩
  | .local _ .vmem, ⟨4, _⟩ => ⟨S2048x768, .f32⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqRefIdeal.lean ====
abbrev S16384x384 : Shape := ⟨2, ![16384, 384]⟩
abbrev S384x768 : Shape := ⟨2, ![384, 768]⟩
abbrev S16384x768 : Shape := ⟨2, ![16384, 768]⟩

abbrev nBuf : Space → Nat
  | .hbm => 5
  | .vmem => 0
  | .smem => 0
  | _ => 0

abbrev bufTy : (tb : Table) → Fin (tcTables nBuf tb) → BufTy
  | .hbm, ⟨0, _⟩ => ⟨S16384x384, .bf16⟩
  | .hbm, ⟨1, _⟩ => ⟨S384x768, .bf16⟩
  | .hbm, ⟨2, _⟩ => ⟨S16384x384, .f32⟩
  | .hbm, ⟨3, _⟩ => ⟨S384x768, .f32⟩
  | .hbm, ⟨4, _⟩ => ⟨S16384x768, .f32⟩
  | _, _ => ⟨S16384x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UqDw.lean ====
abbrev S16384x384 : Shape := ⟨2, ![16384, 384]⟩
abbrev S384x768 : Shape := ⟨2, ![384, 768]⟩
abbrev S16384x768 : Shape := ⟨2, ![16384, 768]⟩
abbrev S1024x384 : Shape := ⟨2, ![1024, 384]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S16384x384, .bf16⟩
  | .hbm, ⟨1, _⟩ => ⟨S384x768, .bf16⟩
  | .hbm, ⟨2, _⟩ => ⟨S16384x768, .bf16⟩
  | .hbm, ⟨3, _⟩ => ⟨S384x768, .f32⟩
  | .local _ .vmem, ⟨0, _⟩ => ⟨S1024x384, .bf16⟩
  | .local _ .vmem, ⟨1, _⟩ => ⟨S1024x384, .bf16⟩
  | .local _ .vmem, ⟨2, _⟩ => ⟨S1024x768, .bf16⟩
  | .local _ .vmem, ⟨3, _⟩ => ⟨S1024x768, .bf16⟩
  | .local _ .vmem, ⟨4, _⟩ => ⟨S384x768, .f32⟩
  | .local _ .vmem, ⟨5, _⟩ => ⟨S384x768, .f32⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqDwIdeal.lean ====
abbrev S16384x384 : Shape := ⟨2, ![16384, 384]⟩
abbrev S384x768 : Shape := ⟨2, ![384, 768]⟩
abbrev S16384x768 : Shape := ⟨2, ![16384, 768]⟩
abbrev S1024x384 : Shape := ⟨2, ![1024, 384]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S16384x384, .bf16⟩
  | .hbm, ⟨1, _⟩ => ⟨S384x768, .bf16⟩
  | .hbm, ⟨2, _⟩ => ⟨S16384x768, .bf16⟩
  | .hbm, ⟨3, _⟩ => ⟨S384x768, .f32⟩
  | .local _ .vmem, ⟨0, _⟩ => ⟨S1024x384, .bf16⟩
  | .local _ .vmem, ⟨1, _⟩ => ⟨S1024x384, .bf16⟩
  | .local _ .vmem, ⟨2, _⟩ => ⟨S1024x768, .bf16⟩
  | .local _ .vmem, ⟨3, _⟩ => ⟨S1024x768, .bf16⟩
  | .local _ .vmem, ⟨4, _⟩ => ⟨S384x768, .f32⟩
  | .local _ .vmem, ⟨5, _⟩ => ⟨S384x768, .f32⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqDwRefIdeal.lean ====
abbrev S16384x384 : Shape := ⟨2, ![16384, 384]⟩
abbrev S384x768 : Shape := ⟨2, ![384, 768]⟩
abbrev S16384x768 : Shape := ⟨2, ![16384, 768]⟩
abbrev S768x384 : Shape := ⟨2, ![768, 384]⟩

abbrev nBuf : Space → Nat
  | .hbm => 9
  | .vmem => 0
  | .smem => 0
  | _ => 0

abbrev bufTy : (tb : Table) → Fin (tcTables nBuf tb) → BufTy
  | .hbm, ⟨0, _⟩ => ⟨S16384x384, .bf16⟩
  | .hbm, ⟨1, _⟩ => ⟨S384x768, .bf16⟩
  | .hbm, ⟨2, _⟩ => ⟨S16384x768, .bf16⟩
  | .hbm, ⟨3, _⟩ => ⟨S384x768, .f32⟩
  | .hbm, ⟨4, _⟩ => ⟨S16384x384, .f32⟩
  | .hbm, ⟨5, _⟩ => ⟨S16384x768, .f32⟩
  | .hbm, ⟨6, _⟩ => ⟨S16384x768, .f32⟩
  | .hbm, ⟨7, _⟩ => ⟨S768x384, .f32⟩
  | .hbm, ⟨8, _⟩ => ⟨S384x768, .f32⟩
  | _, _ => ⟨S16384x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UqDx.lean ====
abbrev S16384x384 : Shape := ⟨2, ![16384, 384]⟩
abbrev S384x768 : Shape := ⟨2, ![384, 768]⟩
abbrev S16384x768 : Shape := ⟨2, ![16384, 768]⟩
abbrev S2048x768 : Shape := ⟨2, ![2048, 768]⟩
abbrev S2048x384 : Shape := ⟨2, ![2048, 384]⟩

abbrev nBuf : Space → Nat
  | .hbm => 4
  | .vmem => 5
  | .smem => 0
  | _ => 0

abbrev bufTy : (tb : Table) → Fin (tcTables nBuf tb) → BufTy
  | .hbm, ⟨0, _⟩ => ⟨S16384x384, .bf16⟩
  | .hbm, ⟨1, _⟩ => ⟨S384x768, .bf16⟩
  | .hbm, ⟨2, _⟩ => ⟨S16384x768, .bf16⟩
  | .hbm, ⟨3, _⟩ => ⟨S16384x384, .f32⟩
  | .local _ .vmem, ⟨0, _⟩ => ⟨S2048x768, .bf16⟩
  | .local _ .vmem, ⟨1, _⟩ => ⟨S2048x768, .bf16⟩
  | .local _ .vmem, ⟨2, _⟩ => ⟨S384x768, .bf16⟩
  | .local _ .vmem, ⟨3, _⟩ => ⟨S2048x384, .f32⟩
  | .local _ .vmem, ⟨4, _⟩ => ⟨S2048x384, .f32⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDxIdeal.lean ====
abbrev S16384x384 : Shape := ⟨2, ![16384, 384]⟩
abbrev S384x768 : Shape := ⟨2, ![384, 768]⟩
abbrev S16384x768 : Shape := ⟨2, ![16384, 768]⟩
abbrev S2048x768 : Shape := ⟨2, ![2048, 768]⟩
abbrev S2048x384 : Shape := ⟨2, ![2048, 384]⟩

abbrev nBuf : Space → Nat
  | .hbm => 4
  | .vmem => 5
  | .smem => 0
  | _ => 0

abbrev bufTy : (tb : Table) → Fin (tcTables nBuf tb) → BufTy
  | .hbm, ⟨0, _⟩ => ⟨S16384x384, .bf16⟩
  | .hbm, ⟨1, _⟩ => ⟨S384x768, .bf16⟩
  | .hbm, ⟨2, _⟩ => ⟨S16384x768, .bf16⟩
  | .hbm, ⟨3, _⟩ => ⟨S16384x384, .f32⟩
  | .local _ .vmem, ⟨0, _⟩ => ⟨S2048x768, .bf16⟩
  | .local _ .vmem, ⟨1, _⟩ => ⟨S2048x768, .bf16⟩
  | .local _ .vmem, ⟨2, _⟩ => ⟨S384x768, .bf16⟩
  | .local _ .vmem, ⟨3, _⟩ => ⟨S2048x384, .f32⟩
  | .local _ .vmem, ⟨4, _⟩ => ⟨S2048x384, .f32⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDxRefIdeal.lean ====
abbrev S16384x384 : Shape := ⟨2, ![16384, 384]⟩
abbrev S384x768 : Shape := ⟨2, ![384, 768]⟩
abbrev S16384x768 : Shape := ⟨2, ![16384, 768]⟩

abbrev nBuf : Space → Nat
  | .hbm => 8
  | .vmem => 0
  | .smem => 0
  | _ => 0

abbrev bufTy : (tb : Table) → Fin (tcTables nBuf tb) → BufTy
  | .hbm, ⟨0, _⟩ => ⟨S16384x384, .bf16⟩
  | .hbm, ⟨1, _⟩ => ⟨S384x768, .bf16⟩
  | .hbm, ⟨2, _⟩ => ⟨S16384x768, .bf16⟩
  | .hbm, ⟨3, _⟩ => ⟨S16384x384, .f32⟩
  | .hbm, ⟨4, _⟩ => ⟨S384x768, .f32⟩
  | .hbm, ⟨5, _⟩ => ⟨S16384x768, .f32⟩
  | .hbm, ⟨6, _⟩ => ⟨S16384x768, .f32⟩
  | .hbm, ⟨7, _⟩ => ⟨S16384x384, .f32⟩
  | _, _ => ⟨S16384x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Ukv.lean ====
abbrev S16384x256 : Shape := ⟨2, ![16384, 256]⟩
abbrev S256x1024 : Shape := ⟨2, ![256, 1024]⟩
abbrev S16384x1024 : Shape := ⟨2, ![16384, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .bf16⟩
  | .hbm, ⟨1, _⟩ => ⟨S256x1024, .bf16⟩
  | .hbm, ⟨2, _⟩ => ⟨S16384x1024, .bf16⟩
  | .local _ .vmem, ⟨0, _⟩ => ⟨S2048x256, .bf16⟩
  | .local _ .vmem, ⟨1, _⟩ => ⟨S2048x256, .bf16⟩
  | .local _ .vmem, ⟨2, _⟩ => ⟨S256x1024, .bf16⟩
  | .local _ .vmem, ⟨3, _⟩ => ⟨S2048x1024, .bf16⟩
  | .local _ .vmem, ⟨4, _⟩ => ⟨S2048x1024, .bf16⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvIdeal.lean ====
abbrev S16384x256 : Shape := ⟨2, ![16384, 256]⟩
abbrev S256x1024 : Shape := ⟨2, ![256, 1024]⟩
abbrev S16384x1024 : Shape := ⟨2, ![16384, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .bf16⟩
  | .hbm, ⟨1, _⟩ => ⟨S256x1024, .bf16⟩
  | .hbm, ⟨2, _⟩ => ⟨S16384x1024, .bf16⟩
  | .local _ .vmem, ⟨0, _⟩ => ⟨S2048x256, .bf16⟩
  | .local _ .vmem, ⟨1, _⟩ => ⟨S2048x256, .bf16⟩
  | .local _ .vmem, ⟨2, _⟩ => ⟨S256x1024, .bf16⟩
  | .local _ .vmem, ⟨3, _⟩ => ⟨S2048x1024, .bf16⟩
  | .local _ .vmem, ⟨4, _⟩ => ⟨S2048x1024, .bf16⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvRefIdeal.lean ====
abbrev S16384x256 : Shape := ⟨2, ![16384, 256]⟩
abbrev S256x1024 : Shape := ⟨2, ![256, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x1024, .bf16⟩
  | .hbm, ⟨2, _⟩ => ⟨S16384x256, .f32⟩
  | .hbm, ⟨3, _⟩ => ⟨S256x1024, .f32⟩
  | .hbm, ⟨4, _⟩ => ⟨S16384x1024, .f32⟩
  | .hbm, ⟨5, _⟩ => ⟨S16384x1024, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UkvDw.lean ====
abbrev S16384x256 : Shape := ⟨2, ![16384, 256]⟩
abbrev S256x1024 : Shape := ⟨2, ![256, 1024]⟩
abbrev S16384x1024 : Shape := ⟨2, ![16384, 1024]⟩
abbrev S1024x256 : Shape := ⟨2, ![1024, 256]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x256, .bf16⟩
  | .hbm, ⟨1, _⟩ => ⟨S256x1024, .bf16⟩
  | .hbm, ⟨2, _⟩ => ⟨S16384x1024, .bf16⟩
  | .hbm, ⟨3, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UkvDwIdeal.lean ====
abbrev S16384x256 : Shape := ⟨2, ![16384, 256]⟩
abbrev S256x1024 : Shape := ⟨2, ![256, 1024]⟩
abbrev S16384x1024 : Shape := ⟨2, ![16384, 1024]⟩
abbrev S1024x256 : Shape := ⟨2, ![1024, 256]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x256, .bf16⟩
  | .hbm, ⟨1, _⟩ => ⟨S256x1024, .bf16⟩
  | .hbm, ⟨2, _⟩ => ⟨S16384x1024, .bf16⟩
  | .hbm, ⟨3, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UkvDwRefIdeal.lean ====
abbrev S16384x256 : Shape := ⟨2, ![16384, 256]⟩
abbrev S256x1024 : Shape := ⟨2, ![256, 1024]⟩
abbrev S16384x1024 : Shape := ⟨2, ![16384, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x1024, .bf16⟩
  | .hbm, ⟨2, _⟩ => ⟨S16384x1024, .bf16⟩
  | .hbm, ⟨3, _⟩ => ⟨S256x1024, .f32⟩
  | .hbm, ⟨4, _⟩ => ⟨S16384x256, .f32⟩
  | .hbm, ⟨5, _⟩ => ⟨S16384x1024, .f32⟩
  | .hbm, ⟨6, _⟩ => ⟨S16384x1024, .f32⟩
  | .hbm, ⟨7, _⟩ => ⟨S1024x256, .f32⟩
  | .hbm, ⟨8, _⟩ => ⟨S256x1024, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UkvDx.lean ====
abbrev S16384x256 : Shape := ⟨2, ![16384, 256]⟩
abbrev S256x1024 : Shape := ⟨2, ![256, 1024]⟩
abbrev S16384x1024 : Shape := ⟨2, ![16384, 1024]⟩
abbrev S2048x1024 : Shape := ⟨2, ![2048, 1024]⟩
abbrev S2048x256 : Shape := ⟨2, ![2048, 256]⟩

abbrev nBuf : Space → Nat
  | .hbm => 4
  | .vmem => 5
  | .smem => 0
  | _ => 0

abbrev bufTy : (tb : Table) → Fin (tcTables nBuf tb) → BufTy
  | .hbm, ⟨0, _⟩ => ⟨S16384x256, .bf16⟩
  | .hbm, ⟨1, _⟩ => ⟨S256x1024, .bf16⟩
  | .hbm, ⟨2, _⟩ => ⟨S16384x1024, .bf16⟩
  | .hbm, ⟨3, _⟩ => ⟨S16384x256, .f32⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDxIdeal.lean ====
abbrev S16384x256 : Shape := ⟨2, ![16384, 256]⟩
abbrev S256x1024 : Shape := ⟨2, ![256, 1024]⟩
abbrev S16384x1024 : Shape := ⟨2, ![16384, 1024]⟩
abbrev S2048x1024 : Shape := ⟨2, ![2048, 1024]⟩
abbrev S2048x256 : Shape := ⟨2, ![2048, 256]⟩

abbrev nBuf : Space → Nat
  | .hbm => 4
  | .vmem => 5
  | .smem => 0
  | _ => 0

abbrev bufTy : (tb : Table) → Fin (tcTables nBuf tb) → BufTy
  | .hbm, ⟨0, _⟩ => ⟨S16384x256, .bf16⟩
  | .hbm, ⟨1, _⟩ => ⟨S256x1024, .bf16⟩
  | .hbm, ⟨2, _⟩ => ⟨S16384x1024, .bf16⟩
  | .hbm, ⟨3, _⟩ => ⟨S16384x256, .f32⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDxRefIdeal.lean ====
abbrev S16384x256 : Shape := ⟨2, ![16384, 256]⟩
abbrev S256x1024 : Shape := ⟨2, ![256, 1024]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x1024, .bf16⟩
  | .hbm, ⟨2, _⟩ => ⟨S16384x1024, .bf16⟩
  | .hbm, ⟨3, _⟩ => ⟨S16384x256, .f32⟩
  | .hbm, ⟨4, _⟩ => ⟨S256x1024, .f32⟩
  | .hbm, ⟨5, _⟩ => ⟨S16384x1024, .f32⟩
  | .hbm, ⟨6, _⟩ => ⟨S16384x1024, .f32⟩
  | .hbm, ⟨7, _⟩ => ⟨S16384x256, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== O.lean ====
abbrev S16384x1024 : Shape := ⟨2, ![16384, 1024]⟩
abbrev S16384x512 : Shape := ⟨2, ![16384, 512]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S512x1024, .bf16⟩
  | .hbm, ⟨3, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OIdeal.lean ====
abbrev S16384x1024 : Shape := ⟨2, ![16384, 1024]⟩
abbrev S16384x512 : Shape := ⟨2, ![16384, 512]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S512x1024, .bf16⟩
  | .hbm, ⟨3, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ORefIdeal.lean ====
abbrev S16384x1024 : Shape := ⟨2, ![16384, 1024]⟩
abbrev S16384x512 : Shape := ⟨2, ![16384, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S512x1024, .bf16⟩
  | .hbm, ⟨3, _⟩ => ⟨S16384x512, .f32⟩
  | .hbm, ⟨4, _⟩ => ⟨S512x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ODw.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x1024, .bf16⟩
  | .hbm, ⟨3, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ODwIdeal.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x1024, .bf16⟩
  | .hbm, ⟨3, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ODwRefIdeal.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x1024, .bf16⟩
  | .hbm, ⟨3, _⟩ => ⟨S512x1024, .f32⟩
  | .hbm, ⟨4, _⟩ => ⟨S16384x512, .f32⟩
  | .hbm, ⟨5, _⟩ => ⟨S16384x1024, .f32⟩
  | .hbm, ⟨6, _⟩ => ⟨S16384x1024, .f32⟩
  | .hbm, ⟨7, _⟩ => ⟨S1024x512, .f32⟩
  | .hbm, ⟨8, _⟩ => ⟨S512x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ODx.lean ====
abbrev S16384x512 : Shape := ⟨2, ![16384, 512]⟩
abbrev S512x1024 : Shape := ⟨2, ![512, 1024]⟩
abbrev S16384x1024 : Shape := ⟨2, ![16384, 1024]⟩
abbrev S2048x1024 : Shape := ⟨2, ![2048, 1024]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x1024, .bf16⟩
  | .hbm, ⟨3, _⟩ => ⟨S16384x512, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ODxIdeal.lean ====
abbrev S16384x512 : Shape := ⟨2, ![16384, 512]⟩
abbrev S512x1024 : Shape := ⟨2, ![512, 1024]⟩
abbrev S16384x1024 : Shape := ⟨2, ![16384, 1024]⟩
abbrev S2048x1024 : Shape := ⟨2, ![2048, 1024]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x1024, .bf16⟩
  | .hbm, ⟨3, _⟩ => ⟨S16384x512, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ODxRefIdeal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x1024, .bf16⟩
  | .hbm, ⟨3, _⟩ => ⟨S16384x512, .f32⟩
  | .hbm, ⟨4, _⟩ => ⟨S512x1024, .f32⟩
  | .hbm, ⟨5, _⟩ => ⟨S16384x1024, .f32⟩
  | .hbm, ⟨6, _⟩ => ⟨S16384x1024, .f32⟩
  | .hbm, ⟨7, _⟩ => ⟨S16384x512, .f32⟩
  | .hbm, ⟨8, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Norm.lean ====
abbrev S16384x1024 : Shape := ⟨2, ![16384, 1024]⟩
abbrev S1024 : Shape := ⟨1, ![1024]⟩
abbrev S1x1024 : Shape := ⟨2, ![1, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S2048x1024, .bf16⟩
  | .local _ .vmem, ⟨4, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S16384x1024 : Shape := ⟨2, ![16384, 1024]⟩
abbrev S1024 : Shape := ⟨1, ![1024]⟩
abbrev S1x1024 : Shape := ⟨2, ![1, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S2048x1024, .bf16⟩
  | .local _ .vmem, ⟨4, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== QNorm.lean ====
abbrev S16384x384 : Shape := ⟨2, ![16384, 384]⟩
abbrev S384 : Shape := ⟨1, ![384]⟩
abbrev S1x384 : Shape := ⟨2, ![1, 384]⟩
abbrev S4096x384 : Shape := ⟨2, ![4096, 384]⟩
abbrev S4096 : Shape := ⟨1, ![4096]⟩
abbrev S4096x1 : Shape := ⟨2, ![4096, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x384, .f32⟩
  | .hbm, ⟨1, _⟩ => ⟨S384, .f32⟩
  | .hbm, ⟨2, _⟩ => ⟨S1x384, .f32⟩
  | .hbm, ⟨3, _⟩ => ⟨S16384x384, .bf16⟩
  | .local _ .vmem, ⟨0, _⟩ => ⟨S4096x384, .f32⟩
  | .local _ .vmem, ⟨1, _⟩ => ⟨S4096x384, .f32⟩
  | .local _ .vmem, ⟨2, _⟩ => ⟨S1x384, .f32⟩
  | .local _ .vmem, ⟨3, _⟩ => ⟨S4096x384, .bf16⟩
  | .local _ .vmem, ⟨4, _⟩ => ⟨S4096x384, .bf16⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QNormIdeal.lean ====
abbrev S16384x384 : Shape := ⟨2, ![16384, 384]⟩
abbrev S384 : Shape := ⟨1, ![384]⟩
abbrev S1x384 : Shape := ⟨2, ![1, 384]⟩
abbrev S4096x384 : Shape := ⟨2, ![4096, 384]⟩
abbrev S4096 : Shape := ⟨1, ![4096]⟩
abbrev S4096x1 : Shape := ⟨2, ![4096, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x384, .f32⟩
  | .hbm, ⟨1, _⟩ => ⟨S384, .f32⟩
  | .hbm, ⟨2, _⟩ => ⟨S1x384, .f32⟩
  | .hbm, ⟨3, _⟩ => ⟨S16384x384, .bf16⟩
  | .local _ .vmem, ⟨0, _⟩ => ⟨S4096x384, .f32⟩
  | .local _ .vmem, ⟨1, _⟩ => ⟨S4096x384, .f32⟩
  | .local _ .vmem, ⟨2, _⟩ => ⟨S1x384, .f32⟩
  | .local _ .vmem, ⟨3, _⟩ => ⟨S4096x384, .bf16⟩
  | .local _ .vmem, ⟨4, _⟩ => ⟨S4096x384, .bf16⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QNormRefIdeal.lean ====
abbrev S16384x384 : Shape := ⟨2, ![16384, 384]⟩
abbrev S384 : Shape := ⟨1, ![384]⟩
abbrev S_ : Shape := ⟨0, ![]⟩
abbrev S16384 : Shape := ⟨1, ![16384]⟩
abbrev S16384x1 : Shape := ⟨2, ![16384, 1]⟩
abbrev S1x384 : Shape := ⟨2, ![1, 384]⟩

abbrev nBuf : Space → Nat
  | .hbm => 19
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S384, .f32⟩
  | .hbm, ⟨2, _⟩ => ⟨S16384x384, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x384, .f32⟩
  | .hbm, ⟨14, _⟩ => ⟨S16384x384, .f32⟩
  | .hbm, ⟨15, _⟩ => ⟨S1x384, .f32⟩
  | .hbm, ⟨16, _⟩ => ⟨S16384x384, .f32⟩
  | .hbm, ⟨17, _⟩ => ⟨S16384x384, .f32⟩
  | .hbm, ⟨18, _⟩ => ⟨S16384x384, .bf16⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KvNorm.lean ====
abbrev S16384x256 : Shape := ⟨2, ![16384, 256]⟩
abbrev S256 : Shape := ⟨1, ![256]⟩
abbrev S1x256 : Shape := ⟨2, ![1, 256]⟩
abbrev S8192x256 : Shape := ⟨2, ![8192, 256]⟩
abbrev S8192 : Shape := ⟨1, ![8192]⟩
abbrev S8192x1 : Shape := ⟨2, ![8192, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S256, .f32⟩
  | .hbm, ⟨2, _⟩ => ⟨S1x256, .f32⟩
  | .hbm, ⟨3, _⟩ => ⟨S16384x256, .bf16⟩
  | .local _ .vmem, ⟨0, _⟩ => ⟨S8192x256, .f32⟩
  | .local _ .vmem, ⟨1, _⟩ => ⟨S8192x256, .f32⟩
  | .local _ .vmem, ⟨2, _⟩ => ⟨S1x256, .f32⟩
  | .local _ .vmem, ⟨3, _⟩ => ⟨S8192x256, .bf16⟩
  | .local _ .vmem, ⟨4, _⟩ => ⟨S8192x256, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KvNormIdeal.lean ====
abbrev S16384x256 : Shape := ⟨2, ![16384, 256]⟩
abbrev S256 : Shape := ⟨1, ![256]⟩
abbrev S1x256 : Shape := ⟨2, ![1, 256]⟩
abbrev S8192x256 : Shape := ⟨2, ![8192, 256]⟩
abbrev S8192 : Shape := ⟨1, ![8192]⟩
abbrev S8192x1 : Shape := ⟨2, ![8192, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S256, .f32⟩
  | .hbm, ⟨2, _⟩ => ⟨S1x256, .f32⟩
  | .hbm, ⟨3, _⟩ => ⟨S16384x256, .bf16⟩
  | .local _ .vmem, ⟨0, _⟩ => ⟨S8192x256, .f32⟩
  | .local _ .vmem, ⟨1, _⟩ => ⟨S8192x256, .f32⟩
  | .local _ .vmem, ⟨2, _⟩ => ⟨S1x256, .f32⟩
  | .local _ .vmem, ⟨3, _⟩ => ⟨S8192x256, .bf16⟩
  | .local _ .vmem, ⟨4, _⟩ => ⟨S8192x256, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KvNormRefIdeal.lean ====
abbrev S16384x256 : Shape := ⟨2, ![16384, 256]⟩
abbrev S256 : Shape := ⟨1, ![256]⟩
abbrev S_ : Shape := ⟨0, ![]⟩
abbrev S16384 : Shape := ⟨1, ![16384]⟩
abbrev S16384x1 : Shape := ⟨2, ![16384, 1]⟩
abbrev S1x256 : Shape := ⟨2, ![1, 256]⟩

abbrev nBuf : Space → Nat
  | .hbm => 19
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x256, .f32⟩
  | .hbm, ⟨14, _⟩ => ⟨S16384x256, .f32⟩
  | .hbm, ⟨15, _⟩ => ⟨S1x256, .f32⟩
  | .hbm, ⟨16, _⟩ => ⟨S16384x256, .f32⟩
  | .hbm, ⟨17, _⟩ => ⟨S16384x256, .f32⟩
  | .hbm, ⟨18, _⟩ => ⟨S16384x256, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormDx.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S16384x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormDxIdeal.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S16384x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormDxRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .bf16⟩
  | .hbm, ⟨51, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormDxFirst.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormDxFirstIdeal.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormDxFirstRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== QNormDx.lean ====
abbrev S16384x384 : Shape := ⟨2, ![16384, 384]⟩
abbrev S384 : Shape := ⟨1, ![384]⟩
abbrev S1x384 : Shape := ⟨2, ![1, 384]⟩
abbrev S2048x384 : Shape := ⟨2, ![2048, 384]⟩
abbrev S2048 : Shape := ⟨1, ![2048]⟩
abbrev S2048x1 : Shape := ⟨2, ![2048, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x384, .f32⟩
  | .hbm, ⟨1, _⟩ => ⟨S384, .f32⟩
  | .hbm, ⟨2, _⟩ => ⟨S16384x384, .f32⟩
  | .hbm, ⟨3, _⟩ => ⟨S1x384, .f32⟩
  | .hbm, ⟨4, _⟩ => ⟨S16384x384, .f32⟩
  | .hbm, ⟨5, _⟩ => ⟨S1x384, .f32⟩
  | .local _ .vmem, ⟨0, _⟩ => ⟨S2048x384, .f32⟩
  | .local _ .vmem, ⟨1, _⟩ => ⟨S2048x384, .f32⟩
  | .local _ .vmem, ⟨2, _⟩ => ⟨S1x384, .f32⟩
  | .local _ .vmem, ⟨3, _⟩ => ⟨S2048x384, .f32⟩
  | .local _ .vmem, ⟨4, _⟩ => ⟨S2048x384, .f32⟩
  | .local _ .vmem, ⟨5, _⟩ => ⟨S2048x384, .f32⟩
  | .local _ .vmem, ⟨6, _⟩ => ⟨S2048x384, .f32⟩
  | .local _ .vmem, ⟨7, _⟩ => ⟨S1x384, .f32⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== QNormDxIdeal.lean ====
abbrev S16384x384 : Shape := ⟨2, ![16384, 384]⟩
abbrev S384 : Shape := ⟨1, ![384]⟩
abbrev S1x384 : Shape := ⟨2, ![1, 384]⟩
abbrev S2048x384 : Shape := ⟨2, ![2048, 384]⟩
abbrev S2048 : Shape := ⟨1, ![2048]⟩
abbrev S2048x1 : Shape := ⟨2, ![2048, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x384, .f32⟩
  | .hbm, ⟨1, _⟩ => ⟨S384, .f32⟩
  | .hbm, ⟨2, _⟩ => ⟨S16384x384, .f32⟩
  | .hbm, ⟨3, _⟩ => ⟨S1x384, .f32⟩
  | .hbm, ⟨4, _⟩ => ⟨S16384x384, .f32⟩
  | .hbm, ⟨5, _⟩ => ⟨S1x384, .f32⟩
  | .local _ .vmem, ⟨0, _⟩ => ⟨S2048x384, .f32⟩
  | .local _ .vmem, ⟨1, _⟩ => ⟨S2048x384, .f32⟩
  | .local _ .vmem, ⟨2, _⟩ => ⟨S1x384, .f32⟩
  | .local _ .vmem, ⟨3, _⟩ => ⟨S2048x384, .f32⟩
  | .local _ .vmem, ⟨4, _⟩ => ⟨S2048x384, .f32⟩
  | .local _ .vmem, ⟨5, _⟩ => ⟨S2048x384, .f32⟩
  | .local _ .vmem, ⟨6, _⟩ => ⟨S2048x384, .f32⟩
  | .local _ .vmem, ⟨7, _⟩ => ⟨S1x384, .f32⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== QNormDxRefIdeal.lean ====
abbrev S16384x384 : Shape := ⟨2, ![16384, 384]⟩
abbrev S384 : Shape := ⟨1, ![384]⟩
abbrev S_ : Shape := ⟨0, ![]⟩
abbrev S16384 : Shape := ⟨1, ![16384]⟩
abbrev S16384x1 : Shape := ⟨2, ![16384, 1]⟩
abbrev S1x384 : Shape := ⟨2, ![1, 384]⟩

abbrev nBuf : Space → Nat
  | .hbm => 49
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S384, .f32⟩
  | .hbm, ⟨2, _⟩ => ⟨S16384x384, .f32⟩
  | .hbm, ⟨3, _⟩ => ⟨S16384x384, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x384, .f32⟩
  | .hbm, ⟨19, _⟩ => ⟨S16384x384, .f32⟩
  | .hbm, ⟨20, _⟩ => ⟨S1x384, .f32⟩
  | .hbm, ⟨21, _⟩ => ⟨S16384x384, .f32⟩
  | .hbm, ⟨22, _⟩ => ⟨S16384x384, .f32⟩
  | .hbm, ⟨23, _⟩ => ⟨S16384x384, .f32⟩
  | .hbm, ⟨24, _⟩ => ⟨S_, .f32⟩
  | .hbm, ⟨25, _⟩ => ⟨S384, .f32⟩
  | .hbm, ⟨26, _⟩ => ⟨S1x384, .f32⟩
  | .hbm, ⟨27, _⟩ => ⟨S16384x384, .f32⟩
  | .hbm, ⟨28, _⟩ => ⟨S16384x384, .f32⟩
  | .hbm, ⟨29, _⟩ => ⟨S_, .f32⟩
  | .hbm, ⟨30, _⟩ => ⟨S384, .f32⟩
  | .hbm, ⟨31, _⟩ => ⟨S16384x384, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x384, .f32⟩
  | .hbm, ⟨36, _⟩ => ⟨S16384x384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384, .f32⟩
  | .hbm, ⟨43, _⟩ => ⟨S16384x384, .f32⟩
  | .hbm, ⟨44, _⟩ => ⟨S16384x384, .f32⟩
  | .hbm, ⟨45, _⟩ => ⟨S16384x384, .f32⟩
  | .hbm, ⟨46, _⟩ => ⟨S16384x384, .f32⟩
  | .hbm, ⟨47, _⟩ => ⟨S16384x384, .f32⟩
  | .hbm, ⟨48, _⟩ => ⟨S1x384, .f32⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== KvNormDx.lean ====
abbrev S16384x256 : Shape := ⟨2, ![16384, 256]⟩
abbrev S256 : Shape := ⟨1, ![256]⟩
abbrev S1x256 : Shape := ⟨2, ![1, 256]⟩
abbrev S4096x256 : Shape := ⟨2, ![4096, 256]⟩
abbrev S4096 : Shape := ⟨1, ![4096]⟩
abbrev S4096x1 : Shape := ⟨2, ![4096, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x256, .f32⟩
  | .hbm, ⟨1, _⟩ => ⟨S256, .f32⟩
  | .hbm, ⟨2, _⟩ => ⟨S16384x256, .f32⟩
  | .hbm, ⟨3, _⟩ => ⟨S1x256, .f32⟩
  | .hbm, ⟨4, _⟩ => ⟨S16384x256, .f32⟩
  | .hbm, ⟨5, _⟩ => ⟨S1x256, .f32⟩
  | .local _ .vmem, ⟨0, _⟩ => ⟨S4096x256, .f32⟩
  | .local _ .vmem, ⟨1, _⟩ => ⟨S4096x256, .f32⟩
  | .local _ .vmem, ⟨2, _⟩ => ⟨S1x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S1x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KvNormDxIdeal.lean ====
abbrev S16384x256 : Shape := ⟨2, ![16384, 256]⟩
abbrev S256 : Shape := ⟨1, ![256]⟩
abbrev S1x256 : Shape := ⟨2, ![1, 256]⟩
abbrev S4096x256 : Shape := ⟨2, ![4096, 256]⟩
abbrev S4096 : Shape := ⟨1, ![4096]⟩
abbrev S4096x1 : Shape := ⟨2, ![4096, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x256, .f32⟩
  | .hbm, ⟨1, _⟩ => ⟨S256, .f32⟩
  | .hbm, ⟨2, _⟩ => ⟨S16384x256, .f32⟩
  | .hbm, ⟨3, _⟩ => ⟨S1x256, .f32⟩
  | .hbm, ⟨4, _⟩ => ⟨S16384x256, .f32⟩
  | .hbm, ⟨5, _⟩ => ⟨S1x256, .f32⟩
  | .local _ .vmem, ⟨0, _⟩ => ⟨S4096x256, .f32⟩
  | .local _ .vmem, ⟨1, _⟩ => ⟨S4096x256, .f32⟩
  | .local _ .vmem, ⟨2, _⟩ => ⟨S1x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S1x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KvNormDxRefIdeal.lean ====
abbrev S16384x256 : Shape := ⟨2, ![16384, 256]⟩
abbrev S256 : Shape := ⟨1, ![256]⟩
abbrev S_ : Shape := ⟨0, ![]⟩
abbrev S16384 : Shape := ⟨1, ![16384]⟩
abbrev S16384x1 : Shape := ⟨2, ![16384, 1]⟩
abbrev S1x256 : Shape := ⟨2, ![1, 256]⟩

abbrev nBuf : Space → Nat
  | .hbm => 49
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256, .f32⟩
  | .hbm, ⟨2, _⟩ => ⟨S16384x256, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x256, .f32⟩
  | .hbm, ⟨19, _⟩ => ⟨S16384x256, .f32⟩
  | .hbm, ⟨20, _⟩ => ⟨S1x256, .f32⟩
  | .hbm, ⟨21, _⟩ => ⟨S16384x256, .f32⟩
  | .hbm, ⟨22, _⟩ => ⟨S16384x256, .f32⟩
  | .hbm, ⟨23, _⟩ => ⟨S16384x256, .f32⟩
  | .hbm, ⟨24, _⟩ => ⟨S_, .f32⟩
  | .hbm, ⟨25, _⟩ => ⟨S256, .f32⟩
  | .hbm, ⟨26, _⟩ => ⟨S1x256, .f32⟩
  | .hbm, ⟨27, _⟩ => ⟨S16384x256, .f32⟩
  | .hbm, ⟨28, _⟩ => ⟨S16384x256, .f32⟩
  | .hbm, ⟨29, _⟩ => ⟨S_, .f32⟩
  | .hbm, ⟨30, _⟩ => ⟨S256, .f32⟩
  | .hbm, ⟨31, _⟩ => ⟨S16384x256, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x256, .f32⟩
  | .hbm, ⟨36, _⟩ => ⟨S16384x256, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384, .f32⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S1x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Loss.lean ====
abbrev S16384x1024 : Shape := ⟨2, ![16384, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .bf16⟩
  | .hbm, ⟨6, _⟩ => ⟨S1x128, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x128, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .bf16⟩
  | .hbm, ⟨72, _⟩ => ⟨S1x128, .f32⟩
  | .hbm, ⟨73, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== AdamRelBias.lean ====
abbrev S32x20 : Shape := ⟨2, ![32, 20]⟩

abbrev nBuf : Space → Nat
  | .hbm => 7
  | .vmem => 7
  | .smem => 0
  | _ => 0

abbrev bufTy : (tb : Table) → Fin (tcTables nBuf tb) → BufTy
  | .hbm, ⟨0, _⟩ => ⟨S32x20, .f32⟩
  | .hbm, ⟨1, _⟩ => ⟨S32x20, .f32⟩
  | .hbm, ⟨2, _⟩ => ⟨S32x20, .f32⟩
  | .hbm, ⟨3, _⟩ => ⟨S32x20, .f32⟩
  | .hbm, ⟨4, _⟩ => ⟨S32x20, .f32⟩
  | .hbm, ⟨5, _⟩ => ⟨S32x20, .f32⟩
  | .hbm, ⟨6, _⟩ => ⟨S32x20, .f32⟩
  | .local _ .vmem, ⟨0, _⟩ => ⟨S32x20, .f32⟩
  | .local _ .vmem, ⟨1, _⟩ => ⟨S32x20, .f32⟩
  | .local _ .vmem, ⟨2, _⟩ => ⟨S32x20, .f32⟩
  | .local _ .vmem, ⟨3, _⟩ => ⟨S32x20, .f32⟩
  | .local _ .vmem, ⟨4, _⟩ => ⟨S32x20, .f32⟩
  | .local _ .vmem, ⟨5, _⟩ => ⟨S32x20, .f32⟩
  | .local _ .vmem, ⟨6, _⟩ => ⟨S32x20, .f32⟩
  | _, _ => ⟨S32x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRelBiasIdeal.lean ====
abbrev S32x20 : Shape := ⟨2, ![32, 20]⟩

abbrev nBuf : Space → Nat
  | .hbm => 7
  | .vmem => 7
  | .smem => 0
  | _ => 0

abbrev bufTy : (tb : Table) → Fin (tcTables nBuf tb) → BufTy
  | .hbm, ⟨0, _⟩ => ⟨S32x20, .f32⟩
  | .hbm, ⟨1, _⟩ => ⟨S32x20, .f32⟩
  | .hbm, ⟨2, _⟩ => ⟨S32x20, .f32⟩
  | .hbm, ⟨3, _⟩ => ⟨S32x20, .f32⟩
  | .hbm, ⟨4, _⟩ => ⟨S32x20, .f32⟩
  | .hbm, ⟨5, _⟩ => ⟨S32x20, .f32⟩
  | .hbm, ⟨6, _⟩ => ⟨S32x20, .f32⟩
  | .local _ .vmem, ⟨0, _⟩ => ⟨S32x20, .f32⟩
  | .local _ .vmem, ⟨1, _⟩ => ⟨S32x20, .f32⟩
  | .local _ .vmem, ⟨2, _⟩ => ⟨S32x20, .f32⟩
  | .local _ .vmem, ⟨3, _⟩ => ⟨S32x20, .f32⟩
  | .local _ .vmem, ⟨4, _⟩ => ⟨S32x20, .f32⟩
  | .local _ .vmem, ⟨5, _⟩ => ⟨S32x20, .f32⟩
  | .local _ .vmem, ⟨6, _⟩ => ⟨S32x20, .f32⟩
  | _, _ => ⟨S32x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRelBiasRefIdeal.lean ====
abbrev S32x20 : Shape := ⟨2, ![32, 20]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x20, .f32⟩
  | .hbm, ⟨1, _⟩ => ⟨S32x20, .f32⟩
  | .hbm, ⟨2, _⟩ => ⟨S32x20, .f32⟩
  | .hbm, ⟨3, _⟩ => ⟨S32x20, .f32⟩
  | .hbm, ⟨4, _⟩ => ⟨S_, .f32⟩
  | .hbm, ⟨5, _⟩ => ⟨S32x20, .f32⟩
  | .hbm, ⟨6, _⟩ => ⟨S32x20, .f32⟩
  | .hbm, ⟨7, _⟩ => ⟨S_, .f32⟩
  | .hbm, ⟨8, _⟩ => ⟨S32x20, .f32⟩
  | .hbm, ⟨9, _⟩ => ⟨S32x20, .f32⟩
  | .hbm, ⟨10, _⟩ => ⟨S32x20, .f32⟩
  | .hbm, ⟨11, _⟩ => ⟨S_, .f32⟩
  | .hbm, ⟨12, _⟩ => ⟨S32x20, .f32⟩
  | .hbm, ⟨13, _⟩ => ⟨S32x20, .f32⟩
  | .hbm, ⟨14, _⟩ => ⟨S32x20, .f32⟩
  | .hbm, ⟨15, _⟩ => ⟨S_, .f32⟩
  | .hbm, ⟨16, _⟩ => ⟨S32x20, .f32⟩
  | .hbm, ⟨17, _⟩ => ⟨S32x20, .f32⟩
  | .hbm, ⟨18, _⟩ => ⟨S32x20, .f32⟩
  | .hbm, ⟨19, _⟩ => ⟨S_, .f32⟩
  | .hbm, ⟨20, _⟩ => ⟨S32x20, .f32⟩
  | .hbm, ⟨21, _⟩ => ⟨S32x20, .f32⟩
  | .hbm, ⟨22, _⟩ => ⟨S_, .f32⟩
  | .hbm, ⟨23, _⟩ => ⟨S32x20, .f32⟩
  | .hbm, ⟨24, _⟩ => ⟨S32x20, .f32⟩
  | .hbm, ⟨25, _⟩ => ⟨S32x20, .f32⟩
  | .hbm, ⟨26, _⟩ => ⟨S_, .f32⟩
  | .hbm, ⟨27, _⟩ => ⟨S32x20, .f32⟩
  | .hbm, ⟨28, _⟩ => ⟨S32x20, .f32⟩
  | .hbm, ⟨29, _⟩ => ⟨S32x20, .f32⟩
  | .hbm, ⟨30, _⟩ => ⟨S_, .f32⟩
  | .hbm, ⟨31, _⟩ => ⟨S32x20, .f32⟩
  | .hbm, ⟨32, _⟩ => ⟨S32x20, .f32⟩
  | .hbm, ⟨33, _⟩ => ⟨S32x20, .f32⟩
  | .hbm, ⟨34, _⟩ => ⟨S_, .f32⟩
  | .hbm, ⟨35, _⟩ => ⟨S32x20, .f32⟩
  | .hbm, ⟨36, _⟩ => ⟨S32x20, .f32⟩
  | _, _ => ⟨S32x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLayerNorms.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLayerNormsIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLayerNormsRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFinalNorm.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFinalNormIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFinalNormRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWIn.lean ====
abbrev S2048x768 : Shape := ⟨2, ![2048, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInIdeal.lean ====
abbrev S2048x768 : Shape := ⟨2, ![2048, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInRefIdeal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSinks.lean ====
abbrev S2x8 : Shape := ⟨2, ![2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .local _ .vmem, ⟨0, _⟩ => ⟨S2x8, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSinksIdeal.lean ====
abbrev S2x8 : Shape := ⟨2, ![2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .local _ .vmem, ⟨0, _⟩ => ⟨S2x8, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSinksRefIdeal.lean ====
abbrev S2x8 : Shape := ⟨2, ![2, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S_, .f32⟩
  | .hbm, ⟨5, _⟩ => ⟨S2x8, .f32⟩
  | .hbm, ⟨6, _⟩ => ⟨S2x8, .f32⟩
  | .hbm, ⟨7, _⟩ => ⟨S_, .f32⟩
  | .hbm, ⟨8, _⟩ => ⟨S2x8, .f32⟩
  | .hbm, ⟨9, _⟩ => ⟨S2x8, .f32⟩
  | .hbm, ⟨10, _⟩ => ⟨S2x8, .f32⟩
  | .hbm, ⟨11, _⟩ => ⟨S_, .f32⟩
  | .hbm, ⟨12, _⟩ => ⟨S2x8, .f32⟩
  | .hbm, ⟨13, _⟩ => ⟨S2x8, .f32⟩
  | .hbm, ⟨14, _⟩ => ⟨S2x8, .f32⟩
  | .hbm, ⟨15, _⟩ => ⟨S_, .f32⟩
  | .hbm, ⟨16, _⟩ => ⟨S2x8, .f32⟩
  | .hbm, ⟨17, _⟩ => ⟨S2x8, .f32⟩
  | .hbm, ⟨18, _⟩ => ⟨S2x8, .f32⟩
  | .hbm, ⟨19, _⟩ => ⟨S_, .f32⟩
  | .hbm, ⟨20, _⟩ => ⟨S2x8, .f32⟩
  | .hbm, ⟨21, _⟩ => ⟨S2x8, .f32⟩
  | .hbm, ⟨22, _⟩ => ⟨S_, .f32⟩
  | .hbm, ⟨23, _⟩ => ⟨S2x8, .f32⟩
  | .hbm, ⟨24, _⟩ => ⟨S2x8, .f32⟩
  | .hbm, ⟨25, _⟩ => ⟨S2x8, .f32⟩
  | .hbm, ⟨26, _⟩ => ⟨S_, .f32⟩
  | .hbm, ⟨27, _⟩ => ⟨S2x8, .f32⟩
  | .hbm, ⟨28, _⟩ => ⟨S2x8, .f32⟩
  | .hbm, ⟨29, _⟩ => ⟨S2x8, .f32⟩
  | .hbm, ⟨30, _⟩ => ⟨S_, .f32⟩
  | .hbm, ⟨31, _⟩ => ⟨S2x8, .f32⟩
  | .hbm, ⟨32, _⟩ => ⟨S2x8, .f32⟩
  | .hbm, ⟨33, _⟩ => ⟨S2x8, .f32⟩
  | .hbm, ⟨34, _⟩ => ⟨S_, .f32⟩
  | .hbm, ⟨35, _⟩ => ⟨S2x8, .f32⟩
  | .hbm, ⟨36, _⟩ => ⟨S2x8, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWOut.lean ====
abbrev S1536x256 : Shape := ⟨2, ![1536, 256]⟩

abbrev nBuf : Space → Nat
  | .hbm => 7
  | .vmem => 7
  | .smem => 0
  | _ => 0

abbrev bufTy : (tb : Table) → Fin (tcTables nBuf tb) → BufTy
  | .hbm, ⟨0, _⟩ => ⟨S1536x256, .f32⟩
  | .hbm, ⟨1, _⟩ => ⟨S1536x256, .f32⟩
  | .hbm, ⟨2, _⟩ => ⟨S1536x256, .f32⟩
  | .hbm, ⟨3, _⟩ => ⟨S1536x256, .f32⟩
  | .hbm, ⟨4, _⟩ => ⟨S1536x256, .f32⟩
  | .hbm, ⟨5, _⟩ => ⟨S1536x256, .f32⟩
  | .hbm, ⟨6, _⟩ => ⟨S1536x256, .f32⟩
  | .local _ .vmem, ⟨0, _⟩ => ⟨S1536x256, .f32⟩
  | .local _ .vmem, ⟨1, _⟩ => ⟨S1536x256, .f32⟩
  | .local _ .vmem, ⟨2, _⟩ => ⟨S1536x256, .f32⟩
  | .local _ .vmem, ⟨3, _⟩ => ⟨S1536x256, .f32⟩
  | .local _ .vmem, ⟨4, _⟩ => ⟨S1536x256, .f32⟩
  | .local _ .vmem, ⟨5, _⟩ => ⟨S1536x256, .f32⟩
  | .local _ .vmem, ⟨6, _⟩ => ⟨S1536x256, .f32⟩
  | _, _ => ⟨S1536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1536x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1536x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1536x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1536x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1536x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1536x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1536x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWOutIdeal.lean ====
abbrev S1536x256 : Shape := ⟨2, ![1536, 256]⟩

abbrev nBuf : Space → Nat
  | .hbm => 7
  | .vmem => 7
  | .smem => 0
  | _ => 0

abbrev bufTy : (tb : Table) → Fin (tcTables nBuf tb) → BufTy
  | .hbm, ⟨0, _⟩ => ⟨S1536x256, .f32⟩
  | .hbm, ⟨1, _⟩ => ⟨S1536x256, .f32⟩
  | .hbm, ⟨2, _⟩ => ⟨S1536x256, .f32⟩
  | .hbm, ⟨3, _⟩ => ⟨S1536x256, .f32⟩
  | .hbm, ⟨4, _⟩ => ⟨S1536x256, .f32⟩
  | .hbm, ⟨5, _⟩ => ⟨S1536x256, .f32⟩
  | .hbm, ⟨6, _⟩ => ⟨S1536x256, .f32⟩
  | .local _ .vmem, ⟨0, _⟩ => ⟨S1536x256, .f32⟩
  | .local _ .vmem, ⟨1, _⟩ => ⟨S1536x256, .f32⟩
  | .local _ .vmem, ⟨2, _⟩ => ⟨S1536x256, .f32⟩
  | .local _ .vmem, ⟨3, _⟩ => ⟨S1536x256, .f32⟩
  | .local _ .vmem, ⟨4, _⟩ => ⟨S1536x256, .f32⟩
  | .local _ .vmem, ⟨5, _⟩ => ⟨S1536x256, .f32⟩
  | .local _ .vmem, ⟨6, _⟩ => ⟨S1536x256, .f32⟩
  | _, _ => ⟨S1536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1536x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1536x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1536x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1536x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1536x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1536x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1536x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWOutRefIdeal.lean ====
abbrev S1536x256 : Shape := ⟨2, ![1536, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1536x256, .f32⟩
  | .hbm, ⟨1, _⟩ => ⟨S1536x256, .f32⟩
  | .hbm, ⟨2, _⟩ => ⟨S1536x256, .f32⟩
  | .hbm, ⟨3, _⟩ => ⟨S1536x256, .f32⟩
  | .hbm, ⟨4, _⟩ => ⟨S_, .f32⟩
  | .hbm, ⟨5, _⟩ => ⟨S1536x256, .f32⟩
  | .hbm, ⟨6, _⟩ => ⟨S1536x256, .f32⟩
  | .hbm, ⟨7, _⟩ => ⟨S_, .f32⟩
  | .hbm, ⟨8, _⟩ => ⟨S1536x256, .f32⟩
  | .hbm, ⟨9, _⟩ => ⟨S1536x256, .f32⟩
  | .hbm, ⟨10, _⟩ => ⟨S1536x256, .f32⟩
  | .hbm, ⟨11, _⟩ => ⟨S_, .f32⟩
  | .hbm, ⟨12, _⟩ => ⟨S1536x256, .f32⟩
  | .hbm, ⟨13, _⟩ => ⟨S1536x256, .f32⟩
  | .hbm, ⟨14, _⟩ => ⟨S1536x256, .f32⟩
  | .hbm, ⟨15, _⟩ => ⟨S_, .f32⟩
  | .hbm, ⟨16, _⟩ => ⟨S1536x256, .f32⟩
  | .hbm, ⟨17, _⟩ => ⟨S1536x256, .f32⟩
  | .hbm, ⟨18, _⟩ => ⟨S1536x256, .f32⟩
  | .hbm, ⟨19, _⟩ => ⟨S_, .f32⟩
  | .hbm, ⟨20, _⟩ => ⟨S1536x256, .f32⟩
  | .hbm, ⟨21, _⟩ => ⟨S1536x256, .f32⟩
  | .hbm, ⟨22, _⟩ => ⟨S_, .f32⟩
  | .hbm, ⟨23, _⟩ => ⟨S1536x256, .f32⟩
  | .hbm, ⟨24, _⟩ => ⟨S1536x256, .f32⟩
  | .hbm, ⟨25, _⟩ => ⟨S1536x256, .f32⟩
  | .hbm, ⟨26, _⟩ => ⟨S_, .f32⟩
  | .hbm, ⟨27, _⟩ => ⟨S1536x256, .f32⟩
  | .hbm, ⟨28, _⟩ => ⟨S1536x256, .f32⟩
  | .hbm, ⟨29, _⟩ => ⟨S1536x256, .f32⟩
  | .hbm, ⟨30, _⟩ => ⟨S_, .f32⟩
  | .hbm, ⟨31, _⟩ => ⟨S1536x256, .f32⟩
  | .hbm, ⟨32, _⟩ => ⟨S1536x256, .f32⟩
  | .hbm, ⟨33, _⟩ => ⟨S1536x256, .f32⟩
  | .hbm, ⟨34, _⟩ => ⟨S_, .f32⟩
  | .hbm, ⟨35, _⟩ => ⟨S1536x256, .f32⟩
  | .hbm, ⟨36, _⟩ => ⟨S1536x256, .f32⟩
  | _, _ => ⟨S1536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWDown.lean ====
abbrev S512x672 : Shape := ⟨2, ![512, 672]⟩

abbrev nBuf : Space → Nat
  | .hbm => 7
  | .vmem => 7
  | .smem => 0
  | _ => 0

abbrev bufTy : (tb : Table) → Fin (tcTables nBuf tb) → BufTy
  | .hbm, ⟨0, _⟩ => ⟨S512x672, .f32⟩
  | .hbm, ⟨1, _⟩ => ⟨S512x672, .f32⟩
  | .hbm, ⟨2, _⟩ => ⟨S512x672, .f32⟩
  | .hbm, ⟨3, _⟩ => ⟨S512x672, .f32⟩
  | .hbm, ⟨4, _⟩ => ⟨S512x672, .f32⟩
  | .hbm, ⟨5, _⟩ => ⟨S512x672, .f32⟩
  | .hbm, ⟨6, _⟩ => ⟨S512x672, .f32⟩
  | .local _ .vmem, ⟨0, _⟩ => ⟨S512x672, .f32⟩
  | .local _ .vmem, ⟨1, _⟩ => ⟨S512x672, .f32⟩
  | .local _ .vmem, ⟨2, _⟩ => ⟨S512x672, .f32⟩
  | .local _ .vmem, ⟨3, _⟩ => ⟨S512x672, .f32⟩
  | .local _ .vmem, ⟨4, _⟩ => ⟨S512x672, .f32⟩
  | .local _ .vmem, ⟨5, _⟩ => ⟨S512x672, .f32⟩
  | .local _ .vmem, ⟨6, _⟩ => ⟨S512x672, .f32⟩
  | _, _ => ⟨S512x672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x672 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x672 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x672 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x672 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x672 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x672 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x672 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWDownIdeal.lean ====
abbrev S512x672 : Shape := ⟨2, ![512, 672]⟩

abbrev nBuf : Space → Nat
  | .hbm => 7
  | .vmem => 7
  | .smem => 0
  | _ => 0

abbrev bufTy : (tb : Table) → Fin (tcTables nBuf tb) → BufTy
  | .hbm, ⟨0, _⟩ => ⟨S512x672, .f32⟩
  | .hbm, ⟨1, _⟩ => ⟨S512x672, .f32⟩
  | .hbm, ⟨2, _⟩ => ⟨S512x672, .f32⟩
  | .hbm, ⟨3, _⟩ => ⟨S512x672, .f32⟩
  | .hbm, ⟨4, _⟩ => ⟨S512x672, .f32⟩
  | .hbm, ⟨5, _⟩ => ⟨S512x672, .f32⟩
  | .hbm, ⟨6, _⟩ => ⟨S512x672, .f32⟩
  | .local _ .vmem, ⟨0, _⟩ => ⟨S512x672, .f32⟩
  | .local _ .vmem, ⟨1, _⟩ => ⟨S512x672, .f32⟩
  | .local _ .vmem, ⟨2, _⟩ => ⟨S512x672, .f32⟩
  | .local _ .vmem, ⟨3, _⟩ => ⟨S512x672, .f32⟩
  | .local _ .vmem, ⟨4, _⟩ => ⟨S512x672, .f32⟩
  | .local _ .vmem, ⟨5, _⟩ => ⟨S512x672, .f32⟩
  | .local _ .vmem, ⟨6, _⟩ => ⟨S512x672, .f32⟩
  | _, _ => ⟨S512x672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x672 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x672 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x672 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x672 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x672 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x672 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x672 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWDownRefIdeal.lean ====
abbrev S512x672 : Shape := ⟨2, ![512, 672]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x672, .f32⟩
  | .hbm, ⟨1, _⟩ => ⟨S512x672, .f32⟩
  | .hbm, ⟨2, _⟩ => ⟨S512x672, .f32⟩
  | .hbm, ⟨3, _⟩ => ⟨S512x672, .f32⟩
  | .hbm, ⟨4, _⟩ => ⟨S_, .f32⟩
  | .hbm, ⟨5, _⟩ => ⟨S512x672, .f32⟩
  | .hbm, ⟨6, _⟩ => ⟨S512x672, .f32⟩
  | .hbm, ⟨7, _⟩ => ⟨S_, .f32⟩
  | .hbm, ⟨8, _⟩ => ⟨S512x672, .f32⟩
  | .hbm, ⟨9, _⟩ => ⟨S512x672, .f32⟩
  | .hbm, ⟨10, _⟩ => ⟨S512x672, .f32⟩
  | .hbm, ⟨11, _⟩ => ⟨S_, .f32⟩
  | .hbm, ⟨12, _⟩ => ⟨S512x672, .f32⟩
  | .hbm, ⟨13, _⟩ => ⟨S512x672, .f32⟩
  | .hbm, ⟨14, _⟩ => ⟨S512x672, .f32⟩
  | .hbm, ⟨15, _⟩ => ⟨S_, .f32⟩
  | .hbm, ⟨16, _⟩ => ⟨S512x672, .f32⟩
  | .hbm, ⟨17, _⟩ => ⟨S512x672, .f32⟩
  | .hbm, ⟨18, _⟩ => ⟨S512x672, .f32⟩
  | .hbm, ⟨19, _⟩ => ⟨S_, .f32⟩
  | .hbm, ⟨20, _⟩ => ⟨S512x672, .f32⟩
  | .hbm, ⟨21, _⟩ => ⟨S512x672, .f32⟩
  | .hbm, ⟨22, _⟩ => ⟨S_, .f32⟩
  | .hbm, ⟨23, _⟩ => ⟨S512x672, .f32⟩
  | .hbm, ⟨24, _⟩ => ⟨S512x672, .f32⟩
  | .hbm, ⟨25, _⟩ => ⟨S512x672, .f32⟩
  | .hbm, ⟨26, _⟩ => ⟨S_, .f32⟩
  | .hbm, ⟨27, _⟩ => ⟨S512x672, .f32⟩
  | .hbm, ⟨28, _⟩ => ⟨S512x672, .f32⟩
  | .hbm, ⟨29, _⟩ => ⟨S512x672, .f32⟩
  | .hbm, ⟨30, _⟩ => ⟨S_, .f32⟩
  | .hbm, ⟨31, _⟩ => ⟨S512x672, .f32⟩
  | .hbm, ⟨32, _⟩ => ⟨S512x672, .f32⟩
  | .hbm, ⟨33, _⟩ => ⟨S512x672, .f32⟩
  | .hbm, ⟨34, _⟩ => ⟨S_, .f32⟩
  | .hbm, ⟨35, _⟩ => ⟨S512x672, .f32⟩
  | .hbm, ⟨36, _⟩ => ⟨S512x672, .f32⟩
  | _, _ => ⟨S512x672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQNorms.lean ====
abbrev S2x96 : Shape := ⟨2, ![2, 96]⟩

abbrev nBuf : Space → Nat
  | .hbm => 7
  | .vmem => 7
  | .smem => 0
  | _ => 0

abbrev bufTy : (tb : Table) → Fin (tcTables nBuf tb) → BufTy
  | .hbm, ⟨0, _⟩ => ⟨S2x96, .f32⟩
  | .hbm, ⟨1, _⟩ => ⟨S2x96, .f32⟩
  | .hbm, ⟨2, _⟩ => ⟨S2x96, .f32⟩
  | .hbm, ⟨3, _⟩ => ⟨S2x96, .f32⟩
  | .hbm, ⟨4, _⟩ => ⟨S2x96, .f32⟩
  | .hbm, ⟨5, _⟩ => ⟨S2x96, .f32⟩
  | .hbm, ⟨6, _⟩ => ⟨S2x96, .f32⟩
  | .local _ .vmem, ⟨0, _⟩ => ⟨S2x96, .f32⟩
  | .local _ .vmem, ⟨1, _⟩ => ⟨S2x96, .f32⟩
  | .local _ .vmem, ⟨2, _⟩ => ⟨S2x96, .f32⟩
  | .local _ .vmem, ⟨3, _⟩ => ⟨S2x96, .f32⟩
  | .local _ .vmem, ⟨4, _⟩ => ⟨S2x96, .f32⟩
  | .local _ .vmem, ⟨5, _⟩ => ⟨S2x96, .f32⟩
  | .local _ .vmem, ⟨6, _⟩ => ⟨S2x96, .f32⟩
  | _, _ => ⟨S2x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamQNormsIdeal.lean ====
abbrev S2x96 : Shape := ⟨2, ![2, 96]⟩

abbrev nBuf : Space → Nat
  | .hbm => 7
  | .vmem => 7
  | .smem => 0
  | _ => 0

abbrev bufTy : (tb : Table) → Fin (tcTables nBuf tb) → BufTy
  | .hbm, ⟨0, _⟩ => ⟨S2x96, .f32⟩
  | .hbm, ⟨1, _⟩ => ⟨S2x96, .f32⟩
  | .hbm, ⟨2, _⟩ => ⟨S2x96, .f32⟩
  | .hbm, ⟨3, _⟩ => ⟨S2x96, .f32⟩
  | .hbm, ⟨4, _⟩ => ⟨S2x96, .f32⟩
  | .hbm, ⟨5, _⟩ => ⟨S2x96, .f32⟩
  | .hbm, ⟨6, _⟩ => ⟨S2x96, .f32⟩
  | .local _ .vmem, ⟨0, _⟩ => ⟨S2x96, .f32⟩
  | .local _ .vmem, ⟨1, _⟩ => ⟨S2x96, .f32⟩
  | .local _ .vmem, ⟨2, _⟩ => ⟨S2x96, .f32⟩
  | .local _ .vmem, ⟨3, _⟩ => ⟨S2x96, .f32⟩
  | .local _ .vmem, ⟨4, _⟩ => ⟨S2x96, .f32⟩
  | .local _ .vmem, ⟨5, _⟩ => ⟨S2x96, .f32⟩
  | .local _ .vmem, ⟨6, _⟩ => ⟨S2x96, .f32⟩
  | _, _ => ⟨S2x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamQNormsRefIdeal.lean ====
abbrev S2x96 : Shape := ⟨2, ![2, 96]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x96, .f32⟩
  | .hbm, ⟨1, _⟩ => ⟨S2x96, .f32⟩
  | .hbm, ⟨2, _⟩ => ⟨S2x96, .f32⟩
  | .hbm, ⟨3, _⟩ => ⟨S2x96, .f32⟩
  | .hbm, ⟨4, _⟩ => ⟨S_, .f32⟩
  | .hbm, ⟨5, _⟩ => ⟨S2x96, .f32⟩
  | .hbm, ⟨6, _⟩ => ⟨S2x96, .f32⟩
  | .hbm, ⟨7, _⟩ => ⟨S_, .f32⟩
  | .hbm, ⟨8, _⟩ => ⟨S2x96, .f32⟩
  | .hbm, ⟨9, _⟩ => ⟨S2x96, .f32⟩
  | .hbm, ⟨10, _⟩ => ⟨S2x96, .f32⟩
  | .hbm, ⟨11, _⟩ => ⟨S_, .f32⟩
  | .hbm, ⟨12, _⟩ => ⟨S2x96, .f32⟩
  | .hbm, ⟨13, _⟩ => ⟨S2x96, .f32⟩
  | .hbm, ⟨14, _⟩ => ⟨S2x96, .f32⟩
  | .hbm, ⟨15, _⟩ => ⟨S_, .f32⟩
  | .hbm, ⟨16, _⟩ => ⟨S2x96, .f32⟩
  | .hbm, ⟨17, _⟩ => ⟨S2x96, .f32⟩
  | .hbm, ⟨18, _⟩ => ⟨S2x96, .f32⟩
  | .hbm, ⟨19, _⟩ => ⟨S_, .f32⟩
  | .hbm, ⟨20, _⟩ => ⟨S2x96, .f32⟩
  | .hbm, ⟨21, _⟩ => ⟨S2x96, .f32⟩
  | .hbm, ⟨22, _⟩ => ⟨S_, .f32⟩
  | .hbm, ⟨23, _⟩ => ⟨S2x96, .f32⟩
  | .hbm, ⟨24, _⟩ => ⟨S2x96, .f32⟩
  | .hbm, ⟨25, _⟩ => ⟨S2x96, .f32⟩
  | .hbm, ⟨26, _⟩ => ⟨S_, .f32⟩
  | .hbm, ⟨27, _⟩ => ⟨S2x96, .f32⟩
  | .hbm, ⟨28, _⟩ => ⟨S2x96, .f32⟩
  | .hbm, ⟨29, _⟩ => ⟨S2x96, .f32⟩
  | .hbm, ⟨30, _⟩ => ⟨S_, .f32⟩
  | .hbm, ⟨31, _⟩ => ⟨S2x96, .f32⟩
  | .hbm, ⟨32, _⟩ => ⟨S2x96, .f32⟩
  | .hbm, ⟨33, _⟩ => ⟨S2x96, .f32⟩
  | .hbm, ⟨34, _⟩ => ⟨S_, .f32⟩
  | .hbm, ⟨35, _⟩ => ⟨S2x96, .f32⟩
  | .hbm, ⟨36, _⟩ => ⟨S2x96, .f32⟩
  | _, _ => ⟨S2x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWUq.lean ====
abbrev S768x192 : Shape := ⟨2, ![768, 192]⟩

abbrev nBuf : Space → Nat
  | .hbm => 7
  | .vmem => 7
  | .smem => 0
  | _ => 0

abbrev bufTy : (tb : Table) → Fin (tcTables nBuf tb) → BufTy
  | .hbm, ⟨0, _⟩ => ⟨S768x192, .f32⟩
  | .hbm, ⟨1, _⟩ => ⟨S768x192, .f32⟩
  | .hbm, ⟨2, _⟩ => ⟨S768x192, .f32⟩
  | .hbm, ⟨3, _⟩ => ⟨S768x192, .f32⟩
  | .hbm, ⟨4, _⟩ => ⟨S768x192, .f32⟩
  | .hbm, ⟨5, _⟩ => ⟨S768x192, .f32⟩
  | .hbm, ⟨6, _⟩ => ⟨S768x192, .f32⟩
  | .local _ .vmem, ⟨0, _⟩ => ⟨S768x192, .f32⟩
  | .local _ .vmem, ⟨1, _⟩ => ⟨S768x192, .f32⟩
  | .local _ .vmem, ⟨2, _⟩ => ⟨S768x192, .f32⟩
  | .local _ .vmem, ⟨3, _⟩ => ⟨S768x192, .f32⟩
  | .local _ .vmem, ⟨4, _⟩ => ⟨S768x192, .f32⟩
  | .local _ .vmem, ⟨5, _⟩ => ⟨S768x192, .f32⟩
  | .local _ .vmem, ⟨6, _⟩ => ⟨S768x192, .f32⟩
  | _, _ => ⟨S768x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S768x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S768x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S768x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S768x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S768x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S768x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S768x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWUqIdeal.lean ====
abbrev S768x192 : Shape := ⟨2, ![768, 192]⟩

abbrev nBuf : Space → Nat
  | .hbm => 7
  | .vmem => 7
  | .smem => 0
  | _ => 0

abbrev bufTy : (tb : Table) → Fin (tcTables nBuf tb) → BufTy
  | .hbm, ⟨0, _⟩ => ⟨S768x192, .f32⟩
  | .hbm, ⟨1, _⟩ => ⟨S768x192, .f32⟩
  | .hbm, ⟨2, _⟩ => ⟨S768x192, .f32⟩
  | .hbm, ⟨3, _⟩ => ⟨S768x192, .f32⟩
  | .hbm, ⟨4, _⟩ => ⟨S768x192, .f32⟩
  | .hbm, ⟨5, _⟩ => ⟨S768x192, .f32⟩
  | .hbm, ⟨6, _⟩ => ⟨S768x192, .f32⟩
  | .local _ .vmem, ⟨0, _⟩ => ⟨S768x192, .f32⟩
  | .local _ .vmem, ⟨1, _⟩ => ⟨S768x192, .f32⟩
  | .local _ .vmem, ⟨2, _⟩ => ⟨S768x192, .f32⟩
  | .local _ .vmem, ⟨3, _⟩ => ⟨S768x192, .f32⟩
  | .local _ .vmem, ⟨4, _⟩ => ⟨S768x192, .f32⟩
  | .local _ .vmem, ⟨5, _⟩ => ⟨S768x192, .f32⟩
  | .local _ .vmem, ⟨6, _⟩ => ⟨S768x192, .f32⟩
  | _, _ => ⟨S768x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S768x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S768x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S768x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S768x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S768x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S768x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S768x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWUqRefIdeal.lean ====
abbrev S768x192 : Shape := ⟨2, ![768, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x192, .f32⟩
  | .hbm, ⟨1, _⟩ => ⟨S768x192, .f32⟩
  | .hbm, ⟨2, _⟩ => ⟨S768x192, .f32⟩
  | .hbm, ⟨3, _⟩ => ⟨S768x192, .f32⟩
  | .hbm, ⟨4, _⟩ => ⟨S_, .f32⟩
  | .hbm, ⟨5, _⟩ => ⟨S768x192, .f32⟩
  | .hbm, ⟨6, _⟩ => ⟨S768x192, .f32⟩
  | .hbm, ⟨7, _⟩ => ⟨S_, .f32⟩
  | .hbm, ⟨8, _⟩ => ⟨S768x192, .f32⟩
  | .hbm, ⟨9, _⟩ => ⟨S768x192, .f32⟩
  | .hbm, ⟨10, _⟩ => ⟨S768x192, .f32⟩
  | .hbm, ⟨11, _⟩ => ⟨S_, .f32⟩
  | .hbm, ⟨12, _⟩ => ⟨S768x192, .f32⟩
  | .hbm, ⟨13, _⟩ => ⟨S768x192, .f32⟩
  | .hbm, ⟨14, _⟩ => ⟨S768x192, .f32⟩
  | .hbm, ⟨15, _⟩ => ⟨S_, .f32⟩
  | .hbm, ⟨16, _⟩ => ⟨S768x192, .f32⟩
  | .hbm, ⟨17, _⟩ => ⟨S768x192, .f32⟩
  | .hbm, ⟨18, _⟩ => ⟨S768x192, .f32⟩
  | .hbm, ⟨19, _⟩ => ⟨S_, .f32⟩
  | .hbm, ⟨20, _⟩ => ⟨S768x192, .f32⟩
  | .hbm, ⟨21, _⟩ => ⟨S768x192, .f32⟩
  | .hbm, ⟨22, _⟩ => ⟨S_, .f32⟩
  | .hbm, ⟨23, _⟩ => ⟨S768x192, .f32⟩
  | .hbm, ⟨24, _⟩ => ⟨S768x192, .f32⟩
  | .hbm, ⟨25, _⟩ => ⟨S768x192, .f32⟩
  | .hbm, ⟨26, _⟩ => ⟨S_, .f32⟩
  | .hbm, ⟨27, _⟩ => ⟨S768x192, .f32⟩
  | .hbm, ⟨28, _⟩ => ⟨S768x192, .f32⟩
  | .hbm, ⟨29, _⟩ => ⟨S768x192, .f32⟩
  | .hbm, ⟨30, _⟩ => ⟨S_, .f32⟩
  | .hbm, ⟨31, _⟩ => ⟨S768x192, .f32⟩
  | .hbm, ⟨32, _⟩ => ⟨S768x192, .f32⟩
  | .hbm, ⟨33, _⟩ => ⟨S768x192, .f32⟩
  | .hbm, ⟨34, _⟩ => ⟨S_, .f32⟩
  | .hbm, ⟨35, _⟩ => ⟨S768x192, .f32⟩
  | .hbm, ⟨36, _⟩ => ⟨S768x192, .f32⟩
  | _, _ => ⟨S768x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKvNorms.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvNormsIdeal.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvNormsRefIdeal.lean ====
abbrev S2x64 : Shape := ⟨2, ![2, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S_, .f32⟩
  | .hbm, ⟨5, _⟩ => ⟨S2x64, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWUkv.lean ====
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWUkvIdeal.lean ====
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWUkvRefIdeal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWO.lean ====
abbrev S1024x256 : Shape := ⟨2, ![1024, 256]⟩

abbrev nBuf : Space → Nat
  | .hbm => 7
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWOIdeal.lean ====
abbrev S1024x256 : Shape := ⟨2, ![1024, 256]⟩

abbrev nBuf : Space → Nat
  | .hbm => 7
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWORefIdeal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWMlp.lean ====
abbrev S4096x1024 : Shape := ⟨2, ![4096, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWMlpRefIdeal.lean ====
abbrev S4096x1024 : Shape := ⟨2, ![4096, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Rope.lean ====
abbrev S16384x768 : Shape := ⟨2, ![16384, 768]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16384x96 : Shape := ⟨2, ![16384, 96]⟩
abbrev S1x16384x1x96 : Shape := ⟨4, ![1, 16384, 1, 96]⟩
abbrev S1x16384x4x96 : Shape := ⟨4, ![1, 16384, 4, 96]⟩
abbrev S16384x384 : Shape := ⟨2, ![16384, 384]⟩
abbrev S1024x768 : Shape := ⟨2, ![1024, 768]⟩
abbrev S1024x384 : Shape := ⟨2, ![1024, 384]⟩

abbrev nBuf : Space → Nat
  | .hbm => 43
  | .vmem => 10
  | .smem => 0
  | _ => 0

abbrev bufTy : (tb : Table) → Fin (tcTables nBuf tb) → BufTy
  | .hbm, ⟨0, _⟩ => ⟨S16384x768, .f32⟩
  | .hbm, ⟨1, _⟩ => ⟨S16, .f32⟩
  | .hbm, ⟨2, _⟩ => ⟨S_, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16384, .f32⟩
  | .hbm, ⟨16, _⟩ => ⟨S16384x1, .f32⟩
  | .hbm, ⟨17, _⟩ => ⟨S1x16, .f32⟩
  | .hbm, ⟨18, _⟩ => ⟨S16384x16, .f32⟩
  | .hbm, ⟨19, _⟩ => ⟨S16384x16, .f32⟩
  | .hbm, ⟨20, _⟩ => ⟨S16384x16, .f32⟩
  | .hbm, ⟨21, _⟩ => ⟨S16384x16, .f32⟩
  | .hbm, ⟨22, _⟩ => ⟨S16384x16, .f32⟩
  | .hbm, ⟨23, _⟩ => ⟨S_, .f32⟩
  | .hbm, ⟨24, _⟩ => ⟨S16384x64, .f32⟩
  | .hbm, ⟨25, _⟩ => ⟨S_, .f32⟩
  | .hbm, ⟨26, _⟩ => ⟨S16384x64, .f32⟩
  | .hbm, ⟨27, _⟩ => ⟨S_, .f32⟩
  | .hbm, ⟨28, _⟩ => ⟨S16384x16, .f32⟩
  | .hbm, ⟨29, _⟩ => ⟨S16384x96, .f32⟩
  | .hbm, ⟨30, _⟩ => ⟨S1x16384x1x96, .f32⟩
  | .hbm, ⟨31, _⟩ => ⟨S1x16384x4x96, .f32⟩
  | .hbm, ⟨32, _⟩ => ⟨S16384x384, .f32⟩
  | .hbm, ⟨33, _⟩ => ⟨S16384x16, .f32⟩
  | .hbm, ⟨34, _⟩ => ⟨S16384x96, .f32⟩
  | .hbm, ⟨35, _⟩ => ⟨S1x16384x1x96, .f32⟩
  | .hbm, ⟨36, _⟩ => ⟨S1x16384x4x96, .f32⟩
  | .hbm, ⟨37, _⟩ => ⟨S16384x384, .f32⟩
  | .hbm, ⟨38, _⟩ => ⟨S16384x96, .f32⟩
  | .hbm, ⟨39, _⟩ => ⟨S1x16384x1x96, .f32⟩
  | .hbm, ⟨40, _⟩ => ⟨S1x16384x4x96, .f32⟩
  | .hbm, ⟨41, _⟩ => ⟨S16384x384, .f32⟩
  | .hbm, ⟨42, _⟩ => ⟨S16384x768, .bf16⟩
  | .local _ .vmem, ⟨0, _⟩ => ⟨S1024x768, .f32⟩
  | .local _ .vmem, ⟨1, _⟩ => ⟨S1024x768, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x768, .bf16⟩
  | .local _ .vmem, ⟨9, _⟩ => ⟨S1024x768, .bf16⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeRefIdeal.lean ====
abbrev S16384x768 : Shape := ⟨2, ![16384, 768]⟩
abbrev S1x16384x8x96 : Shape := ⟨4, ![1, 16384, 8, 96]⟩
abbrev S1x16384x8x64 : Shape := ⟨4, ![1, 16384, 8, 64]⟩
abbrev S1x16384x8x32 : Shape := ⟨4, ![1, 16384, 8, 32]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S1x16384x1x16 : Shape := ⟨4, ![1, 16384, 1, 16]⟩
abbrev S1x16384x8x16 : Shape := ⟨4, ![1, 16384, 8, 16]⟩

abbrev nBuf : Space → Nat
  | .hbm => 44
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S1x16384x8x96, .f32⟩
  | .hbm, ⟨2, _⟩ => ⟨S1x16384x8x64, .f32⟩
  | .hbm, ⟨3, _⟩ => ⟨S1x16384x8x32, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16384, .f32⟩
  | .hbm, ⟨19, _⟩ => ⟨S16384x1, .f32⟩
  | .hbm, ⟨20, _⟩ => ⟨S1x16, .f32⟩
  | .hbm, ⟨21, _⟩ => ⟨S16384x16, .f32⟩
  | .hbm, ⟨22, _⟩ => ⟨S16384x16, .f32⟩
  | .hbm, ⟨23, _⟩ => ⟨S16384x16, .f32⟩
  | .hbm, ⟨24, _⟩ => ⟨S16384x16, .f32⟩
  | .hbm, ⟨25, _⟩ => ⟨S1x16384x1x16, .f32⟩
  | .hbm, ⟨26, _⟩ => ⟨S16384x16, .f32⟩
  | .hbm, ⟨27, _⟩ => ⟨S1x16384x1x16, .f32⟩
  | .hbm, ⟨28, _⟩ => ⟨S1x16384x8x16, .f32⟩
  | .hbm, ⟨29, _⟩ => ⟨S1x16384x8x16, .f32⟩
  | .hbm, ⟨30, _⟩ => ⟨S1x16384x8x16, .f32⟩
  | .hbm, ⟨31, _⟩ => ⟨S1x16384x8x16, .f32⟩
  | .hbm, ⟨32, _⟩ => ⟨S1x16384x8x16, .f32⟩
  | .hbm, ⟨33, _⟩ => ⟨S1x16384x8x16, .f32⟩
  | .hbm, ⟨34, _⟩ => ⟨S1x16384x8x16, .f32⟩
  | .hbm, ⟨35, _⟩ => ⟨S1x16384x8x16, .f32⟩
  | .hbm, ⟨36, _⟩ => ⟨S1x16384x8x16, .f32⟩
  | .hbm, ⟨37, _⟩ => ⟨S1x16384x8x16, .f32⟩
  | .hbm, ⟨38, _⟩ => ⟨S1x16384x8x16, .f32⟩
  | .hbm, ⟨39, _⟩ => ⟨S1x16384x8x16, .f32⟩
  | .hbm, ⟨40, _⟩ => ⟨S1x16384x8x32, .f32⟩
  | .hbm, ⟨41, _⟩ => ⟨S1x16384x8x96, .f32⟩
  | .hbm, ⟨42, _⟩ => ⟨S16384x768, .f32⟩
  | .hbm, ⟨43, _⟩ => ⟨S16384x768, .bf16⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩

abbrev nD : Nat := 1
abbrev τ : Topo := Topo.v7x

variable {F : FTy → Type} [FloatOps F]
-- ==== RopeDx.lean ====
abbrev S16384x768 : Shape := ⟨2, ![16384, 768]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16384x96 : Shape := ⟨2, ![16384, 96]⟩
abbrev S1x16384x1x96 : Shape := ⟨4, ![1, 16384, 1, 96]⟩
abbrev S1x16384x4x96 : Shape := ⟨4, ![1, 16384, 4, 96]⟩
abbrev S16384x384 : Shape := ⟨2, ![16384, 384]⟩
abbrev S1024x768 : Shape := ⟨2, ![1024, 768]⟩
abbrev S1024x384 : Shape := ⟨2, ![1024, 384]⟩

abbrev nBuf : Space → Nat
  | .hbm => 43
  | .vmem => 10
  | .smem => 0
  | _ => 0

abbrev bufTy : (tb : Table) → Fin (tcTables nBuf tb) → BufTy
  | .hbm, ⟨0, _⟩ => ⟨S16384x768, .f32⟩
  | .hbm, ⟨1, _⟩ => ⟨S16, .f32⟩
  | .hbm, ⟨2, _⟩ => ⟨S_, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16384, .f32⟩
  | .hbm, ⟨16, _⟩ => ⟨S16384x1, .f32⟩
  | .hbm, ⟨17, _⟩ => ⟨S1x16, .f32⟩
  | .hbm, ⟨18, _⟩ => ⟨S16384x16, .f32⟩
  | .hbm, ⟨19, _⟩ => ⟨S16384x16, .f32⟩
  | .hbm, ⟨20, _⟩ => ⟨S16384x16, .f32⟩
  | .hbm, ⟨21, _⟩ => ⟨S16384x16, .f32⟩
  | .hbm, ⟨22, _⟩ => ⟨S16384x16, .f32⟩
  | .hbm, ⟨23, _⟩ => ⟨S_, .f32⟩
  | .hbm, ⟨24, _⟩ => ⟨S16384x64, .f32⟩
  | .hbm, ⟨25, _⟩ => ⟨S_, .f32⟩
  | .hbm, ⟨26, _⟩ => ⟨S16384x64, .f32⟩
  | .hbm, ⟨27, _⟩ => ⟨S_, .f32⟩
  | .hbm, ⟨28, _⟩ => ⟨S16384x16, .f32⟩
  | .hbm, ⟨29, _⟩ => ⟨S16384x96, .f32⟩
  | .hbm, ⟨30, _⟩ => ⟨S1x16384x1x96, .f32⟩
  | .hbm, ⟨31, _⟩ => ⟨S1x16384x4x96, .f32⟩
  | .hbm, ⟨32, _⟩ => ⟨S16384x384, .f32⟩
  | .hbm, ⟨33, _⟩ => ⟨S16384x16, .f32⟩
  | .hbm, ⟨34, _⟩ => ⟨S16384x96, .f32⟩
  | .hbm, ⟨35, _⟩ => ⟨S1x16384x1x96, .f32⟩
  | .hbm, ⟨36, _⟩ => ⟨S1x16384x4x96, .f32⟩
  | .hbm, ⟨37, _⟩ => ⟨S16384x384, .f32⟩
  | .hbm, ⟨38, _⟩ => ⟨S16384x96, .f32⟩
  | .hbm, ⟨39, _⟩ => ⟨S1x16384x1x96, .f32⟩
  | .hbm, ⟨40, _⟩ => ⟨S1x16384x4x96, .f32⟩
  | .hbm, ⟨41, _⟩ => ⟨S16384x384, .f32⟩
  | .hbm, ⟨42, _⟩ => ⟨S16384x768, .bf16⟩
  | .local _ .vmem, ⟨0, _⟩ => ⟨S1024x768, .f32⟩
  | .local _ .vmem, ⟨1, _⟩ => ⟨S1024x768, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x768, .bf16⟩
  | .local _ .vmem, ⟨9, _⟩ => ⟨S1024x768, .bf16⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeDxRefIdeal.lean ====
abbrev S16384x768 : Shape := ⟨2, ![16384, 768]⟩
abbrev S_ : Shape := ⟨0, ![]⟩
abbrev S1x16384x8x96 : Shape := ⟨4, ![1, 16384, 8, 96]⟩
abbrev S1x16384x8x64 : Shape := ⟨4, ![1, 16384, 8, 64]⟩
abbrev S1x16384x8x32 : Shape := ⟨4, ![1, 16384, 8, 32]⟩
abbrev S16 : Shape := ⟨1, ![16]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S1x16384x1x16 : Shape := ⟨4, ![1, 16384, 1, 16]⟩
abbrev S1x16384x8x16 : Shape := ⟨4, ![1, 16384, 8, 16]⟩

abbrev nBuf : Space → Nat
  | .hbm => 73
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S_, .f32⟩
  | .hbm, ⟨2, _⟩ => ⟨S16384x768, .f32⟩
  | .hbm, ⟨3, _⟩ => ⟨S1x16384x8x96, .f32⟩
  | .hbm, ⟨4, _⟩ => ⟨S1x16384x8x64, .f32⟩
  | .hbm, ⟨5, _⟩ => ⟨S1x16384x8x32, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16384, .f32⟩
  | .hbm, ⟨21, _⟩ => ⟨S16384x1, .f32⟩
  | .hbm, ⟨22, _⟩ => ⟨S1x16, .f32⟩
  | .hbm, ⟨23, _⟩ => ⟨S16384x16, .f32⟩
  | .hbm, ⟨24, _⟩ => ⟨S16384x16, .f32⟩
  | .hbm, ⟨25, _⟩ => ⟨S16384x16, .f32⟩
  | .hbm, ⟨26, _⟩ => ⟨S16384x16, .f32⟩
  | .hbm, ⟨27, _⟩ => ⟨S1x16384x1x16, .f32⟩
  | .hbm, ⟨28, _⟩ => ⟨S16384x16, .f32⟩
  | .hbm, ⟨29, _⟩ => ⟨S1x16384x1x16, .f32⟩
  | .hbm, ⟨30, _⟩ => ⟨S1x16384x8x16, .f32⟩
  | .hbm, ⟨31, _⟩ => ⟨S1x16384x8x16, .f32⟩
  | .hbm, ⟨32, _⟩ => ⟨S1x16384x8x16, .f32⟩
  | .hbm, ⟨33, _⟩ => ⟨S1x16384x8x16, .f32⟩
  | .hbm, ⟨34, _⟩ => ⟨S1x16384x8x16, .f32⟩
  | .hbm, ⟨35, _⟩ => ⟨S1x16384x8x16, .f32⟩
  | .hbm, ⟨36, _⟩ => ⟨S1x16384x8x16, .f32⟩
  | .hbm, ⟨37, _⟩ => ⟨S1x16384x8x16, .f32⟩
  | .hbm, ⟨38, _⟩ => ⟨S1x16384x8x16, .f32⟩
  | .hbm, ⟨39, _⟩ => ⟨S1x16384x8x16, .f32⟩
  | .hbm, ⟨40, _⟩ => ⟨S1x16384x8x16, .f32⟩
  | .hbm, ⟨41, _⟩ => ⟨S1x16384x8x16, .f32⟩
  | .hbm, ⟨42, _⟩ => ⟨S1x16384x8x32, .f32⟩
  | .hbm, ⟨43, _⟩ => ⟨S1x16384x8x96, .f32⟩
  | .hbm, ⟨44, _⟩ => ⟨S16384x768, .f32⟩
  | .hbm, ⟨45, _⟩ => ⟨S1x16384x8x96, .f32⟩
  | .hbm, ⟨46, _⟩ => ⟨S1x16384x8x64, .f32⟩
  | .hbm, ⟨47, _⟩ => ⟨S1x16384x8x32, .f32⟩
  | .hbm, ⟨48, _⟩ => ⟨S1x16384x8x16, .f32⟩
  | .hbm, ⟨49, _⟩ => ⟨S1x16384x8x16, .f32⟩
  | .hbm, ⟨50, _⟩ => ⟨S1x16384x8x16, .f32⟩
  | .hbm, ⟨51, _⟩ => ⟨S1x16384x8x16, .f32⟩
  | .hbm, ⟨52, _⟩ => ⟨S1x16384x8x16, .f32⟩
  | .hbm, ⟨53, _⟩ => ⟨S1x16384x8x16, .f32⟩
  | .hbm, ⟨54, _⟩ => ⟨S1x16384x8x16, .f32⟩
  | .hbm, ⟨55, _⟩ => ⟨S1x16384x8x16, .f32⟩
  | .hbm, ⟨56, _⟩ => ⟨S1x16384x8x16, .f32⟩
  | .hbm, ⟨57, _⟩ => ⟨S1x16384x8x16, .f32⟩
  | .hbm, ⟨58, _⟩ => ⟨S1x16384x8x16, .f32⟩
  | .hbm, ⟨59, _⟩ => ⟨S1x16384x8x16, .f32⟩
  | .hbm, ⟨60, _⟩ => ⟨S1x16384x8x16, .f32⟩
  | .hbm, ⟨61, _⟩ => ⟨S_, .f32⟩
  | .hbm, ⟨62, _⟩ => ⟨S1x16384x8x32, .f32⟩
  | .hbm, ⟨63, _⟩ => ⟨S_, .f32⟩
  | .hbm, ⟨64, _⟩ => ⟨S1x16384x8x32, .f32⟩
  | .hbm, ⟨65, _⟩ => ⟨S1x16384x8x32, .f32⟩
  | .hbm, ⟨66, _⟩ => ⟨S_, .f32⟩
  | .hbm, ⟨67, _⟩ => ⟨S1x16384x8x96, .f32⟩
  | .hbm, ⟨68, _⟩ => ⟨S_, .f32⟩
  | .hbm, ⟨69, _⟩ => ⟨S1x16384x8x96, .f32⟩
  | .hbm, ⟨70, _⟩ => ⟨S1x16384x8x96, .f32⟩
  | .hbm, ⟨71, _⟩ => ⟨S16384x768, .f32⟩
  | .hbm, ⟨72, _⟩ => ⟨S16384x768, .bf16⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_cst_4 : Ref sig .tc := ⟨.hbm, 61, rfl⟩
abbrev main_v55 : Ref sig .tc := ⟨.hbm, 62, rfl⟩
abbrev main_cst_5 : Ref sig .tc := ⟨.hbm, 63, rfl⟩
abbrev main_v56 : Ref sig .tc := ⟨.hbm, 64, rfl⟩
abbrev main_v57 : Ref sig .tc := ⟨.hbm, 65, rfl⟩
abbrev main_cst_6 : Ref sig .tc := ⟨.hbm, 66, rfl⟩
abbrev main_v58 : Ref sig .tc := ⟨.hbm, 67, rfl⟩
abbrev main_cst_7 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩

abbrev nD : Nat := 1
abbrev τ : Topo := Topo.v7x

variable {F : FTy → Type} [FloatOps F]
-- ==== KvDx.lean ====
abbrev S8x16384x96 : Shape := ⟨3, ![8, 16384, 96]⟩
abbrev S8x16384x64 : Shape := ⟨3, ![8, 16384, 64]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16384x96 : Shape := ⟨2, ![16384, 96]⟩
abbrev S1x16384x1x96 : Shape := ⟨4, ![1, 16384, 1, 96]⟩
abbrev S1x16384x4x96 : Shape := ⟨4, ![1, 16384, 4, 96]⟩
abbrev S16384x384 : Shape := ⟨2, ![16384, 384]⟩
abbrev S16384x1024 : Shape := ⟨2, ![16384, 1024]⟩
abbrev S16384x32 : Shape := ⟨2, ![16384, 32]⟩
abbrev S8x1024x96 : Shape := ⟨3, ![8, 1024, 96]⟩
abbrev S8x1024x64 : Shape := ⟨3, ![8, 1024, 64]⟩
abbrev S1024x16 : Shape := ⟨2, ![1024, 16]⟩
abbrev S1024x1024 : Shape := ⟨2, ![1024, 1024]⟩
abbrev S1024x32 : Shape := ⟨2, ![1024, 32]⟩
abbrev S1x1024x32 : Shape := ⟨3, ![1, 1024, 32]⟩
abbrev S1x1024x64 : Shape := ⟨3, ![1, 1024, 64]⟩
abbrev S1024x64 : Shape := ⟨2, ![1024, 64]⟩

abbrev nBuf : Space → Nat
  | .hbm => 45
  | .vmem => 12
  | .smem => 0
  | _ => 0

abbrev bufTy : (tb : Table) → Fin (tcTables nBuf tb) → BufTy
  | .hbm, ⟨0, _⟩ => ⟨S8x16384x96, .f32⟩
  | .hbm, ⟨1, _⟩ => ⟨S8x16384x64, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16384, .f32⟩
  | .hbm, ⟨17, _⟩ => ⟨S16384x1, .f32⟩
  | .hbm, ⟨18, _⟩ => ⟨S1x16, .f32⟩
  | .hbm, ⟨19, _⟩ => ⟨S16384x16, .f32⟩
  | .hbm, ⟨20, _⟩ => ⟨S16384x16, .f32⟩
  | .hbm, ⟨21, _⟩ => ⟨S16384x16, .f32⟩
  | .hbm, ⟨22, _⟩ => ⟨S16384x16, .f32⟩
  | .hbm, ⟨23, _⟩ => ⟨S16384x16, .f32⟩
  | .hbm, ⟨24, _⟩ => ⟨S_, .f32⟩
  | .hbm, ⟨25, _⟩ => ⟨S16384x64, .f32⟩
  | .hbm, ⟨26, _⟩ => ⟨S_, .f32⟩
  | .hbm, ⟨27, _⟩ => ⟨S16384x64, .f32⟩
  | .hbm, ⟨28, _⟩ => ⟨S_, .f32⟩
  | .hbm, ⟨29, _⟩ => ⟨S16384x16, .f32⟩
  | .hbm, ⟨30, _⟩ => ⟨S16384x96, .f32⟩
  | .hbm, ⟨31, _⟩ => ⟨S1x16384x1x96, .f32⟩
  | .hbm, ⟨32, _⟩ => ⟨S1x16384x4x96, .f32⟩
  | .hbm, ⟨33, _⟩ => ⟨S16384x384, .f32⟩
  | .hbm, ⟨34, _⟩ => ⟨S16384x16, .f32⟩
  | .hbm, ⟨35, _⟩ => ⟨S16384x96, .f32⟩
  | .hbm, ⟨36, _⟩ => ⟨S1x16384x1x96, .f32⟩
  | .hbm, ⟨37, _⟩ => ⟨S1x16384x4x96, .f32⟩
  | .hbm, ⟨38, _⟩ => ⟨S16384x384, .f32⟩
  | .hbm, ⟨39, _⟩ => ⟨S16384x96, .f32⟩
  | .hbm, ⟨40, _⟩ => ⟨S1x16384x1x96, .f32⟩
  | .hbm, ⟨41, _⟩ => ⟨S1x16384x4x96, .f32⟩
  | .hbm, ⟨42, _⟩ => ⟨S16384x384, .f32⟩
  | .hbm, ⟨43, _⟩ => ⟨S16384x1024, .bf16⟩
  | .hbm, ⟨44, _⟩ => ⟨S16384x32, .f32⟩
  | .local _ .vmem, ⟨0, _⟩ => ⟨S8x1024x96, .f32⟩
  | .local _ .vmem, ⟨1, _⟩ => ⟨S8x1024x96, .f32⟩
  | .local _ .vmem, ⟨2, _⟩ => ⟨S8x1024x64, .f32⟩
  | .local _ .vmem, ⟨3, _⟩ => ⟨S8x1024x64, .f32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | .local _ .vmem, ⟨7, _⟩ => ⟨S1024x16, .f32⟩
  | .local _ .vmem, ⟨8, _⟩ => ⟨S1024x1024, .bf16⟩
  | .local _ .vmem, ⟨9, _⟩ => ⟨S1024x1024, .bf16⟩
  | .local _ .vmem, ⟨10, _⟩ => ⟨S1024x32, .f32⟩
  | .local _ .vmem, ⟨11, _⟩ => ⟨S1024x32, .f32⟩
  | _, _ => ⟨S8x16384x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34_0 : Ref sig .tc := ⟨.hbm, 43, rfl⟩
abbrev main_v34_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KvDxRefIdeal.lean ====
abbrev S8x16384x96 : Shape := ⟨3, ![8, 16384, 96]⟩
abbrev S8x16384x64 : Shape := ⟨3, ![8, 16384, 64]⟩
abbrev S_ : Shape := ⟨0, ![]⟩
abbrev S16384x1024 : Shape := ⟨2, ![16384, 1024]⟩
abbrev S16384x32 : Shape := ⟨2, ![16384, 32]⟩
abbrev S16384x8x128 : Shape := ⟨3, ![16384, 8, 128]⟩
abbrev S8x16384x128 : Shape := ⟨3, ![8, 16384, 128]⟩
abbrev S1x16384x32 : Shape := ⟨3, ![1, 16384, 32]⟩
abbrev S16 : Shape := ⟨1, ![16]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S1x16384x16 : Shape := ⟨3, ![1, 16384, 16]⟩
abbrev S8x16384x32 : Shape := ⟨3, ![8, 16384, 32]⟩

abbrev nBuf : Space → Nat
  | .hbm => 74
  | .vmem => 0
  | .smem => 0
  | _ => 0

abbrev bufTy : (tb : Table) → Fin (tcTables nBuf tb) → BufTy
  | .hbm, ⟨0, _⟩ => ⟨S8x16384x96, .f32⟩
  | .hbm, ⟨1, _⟩ => ⟨S8x16384x64, .f32⟩
  | .hbm, ⟨2, _⟩ => ⟨S_, .f32⟩
  | .hbm, ⟨3, _⟩ => ⟨S16384x1024, .f32⟩
  | .hbm, ⟨4, _⟩ => ⟨S_, .f32⟩
  | .hbm, ⟨5, _⟩ => ⟨S16384x32, .f32⟩
  | .hbm, ⟨6, _⟩ => ⟨S16384x8x128, .f32⟩
  | .hbm, ⟨7, _⟩ => ⟨S8x16384x128, .f32⟩
  | .hbm, ⟨8, _⟩ => ⟨S1x16384x32, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S16384, .f32⟩
  | .hbm, ⟨24, _⟩ => ⟨S16384x1, .f32⟩
  | .hbm, ⟨25, _⟩ => ⟨S1x16, .f32⟩
  | .hbm, ⟨26, _⟩ => ⟨S16384x16, .f32⟩
  | .hbm, ⟨27, _⟩ => ⟨S16384x16, .f32⟩
  | .hbm, ⟨28, _⟩ => ⟨S16384x16, .f32⟩
  | .hbm, ⟨29, _⟩ => ⟨S16384x16, .f32⟩
  | .hbm, ⟨30, _⟩ => ⟨S1x16384x16, .f32⟩
  | .hbm, ⟨31, _⟩ => ⟨S16384x16, .f32⟩
  | .hbm, ⟨32, _⟩ => ⟨S1x16384x16, .f32⟩
  | .hbm, ⟨33, _⟩ => ⟨S1x16384x16, .f32⟩
  | .hbm, ⟨34, _⟩ => ⟨S1x16384x16, .f32⟩
  | .hbm, ⟨35, _⟩ => ⟨S1x16384x16, .f32⟩
  | .hbm, ⟨36, _⟩ => ⟨S1x16384x16, .f32⟩
  | .hbm, ⟨37, _⟩ => ⟨S1x16384x16, .f32⟩
  | .hbm, ⟨38, _⟩ => ⟨S1x16384x16, .f32⟩
  | .hbm, ⟨39, _⟩ => ⟨S1x16384x16, .f32⟩
  | .hbm, ⟨40, _⟩ => ⟨S1x16384x16, .f32⟩
  | .hbm, ⟨41, _⟩ => ⟨S1x16384x32, .f32⟩
  | .hbm, ⟨42, _⟩ => ⟨S8x16384x32, .f32⟩
  | .hbm, ⟨43, _⟩ => ⟨S8x16384x64, .f32⟩
  | .hbm, ⟨44, _⟩ => ⟨S8x16384x96, .f32⟩
  | .hbm, ⟨45, _⟩ => ⟨S8x16384x64, .f32⟩
  | .hbm, ⟨46, _⟩ => ⟨S_, .f32⟩
  | .hbm, ⟨47, _⟩ => ⟨S8x16384x128, .f32⟩
  | .hbm, ⟨48, _⟩ => ⟨S8x16384x64, .f32⟩
  | .hbm, ⟨49, _⟩ => ⟨S8x16384x32, .f32⟩
  | .hbm, ⟨50, _⟩ => ⟨S_, .f32⟩
  | .hbm, ⟨51, _⟩ => ⟨S8x16384x128, .f32⟩
  | .hbm, ⟨52, _⟩ => ⟨S8x16384x128, .f32⟩
  | .hbm, ⟨53, _⟩ => ⟨S_, .f32⟩
  | .hbm, ⟨54, _⟩ => ⟨S16384x32, .f32⟩
  | .hbm, ⟨55, _⟩ => ⟨S1x16384x32, .f32⟩
  | .hbm, ⟨56, _⟩ => ⟨S1x16384x16, .f32⟩
  | .hbm, ⟨57, _⟩ => ⟨S1x16384x16, .f32⟩
  | .hbm, ⟨58, _⟩ => ⟨S1x16384x16, .f32⟩
  | .hbm, ⟨59, _⟩ => ⟨S1x16384x16, .f32⟩
  | .hbm, ⟨60, _⟩ => ⟨S1x16384x16, .f32⟩
  | .hbm, ⟨61, _⟩ => ⟨S1x16384x16, .f32⟩
  | .hbm, ⟨62, _⟩ => ⟨S1x16384x16, .f32⟩
  | .hbm, ⟨63, _⟩ => ⟨S1x16384x16, .f32⟩
  | .hbm, ⟨64, _⟩ => ⟨S1x16384x16, .f32⟩
  | .hbm, ⟨65, _⟩ => ⟨S_, .f32⟩
  | .hbm, ⟨66, _⟩ => ⟨S1x16384x32, .f32⟩
  | .hbm, ⟨67, _⟩ => ⟨S_, .f32⟩
  | .hbm, ⟨68, _⟩ => ⟨S1x16384x32, .f32⟩
  | .hbm, ⟨69, _⟩ => ⟨S1x16384x32, .f32⟩
  | .hbm, ⟨70, _⟩ => ⟨S16384x32, .f32⟩
  | .hbm, ⟨71, _⟩ => ⟨S16384x8x128, .f32⟩
  | .hbm, ⟨72, _⟩ => ⟨S16384x1024, .f32⟩
  | .hbm, ⟨73, _⟩ => ⟨S16384x1024, .bf16⟩
  | _, _ => ⟨S8x16384x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_5 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_6 : Ref sig .tc := ⟨.hbm, 50, rfl⟩
abbrev main_v41 : Ref sig .tc := ⟨.hbm, 51, rfl⟩
abbrev main_v42 : Ref sig .tc := ⟨.hbm, 52, rfl⟩
abbrev main_cst_7 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_8 : Ref sig .tc := ⟨.hbm, 65, rfl⟩
abbrev main_v54 : Ref sig .tc := ⟨.hbm, 66, rfl⟩
abbrev main_cst_9 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩

abbrev nD : Nat := 1
abbrev τ : Topo := Topo.v7x

variable {F : FTy → Type} [FloatOps F]
-- ==== QSplit.lean ====
abbrev S16384x768 : Shape := ⟨2, ![16384, 768]⟩
abbrev S8x16384x96 : Shape := ⟨3, ![8, 16384, 96]⟩
abbrev S2048x768 : Shape := ⟨2, ![2048, 768]⟩
abbrev S8x2048x96 : Shape := ⟨3, ![8, 2048, 96]⟩
abbrev S2048x96 : Shape := ⟨2, ![2048, 96]⟩
abbrev S1x2048x96 : Shape := ⟨3, ![1, 2048, 96]⟩

abbrev nBuf : Space → Nat
  | .hbm => 2
  | .vmem => 4
  | .smem => 0
  | _ => 0

abbrev bufTy : (tb : Table) → Fin (tcTables nBuf tb) → BufTy
  | .hbm, ⟨0, _⟩ => ⟨S16384x768, .bf16⟩
  | .hbm, ⟨1, _⟩ => ⟨S8x16384x96, .bf16⟩
  | .local _ .vmem, ⟨0, _⟩ => ⟨S2048x768, .bf16⟩
  | .local _ .vmem, ⟨1, _⟩ => ⟨S2048x768, .bf16⟩
  | .local _ .vmem, ⟨2, _⟩ => ⟨S8x2048x96, .bf16⟩
  | .local _ .vmem, ⟨3, _⟩ => ⟨S8x2048x96, .bf16⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== QSplitRefIdeal.lean ====
abbrev S16384x768 : Shape := ⟨2, ![16384, 768]⟩
abbrev S16384x8x96 : Shape := ⟨3, ![16384, 8, 96]⟩
abbrev S8x16384x96 : Shape := ⟨3, ![8, 16384, 96]⟩

abbrev nBuf : Space → Nat
  | .hbm => 3
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S16384x8x96, .bf16⟩
  | .hbm, ⟨2, _⟩ => ⟨S8x16384x96, .bf16⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== DoSplit.lean ====
abbrev S16384x512 : Shape := ⟨2, ![16384, 512]⟩
abbrev S8x16384x64 : Shape := ⟨3, ![8, 16384, 64]⟩
abbrev S4096x512 : Shape := ⟨2, ![4096, 512]⟩
abbrev S8x4096x64 : Shape := ⟨3, ![8, 4096, 64]⟩
abbrev S4096x64 : Shape := ⟨2, ![4096, 64]⟩
abbrev S1x4096x64 : Shape := ⟨3, ![1, 4096, 64]⟩

abbrev nBuf : Space → Nat
  | .hbm => 2
  | .vmem => 4
  | .smem => 0
  | _ => 0

abbrev bufTy : (tb : Table) → Fin (tcTables nBuf tb) → BufTy
  | .hbm, ⟨0, _⟩ => ⟨S16384x512, .bf16⟩
  | .hbm, ⟨1, _⟩ => ⟨S8x16384x64, .bf16⟩
  | .local _ .vmem, ⟨0, _⟩ => ⟨S4096x512, .bf16⟩
  | .local _ .vmem, ⟨1, _⟩ => ⟨S4096x512, .bf16⟩
  | .local _ .vmem, ⟨2, _⟩ => ⟨S8x4096x64, .bf16⟩
  | .local _ .vmem, ⟨3, _⟩ => ⟨S8x4096x64, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== DoSplitRefIdeal.lean ====
abbrev S16384x512 : Shape := ⟨2, ![16384, 512]⟩
abbrev S16384x8x64 : Shape := ⟨3, ![16384, 8, 64]⟩
abbrev S8x16384x64 : Shape := ⟨3, ![8, 16384, 64]⟩

abbrev nBuf : Space → Nat
  | .hbm => 3
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x8x64, .bf16⟩
  | .hbm, ⟨2, _⟩ => ⟨S8x16384x64, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== DqMerge.lean ====
abbrev S8x96x16384 : Shape := ⟨3, ![8, 96, 16384]⟩
abbrev S16384x768 : Shape := ⟨2, ![16384, 768]⟩
abbrev S8x96x512 : Shape := ⟨3, ![8, 96, 512]⟩
abbrev S512x768 : Shape := ⟨2, ![512, 768]⟩
abbrev S768x512 : Shape := ⟨2, ![768, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x96x16384, .f32⟩
  | .hbm, ⟨1, _⟩ => ⟨S16384x768, .f32⟩
  | .local _ .vmem, ⟨0, _⟩ => ⟨S8x96x512, .f32⟩
  | .local _ .vmem, ⟨1, _⟩ => ⟨S8x96x512, .f32⟩
  | .local _ .vmem, ⟨2, _⟩ => ⟨S512x768, .f32⟩
  | .local _ .vmem, ⟨3, _⟩ => ⟨S512x768, .f32⟩
  | _, _ => ⟨S8x96x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x96x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== DqMergeRefIdeal.lean ====
abbrev S8x96x16384 : Shape := ⟨3, ![8, 96, 16384]⟩
abbrev S16384x8x96 : Shape := ⟨3, ![16384, 8, 96]⟩
abbrev S16384x768 : Shape := ⟨2, ![16384, 768]⟩

abbrev nBuf : Space → Nat
  | .hbm => 3
  | .vmem => 0
  | .smem => 0
  | _ => 0

abbrev bufTy : (tb : Table) → Fin (tcTables nBuf tb) → BufTy
  | .hbm, ⟨0, _⟩ => ⟨S8x96x16384, .f32⟩
  | .hbm, ⟨1, _⟩ => ⟨S16384x8x96, .f32⟩
  | .hbm, ⟨2, _⟩ => ⟨S16384x768, .f32⟩
  | _, _ => ⟨S8x96x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== OMerge.lean ====
abbrev S8x64x16384 : Shape := ⟨3, ![8, 64, 16384]⟩
abbrev S16384x512 : Shape := ⟨2, ![16384, 512]⟩
abbrev S8x16384x64 : Shape := ⟨3, ![8, 16384, 64]⟩
abbrev S8x64x1024 : Shape := ⟨3, ![8, 64, 1024]⟩
abbrev S1024x512 : Shape := ⟨2, ![1024, 512]⟩
abbrev S8x1024x64 : Shape := ⟨3, ![8, 1024, 64]⟩
abbrev S512x1024 : Shape := ⟨2, ![512, 1024]⟩
abbrev S1024x64 : Shape := ⟨2, ![1024, 64]⟩
abbrev S1x1024x64 : Shape := ⟨3, ![1, 1024, 64]⟩

abbrev nBuf : Space → Nat
  | .hbm => 3
  | .vmem => 6
  | .smem => 0
  | _ => 0

abbrev bufTy : (tb : Table) → Fin (tcTables nBuf tb) → BufTy
  | .hbm, ⟨0, _⟩ => ⟨S8x64x16384, .f32⟩
  | .hbm, ⟨1, _⟩ => ⟨S16384x512, .bf16⟩
  | .hbm, ⟨2, _⟩ => ⟨S8x16384x64, .f32⟩
  | .local _ .vmem, ⟨0, _⟩ => ⟨S8x64x1024, .f32⟩
  | .local _ .vmem, ⟨1, _⟩ => ⟨S8x64x1024, .f32⟩
  | .local _ .vmem, ⟨2, _⟩ => ⟨S1024x512, .bf16⟩
  | .local _ .vmem, ⟨3, _⟩ => ⟨S1024x512, .bf16⟩
  | .local _ .vmem, ⟨4, _⟩ => ⟨S8x1024x64, .f32⟩
  | .local _ .vmem, ⟨5, _⟩ => ⟨S8x1024x64, .f32⟩
  | _, _ => ⟨S8x64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OMergeRefIdeal.lean ====
abbrev S8x64x16384 : Shape := ⟨3, ![8, 64, 16384]⟩
abbrev S16384x8x64 : Shape := ⟨3, ![16384, 8, 64]⟩
abbrev S16384x512 : Shape := ⟨2, ![16384, 512]⟩
abbrev S8x16384x64 : Shape := ⟨3, ![8, 16384, 64]⟩

abbrev nBuf : Space → Nat
  | .hbm => 5
  | .vmem => 0
  | .smem => 0
  | _ => 0

abbrev bufTy : (tb : Table) → Fin (tcTables nBuf tb) → BufTy
  | .hbm, ⟨0, _⟩ => ⟨S8x64x16384, .f32⟩
  | .hbm, ⟨1, _⟩ => ⟨S16384x8x64, .f32⟩
  | .hbm, ⟨2, _⟩ => ⟨S16384x512, .f32⟩
  | .hbm, ⟨3, _⟩ => ⟨S16384x512, .bf16⟩
  | .hbm, ⟨4, _⟩ => ⟨S8x16384x64, .f32⟩
  | _, _ => ⟨S8x64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Proof.Points.lean ====
/- What the case runs of the idealized kernel's frame share: the body's branch conditions in closed form over the
   points, and the staging and scratch memrefs as the pipeline passes them. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of the whole extents recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 512 := Nat.lt_of_lt_of_eq t.isLt N_0
    have e0 : (grid0.coords t 0).val = t.val / 64 % 8 := Pipeline.Grid.coords_val t 0 (by decide) rfl
    have e1 : (grid0.coords t 1).val = t.val / 8 % 8 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 0 (mod 64) — by arithmetic of the point. -/
theorem hcond0_1 : ∀ t : Fin cfg0.N, cond0_1 (grid0.coords t) ↔ t.val % 64 = 0 :=
  (fun t => by
    have ht : t.val < 512 := Nat.lt_of_lt_of_eq t.isLt N_0
    have e0 : (grid0.coords t 0).val = t.val / 64 % 8 := Pipeline.Grid.coords_val t 0 (by decide) rfl
    have e1 : (grid0.coords t 1).val = t.val / 8 % 8 := Pipeline.Grid.coords_val t 1 (by decide) rfl
    have e2 : (grid0.coords t 2).val = t.val / 1 % 8 := Pipeline.Grid.coords_val t 2 (by decide) rfl
    simp only [cond0_1, k0_cond2, e0, e1, e2]
    word_cmp
   : ∀ t : Fin grid0.N, cond0_1 (grid0.coords t) ↔ t.val % 64 = 0)

/-- The condition of the body's `scf.if` 2 (`k0_h3`), from the grid coordinates (the skeleton's scalar
    chain substituted). -/
abbrev cond0_2 (i : grid0.Coords) : Prop := k0_cond3 i = 1#1
/-- It holds at the points whose coordinates have i1 + 1 ≤ i2 — decided over the grid. -/
theorem hcond0_2 : ∀ t : Fin cfg0.N, cond0_2 (grid0.coords t) ↔ t.val / 8 % 8 + 1 ≤ t.val % 8 :=
  (by decide +kernel : ∀ t : Fin grid0.N, cond0_2 (grid0.coords t) ↔ t.val / 8 % 8 + 1 ≤ t.val % 8)

/-- The condition of the body's `scf.if` 3 (`k0_h4`), from the grid coordinates (the skeleton's scalar
    chain substituted). -/
abbrev cond0_3 (i : grid0.Coords) : Prop := k0_cond4 i = 1#1
/-- It holds at the points whose coordinates have i1 = i2 — decided over the grid. -/
theorem hcond0_3 : ∀ t : Fin cfg0.N, cond0_3 (grid0.coords t) ↔ t.val / 8 % 8 = t.val % 8 :=
  (by decide +kernel : ∀ t : Fin grid0.N, cond0_3 (grid0.coords t) ↔ t.val / 8 % 8 = t.val % 8)

/-- The condition of the body's `scf.if` 4 (`k0_h5`), from the grid coordinates (the skeleton's scalar
    chain substituted). -/
abbrev cond0_4 (i : grid0.Coords) : Prop := k0_cond5 i = 1#1
/-- It holds at the points ≡ 7 (mod 8) — by arithmetic of the point. -/
theorem hcond0_4 : ∀ t : Fin cfg0.N, cond0_4 (grid0.coords t) ↔ t.val % 8 = 7 :=
  (fun t => by
    have ht : t.val < 512 := Nat.lt_of_lt_of_eq t.isLt N_0
    have e0 : (grid0.coords t 0).val = t.val / 64 % 8 := Pipeline.Grid.coords_val t 0 (by decide) rfl
    have e1 : (grid0.coords t 1).val = t.val / 8 % 8 := Pipeline.Grid.coords_val t 1 (by decide) rfl
    have e2 : (grid0.coords t 2).val = t.val / 1 % 8 := Pipeline.Grid.coords_val t 2 (by decide) rfl
    simp only [cond0_4, k0_cond5, e0, e1, e2]
    word_cmp
   : ∀ t : Fin grid0.N, cond0_4 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x2048x96 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x96 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x64 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x96x16384 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x96 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048x64 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2048x96 .f32 := Memref.whole cc0_scratch0
abbrev scM0_1 : Memref sig .tc .vmem S2048x64 .f32 := Memref.whole cc0_scratch1
/-- The scratch `arg12` the kernel carries between points, as a view: what it holds is stated through it. -/
abbrev VS0_0 : View sig .tc .vmem S2048x96 .f32 := scM0_0.view
/-- The scratch `arg13` the kernel carries between points, as a view: what it holds is stated through it. -/
abbrev VS0_1 : View sig .tc .vmem S2048x64 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Run

end
-- ==== Proof.Steps.lean ====
module
public import proofs.«01_k».proof.Proof.Points
public import Idealize.ShloMosaic.Lib.Pointwise
public import Idealize.ShloMosaic.Lib.VecWindow
public import Idealize.ShloMosaic.Lib.WholeRead
public import Idealize.ShloMosaic.Lib.WordCmp
@[expose] public section
set_option maxRecDepth 20000

/-!
# What one grid point of the backward kernel adds

The kernel visits a key tile and a query tile of one head. This file names, entry by entry, what one visit adds to the
three accumulators, and proves the lemmas that read a list of stores back.
-/

namespace Cert.KernelIdeal.Run
open Idealize.ShloMosaic Cert.KernelIdeal Cert.KernelIdeal.Gen Idealize.ShloMosaic.TcCoe

/-- The first `v` columns of the value tile are the ones multiplied. -/
def vcol (e : Fin 64) : Fin 128 := ⟨e.val, by omega⟩

/-- The softmax weight of key `r` at query `q` of the two tiles, from the saved log-sum. -/
noncomputable def tileP (x0 x1 : Vec Ideal S1x2048x96 .bf16) (x4 : Vec Ideal S1x8x2048 .f32) (r q : Fin 2048) : EReal :=
  FloatOps.exp2 (F := Ideal) (φ := .f32) ((∑ d : Fin 96, x1 (ix3 0 r d) * x0 (ix3 0 q d)) * Named.named (F := Ideal) (φ := .f32) κ "scale_log2e" 1041680192#32
    - x4 (ix3 0 0 q) * Named.named (F := Ideal) (φ := .f32) κ "log2e" 1069066811#32)

/-- The weight, with the keys after the query left out on the diagonal tile. -/
noncomputable def tileM (diag : Bool) (x0 x1 : Vec Ideal S1x2048x96 .bf16) (x4 : Vec Ideal S1x8x2048 .f32) (r q : Fin 2048) : EReal :=
  if diag = true ∧ q.val < r.val then 0 else tileP x0 x1 x4 r q

/-- The weight's cotangent less the query's mean of it. -/
noncomputable def tileD (x2 : Vec Ideal S1x2048x128 .bf16) (x3 : Vec Ideal S1x2048x64 .f32) (x5 : Vec Ideal S1x2048x64 .bf16) (r q : Fin 2048) : EReal :=
  (∑ e : Fin 64, x2 (ix3 0 r (vcol e)) * x5 (ix3 0 q e)) - ∑ e : Fin 64, x5 (ix3 0 q e) * x3 (ix3 0 q e)

/-- The logit's cotangent, before the scale. -/
noncomputable def tileS (diag : Bool) (x0 x1 : Vec Ideal S1x2048x96 .bf16) (x2 : Vec Ideal S1x2048x128 .bf16) (x3 : Vec Ideal S1x2048x64 .f32)
    (x4 : Vec Ideal S1x8x2048 .f32) (x5 : Vec Ideal S1x2048x64 .bf16) (r q : Fin 2048) : EReal :=
  tileM diag x0 x1 x4 r q * tileD x2 x3 x5 r q

/-- What a visit adds to the value accumulator. -/
noncomputable def addV (diag : Bool) (x0 x1 : Vec Ideal S1x2048x96 .bf16) (x4 : Vec Ideal S1x8x2048 .f32) (x5 : Vec Ideal S1x2048x64 .bf16)
    (r : Fin 2048) (d : Fin 64) : EReal := ∑ q : Fin 2048, tileM diag x0 x1 x4 r q * x5 (ix3 0 q d)

/-- What a visit adds to the key accumulator. -/
noncomputable def addK (diag : Bool) (x0 x1 : Vec Ideal S1x2048x96 .bf16) (x2 : Vec Ideal S1x2048x128 .bf16) (x3 : Vec Ideal S1x2048x64 .f32)
    (x4 : Vec Ideal S1x8x2048 .f32) (x5 : Vec Ideal S1x2048x64 .bf16) (r : Fin 2048) (d : Fin 96) : EReal :=
  ∑ q : Fin 2048, tileS diag x0 x1 x2 x3 x4 x5 r q * x0 (ix3 0 q d)

/-- What a visit adds to the query accumulator at query `q` of the tile. -/
noncomputable def addQ (diag : Bool) (x0 x1 : Vec Ideal S1x2048x96 .bf16) (x2 : Vec Ideal S1x2048x128 .bf16) (x3 : Vec Ideal S1x2048x64 .f32)
    (x4 : Vec Ideal S1x8x2048 .f32) (x5 : Vec Ideal S1x2048x64 .bf16) (d : Fin 96) (q : Fin 2048) : EReal :=
  (∑ r : Fin 2048, x1 (ix3 0 r d) * tileS diag x0 x1 x2 x3 x4 x5 r q) * Named.named (F := Ideal) (φ := .f32) κ "scale" 1037108716#32

noncomputable def stepV (diag : Bool) (x0 x1 : Vec Ideal S1x2048x96 .bf16) (x4 : Vec Ideal S1x8x2048 .f32) (x5 : Vec Ideal S1x2048x64 .bf16)
    (b : Vec Ideal S2048x64 .f32) : Vec Ideal S2048x64 .f32 := fun y => b y + addV diag x0 x1 x4 x5 (y 0) (y 1)

noncomputable def stepK (diag : Bool) (x0 x1 : Vec Ideal S1x2048x96 .bf16) (x2 : Vec Ideal S1x2048x128 .bf16) (x3 : Vec Ideal S1x2048x64 .f32)
    (x4 : Vec Ideal S1x8x2048 .f32) (x5 : Vec Ideal S1x2048x64 .bf16) (b : Vec Ideal S2048x96 .f32) : Vec Ideal S2048x96 .f32 :=
  fun y => b y + addK diag x0 x1 x2 x3 x4 x5 (y 0) (y 1)

/-- Column `col` of the head, as a position in its tile. -/
def colIn (col : Fin 16384) : Fin 2048 := ⟨col.val % 2048, Nat.mod_lt _ (by decide)⟩

noncomputable def stepQ (diag : Bool) (qi : ℕ) (x0 x1 : Vec Ideal S1x2048x96 .bf16) (x2 : Vec Ideal S1x2048x128 .bf16) (x3 : Vec Ideal S1x2048x64 .f32)
    (x4 : Vec Ideal S1x8x2048 .f32) (x5 : Vec Ideal S1x2048x64 .bf16) (b : Vec Ideal S1x96x16384 .f32) : Vec Ideal S1x96x16384 .f32 :=
  fun y => b y + if (y 2).val / 2048 = qi then addQ diag x0 x1 x2 x3 x4 x5 (y 1) (colIn (y 2)) else 0

/-- The key gradient of a tile, written out of its accumulator. -/
noncomputable def outK (b : Vec Ideal S2048x96 .f32) : Vec Ideal S1x2048x96 .f32 :=
  fun y => (b (ix2 (y 1) (y 2)) : EReal) * Named.named (F := Ideal) (φ := .f32) κ "scale" 1037108716#32

/-- The value gradient of a tile, written out of its accumulator. -/
noncomputable def outV (b : Vec Ideal S2048x64 .f32) : Vec Ideal S1x2048x64 .f32 := fun y => b (ix2 (y 1) (y 2))

/-! ### Reading lists of stores back -/

theorem cov13 (m : Memref sig .tc .vmem S2048x64 .f32) (L) (h h') (w : (Rect.unit (s := S2048x64) ![0, 0] ![2048, 64] h').shape.Idx → Elt Ideal .f32) :
    m.view.readCov (Val := Elt Ideal) (⟨Rect.unit (s := S2048x64) ![0, 0] ![2048, 64] h', w⟩ :: L) (Rect.unit (s := S2048x64) ![0, 0] ![2048, 64] h).toLoadRect = w :=
  View.readCov_full _ _ _ _ _
theorem cov12 (m : Memref sig .tc .vmem S2048x96 .f32) (L) (h h') (w : (Rect.unit (s := S2048x96) ![0, 0] ![2048, 96] h').shape.Idx → Elt Ideal .f32) :
    m.view.readCov (Val := Elt Ideal) (⟨Rect.unit (s := S2048x96) ![0, 0] ![2048, 96] h', w⟩ :: L) (Rect.unit (s := S2048x96) ![0, 0] ![2048, 96] h).toLoadRect = w :=
  View.readCov_full _ _ _ _ _
theorem rw13 (m : Memref sig .tc .vmem S2048x64 .f32) (f) (L) (h') (w : (Rect.unit (s := S2048x64) ![0, 0] ![2048, 64] h').shape.Idx → Elt Ideal .f32) :
    m.view.read (Elt Ideal) (m.view.writes (Elt Ideal) f (⟨Rect.unit (s := S2048x64) ![0, 0] ![2048, 64] h', w⟩ :: L)) = w :=
  View.read_writes_full _ _ _ _ _
theorem rw12 (m : Memref sig .tc .vmem S2048x96 .f32) (f) (L) (h') (w : (Rect.unit (s := S2048x96) ![0, 0] ![2048, 96] h').shape.Idx → Elt Ideal .f32) :
    m.view.read (Elt Ideal) (m.view.writes (Elt Ideal) f (⟨Rect.unit (s := S2048x96) ![0, 0] ![2048, 96] h', w⟩ :: L)) = w :=
  View.read_writes_full _ _ _ _ _

/-- A store that adds `t` to the first `n` rows, where `t` is zero on the others. -/
theorem rows_step (n : ℕ) {D : ℕ} (m : Memref sig .tc .vmem ⟨2, ![2048, D]⟩ .f32) (f) (L) (inb)
    (w : (⟨2, ![n, D]⟩ : Shape).Idx → Elt Ideal .f32) (e t : EReal) (r : Fin 2048) (d : Fin D)
    (hw : ∀ hr : r.val < n, w (ix2 ⟨r.val, hr⟩ d) = (m.view.read (Elt Ideal) (m.view.writes (Elt Ideal) f L) (ix2 r d) : EReal) + t)
    (hz : n ≤ r.val → t = 0)
    (he : m.view.read (Elt Ideal) (m.view.writes (Elt Ideal) f L) (ix2 r d) = e) :
    m.view.read (Elt Ideal) (m.view.writes (Elt Ideal) f (⟨Rect.unit (s := ⟨2, ![2048, D]⟩) ![0, 0] ![n, D] inb, w⟩ :: L)) (ix2 r d)
      = e + t := by
  by_cases h : r.val < n
  · rw [← he, ← hw h]
    exact View.read_writes_cons_rows_of_mem (o := 0) _ _ _ _ _ _ _ rfl (by simp) (by simp)
  · rw [hz (by omega), add_zero, ← he]
    exact View.read_writes_cons_rows_of_not_mem (o := 0) (W := n) _ _ _ _ _ _ rfl rfl (.inr (by simp; omega))

/-- On the diagonal tile a key has no weight at an earlier query. -/
theorem tileM_zero (x0 x1 x4) (r q : Fin 2048) (h : q.val < r.val) : tileM true x0 x1 x4 r q = 0 := if_pos ⟨rfl, h⟩

/-- The kernel's choice by comparing row and column numbers. -/
theorem select_le (a b : ℕ) (w v : BitVec 32) (hw : w = BitVec.ofNat 32 a) (hv : v = BitVec.ofNat 32 b) (ha : a < 2048) (hb : b < 2048) (p : EReal) :
    Scalar.select (IntOp.cmpi CmpIPredicate.sle w v) p (0 : EReal) = if b < a then 0 else p := by
  have hiff : (IntOp.cmpi CmpIPredicate.sle w v = 1#1) ↔ a ≤ b := by
    subst hw; subst hv
    exact WordCmp.cmpi_sle_ofNat_eq_one_iff (by omega) (by omega)
  unfold Scalar.select
  by_cases h : b < a
  · rw [if_pos h]
    exact if_neg (fun hc => by have := hiff.mp hc; omega)
  · rw [if_neg h]
    exact if_pos (hiff.mpr (by omega))

/-- The same, the column number being an offset and a position in its chunk. -/
theorem select_off (c a b : ℕ) (w : BitVec 32) (hw : w = BitVec.ofNat 32 c) (ha : a < 2048) (hb : c + b < 2048) (p : EReal) :
    Scalar.select (IntOp.cmpi CmpIPredicate.sle (BitVec.ofNat 32 a) (IntOp.addi w (BitVec.ofNat 32 b))) p (0 : EReal) = if c + b < a then 0 else p := by
  subst hw
  exact select_le a (c + b) _ _ rfl (BitVec.ofNat_add c b).symm ha hb p

/-- The same, for every chunk of a tile at once: the offset is the word the kernel adds. -/
theorem select_word (a b : ℕ) (w : BitVec 32) (ha : a < 2048) (hb : b < 256) (hw : w.toNat ≤ 1792) (p : EReal) :
    Scalar.select (IntOp.cmpi CmpIPredicate.sle (BitVec.ofNat 32 a) (IntOp.addi w (BitVec.ofNat 32 b))) p (0 : EReal) = if w.toNat + b < a then 0 else p :=
  select_off w.toNat a b w (by simp) ha (by omega) p

/-- A load of the first `n` rows reads the buffer's rows. -/
theorem readAt_rows (n : ℕ) {D : ℕ} (m : Memref sig .tc .vmem ⟨2, ![2048, D]⟩ .f32) (f) (inb) (r' : Fin n) (r : Fin 2048) (d : Fin D) (h : r'.val = r.val) :
    View.readAt (Elt Ideal) m.view (Rect.unit (s := ⟨2, ![2048, D]⟩) ![0, 0] ![n, D] inb).toLoadRect f (ix2 r' d)
      = m.view.read (Elt Ideal) f (ix2 r d) := by
  rw [View.readAt_apply]
  congr 1
  funext a
  match a with
  | ⟨0, _⟩ => exact Fin.ext (by show 0 + 1 * r'.val = r.val; omega)
  | ⟨1, _⟩ => exact Fin.ext (by show 0 + 1 * d.val = d.val; omega)

/-- A load of the columns `[o, o + 256)` reads the buffer's columns. -/
theorem readAt_cols (o : ℕ) (m : Memref sig .tc .vmem S1x96x16384 .f32) (f) (off : Fin 3 → ℕ) (inb) (ho : off = ![0, 0, o]) (d : Fin 96) (j : Fin 256)
    (h : o + j.val < 16384) :
    View.readAt (Elt Ideal) m.view (Rect.unit (s := S1x96x16384) off ![1, 96, 256] inb).toLoadRect f (ix3 0 d j)
      = m.view.read (Elt Ideal) f (ix3 0 d ⟨o + j.val, h⟩) := by
  subst ho
  rw [View.readAt_apply]
  congr 1
  funext a
  match a with
  | ⟨0, _⟩ => rfl
  | ⟨1, _⟩ => exact Fin.ext (by show 0 + 1 * d.val = d.val; omega)
  | ⟨2, _⟩ => exact Fin.ext (by show o + 1 * j.val = o + j.val; omega)

/-- A store into the columns `[o, o + 256)` of the head's query accumulator. -/
theorem cols_step (o : ℕ) (m : Memref sig .tc .vmem S1x96x16384 .f32) (f) (L) (off : Fin 3 → ℕ) (inb)
    (w : (⟨3, ![1, 96, 256]⟩ : Shape).Idx → Elt Ideal .f32) (d : Fin 96) (col : Fin 16384) (ho : off = ![0, 0, o]) :
    m.view.read (Elt Ideal) (m.view.writes (Elt Ideal) f (⟨Rect.unit off ![1, 96, 256] inb, w⟩ :: L)) (ix3 0 d col)
      = if h : o ≤ col.val ∧ col.val < o + 256 then (w (ix3 0 d ⟨col.val - o, by omega⟩) : EReal)
        else m.view.read (Elt Ideal) (m.view.writes (Elt Ideal) f L) (ix3 0 d col) := by
  by_cases h : o ≤ col.val ∧ col.val < o + 256
  · rw [dif_pos h]
    refine View.read_writes_cons_unit_of_mem _ _ _ _ _ _ _ ho (fun a => ?_)
    match a with
    | ⟨0, _⟩ => rfl
    | ⟨1, _⟩ => exact (Nat.zero_add _).symm
    | ⟨2, _⟩ =>
      show col.val = o + (col.val - o)
      omega
  · rw [dif_neg h]
    refine View.read_writes_cons_unit_of_not_mem _ _ _ _ _ _ ho (2 : Fin 3) ?_
    show col.val < o ∨ o + 256 ≤ col.val
    omega

/-- The same, adding `A` to what the earlier columns' stores left in a tile from column `2048 * n`. -/
theorem cols_fun (n a a' : ℕ) (m : Memref sig .tc .vmem S1x96x16384 .f32) (f) (L) (off : Fin 3 → ℕ) (inb)
    (w : (⟨3, ![1, 96, 256]⟩ : Shape).Idx → Elt Ideal .f32) (d : Fin 96) (col : Fin 16384) (b A : Fin 16384 → EReal) (ho : off = ![0, 0, 2048 * n + a])
    (ha : a' = a + 256)
    (hw : ∀ (j : Fin 256) (h : 2048 * n + a + j.val < 16384), w (ix3 0 d j) = b ⟨2048 * n + a + j.val, h⟩ + A ⟨2048 * n + a + j.val, h⟩)
    (hr : m.view.read (Elt Ideal) (m.view.writes (Elt Ideal) f L) (ix3 0 d col)
      = b col + if 2048 * n ≤ col.val ∧ col.val < 2048 * n + a then A col else 0) :
    m.view.read (Elt Ideal) (m.view.writes (Elt Ideal) f (⟨Rect.unit off ![1, 96, 256] inb, w⟩ :: L)) (ix3 0 d col)
      = b col + if 2048 * n ≤ col.val ∧ col.val < 2048 * n + a' then A col else 0 := by
  rw [cols_step (2048 * n + a) m f L off inb w d col ho]
  by_cases h : 2048 * n + a ≤ col.val ∧ col.val < 2048 * n + a + 256
  · rw [dif_pos h, hw _ (by show 2048 * n + a + (col.val - (2048 * n + a)) < _; omega), if_pos (by omega)]
    have e : (⟨2048 * n + a + (col.val - (2048 * n + a)), by omega⟩ : Fin 16384) = col := Fin.ext (by show _ + (col.val - _) = _; omega)
    show b ⟨2048 * n + a + (col.val - (2048 * n + a)), _⟩ + A ⟨2048 * n + a + (col.val - (2048 * n + a)), _⟩ = _
    rw [e]
  · rw [dif_neg h, hr]
    congr 1
    by_cases h2 : 2048 * n ≤ col.val ∧ col.val < 2048 * n + a
    · rw [if_pos h2, if_pos (by omega)]
    · rw [if_neg h2, if_neg (by omega)]

/-- The same, where the store's load is of the list before it. -/
theorem cols_load (n a a' : ℕ) (m : Memref sig .tc .vmem S1x96x16384 .f32) (f) (L) (off : Fin 3 → ℕ) (inb)
    (w : (⟨3, ![1, 96, 256]⟩ : Shape).Idx → Elt Ideal .f32) (d : Fin 96) (b A : Fin 16384 → EReal) (ho : off = ![0, 0, 2048 * n + a])
    (ha : a' = a + 256)
    (hw : ∀ (j : Fin 256) (h : 2048 * n + a + j.val < 16384), w (ix3 0 d j)
      = (m.view.read (Elt Ideal) (m.view.writes (Elt Ideal) f L) (ix3 0 d ⟨2048 * n + a + j.val, h⟩) : EReal) + A ⟨2048 * n + a + j.val, h⟩)
    (hr : ∀ col : Fin 16384, m.view.read (Elt Ideal) (m.view.writes (Elt Ideal) f L) (ix3 0 d col)
      = b col + if 2048 * n ≤ col.val ∧ col.val < 2048 * n + a then A col else 0) (col : Fin 16384) :
    m.view.read (Elt Ideal) (m.view.writes (Elt Ideal) f (⟨Rect.unit off ![1, 96, 256] inb, w⟩ :: L)) (ix3 0 d col)
      = b col + if 2048 * n ≤ col.val ∧ col.val < 2048 * n + a' then A col else 0 :=
  cols_fun n a a' m f L off inb w d col b A ho ha
    (fun j h => by rw [hw j h, hr, if_neg (by show ¬(_ ∧ 2048 * n + a + j.val < _); omega), add_zero]) (hr col)

/-- A sum over the tile's keys of terms that vanish from key `n` on. -/
theorem sum_front (n : ℕ) (hn : n ≤ 2048) (g : Fin 2048 → EReal) (hg : ∀ r : Fin 2048, n ≤ r.val → g r = 0) :
    ∑ r : Fin 2048, g r = ∑ r : Fin n, g ⟨r.val, by omega⟩ := by
  rw [Fin.sum_univ_two_halves n (2048 - n) (by omega), Finset.sum_eq_zero (s := (Finset.univ : Finset (Fin (2048 - n)))), add_zero]
  intro x _
  exact hg _ (by show n ≤ n + x.val; omega)

theorem colIn_mk (n a : ℕ) (h) (ha : a < 2048) : colIn ⟨2048 * n + a, h⟩ = ⟨a, ha⟩ :=
  Fin.ext (by show (2048 * n + a) % 2048 = a; omega)

theorem colIn_mk2 (n a j : ℕ) (h) (ha : a + j < 2048) : colIn ⟨2048 * n + a + j, h⟩ = ⟨a + j, ha⟩ :=
  Fin.ext (by show (2048 * n + a + j) % 2048 = a + j; omega)

/-- A sum over the 2048 queries of a tile, in eight chunks of 256. -/
theorem sum_chunks (g : Fin 2048 → EReal) : ∑ q : Fin 2048, g q
    = (∑ x : Fin 256, g ⟨x.val, by omega⟩) + (∑ x : Fin 256, g ⟨256 + x.val, by omega⟩) + (∑ x : Fin 256, g ⟨512 + x.val, by omega⟩)
      + (∑ x : Fin 256, g ⟨768 + x.val, by omega⟩) + (∑ x : Fin 256, g ⟨1024 + x.val, by omega⟩) + (∑ x : Fin 256, g ⟨1280 + x.val, by omega⟩)
      + (∑ x : Fin 256, g ⟨1536 + x.val, by omega⟩) + (∑ x : Fin 256, g ⟨1792 + x.val, by omega⟩) := by
  rw [Fin.sum_univ_tiles 8 256 (by decide)]
  simp only [Fin.sum_univ_eight]
  simp

end Cert.KernelIdeal.Run
end
-- ==== Proof.State.lean ====
module
public import proofs.«01_k».proof.Proof.Steps
public import Idealize.ShloMosaic.Lib.Pipeline.TableIdle
@[expose] public section
set_option maxRecDepth 16384

/-!
# What the accumulators hold after each grid point

The kernel's two scratch accumulators and the query gradient's block, followed from point to point: zeroed at the first
query tile of a key tile (the query gradient: at the first point of a head), and advanced where the query tile is not
before the key tile.
-/

noncomputable section

namespace Cert.KernelIdeal.Run
open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ)

/-- Point `n` of the grid. -/
def pt (n : ℕ) : Fin cfg0.N := ⟨n % 512, lt_of_lt_of_eq (Nat.mod_lt _ (by decide)) (show 512 = cfg0.N from N_0.symm)⟩

theorem pt_val (t : Fin cfg0.N) : pt t.val = t :=
  Fin.ext (Nat.mod_eq_of_lt (lt_of_lt_of_eq t.isLt N_0))

/-- The blocks of the six inputs at point `n`. -/
def b0 (c : Dev nD) (n : ℕ) : Vec Ideal S1x2048x96 .bf16 := iblk m c 0 (pt n)
def b1 (c : Dev nD) (n : ℕ) : Vec Ideal S1x2048x96 .bf16 := iblk m c 1 (pt n)
def b2 (c : Dev nD) (n : ℕ) : Vec Ideal S1x2048x128 .bf16 := iblk m c 2 (pt n)
def b3 (c : Dev nD) (n : ℕ) : Vec Ideal S1x2048x64 .f32 := iblk m c 3 (pt n)
def b4 (c : Dev nD) (n : ℕ) : Vec Ideal S1x8x2048 .f32 := iblk m c 4 (pt n)
def b5 (c : Dev nD) (n : ℕ) : Vec Ideal S1x2048x64 .bf16 := iblk m c 5 (pt n)

/-- Whether point `n` is on the diagonal of tiles. -/
def dg (n : ℕ) : Bool := decide (n / 8 % 8 = n % 8)

/-- One point's effect on the key accumulator, the value accumulator and the query gradient's block. -/
def updK (c : Dev nD) (n : ℕ) (b : Vec Ideal S2048x96 .f32) : Vec Ideal S2048x96 .f32 :=
  if n / 8 % 8 ≤ n % 8 then stepK (dg n) (b0 m c n) (b1 m c n) (b2 m c n) (b3 m c n) (b4 m c n) (b5 m c n) b else b
def updV (c : Dev nD) (n : ℕ) (b : Vec Ideal S2048x64 .f32) : Vec Ideal S2048x64 .f32 :=
  if n / 8 % 8 ≤ n % 8 then stepV (dg n) (b0 m c n) (b1 m c n) (b4 m c n) (b5 m c n) b else b
def updQ (c : Dev nD) (n : ℕ) (b : Vec Ideal S1x96x16384 .f32) : Vec Ideal S1x96x16384 .f32 :=
  if n / 8 % 8 ≤ n % 8 then stepQ (dg n) (n % 8) (b0 m c n) (b1 m c n) (b2 m c n) (b3 m c n) (b4 m c n) (b5 m c n) b else b

/-- What each holds after point `n`. -/
def stK (c : Dev nD) : ℕ → Vec Ideal S2048x96 .f32
  | 0 => updK m c 0 (fun _ => (0 : EReal))
  | n + 1 => updK m c (n + 1) (if (n + 1) % 8 = 0 then (fun _ => (0 : EReal)) else stK c n)
def stV (c : Dev nD) : ℕ → Vec Ideal S2048x64 .f32
  | 0 => updV m c 0 (fun _ => (0 : EReal))
  | n + 1 => updV m c (n + 1) (if (n + 1) % 8 = 0 then (fun _ => (0 : EReal)) else stV c n)
def stQ (c : Dev nD) : ℕ → Vec Ideal S1x96x16384 .f32
  | 0 => updQ m c 0 (fun _ => (0 : EReal))
  | n + 1 => updQ m c (n + 1) (if (n + 1) % 64 = 0 then (fun _ => (0 : EReal)) else stQ c n)

theorem stK_eq (c : Dev nD) (n : ℕ) : stK m c n = updK m c n (if n % 8 = 0 then (fun _ => (0 : EReal)) else stK m c (n - 1)) := by
  cases n with
  | zero => rfl
  | succ n => rfl
theorem stV_eq (c : Dev nD) (n : ℕ) : stV m c n = updV m c n (if n % 8 = 0 then (fun _ => (0 : EReal)) else stV m c (n - 1)) := by
  cases n with
  | zero => rfl
  | succ n => rfl
theorem stQ_eq (c : Dev nD) (n : ℕ) : stQ m c n = updQ m c n (if n % 64 = 0 then (fun _ => (0 : EReal)) else stQ m c (n - 1)) := by
  cases n with
  | zero => rfl
  | succ n => rfl

/-! ### The cases -/

theorem coord2 (t : Fin cfg0.N) : (grid0.coords t 2).val = t.val % 8 := by
  have e2 : (grid0.coords t 2).val = t.val / 1 % 8 := Pipeline.Grid.coords_val t 2 (by decide) rfl
  rw [e2, Nat.div_one]

theorem dg_true {n : ℕ} (h : n / 8 % 8 = n % 8) : dg n = true := decide_eq_true h
theorem dg_false {n : ℕ} (h : ¬ n / 8 % 8 = n % 8) : dg n = false := decide_eq_false h

section
variable (c : Dev nD) (t : Fin cfg0.N)

theorem stK_step {d : Bool} (hd : dg t.val = d) (h : t.val / 8 % 8 ≤ t.val % 8) (h0 : ¬ t.val % 8 = 0) :
    stK m c t.val = stepK d (iblk m c 0 t) (iblk m c 1 t) (iblk m c 2 t) (iblk m c 3 t) (iblk m c 4 t) (iblk m c 5 t) (stK m c (t.val - 1)) := by
  rw [stK_eq, updK, if_pos h, if_neg h0, hd, b0, b1, b2, b3, b4, b5, pt_val]
theorem stV_step {d : Bool} (hd : dg t.val = d) (h : t.val / 8 % 8 ≤ t.val % 8) (h0 : ¬ t.val % 8 = 0) :
    stV m c t.val = stepV d (iblk m c 0 t) (iblk m c 1 t) (iblk m c 4 t) (iblk m c 5 t) (stV m c (t.val - 1)) := by
  rw [stV_eq, updV, if_pos h, if_neg h0, hd, b0, b1, b4, b5, pt_val]
theorem stQ_step {d : Bool} (hd : dg t.val = d) (h : t.val / 8 % 8 ≤ t.val % 8) (h0 : ¬ t.val % 64 = 0) :
    stQ m c t.val = stepQ d (grid0.coords t 2).val (iblk m c 0 t) (iblk m c 1 t) (iblk m c 2 t) (iblk m c 3 t) (iblk m c 4 t) (iblk m c 5 t) (stQ m c (t.val - 1)) := by
  rw [stQ_eq, updQ, if_pos h, if_neg h0, hd, b0, b1, b2, b3, b4, b5, pt_val, coord2]

theorem stK_first (hd : dg t.val = true) (h : t.val / 8 % 8 ≤ t.val % 8) (h0 : t.val % 8 = 0) :
    stK m c t.val = stepK true (iblk m c 0 t) (iblk m c 1 t) (iblk m c 2 t) (iblk m c 3 t) (iblk m c 4 t) (iblk m c 5 t) (fun _ => (0 : EReal)) := by
  rw [stK_eq, updK, if_pos h, if_pos h0, hd, b0, b1, b2, b3, b4, b5, pt_val]
theorem stV_first (hd : dg t.val = true) (h : t.val / 8 % 8 ≤ t.val % 8) (h0 : t.val % 8 = 0) :
    stV m c t.val = stepV true (iblk m c 0 t) (iblk m c 1 t) (iblk m c 4 t) (iblk m c 5 t) (fun _ => (0 : EReal)) := by
  rw [stV_eq, updV, if_pos h, if_pos h0, hd, b0, b1, b4, b5, pt_val]
theorem stQ_first (hd : dg t.val = true) (h : t.val / 8 % 8 ≤ t.val % 8) (h0 : t.val % 64 = 0) :
    stQ m c t.val = stepQ true (grid0.coords t 2).val (iblk m c 0 t) (iblk m c 1 t) (iblk m c 2 t) (iblk m c 3 t) (iblk m c 4 t) (iblk m c 5 t) (fun _ => (0 : EReal)) := by
  rw [stQ_eq, updQ, if_pos h, if_pos h0, hd, b0, b1, b2, b3, b4, b5, pt_val, coord2]

theorem stK_zero (h : ¬ t.val / 8 % 8 ≤ t.val % 8) (h0 : t.val % 8 = 0) : stK m c t.val = fun _ => (0 : EReal) := by
  rw [stK_eq, updK, if_neg h, if_pos h0]
theorem stV_zero (h : ¬ t.val / 8 % 8 ≤ t.val % 8) (h0 : t.val % 8 = 0) : stV m c t.val = fun _ => (0 : EReal) := by
  rw [stV_eq, updV, if_neg h, if_pos h0]

theorem stK_keep (h : ¬ t.val / 8 % 8 ≤ t.val % 8) (h0 : ¬ t.val % 8 = 0) : stK m c t.val = stK m c (t.val - 1) := by
  rw [stK_eq, updK, if_neg h, if_neg h0]
theorem stV_keep (h : ¬ t.val / 8 % 8 ≤ t.val % 8) (h0 : ¬ t.val % 8 = 0) : stV m c t.val = stV m c (t.val - 1) := by
  rw [stV_eq, updV, if_neg h, if_neg h0]
theorem stQ_keep (h : ¬ t.val / 8 % 8 ≤ t.val % 8) (h0 : ¬ t.val % 64 = 0) : stQ m c t.val = stQ m c (t.val - 1) := by
  rw [stQ_eq, updQ, if_neg h, if_neg h0]
end

/-! ### Where the output windows are idle -/

theorem idle6 (t : Fin cfg0.N) : cfg0.idle 6 (grid0.coords t) = !decide (t.val / 8 % 8 ≤ t.val % 8) := by
  have e1 : (k0_cond2 (grid0.coords t) == 1#1) = decide (t.val % 64 = 0) := by
    rw [Bool.eq_iff_iff, beq_iff_eq, decide_eq_true_iff]; exact hcond0_1 t
  have e2 : (k0_cond3 (grid0.coords t) == 1#1) = decide (t.val / 8 % 8 + 1 ≤ t.val % 8) := by
    rw [Bool.eq_iff_iff, beq_iff_eq, decide_eq_true_iff]; exact hcond0_2 t
  have e3 : (k0_cond4 (grid0.coords t) == 1#1) = decide (t.val / 8 % 8 = t.val % 8) := by
    rw [Bool.eq_iff_iff, beq_iff_eq, decide_eq_true_iff]; exact hcond0_3 t
  show (!(k0_cond2 (grid0.coords t) == 1#1) && !(k0_cond3 (grid0.coords t) == 1#1) && !(k0_cond4 (grid0.coords t) == 1#1)) = _
  rw [e1, e2, e3, Bool.eq_iff_iff]
  simp only [Bool.and_eq_true, Bool.not_eq_true', decide_eq_false_iff_not]
  omega

theorem idle7 (t : Fin cfg0.N) : cfg0.idle 7 (grid0.coords t) = !decide (t.val % 8 = 7) := by
  have e1 : (k0_cond5 (grid0.coords t) == 1#1) = decide (t.val % 8 = 7) := by
    rw [Bool.eq_iff_iff, beq_iff_eq, decide_eq_true_iff]; exact hcond0_4 t
  show (!(k0_cond5 (grid0.coords t) == 1#1)) = _
  rw [e1]
theorem idle8 (t : Fin cfg0.N) : cfg0.idle 8 (grid0.coords t) = !decide (t.val % 8 = 7) := idle7 t

theorem flush6 (t : Fin cfg0.N) : (cfg0.win 6).flush t = decide (t.val % 64 = 63) := by
  rw [Bool.eq_iff_iff, decide_eq_true_iff]; exact flush0_6 t
theorem flush7 (t : Fin cfg0.N) : (cfg0.win 7).flush t = decide (t.val % 8 = 7) := by
  rw [Bool.eq_iff_iff, decide_eq_true_iff]; exact flush0_7 t
theorem flush8 (t : Fin cfg0.N) : (cfg0.win 8).flush t = decide (t.val % 8 = 7) := by
  rw [Bool.eq_iff_iff, decide_eq_true_iff]; exact flush0_8 t

/-- The query gradient's buffer is fresh at the first point of a head. -/
theorem fresh6 (n : ℕ) (h : n ≤ cfg0.N) : cfg0.fresh 6 n = decide (n % 64 = 0) :=
  cfg0.fresh_tab 6 (fun n => decide (n % 64 = 0)) rfl (fun t => by
    show decide ((t.val + 1) % 64 = 0) = ((cfg0.win 6).flush t || (cfg0.idle 6 (grid0.coords t) && decide (t.val % 64 = 0)))
    rw [flush6, idle6, Bool.eq_iff_iff]
    simp only [Bool.or_eq_true, Bool.and_eq_true, Bool.not_eq_true', decide_eq_false_iff_not, decide_eq_true_iff]
    omega) n h

end Cert.KernelIdeal.Run

end
-- ==== Proof.Run.lean ====
/- The idealized kernel's body at the points of each case: the run over the skeleton, and the pieces it leaves in every
   buffer it stores into. -/
module

public import proofs.«01_k».proof.Proof.Points

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (c : Dev nD) (i : grid0.Coords) (arg3 : Memref sig .tc .vmem S1x2048x96 .bf16) (harg3 : arg3.IsWhole) (arg4 : Memref sig .tc .vmem S1x2048x96 .bf16) (harg4 : arg4.IsWhole) (arg5 : Memref sig .tc .vmem S1x2048x128 .bf16) (harg5 : arg5.IsWhole) (arg6 : Memref sig .tc .vmem S1x2048x64 .f32) (harg6 : arg6.IsWhole)
  (arg7 : Memref sig .tc .vmem S1x8x2048 .f32) (harg7 : arg7.IsWhole) (arg8 : Memref sig .tc .vmem S1x2048x64 .bf16) (harg8 : arg8.IsWhole) (arg9 : Memref sig .tc .vmem S1x96x16384 .f32) (harg9 : arg9.IsWhole) (arg10 : Memref sig .tc .vmem S1x2048x96 .f32) (harg10 : arg10.IsWhole)
  (arg11 : Memref sig .tc .vmem S1x2048x64 .f32) (harg11 : arg11.IsWhole) (arg12 : Memref sig .tc .vmem S2048x96 .f32) (harg12 : arg12.IsWhole) (arg13 : Memref sig .tc .vmem S2048x64 .f32) (harg13 : arg13.IsWhole)

set_option maxHeartbeats 2000000 in
/-- The body's run in case A (the first key tile and the first query tile of a head): the pieces of every buffer it stores into (last first), and the triple that
    leaves them over what the buffer held (`x·`, or anything where the body stores before it reads). A buffer it does
    not touch is no part of the statement. -/
def runA (hc0 : cond0_0 i) (hc1 : cond0_1 i) (hc2 : ¬cond0_2 i) (hc3 : cond0_3 i) (hc4 : ¬cond0_4 i)
    (x0 : Vec F S1x2048x96 .bf16) (x1 : Vec F S1x2048x96 .bf16) (x2 : Vec F S1x2048x128 .bf16) (x3 : Vec F S1x2048x64 .f32) (x4 : Vec F S1x8x2048 .f32) (x5 : Vec F S1x2048x64 .bf16)  :
    Σ' (L6 : List (View.Piece (Elt F) S1x96x16384 .f32)), Σ' (L9 : List (View.Piece (Elt F) S2048x96 .f32)), { L10 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10)) -∗ K ⟨⟩))
          ⊢ wp frame (wpE (defs₀ (F := F)) Variants.none c none) E (cc0_mla_attn_bwd i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_mla_attn_bwd_eq_skeleton]; unfold cc0_mla_attn_bwd_skel
    simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d9, %f9, -, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H9]; · iexists _; iexact H9
    iexists _; iexact H10

set_option maxHeartbeats 2000000 in
/-- The body's run in case B (a query tile past the key tile, not the last): the pieces of every buffer it stores into (last first), and the triple that
    leaves them over what the buffer held (`x·`, or anything where the body stores before it reads). A buffer it does
    not touch is no part of the statement. -/
def runB (hc0 : ¬cond0_0 i) (hc1 : ¬cond0_1 i) (hc2 : cond0_2 i) (hc3 : ¬cond0_3 i) (hc4 : ¬cond0_4 i)
    (x0 : Vec F S1x2048x96 .bf16) (x1 : Vec F S1x2048x96 .bf16) (x2 : Vec F S1x2048x128 .bf16) (x3 : Vec F S1x2048x64 .f32) (x4 : Vec F S1x8x2048 .f32) (x5 : Vec F S1x2048x64 .bf16) (x6 : Vec F S1x96x16384 .f32) (x9 : Vec F S2048x96 .f32) (x10 : Vec F S2048x64 .f32) :
    Σ' (L6 : List (View.Piece (Elt F) S1x96x16384 .f32)), Σ' (L9 : List (View.Piece (Elt F) S2048x96 .f32)), { L10 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg12 fullShare x9 ∗ owns (c : Thread nD τ) arg13 fullShare x10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg9.view.loc (c : Thread nD τ) ↦[arg9.view.set]{fullShare} arg9.view.writes (Elt F) (harg9.unread x6) L6) ∗ (arg12.view.loc (c : Thread nD τ) ↦[arg12.view.set]{fullShare} arg12.view.writes (Elt F) (harg12.unread x9) L9) ∗ (arg13.view.loc (c : Thread nD τ) ↦[arg13.view.set]{fullShare} arg13.view.writes (Elt F) (harg13.unread x10) L10)) -∗ K ⟨⟩))
          ⊢ wp frame (wpE (defs₀ (F := F)) Variants.none c none) E (cc0_mla_attn_bwd i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_mla_attn_bwd_eq_skeleton]; unfold cc0_mla_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hf9; obtain rfl := harg13.eq_unread hf10
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexact H6
    isplitl [H9]; · iexact H9
    iexact H10

set_option maxHeartbeats 2000000 in
/-- The body's run in case C (the last query tile, past the key tile): the pieces of every buffer it stores into (last first), and the triple that
    leaves them over what the buffer held (`x·`, or anything where the body stores before it reads). A buffer it does
    not touch is no part of the statement. -/
def runC (hc0 : ¬cond0_0 i) (hc1 : ¬cond0_1 i) (hc2 : cond0_2 i) (hc3 : ¬cond0_3 i) (hc4 : cond0_4 i)
    (x0 : Vec F S1x2048x96 .bf16) (x1 : Vec F S1x2048x96 .bf16) (x2 : Vec F S1x2048x128 .bf16) (x3 : Vec F S1x2048x64 .f32) (x4 : Vec F S1x8x2048 .f32) (x5 : Vec F S1x2048x64 .bf16) (x6 : Vec F S1x96x16384 .f32) (x9 : Vec F S2048x96 .f32) (x10 : Vec F S2048x64 .f32) :
    Σ' (L6 : List (View.Piece (Elt F) S1x96x16384 .f32)), Σ' (L7 : List (View.Piece (Elt F) S1x2048x96 .f32)), Σ' (L8 : List (View.Piece (Elt F) S1x2048x64 .f32)), Σ' (L9 : List (View.Piece (Elt F) S2048x96 .f32)), { L10 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ owns (c : Thread nD τ) arg12 fullShare x9 ∗ owns (c : Thread nD τ) arg13 fullShare x10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg9.view.loc (c : Thread nD τ) ↦[arg9.view.set]{fullShare} arg9.view.writes (Elt F) (harg9.unread x6) L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (arg12.view.loc (c : Thread nD τ) ↦[arg12.view.set]{fullShare} arg12.view.writes (Elt F) (harg12.unread x9) L9) ∗ (arg13.view.loc (c : Thread nD τ) ↦[arg13.view.set]{fullShare} arg13.view.writes (Elt F) (harg13.unread x10) L10)) -∗ K ⟨⟩))
          ⊢ wp frame (wpE (defs₀ (F := F)) Variants.none c none) E (cc0_mla_attn_bwd i arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_mla_attn_bwd_eq_skeleton]; unfold cc0_mla_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hf9; obtain rfl := harg13.eq_unread hf10
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexact H6
    isplitl [H7]; · iexists _; iexact H7
    isplitl [H8]; · iexists _; iexact H8
    isplitl [H9]; · iexact H9
    iexact H10

set_option maxHeartbeats 2000000 in
/-- The body's run in case D (the first query tile of a later key tile): the pieces of every buffer it stores into (last first), and the triple that
    leaves them over what the buffer held (`x·`, or anything where the body stores before it reads). A buffer it does
    not touch is no part of the statement. -/
def runD (hc0 : cond0_0 i) (hc1 : ¬cond0_1 i) (hc2 : ¬cond0_2 i) (hc3 : ¬cond0_3 i) (hc4 : ¬cond0_4 i)
    (x0 : Vec F S1x2048x96 .bf16) (x1 : Vec F S1x2048x96 .bf16) (x2 : Vec F S1x2048x128 .bf16) (x3 : Vec F S1x2048x64 .f32) (x4 : Vec F S1x8x2048 .f32) (x5 : Vec F S1x2048x64 .bf16)  :
    Σ' (L9 : List (View.Piece (Elt F) S2048x96 .f32)), { L10 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10)) -∗ K ⟨⟩))
          ⊢ wp frame (wpE (defs₀ (F := F)) Variants.none c none) E (cc0_mla_attn_bwd i arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_mla_attn_bwd_eq_skeleton]; unfold cc0_mla_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d9, %f9, -, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H9]; · iexists _; iexact H9
    iexists _; iexact H10

set_option maxHeartbeats 2000000 in
/-- The body's run in case E (a later tile on the diagonal, not the last): the pieces of every buffer it stores into (last first), and the triple that
    leaves them over what the buffer held (`x·`, or anything where the body stores before it reads). A buffer it does
    not touch is no part of the statement. -/
def runE (hc0 : ¬cond0_0 i) (hc1 : ¬cond0_1 i) (hc2 : ¬cond0_2 i) (hc3 : cond0_3 i) (hc4 : ¬cond0_4 i)
    (x0 : Vec F S1x2048x96 .bf16) (x1 : Vec F S1x2048x96 .bf16) (x2 : Vec F S1x2048x128 .bf16) (x3 : Vec F S1x2048x64 .f32) (x4 : Vec F S1x8x2048 .f32) (x5 : Vec F S1x2048x64 .bf16) (x6 : Vec F S1x96x16384 .f32) (x9 : Vec F S2048x96 .f32) (x10 : Vec F S2048x64 .f32) :
    Σ' (L6 : List (View.Piece (Elt F) S1x96x16384 .f32)), Σ' (L9 : List (View.Piece (Elt F) S2048x96 .f32)), { L10 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg12 fullShare x9 ∗ owns (c : Thread nD τ) arg13 fullShare x10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg9.view.loc (c : Thread nD τ) ↦[arg9.view.set]{fullShare} arg9.view.writes (Elt F) (harg9.unread x6) L6) ∗ (arg12.view.loc (c : Thread nD τ) ↦[arg12.view.set]{fullShare} arg12.view.writes (Elt F) (harg12.unread x9) L9) ∗ (arg13.view.loc (c : Thread nD τ) ↦[arg13.view.set]{fullShare} arg13.view.writes (Elt F) (harg13.unread x10) L10)) -∗ K ⟨⟩))
          ⊢ wp frame (wpE (defs₀ (F := F)) Variants.none c none) E (cc0_mla_attn_bwd i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_mla_attn_bwd_eq_skeleton]; unfold cc0_mla_attn_bwd_skel
    simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hf9; obtain rfl := harg13.eq_unread hf10
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexact H6
    isplitl [H9]; · iexact H9
    iexact H10

set_option maxHeartbeats 2000000 in
/-- The body's run in case F (a query tile before the key tile, not the first): the pieces of every buffer it stores into (last first), and the triple that
    leaves them over what the buffer held (`x·`, or anything where the body stores before it reads). A buffer it does
    not touch is no part of the statement. -/
theorem runF (hc0 : ¬cond0_0 i) (hc1 : ¬cond0_1 i) (hc2 : ¬cond0_2 i) (hc3 : ¬cond0_3 i) (hc4 : ¬cond0_4 i)
    (x0 : Vec F S1x2048x96 .bf16) (x1 : Vec F S1x2048x96 .bf16) (x2 : Vec F S1x2048x128 .bf16) (x3 : Vec F S1x2048x64 .f32) (x4 : Vec F S1x8x2048 .f32) (x5 : Vec F S1x2048x64 .bf16)  :

      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5) -∗ K ⟨⟩))
          ⊢ wp frame (wpE (defs₀ (F := F)) Variants.none c none) E (cc0_mla_attn_bwd i arg3 harg3 arg4 harg4 arg5 harg5 arg6 harg6 arg7 harg7 arg8 harg8 arg9 harg9 arg10 harg10 arg11 harg11 arg12 harg12 arg13 harg13) K := by
  intro E K
  simp only [cc0_mla_attn_bwd_eq_skeleton]; unfold cc0_mla_attn_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec (disch := first | sl_exact hc0 | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr; · ipureintro; exact harg8.read_unread _
  iexact H5

set_option maxHeartbeats 2000000 in
/-- The body's run in case G (the last tile on the diagonal): the pieces of every buffer it stores into (last first), and the triple that
    leaves them over what the buffer held (`x·`, or anything where the body stores before it reads). A buffer it does
    not touch is no part of the statement. -/
def runG (hc0 : ¬cond0_0 i) (hc1 : ¬cond0_1 i) (hc2 : ¬cond0_2 i) (hc3 : cond0_3 i) (hc4 : cond0_4 i)
    (x0 : Vec F S1x2048x96 .bf16) (x1 : Vec F S1x2048x96 .bf16) (x2 : Vec F S1x2048x128 .bf16) (x3 : Vec F S1x2048x64 .f32) (x4 : Vec F S1x8x2048 .f32) (x5 : Vec F S1x2048x64 .bf16) (x6 : Vec F S1x96x16384 .f32) (x9 : Vec F S2048x96 .f32) (x10 : Vec F S2048x64 .f32) :
    Σ' (L6 : List (View.Piece (Elt F) S1x96x16384 .f32)), Σ' (L7 : List (View.Piece (Elt F) S1x2048x96 .f32)), Σ' (L8 : List (View.Piece (Elt F) S1x2048x64 .f32)), Σ' (L9 : List (View.Piece (Elt F) S2048x96 .f32)), { L10 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ owns (c : Thread nD τ) arg12 fullShare x9 ∗ owns (c : Thread nD τ) arg13 fullShare x10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg9.view.loc (c : Thread nD τ) ↦[arg9.view.set]{fullShare} arg9.view.writes (Elt F) (harg9.unread x6) L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (arg12.view.loc (c : Thread nD τ) ↦[arg12.view.set]{fullShare} arg12.view.writes (Elt F) (harg12.unread x9) L9) ∗ (arg13.view.loc (c : Thread nD τ) ↦[arg13.view.set]{fullShare} arg13.view.writes (Elt F) (harg13.unread x10) L10)) -∗ K ⟨⟩))
          ⊢ wp frame (wpE (defs₀ (F := F)) Variants.none c none) E (cc0_mla_attn_bwd i arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_mla_attn_bwd_eq_skeleton]; unfold cc0_mla_attn_bwd_skel
    simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hf9; obtain rfl := harg13.eq_unread hf10
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexact H6
    isplitl [H7]; · iexists _; iexact H7
    isplitl [H8]; · iexists _; iexact H8
    isplitl [H9]; · iexact H9
    iexact H10

end Cert.KernelIdeal.Run

end
-- ==== Proof.ValOff.lean ====
module
public import proofs.«01_k».proof.Proof.Run
public import proofs.«01_k».proof.Proof.Steps
@[expose] public section
set_option maxRecDepth 20000

/-!
# What a visit off the diagonal leaves, and the first visit of a key tile that adds nothing
-/

namespace Cert.KernelIdeal.Run
open Idealize.ShloMosaic Cert.KernelIdeal Cert.KernelIdeal.Gen Idealize.ShloMosaic.TcCoe

variable (c : Dev nD) (i : grid0.Coords) (arg3 : Memref sig .tc .vmem S1x2048x96 .bf16) (harg3 : arg3.IsWhole) (arg4 :
  Memref sig .tc .vmem S1x2048x96 .bf16) (harg4 : arg4.IsWhole) (arg5 : Memref sig .tc .vmem S1x2048x128 .bf16) (harg5
  : arg5.IsWhole) (arg6 : Memref sig .tc .vmem S1x2048x64 .f32) (harg6 : arg6.IsWhole) (arg7 : Memref sig .tc .vmem
  S1x8x2048 .f32) (harg7 : arg7.IsWhole) (arg8 : Memref sig .tc .vmem S1x2048x64 .bf16) (harg8 : arg8.IsWhole) (arg9 :
  Memref sig .tc .vmem S1x96x16384 .f32) (harg9 : arg9.IsWhole) (arg10 : Memref sig .tc .vmem S1x2048x96 .f32) (harg10
  : arg10.IsWhole) (arg11 : Memref sig .tc .vmem S1x2048x64 .f32) (harg11 : arg11.IsWhole) (arg12 : Memref sig .tc
  .vmem S2048x96 .f32) (harg12 : arg12.IsWhole) (arg13 : Memref sig .tc .vmem S2048x64 .f32) (harg13 : arg13.IsWhole)

section D

variable (hc0 : cond0_0 i) (hc1 : ¬cond0_1 i) (hc2 : ¬cond0_2 i) (hc3 : ¬cond0_3 i) (hc4 : ¬cond0_4 i) (x0 : Vec Ideal
  S1x2048x96 .bf16) (x1 : Vec Ideal S1x2048x96 .bf16) (x2 : Vec Ideal S1x2048x128 .bf16) (x3 : Vec Ideal S1x2048x64
  .f32) (x4 : Vec Ideal S1x8x2048 .f32) (x5 : Vec Ideal S1x2048x64 .bf16)

theorem V_D (f) :
    arg13.view.read (Elt Ideal) (arg13.view.writes (Elt Ideal) f (runD c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5).2.1) = fun _ => (0 : EReal) := by
  funext y
  rw [eq_ix2 y]
  unfold runD
  dsimp only
  rw [View.read_writes_full]
  pointwise [k0_pay1, k0_pay2, k0_pay3, k0_pay4, k0_pay5, k0_pay6, k0_pay7, k0_pay8, k0_pay9, k0_pay10, runD.sl.v0, runD.sl.v1, runD.sl.v2]

theorem K_D (f) :
    arg12.view.read (Elt Ideal) (arg12.view.writes (Elt Ideal) f (runD c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5).1) = fun _ => (0 : EReal) := by
  funext y
  rw [eq_ix2 y]
  unfold runD
  dsimp only
  rw [View.read_writes_full]
  pointwise [k0_pay1, k0_pay2, k0_pay3, k0_pay4, k0_pay5, k0_pay6, k0_pay7, k0_pay8, k0_pay9, k0_pay10, runD.sl.v0, runD.sl.v1, runD.sl.v2]

end D

attribute [local pointwise] k0_pay1 k0_pay2 k0_pay3 k0_pay4 k0_pay5 k0_pay6 k0_pay7 k0_pay8 k0_pay9 k0_pay10 k0_pay11 k0_pay12 k0_pay13 k0_pay14 k0_pay15 k0_pay16 k0_pay17
  k0_pay18 k0_pay19 k0_pay20 k0_pay21 k0_pay22 k0_pay23 k0_pay24 k0_pay25 k0_pay26 k0_pay27 k0_pay28 k0_pay29 k0_pay30 k0_pay31 k0_pay32 k0_pay33
  k0_pay34 k0_pay35 k0_pay36 k0_pay37 k0_pay38 k0_pay39 k0_pay40 k0_pay41 k0_pay42 k0_pay43 k0_pay44 k0_pay45 k0_pay46 k0_pay47 k0_pay48 k0_pay49
  k0_pay50 k0_pay51 k0_pay52 k0_pay53 k0_pay54 k0_pay55 k0_pay56 k0_pay57 k0_pay58 k0_pay59 k0_pay60 k0_pay61 k0_pay62 k0_pay63 k0_pay64 k0_pay65
  k0_pay66 k0_pay67 k0_pay68 k0_pay69 k0_pay70 k0_pay71 k0_pay72 k0_pay73 k0_pay74 k0_pay75 k0_pay76 k0_pay77

section B

variable (hc0 : ¬cond0_0 i) (hc1 : ¬cond0_1 i) (hc2 : cond0_2 i) (hc3 : ¬cond0_3 i) (hc4 : ¬cond0_4 i) (x0 : Vec Ideal
  S1x2048x96 .bf16) (x1 : Vec Ideal S1x2048x96 .bf16) (x2 : Vec Ideal S1x2048x128 .bf16) (x3 : Vec Ideal S1x2048x64
  .f32) (x4 : Vec Ideal S1x8x2048 .f32) (x5 : Vec Ideal S1x2048x64 .bf16) (x6 : Vec Ideal S1x96x16384 .f32) (x9 : Vec
  Ideal S2048x96 .f32) (x10 : Vec Ideal S2048x64 .f32)

theorem V_B (f) :
    arg13.view.read (Elt Ideal) (arg13.view.writes (Elt Ideal) f (runB c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.2.1) = stepV false x0 x1 x4 x5 x10 := by
  have key : ∀ (r : Fin 2048) (d : Fin 64), arg13.view.read (Elt Ideal) (arg13.view.writes (Elt Ideal) f (runB c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.2.1) (ix2 r d)
      = (x10 (ix2 r d) : EReal) + addV false x0 x1 x4 x5 r d := by
    intro r d
    unfold runB
    dsimp only
    simp only [runB.sl.H10_1, runB.sl.H10_2, runB.sl.H10_3, runB.sl.H10_4, runB.sl.H10_5, runB.sl.H10_6, runB.sl.H10_7, runB.sl.H9_1, runB.sl.H9_2, runB.sl.H9_3, runB.sl.H9_4, runB.sl.H9_5, runB.sl.H9_6, runB.sl.H9_7, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_4, runB.sl.r_5, runB.sl.r_6, runB.sl.r_7, runB.sl.r_8, runB.sl.r_9, runB.sl.v112, runB.sl.v119, runB.sl.v129, runB.sl.v174, runB.sl.v181, runB.sl.v191, runB.sl.v236, runB.sl.v243, runB.sl.v249, runB.sl.v250, runB.sl.v253, runB.sl.v298, runB.sl.v305, runB.sl.v312, runB.sl.v315, runB.sl.v360, runB.sl.v367, runB.sl.v377, runB.sl.v422, runB.sl.v429, runB.sl.v439, runB.sl.v484, runB.sl.v491, runB.sl.v501, runB.sl.r, cov13, cov12, rw12, rw13]
    pointwise [Memref.IsWhole.readAt_unread]
    simp only [addV, tileM, tileP, Bool.false_eq_true, false_and, if_false]
    rw [sum_chunks]
    simp only [← add_assoc]
  funext y
  rw [eq_ix2 y]
  exact key _ _

theorem K_B (f) :
    arg12.view.read (Elt Ideal) (arg12.view.writes (Elt Ideal) f (runB c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.1) = stepK false x0 x1 x2 x3 x4 x5 x9 := by
  have key : ∀ (r : Fin 2048) (d : Fin 96), arg12.view.read (Elt Ideal) (arg12.view.writes (Elt Ideal) f (runB c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.1) (ix2 r d)
      = (x9 (ix2 r d) : EReal) + addK false x0 x1 x2 x3 x4 x5 r d := by
    intro r d
    unfold runB
    dsimp only
    simp only [runB.sl.H10_1, runB.sl.H10_2, runB.sl.H10_3, runB.sl.H10_4, runB.sl.H10_5, runB.sl.H10_6, runB.sl.H10_7, runB.sl.H9_1, runB.sl.H9_2, runB.sl.H9_3, runB.sl.H9_4, runB.sl.H9_5, runB.sl.H9_6, runB.sl.H9_7, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_4, runB.sl.r_5, runB.sl.r_6, runB.sl.r_7, runB.sl.r_8, runB.sl.r_9, runB.sl.v112, runB.sl.v119, runB.sl.v129, runB.sl.v174, runB.sl.v181, runB.sl.v191, runB.sl.v236, runB.sl.v243, runB.sl.v249, runB.sl.v250, runB.sl.v253, runB.sl.v298, runB.sl.v305, runB.sl.v312, runB.sl.v315, runB.sl.v360, runB.sl.v367, runB.sl.v377, runB.sl.v422, runB.sl.v429, runB.sl.v439, runB.sl.v484, runB.sl.v491, runB.sl.v501, runB.sl.r, cov13, cov12, rw12, rw13]
    pointwise [Memref.IsWhole.readAt_unread]
    simp only [addK, tileS, tileD, tileM, tileP, Bool.false_eq_true, false_and, if_false]
    rw [sum_chunks]
    simp only [← add_assoc]
    rfl
  funext y
  rw [eq_ix2 y]
  exact key _ _

theorem Q_B (f) (hf : arg9.view.read (Elt Ideal) f = x6) :
    arg9.view.read (Elt Ideal) (arg9.view.writes (Elt Ideal) f (runB c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).1) = stepQ false (i 2).val x0 x1 x2 x3 x4 x5 x6 := by
  have key : ∀ (d : Fin 96) (col : Fin 16384), arg9.view.read (Elt Ideal) (arg9.view.writes (Elt Ideal) f (runB c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).1) (ix3 0 d col)
      = (x6 (ix3 0 d col) : EReal) + if col.val / 2048 = (i 2).val then addQ false x0 x1 x2 x3 x4 x5 d (colIn col) else 0 := by
    intro d col
    have h0 : k0_off1 i 0#32 = ![0, 0, 2048 * (i 2).val + 0] := k0_off1_eq i 0
    have h1 : k0_off1 i 256#32 = ![0, 0, 2048 * (i 2).val + 256] := k0_off1_eq i 1
    have h2 : k0_off1 i 512#32 = ![0, 0, 2048 * (i 2).val + 512] := k0_off1_eq i 2
    have h3 : k0_off1 i 768#32 = ![0, 0, 2048 * (i 2).val + 768] := k0_off1_eq i 3
    have h4 : k0_off1 i 1024#32 = ![0, 0, 2048 * (i 2).val + 1024] := k0_off1_eq i 4
    have h5 : k0_off1 i 1280#32 = ![0, 0, 2048 * (i 2).val + 1280] := k0_off1_eq i 5
    have h6 : k0_off1 i 1536#32 = ![0, 0, 2048 * (i 2).val + 1536] := k0_off1_eq i 6
    have h7 : k0_off1 i 1792#32 = ![0, 0, 2048 * (i 2).val + 1792] := k0_off1_eq i 7
    generalize hn : (i 2).val = n at h0 h1 h2 h3 h4 h5 h6 h7 ⊢
    have e : (if col.val / 2048 = n then addQ false x0 x1 x2 x3 x4 x5 d (colIn col) else 0)
        = if 2048 * n ≤ col.val ∧ col.val < 2048 * n + 2048 then addQ false x0 x1 x2 x3 x4 x5 d (colIn col) else 0 :=
      if_congr (by omega) rfl rfl
    rw [e]
    unfold runB
    dsimp only
    iterate 8
      refine cols_fun n _ _ _ _ _ _ _ _ d col (fun col => x6 (ix3 0 d col)) (fun col => addQ false x0 x1 x2 x3 x4 x5 d (colIn col)) (by simp only [h0, h1, h2, h3, h4, h5, h6, h7]) rfl ?_ ?_
      · intro j hj
        beta_reduce
        simp only [runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_4, runB.sl.r_5, runB.sl.r_6, runB.sl.r_7, runB.sl.r_8, runB.sl.r_9, runB.sl.v112, runB.sl.v119, runB.sl.v129, runB.sl.v174, runB.sl.v181, runB.sl.v191, runB.sl.v236, runB.sl.v243, runB.sl.v249, runB.sl.v250, runB.sl.v253, runB.sl.v298, runB.sl.v305, runB.sl.v312, runB.sl.v315, runB.sl.v360, runB.sl.v367, runB.sl.v377, runB.sl.v422, runB.sl.v429, runB.sl.v439, runB.sl.v484, runB.sl.v491, runB.sl.v501, runB.sl.r]
        pointwise [Memref.IsWhole.readAt_unread, h0, h1, h2, h3, h4, h5, h6, h7]
        try simp only [zero_add, Fin.zero_eta, Fin.eta, Fin.isValue]
        first | rw [colIn_mk2 _ _ _ _ (by omega)] | rw [colIn_mk _ _ _ (by omega)]
        simp only [addQ, tileS, tileD, tileM, tileP, Bool.false_eq_true, false_and, if_false]
        first | done | rfl
    rw [View.writes_nil, hf, if_neg (by omega), add_zero]
  funext y
  rw [eq_ix3 y]
  have e0 : y 0 = (0 : Fin 1) := Subsingleton.elim (α := Fin 1) _ _
  rw [e0]
  exact key _ _

end B

section C

variable (hc0 : ¬cond0_0 i) (hc1 : ¬cond0_1 i) (hc2 : cond0_2 i) (hc3 : ¬cond0_3 i) (hc4 : cond0_4 i) (x0 : Vec Ideal
  S1x2048x96 .bf16) (x1 : Vec Ideal S1x2048x96 .bf16) (x2 : Vec Ideal S1x2048x128 .bf16) (x3 : Vec Ideal S1x2048x64
  .f32) (x4 : Vec Ideal S1x8x2048 .f32) (x5 : Vec Ideal S1x2048x64 .bf16) (x6 : Vec Ideal S1x96x16384 .f32) (x9 : Vec
  Ideal S2048x96 .f32) (x10 : Vec Ideal S2048x64 .f32)

theorem V_C (f) :
    arg13.view.read (Elt Ideal) (arg13.view.writes (Elt Ideal) f (runC c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.2.2.2.1) = stepV false x0 x1 x4 x5 x10 := by
  have key : ∀ (r : Fin 2048) (d : Fin 64), arg13.view.read (Elt Ideal) (arg13.view.writes (Elt Ideal) f (runC c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.2.2.2.1) (ix2 r d)
      = (x10 (ix2 r d) : EReal) + addV false x0 x1 x4 x5 r d := by
    intro r d
    unfold runC
    dsimp only
    simp only [runC.sl.H10_1, runC.sl.H10_2, runC.sl.H10_3, runC.sl.H10_4, runC.sl.H10_5, runC.sl.H10_6, runC.sl.H10_7, runC.sl.H10_8, runC.sl.H9_1, runC.sl.H9_2, runC.sl.H9_3, runC.sl.H9_4, runC.sl.H9_5, runC.sl.H9_6, runC.sl.H9_7, runC.sl.H9_8, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_4, runC.sl.r_5, runC.sl.r_6, runC.sl.r_7, runC.sl.r_8, runC.sl.r_9, runC.sl.v112, runC.sl.v119, runC.sl.v129, runC.sl.v17, runC.sl.v174, runC.sl.v181, runC.sl.v191, runC.sl.v23, runC.sl.v236, runC.sl.v243, runC.sl.v249, runC.sl.v250, runC.sl.v253, runC.sl.v298, runC.sl.v305, runC.sl.v312, runC.sl.v315, runC.sl.v360, runC.sl.v367, runC.sl.v377, runC.sl.v422, runC.sl.v429, runC.sl.v439, runC.sl.v484, runC.sl.v491, runC.sl.v501, runC.sl.r, cov13, cov12, rw12, rw13]
    pointwise [Memref.IsWhole.readAt_unread]
    simp only [addV, tileM, tileP, Bool.false_eq_true, false_and, if_false]
    rw [sum_chunks]
    simp only [← add_assoc]
  funext y
  rw [eq_ix2 y]
  exact key _ _

theorem K_C (f) :
    arg12.view.read (Elt Ideal) (arg12.view.writes (Elt Ideal) f (runC c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.2.2.1) = stepK false x0 x1 x2 x3 x4 x5 x9 := by
  have key : ∀ (r : Fin 2048) (d : Fin 96), arg12.view.read (Elt Ideal) (arg12.view.writes (Elt Ideal) f (runC c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.2.2.1) (ix2 r d)
      = (x9 (ix2 r d) : EReal) + addK false x0 x1 x2 x3 x4 x5 r d := by
    intro r d
    unfold runC
    dsimp only
    simp only [runC.sl.H10_1, runC.sl.H10_2, runC.sl.H10_3, runC.sl.H10_4, runC.sl.H10_5, runC.sl.H10_6, runC.sl.H10_7, runC.sl.H10_8, runC.sl.H9_1, runC.sl.H9_2, runC.sl.H9_3, runC.sl.H9_4, runC.sl.H9_5, runC.sl.H9_6, runC.sl.H9_7, runC.sl.H9_8, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_4, runC.sl.r_5, runC.sl.r_6, runC.sl.r_7, runC.sl.r_8, runC.sl.r_9, runC.sl.v112, runC.sl.v119, runC.sl.v129, runC.sl.v17, runC.sl.v174, runC.sl.v181, runC.sl.v191, runC.sl.v23, runC.sl.v236, runC.sl.v243, runC.sl.v249, runC.sl.v250, runC.sl.v253, runC.sl.v298, runC.sl.v305, runC.sl.v312, runC.sl.v315, runC.sl.v360, runC.sl.v367, runC.sl.v377, runC.sl.v422, runC.sl.v429, runC.sl.v439, runC.sl.v484, runC.sl.v491, runC.sl.v501, runC.sl.r, cov13, cov12, rw12, rw13]
    pointwise [Memref.IsWhole.readAt_unread]
    simp only [addK, tileS, tileD, tileM, tileP, Bool.false_eq_true, false_and, if_false]
    rw [sum_chunks]
    simp only [← add_assoc]
    rfl
  funext y
  rw [eq_ix2 y]
  exact key _ _

theorem Q_C (f) (hf : arg9.view.read (Elt Ideal) f = x6) :
    arg9.view.read (Elt Ideal) (arg9.view.writes (Elt Ideal) f (runC c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).1) = stepQ false (i 2).val x0 x1 x2 x3 x4 x5 x6 := by
  have key : ∀ (d : Fin 96) (col : Fin 16384), arg9.view.read (Elt Ideal) (arg9.view.writes (Elt Ideal) f (runC c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).1) (ix3 0 d col)
      = (x6 (ix3 0 d col) : EReal) + if col.val / 2048 = (i 2).val then addQ false x0 x1 x2 x3 x4 x5 d (colIn col) else 0 := by
    intro d col
    have h0 : k0_off1 i 0#32 = ![0, 0, 2048 * (i 2).val + 0] := k0_off1_eq i 0
    have h1 : k0_off1 i 256#32 = ![0, 0, 2048 * (i 2).val + 256] := k0_off1_eq i 1
    have h2 : k0_off1 i 512#32 = ![0, 0, 2048 * (i 2).val + 512] := k0_off1_eq i 2
    have h3 : k0_off1 i 768#32 = ![0, 0, 2048 * (i 2).val + 768] := k0_off1_eq i 3
    have h4 : k0_off1 i 1024#32 = ![0, 0, 2048 * (i 2).val + 1024] := k0_off1_eq i 4
    have h5 : k0_off1 i 1280#32 = ![0, 0, 2048 * (i 2).val + 1280] := k0_off1_eq i 5
    have h6 : k0_off1 i 1536#32 = ![0, 0, 2048 * (i 2).val + 1536] := k0_off1_eq i 6
    have h7 : k0_off1 i 1792#32 = ![0, 0, 2048 * (i 2).val + 1792] := k0_off1_eq i 7
    generalize hn : (i 2).val = n at h0 h1 h2 h3 h4 h5 h6 h7 ⊢
    have e : (if col.val / 2048 = n then addQ false x0 x1 x2 x3 x4 x5 d (colIn col) else 0)
        = if 2048 * n ≤ col.val ∧ col.val < 2048 * n + 2048 then addQ false x0 x1 x2 x3 x4 x5 d (colIn col) else 0 :=
      if_congr (by omega) rfl rfl
    rw [e]
    unfold runC
    dsimp only
    iterate 8
      refine cols_fun n _ _ _ _ _ _ _ _ d col (fun col => x6 (ix3 0 d col)) (fun col => addQ false x0 x1 x2 x3 x4 x5 d (colIn col)) (by simp only [h0, h1, h2, h3, h4, h5, h6, h7]) rfl ?_ ?_
      · intro j hj
        beta_reduce
        simp only [runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_4, runC.sl.r_5, runC.sl.r_6, runC.sl.r_7, runC.sl.r_8, runC.sl.r_9, runC.sl.v112, runC.sl.v119, runC.sl.v129, runC.sl.v17, runC.sl.v174, runC.sl.v181, runC.sl.v191, runC.sl.v23, runC.sl.v236, runC.sl.v243, runC.sl.v249, runC.sl.v250, runC.sl.v253, runC.sl.v298, runC.sl.v305, runC.sl.v312, runC.sl.v315, runC.sl.v360, runC.sl.v367, runC.sl.v377, runC.sl.v422, runC.sl.v429, runC.sl.v439, runC.sl.v484, runC.sl.v491, runC.sl.v501, runC.sl.r]
        pointwise [Memref.IsWhole.readAt_unread, h0, h1, h2, h3, h4, h5, h6, h7]
        try simp only [zero_add, Fin.zero_eta, Fin.eta, Fin.isValue]
        first | rw [colIn_mk2 _ _ _ _ (by omega)] | rw [colIn_mk _ _ _ (by omega)]
        simp only [addQ, tileS, tileD, tileM, tileP, Bool.false_eq_true, false_and, if_false]
        first | done | rfl
    rw [View.writes_nil, hf, if_neg (by omega), add_zero]
  funext y
  rw [eq_ix3 y]
  have e0 : y 0 = (0 : Fin 1) := Subsingleton.elim (α := Fin 1) _ _
  rw [e0]
  exact key _ _

theorem OV_C (f) :
    arg11.view.read (Elt Ideal) (arg11.view.writes (Elt Ideal) f (runC c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.2.1) = outV (stepV false x0 x1 x4 x5 x10) := by
  have h := V_C c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10 (harg13.unread x10)
  funext y
  rw [eq_ix3 y, ← h]
  unfold runC outV
  dsimp only
  rw [View.read_writes_full]
  simp only [runC.sl.v112, runC.sl.v119, runC.sl.v129, runC.sl.v17, runC.sl.v174, runC.sl.v181, runC.sl.v191, runC.sl.v23, runC.sl.v236, runC.sl.v243, runC.sl.v249, runC.sl.v250, runC.sl.v253, runC.sl.v298, runC.sl.v305, runC.sl.v312, runC.sl.v315, runC.sl.v360, runC.sl.v367, runC.sl.v377, runC.sl.v422, runC.sl.v429, runC.sl.v439, runC.sl.v484, runC.sl.v491, runC.sl.v501]
  pointwise
  simp only [runC.sl.H10_8, cov13, rw13]

theorem OK_C (f) :
    arg10.view.read (Elt Ideal) (arg10.view.writes (Elt Ideal) f (runC c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.1) = outK (stepK false x0 x1 x2 x3 x4 x5 x9) := by
  have h := K_C c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10 (harg12.unread x9)
  funext y
  rw [eq_ix3 y, ← h]
  unfold runC outK
  dsimp only
  rw [View.read_writes_full]
  simp only [runC.sl.v112, runC.sl.v119, runC.sl.v129, runC.sl.v17, runC.sl.v174, runC.sl.v181, runC.sl.v191, runC.sl.v23, runC.sl.v236, runC.sl.v243, runC.sl.v249, runC.sl.v250, runC.sl.v253, runC.sl.v298, runC.sl.v305, runC.sl.v312, runC.sl.v315, runC.sl.v360, runC.sl.v367, runC.sl.v377, runC.sl.v422, runC.sl.v429, runC.sl.v439, runC.sl.v484, runC.sl.v491, runC.sl.v501]
  pointwise
  simp only [runC.sl.H9_8, cov12, rw12]

end C

end Cert.KernelIdeal.Run
end
-- ==== Proof.ValOn.lean ====
module
public import proofs.«01_k».proof.Proof.Run
public import proofs.«01_k».proof.Proof.Steps
@[expose] public section
set_option maxRecDepth 20000

/-!
# What a visit on the diagonal leaves
-/

namespace Cert.KernelIdeal.Run
open Idealize.ShloMosaic Cert.KernelIdeal Cert.KernelIdeal.Gen Idealize.ShloMosaic.TcCoe

variable (c : Dev nD) (i : grid0.Coords) (arg3 : Memref sig .tc .vmem S1x2048x96 .bf16) (harg3 : arg3.IsWhole) (arg4 :
  Memref sig .tc .vmem S1x2048x96 .bf16) (harg4 : arg4.IsWhole) (arg5 : Memref sig .tc .vmem S1x2048x128 .bf16) (harg5
  : arg5.IsWhole) (arg6 : Memref sig .tc .vmem S1x2048x64 .f32) (harg6 : arg6.IsWhole) (arg7 : Memref sig .tc .vmem
  S1x8x2048 .f32) (harg7 : arg7.IsWhole) (arg8 : Memref sig .tc .vmem S1x2048x64 .bf16) (harg8 : arg8.IsWhole) (arg9 :
  Memref sig .tc .vmem S1x96x16384 .f32) (harg9 : arg9.IsWhole) (arg10 : Memref sig .tc .vmem S1x2048x96 .f32) (harg10
  : arg10.IsWhole) (arg11 : Memref sig .tc .vmem S1x2048x64 .f32) (harg11 : arg11.IsWhole) (arg12 : Memref sig .tc
  .vmem S2048x96 .f32) (harg12 : arg12.IsWhole) (arg13 : Memref sig .tc .vmem S2048x64 .f32) (harg13 : arg13.IsWhole)

attribute [local pointwise] k0_pay1 k0_pay2 k0_pay3 k0_pay4 k0_pay5 k0_pay6 k0_pay7 k0_pay8 k0_pay9 k0_pay10 k0_pay77 k0_pay78 k0_pay79 k0_pay80 k0_pay81 k0_pay82 k0_pay83
  k0_pay84 k0_pay85 k0_pay86 k0_pay87 k0_pay88 k0_pay89 k0_pay90 k0_pay91 k0_pay92 k0_pay93 k0_pay94 k0_pay95 k0_pay96 k0_pay97 k0_pay98 k0_pay99
  k0_pay100 k0_pay101 k0_pay102 k0_pay103 k0_pay104 k0_pay105 k0_pay106 k0_pay107 k0_pay108 k0_pay109 k0_pay110 k0_pay111 k0_pay112 k0_pay113 k0_pay114
  k0_pay115 k0_pay116 k0_pay117 k0_pay118 k0_pay119 k0_pay120 k0_pay121 k0_pay122 k0_pay123 k0_pay124 k0_pay125 k0_pay126 k0_pay127 k0_pay128 k0_pay129
  k0_pay130 k0_pay131 k0_pay132 k0_pay133 k0_pay134 k0_pay135 k0_pay136 k0_pay137

section A

attribute [local pointwise] runA.sl.r_1 runA.sl.r_10 runA.sl.r_11 runA.sl.r_12 runA.sl.r_13 runA.sl.r_14 runA.sl.r_15 runA.sl.r_16 runA.sl.r_17 runA.sl.r_18 runA.sl.r_19
  runA.sl.r_2 runA.sl.r_20 runA.sl.r_21 runA.sl.r_22 runA.sl.r_23 runA.sl.r_24 runA.sl.r_25 runA.sl.r_26 runA.sl.r_27 runA.sl.r_28 runA.sl.r_29
  runA.sl.r_3 runA.sl.r_30 runA.sl.r_31 runA.sl.r_32 runA.sl.r_33 runA.sl.r_34 runA.sl.r_35 runA.sl.r_4 runA.sl.r_5 runA.sl.r_6 runA.sl.r_7 runA.sl.r_8
  runA.sl.r_9 runA.sl.v126 runA.sl.v133 runA.sl.v143 runA.sl.v195 runA.sl.v202 runA.sl.v212 runA.sl.v264 runA.sl.v271 runA.sl.v281 runA.sl.v333
  runA.sl.v340 runA.sl.v350 runA.sl.v402 runA.sl.v409 runA.sl.v419 runA.sl.v471 runA.sl.v478 runA.sl.v488 runA.sl.v540 runA.sl.v547 runA.sl.v557
  runA.sl.v57 runA.sl.v64 runA.sl.v74 runA.sl.r runA.sl.cst_251

variable (hc0 : cond0_0 i) (hc1 : cond0_1 i) (hc2 : ¬cond0_2 i) (hc3 : cond0_3 i) (hc4 : ¬cond0_4 i) (x0 : Vec Ideal
  S1x2048x96 .bf16) (x1 : Vec Ideal S1x2048x96 .bf16) (x2 : Vec Ideal S1x2048x128 .bf16) (x3 : Vec Ideal S1x2048x64
  .f32) (x4 : Vec Ideal S1x8x2048 .f32) (x5 : Vec Ideal S1x2048x64 .bf16)

theorem V_A :
    arg13.view.read (Elt Ideal) (arg13.view.writes (Elt Ideal) arg13.view.junk (runA c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5).2.2.1) = stepV true x0 x1 x4 x5 (fun _ => (0 : EReal)) := by
  have key : ∀ (r : Fin 2048) (d : Fin 64), arg13.view.read (Elt Ideal) (arg13.view.writes (Elt Ideal) arg13.view.junk (runA c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5).2.2.1) (ix2 r d)
      = (0 : EReal) + addV true x0 x1 x4 x5 r d := by
    intro r d
    unfold addV
    rw [sum_chunks]
    simp only [← add_assoc]
    unfold runA
    dsimp only
    iterate 8
      refine rows_step _ _ _ _ _ _ _ _ r d ?_ ?_ ?_
      · intro hr
        pointwise [Memref.IsWhole.readAt_unread, View.readCov]
        try rw [readAt_rows _ _ _ _ ⟨r.val, hr⟩ r d rfl]
        try rw [View.writes_nil, Memref.IsWhole.read_unread]
        congr 1
        refine Finset.sum_congr rfl fun x _ => ?_
        simp (disch := first | omega | decide) only [select_word, BitVec.toNat_ofNat, Nat.reduceMod, Nat.reducePow, tileS, tileD, tileM, tileP, true_and, Nat.zero_add]
        split_ifs <;> first | rfl | simp only [zero_mul, mul_zero, mul_assoc]
      · intro hr
        exact Finset.sum_eq_zero fun x _ => by rw [tileM_zero _ _ _ _ _ (by first | (show _ + x.val < r.val; omega) | (show x.val < r.val; omega)), zero_mul]
      try first | unfold runA.sl.H10_8 | unfold runA.sl.H10_7 | unfold runA.sl.H10_6 | unfold runA.sl.H10_5 | unfold runA.sl.H10_4 | unfold runA.sl.H10_3 | unfold runA.sl.H10_2
    unfold runA.sl.H10_1
    rw [View.read_writes_full]
    pointwise
  funext y
  rw [eq_ix2 y]
  exact key _ _

theorem K_A :
    arg12.view.read (Elt Ideal) (arg12.view.writes (Elt Ideal) arg12.view.junk (runA c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5).2.1) = stepK true x0 x1 x2 x3 x4 x5 (fun _ => (0 : EReal)) := by
  have key : ∀ (r : Fin 2048) (d : Fin 96), arg12.view.read (Elt Ideal) (arg12.view.writes (Elt Ideal) arg12.view.junk (runA c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5).2.1) (ix2 r d)
      = (0 : EReal) + addK true x0 x1 x2 x3 x4 x5 r d := by
    intro r d
    unfold addK
    rw [sum_chunks]
    simp only [← add_assoc]
    unfold runA
    dsimp only
    iterate 8
      refine rows_step _ _ _ _ _ _ _ _ r d ?_ ?_ ?_
      · intro hr
        pointwise [Memref.IsWhole.readAt_unread, View.readCov]
        try rw [readAt_rows _ _ _ _ ⟨r.val, hr⟩ r d rfl]
        try rw [View.writes_nil, Memref.IsWhole.read_unread]
        congr 1
        refine Finset.sum_congr rfl fun x _ => ?_
        simp (disch := first | omega | decide) only [select_word, BitVec.toNat_ofNat, Nat.reduceMod, Nat.reducePow, tileS, tileD, tileM, tileP, true_and, Nat.zero_add]
        split_ifs <;> first | rfl | simp only [zero_mul, mul_zero, mul_assoc]
      · intro hr
        exact Finset.sum_eq_zero fun x _ => by unfold tileS; rw [tileM_zero _ _ _ _ _ (by first | (show _ + x.val < r.val; omega) | (show x.val < r.val; omega)), zero_mul, zero_mul]
      try first | unfold runA.sl.H9_8 | unfold runA.sl.H9_7 | unfold runA.sl.H9_6 | unfold runA.sl.H9_5 | unfold runA.sl.H9_4 | unfold runA.sl.H9_3 | unfold runA.sl.H9_2
    unfold runA.sl.H9_1
    rw [View.read_writes_full]
    pointwise
  funext y
  rw [eq_ix2 y]
  exact key _ _

theorem Q_A :
    arg9.view.read (Elt Ideal) (arg9.view.writes (Elt Ideal) arg9.view.junk (runA c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5).1) = stepQ true (i 2).val x0 x1 x2 x3 x4 x5 (fun _ => (0 : EReal)) := by
  have key : ∀ (d : Fin 96) (col : Fin 16384), arg9.view.read (Elt Ideal) (arg9.view.writes (Elt Ideal) arg9.view.junk (runA c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5).1) (ix3 0 d col)
      = (0 : EReal) + if col.val / 2048 = (i 2).val then addQ true x0 x1 x2 x3 x4 x5 d (colIn col) else 0 := by
    intro d col
    have h0 : k0_off2 i 0#32 = ![0, 0, 2048 * (i 2).val + 0] := k0_off2_eq i 0
    have h1 : k0_off2 i 256#32 = ![0, 0, 2048 * (i 2).val + 256] := k0_off2_eq i 1
    have h2 : k0_off2 i 512#32 = ![0, 0, 2048 * (i 2).val + 512] := k0_off2_eq i 2
    have h3 : k0_off2 i 768#32 = ![0, 0, 2048 * (i 2).val + 768] := k0_off2_eq i 3
    have h4 : k0_off2 i 1024#32 = ![0, 0, 2048 * (i 2).val + 1024] := k0_off2_eq i 4
    have h5 : k0_off2 i 1280#32 = ![0, 0, 2048 * (i 2).val + 1280] := k0_off2_eq i 5
    have h6 : k0_off2 i 1536#32 = ![0, 0, 2048 * (i 2).val + 1536] := k0_off2_eq i 6
    have h7 : k0_off2 i 1792#32 = ![0, 0, 2048 * (i 2).val + 1792] := k0_off2_eq i 7
    generalize hn : (i 2).val = n at h0 h1 h2 h3 h4 h5 h6 h7 ⊢
    refine Eq.trans (b := 0 + if 2048 * n ≤ col.val ∧ col.val < 2048 * n + 2048 then addQ true x0 x1 x2 x3 x4 x5 d (colIn col) else 0) ?_
      (congrArg (fun z => (0 : EReal) + z) (if_congr (by omega) rfl rfl))
    revert col
    unfold runA
    dsimp only
    iterate 8
      refine cols_load n _ _ _ _ _ _ _ _ d (fun _ => 0) (fun col => addQ true x0 x1 x2 x3 x4 x5 d (colIn col)) (by simp only [h0, h1, h2, h3, h4, h5, h6, h7]) rfl ?_ ?_
      · intro j hj
        beta_reduce
        pointwise [Memref.IsWhole.readAt_unread]
        rw [readAt_cols _ _ _ _ _ (by simp only [h0, h1, h2, h3, h4, h5, h6, h7]) d j hj]
        first | rw [colIn_mk2 _ _ _ _ (by omega)] | rw [colIn_mk _ _ _ (by omega)]
        unfold addQ
        refine congrArg₂ (· + ·) rfl (congrArg (· * _) ((Finset.sum_congr rfl fun x _ => ?_).trans (sum_front _ ?_ _ fun q hq => ?_).symm))
        · simp (disch := first | omega | decide) only [select_word, BitVec.toNat_ofNat, Nat.reduceMod, Nat.reducePow, tileS, tileD, tileM, tileP, true_and, Nat.zero_add]
          split_ifs <;> first | rfl | simp only [zero_mul, mul_zero, mul_assoc]
        · omega
        · unfold tileS
          rw [tileM_zero _ _ _ _ _ (by first | (show _ + j.val < q.val; omega) | (show j.val < q.val; omega)), zero_mul, mul_zero]
      try first | unfold runA.sl.H6_8 | unfold runA.sl.H6_7 | unfold runA.sl.H6_6 | unfold runA.sl.H6_5 | unfold runA.sl.H6_4 | unfold runA.sl.H6_3 | unfold runA.sl.H6_2
    intro col
    unfold runA.sl.H6_1
    rw [View.read_writes_full, if_neg (by omega)]
    pointwise
    try rw [add_zero]
  funext y
  rw [eq_ix3 y]
  have e0 : y 0 = (0 : Fin 1) := Subsingleton.elim (α := Fin 1) _ _
  rw [e0]
  exact key _ _

end A

section E

attribute [local pointwise] runE.sl.r_1 runE.sl.r_10 runE.sl.r_11 runE.sl.r_12 runE.sl.r_13 runE.sl.r_14 runE.sl.r_15 runE.sl.r_16 runE.sl.r_17 runE.sl.r_18 runE.sl.r_19
  runE.sl.r_2 runE.sl.r_20 runE.sl.r_21 runE.sl.r_22 runE.sl.r_23 runE.sl.r_24 runE.sl.r_25 runE.sl.r_26 runE.sl.r_27 runE.sl.r_28 runE.sl.r_29
  runE.sl.r_3 runE.sl.r_30 runE.sl.r_31 runE.sl.r_32 runE.sl.r_33 runE.sl.r_34 runE.sl.r_35 runE.sl.r_4 runE.sl.r_5 runE.sl.r_6 runE.sl.r_7 runE.sl.r_8
  runE.sl.r_9 runE.sl.v126 runE.sl.v133 runE.sl.v143 runE.sl.v195 runE.sl.v202 runE.sl.v212 runE.sl.v264 runE.sl.v271 runE.sl.v281 runE.sl.v333
  runE.sl.v340 runE.sl.v350 runE.sl.v402 runE.sl.v409 runE.sl.v419 runE.sl.v471 runE.sl.v478 runE.sl.v488 runE.sl.v540 runE.sl.v547 runE.sl.v557
  runE.sl.r runE.sl.cst_251

variable (hc0 : ¬cond0_0 i) (hc1 : ¬cond0_1 i) (hc2 : ¬cond0_2 i) (hc3 : cond0_3 i) (hc4 : ¬cond0_4 i) (x0 : Vec Ideal
  S1x2048x96 .bf16) (x1 : Vec Ideal S1x2048x96 .bf16) (x2 : Vec Ideal S1x2048x128 .bf16) (x3 : Vec Ideal S1x2048x64
  .f32) (x4 : Vec Ideal S1x8x2048 .f32) (x5 : Vec Ideal S1x2048x64 .bf16) (x6 : Vec Ideal S1x96x16384 .f32) (x9 : Vec
  Ideal S2048x96 .f32) (x10 : Vec Ideal S2048x64 .f32)

theorem V_E :
    arg13.view.read (Elt Ideal) (arg13.view.writes (Elt Ideal) (harg13.unread x10) (runE c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.2.1) = stepV true x0 x1 x4 x5 x10 := by
  have key : ∀ (r : Fin 2048) (d : Fin 64), arg13.view.read (Elt Ideal) (arg13.view.writes (Elt Ideal) (harg13.unread x10) (runE c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.2.1) (ix2 r d)
      = (x10 (ix2 r d) : EReal) + addV true x0 x1 x4 x5 r d := by
    intro r d
    unfold addV
    rw [sum_chunks]
    simp only [← add_assoc]
    unfold runE
    dsimp only
    iterate 8
      refine rows_step _ _ _ _ _ _ _ _ r d ?_ ?_ ?_
      · intro hr
        pointwise [Memref.IsWhole.readAt_unread, View.readCov]
        try rw [readAt_rows _ _ _ _ ⟨r.val, hr⟩ r d rfl]
        try rw [View.writes_nil, Memref.IsWhole.read_unread]
        congr 1
        refine Finset.sum_congr rfl fun x _ => ?_
        simp (disch := first | omega | decide) only [select_word, BitVec.toNat_ofNat, Nat.reduceMod, Nat.reducePow, tileS, tileD, tileM, tileP, true_and, Nat.zero_add]
        split_ifs <;> first | rfl | simp only [zero_mul, mul_zero, mul_assoc]
      · intro hr
        exact Finset.sum_eq_zero fun x _ => by rw [tileM_zero _ _ _ _ _ (by first | (show _ + x.val < r.val; omega) | (show x.val < r.val; omega)), zero_mul]
      try first | unfold runE.sl.H10_8 | unfold runE.sl.H10_7 | unfold runE.sl.H10_6 | unfold runE.sl.H10_5 | unfold runE.sl.H10_4 | unfold runE.sl.H10_3 | unfold runE.sl.H10_2 | unfold runE.sl.H10_1
    rw [View.writes_nil, Memref.IsWhole.read_unread]
  funext y
  rw [eq_ix2 y]
  exact key _ _

theorem K_E :
    arg12.view.read (Elt Ideal) (arg12.view.writes (Elt Ideal) (harg12.unread x9) (runE c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.1) = stepK true x0 x1 x2 x3 x4 x5 x9 := by
  have key : ∀ (r : Fin 2048) (d : Fin 96), arg12.view.read (Elt Ideal) (arg12.view.writes (Elt Ideal) (harg12.unread x9) (runE c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.1) (ix2 r d)
      = (x9 (ix2 r d) : EReal) + addK true x0 x1 x2 x3 x4 x5 r d := by
    intro r d
    unfold addK
    rw [sum_chunks]
    simp only [← add_assoc]
    unfold runE
    dsimp only
    iterate 8
      refine rows_step _ _ _ _ _ _ _ _ r d ?_ ?_ ?_
      · intro hr
        pointwise [Memref.IsWhole.readAt_unread, View.readCov]
        try rw [readAt_rows _ _ _ _ ⟨r.val, hr⟩ r d rfl]
        try rw [View.writes_nil, Memref.IsWhole.read_unread]
        congr 1
        refine Finset.sum_congr rfl fun x _ => ?_
        simp (disch := first | omega | decide) only [select_word, BitVec.toNat_ofNat, Nat.reduceMod, Nat.reducePow, tileS, tileD, tileM, tileP, true_and, Nat.zero_add]
        split_ifs <;> first | rfl | simp only [zero_mul, mul_zero, mul_assoc]
      · intro hr
        exact Finset.sum_eq_zero fun x _ => by unfold tileS; rw [tileM_zero _ _ _ _ _ (by first | (show _ + x.val < r.val; omega) | (show x.val < r.val; omega)), zero_mul, zero_mul]
      try first | unfold runE.sl.H9_8 | unfold runE.sl.H9_7 | unfold runE.sl.H9_6 | unfold runE.sl.H9_5 | unfold runE.sl.H9_4 | unfold runE.sl.H9_3 | unfold runE.sl.H9_2 | unfold runE.sl.H9_1
    rw [View.writes_nil, Memref.IsWhole.read_unread]
  funext y
  rw [eq_ix2 y]
  exact key _ _

theorem Q_E :
    arg9.view.read (Elt Ideal) (arg9.view.writes (Elt Ideal) (harg9.unread x6) (runE c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).1) = stepQ true (i 2).val x0 x1 x2 x3 x4 x5 x6 := by
  have key : ∀ (d : Fin 96) (col : Fin 16384), arg9.view.read (Elt Ideal) (arg9.view.writes (Elt Ideal) (harg9.unread x6) (runE c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).1) (ix3 0 d col)
      = (x6 (ix3 0 d col) : EReal) + if col.val / 2048 = (i 2).val then addQ true x0 x1 x2 x3 x4 x5 d (colIn col) else 0 := by
    intro d col
    have h0 : k0_off2 i 0#32 = ![0, 0, 2048 * (i 2).val + 0] := k0_off2_eq i 0
    have h1 : k0_off2 i 256#32 = ![0, 0, 2048 * (i 2).val + 256] := k0_off2_eq i 1
    have h2 : k0_off2 i 512#32 = ![0, 0, 2048 * (i 2).val + 512] := k0_off2_eq i 2
    have h3 : k0_off2 i 768#32 = ![0, 0, 2048 * (i 2).val + 768] := k0_off2_eq i 3
    have h4 : k0_off2 i 1024#32 = ![0, 0, 2048 * (i 2).val + 1024] := k0_off2_eq i 4
    have h5 : k0_off2 i 1280#32 = ![0, 0, 2048 * (i 2).val + 1280] := k0_off2_eq i 5
    have h6 : k0_off2 i 1536#32 = ![0, 0, 2048 * (i 2).val + 1536] := k0_off2_eq i 6
    have h7 : k0_off2 i 1792#32 = ![0, 0, 2048 * (i 2).val + 1792] := k0_off2_eq i 7
    generalize hn : (i 2).val = n at h0 h1 h2 h3 h4 h5 h6 h7 ⊢
    have e : (if col.val / 2048 = n then addQ true x0 x1 x2 x3 x4 x5 d (colIn col) else 0)
        = if 2048 * n ≤ col.val ∧ col.val < 2048 * n + 2048 then addQ true x0 x1 x2 x3 x4 x5 d (colIn col) else 0 :=
      if_congr (by omega) rfl rfl
    rw [e]
    unfold runE
    dsimp only
    iterate 8
      refine cols_fun n _ _ _ _ _ _ _ _ d col (fun col => x6 (ix3 0 d col)) (fun col => addQ true x0 x1 x2 x3 x4 x5 d (colIn col)) (by simp only [h0, h1, h2, h3, h4, h5, h6, h7]) rfl ?_ ?_
      · intro j hj
        beta_reduce
        pointwise [Memref.IsWhole.readAt_unread, h0, h1, h2, h3, h4, h5, h6, h7]
        try simp only [zero_add, Fin.zero_eta, Fin.eta, Fin.isValue]
        first | rw [colIn_mk2 _ _ _ _ (by omega)] | rw [colIn_mk _ _ _ (by omega)]
        unfold addQ
        refine congrArg₂ (· + ·) rfl (congrArg (· * _) ((Finset.sum_congr rfl fun x _ => ?_).trans (sum_front _ ?_ _ fun q hq => ?_).symm))
        · simp (disch := first | omega | decide) only [select_word, BitVec.toNat_ofNat, Nat.reduceMod, Nat.reducePow, tileS, tileD, tileM, tileP, true_and, Nat.zero_add]
          split_ifs <;> first | rfl | simp only [zero_mul, mul_zero, mul_assoc]
        · omega
        · unfold tileS
          rw [tileM_zero _ _ _ _ _ (by first | (show _ + j.val < q.val; omega) | (show j.val < q.val; omega)), zero_mul, mul_zero]
    rw [View.writes_nil, Memref.IsWhole.read_unread, if_neg (by omega), add_zero]
  funext y
  rw [eq_ix3 y]
  have e0 : y 0 = (0 : Fin 1) := Subsingleton.elim (α := Fin 1) _ _
  rw [e0]
  exact key _ _

end E

section G

attribute [local pointwise] runG.sl.r_1 runG.sl.r_10 runG.sl.r_11 runG.sl.r_12 runG.sl.r_13 runG.sl.r_14 runG.sl.r_15 runG.sl.r_16 runG.sl.r_17 runG.sl.r_18 runG.sl.r_19
  runG.sl.r_2 runG.sl.r_20 runG.sl.r_21 runG.sl.r_22 runG.sl.r_23 runG.sl.r_24 runG.sl.r_25 runG.sl.r_26 runG.sl.r_27 runG.sl.r_28 runG.sl.r_29
  runG.sl.r_3 runG.sl.r_30 runG.sl.r_31 runG.sl.r_32 runG.sl.r_33 runG.sl.r_34 runG.sl.r_35 runG.sl.r_4 runG.sl.r_5 runG.sl.r_6 runG.sl.r_7 runG.sl.r_8
  runG.sl.r_9 runG.sl.v126 runG.sl.v133 runG.sl.v143 runG.sl.v17 runG.sl.v195 runG.sl.v202 runG.sl.v212 runG.sl.v23 runG.sl.v264 runG.sl.v271
  runG.sl.v281 runG.sl.v333 runG.sl.v340 runG.sl.v350 runG.sl.v402 runG.sl.v409 runG.sl.v419 runG.sl.v471 runG.sl.v478 runG.sl.v488 runG.sl.v540
  runG.sl.v547 runG.sl.v557 runG.sl.r runG.sl.cst_251

variable (hc0 : ¬cond0_0 i) (hc1 : ¬cond0_1 i) (hc2 : ¬cond0_2 i) (hc3 : cond0_3 i) (hc4 : cond0_4 i) (x0 : Vec Ideal
  S1x2048x96 .bf16) (x1 : Vec Ideal S1x2048x96 .bf16) (x2 : Vec Ideal S1x2048x128 .bf16) (x3 : Vec Ideal S1x2048x64
  .f32) (x4 : Vec Ideal S1x8x2048 .f32) (x5 : Vec Ideal S1x2048x64 .bf16) (x6 : Vec Ideal S1x96x16384 .f32) (x9 : Vec
  Ideal S2048x96 .f32) (x10 : Vec Ideal S2048x64 .f32)

theorem V_G :
    arg13.view.read (Elt Ideal) (arg13.view.writes (Elt Ideal) (harg13.unread x10) (runG c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.2.2.2.1) = stepV true x0 x1 x4 x5 x10 := by
  have key : ∀ (r : Fin 2048) (d : Fin 64), arg13.view.read (Elt Ideal) (arg13.view.writes (Elt Ideal) (harg13.unread x10) (runG c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.2.2.2.1) (ix2 r d)
      = (x10 (ix2 r d) : EReal) + addV true x0 x1 x4 x5 r d := by
    intro r d
    unfold addV
    rw [sum_chunks]
    simp only [← add_assoc]
    unfold runG
    dsimp only
    iterate 8
      refine rows_step _ _ _ _ _ _ _ _ r d ?_ ?_ ?_
      · intro hr
        pointwise [Memref.IsWhole.readAt_unread, View.readCov]
        try rw [readAt_rows _ _ _ _ ⟨r.val, hr⟩ r d rfl]
        try rw [View.writes_nil, Memref.IsWhole.read_unread]
        congr 1
        refine Finset.sum_congr rfl fun x _ => ?_
        simp (disch := first | omega | decide) only [select_word, BitVec.toNat_ofNat, Nat.reduceMod, Nat.reducePow, tileS, tileD, tileM, tileP, true_and, Nat.zero_add]
        split_ifs <;> first | rfl | simp only [zero_mul, mul_zero, mul_assoc]
      · intro hr
        exact Finset.sum_eq_zero fun x _ => by rw [tileM_zero _ _ _ _ _ (by first | (show _ + x.val < r.val; omega) | (show x.val < r.val; omega)), zero_mul]
      try first | unfold runG.sl.H10_8 | unfold runG.sl.H10_7 | unfold runG.sl.H10_6 | unfold runG.sl.H10_5 | unfold runG.sl.H10_4 | unfold runG.sl.H10_3 | unfold runG.sl.H10_2 | unfold runG.sl.H10_1
    rw [View.writes_nil, Memref.IsWhole.read_unread]
  funext y
  rw [eq_ix2 y]
  exact key _ _

theorem K_G :
    arg12.view.read (Elt Ideal) (arg12.view.writes (Elt Ideal) (harg12.unread x9) (runG c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.2.2.1) = stepK true x0 x1 x2 x3 x4 x5 x9 := by
  have key : ∀ (r : Fin 2048) (d : Fin 96), arg12.view.read (Elt Ideal) (arg12.view.writes (Elt Ideal) (harg12.unread x9) (runG c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.2.2.1) (ix2 r d)
      = (x9 (ix2 r d) : EReal) + addK true x0 x1 x2 x3 x4 x5 r d := by
    intro r d
    unfold addK
    rw [sum_chunks]
    simp only [← add_assoc]
    unfold runG
    dsimp only
    iterate 8
      refine rows_step _ _ _ _ _ _ _ _ r d ?_ ?_ ?_
      · intro hr
        pointwise [Memref.IsWhole.readAt_unread, View.readCov]
        try rw [readAt_rows _ _ _ _ ⟨r.val, hr⟩ r d rfl]
        try rw [View.writes_nil, Memref.IsWhole.read_unread]
        congr 1
        refine Finset.sum_congr rfl fun x _ => ?_
        simp (disch := first | omega | decide) only [select_word, BitVec.toNat_ofNat, Nat.reduceMod, Nat.reducePow, tileS, tileD, tileM, tileP, true_and, Nat.zero_add]
        split_ifs <;> first | rfl | simp only [zero_mul, mul_zero, mul_assoc]
      · intro hr
        exact Finset.sum_eq_zero fun x _ => by unfold tileS; rw [tileM_zero _ _ _ _ _ (by first | (show _ + x.val < r.val; omega) | (show x.val < r.val; omega)), zero_mul, zero_mul]
      try first | unfold runG.sl.H9_8 | unfold runG.sl.H9_7 | unfold runG.sl.H9_6 | unfold runG.sl.H9_5 | unfold runG.sl.H9_4 | unfold runG.sl.H9_3 | unfold runG.sl.H9_2 | unfold runG.sl.H9_1
    rw [View.writes_nil, Memref.IsWhole.read_unread]
  funext y
  rw [eq_ix2 y]
  exact key _ _

theorem Q_G :
    arg9.view.read (Elt Ideal) (arg9.view.writes (Elt Ideal) (harg9.unread x6) (runG c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).1) = stepQ true (i 2).val x0 x1 x2 x3 x4 x5 x6 := by
  have key : ∀ (d : Fin 96) (col : Fin 16384), arg9.view.read (Elt Ideal) (arg9.view.writes (Elt Ideal) (harg9.unread x6) (runG c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).1) (ix3 0 d col)
      = (x6 (ix3 0 d col) : EReal) + if col.val / 2048 = (i 2).val then addQ true x0 x1 x2 x3 x4 x5 d (colIn col) else 0 := by
    intro d col
    have h0 : k0_off2 i 0#32 = ![0, 0, 2048 * (i 2).val + 0] := k0_off2_eq i 0
    have h1 : k0_off2 i 256#32 = ![0, 0, 2048 * (i 2).val + 256] := k0_off2_eq i 1
    have h2 : k0_off2 i 512#32 = ![0, 0, 2048 * (i 2).val + 512] := k0_off2_eq i 2
    have h3 : k0_off2 i 768#32 = ![0, 0, 2048 * (i 2).val + 768] := k0_off2_eq i 3
    have h4 : k0_off2 i 1024#32 = ![0, 0, 2048 * (i 2).val + 1024] := k0_off2_eq i 4
    have h5 : k0_off2 i 1280#32 = ![0, 0, 2048 * (i 2).val + 1280] := k0_off2_eq i 5
    have h6 : k0_off2 i 1536#32 = ![0, 0, 2048 * (i 2).val + 1536] := k0_off2_eq i 6
    have h7 : k0_off2 i 1792#32 = ![0, 0, 2048 * (i 2).val + 1792] := k0_off2_eq i 7
    generalize hn : (i 2).val = n at h0 h1 h2 h3 h4 h5 h6 h7 ⊢
    have e : (if col.val / 2048 = n then addQ true x0 x1 x2 x3 x4 x5 d (colIn col) else 0)
        = if 2048 * n ≤ col.val ∧ col.val < 2048 * n + 2048 then addQ true x0 x1 x2 x3 x4 x5 d (colIn col) else 0 :=
      if_congr (by omega) rfl rfl
    rw [e]
    unfold runG
    dsimp only
    iterate 8
      refine cols_fun n _ _ _ _ _ _ _ _ d col (fun col => x6 (ix3 0 d col)) (fun col => addQ true x0 x1 x2 x3 x4 x5 d (colIn col)) (by simp only [h0, h1, h2, h3, h4, h5, h6, h7]) rfl ?_ ?_
      · intro j hj
        beta_reduce
        pointwise [Memref.IsWhole.readAt_unread, h0, h1, h2, h3, h4, h5, h6, h7]
        try simp only [zero_add, Fin.zero_eta, Fin.eta, Fin.isValue]
        first | rw [colIn_mk2 _ _ _ _ (by omega)] | rw [colIn_mk _ _ _ (by omega)]
        unfold addQ
        refine congrArg₂ (· + ·) rfl (congrArg (· * _) ((Finset.sum_congr rfl fun x _ => ?_).trans (sum_front _ ?_ _ fun q hq => ?_).symm))
        · simp (disch := first | omega | decide) only [select_word, BitVec.toNat_ofNat, Nat.reduceMod, Nat.reducePow, tileS, tileD, tileM, tileP, true_and, Nat.zero_add]
          split_ifs <;> first | rfl | simp only [zero_mul, mul_zero, mul_assoc]
        · omega
        · unfold tileS
          rw [tileM_zero _ _ _ _ _ (by first | (show _ + j.val < q.val; omega) | (show j.val < q.val; omega)), zero_mul, mul_zero]
    rw [View.writes_nil, Memref.IsWhole.read_unread, if_neg (by omega), add_zero]
  funext y
  rw [eq_ix3 y]
  have e0 : y 0 = (0 : Fin 1) := Subsingleton.elim (α := Fin 1) _ _
  rw [e0]
  exact key _ _

theorem OV_G (f) :
    arg11.view.read (Elt Ideal) (arg11.view.writes (Elt Ideal) f (runG c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.2.1) = outV (stepV true x0 x1 x4 x5 x10) := by
  have h := V_G c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10
  funext y
  rw [eq_ix3 y, ← h]
  unfold runG outV
  dsimp only
  rw [View.read_writes_full]
  simp only [runG.sl.v126, runG.sl.v133, runG.sl.v143, runG.sl.v17, runG.sl.v195, runG.sl.v202, runG.sl.v212, runG.sl.v23, runG.sl.v264, runG.sl.v271, runG.sl.v281, runG.sl.v333, runG.sl.v340, runG.sl.v350, runG.sl.v402, runG.sl.v409, runG.sl.v419, runG.sl.v471, runG.sl.v478, runG.sl.v488, runG.sl.v540, runG.sl.v547, runG.sl.v557]
  pointwise
  simp only [runG.sl.H10_8, cov13, rw13]

theorem OK_G (f) :
    arg10.view.read (Elt Ideal) (arg10.view.writes (Elt Ideal) f (runG c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10).2.1) = outK (stepK true x0 x1 x2 x3 x4 x5 x9) := by
  have h := K_G c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 x6 x9 x10
  funext y
  rw [eq_ix3 y, ← h]
  unfold runG outK
  dsimp only
  rw [View.read_writes_full]
  simp only [runG.sl.v126, runG.sl.v133, runG.sl.v143, runG.sl.v17, runG.sl.v195, runG.sl.v202, runG.sl.v212, runG.sl.v23, runG.sl.v264, runG.sl.v271, runG.sl.v281, runG.sl.v333, runG.sl.v340, runG.sl.v350, runG.sl.v402, runG.sl.v409, runG.sl.v419, runG.sl.v471, runG.sl.v478, runG.sl.v488, runG.sl.v540, runG.sl.v547, runG.sl.v557]
  pointwise
  simp only [runG.sl.H9_8, cov12, rw12]

end G

end Cert.KernelIdeal.Run
end
-- ==== Proof.Frame.lean ====
module
public import proofs.«01_k».proof.Proof.State
public import Idealize.ShloMosaic.Lib.Claim
public import proofs.«01_k».proof.Proof.ValOff
public import proofs.«01_k».proof.Proof.ValOn
@[expose] public section
set_option maxRecDepth 16384

/-!
# The frame run of the idealized kernel

The pipeline's proof data with the accumulators of `State` named at every point, the body obligation by the seven cases,
and the run to the final arrays.
-/

noncomputable section

namespace Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- What the region's scoped rest holds before point `n`: anything at first, then the accumulators after the point before. -/
def PhiS (c : Dev nD) : ℕ → sProp 𝕄
  | 0 => Pipeline.ΦA spec0 c
  | n + 1 => iprop(iprop(owns (c : Thread nD τ) scM0_0 fullShare (stK m c n) ∗ owns (c : Thread nD τ) scM0_1 fullShare (stV m c n)) ∗ (∃ r, prngReg c r))

theorem PhiS_pos (c : Dev nD) (n : ℕ) (hz : n ≠ 0) :
    PhiS m c n = iprop(iprop(owns (c : Thread nD τ) scM0_0 fullShare (stK m c (n - 1)) ∗ owns (c : Thread nD τ) scM0_1 fullShare (stV m c (n - 1))) ∗ (∃ r, prngReg c r)) := by
  cases n with
  | zero => exact absurd rfl hz
  | succ n => rfl

/-- The accumulators' contents forgotten. -/
theorem PhiS_any (c : Dev nD) (n : ℕ) : PhiS m c n ⊢ Pipeline.ΦA spec0 c := by
  cases n with
  | zero => exact Idealize.SL.BI.Entails.refl _
  | succ n =>
    rw [PhiS_pos m c _ (Nat.succ_ne_zero n), PhiA0_eq]
    iintro ⟨⟨HS0, HS1⟩, Hg⟩
    isplitl [HS0 HS1]
    · isplitl [HS0]
      · iexists _; iexact HS0
      iexists _; iexact HS1
    iexact Hg

/-- The proof data of the pipeline on core `c`: inputs at their blocks, the query gradient's block and the two written
    blocks at the accumulators. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => stQ m c t.val
    | ⟨7, _⟩ => outK (stK m c t.val)
    | ⟨8, _⟩ => outV (stV m c t.val)
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = stQ m c t.val := by dsimp only [dats]
theorem after0_7 (c : Dev nD) (t : Fin cfg0.N) : (dats m 0 c).after 7 t = outK (stK m c t.val) := by dsimp only [dats]
theorem after0_8 (c : Dev nD) (t : Fin cfg0.N) : (dats m 0 c).after 8 t = outV (stV m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The query gradient's buffer holds what the point before left, past a head's first point. -/
theorem before0_6 (c : Dev nD) (t : Fin cfg0.N) (h : ¬ t.val % 64 = 0) (d) : (dats m 0 c).before 6 t d = stQ m c (t.val - 1) := by
  rw [(dats m 0 c).before_out_traj 6 rfl (fun _ _ => rfl) (fun s hs hi hf => by
    rw [fresh6 s.val s.isLt.le, decide_eq_false_iff_not] at hf
    rw [idle6, Bool.not_eq_true', decide_eq_false_iff_not] at hi
    rw [after0_6, after0_6]
    exact stQ_keep m c s hi hf) t.val t rfl d, fresh6 t.val t.isLt.le, if_neg (by simpa using h), after0_6]

/-! ## What the body leaves in each window's buffer -/

theorem lv0 (c : Dev nD) (t : Fin cfg0.N) : (dats m 0 c).leavesExact 0 t = owns (c : Thread nD τ) (ms0_0 t) fullShare (iblk m c 0 t) := by
  unfold Dat.leavesExact; rw [liveAt0_0 t, after0_0]
theorem lv1 (c : Dev nD) (t : Fin cfg0.N) : (dats m 0 c).leavesExact 1 t = owns (c : Thread nD τ) (ms0_1 t) fullShare (iblk m c 1 t) := by
  unfold Dat.leavesExact; rw [liveAt0_1 t, after0_1]
theorem lv2 (c : Dev nD) (t : Fin cfg0.N) : (dats m 0 c).leavesExact 2 t = owns (c : Thread nD τ) (ms0_2 t) fullShare (iblk m c 2 t) := by
  unfold Dat.leavesExact; rw [liveAt0_2 t, after0_2]
theorem lv3 (c : Dev nD) (t : Fin cfg0.N) : (dats m 0 c).leavesExact 3 t = owns (c : Thread nD τ) (ms0_3 t) fullShare (iblk m c 3 t) := by
  unfold Dat.leavesExact; rw [liveAt0_3 t, after0_3]
theorem lv4 (c : Dev nD) (t : Fin cfg0.N) : (dats m 0 c).leavesExact 4 t = owns (c : Thread nD τ) (ms0_4 t) fullShare (iblk m c 4 t) := by
  unfold Dat.leavesExact; rw [liveAt0_4 t, after0_4]
theorem lv5 (c : Dev nD) (t : Fin cfg0.N) : (dats m 0 c).leavesExact 5 t = owns (c : Thread nD τ) (ms0_5 t) fullShare (iblk m c 5 t) := by
  unfold Dat.leavesExact; rw [liveAt0_5 t, after0_5]
theorem lv6 (c : Dev nD) (t : Fin cfg0.N) (h : t.val / 8 % 8 ≤ t.val % 8) :
    (dats m 0 c).leavesExact 6 t = owns (c : Thread nD τ) (ms0_6 t) fullShare (stQ m c t.val) := by
  unfold Dat.leavesExact; rw [show cfg0.idle 6 (cfg0.grid.coords t) = false from by rw [idle6 t, decide_eq_true h]; rfl, after0_6]
theorem lv6_idle (c : Dev nD) (t : Fin cfg0.N) (h : ¬ t.val / 8 % 8 ≤ t.val % 8) :
    (dats m 0 c).leavesExact 6 t = iprop(∃ d, owns (c : Thread nD τ) (ms0_6 t) fullShare ((dats m 0 c).before 6 t d)) :=
  (dats m 0 c).leavesExact_idle 6 t ((idle6 t).trans (by rw [decide_eq_false h]; rfl)) ((flush6 t).trans (decide_eq_false (by omega)))
theorem lv7 (c : Dev nD) (t : Fin cfg0.N) (h : t.val % 8 = 7) :
    (dats m 0 c).leavesExact 7 t = owns (c : Thread nD τ) (ms0_7 t) fullShare (outK (stK m c t.val)) := by
  unfold Dat.leavesExact; rw [show cfg0.idle 7 (cfg0.grid.coords t) = false from by rw [idle7 t, decide_eq_true h]; rfl, after0_7]
theorem lv7_idle (c : Dev nD) (t : Fin cfg0.N) (h : ¬ t.val % 8 = 7) :
    (dats m 0 c).leavesExact 7 t = iprop(∃ d, owns (c : Thread nD τ) (ms0_7 t) fullShare ((dats m 0 c).before 7 t d)) :=
  (dats m 0 c).leavesExact_idle 7 t ((idle7 t).trans (by rw [decide_eq_false h]; rfl)) ((flush7 t).trans (decide_eq_false h))
theorem lv8 (c : Dev nD) (t : Fin cfg0.N) (h : t.val % 8 = 7) :
    (dats m 0 c).leavesExact 8 t = owns (c : Thread nD τ) (ms0_8 t) fullShare (outV (stV m c t.val)) := by
  unfold Dat.leavesExact; rw [show cfg0.idle 8 (cfg0.grid.coords t) = false from by rw [idle8 t, decide_eq_true h]; rfl, after0_8]
theorem lv8_idle (c : Dev nD) (t : Fin cfg0.N) (h : ¬ t.val % 8 = 7) :
    (dats m 0 c).leavesExact 8 t = iprop(∃ d, owns (c : Thread nD τ) (ms0_8 t) fullShare ((dats m 0 c).before 8 t d)) :=
  (dats m 0 c).leavesExact_idle 8 t ((idle8 t).trans (by rw [decide_eq_false h]; rfl)) ((flush8 t).trans (decide_eq_false h))

/-! ## The body, case by case -/

/-- What the body is called with at point `t`, the windows one by one, -/
def bodyPre (c : Dev nD) (t : Fin cfg0.N) : sProp 𝕄 :=
  iprop(PhiS m c t.val ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop(PhiS m c (t.val + 1) ∗ (dats m 0 c).owesAt () t.castSucc
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body's triple in case A. -/
theorem bodyA (c : Dev nD) (t : Fin cfg0.N) (h0 : t.val % 8 = 0) (h1 : t.val % 64 = 0) (h2 : ¬ t.val / 8 % 8 + 1 ≤ t.val % 8) (h3 : t.val / 8 % 8 = t.val % 8) (h4 : ¬ t.val % 8 = 7) :
    bodyPre m c t ⊢ wp frame (wpE (defs₀ (F := Ideal)) Variants.none c none) Set.univ (bodyAt0 t) (fun _ => bodyPost m c t) := by
  have hN : t.val < 512 := lt_of_lt_of_eq t.isLt (show cfg0.N = 512 from N_0)
  have hle : t.val / 8 % 8 ≤ t.val % 8 := by omega
  unfold bodyPre bodyPost bodyAt0
  refine BIBase.Entails.trans (Laws.sep_mono_left (PhiS_any m c t.val)) ?_
  rw [PhiA0_eq]
  rw [PhiS_pos m c (t.val + 1) (Nat.succ_ne_zero _), Nat.add_sub_cancel]
  rw [lv0, lv1, lv2, lv3, lv4, lv5, lv6 m c t hle, lv7_idle m c t h4, lv8_idle m c t h4]
  simp only [before0_0, before0_1, before0_2, before0_3, before0_4, before0_5]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runA c (grid0.coords t) _ _ _ _ _ _ _ _ _ _ _ _ _ _ _ _ _ _ _ _ _ _ ((hcond0_0 t).mpr h0) ((hcond0_1 t).mpr h1) (mt (hcond0_2 t).mp h2) ((hcond0_3 t).mpr h3) (mt (hcond0_4 t).mp h4) (iblk m c 0 t) (iblk m c 1 t) (iblk m c 2 t) (iblk m c 3 t) (iblk m c 4 t) (iblk m c 5 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%eH6, H6⟩, ⟨%eHS0, HS0⟩, ⟨%eHS1, HS1⟩⟩
  isplitl [HS0 HS1 Hg]
  · isplitl [HS0 HS1]
    · isplitl [HS0]
      · unfold owns; iexists _; isplitr
        swap; · iexact HS0
        ipureintro; exact (View.read_writes_of_cover _ _ _ _ _ (View.cover_of_wholeMem _ (by sl_whole_mem))).trans ((K_A ..).trans (stK_first m c t (dg_true h3) hle h0).symm)
      unfold owns; iexists _; isplitr
      swap; · iexact HS1
      ipureintro; exact (View.read_writes_of_cover _ _ _ _ _ (View.cover_of_wholeMem _ (by sl_whole_mem))).trans ((V_A ..).trans (stV_first m c t (dg_true h3) hle h0).symm)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (View.read_writes_of_cover _ _ _ _ _ (View.cover_of_wholeMem _ (by sl_whole_mem))).trans ((Q_A ..).trans (stQ_first m c t (dg_true h3) hle h1).symm)
  isplitl [H7]; · iexists _; iexact H7
  iexists _; iexact H8

set_option maxHeartbeats 4000000 in
/-- The body's triple in case B. -/
theorem bodyB (c : Dev nD) (t : Fin cfg0.N) (h0 : ¬ t.val % 8 = 0) (h1 : ¬ t.val % 64 = 0) (h2 : t.val / 8 % 8 + 1 ≤ t.val % 8) (h3 : ¬ t.val / 8 % 8 = t.val % 8) (h4 : ¬ t.val % 8 = 7) :
    bodyPre m c t ⊢ wp frame (wpE (defs₀ (F := Ideal)) Variants.none c none) Set.univ (bodyAt0 t) (fun _ => bodyPost m c t) := by
  have hN : t.val < 512 := lt_of_lt_of_eq t.isLt (show cfg0.N = 512 from N_0)
  have hle : t.val / 8 % 8 ≤ t.val % 8 := by omega
  have h64 : ¬ t.val % 64 = 0 := by omega
  have hz : t.val ≠ 0 := by omega
  unfold bodyPre bodyPost bodyAt0
  rw [PhiS_pos m c t.val hz]
  rw [PhiS_pos m c (t.val + 1) (Nat.succ_ne_zero _), Nat.add_sub_cancel]
  rw [lv0, lv1, lv2, lv3, lv4, lv5, lv6 m c t hle, lv7_idle m c t h4, lv8_idle m c t h4]
  simp only [before0_0, before0_1, before0_2, before0_3, before0_4, before0_5]
  simp only [before0_6 m c t h64]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB c (grid0.coords t) _ _ _ _ _ _ _ _ _ _ _ _ _ _ _ _ _ _ _ _ _ _ (mt (hcond0_0 t).mp h0) (mt (hcond0_1 t).mp h1) ((hcond0_2 t).mpr h2) (mt (hcond0_3 t).mp h3) (mt (hcond0_4 t).mp h4) (iblk m c 0 t) (iblk m c 1 t) (iblk m c 2 t) (iblk m c 3 t) (iblk m c 4 t) (iblk m c 5 t) (stQ m c (t.val - 1)) (stK m c (t.val - 1)) (stV m c (t.val - 1))).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · unfold owns; iexists _; isplitr
        swap; · iexact HS0
        ipureintro; exact (K_B ..).trans (stK_step m c t (dg_false h3) hle h0).symm
      unfold owns; iexists _; isplitr
      swap; · iexact HS1
      ipureintro; exact (V_B ..).trans (stV_step m c t (dg_false h3) hle h0).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (Q_B (hf := Memref.IsWhole.read_unread _ _) ..).trans (stQ_step m c t (dg_false h3) hle h64).symm
  isplitl [H7]; · iexists _; iexact H7
  iexists _; iexact H8

set_option maxHeartbeats 4000000 in
/-- The body's triple in case C. -/
theorem bodyC (c : Dev nD) (t : Fin cfg0.N) (h0 : ¬ t.val % 8 = 0) (h1 : ¬ t.val % 64 = 0) (h2 : t.val / 8 % 8 + 1 ≤ t.val % 8) (h3 : ¬ t.val / 8 % 8 = t.val % 8) (h4 : t.val % 8 = 7) :
    bodyPre m c t ⊢ wp frame (wpE (defs₀ (F := Ideal)) Variants.none c none) Set.univ (bodyAt0 t) (fun _ => bodyPost m c t) := by
  have hN : t.val < 512 := lt_of_lt_of_eq t.isLt (show cfg0.N = 512 from N_0)
  have hle : t.val / 8 % 8 ≤ t.val % 8 := by omega
  have h64 : ¬ t.val % 64 = 0 := by omega
  have hz : t.val ≠ 0 := by omega
  unfold bodyPre bodyPost bodyAt0
  rw [PhiS_pos m c t.val hz]
  rw [PhiS_pos m c (t.val + 1) (Nat.succ_ne_zero _), Nat.add_sub_cancel]
  rw [lv0, lv1, lv2, lv3, lv4, lv5, lv6 m c t hle, lv7 m c t h4, lv8 m c t h4]
  simp only [before0_0, before0_1, before0_2, before0_3, before0_4, before0_5]
  simp only [before0_6 m c t h64]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runC c (grid0.coords t) _ _ _ _ _ _ _ _ _ _ _ _ _ _ _ _ _ _ _ _ _ _ (mt (hcond0_0 t).mp h0) (mt (hcond0_1 t).mp h1) ((hcond0_2 t).mpr h2) (mt (hcond0_3 t).mp h3) ((hcond0_4 t).mpr h4) (iblk m c 0 t) (iblk m c 1 t) (iblk m c 2 t) (iblk m c 3 t) (iblk m c 4 t) (iblk m c 5 t) (stQ m c (t.val - 1)) (stK m c (t.val - 1)) (stV m c (t.val - 1))).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, ⟨%eH7, H7⟩, ⟨%eH8, H8⟩, HS0, HS1⟩
  isplitl [HS0 HS1 Hg]
  · isplitl [HS0 HS1]
    · isplitl [HS0]
      · unfold owns; iexists _; isplitr
        swap; · iexact HS0
        ipureintro; exact (K_C ..).trans (stK_step m c t (dg_false h3) hle h0).symm
      unfold owns; iexists _; isplitr
      swap; · iexact HS1
      ipureintro; exact (V_C ..).trans (stV_step m c t (dg_false h3) hle h0).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (Q_C (hf := Memref.IsWhole.read_unread _ _) ..).trans (stQ_step m c t (dg_false h3) hle h64).symm
  isplitl [H7]
  · unfold owns; iexists _; isplitr
    swap; · iexact H7
    ipureintro; exact (OK_C ..).trans (congrArg outK (stK_step m c t (dg_false h3) hle h0).symm)
  unfold owns; iexists _; isplitr
  swap; · iexact H8
  ipureintro; exact (OV_C ..).trans (congrArg outV (stV_step m c t (dg_false h3) hle h0).symm)

set_option maxHeartbeats 4000000 in
/-- The body's triple in case D. -/
theorem bodyD (c : Dev nD) (t : Fin cfg0.N) (h0 : t.val % 8 = 0) (h1 : ¬ t.val % 64 = 0) (h2 : ¬ t.val / 8 % 8 + 1 ≤ t.val % 8) (h3 : ¬ t.val / 8 % 8 = t.val % 8) (h4 : ¬ t.val % 8 = 7) :
    bodyPre m c t ⊢ wp frame (wpE (defs₀ (F := Ideal)) Variants.none c none) Set.univ (bodyAt0 t) (fun _ => bodyPost m c t) := by
  have hN : t.val < 512 := lt_of_lt_of_eq t.isLt (show cfg0.N = 512 from N_0)
  have hle : ¬ t.val / 8 % 8 ≤ t.val % 8 := by omega
  unfold bodyPre bodyPost bodyAt0
  refine BIBase.Entails.trans (Laws.sep_mono_left (PhiS_any m c t.val)) ?_
  rw [PhiA0_eq]
  rw [PhiS_pos m c (t.val + 1) (Nat.succ_ne_zero _), Nat.add_sub_cancel]
  rw [lv0, lv1, lv2, lv3, lv4, lv5, lv6_idle m c t hle, lv7_idle m c t h4, lv8_idle m c t h4]
  simp only [before0_0, before0_1, before0_2, before0_3, before0_4, before0_5]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runD c (grid0.coords t) _ _ _ _ _ _ _ _ _ _ _ _ _ _ _ _ _ _ _ _ _ _ ((hcond0_0 t).mpr h0) (mt (hcond0_1 t).mp h1) (mt (hcond0_2 t).mp h2) (mt (hcond0_3 t).mp h3) (mt (hcond0_4 t).mp h4) (iblk m c 0 t) (iblk m c 1 t) (iblk m c 2 t) (iblk m c 3 t) (iblk m c 4 t) (iblk m c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%eHS0, HS0⟩, ⟨%eHS1, HS1⟩⟩
  isplitl [HS0 HS1 Hg]
  · isplitl [HS0 HS1]
    · isplitl [HS0]
      · unfold owns; iexists _; isplitr
        swap; · iexact HS0
        ipureintro; exact (K_D (f := eHS0) ..).trans (stK_zero m c t hle h0).symm
      unfold owns; iexists _; isplitr
      swap; · iexact HS1
      ipureintro; exact (V_D (f := eHS1) ..).trans (stV_zero m c t hle h0).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

set_option maxHeartbeats 4000000 in
/-- The body's triple in case E. -/
theorem bodyE (c : Dev nD) (t : Fin cfg0.N) (h0 : ¬ t.val % 8 = 0) (h1 : ¬ t.val % 64 = 0) (h2 : ¬ t.val / 8 % 8 + 1 ≤ t.val % 8) (h3 : t.val / 8 % 8 = t.val % 8) (h4 : ¬ t.val % 8 = 7) :
    bodyPre m c t ⊢ wp frame (wpE (defs₀ (F := Ideal)) Variants.none c none) Set.univ (bodyAt0 t) (fun _ => bodyPost m c t) := by
  have hN : t.val < 512 := lt_of_lt_of_eq t.isLt (show cfg0.N = 512 from N_0)
  have hle : t.val / 8 % 8 ≤ t.val % 8 := by omega
  have h64 : ¬ t.val % 64 = 0 := by omega
  have hz : t.val ≠ 0 := by omega
  unfold bodyPre bodyPost bodyAt0
  rw [PhiS_pos m c t.val hz]
  rw [PhiS_pos m c (t.val + 1) (Nat.succ_ne_zero _), Nat.add_sub_cancel]
  rw [lv0, lv1, lv2, lv3, lv4, lv5, lv6 m c t hle, lv7_idle m c t h4, lv8_idle m c t h4]
  simp only [before0_0, before0_1, before0_2, before0_3, before0_4, before0_5]
  simp only [before0_6 m c t h64]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runE c (grid0.coords t) _ _ _ _ _ _ _ _ _ _ _ _ _ _ _ _ _ _ _ _ _ _ (mt (hcond0_0 t).mp h0) (mt (hcond0_1 t).mp h1) (mt (hcond0_2 t).mp h2) ((hcond0_3 t).mpr h3) (mt (hcond0_4 t).mp h4) (iblk m c 0 t) (iblk m c 1 t) (iblk m c 2 t) (iblk m c 3 t) (iblk m c 4 t) (iblk m c 5 t) (stQ m c (t.val - 1)) (stK m c (t.val - 1)) (stV m c (t.val - 1))).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · unfold owns; iexists _; isplitr
        swap; · iexact HS0
        ipureintro; exact (K_E ..).trans (stK_step m c t (dg_true h3) hle h0).symm
      unfold owns; iexists _; isplitr
      swap; · iexact HS1
      ipureintro; exact (V_E ..).trans (stV_step m c t (dg_true h3) hle h0).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (Q_E ..).trans (stQ_step m c t (dg_true h3) hle h64).symm
  isplitl [H7]; · iexists _; iexact H7
  iexists _; iexact H8

set_option maxHeartbeats 4000000 in
/-- The body's triple in case F. -/
theorem bodyF (c : Dev nD) (t : Fin cfg0.N) (h0 : ¬ t.val % 8 = 0) (h1 : ¬ t.val % 64 = 0) (h2 : ¬ t.val / 8 % 8 + 1 ≤ t.val % 8) (h3 : ¬ t.val / 8 % 8 = t.val % 8) (h4 : ¬ t.val % 8 = 7) :
    bodyPre m c t ⊢ wp frame (wpE (defs₀ (F := Ideal)) Variants.none c none) Set.univ (bodyAt0 t) (fun _ => bodyPost m c t) := by
  have hN : t.val < 512 := lt_of_lt_of_eq t.isLt (show cfg0.N = 512 from N_0)
  have hle : ¬ t.val / 8 % 8 ≤ t.val % 8 := by omega
  have h64 : ¬ t.val % 64 = 0 := by omega
  have hz : t.val ≠ 0 := by omega
  unfold bodyPre bodyPost bodyAt0
  rw [PhiS_pos m c t.val hz]
  rw [PhiS_pos m c (t.val + 1) (Nat.succ_ne_zero _), Nat.add_sub_cancel]
  rw [lv0, lv1, lv2, lv3, lv4, lv5, lv6_idle m c t hle, lv7_idle m c t h4, lv8_idle m c t h4]
  simp only [before0_0, before0_1, before0_2, before0_3, before0_4, before0_5]
  rw [stK_keep m c t hle h0, stV_keep m c t hle h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runF c (grid0.coords t) _ _ _ _ _ _ _ _ _ _ _ _ _ _ _ _ _ _ _ _ _ _ (mt (hcond0_0 t).mp h0) (mt (hcond0_1 t).mp h1) (mt (hcond0_2 t).mp h2) (mt (hcond0_3 t).mp h3) (mt (hcond0_4 t).mp h4) (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

set_option maxHeartbeats 4000000 in
/-- The body's triple in case G. -/
theorem bodyG (c : Dev nD) (t : Fin cfg0.N) (h0 : ¬ t.val % 8 = 0) (h1 : ¬ t.val % 64 = 0) (h2 : ¬ t.val / 8 % 8 + 1 ≤ t.val % 8) (h3 : t.val / 8 % 8 = t.val % 8) (h4 : t.val % 8 = 7) :
    bodyPre m c t ⊢ wp frame (wpE (defs₀ (F := Ideal)) Variants.none c none) Set.univ (bodyAt0 t) (fun _ => bodyPost m c t) := by
  have hN : t.val < 512 := lt_of_lt_of_eq t.isLt (show cfg0.N = 512 from N_0)
  have hle : t.val / 8 % 8 ≤ t.val % 8 := by omega
  have h64 : ¬ t.val % 64 = 0 := by omega
  have hz : t.val ≠ 0 := by omega
  unfold bodyPre bodyPost bodyAt0
  rw [PhiS_pos m c t.val hz]
  rw [PhiS_pos m c (t.val + 1) (Nat.succ_ne_zero _), Nat.add_sub_cancel]
  rw [lv0, lv1, lv2, lv3, lv4, lv5, lv6 m c t hle, lv7 m c t h4, lv8 m c t h4]
  simp only [before0_0, before0_1, before0_2, before0_3, before0_4, before0_5]
  simp only [before0_6 m c t h64]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runG c (grid0.coords t) _ _ _ _ _ _ _ _ _ _ _ _ _ _ _ _ _ _ _ _ _ _ (mt (hcond0_0 t).mp h0) (mt (hcond0_1 t).mp h1) (mt (hcond0_2 t).mp h2) ((hcond0_3 t).mpr h3) ((hcond0_4 t).mpr h4) (iblk m c 0 t) (iblk m c 1 t) (iblk m c 2 t) (iblk m c 3 t) (iblk m c 4 t) (iblk m c 5 t) (stQ m c (t.val - 1)) (stK m c (t.val - 1)) (stV m c (t.val - 1))).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, ⟨%eH7, H7⟩, ⟨%eH8, H8⟩, HS0, HS1⟩
  isplitl [HS0 HS1 Hg]
  · isplitl [HS0 HS1]
    · isplitl [HS0]
      · unfold owns; iexists _; isplitr
        swap; · iexact HS0
        ipureintro; exact (K_G ..).trans (stK_step m c t (dg_true h3) hle h0).symm
      unfold owns; iexists _; isplitr
      swap; · iexact HS1
      ipureintro; exact (V_G ..).trans (stV_step m c t (dg_true h3) hle h0).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (Q_G ..).trans (stQ_step m c t (dg_true h3) hle h64).symm
  isplitl [H7]
  · unfold owns; iexists _; isplitr
    swap; · iexact H7
    ipureintro; exact (OK_G ..).trans (congrArg outK (stK_step m c t (dg_true h3) hle h0).symm)
  unfold owns; iexists _; isplitr
  swap; · iexact H8
  ipureintro; exact (OV_G ..).trans (congrArg outV (stV_step m c t (dg_true h3) hle h0).symm)

/-- The body at any point. -/
theorem sound_body (c : Dev nD) (t : Fin cfg0.N) :
    bodyPre m c t ⊢ wp frame (wpE (defs₀ (F := Ideal)) Variants.none c none) Set.univ (bodyAt0 t) (fun _ => bodyPost m c t) := by
  have hN : t.val < 512 := lt_of_lt_of_eq t.isLt (show cfg0.N = 512 from N_0)
  by_cases h0 : t.val % 8 = 0
  · by_cases h1 : t.val % 64 = 0
    · exact bodyA m c t h0 h1 (by omega) (by omega) (by omega)
    · exact bodyD m c t h0 h1 (by omega) (by omega) (by omega)
  · by_cases h2 : t.val / 8 % 8 + 1 ≤ t.val % 8
    · by_cases h4 : t.val % 8 = 7
      · exact bodyC m c t h0 (by omega) h2 (by omega) h4
      · exact bodyB m c t h0 (by omega) h2 (by omega) h4
    · by_cases h3 : t.val / 8 % 8 = t.val % 8
      · by_cases h4 : t.val % 8 = 7
        · exact bodyG m c t h0 (by omega) h2 h3 h4
        · exact bodyE m c t h0 (by omega) h2 h3 h4
      · exact bodyF m c t h0 (by omega) h2 h3 (by omega)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val from rfl]
  exact PhiS_any m c _

/-! ## The run and the frame -/

set_option backward.isDefEq.respectTransparency.types false in
/-- The launch: every final state has the pipeline's arrays as the proof data say, and no semaphore counts. -/
theorem run_main_quiescent : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame of the idealized kernel. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Run

end
-- ==== Proof.FrameK.lean ====
/- The frame of the kernel itself: what it leaves in its outputs and its accumulators is named nowhere. -/
module

public import proofs.«01_k».proof.Proof.PointsK
public import Idealize.ShloMosaic.Lib.Claim

@[expose] public section

-- membership in a rectangle of the whole extents recurses once per coordinate of the long axes
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What the body is handed and gives back: its inputs' buffers at their blocks, every other buffer at some contents. -/
def held (c : Dev nD) (arg3 : Memref sig .tc .vmem S1x2048x96 .bf16) (arg4 : Memref sig .tc .vmem S1x2048x96 .bf16) (arg5 : Memref sig .tc .vmem S1x2048x128 .bf16) (arg6 : Memref sig .tc .vmem S1x2048x64 .f32) (arg7 : Memref sig .tc .vmem S1x8x2048 .f32) (arg8 : Memref sig .tc .vmem S1x2048x64 .bf16) (arg9 : Memref sig .tc .vmem S1x96x16384 .f32) (arg10 : Memref sig .tc .vmem S1x2048x96 .f32) (arg11 : Memref sig .tc .vmem S1x2048x64 .f32) (arg12 : Memref sig .tc .vmem S2048x96 .f32) (arg13 : Memref sig .tc .vmem S2048x64 .f32)
    (x0 : Vec F S1x2048x96 .bf16) (x1 : Vec F S1x2048x96 .bf16) (x2 : Vec F S1x2048x128 .bf16) (x3 : Vec F S1x2048x64 .f32) (x4 : Vec F S1x8x2048 .f32) (x5 : Vec F S1x2048x64 .bf16) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))

/-- The points' seven kinds, by the conditions of the body's five branches. -/
def kinds (i : grid0.Coords) : Prop :=
  (cond0_0 i ∧ cond0_1 i ∧ ¬cond0_2 i ∧ cond0_3 i ∧ ¬cond0_4 i) ∨ (¬cond0_0 i ∧ ¬cond0_1 i ∧ cond0_2 i ∧ ¬cond0_3 i ∧ ¬cond0_4 i) ∨ (¬cond0_0 i ∧ ¬cond0_1 i ∧ cond0_2 i ∧ ¬cond0_3 i ∧ cond0_4 i) ∨ (cond0_0 i ∧ ¬cond0_1 i ∧ ¬cond0_2 i ∧ ¬cond0_3 i ∧ ¬cond0_4 i) ∨ (¬cond0_0 i ∧ ¬cond0_1 i ∧ ¬cond0_2 i ∧ cond0_3 i ∧ ¬cond0_4 i) ∨ (¬cond0_0 i ∧ ¬cond0_1 i ∧ ¬cond0_2 i ∧ ¬cond0_3 i ∧ ¬cond0_4 i) ∨ (¬cond0_0 i ∧ ¬cond0_1 i ∧ ¬cond0_2 i ∧ cond0_3 i ∧ cond0_4 i)

set_option maxHeartbeats 40000000 in
/-- The body at a point of any kind leaves its inputs as they were. -/
theorem run (c : Dev nD) (i : grid0.Coords) (arg3 : Memref sig .tc .vmem S1x2048x96 .bf16) (harg3 : arg3.IsWhole) (arg4 : Memref sig .tc .vmem S1x2048x96 .bf16) (harg4 : arg4.IsWhole) (arg5 : Memref sig .tc .vmem S1x2048x128 .bf16) (harg5 : arg5.IsWhole) (arg6 : Memref sig .tc .vmem S1x2048x64 .f32) (harg6 : arg6.IsWhole) (arg7 : Memref sig .tc .vmem S1x8x2048 .f32) (harg7 : arg7.IsWhole) (arg8 : Memref sig .tc .vmem S1x2048x64 .bf16) (harg8 : arg8.IsWhole) (arg9 : Memref sig .tc .vmem S1x96x16384 .f32) (harg9 : arg9.IsWhole) (arg10 : Memref sig .tc .vmem S1x2048x96 .f32) (harg10 : arg10.IsWhole) (arg11 : Memref sig .tc .vmem S1x2048x64 .f32) (harg11 : arg11.IsWhole) (arg12 : Memref sig .tc .vmem S2048x96 .f32) (harg12 : arg12.IsWhole) (arg13 : Memref sig .tc .vmem S2048x64 .f32) (harg13 : arg13.IsWhole) (hk : kinds i)
    (x0 : Vec F S1x2048x96 .bf16) (x1 : Vec F S1x2048x96 .bf16) (x2 : Vec F S1x2048x128 .bf16) (x3 : Vec F S1x2048x64 .f32) (x4 : Vec F S1x8x2048 .f32) (x5 : Vec F S1x2048x64 .bf16) (E : Set ℕ) (K : PUnit → sProp 𝕄) :
    iprop(held c arg3 arg4 arg5 arg6 arg7 arg8 arg9 arg10 arg11 arg12 arg13 x0 x1 x2 x3 x4 x5 ∗ (held c arg3 arg4 arg5 arg6 arg7 arg8 arg9 arg10 arg11 arg12 arg13 x0 x1 x2 x3 x4 x5 -∗ K ⟨⟩))
      ⊢ wp frame (wpE (defs₀ (F := F)) Variants.none c none) E (cc0_mla_attn_bwd i arg3 harg3 arg4 harg4 arg5 harg5 arg6 harg6 arg7 harg7 arg8 harg8 arg9 harg9 arg10 harg10 arg11 harg11 arg12 harg12 arg13 harg13) K := by
  unfold held kinds at *
  rcases hk with ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩
  all_goals
    simp only [cc0_mla_attn_bwd_eq_skeleton]; unfold cc0_mla_attn_bwd_skel
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexists _; isplitr
      swap; · iexact H6
      ipureintro; rfl
    isplitl [H7]
    · iexists _; iexists _; isplitr
      swap; · iexact H7
      ipureintro; rfl
    isplitl [H8]
    · iexists _; iexists _; isplitr
      swap; · iexact H8
      ipureintro; rfl
    isplitl [H9]
    · iexists _; iexists _; isplitr
      swap; · iexact H9
      ipureintro; rfl
    iexists _; iexists _; isplitr
    swap; · iexact H10
    ipureintro; rfl

variable (m : (ℓ : Loc nD τ sig) → Buf (Elt F) ℓ) (ρ : Dev nD → PrngReg)

/-- Every point is of one of the seven kinds. -/
theorem kinds_coords (t : Fin cfg0.N) : kinds (grid0.coords t) := by
  have hN : t.val < 512 := lt_of_lt_of_eq t.isLt (show cfg0.N = 512 from N_0)
  by_cases h0 : t.val % 8 = 0
  · by_cases h1 : t.val % 64 = 0
    · exact .inl ⟨(hcond0_0 t).mpr (by omega), (hcond0_1 t).mpr (by omega), mt (hcond0_2 t).mp (by omega), (hcond0_3 t).mpr (by omega), mt (hcond0_4 t).mp (by omega)⟩
    · exact .inr (.inr (.inr (.inl ⟨(hcond0_0 t).mpr (by omega), mt (hcond0_1 t).mp (by omega), mt (hcond0_2 t).mp (by omega), mt (hcond0_3 t).mp (by omega), mt (hcond0_4 t).mp (by omega)⟩)))
  · by_cases h2 : t.val / 8 % 8 + 1 ≤ t.val % 8
    · by_cases h4 : t.val % 8 = 7
      · exact .inr (.inr (.inl ⟨mt (hcond0_0 t).mp (by omega), mt (hcond0_1 t).mp (by omega), (hcond0_2 t).mpr (by omega), mt (hcond0_3 t).mp (by omega), (hcond0_4 t).mpr (by omega)⟩))
      · exact .inr (.inl ⟨mt (hcond0_0 t).mp (by omega), mt (hcond0_1 t).mp (by omega), (hcond0_2 t).mpr (by omega), mt (hcond0_3 t).mp (by omega), mt (hcond0_4 t).mp (by omega)⟩)
    · by_cases h3 : t.val / 8 % 8 = t.val % 8
      · by_cases h4 : t.val % 8 = 7
        · exact .inr (.inr (.inr (.inr (.inr (.inr (⟨mt (hcond0_0 t).mp (by omega), mt (hcond0_1 t).mp (by omega), mt (hcond0_2 t).mp (by omega), (hcond0_3 t).mpr (by omega), (hcond0_4 t).mpr (by omega)⟩))))))
        · exact .inr (.inr (.inr (.inr (.inl ⟨mt (hcond0_0 t).mp (by omega), mt (hcond0_1 t).mp (by omega), mt (hcond0_2 t).mp (by omega), (hcond0_3 t).mpr (by omega), mt (hcond0_4 t).mp (by omega)⟩))))
      · exact .inr (.inr (.inr (.inr (.inr (.inl ⟨mt (hcond0_0 t).mp (by omega), mt (hcond0_1 t).mp (by omega), mt (hcond0_2 t).mp (by omega), mt (hcond0_3 t).mp (by omega), mt (hcond0_4 t).mp (by omega)⟩)))))

/-- The outputs, of which nothing is stated. -/
def unstated : Fin 9 → Bool := fun w => w.val == 6 || w.val == 7 || w.val == 8

/-- The pipeline's proof data: each input's buffer holds its block, the outputs are unnamed, nothing is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem lv0 (c : Dev nD) (t : Fin cfg0.N) : (dats m 0 c).leavesExact 0 t = owns (c : Thread nD τ) (ms0_0 t) fullShare (iblk m c 0 t) := by
  unfold Dat.leavesExact; rw [liveAt0_0 t, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem lv1 (c : Dev nD) (t : Fin cfg0.N) : (dats m 0 c).leavesExact 1 t = owns (c : Thread nD τ) (ms0_1 t) fullShare (iblk m c 1 t) := by
  unfold Dat.leavesExact; rw [liveAt0_1 t, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem lv2 (c : Dev nD) (t : Fin cfg0.N) : (dats m 0 c).leavesExact 2 t = owns (c : Thread nD τ) (ms0_2 t) fullShare (iblk m c 2 t) := by
  unfold Dat.leavesExact; rw [liveAt0_2 t, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem lv3 (c : Dev nD) (t : Fin cfg0.N) : (dats m 0 c).leavesExact 3 t = owns (c : Thread nD τ) (ms0_3 t) fullShare (iblk m c 3 t) := by
  unfold Dat.leavesExact; rw [liveAt0_3 t, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem lv4 (c : Dev nD) (t : Fin cfg0.N) : (dats m 0 c).leavesExact 4 t = owns (c : Thread nD τ) (ms0_4 t) fullShare (iblk m c 4 t) := by
  unfold Dat.leavesExact; rw [liveAt0_4 t, after0_4]
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem lv5 (c : Dev nD) (t : Fin cfg0.N) : (dats m 0 c).leavesExact 5 t = owns (c : Thread nD τ) (ms0_5 t) fullShare (iblk m c 5 t) := by
  unfold Dat.leavesExact; rw [liveAt0_5 t, after0_5]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.castSucc = Pipeline.ΦA spec0 c from rfl, show (dats m 0 c).Φ t.succ = Pipeline.ΦA spec0 c from rfl, PhiA0_eq,
    show (dats m 0 c).owesAt () t.succ = (dats m 0 c).owesAt () t.castSucc from rfl, lv0, lv1, lv2, lv3, lv4, lv5]
  iintro ⟨⟨⟨HS0, HS1⟩, Hg⟩, Ho, ⟨%d0, H0⟩, ⟨%d1, H1⟩, ⟨%d2, H2⟩, ⟨%d3, H3⟩, ⟨%d4, H4⟩, ⟨%d5, H5⟩, H6, H7, H8⟩
  iapply (run c (grid0.coords t) _ _ _ _ _ _ _ _ _ _ _ _ _ _ _ _ _ _ _ _ _ _ (kinds_coords t) (iblk m c 0 t) (iblk m c 1 t) (iblk m c 2 t) (iblk m c 3 t) (iblk m c 4 t) (iblk m c 5 t) Set.univ _)
  unfold held
  isplitl [H0 H1 H2 H3 H4 H5 H6 H7 H8 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    iexact HS1
  iintro ⟨H0, H1, H2, H3, H4, H5, H6, H7, H8, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ unstated := fun t => by
  rw [bigSep_W0, bigSep_W0, defs₀_row]
  exact triple_restated (sound_body m c t) rfl .rfl fun _ => .rfl

set_option backward.isDefEq.respectTransparency.types false in
/-- The launch: the inputs' arrays end as they began, and no semaphore counts. -/
theorem run_main_quiescent : θ_run defs (onTc (τ := τ) (main (F := F))) (s₀ m ρ) (fun r => (Pipeline.RDat.FramePost (cfgs 0) (fun c => (dats m 0 c).toRForget unstated) (V m)) r ∧ r.2.sem = fun _ => 0) :=
  Pipeline.θ_run_frame_track_forget (Q' := _) cfgs (dats m) (0 : Fin 1) launch0 defs₀ Variants.none unstated m ρ main
    (hbody := fun c => (body_obligation m c).loose) (hshare := fun c => (dats m 0 c).share_full fun _ => rfl)
    (howed := fun _ _ => rfl) (V := V m) (hmain := hmain m Variants.none) (hA := A_eq m) (hin := fun _ => Idealize.SL.BI.Entails.refl _) (hout := fun _ => Idealize.SL.BI.Entails.refl _)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c),
      (Pipeline.RDat.FramePost.arr_in h.1 c 5 rfl).trans ((A_eq m c 5).trans (V_main_arg3 m c))⟩) (run_main_quiescent m ρ)

/-- The kernel's frame. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Run

end
-- ==== Proof.Frames.lean ====
module
public import proofs.«01_k».proof.Defs
public import proofs.«01_k».proof.Proof.Frame
public import proofs.«01_k».proof.Proof.FrameK
public import proofs.«01_k».proof.Proof.Gen.ReferenceIdeal.Run
public import Idealize.ShloMosaic.Adequacy
public import Idealize.ShloMosaic.Init
@[expose] public section

/-!
# The frames and the named constants

The three frames (the idealized kernel's from the run of `Frame`), and the table of the named constants.
-/

noncomputable section

namespace Cert.Proof
open Idealize.ShloMosaic Idealize.SL.Sem

theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "scale_log2e" .f32 0x3E16C740#32 (((Real.sqrt 96)⁻¹ * (Real.log 2)⁻¹ : ℝ) : EReal) rfl,
   IdealRules.named_const.statement Cert.KernelIdeal.κ "scale" .f32 0x3DD105EC#32 (((Real.sqrt 96)⁻¹ : ℝ) : EReal) rfl⟩

theorem frame_kernel : Cert.quiescent_Kernel := fun m ρ _ => Cert.Kernel.Run.frame_kernel m ρ
theorem frame_kernelIdeal : Cert.quiescent_KernelIdeal := fun m ρ _ => Cert.KernelIdeal.Run.frame_ideal m ρ
theorem frame_referenceIdeal : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

end Cert.Proof

end
-- ==== Proof.Blocks.lean ====
/-
  The blocks the kernel's inputs are read in, as places of the arrays.
-/
module

public import proofs.«01_k».proof.Proof.State

@[expose] public section

set_option maxRecDepth 20000

noncomputable section

namespace Cert.KernelIdeal.Run

open Idealize.ShloMosaic Idealize.ShloMosaic.TcCoe
open Cert.KernelIdeal Cert.KernelIdeal.Gen

/-- Place `q` of tile `a`. -/
def place (a : ℕ) (q : Fin 2048) : Fin 16384 := ⟨a % 8 * 2048 + q.val, by omega⟩

theorem place_val {a : ℕ} (ha : a < 8) (q : Fin 2048) : (place a q).val = a * 2048 + q.val := by
  show a % 8 * 2048 + q.val = _
  rw [Nat.mod_eq_of_lt ha]

theorem place_colIn (i : Fin 16384) : place (i.val / 2048) (colIn i) = i := by
  apply Fin.ext
  rw [place_val (by omega)]
  show i.val / 2048 * 2048 + i.val % 2048 = _
  omega

/-- The grid's coordinates at a point. -/
theorem c_0 (t : Fin cfg0.N) : (grid0.coords t 0).val = t.val / 64 := by
  have e : (grid0.coords t 0).val = t.val / 64 % 8 := Pipeline.Grid.coords_val t 0 (by decide) rfl
  have := lt_of_lt_of_eq t.isLt N_0
  omega
theorem c_1 (t : Fin cfg0.N) : (grid0.coords t 1).val = t.val / 8 % 8 := Pipeline.Grid.coords_val t 1 (by decide) rfl

theorem toNat_max : ∀ a b : Fin 8, (Scalar.maxsi (BitVec.ofNat 32 a.val) (BitVec.ofNat 32 b.val)).toNat = max a.val b.val := by decide

theorem ofNat_toNat (a : ℕ) (h : a < 8) : (BitVec.ofNat 32 a).toNat = a := by
  rw [BitVec.toNat_ofNat]; omega

section
variable (m : (ℓ : Loc nD τ sig) → Buf (Elt Ideal) ℓ) (c : Dev nD)

/-- The point of head `h`, key tile `a` and query tile `b`. -/
def at3 (h a b : ℕ) : ℕ := 64 * h + 8 * a + b

variable {h a b : ℕ} (hh : h < 8) (ha : a < 8) (hb : b < 8) (hab : a ≤ b)
include hh ha hb

theorem pt_at3 : (pt (at3 h a b)).val = 64 * h + 8 * a + b := Nat.mod_eq_of_lt (by unfold at3; omega)
theorem co_0 : (grid0.coords (pt (at3 h a b)) 0).val = h := by rw [c_0, pt_at3 hh ha hb]; omega
theorem co_1 : (grid0.coords (pt (at3 h a b)) 1).val = a := by rw [c_1, pt_at3 hh ha hb]; omega
theorem co_2 : (grid0.coords (pt (at3 h a b)) 2).val = b := by rw [coord2, pt_at3 hh ha hb]; omega

theorem tr_h : (BitVec.ofNat 32 (grid0.coords (pt (at3 h a b)) 0).val).toNat = h := by
  rw [co_0 hh ha hb, ofNat_toNat _ hh]
theorem tr_k : (BitVec.ofNat 32 (grid0.coords (pt (at3 h a b)) 1).val).toNat = a := by
  rw [co_1 hh ha hb, ofNat_toNat _ ha]

include hab in
theorem tr_q : (Scalar.maxsi (BitVec.ofNat 32 (grid0.coords (pt (at3 h a b)) 2).val) (BitVec.ofNat 32 (grid0.coords (pt (at3 h a b)) 1).val)).toNat = b := by
  rw [co_1 hh ha hb, co_2 hh ha hb]
  refine (toNat_max ⟨b, hb⟩ ⟨a, ha⟩).trans ?_
  exact max_eq_left hab

include hab in
theorem rd0 (X : FVec Ideal S8x16384x96 .bf16) (q : Fin 2048) (d : Fin 96) :
    ((cfg0.win 0).blk (pt (at3 h a b))).view.read (Elt Ideal) X (ix3 0 q d) = X (ix3 (⟨h, hh⟩ : Fin 8) (place b q) d) := by
  rw [View.read_apply]
  show X _ = _
  refine congrArg (X) ?_
  funext x
  apply Fin.ext
  match x with
  | ⟨0, _⟩ => show (BitVec.ofNat 32 (grid0.coords (pt (at3 h a b)) 0).val).toNat * 1 + 1 * 0 = h; rw [tr_h hh ha hb]; omega
  | ⟨1, _⟩ => show (Scalar.maxsi (BitVec.ofNat 32 (grid0.coords (pt (at3 h a b)) 2).val) (BitVec.ofNat 32 (grid0.coords (pt (at3 h a b)) 1).val)).toNat * 2048 + 1 * q.val = (place b q).val; rw [tr_q hh ha hb hab, place_val hb]; omega
  | ⟨2, _⟩ => show 0 * 96 + 1 * d.val = d.val; omega
include hab in
theorem b0_at (q : Fin 2048) (d : Fin 96) :
    b0 m c (at3 h a b) (ix3 0 q d) = V m c main_arg0 (ix3 (⟨h, hh⟩ : Fin 8) (place b q) d) :=
  rd0 hh ha hb hab (V m c main_arg0) q d

theorem rd1 (X : FVec Ideal S8x16384x96 .bf16) (q : Fin 2048) (d : Fin 96) :
    ((cfg0.win 1).blk (pt (at3 h a b))).view.read (Elt Ideal) X (ix3 0 q d) = X (ix3 (⟨h, hh⟩ : Fin 8) (place a q) d) := by
  rw [View.read_apply]
  show X _ = _
  refine congrArg (X) ?_
  funext x
  apply Fin.ext
  match x with
  | ⟨0, _⟩ => show (BitVec.ofNat 32 (grid0.coords (pt (at3 h a b)) 0).val).toNat * 1 + 1 * 0 = h; rw [tr_h hh ha hb]; omega
  | ⟨1, _⟩ => show (BitVec.ofNat 32 (grid0.coords (pt (at3 h a b)) 1).val).toNat * 2048 + 1 * q.val = (place a q).val; rw [tr_k hh ha hb, place_val ha]; omega
  | ⟨2, _⟩ => show 0 * 96 + 1 * d.val = d.val; omega
theorem b1_at (q : Fin 2048) (d : Fin 96) :
    b1 m c (at3 h a b) (ix3 0 q d) = V m c main_arg1 (ix3 (⟨h, hh⟩ : Fin 8) (place a q) d) :=
  rd1 hh ha hb (V m c main_arg1) q d

theorem rd2 (X : FVec Ideal S8x16384x128 .bf16) (q : Fin 2048) (d : Fin 128) :
    ((cfg0.win 2).blk (pt (at3 h a b))).view.read (Elt Ideal) X (ix3 0 q d) = X (ix3 (⟨h, hh⟩ : Fin 8) (place a q) d) := by
  rw [View.read_apply]
  show X _ = _
  refine congrArg (X) ?_
  funext x
  apply Fin.ext
  match x with
  | ⟨0, _⟩ => show (BitVec.ofNat 32 (grid0.coords (pt (at3 h a b)) 0).val).toNat * 1 + 1 * 0 = h; rw [tr_h hh ha hb]; omega
  | ⟨1, _⟩ => show (BitVec.ofNat 32 (grid0.coords (pt (at3 h a b)) 1).val).toNat * 2048 + 1 * q.val = (place a q).val; rw [tr_k hh ha hb, place_val ha]; omega
  | ⟨2, _⟩ => show 0 * 128 + 1 * d.val = d.val; omega
theorem b2_at (q : Fin 2048) (d : Fin 128) :
    b2 m c (at3 h a b) (ix3 0 q d) = V m c main_v30 (ix3 (⟨h, hh⟩ : Fin 8) (place a q) d) :=
  rd2 hh ha hb (V m c main_v30) q d

include hab in
theorem rd3 (X : FVec Ideal S8x16384x64 .f32) (q : Fin 2048) (d : Fin 64) :
    ((cfg0.win 3).blk (pt (at3 h a b))).view.read (Elt Ideal) X (ix3 0 q d) = X (ix3 (⟨h, hh⟩ : Fin 8) (place b q) d) := by
  rw [View.read_apply]
  show X _ = _
  refine congrArg (X) ?_
  funext x
  apply Fin.ext
  match x with
  | ⟨0, _⟩ => show (BitVec.ofNat 32 (grid0.coords (pt (at3 h a b)) 0).val).toNat * 1 + 1 * 0 = h; rw [tr_h hh ha hb]; omega
  | ⟨1, _⟩ => show (Scalar.maxsi (BitVec.ofNat 32 (grid0.coords (pt (at3 h a b)) 2).val) (BitVec.ofNat 32 (grid0.coords (pt (at3 h a b)) 1).val)).toNat * 2048 + 1 * q.val = (place b q).val; rw [tr_q hh ha hb hab, place_val hb]; omega
  | ⟨2, _⟩ => show 0 * 64 + 1 * d.val = d.val; omega
include hab in
theorem b3_at (q : Fin 2048) (d : Fin 64) :
    b3 m c (at3 h a b) (ix3 0 q d) = V m c main_v23 (ix3 (⟨h, hh⟩ : Fin 8) (place b q) d) :=
  rd3 hh ha hb hab (V m c main_v23) q d

include hab in
theorem rd4 (X : FVec Ideal S8x8x16384 .f32) (s : Fin 8) (q : Fin 2048) :
    ((cfg0.win 4).blk (pt (at3 h a b))).view.read (Elt Ideal) X (ix3 0 s q) = X (ix3 (⟨h, hh⟩ : Fin 8) s (place b q)) := by
  rw [View.read_apply]
  show X _ = _
  refine congrArg (X) ?_
  funext x
  apply Fin.ext
  match x with
  | ⟨0, _⟩ => show (BitVec.ofNat 32 (grid0.coords (pt (at3 h a b)) 0).val).toNat * 1 + 1 * 0 = h; rw [tr_h hh ha hb]; omega
  | ⟨1, _⟩ => show 0 * 8 + 1 * s.val = s.val; omega
  | ⟨2, _⟩ => show (Scalar.maxsi (BitVec.ofNat 32 (grid0.coords (pt (at3 h a b)) 2).val) (BitVec.ofNat 32 (grid0.coords (pt (at3 h a b)) 1).val)).toNat * 2048 + 1 * q.val = (place b q).val; rw [tr_q hh ha hb hab, place_val hb]; omega
include hab in
theorem b4_at (s : Fin 8) (q : Fin 2048) :
    b4 m c (at3 h a b) (ix3 0 s q) = V m c main_v27 (ix3 (⟨h, hh⟩ : Fin 8) s (place b q)) :=
  rd4 hh ha hb hab (V m c main_v27) s q

include hab in
theorem rd5 (X : FVec Ideal S8x16384x64 .bf16) (q : Fin 2048) (d : Fin 64) :
    ((cfg0.win 5).blk (pt (at3 h a b))).view.read (Elt Ideal) X (ix3 0 q d) = X (ix3 (⟨h, hh⟩ : Fin 8) (place b q) d) := by
  rw [View.read_apply]
  show X _ = _
  refine congrArg (X) ?_
  funext x
  apply Fin.ext
  match x with
  | ⟨0, _⟩ => show (BitVec.ofNat 32 (grid0.coords (pt (at3 h a b)) 0).val).toNat * 1 + 1 * 0 = h; rw [tr_h hh ha hb]; omega
  | ⟨1, _⟩ => show (Scalar.maxsi (BitVec.ofNat 32 (grid0.coords (pt (at3 h a b)) 2).val) (BitVec.ofNat 32 (grid0.coords (pt (at3 h a b)) 1).val)).toNat * 2048 + 1 * q.val = (place b q).val; rw [tr_q hh ha hb hab, place_val hb]; omega
  | ⟨2, _⟩ => show 0 * 64 + 1 * d.val = d.val; omega
include hab in
theorem b5_at (q : Fin 2048) (d : Fin 64) :
    b5 m c (at3 h a b) (ix3 0 q d) = V m c main_arg3 (ix3 (⟨h, hh⟩ : Fin 8) (place b q) d) :=
  rd5 hh ha hb hab (V m c main_arg3) q d

end

end Cert.KernelIdeal.Run
-- ==== Proof.Reals.lean ====
/-
  Extended-real arithmetic on reals: sums, quotients, the greatest of finitely many.
-/
module

public import Idealize.ShloMosaic.Lib.Pointwise
public import Idealize.ShloMosaic.Lib.IdealHost
public import Mathlib.Data.Finset.Fold

@[expose] public section

noncomputable section

namespace Cert.Soft

open Idealize.ShloMosaic

/-- A finite sum of reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A quotient of reals. -/
theorem coe_div (x y : ℝ) (hy : y ≠ 0) : Ideal.div (x : EReal) (y : EReal) = ((x / y : ℝ) : EReal) := by
  rw [Ideal.div_coe hy, ← EReal.coe_mul]
  congr 1
  rw [mul_one_div]

theorem coe_exp (x : ℝ) : Ideal.exp (x : EReal) = ((Real.exp x : ℝ) : EReal) := rfl
theorem bot_exp : Ideal.exp (⊥ : EReal) = ((0 : ℝ) : EReal) := rfl
theorem coe_exp2 (x : ℝ) : Ideal.exp2 (x : EReal) = (((2 : ℝ) ^ x : ℝ) : EReal) := rfl

theorem coe_log (x : ℝ) (hx : 0 < x) : Ideal.log (x : EReal) = ((Real.log x : ℝ) : EReal) := by
  show (if x ≤ 0 then (⊥ : EReal) else (Real.log x : EReal)) = _
  rw [if_neg (not_le.mpr hx)]

theorem sqrt96_pos : 0 < Real.sqrt 96 := Real.sqrt_pos.mpr (by norm_num)

/-- The pattern of ninety-six. -/
theorem sqrt_96 : Ideal.sqrt (Ideal.ofBits FTy.f32 1119879168#32) = ((Real.sqrt 96 : ℝ) : EReal) := by
  have h : Ideal.ofBits FTy.f32 1119879168#32 = ((96 : ℝ) : EReal) := by
    simp [Ideal.ofBits, Ideal.ieee, -EReal.coe_mul]; norm_num
  rw [h]
  show (if (96 : ℝ) < 0 then (⊥ : EReal) else (Real.sqrt 96 : EReal)) = _
  rw [if_neg (by norm_num)]

/-- The pattern of minus infinity. -/
theorem ofBits_ninf : Ideal.ofBits FTy.f32 4286578688#32 = (⊥ : EReal) := by
  simp [Ideal.ofBits, Ideal.ieee]

/-- The pattern of plus infinity in the half format. -/
theorem ofBits_pinf : Ideal.ofBits FTy.bf16 0x7F80#16 = (⊤ : EReal) := by
  simp [Ideal.ofBits, Ideal.ieee]

/-- The greatest of values below plus infinity, of which one is a real, is a real. -/
theorem fold_max_real {n : ℕ} (f : Fin n → EReal) (h1 : ∀ i, f i ≠ ⊤) (j : Fin n) (h2 : f j ≠ ⊥) :
    ∃ r : ℝ, Finset.fold max (⊥ : EReal) f Finset.univ = (r : EReal) := by
  have hb : Finset.fold max (⊥ : EReal) f Finset.univ ≠ ⊥ := by
    refine (bot_lt_iff_ne_bot.mp ?_)
    exact (Finset.lt_fold_max _).mpr (Or.inr ⟨j, Finset.mem_univ j, bot_lt_iff_ne_bot.mpr h2⟩)
  have ht : Finset.fold max (⊥ : EReal) f Finset.univ ≠ ⊤ := by
    refine (lt_top_iff_ne_top.mp ?_)
    exact (Finset.fold_max_lt _).mpr ⟨bot_lt_top, fun x _ => lt_top_iff_ne_top.mpr (h1 x)⟩
  exact ⟨_, (EReal.coe_toReal ht hb).symm⟩

end Cert.Soft
-- ==== Proof.Soft.lean ====
/-
  The softmax over the keys that both programs compute on the host, read at an index.
-/
module

public import proofs.«01_k».proof.Proof.Gen.ReferenceIdeal.Run
public import Idealize.ShloMosaic.Lib.Pointwise
public import Idealize.ShloMosaic.Lib.WordCmp
public import proofs.«01_k».proof.Proof.Reals

@[expose] public section

noncomputable section

namespace Cert.Soft

open Cert.ReferenceIdeal Cert.ReferenceIdeal.Gen Idealize.ShloMosaic

/-- Float arrays of the shapes in use. -/
abbrev V96 : Type := FVec Ideal S8x16384x96 .f32
abbrev V64 : Type := FVec Ideal S8x16384x64 .f32
abbrev VTT : Type := FVec Ideal S8x16384x16384 .f32
abbrev VT : Type := FVec Ideal S8x16384 .f32

/-- Key at or before query. -/
def maskv : IVec S8x16384x16384 1 :=
  broadcastInDim S8x16384x16384 ![1, 2] bcast_S16384x16384_S8x16384x16384_1_2 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))

/-- The masked scaled logits. -/
def Xv (q k : V96) : VTT :=
  select maskv (Host.divf (Host.dotGeneral dot_S8x16384x96_S8x16384x96_S8x16384x16384_2_2_1_1_0_0 none q k) (broadcastInDim S8x16384x16384 ![] bcast_S_S8x16384x16384 (Host.sqrt (constant S_ .f32 0x42C00000#32)))) (broadcastInDim S8x16384x16384 ![] bcast_S_S8x16384x16384 (id (constant S_ .f32 0xFF800000#32)))

/-- Their greatest over the keys. -/
def Mv (X : VTT) : VT :=
  Host.reduce FloatOps.maximumf X (constant (F := Ideal) S_ .f32 0xFF800000#32) reducesTo_S8x16384x16384_S8x16384_d2 h_S_

/-- The reference takes the greater of it and minus infinity. -/
def Mw (M : VT) : VT := maximumf (broadcastInDim S8x16384 ![] bcast_S_S8x16384 (constant S_ .f32 0xFF800000#32)) M

/-- The exponentials. -/
def Ev (X : VTT) (M : VT) : VTT :=
  Host.exp (subf X (broadcastInDim S8x16384x16384 ![0, 1, 2] bcast_S8x16384x1_S8x16384x16384_0_1_2 (broadcastInDim S8x16384x1 ![0, 1] bcast_S8x16384_S8x16384x1_0_1 M)))

/-- Their sums over the keys. -/
def Lv (E : VTT) : VT :=
  Host.reduceAdd E (constant S_ .f32 0x00000000#32) reducesTo_S8x16384x16384_S8x16384_d2 h_S_

/-- The weights. -/
def Pv (E : VTT) (L : VT) : VTT := Host.divf E (broadcastInDim S8x16384x16384 ![0, 1, 2] bcast_S8x16384x1_S8x16384x16384_0_1_2 (broadcastInDim S8x16384x1 ![0, 1] bcast_S8x16384_S8x16384x1_0_1 L))

/-- Cotangent times value. -/
def DPv (D V : V64) : VTT := Host.dotGeneral dot_S8x16384x64_S8x16384x64_S8x16384x16384_2_2_1_1_0_0 none D V

/-- The cotangent of the sums. -/
def Sv (DP E : VTT) (L : VT) : FVec Ideal S8x16384x1 .f32 :=
  Host.negf (shapeCast _ (Host.reduceAdd (mulf (mulf DP (broadcastInDim S8x16384x16384 ![0, 1, 2] bcast_S8x16384x1_S8x16384x16384_0_1_2 (Host.divf (broadcastInDim S8x16384x1 ![] bcast_S_S8x16384x1 (constant S_ .f32 0x3F800000#32)) (mulf (broadcastInDim S8x16384x1 ![0, 1] bcast_S8x16384_S8x16384x1_0_1 L) (broadcastInDim S8x16384x1 ![0, 1] bcast_S8x16384_S8x16384x1_0_1 L))))) E) (constant S_ .f32 0x00000000#32) reducesTo_S8x16384x16384_S8x16384_d2 h_S_) shapeCasts_S8x16384_S8x16384x1)

/-- Its sum over the axis of length one. -/
def Tv (S : FVec Ideal S8x16384x1 .f32) : VT :=
  Host.reduceAdd S (constant S_ .f32 0x00000000#32) reducesTo_S8x16384x1_S8x16384_d2 h_S_

/-- The cotangent of the logits. -/
def Gv (DP E : VTT) (L T : VT) : VTT :=
  Host.divf (select maskv (mulf (addf (Host.divf DP (broadcastInDim S8x16384x16384 ![0, 1, 2] bcast_S8x16384x1_S8x16384x16384_0_1_2 (broadcastInDim S8x16384x1 ![0, 1] bcast_S8x16384_S8x16384x1_0_1 L))) (broadcastInDim S8x16384x16384 ![0, 1] bcast_S8x16384_S8x16384x16384_0_1 T)) E) (broadcastInDim S8x16384x16384 ![] bcast_S_S8x16384x16384 (constant S_ .f32 0x00000000#32))) (broadcastInDim S8x16384x16384 ![] bcast_S_S8x16384x16384 (Host.sqrt (constant S_ .f32 0x42C00000#32)))

/-- The three results. -/
def dVv (D : V64) (P : VTT) : V64 := transpose S8x16384x64 [0, 2, 1] (Host.dotGeneral dot_S8x16384x64_S8x16384x16384_S8x64x16384_1_1_2_2_0_0 none D P) transposes_S8x64x16384_S8x16384x64_0_2_1
def dKv (G : VTT) (Q : V96) : V96 := Host.dotGeneral dot_S8x16384x16384_S8x16384x96_S8x16384x96_1_1_2_2_0_0 none G Q
def dQv (G : VTT) (K : V96) : FVec Ideal S8x96x16384 .f32 := transpose S8x96x16384 [0, 2, 1] (Host.dotGeneral dot_S8x16384x16384_S8x16384x96_S8x16384x96_2_1_1_2_0_0 none G K) transposes_S8x16384x96_S8x96x16384_0_2_1

/-- A family of reals over heads, places and `n` coordinates, and the array that holds them. -/
abbrev A (n : ℕ) : Type := Fin 8 → Fin 16384 → Fin n → ℝ

def Holds {n : ℕ} {φ : FTy} (x : FVec Ideal ⟨3, ![8, 16384, n]⟩ φ) (xr : A n) : Prop :=
  ∀ h i d, x (ix3 h i d) = ((xr h i d : ℝ) : EReal)

def Holds2 (x : VT) (xr : Fin 8 → Fin 16384 → ℝ) : Prop := ∀ h i, x (ix2 h i) = ((xr h i : ℝ) : EReal)

/-- The real scaled logit, exponential, sum and weight at query `i` and key `j`. -/
def lg (q k : A 96) (h : Fin 8) (i j : Fin 16384) : ℝ := (∑ d, q h i d * k h j d) / Real.sqrt 96
def ex (q k : A 96) (μ : Fin 8 → Fin 16384 → ℝ) : A 16384 := fun h i j =>
  if j.val ≤ i.val then Real.exp (lg q k h i j - μ h i) else 0
def sm (e : A 16384) (h : Fin 8) (i : Fin 16384) : ℝ := ∑ j, e h i j
def pr (e : A 16384) : A 16384 := fun h i j => e h i j / sm e h i
def dp (D V : A 64) : A 16384 := fun h i j => ∑ e, D h i e * V h j e

/-- The cotangent of the sums, and of the scaled logits' numerators. -/
def ts (x e : A 16384) (h : Fin 8) (i : Fin 16384) : ℝ := -∑ j, x h i j * (1 / (sm e h i * sm e h i)) * e h i j
def gg (x e : A 16384) : A 16384 := fun h i j =>
  (if j.val ≤ i.val then (x h i j / sm e h i + ts x e h i) * e h i j else 0) / Real.sqrt 96

theorem maskv_at (h : Fin 8) (q k : Fin 16384) : maskv (ix3 h q k) = 1 ↔ k.val ≤ q.val := by
  pointwise [maskv]
  exact WordCmp.cmpi_sle_ofNat_eq_one_iff (by omega) (by omega)

theorem Xv_at {x y : V96} {xr yr : A 96} (hx : Holds x xr) (hy : Holds y yr) (h : Fin 8) (q k : Fin 16384) :
    Xv x y (ix3 h q k) = if k.val ≤ q.val then ((lg xr yr h q k : ℝ) : EReal) else ⊥ := by
  pointwise [Xv]
  unfold Scalar.select
  simp only [maskv_at]
  refine if_congr Iff.rfl ?_ ofBits_ninf
  rw [sqrt_96]
  simp only [hx h q _, hy h k _, ← EReal.coe_mul]
  rw [coe_sum, coe_div _ _ sqrt96_pos.ne']
  rfl

theorem Mv_at {x y : V96} {xr yr : A 96} (hx : Holds x xr) (hy : Holds y yr) :
    ∃ μ, Holds2 (Mv (Xv x y)) μ := by
  have : ∀ h q, ∃ r : ℝ, Mv (Xv x y) (ix2 h q) = (r : EReal) := by
    intro h q
    have key : ∀ X : VTT, Mv X (ix2 h q) = Finset.fold max (⊥ : EReal) (fun x => X (ix3 h q x)) Finset.univ := by
      intro X
      pointwise [Mv]
      rw [ofBits_ninf]
    rw [key]
    refine fold_max_real _ (fun i => ?_) q ?_
    · rw [Xv_at hx hy]; split
      · exact EReal.coe_ne_top _
      · exact bot_ne_top
    · rw [Xv_at hx hy, if_pos (le_refl _)]
      exact EReal.coe_ne_bot _
  choose μ hμ using this
  exact ⟨μ, hμ⟩

theorem Mw_eq (M : VT) : Mw M = M := by
  funext j
  rw [← ix2_eta j]
  pointwise [Mw]
  rw [ofBits_ninf]
  exact max_eq_right bot_le

theorem Ev_at {x y : V96} {xr yr : A 96} (hx : Holds x xr) (hy : Holds y yr) {M : VT} {μ : Fin 8 → Fin 16384 → ℝ}
    (hM : Holds2 M μ) : Holds (n := 16384) (Ev (Xv x y) M) (ex xr yr μ) := by
  intro h q k
  have key : ∀ X : VTT, Ev X M (ix3 h q k) = Ideal.exp (X (ix3 h q k) - M (ix2 h q)) := by
    intro X
    pointwise [Ev]
  rw [key, Xv_at hx hy, hM h q]
  unfold ex
  split
  · rw [← EReal.coe_sub, coe_exp]
  · rw [EReal.bot_sub, bot_exp]

theorem Lv_at {E : VTT} {e : A 16384} (hE : Holds (n := 16384) E e) : Holds2 (Lv E) (sm e) := by
  intro h q
  pointwise [Lv]
  simp only [hE h q _]
  rw [coe_sum]; rfl

theorem ex_nonneg (q k : A 96) (μ : Fin 8 → Fin 16384 → ℝ) (h : Fin 8) (i j : Fin 16384) : 0 ≤ ex q k μ h i j := by
  unfold ex
  split
  · exact (Real.exp_pos _).le
  · exact le_refl _

theorem sm_pos (q k : A 96) (μ : Fin 8 → Fin 16384 → ℝ) (h : Fin 8) (i : Fin 16384) : 0 < sm (ex q k μ) h i := by
  refine Finset.sum_pos' (fun j _ => ex_nonneg q k μ h i j) ⟨i, Finset.mem_univ i, ?_⟩
  unfold ex
  rw [if_pos (le_refl _)]
  exact Real.exp_pos _

theorem Pv_at {E : VTT} {L : VT} {e : A 16384} (hE : Holds (n := 16384) E e) (hL : Holds2 L (sm e)) (hp : ∀ h i, sm e h i ≠ 0) :
    Holds (n := 16384) (Pv E L) (pr e) := by
  intro h q k
  pointwise [Pv]
  rw [hE h q k, hL h q, coe_div _ _ (hp h q)]; rfl

theorem DPv_at {D V : V64} {d v : A 64} (hD : Holds D d) (hV : Holds V v) : Holds (n := 16384) (DPv D V) (dp d v) := by
  intro h q k
  pointwise [DPv]
  simp only [hD h q _, hV h k _, ← EReal.coe_mul]
  rw [coe_sum]; rfl

theorem Tv_at {X E : VTT} {L : VT} {x e : A 16384} (hX : Holds (n := 16384) X x) (hE : Holds (n := 16384) E e)
    (hL : Holds2 L (sm e)) (hp : ∀ h i, sm e h i ≠ 0) : Holds2 (Tv (Sv X E L)) (ts x e) := by
  intro h q
  have key : ∀ S : FVec Ideal S8x16384x1 .f32, Tv S (ix2 h q) = ∑ x : Fin 1, S (ix3 h q x) := by
    intro S
    pointwise [Tv]
  rw [key]
  rw [Fin.sum_univ_one]
  pointwise [Sv]
  simp only [hX h q _, hE h q _, hL h q, ← EReal.coe_mul]
  rw [← EReal.coe_one]
  simp only [coe_div _ _ (mul_ne_zero (hp h q) (hp h q)), ← EReal.coe_mul]
  rw [coe_sum, ← EReal.coe_neg]; rfl

theorem Gv_at {X E : VTT} {L T : VT} {x e : A 16384} (hX : Holds (n := 16384) X x) (hE : Holds (n := 16384) E e)
    (hL : Holds2 L (sm e)) (hT : Holds2 T (ts x e)) (hp : ∀ h i, sm e h i ≠ 0) : Holds (n := 16384) (Gv X E L T) (gg x e) := by
  intro h q k
  pointwise [Gv]
  unfold Scalar.select
  simp only [maskv_at]
  rw [sqrt_96, hX h q k, hE h q k, hL h q, hT h q, coe_div _ _ (hp h q), ← EReal.coe_add, ← EReal.coe_mul, ← EReal.coe_zero]
  unfold gg
  split
  · rw [coe_div _ _ sqrt96_pos.ne']
  · rw [coe_div _ _ sqrt96_pos.ne']

theorem dVv_at {D : V64} {P : VTT} {d : A 64} {p : A 16384} (hD : Holds D d) (hP : Holds (n := 16384) P p) :
    Holds (dVv D P) (fun h k e => ∑ i, d h i e * p h i k) := by
  intro h k e
  pointwise [dVv]
  simp only [hD h _ e, hP h _ k, ← EReal.coe_mul]
  rw [coe_sum]

theorem dKv_at {G : VTT} {Q : V96} {g : A 16384} {q : A 96} (hG : Holds (n := 16384) G g) (hQ : Holds Q q) :
    Holds (dKv G Q) (fun h k d => ∑ i, g h i k * q h i d) := by
  intro h k d
  pointwise [dKv]
  simp only [hG h _ k, hQ h _ d, ← EReal.coe_mul]
  rw [coe_sum]

theorem dQv_at {G : VTT} {K : V96} {g : A 16384} {k : A 96} (hG : Holds (n := 16384) G g) (hK : Holds K k) (h : Fin 8) (d : Fin 96) (i : Fin 16384) :
    dQv G K (ix3 h d i) = ((∑ j, g h i j * k h j d : ℝ) : EReal) := by
  pointwise [dQv]
  simp only [hG h i _, hK h _ d, ← EReal.coe_mul]
  rw [coe_sum]

/-- The reference's gradient of a scaled logit: weight times cotangent less its mean. -/
theorem gg_eq (x e : A 16384) (he : ∀ h i j, i.val < j.val → e h i j = 0) (hp : ∀ h i, sm e h i ≠ 0) (h : Fin 8) (i j : Fin 16384) :
    gg x e h i j = pr e h i j * (x h i j - ∑ j', pr e h i j' * x h i j') * (Real.sqrt 96)⁻¹ := by
  have hs : ts x e h i = -(∑ j', pr e h i j' * x h i j') / sm e h i := by
    unfold ts pr
    rw [neg_div, Finset.sum_div]
    refine congrArg Neg.neg (Finset.sum_congr rfl fun j _ => ?_)
    have := hp h i
    generalize sm e h i = s at this ⊢
    generalize x h i j = a
    generalize e h i j = b
    rw [mul_one_div]
    field_simp
  unfold gg
  rw [hs, div_eq_mul_inv]
  congr 1
  by_cases hj : j.val ≤ i.val
  · rw [if_pos hj]
    have := hp h i
    generalize (∑ j', pr e h i j' * x h i j') = S
    unfold pr
    generalize sm e h i = s at this ⊢
    generalize x h i j = a
    generalize e h i j = b
    field_simp
    ring
  · rw [if_neg hj]
    unfold pr
    rw [he h i j (by omega), zero_div, zero_mul]

end Cert.Soft
-- ==== Proof.Host.lean ====
/-
  What the host hands the kernel: the output, the log-sum and the widened values.
-/
module

public import proofs.«01_k».proof.Proof.Soft
public import proofs.«01_k».proof.Proof.Gen.KernelIdeal.Frame
public import Idealize.ShloMosaic.Lib.StableHlo.ReadAt

@[expose] public section

set_option maxRecDepth 20000

noncomputable section

namespace Cert.Soft

open Cert.KernelIdeal Cert.KernelIdeal.Gen Idealize.ShloMosaic Idealize.ShloMosaic.TcCoe

section
variable (m : (ℓ : Loc nD τ sig) → Buf (Elt Ideal) ℓ) (c : Dev nD)

/-- The arguments in the wider format. -/
def kerQ : V96 := extf .f32 (m ((c.tc : Thread nD τ).loc main_arg0)) bitsLt_bf16_f32
def kerK : V96 := extf .f32 (m ((c.tc : Thread nD τ).loc main_arg1)) bitsLt_bf16_f32
def kerV : V64 := extf .f32 (m ((c.tc : Thread nD τ).loc main_arg2)) bitsLt_bf16_f32

/-- The host's exponentials. -/
def kerE : VTT := Ev (Xv (kerQ m c) (kerK m c)) (Mv (Xv (kerQ m c) (kerK m c)))

/-- The output. -/
def Ov (P : VTT) (V : V64) : V64 := Host.dotGeneral dot_S8x16384x16384_S8x16384x64_S8x16384x64_2_1_1_2_0_0 none P V

/-- The log-sum, in eight equal rows. -/
def Zv (M L : VT) : FVec Ideal S8x8x16384 .f32 :=
  broadcastInDim S8x8x16384 ![0, 1, 2] bcast_S8x1x16384_S8x8x16384_0_1_2
    (shapeCast S8x1x16384 (addf (broadcastInDim S8x16384x1 ![0, 1] bcast_S8x16384_S8x16384x1_0_1 M)
      (Host.log (broadcastInDim S8x16384x1 ![0, 1] bcast_S8x16384_S8x16384x1_0_1 L))) shapeCasts_S8x16384x1_S8x1x16384)

/-- The values with a column of ones and columns of zeros behind them. -/
def Wv (V : FVec Ideal S8x16384x64 .bf16) : FVec Ideal S8x16384x128 .bf16 :=
  concatenate S8x16384x128 2 [⟨S8x16384x64, V⟩,
    ⟨S8x16384x1, broadcastInDim S8x16384x1 ![] bcast_S_S8x16384x1 (constant S_ .bf16 0x3F80#16)⟩,
    ⟨S8x16384x63, broadcastInDim S8x16384x63 ![] bcast_S_S8x16384x63 (constant S_ .bf16 0x0000#16)⟩]
    concatenates_S8x16384x64_S8x16384x1_S8x16384x63_S8x16384x128_d2

theorem Ov_at {P : VTT} {V : V64} {p : A 16384} {v : A 64} (hP : Holds (n := 16384) P p) (hV : Holds V v) :
    Holds (Ov P V) (fun h i e => ∑ j, p h i j * v h j e) := by
  intro h i e
  pointwise [Ov]
  simp only [hP h i _, hV h _ e, ← EReal.coe_mul]
  rw [coe_sum]

theorem Zv_at {M L : VT} {μ l : Fin 8 → Fin 16384 → ℝ} (hM : Holds2 M μ) (hL : Holds2 L l) (hp : ∀ h i, 0 < l h i)
    (h s : Fin 8) (i : Fin 16384) : Zv M L (ix3 h s i) = ((μ h i + Real.log (l h i) : ℝ) : EReal) := by
  pointwise [Zv]
  rw [hM h i, hL h i, coe_log _ (hp h i), ← EReal.coe_add]

theorem Wv_at (V : FVec Ideal S8x16384x64 .bf16) (h : Fin 8) (i : Fin 16384) (e : Fin 64) (e' : Fin 128) (he : e'.val = e.val) :
    Wv V (ix3 h i e') = V (ix3 h i e) := by
  pointwise [Wv]
  have : e'.val < 64 := by rw [he]; exact e.isLt
  rw [dif_pos this]
  exact congrArg V (congrArg (ix3 h i) (Fin.ext he))

theorem V_v23 : V m c main_v23 = Ov (Pv (kerE m c) (Lv (kerE m c))) (kerV m c) := by
  unfold V
  after_reads_simp
  rfl

theorem V_v27 : V m c main_v27 = Zv (Mv (Xv (kerQ m c) (kerK m c))) (Lv (kerE m c)) := by
  unfold V
  after_reads_simp
  rfl

theorem V_v30 : V m c main_v30 = Wv (m ((c.tc : Thread nD τ).loc main_arg2)) := by
  unfold V
  after_reads_simp
  rfl

end

end Cert.Soft
-- ==== Proof.Tiles.lean ====
/-
  One visit of the kernel over the reals: the weights of a tile and what the visit adds.
-/
module

public import proofs.«01_k».proof.Proof.Blocks
public import proofs.«01_k».proof.Proof.Host

@[expose] public section

set_option maxRecDepth 20000

noncomputable section

namespace Cert.KernelIdeal.Run

open Idealize.ShloMosaic Idealize.ShloMosaic.TcCoe
open Cert.KernelIdeal Cert.KernelIdeal.Gen Cert.Soft

/-! ### The constants -/

theorem named_scale : (Named.named (F := Ideal) (φ := .f32) κ "scale" 1037108716#32 : EReal) = (((Real.sqrt 96)⁻¹ : ℝ) : EReal) := rfl
theorem named_log2e : (Named.named (F := Ideal) (φ := .f32) κ "log2e" 1069066811#32 : EReal) = (((Real.log 2)⁻¹ : ℝ) : EReal) := rfl
theorem named_both : (Named.named (F := Ideal) (φ := .f32) κ "scale_log2e" 1041680192#32 : EReal) = (((Real.sqrt 96)⁻¹ * (Real.log 2)⁻¹ : ℝ) : EReal) := rfl

/-- The weight from the saved log-sum, by powers of two. -/
theorem weight_eq (s μ L : ℝ) (hL : 0 < L) :
    (2 : ℝ) ^ (s * ((Real.sqrt 96)⁻¹ * (Real.log 2)⁻¹) - (μ + Real.log L) * (Real.log 2)⁻¹) = Real.exp (s / Real.sqrt 96 - μ) / L := by
  have h2 : Real.log 2 ≠ 0 := (Real.log_pos (by norm_num)).ne'
  rw [Real.rpow_def_of_pos (by norm_num)]
  have e : Real.log 2 * (s * ((Real.sqrt 96)⁻¹ * (Real.log 2)⁻¹) - (μ + Real.log L) * (Real.log 2)⁻¹) = (s / Real.sqrt 96 - μ) - Real.log L := by
    have h9 := sqrt96_pos.ne'
    generalize Real.sqrt 96 = u at h9 ⊢
    field_simp
    ring
  rw [e, Real.exp_sub, Real.exp_log hL]

/-! ### The arguments as reals -/

/-- The reals behind the four arguments, and each query's greatest scaled logit. -/
structure Reals where
  q : A 96
  k : A 96
  v : A 64
  d : A 64
  μ : Fin 8 → Fin 16384 → ℝ

namespace Reals
variable (R : Reals)

/-- The weights, the output, and the logits' cotangents before the scale. -/
def e : A 16384 := ex R.q R.k R.μ
def w : A 16384 := pr R.e
def o : A 64 := fun h i x => ∑ j, R.w h i j * R.v h j x
def ds : A 16384 := fun h i j => R.w h i j * (dp R.d R.v h i j - ∑ x, R.d h i x * R.o h i x)

theorem w_zero (h : Fin 8) (i j : Fin 16384) (hij : i.val < j.val) : R.w h i j = 0 := by
  unfold w pr e ex
  rw [if_neg (by omega), zero_div]

theorem w_eq (h : Fin 8) (i j : Fin 16384) (hij : j.val ≤ i.val) :
    R.w h i j = Real.exp (lg R.q R.k h i j - R.μ h i) / sm R.e h i := by
  unfold w pr
  refine congrArg (· / sm R.e h i) ?_
  unfold e ex
  exact if_pos hij

theorem ds_zero (h : Fin 8) (i j : Fin 16384) (hij : i.val < j.val) : R.ds h i j = 0 := by
  unfold ds
  rw [w_zero R h i j hij, zero_mul]

/-- That the memory's arguments are these reals. -/
structure Of (m : (ℓ : Loc nD τ sig) → Buf (Elt Ideal) ℓ) (c : Dev nD) : Prop where
  q : Holds (n := 96) (φ := .bf16) (m ((c.tc : Thread nD τ).loc main_arg0)) R.q
  k : Holds (n := 96) (φ := .bf16) (m ((c.tc : Thread nD τ).loc main_arg1)) R.k
  v : Holds (n := 64) (φ := .bf16) (m ((c.tc : Thread nD τ).loc main_arg2)) R.v
  d : Holds (n := 64) (φ := .bf16) (m ((c.tc : Thread nD τ).loc main_arg3)) R.d
  μ : Holds2 (Mv (Xv (kerQ m c) (kerK m c))) R.μ

end Reals

theorem kerQ_at {m : (ℓ : Loc nD τ sig) → Buf (Elt Ideal) ℓ} {c : Dev nD} {q : A 96}
    (hq : Holds (n := 96) (φ := .bf16) (m ((c.tc : Thread nD τ).loc main_arg0)) q) : Holds (kerQ m c) q := fun h i d => hq h i d
theorem kerK_at {m : (ℓ : Loc nD τ sig) → Buf (Elt Ideal) ℓ} {c : Dev nD} {q : A 96}
    (hq : Holds (n := 96) (φ := .bf16) (m ((c.tc : Thread nD τ).loc main_arg1)) q) : Holds (kerK m c) q := fun h i d => hq h i d
theorem kerV_at {m : (ℓ : Loc nD τ sig) → Buf (Elt Ideal) ℓ} {c : Dev nD} {q : A 64}
    (hq : Holds (n := 64) (φ := .bf16) (m ((c.tc : Thread nD τ).loc main_arg2)) q) : Holds (kerV m c) q := fun h i d => hq h i d

section
variable {m : (ℓ : Loc nD τ sig) → Buf (Elt Ideal) ℓ} {c : Dev nD} {R : Reals} (H : R.Of m c)
include H

theorem kerE_at : Holds (kerE m c) R.e := Ev_at (kerQ_at H.q) (kerK_at H.k) H.μ
theorem kerL_at : Holds2 (Lv (kerE m c)) (sm R.e) := Lv_at (kerE_at H)
theorem kerP_at : Holds (Pv (kerE m c) (Lv (kerE m c))) R.w :=
  Pv_at (kerE_at H) (kerL_at H) fun h i => (sm_pos _ _ _ h i).ne'

theorem arg0_at : Holds (n := 96) (φ := .bf16) (V m c main_arg0) R.q := by rw [V_main_arg0]; exact H.q
theorem arg1_at : Holds (n := 96) (φ := .bf16) (V m c main_arg1) R.k := by rw [V_main_arg1]; exact H.k
theorem arg3_at : Holds (n := 64) (φ := .bf16) (V m c main_arg3) R.d := by rw [V_main_arg3]; exact H.d
theorem v23_at : Holds (n := 64) (φ := .f32) (V m c main_v23) R.o := by
  rw [V_v23]; exact Ov_at (kerP_at H) (kerV_at H.v)
theorem v27_at (h s : Fin 8) (i : Fin 16384) : (V m c main_v27 : FVec Ideal S8x8x16384 .f32) (ix3 h s i) = ((R.μ h i + Real.log (sm R.e h i) : ℝ) : EReal) := by
  rw [V_v27]; exact Zv_at H.μ (kerL_at H) (fun h i => sm_pos _ _ _ h i) h s i
theorem v30_at (h : Fin 8) (i : Fin 16384) (x : Fin 64) : (V m c main_v30 : FVec Ideal S8x16384x128 .bf16) (ix3 h i (vcol x)) = ((R.v h i x : ℝ) : EReal) := by
  rw [V_v30, Wv_at _ h i x (vcol x) rfl]; exact H.v h i x

/-! ### A visit -/

variable {h a b : ℕ} (hh : h < 8) (ha : a < 8) (hb : b < 8) (hab : a ≤ b)
include hh ha hb hab

theorem tileP_real (r q : Fin 2048) (hle : (place a r).val ≤ (place b q).val) :
    tileP (b0 m c (at3 h a b)) (b1 m c (at3 h a b)) (b4 m c (at3 h a b)) r q = ((R.w ⟨h, hh⟩ (place b q) (place a r) : ℝ) : EReal) := by
  unfold tileP
  rw [named_both, named_log2e, b4_at m c hh ha hb hab, v27_at H]
  have e1 : ∀ d : Fin 96, (b1 m c (at3 h a b) (ix3 0 r d) * b0 m c (at3 h a b) (ix3 0 q d) : EReal)
      = ((R.q ⟨h, hh⟩ (place b q) d * R.k ⟨h, hh⟩ (place a r) d : ℝ) : EReal) := by
    intro d
    rw [b1_at m c hh ha hb, b0_at m c hh ha hb hab, arg0_at H, arg1_at H, ← EReal.coe_mul, mul_comm]
  simp only [e1]
  rw [coe_sum, ← EReal.coe_mul, ← EReal.coe_mul, ← EReal.coe_sub]
  refine (coe_exp2 _).trans ?_
  rw [weight_eq _ _ _ (show 0 < sm R.e ⟨h, hh⟩ (place b q) from sm_pos _ _ _ _ _), Reals.w_eq R _ _ _ hle]
  rfl

theorem tileM_real (r q : Fin 2048) :
    tileM (dg (at3 h a b)) (b0 m c (at3 h a b)) (b1 m c (at3 h a b)) (b4 m c (at3 h a b)) r q = ((R.w ⟨h, hh⟩ (place b q) (place a r) : ℝ) : EReal) := by
  have e : dg (at3 h a b) = decide (a = b) := by
    unfold dg at3
    rw [show (64 * h + 8 * a + b) / 8 % 8 = a by omega, show (64 * h + 8 * a + b) % 8 = b by omega]
  unfold tileM
  rw [e]
  simp only [decide_eq_true_eq]
  have hr := place_val ha r
  have hq := place_val hb q
  split
  · next hc =>
    obtain ⟨rfl, hlt⟩ := hc
    rw [Reals.w_zero R _ _ _ (by omega)]; rfl
  · next hc =>
    refine tileP_real H hh ha hb hab r q ?_
    have : a < b ∨ r.val ≤ q.val := by
      by_contra hn
      exact hc ⟨by omega, by omega⟩
    have h1 := r.isLt
    rcases this with h2 | h2
    · have : a * 2048 + 2048 ≤ b * 2048 := by omega
      omega
    · have : a * 2048 ≤ b * 2048 := by omega
      omega

theorem tileD_real (r q : Fin 2048) :
    tileD (b2 m c (at3 h a b)) (b3 m c (at3 h a b)) (b5 m c (at3 h a b)) r q
      = ((dp R.d R.v ⟨h, hh⟩ (place b q) (place a r) - ∑ x, R.d ⟨h, hh⟩ (place b q) x * R.o ⟨h, hh⟩ (place b q) x : ℝ) : EReal) := by
  unfold tileD
  have e1 : ∀ x : Fin 64, (b2 m c (at3 h a b) (ix3 0 r (vcol x)) * b5 m c (at3 h a b) (ix3 0 q x) : EReal)
      = ((R.d ⟨h, hh⟩ (place b q) x * R.v ⟨h, hh⟩ (place a r) x : ℝ) : EReal) := by
    intro x
    rw [b2_at m c hh ha hb, b5_at m c hh ha hb hab, v30_at H, arg3_at H, ← EReal.coe_mul, mul_comm]
  have e2 : ∀ x : Fin 64, (b5 m c (at3 h a b) (ix3 0 q x) * b3 m c (at3 h a b) (ix3 0 q x) : EReal)
      = ((R.d ⟨h, hh⟩ (place b q) x * R.o ⟨h, hh⟩ (place b q) x : ℝ) : EReal) := by
    intro x
    rw [b3_at m c hh ha hb hab, b5_at m c hh ha hb hab, v23_at H, arg3_at H, ← EReal.coe_mul]
  simp only [e1, e2]
  rw [coe_sum, coe_sum, ← EReal.coe_sub]
  rfl

theorem tileS_real (r q : Fin 2048) :
    tileS (dg (at3 h a b)) (b0 m c (at3 h a b)) (b1 m c (at3 h a b)) (b2 m c (at3 h a b)) (b3 m c (at3 h a b)) (b4 m c (at3 h a b)) (b5 m c (at3 h a b)) r q
      = ((R.ds ⟨h, hh⟩ (place b q) (place a r) : ℝ) : EReal) := by
  unfold tileS
  rw [tileM_real H hh ha hb hab, tileD_real H hh ha hb hab, ← EReal.coe_mul]
  rfl

theorem addV_real (r : Fin 2048) (d : Fin 64) :
    addV (dg (at3 h a b)) (b0 m c (at3 h a b)) (b1 m c (at3 h a b)) (b4 m c (at3 h a b)) (b5 m c (at3 h a b)) r d
      = ((∑ q, R.w ⟨h, hh⟩ (place b q) (place a r) * R.d ⟨h, hh⟩ (place b q) d : ℝ) : EReal) := by
  unfold addV
  have e1 : ∀ q : Fin 2048, (tileM (dg (at3 h a b)) (b0 m c (at3 h a b)) (b1 m c (at3 h a b)) (b4 m c (at3 h a b)) r q * b5 m c (at3 h a b) (ix3 0 q d) : EReal)
      = ((R.w ⟨h, hh⟩ (place b q) (place a r) * R.d ⟨h, hh⟩ (place b q) d : ℝ) : EReal) := by
    intro q
    rw [tileM_real H hh ha hb hab, b5_at m c hh ha hb hab, arg3_at H, ← EReal.coe_mul]
  simp only [e1]
  exact coe_sum _ _

theorem addK_real (r : Fin 2048) (d : Fin 96) :
    addK (dg (at3 h a b)) (b0 m c (at3 h a b)) (b1 m c (at3 h a b)) (b2 m c (at3 h a b)) (b3 m c (at3 h a b)) (b4 m c (at3 h a b)) (b5 m c (at3 h a b)) r d
      = ((∑ q, R.ds ⟨h, hh⟩ (place b q) (place a r) * R.q ⟨h, hh⟩ (place b q) d : ℝ) : EReal) := by
  unfold addK
  have e1 : ∀ q : Fin 2048, (tileS (dg (at3 h a b)) (b0 m c (at3 h a b)) (b1 m c (at3 h a b)) (b2 m c (at3 h a b)) (b3 m c (at3 h a b)) (b4 m c (at3 h a b)) (b5 m c (at3 h a b)) r q * b0 m c (at3 h a b) (ix3 0 q d) : EReal)
      = ((R.ds ⟨h, hh⟩ (place b q) (place a r) * R.q ⟨h, hh⟩ (place b q) d : ℝ) : EReal) := by
    intro q
    rw [tileS_real H hh ha hb hab, b0_at m c hh ha hb hab, arg0_at H, ← EReal.coe_mul]
  simp only [e1]
  exact coe_sum _ _

theorem addQ_real (d : Fin 96) (q : Fin 2048) :
    addQ (dg (at3 h a b)) (b0 m c (at3 h a b)) (b1 m c (at3 h a b)) (b2 m c (at3 h a b)) (b3 m c (at3 h a b)) (b4 m c (at3 h a b)) (b5 m c (at3 h a b)) d q
      = (((∑ r, R.ds ⟨h, hh⟩ (place b q) (place a r) * R.k ⟨h, hh⟩ (place a r) d) * (Real.sqrt 96)⁻¹ : ℝ) : EReal) := by
  unfold addQ
  have e1 : ∀ r : Fin 2048, (b1 m c (at3 h a b) (ix3 0 r d) * tileS (dg (at3 h a b)) (b0 m c (at3 h a b)) (b1 m c (at3 h a b)) (b2 m c (at3 h a b)) (b3 m c (at3 h a b)) (b4 m c (at3 h a b)) (b5 m c (at3 h a b)) r q : EReal)
      = ((R.ds ⟨h, hh⟩ (place b q) (place a r) * R.k ⟨h, hh⟩ (place a r) d : ℝ) : EReal) := by
    intro r
    rw [tileS_real H hh ha hb hab, b1_at m c hh ha hb, arg1_at H, ← EReal.coe_mul, mul_comm]
  simp only [e1]
  rw [coe_sum, named_scale, ← EReal.coe_mul]

end

end Cert.KernelIdeal.Run
-- ==== Proof.Accs.lean ====
/-
  The accumulators at the end of their key tile, and the query gradient's block at the end of its head.
-/
module

public import proofs.«01_k».proof.Proof.Tiles

@[expose] public section

set_option maxRecDepth 20000

noncomputable section

namespace Cert.KernelIdeal.Run

open Idealize.ShloMosaic Idealize.ShloMosaic.TcCoe
open Cert.KernelIdeal Cert.KernelIdeal.Gen Cert.Soft

/-- A sum over all places is the sum over the eight tiles. -/
theorem sum_place (f : Fin 16384 → ℝ) : ∑ a ∈ Finset.range 8, ∑ q : Fin 2048, f (place a q) = ∑ i, f i := by
  rw [Fin.sum_univ_tiles 8 2048 (by norm_num) f, Finset.sum_range]
  refine Finset.sum_congr rfl fun a _ => Finset.sum_congr rfl fun q _ => congrArg f (Fin.ext ?_)
  exact place_val a.isLt q

/-- A sum over the points of a head, tile row by tile row. -/
theorem sum_rows (f : ℕ → ℝ) (n : ℕ) : ∑ u ∈ Finset.range (8 * n), f u = ∑ a ∈ Finset.range n, ∑ b ∈ Finset.range 8, f (8 * a + b) := by
  induction n with
  | zero => rfl
  | succ n ih => rw [Nat.mul_succ, Finset.sum_range_add, ih, Finset.sum_range_succ _ n]

section
variable {m : (ℓ : Loc nD τ sig) → Buf (Elt Ideal) ℓ} {c : Dev nD} {R : Reals} (H : R.Of m c)

/-- What the visit of key tile `a` and query tile `b` adds, over the reals. -/
def rV (R : Reals) (h : Fin 8) (a b : ℕ) (r : Fin 2048) (d : Fin 64) : ℝ := ∑ q, R.w h (place b q) (place a r) * R.d h (place b q) d
def rK (R : Reals) (h : Fin 8) (a b : ℕ) (r : Fin 2048) (d : Fin 96) : ℝ := ∑ q, R.ds h (place b q) (place a r) * R.q h (place b q) d
def rQ (R : Reals) (h : Fin 8) (a : ℕ) (d : Fin 96) (i : Fin 16384) : ℝ := (∑ r, R.ds h i (place a r) * R.k h (place a r) d) * (Real.sqrt 96)⁻¹

theorem before_lt {a b : ℕ} (ha : a < 8) (hb : b < 8) (hn : ¬ a ≤ b) (r q : Fin 2048) : (place b q).val < (place a r).val := by
  rw [place_val ha, place_val hb]
  have : b * 2048 + 2048 ≤ a * 2048 := by omega
  have := q.isLt
  omega

include H

section
variable {h a b : ℕ} (hh : h < 8) (ha : a < 8) (hb : b < 8)
include hh ha hb

theorem updV_real (x : Vec Ideal S2048x64 .f32) (r : Fin 2048) (d : Fin 64) :
    updV m c (at3 h a b) x (ix2 r d) = ((x (ix2 r d) : EReal) + ((rV R ⟨h, hh⟩ a b r d : ℝ) : EReal) : EReal) := by
  have e1 : at3 h a b / 8 % 8 = a := by unfold at3; omega
  have e2 : at3 h a b % 8 = b := by unfold at3; omega
  unfold updV
  rw [e1, e2]
  by_cases hab : a ≤ b
  · rw [if_pos hab]
    show (x (ix2 r d) + addV _ _ _ _ _ r d : EReal) = _
    rw [addV_real H hh ha hb hab]; rfl
  · rw [if_neg hab]
    have : rV R ⟨h, hh⟩ a b r d = 0 := Finset.sum_eq_zero fun q _ => by
      rw [Reals.w_zero R _ _ _ (before_lt ha hb hab r q), zero_mul]
    rw [this, EReal.coe_zero, add_zero]

theorem updK_real (x : Vec Ideal S2048x96 .f32) (r : Fin 2048) (d : Fin 96) :
    updK m c (at3 h a b) x (ix2 r d) = ((x (ix2 r d) : EReal) + ((rK R ⟨h, hh⟩ a b r d : ℝ) : EReal) : EReal) := by
  have e1 : at3 h a b / 8 % 8 = a := by unfold at3; omega
  have e2 : at3 h a b % 8 = b := by unfold at3; omega
  unfold updK
  rw [e1, e2]
  by_cases hab : a ≤ b
  · rw [if_pos hab]
    show (x (ix2 r d) + addK _ _ _ _ _ _ _ r d : EReal) = _
    rw [addK_real H hh ha hb hab]; rfl
  · rw [if_neg hab]
    have : rK R ⟨h, hh⟩ a b r d = 0 := Finset.sum_eq_zero fun q _ => by
      rw [Reals.ds_zero R _ _ _ (before_lt ha hb hab r q), zero_mul]
    rw [this, EReal.coe_zero, add_zero]

theorem updQ_real (x : Vec Ideal S1x96x16384 .f32) (d : Fin 96) (i : Fin 16384) :
    updQ m c (at3 h a b) x (ix3 0 d i) = ((x (ix3 0 d i) : EReal) + ((if i.val / 2048 = b then rQ R ⟨h, hh⟩ a d i else 0 : ℝ) : EReal) : EReal) := by
  have e1 : at3 h a b / 8 % 8 = a := by unfold at3; omega
  have e2 : at3 h a b % 8 = b := by unfold at3; omega
  unfold updQ
  rw [e1, e2]
  by_cases hab : a ≤ b
  · rw [if_pos hab]
    show (x (ix3 0 d i) + (if i.val / 2048 = b then addQ _ _ _ _ _ _ _ d (colIn i) else 0) : EReal) = _
    by_cases hi : i.val / 2048 = b
    · rw [if_pos hi, if_pos hi, addQ_real H hh ha hb hab, ← hi, place_colIn]; rfl
    · rw [if_neg hi, if_neg hi]; rfl
  · rw [if_neg hab]
    have : (if i.val / 2048 = b then rQ R ⟨h, hh⟩ a d i else 0 : ℝ) = 0 := by
      split
      · next hi =>
        unfold rQ
        rw [Finset.sum_eq_zero, zero_mul]
        intro r _
        have := before_lt ha hb hab r (colIn i)
        rw [← hi, place_colIn] at this
        rw [Reals.ds_zero R _ _ _ this, zero_mul]
      · rfl
    rw [this, EReal.coe_zero, add_zero]

theorem stV_real (r : Fin 2048) (d : Fin 64) :
    stV m c (at3 h a b) (ix2 r d) = ((∑ y ∈ Finset.range (b + 1), rV R ⟨h, hh⟩ a y r d : ℝ) : EReal) := by
  induction b with
  | zero =>
    rw [stV_eq, updV_real H hh ha hb, if_pos (by unfold at3; omega), zero_add, Finset.sum_range_one]
  | succ b ih =>
    rw [stV_eq, updV_real H hh ha hb, if_neg (by unfold at3; omega), show at3 h a (b + 1) - 1 = at3 h a b by unfold at3; omega,
      ih (by omega), ← EReal.coe_add, Finset.sum_range_succ _ (b + 1)]

theorem stK_real (r : Fin 2048) (d : Fin 96) :
    stK m c (at3 h a b) (ix2 r d) = ((∑ y ∈ Finset.range (b + 1), rK R ⟨h, hh⟩ a y r d : ℝ) : EReal) := by
  induction b with
  | zero =>
    rw [stK_eq, updK_real H hh ha hb, if_pos (by unfold at3; omega), zero_add, Finset.sum_range_one]
  | succ b ih =>
    rw [stK_eq, updK_real H hh ha hb, if_neg (by unfold at3; omega), show at3 h a (b + 1) - 1 = at3 h a b by unfold at3; omega,
      ih (by omega), ← EReal.coe_add, Finset.sum_range_succ _ (b + 1)]

end

variable {h : ℕ} (hh : h < 8)
include hh

/-- The query gradient's block after `u + 1` points of a head. -/
theorem stQ_real (u : ℕ) (hu : u < 64) (d : Fin 96) (i : Fin 16384) :
    stQ m c (64 * h + u) (ix3 0 d i)
      = ((∑ y ∈ Finset.range (u + 1), if i.val / 2048 = y % 8 then rQ R ⟨h, hh⟩ (y / 8) d i else 0 : ℝ) : EReal) := by
  have e : ∀ u, u < 64 → 64 * h + u = at3 h (u / 8) (u % 8) := fun u _ => by unfold at3; omega
  induction u with
  | zero =>
    rw [stQ_eq, if_pos (by omega), e 0 (by omega), updQ_real H hh (by omega) (by omega), zero_add, Finset.sum_range_one]
  | succ u ih =>
    rw [stQ_eq, if_neg (by omega), show 64 * h + (u + 1) - 1 = 64 * h + u by omega, e (u + 1) hu,
      updQ_real H hh (by omega) (by omega), ih (by omega), ← EReal.coe_add, Finset.sum_range_succ _ (u + 1)]

/-- The value gradient of a key. -/
theorem endV (a : ℕ) (ha : a < 8) (r : Fin 2048) (d : Fin 64) :
    stV m c (at3 h a 7) (ix2 r d) = ((∑ i, R.w ⟨h, hh⟩ i (place a r) * R.d ⟨h, hh⟩ i d : ℝ) : EReal) := by
  rw [stV_real H hh ha (by omega)]
  refine congrArg _ ?_
  exact sum_place fun i => R.w ⟨h, hh⟩ i (place a r) * R.d ⟨h, hh⟩ i d

/-- The key gradient of a key, before the scale. -/
theorem endK (a : ℕ) (ha : a < 8) (r : Fin 2048) (d : Fin 96) :
    stK m c (at3 h a 7) (ix2 r d) = ((∑ i, R.ds ⟨h, hh⟩ i (place a r) * R.q ⟨h, hh⟩ i d : ℝ) : EReal) := by
  rw [stK_real H hh ha (by omega)]
  refine congrArg _ ?_
  exact sum_place fun i => R.ds ⟨h, hh⟩ i (place a r) * R.q ⟨h, hh⟩ i d

/-- The query gradient of a query. -/
theorem endQ (d : Fin 96) (i : Fin 16384) :
    stQ m c (64 * h + 63) (ix3 0 d i) = (((∑ j, R.ds ⟨h, hh⟩ i j * R.k ⟨h, hh⟩ j d) * (Real.sqrt 96)⁻¹ : ℝ) : EReal) := by
  rw [stQ_real H hh 63 (by omega)]
  refine congrArg _ ?_
  rw [show 63 + 1 = 8 * 8 from rfl, sum_rows, ← sum_place fun j => R.ds ⟨h, hh⟩ i j * R.k ⟨h, hh⟩ j d, Finset.sum_mul]
  refine Finset.sum_congr rfl fun a ha => ?_
  have ha := Finset.mem_range.mp ha
  have hi : i.val / 2048 < 8 := by omega
  rw [Finset.sum_eq_single (i.val / 2048)]
  · rw [if_pos (by omega), show (8 * a + i.val / 2048) / 8 = a by omega]; rfl
  · intro b hb hne
    have hb := Finset.mem_range.mp hb
    rw [if_neg (by omega)]
  · intro hn
    exact absurd (Finset.mem_range.mpr hi) hn

end

end Cert.KernelIdeal.Run
-- ==== Proof.Final.lean ====
/-
  The kernel's three result arrays at the end of its run, over the reals.
-/
module

public import proofs.«01_k».proof.Proof.Accs
public import proofs.«01_k».proof.Proof.Frame
public import Idealize.ShloMosaic.Lib.Pipeline.Value

@[expose] public section

set_option maxRecDepth 20000

noncomputable section

namespace Cert.KernelIdeal.Run

open Idealize.ShloMosaic Idealize.ShloMosaic.TcCoe
open Cert.KernelIdeal Cert.KernelIdeal.Gen Cert.Soft

/-- The query gradient (transposed), the key gradient and the value gradient. -/
def finQ (R : Reals) : FVec Ideal S8x96x16384 .f32 := fun j =>
  (((∑ x, R.ds (j 0) (j 2) x * R.k (j 0) x (j 1)) * (Real.sqrt 96)⁻¹ : ℝ) : EReal)
def finK (R : Reals) : FVec Ideal S8x16384x96 .f32 := fun j =>
  (((∑ i, R.ds (j 0) i (j 1) * R.q (j 0) i (j 2)) * (Real.sqrt 96)⁻¹ : ℝ) : EReal)
def finV (R : Reals) : FVec Ideal S8x16384x64 .f32 := fun j =>
  ((∑ i, R.w (j 0) i (j 1) * R.d (j 0) i (j 2) : ℝ) : EReal)

/-- A place of an array with one slab. -/
theorem one_ix {n1 n2 : ℕ} (y : (⟨3, ![1, n1, n2]⟩ : Shape).Idx) : ∃ (a : Fin n1) (b : Fin n2), y = ix3 (0 : Fin 1) a b :=
  ⟨y 1, y 2, (ix3_eta y).symm.trans (congrArg (fun z : Fin 1 => ix3 z (y 1 : Fin n1) (y 2 : Fin n2)) (Subsingleton.elim (α := Fin 1) _ _))⟩

/-! ### Where the output blocks lie -/

section
variable {h a b : ℕ} (hh : h < 8) (ha : a < 8) (hb : b < 8)
include hh ha hb

theorem rd6 (X : FVec Ideal S8x96x16384 .f32) (d : Fin 96) (i : Fin 16384) :
    ((cfg0.win 6).blk (pt (at3 h a b))).view.read (Elt Ideal) X (ix3 0 d i) = X (ix3 (⟨h, hh⟩ : Fin 8) d i) := by
  rw [View.read_apply]
  show X _ = _
  refine congrArg X ?_
  funext x
  apply Fin.ext
  match x with
  | ⟨0, _⟩ => show (BitVec.ofNat 32 (grid0.coords (pt (at3 h a b)) 0).val).toNat * 1 + 1 * 0 = h; rw [tr_h hh ha hb]; omega
  | ⟨1, _⟩ => show 0 * 96 + 1 * d.val = d.val; omega
  | ⟨2, _⟩ => show 0 * 16384 + 1 * i.val = i.val; omega

theorem cov6 (d : Fin 96) (i : Fin 16384) : ix3 (⟨h, hh⟩ : Fin 8) d i ∈ ((cfg0.win 6).blk (pt (at3 h a b))).view.set := by
  show _ ∈ ((View.whole main_v31_0).slice (win0_6.rect (pt (at3 h a b)))).set
  rw [View.set_slice_whole, Rect.mem_set_unit]
  intro x
  match x with
  | ⟨0, _⟩ =>
    show (BitVec.ofNat 32 (grid0.coords (pt (at3 h a b)) 0).val).toNat * 1 ≤ h ∧ h < (BitVec.ofNat 32 (grid0.coords (pt (at3 h a b)) 0).val).toNat * 1 + 1
    rw [tr_h hh ha hb]; omega
  | ⟨1, _⟩ => show 0 * 96 ≤ d.val ∧ d.val < 0 * 96 + 96; omega
  | ⟨2, _⟩ => show 0 * 16384 ≤ i.val ∧ i.val < 0 * 16384 + 16384; omega

theorem rd7 (X : FVec Ideal S8x16384x96 .f32) (r : Fin 2048) (d : Fin 96) :
    ((cfg0.win 7).blk (pt (at3 h a b))).view.read (Elt Ideal) X (ix3 0 r d) = X (ix3 (⟨h, hh⟩ : Fin 8) (place a r) d) := by
  rw [View.read_apply]
  show X _ = _
  refine congrArg X ?_
  funext x
  apply Fin.ext
  match x with
  | ⟨0, _⟩ => show (BitVec.ofNat 32 (grid0.coords (pt (at3 h a b)) 0).val).toNat * 1 + 1 * 0 = h; rw [tr_h hh ha hb]; omega
  | ⟨1, _⟩ => show (BitVec.ofNat 32 (grid0.coords (pt (at3 h a b)) 1).val).toNat * 2048 + 1 * r.val = (place a r).val; rw [tr_k hh ha hb, place_val ha]; omega
  | ⟨2, _⟩ => show 0 * 96 + 1 * d.val = d.val; omega

theorem cov7 (j : Fin 16384) (hj : j.val / 2048 = a) (d : Fin 96) : ix3 (⟨h, hh⟩ : Fin 8) j d ∈ ((cfg0.win 7).blk (pt (at3 h a b))).view.set := by
  show _ ∈ ((View.whole main_v31_1).slice (win0_7.rect (pt (at3 h a b)))).set
  rw [View.set_slice_whole, Rect.mem_set_unit]
  intro x
  match x with
  | ⟨0, _⟩ =>
    show (BitVec.ofNat 32 (grid0.coords (pt (at3 h a b)) 0).val).toNat * 1 ≤ h ∧ h < (BitVec.ofNat 32 (grid0.coords (pt (at3 h a b)) 0).val).toNat * 1 + 1
    rw [tr_h hh ha hb]; omega
  | ⟨1, _⟩ =>
    show (BitVec.ofNat 32 (grid0.coords (pt (at3 h a b)) 1).val).toNat * 2048 ≤ j.val ∧ j.val < (BitVec.ofNat 32 (grid0.coords (pt (at3 h a b)) 1).val).toNat * 2048 + 2048
    rw [tr_k hh ha hb]; omega
  | ⟨2, _⟩ => show 0 * 96 ≤ d.val ∧ d.val < 0 * 96 + 96; omega

theorem rd8 (X : FVec Ideal S8x16384x64 .f32) (r : Fin 2048) (d : Fin 64) :
    ((cfg0.win 8).blk (pt (at3 h a b))).view.read (Elt Ideal) X (ix3 0 r d) = X (ix3 (⟨h, hh⟩ : Fin 8) (place a r) d) := by
  rw [View.read_apply]
  show X _ = _
  refine congrArg X ?_
  funext x
  apply Fin.ext
  match x with
  | ⟨0, _⟩ => show (BitVec.ofNat 32 (grid0.coords (pt (at3 h a b)) 0).val).toNat * 1 + 1 * 0 = h; rw [tr_h hh ha hb]; omega
  | ⟨1, _⟩ => show (BitVec.ofNat 32 (grid0.coords (pt (at3 h a b)) 1).val).toNat * 2048 + 1 * r.val = (place a r).val; rw [tr_k hh ha hb, place_val ha]; omega
  | ⟨2, _⟩ => show 0 * 64 + 1 * d.val = d.val; omega

theorem cov8 (j : Fin 16384) (hj : j.val / 2048 = a) (d : Fin 64) : ix3 (⟨h, hh⟩ : Fin 8) j d ∈ ((cfg0.win 8).blk (pt (at3 h a b))).view.set := by
  show _ ∈ ((View.whole main_v31_2).slice (win0_8.rect (pt (at3 h a b)))).set
  rw [View.set_slice_whole, Rect.mem_set_unit]
  intro x
  match x with
  | ⟨0, _⟩ =>
    show (BitVec.ofNat 32 (grid0.coords (pt (at3 h a b)) 0).val).toNat * 1 ≤ h ∧ h < (BitVec.ofNat 32 (grid0.coords (pt (at3 h a b)) 0).val).toNat * 1 + 1
    rw [tr_h hh ha hb]; omega
  | ⟨1, _⟩ =>
    show (BitVec.ofNat 32 (grid0.coords (pt (at3 h a b)) 1).val).toNat * 2048 ≤ j.val ∧ j.val < (BitVec.ofNat 32 (grid0.coords (pt (at3 h a b)) 1).val).toNat * 2048 + 2048
    rw [tr_k hh ha hb]; omega
  | ⟨2, _⟩ => show 0 * 64 ≤ d.val ∧ d.val < 0 * 64 + 64; omega

end

/-- Every point is the point of its head and tiles. -/
theorem eq_pt (t : Fin cfg0.N) : t = pt (at3 (t.val / 64) (t.val / 8 % 8) (t.val % 8)) ∧ t.val / 64 < 8 := by
  have h1 := lt_of_lt_of_eq t.isLt N_0
  refine ⟨?_, by omega⟩
  rw [show at3 (t.val / 64) (t.val / 8 % 8) (t.val % 8) = t.val by unfold at3; omega, pt_val]

section
variable {m : (ℓ : Loc nD τ sig) → Buf (Elt Ideal) ℓ} {c : Dev nD} {R : Reals} (H : R.Of m c)
include H

theorem flushed6 (t : Fin cfg0.N) (hf : (cfg0.win 6).flush t = true) :
    (dats m 0 c).flushed 6 t = ((cfg0.win 6).blk t).view.read (Elt Ideal) (finQ R) := by
  rw [flush6, decide_eq_true_iff] at hf
  obtain ⟨e, hh⟩ := eq_pt t
  show (cfg0.win 6).cut (grid0.coords t) ((dats m 0 c).after 6 t) = _
  rw [after0_6]
  refine funext fun (y : S1x96x16384.Idx) => ?_
  obtain ⟨r, d, rfl⟩ := one_ix y
  show stQ m c t.val (ix3 0 r d) = _
  refine Eq.trans ?_ (congrArg (fun s => ((cfg0.win 6).blk s).view.read (Elt Ideal) (finQ R) (ix3 0 r d)) e.symm)
  refine Eq.trans ?_ (rd6 hh (by omega) (by omega) (finQ R) r d).symm
  have e2 : t.val = 64 * (t.val / 64) + 63 := by omega
  refine (congrFun (congrArg (stQ m c) e2) (ix3 0 r d)).trans ?_
  rw [endQ H hh r d]
  rfl

theorem flushed7 (t : Fin cfg0.N) (hf : (cfg0.win 7).flush t = true) :
    (dats m 0 c).flushed 7 t = ((cfg0.win 7).blk t).view.read (Elt Ideal) (finK R) := by
  rw [flush7, decide_eq_true_iff] at hf
  obtain ⟨e, hh⟩ := eq_pt t
  show (cfg0.win 7).cut (grid0.coords t) ((dats m 0 c).after 7 t) = _
  rw [after0_7]
  refine funext fun (y : S1x2048x96.Idx) => ?_
  obtain ⟨r, d, rfl⟩ := one_ix y
  show outK (stK m c t.val) (ix3 0 r d) = _
  refine Eq.trans ?_ (congrArg (fun s => ((cfg0.win 7).blk s).view.read (Elt Ideal) (finK R) (ix3 0 r d)) e.symm)
  refine Eq.trans ?_ (rd7 hh (by omega) (by omega) (finK R) r d).symm
  have e2 : t.val = at3 (t.val / 64) (t.val / 8 % 8) 7 := by unfold at3; omega
  show (stK m c t.val (ix2 r d) * _ : EReal) = _
  rw [congrArg (stK m c) e2, endK H hh _ (by omega), named_scale, ← EReal.coe_mul]
  rfl

theorem flushed8 (t : Fin cfg0.N) (hf : (cfg0.win 8).flush t = true) :
    (dats m 0 c).flushed 8 t = ((cfg0.win 8).blk t).view.read (Elt Ideal) (finV R) := by
  rw [flush8, decide_eq_true_iff] at hf
  obtain ⟨e, hh⟩ := eq_pt t
  show (cfg0.win 8).cut (grid0.coords t) ((dats m 0 c).after 8 t) = _
  rw [after0_8]
  refine funext fun (y : S1x2048x64.Idx) => ?_
  obtain ⟨r, d, rfl⟩ := one_ix y
  show outV (stV m c t.val) (ix3 0 r d) = _
  refine Eq.trans ?_ (congrArg (fun s => ((cfg0.win 8).blk s).view.read (Elt Ideal) (finV R) (ix3 0 r d)) e.symm)
  refine Eq.trans ?_ (rd8 hh (by omega) (by omega) (finV R) r d).symm
  have e2 : t.val = at3 (t.val / 64) (t.val / 8 % 8) 7 := by unfold at3; omega
  show (stV m c t.val (ix2 r d) : EReal) = _
  rw [congrArg (stV m c) e2, endV H hh _ (by omega)]
  rfl

theorem final6 : (dats m 0 c).arrAt 6 cfg0.N = finQ R :=
  (dats m 0 c).arrAt_eq_of_cover 6 (finQ R) (flushed6 H) fun (i : S8x96x16384.Idx) =>
    ⟨pt (at3 (i 0).val 7 7), by
      rw [flush6, decide_eq_true_iff, pt_at3 (i 0).isLt (by omega) (by omega)]; omega, by
      have := cov6 (a := 7) (b := 7) (i 0).isLt (by omega) (by omega) (i 1) (i 2)
      rw [← ix3_eta i]; exact this⟩

theorem final7 : (dats m 0 c).arrAt 7 cfg0.N = finK R :=
  (dats m 0 c).arrAt_eq_of_cover 7 (finK R) (flushed7 H) fun (i : S8x16384x96.Idx) =>
    ⟨pt (at3 (i 0).val ((i 1).val / 2048) 7), by
      have h1 : (i 1).val < 16384 := (i 1).isLt
      rw [flush7, decide_eq_true_iff, pt_at3 (i 0).isLt (by omega) (by omega)]; omega, by
      have h1 : (i 1).val < 16384 := (i 1).isLt
      have := cov7 (b := 7) (i 0).isLt (by omega) (by omega) (i 1) rfl (i 2)
      rw [← ix3_eta i]; exact this⟩

theorem final8 : (dats m 0 c).arrAt 8 cfg0.N = finV R :=
  (dats m 0 c).arrAt_eq_of_cover 8 (finV R) (flushed8 H) fun (i : S8x16384x64.Idx) =>
    ⟨pt (at3 (i 0).val ((i 1).val / 2048) 7), by
      have h1 : (i 1).val < 16384 := (i 1).isLt
      rw [flush8, decide_eq_true_iff, pt_at3 (i 0).isLt (by omega) (by omega)]; omega, by
      have h1 : (i 1).val < 16384 := (i 1).isLt
      have := cov8 (b := 7) (i 0).isLt (by omega) (by omega) (i 1) rfl (i 2)
      rw [← ix3_eta i]; exact this⟩

end

end Cert.KernelIdeal.Run
-- ==== Proof.Ref.lean ====
/-
  The reference's three results over the reals.
-/
module

public import proofs.«01_k».proof.Proof.Soft

@[expose] public section

noncomputable section

namespace Cert.Soft

open Cert.ReferenceIdeal Cert.ReferenceIdeal.Gen Idealize.ShloMosaic Idealize.ShloMosaic.TcCoe

section
variable (m : (ℓ : Loc nD τ sig) → Buf (Elt Ideal) ℓ) (c : Dev nD)

/-- The arguments in the wider format. -/
def refQ : V96 := extf .f32 (m ((c.tc : Thread nD τ).loc main_arg0)) bitsLt_bf16_f32
def refK : V96 := extf .f32 (m ((c.tc : Thread nD τ).loc main_arg1)) bitsLt_bf16_f32
def refV : V64 := extf .f32 (m ((c.tc : Thread nD τ).loc main_arg2)) bitsLt_bf16_f32
def refD : V64 := extf .f32 (m ((c.tc : Thread nD τ).loc main_arg3)) bitsLt_bf16_f32

/-- Its exponentials. -/
def refE : VTT := Ev (Xv (refQ m c) (refK m c)) (Mw (Mv (Xv (refQ m c) (refK m c))))

/-- Its cotangent of the numerators. -/
def refG : VTT := Gv (DPv (refD m c) (refV m c)) (refE m c) (Lv (refE m c)) (Tv (Sv (DPv (refD m c) (refV m c)) (refE m c) (Lv (refE m c))))

theorem v45_eq : Cert.ReferenceIdeal.Value.res_main_v45 m c = dVv (refD m c) (Pv (refE m c) (Lv (refE m c))) := rfl
theorem v62_eq : Cert.ReferenceIdeal.Value.res_main_v62 m c = dKv (refG m c) (refQ m c) := rfl
theorem v64_eq : Cert.ReferenceIdeal.Value.res_main_v64 m c = dQv (refG m c) (refK m c) := rfl

end

end Cert.Soft
-- ==== Proof.Algebraic.lean ====
/-
  The kernel's results and the reference's are the same, at finite arguments.
-/
module

public import proofs.«01_k».proof.Proof.Final
public import proofs.«01_k».proof.Proof.Ref
public import proofs.«01_k».proof.Defs
public import Idealize.ShloMosaic.Lib.Claim

@[expose] public section

set_option maxRecDepth 20000

noncomputable section

namespace Cert.Proof

open Idealize.ShloMosaic Idealize.ShloMosaic.TcCoe
open Cert.Soft Cert.KernelIdeal.Run

/-- The shapes of the precondition. -/
theorem facts_finite : Cert.Pre_finite.Facts where
  bcast_S_S8x16384x96 := by decide
  bcast_S_S8x16384x64 := by decide

/-- An element whose absolute value is below plus infinity is a real. -/
theorem real_of_lt {s : Shape} (b : Shape.BroadcastsInDim ⟨0, ![]⟩ s (![] : Fin 0 → Fin s.rank)) (x : FVec Ideal s .bf16)
    (h : cmpf .olt (Host.absf x) (broadcastInDim s ![] b (constant ⟨0, ![]⟩ .bf16 0x7F80#16)) = fun _ => 1#1) (j : s.Idx) :
    x j = (((x j : EReal).toReal : ℝ) : EReal) := by
  have h := congrFun h j
  revert h
  pointwise
  intro h
  have h1 : (max (x j) (-(x j)) : EReal) < ⊤ := by
    have h2 : FloatOps.absf (x j) < Ideal.ofBits FTy.bf16 32640#16 := by
      by_contra hn
      rw [decide_eq_false hn] at h
      exact absurd h (by decide)
    rw [ofBits_pinf] at h2
    exact h2
  have h3 := max_lt_iff.mp h1
  refine (EReal.coe_toReal h3.1.ne ?_).symm
  intro hb
  rw [hb] at h3
  exact absurd h3.2 (by simp)

section
variable (m : (ℓ : Loc Cert.KernelIdeal.nD Cert.KernelIdeal.τ Cert.KernelIdeal.sig) → Buf (Elt Ideal) ℓ) (c : Dev Cert.KernelIdeal.nD)

/-- Finite arguments are reals. -/
theorem exists_reals (hp : Pre_KernelIdeal_finite (hPre_finite := facts_finite) m) : ∃ R : Reals, R.Of m c := by
  obtain ⟨h0, h1, h2, h3⟩ := hp c
  have hq : Holds (m ((c.tc : Thread Cert.KernelIdeal.nD Cert.KernelIdeal.τ).loc Cert.KernelIdeal.main_arg0)) _ :=
    fun h i d => real_of_lt _ _ h0 (ix3 h i d)
  have hk : Holds (m ((c.tc : Thread Cert.KernelIdeal.nD Cert.KernelIdeal.τ).loc Cert.KernelIdeal.main_arg1)) _ :=
    fun h i d => real_of_lt _ _ h1 (ix3 h i d)
  have hv : Holds (m ((c.tc : Thread Cert.KernelIdeal.nD Cert.KernelIdeal.τ).loc Cert.KernelIdeal.main_arg2)) _ :=
    fun h i d => real_of_lt _ _ h2 (ix3 h i d)
  have hd : Holds (m ((c.tc : Thread Cert.KernelIdeal.nD Cert.KernelIdeal.τ).loc Cert.KernelIdeal.main_arg3)) _ :=
    fun h i d => real_of_lt _ _ h3 (ix3 h i d)
  obtain ⟨μ, hμ⟩ := Mv_at (kerQ_at hq) (kerK_at hk)
  exact ⟨⟨_, _, _, _, μ⟩, ⟨hq, hk, hv, hd, hμ⟩⟩

variable {m c} {R : Reals} (H : R.Of m c)
  {m' : (ℓ : Loc Cert.ReferenceIdeal.nD Cert.ReferenceIdeal.τ Cert.ReferenceIdeal.sig) → Buf (Elt Ideal) ℓ}

/-- The mean of a weight's cotangent, by the output. -/
theorem delta_eq (R : Reals) (h : Fin 8) (i : Fin 16384) : ∑ x, R.d h i x * R.o h i x = ∑ j, R.w h i j * dp R.d R.v h i j := by
  have e1 : ∀ x, R.d h i x * R.o h i x = ∑ j, R.w h i j * (R.d h i x * R.v h j x) := by
    intro x
    unfold Reals.o
    rw [Finset.mul_sum]
    exact Finset.sum_congr rfl fun j _ => by ring
  simp only [e1]
  rw [Finset.sum_comm]
  refine Finset.sum_congr rfl fun j _ => ?_
  unfold dp
  rw [Finset.mul_sum]

theorem sm_ne (R : Reals) (h : Fin 8) (i : Fin 16384) : sm R.e h i ≠ 0 := (sm_pos _ _ _ h i).ne'

theorem gg_ds (R : Reals) (h : Fin 8) (i j : Fin 16384) : gg (dp R.d R.v) R.e h i j = R.ds h i j * (Real.sqrt 96)⁻¹ := by
  rw [gg_eq (dp R.d R.v) R.e (fun h i j hij => if_neg (by omega)) (sm_ne R) h i j]
  unfold Reals.ds
  rw [delta_eq]
  rfl

variable
  (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))

/-- The reference's arguments are the kernel's. -/
theorem refQ_at {xr : A 96} {x : FVec Ideal ⟨3, ![8, 16384, 96]⟩ .bf16} (e : m' ((c.tc : Thread Cert.ReferenceIdeal.nD Cert.ReferenceIdeal.τ).loc Cert.ReferenceIdeal.main_arg0) = x)
    (hx : Holds x xr) : Holds (refQ m' c) xr := fun h i d => (congrFun e (ix3 h i d)).trans (hx h i d)
theorem refK_at {xr : A 96} {x : FVec Ideal ⟨3, ![8, 16384, 96]⟩ .bf16} (e : m' ((c.tc : Thread Cert.ReferenceIdeal.nD Cert.ReferenceIdeal.τ).loc Cert.ReferenceIdeal.main_arg1) = x)
    (hx : Holds x xr) : Holds (refK m' c) xr := fun h i d => (congrFun e (ix3 h i d)).trans (hx h i d)
theorem refV_at {xr : A 64} {x : FVec Ideal ⟨3, ![8, 16384, 64]⟩ .bf16} (e : m' ((c.tc : Thread Cert.ReferenceIdeal.nD Cert.ReferenceIdeal.τ).loc Cert.ReferenceIdeal.main_arg2) = x)
    (hx : Holds x xr) : Holds (refV m' c) xr := fun h i d => (congrFun e (ix3 h i d)).trans (hx h i d)
theorem refD_at {xr : A 64} {x : FVec Ideal ⟨3, ![8, 16384, 64]⟩ .bf16} (e : m' ((c.tc : Thread Cert.ReferenceIdeal.nD Cert.ReferenceIdeal.τ).loc Cert.ReferenceIdeal.main_arg3) = x)
    (hx : Holds x xr) : Holds (refD m' c) xr := fun h i d => (congrFun e (ix3 h i d)).trans (hx h i d)

include H e0 e1

theorem refE_at : Holds (refE m' c) R.e := by
  have hq : refQ m' c = kerQ m c := congrArg (fun x : FVec Ideal ⟨3, ![8, 16384, 96]⟩ .bf16 => extf .f32 x Cert.KernelIdeal.Gen.bitsLt_bf16_f32) e0
  have hk : refK m' c = kerK m c := congrArg (fun x : FVec Ideal ⟨3, ![8, 16384, 96]⟩ .bf16 => extf .f32 x Cert.KernelIdeal.Gen.bitsLt_bf16_f32) e1
  have hμ : Holds2 (Mw (Mv (Xv (refQ m' c) (refK m' c)))) R.μ := by
    rw [Mw_eq, hq, hk]; exact H.μ
  exact Ev_at (refQ_at e0 H.q) (refK_at e1 H.k) hμ

include e2 e3

theorem refG_at : Holds (refG m' c) (gg (dp R.d R.v) R.e) := by
  have hE := refE_at H e0 e1
  have hX := DPv_at (refD_at e3 H.d) (refV_at e2 H.v)
  exact Gv_at hX hE (Lv_at hE) (Tv_at hX hE (Lv_at hE) (sm_ne R)) (sm_ne R)

/-- The reference's three results. -/
theorem ref64 : Cert.ReferenceIdeal.Value.res_main_v64 m' c = finQ R := by
  rw [v64_eq]
  funext j
  obtain ⟨h, x, i, rfl⟩ : ∃ (h : Fin 8) (x : Fin 96) (i : Fin 16384), j = ix3 h x i := ⟨j 0, j 1, j 2, (ix3_eta j).symm⟩
  rw [dQv_at (refG_at H e0 e1 e2 e3) (refK_at e1 H.k) h x i]
  refine congrArg ((↑) : ℝ → EReal) ?_
  rw [Finset.sum_mul]
  refine Finset.sum_congr rfl fun y _ => ?_
  rw [gg_ds]
  exact mul_right_comm _ _ _

theorem ref62 : Cert.ReferenceIdeal.Value.res_main_v62 m' c = finK R := by
  rw [v62_eq]
  funext j
  obtain ⟨h, y, x, rfl⟩ : ∃ (h : Fin 8) (y : Fin 16384) (x : Fin 96), j = ix3 h y x := ⟨j 0, j 1, j 2, (ix3_eta j).symm⟩
  rw [dKv_at (refG_at H e0 e1 e2 e3) (refQ_at e0 H.q) h y x]
  refine congrArg ((↑) : ℝ → EReal) ?_
  rw [Finset.sum_mul]
  refine Finset.sum_congr rfl fun i _ => ?_
  rw [gg_ds]
  exact mul_right_comm _ _ _

omit e2 in
theorem ref45 : Cert.ReferenceIdeal.Value.res_main_v45 m' c = finV R := by
  rw [v45_eq]
  funext j
  obtain ⟨h, y, x, rfl⟩ : ∃ (h : Fin 8) (y : Fin 16384) (x : Fin 64), j = ix3 h y x := ⟨j 0, j 1, j 2, (ix3_eta j).symm⟩
  have hE := refE_at H e0 e1
  rw [dVv_at (refD_at e3 H.d) (Pv_at hE (Lv_at hE) (sm_ne R)) h y x]
  refine congrArg ((↑) : ℝ → EReal) ?_
  exact Finset.sum_congr rfl fun i _ => mul_comm _ _

end

/-- The kernel and the reference end with the same three gradients. -/
theorem algebraic : algebraic_KernelIdeal_ReferenceIdeal_pre_finite (hKernelIdeal := Cert.KernelIdeal.Gen.facts)
    (hReferenceIdeal := Cert.ReferenceIdeal.Gen.facts) (hPre_finite := facts_finite) := by
  intro m g m' g' hp hm
  choose R H using fun c => exists_reals m c hp
  refine ⟨fun c => finQ (R c), fun c => finK (R c), fun c => finV (R c), ?_, ?_⟩
  · refine (θ_run Cert.KernelIdeal.defs _ _).mono (fun r h c => ?_) (θ_run_and (run_main m g) (unchanged m g))
    exact ⟨((h.1 c).1 6).trans (final6 (H c)), ((h.1 c).1 7).trans (final7 (H c)), ((h.1 c).1 8).trans (final8 (H c)), h.2 c⟩
  · refine (θ_run Cert.ReferenceIdeal.defs _ _).mono (fun r h c => ?_) (Cert.ReferenceIdeal.Value.run m' g')
    obtain ⟨e0, e1, e2, e3⟩ := hm c
    exact ⟨(h c).1.trans (ref64 (H c) e0 e1 e2 e3), (h c).2.1.trans (ref62 (H c) e0 e1 e2 e3), (h c).2.2.1.trans (ref45 (H c) e0 e1 e3), (h c).2.2.2⟩

end Cert.Proof

end
-- ==== Proof.MlpFrames.lean ====
module
public import proofs.«01_k».proof.Defs
public import proofs.«01_k».proof.Proof.Gen.Up.Frame
public import proofs.«01_k».proof.Proof.Gen.UpIdeal.Frame
public import proofs.«01_k».proof.Proof.Gen.UpRefIdeal.Run
public import proofs.«01_k».proof.Proof.Gen.Down.Frame
public import proofs.«01_k».proof.Proof.Gen.DownIdeal.Frame
public import proofs.«01_k».proof.Proof.Gen.DownRefIdeal.Run
public import proofs.«01_k».proof.Proof.Gen.DownDw.Frame
public import proofs.«01_k».proof.Proof.Gen.DownDwIdeal.Frame
public import proofs.«01_k».proof.Proof.Gen.DownDwRefIdeal.Run
public import proofs.«01_k».proof.Proof.Gen.DownDx.Frame
public import proofs.«01_k».proof.Proof.Gen.DownDxIdeal.Frame
public import proofs.«01_k».proof.Proof.Gen.DownDxRefIdeal.Run
public import proofs.«01_k».proof.Proof.Gen.UpDw.Frame
public import proofs.«01_k».proof.Proof.Gen.UpDwIdeal.Frame
public import proofs.«01_k».proof.Proof.Gen.UpDwRefIdeal.Run
public import proofs.«01_k».proof.Proof.Gen.UpDx.Frame
public import proofs.«01_k».proof.Proof.Gen.UpDxIdeal.Frame
public import proofs.«01_k».proof.Proof.Gen.UpDxRefIdeal.Run
public import Idealize.ShloMosaic.Adequacy
public import Idealize.ShloMosaic.Init
@[expose] public section

/-!
# The frames of the multilayer perceptron's programs
-/

noncomputable section

namespace Cert.Proof
open Idealize.ShloMosaic Idealize.SL.Sem

theorem frame_Up : Cert.quiescent_Up := fun m ρ _ => Cert.Up.Gen.frame m ρ
theorem frame_UpIdeal : Cert.quiescent_UpIdeal := fun m ρ _ => Cert.UpIdeal.Gen.frame m ρ
theorem frame_UpRefIdeal : Cert.quiescent_UpRefIdeal := fun m ρ _ =>
  (θ_run Cert.UpRefIdeal.defs _ _).mono (fun r h => ⟨fun c => (h c).2.2, Idealize.ShloMosaic.sem_eq_zero_of_no_sems (by decide) r.2⟩)
    (Cert.UpRefIdeal.Value.run (F := Ideal) m ρ)

theorem frame_Down : Cert.quiescent_Down := fun m ρ _ => Cert.Down.Gen.frame m ρ
theorem frame_DownIdeal : Cert.quiescent_DownIdeal := fun m ρ _ => Cert.DownIdeal.Gen.frame m ρ
theorem frame_DownRefIdeal : Cert.quiescent_DownRefIdeal := fun m ρ _ =>
  (θ_run Cert.DownRefIdeal.defs _ _).mono (fun r h => ⟨fun c => (h c).2, Idealize.ShloMosaic.sem_eq_zero_of_no_sems (by decide) r.2⟩)
    (Cert.DownRefIdeal.Value.run (F := Ideal) m ρ)

theorem frame_DownDw : Cert.quiescent_DownDw := fun m ρ _ => Cert.DownDw.Gen.frame m ρ
theorem frame_DownDwIdeal : Cert.quiescent_DownDwIdeal := fun m ρ _ => Cert.DownDwIdeal.Gen.frame m ρ
theorem frame_DownDwRefIdeal : Cert.quiescent_DownDwRefIdeal := fun m ρ _ =>
  (θ_run Cert.DownDwRefIdeal.defs _ _).mono (fun r h => ⟨fun c => (h c).2, Idealize.ShloMosaic.sem_eq_zero_of_no_sems (by decide) r.2⟩)
    (Cert.DownDwRefIdeal.Value.run (F := Ideal) m ρ)

theorem frame_DownDx : Cert.quiescent_DownDx := fun m ρ _ => Cert.DownDx.Gen.frame m ρ
theorem frame_DownDxIdeal : Cert.quiescent_DownDxIdeal := fun m ρ _ => Cert.DownDxIdeal.Gen.frame m ρ
theorem frame_DownDxRefIdeal : Cert.quiescent_DownDxRefIdeal := fun m ρ _ =>
  (θ_run Cert.DownDxRefIdeal.defs _ _).mono (fun r h => ⟨fun c => (h c).2, Idealize.ShloMosaic.sem_eq_zero_of_no_sems (by decide) r.2⟩)
    (Cert.DownDxRefIdeal.Value.run (F := Ideal) m ρ)

theorem frame_UpDw : Cert.quiescent_UpDw := fun m ρ _ => Cert.UpDw.Gen.frame m ρ
theorem frame_UpDwIdeal : Cert.quiescent_UpDwIdeal := fun m ρ _ => Cert.UpDwIdeal.Gen.frame m ρ
theorem frame_UpDwRefIdeal : Cert.quiescent_UpDwRefIdeal := fun m ρ _ =>
  (θ_run Cert.UpDwRefIdeal.defs _ _).mono (fun r h => ⟨fun c => (h c).2, Idealize.ShloMosaic.sem_eq_zero_of_no_sems (by decide) r.2⟩)
    (Cert.UpDwRefIdeal.Value.run (F := Ideal) m ρ)

theorem frame_UpDx : Cert.quiescent_UpDx := fun m ρ _ => Cert.UpDx.Gen.frame m ρ
theorem frame_UpDxIdeal : Cert.quiescent_UpDxIdeal := fun m ρ _ => Cert.UpDxIdeal.Gen.frame m ρ
theorem frame_UpDxRefIdeal : Cert.quiescent_UpDxRefIdeal := fun m ρ _ =>
  (θ_run Cert.UpDxRefIdeal.defs _ _).mono (fun r h => ⟨fun c => (h c).2, Idealize.ShloMosaic.sem_eq_zero_of_no_sems (by decide) r.2⟩)
    (Cert.UpDxRefIdeal.Value.run (F := Ideal) m ρ)

end Cert.Proof

end
-- ==== Proof.ProjFrames.lean ====
module
public import proofs.«01_k».proof.Defs
public import proofs.«01_k».proof.Proof.Gen.In.Frame
public import proofs.«01_k».proof.Proof.Gen.InIdeal.Frame
public import proofs.«01_k».proof.Proof.Gen.InRefIdeal.Run
public import proofs.«01_k».proof.Proof.Gen.InDw.Frame
public import proofs.«01_k».proof.Proof.Gen.InDwIdeal.Frame
public import proofs.«01_k».proof.Proof.Gen.InDwRefIdeal.Run
public import proofs.«01_k».proof.Proof.Gen.InDx.Frame
public import proofs.«01_k».proof.Proof.Gen.InDxIdeal.Frame
public import proofs.«01_k».proof.Proof.Gen.InDxRefIdeal.Run
public import proofs.«01_k».proof.Proof.Gen.Out.Frame
public import proofs.«01_k».proof.Proof.Gen.OutIdeal.Frame
public import proofs.«01_k».proof.Proof.Gen.OutRefIdeal.Run
public import proofs.«01_k».proof.Proof.Gen.OutDw.Frame
public import proofs.«01_k».proof.Proof.Gen.OutDwIdeal.Frame
public import proofs.«01_k».proof.Proof.Gen.OutDwRefIdeal.Run
public import proofs.«01_k».proof.Proof.Gen.OutDx.Frame
public import proofs.«01_k».proof.Proof.Gen.OutDxIdeal.Frame
public import proofs.«01_k».proof.Proof.Gen.OutDxRefIdeal.Run
public import proofs.«01_k».proof.Proof.Gen.Lat.Frame
public import proofs.«01_k».proof.Proof.Gen.LatIdeal.Frame
public import proofs.«01_k».proof.Proof.Gen.LatRefIdeal.Run
public import proofs.«01_k».proof.Proof.Gen.LatDw.Frame
public import proofs.«01_k».proof.Proof.Gen.LatDwIdeal.Frame
public import proofs.«01_k».proof.Proof.Gen.LatDwRefIdeal.Run
public import proofs.«01_k».proof.Proof.Gen.LatDx.Frame
public import proofs.«01_k».proof.Proof.Gen.LatDxIdeal.Frame
public import proofs.«01_k».proof.Proof.Gen.LatDxRefIdeal.Run
public import proofs.«01_k».proof.Proof.Gen.Uq.Frame
public import proofs.«01_k».proof.Proof.Gen.UqIdeal.Frame
public import proofs.«01_k».proof.Proof.Gen.UqRefIdeal.Run
public import proofs.«01_k».proof.Proof.Gen.UqDw.Frame
public import proofs.«01_k».proof.Proof.Gen.UqDwIdeal.Frame
public import proofs.«01_k».proof.Proof.Gen.UqDwRefIdeal.Run
public import proofs.«01_k».proof.Proof.Gen.UqDx.Frame
public import proofs.«01_k».proof.Proof.Gen.UqDxIdeal.Frame
public import proofs.«01_k».proof.Proof.Gen.UqDxRefIdeal.Run
public import proofs.«01_k».proof.Proof.Gen.Ukv.Frame
public import proofs.«01_k».proof.Proof.Gen.UkvIdeal.Frame
public import proofs.«01_k».proof.Proof.Gen.UkvRefIdeal.Run
public import proofs.«01_k».proof.Proof.Gen.UkvDw.Frame
public import proofs.«01_k».proof.Proof.Gen.UkvDwIdeal.Frame
public import proofs.«01_k».proof.Proof.Gen.UkvDwRefIdeal.Run
public import proofs.«01_k».proof.Proof.Gen.UkvDx.Frame
public import proofs.«01_k».proof.Proof.Gen.UkvDxIdeal.Frame
public import proofs.«01_k».proof.Proof.Gen.UkvDxRefIdeal.Run
public import proofs.«01_k».proof.Proof.Gen.O.Frame
public import proofs.«01_k».proof.Proof.Gen.OIdeal.Frame
public import proofs.«01_k».proof.Proof.Gen.ORefIdeal.Run
public import proofs.«01_k».proof.Proof.Gen.ODw.Frame
public import proofs.«01_k».proof.Proof.Gen.ODwIdeal.Frame
public import proofs.«01_k».proof.Proof.Gen.ODwRefIdeal.Run
public import proofs.«01_k».proof.Proof.Gen.ODx.Frame
public import proofs.«01_k».proof.Proof.Gen.ODxIdeal.Frame
public import proofs.«01_k».proof.Proof.Gen.ODxRefIdeal.Run
public import Idealize.ShloMosaic.Adequacy
public import Idealize.ShloMosaic.Init
@[expose] public section

/-!
# The frames of the projections' programs
-/

noncomputable section

namespace Cert.Proof
open Idealize.ShloMosaic Idealize.SL.Sem

theorem frame_In : Cert.quiescent_In := fun m ρ _ => Cert.In.Gen.frame m ρ
theorem frame_InIdeal : Cert.quiescent_InIdeal := fun m ρ _ => Cert.InIdeal.Gen.frame m ρ
theorem frame_InRefIdeal : Cert.quiescent_InRefIdeal := fun m ρ _ =>
  (θ_run Cert.InRefIdeal.defs _ _).mono (fun r h => ⟨fun c => (h c).2, sem_eq_zero_of_no_sems (by decide) r.2⟩)
    (Cert.InRefIdeal.Value.run m ρ)

theorem frame_InDw : Cert.quiescent_InDw := fun m ρ _ => Cert.InDw.Gen.frame m ρ
theorem frame_InDwIdeal : Cert.quiescent_InDwIdeal := fun m ρ _ => Cert.InDwIdeal.Gen.frame m ρ
theorem frame_InDwRefIdeal : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run m ρ)

theorem frame_InDx : Cert.quiescent_InDx := fun m ρ _ => Cert.InDx.Gen.frame m ρ
theorem frame_InDxIdeal : Cert.quiescent_InDxIdeal := fun m ρ _ => Cert.InDxIdeal.Gen.frame m ρ
theorem frame_InDxRefIdeal : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run m ρ)

theorem frame_Out : Cert.quiescent_Out := fun m ρ _ => Cert.Out.Gen.frame m ρ
theorem frame_OutIdeal : Cert.quiescent_OutIdeal := fun m ρ _ => Cert.OutIdeal.Gen.frame m ρ
theorem frame_OutRefIdeal : Cert.quiescent_OutRefIdeal := fun m ρ _ =>
  (θ_run Cert.OutRefIdeal.defs _ _).mono (fun r h => ⟨fun c => (h c).2, sem_eq_zero_of_no_sems (by decide) r.2⟩)
    (Cert.OutRefIdeal.Value.run m ρ)

theorem frame_OutDw : Cert.quiescent_OutDw := fun m ρ _ => Cert.OutDw.Gen.frame m ρ
theorem frame_OutDwIdeal : Cert.quiescent_OutDwIdeal := fun m ρ _ => Cert.OutDwIdeal.Gen.frame m ρ
theorem frame_OutDwRefIdeal : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run m ρ)

theorem frame_OutDx : Cert.quiescent_OutDx := fun m ρ _ => Cert.OutDx.Gen.frame m ρ
theorem frame_OutDxIdeal : Cert.quiescent_OutDxIdeal := fun m ρ _ => Cert.OutDxIdeal.Gen.frame m ρ
theorem frame_OutDxRefIdeal : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run m ρ)

theorem frame_Lat : Cert.quiescent_Lat := fun m ρ _ => Cert.Lat.Gen.frame m ρ
theorem frame_LatIdeal : Cert.quiescent_LatIdeal := fun m ρ _ => Cert.LatIdeal.Gen.frame m ρ
theorem frame_LatRefIdeal : Cert.quiescent_LatRefIdeal := fun m ρ _ =>
  (θ_run Cert.LatRefIdeal.defs _ _).mono (fun r h => ⟨fun c => (h c).2, sem_eq_zero_of_no_sems (by decide) r.2⟩)
    (Cert.LatRefIdeal.Value.run m ρ)

theorem frame_LatDw : Cert.quiescent_LatDw := fun m ρ _ => Cert.LatDw.Gen.frame m ρ
theorem frame_LatDwIdeal : Cert.quiescent_LatDwIdeal := fun m ρ _ => Cert.LatDwIdeal.Gen.frame m ρ
theorem frame_LatDwRefIdeal : Cert.quiescent_LatDwRefIdeal := fun m ρ _ =>
  (θ_run Cert.LatDwRefIdeal.defs _ _).mono (fun r h => ⟨fun c => (h c).2, sem_eq_zero_of_no_sems (by decide) r.2⟩)
    (Cert.LatDwRefIdeal.Value.run m ρ)

theorem frame_LatDx : Cert.quiescent_LatDx := fun m ρ _ => Cert.LatDx.Gen.frame m ρ
theorem frame_LatDxIdeal : Cert.quiescent_LatDxIdeal := fun m ρ _ => Cert.LatDxIdeal.Gen.frame m ρ
theorem frame_LatDxRefIdeal : Cert.quiescent_LatDxRefIdeal := fun m ρ _ =>
  (θ_run Cert.LatDxRefIdeal.defs _ _).mono (fun r h => ⟨fun c => (h c).2, sem_eq_zero_of_no_sems (by decide) r.2⟩)
    (Cert.LatDxRefIdeal.Value.run m ρ)

theorem frame_Uq : Cert.quiescent_Uq := fun m ρ _ => Cert.Uq.Gen.frame m ρ
theorem frame_UqIdeal : Cert.quiescent_UqIdeal := fun m ρ _ => Cert.UqIdeal.Gen.frame m ρ
theorem frame_UqRefIdeal : Cert.quiescent_UqRefIdeal := fun m ρ _ =>
  (θ_run Cert.UqRefIdeal.defs _ _).mono (fun r h => ⟨fun c => (h c).2, sem_eq_zero_of_no_sems (by decide) r.2⟩)
    (Cert.UqRefIdeal.Value.run m ρ)

theorem frame_UqDw : Cert.quiescent_UqDw := fun m ρ _ => Cert.UqDw.Gen.frame m ρ
theorem frame_UqDwIdeal : Cert.quiescent_UqDwIdeal := fun m ρ _ => Cert.UqDwIdeal.Gen.frame m ρ
theorem frame_UqDwRefIdeal : Cert.quiescent_UqDwRefIdeal := fun m ρ _ =>
  (θ_run Cert.UqDwRefIdeal.defs _ _).mono (fun r h => ⟨fun c => (h c).2, sem_eq_zero_of_no_sems (by decide) r.2⟩)
    (Cert.UqDwRefIdeal.Value.run m ρ)

theorem frame_UqDx : Cert.quiescent_UqDx := fun m ρ _ => Cert.UqDx.Gen.frame m ρ
theorem frame_UqDxIdeal : Cert.quiescent_UqDxIdeal := fun m ρ _ => Cert.UqDxIdeal.Gen.frame m ρ
theorem frame_UqDxRefIdeal : Cert.quiescent_UqDxRefIdeal := fun m ρ _ =>
  (θ_run Cert.UqDxRefIdeal.defs _ _).mono (fun r h => ⟨fun c => (h c).2, sem_eq_zero_of_no_sems (by decide) r.2⟩)
    (Cert.UqDxRefIdeal.Value.run m ρ)

theorem frame_Ukv : Cert.quiescent_Ukv := fun m ρ _ => Cert.Ukv.Gen.frame m ρ
theorem frame_UkvIdeal : Cert.quiescent_UkvIdeal := fun m ρ _ => Cert.UkvIdeal.Gen.frame m ρ
theorem frame_UkvRefIdeal : Cert.quiescent_UkvRefIdeal := fun m ρ _ =>
  (θ_run Cert.UkvRefIdeal.defs _ _).mono (fun r h => ⟨fun c => (h c).2, sem_eq_zero_of_no_sems (by decide) r.2⟩)
    (Cert.UkvRefIdeal.Value.run m ρ)

theorem frame_UkvDw : Cert.quiescent_UkvDw := fun m ρ _ => Cert.UkvDw.Gen.frame m ρ
theorem frame_UkvDwIdeal : Cert.quiescent_UkvDwIdeal := fun m ρ _ => Cert.UkvDwIdeal.Gen.frame m ρ
theorem frame_UkvDwRefIdeal : Cert.quiescent_UkvDwRefIdeal := fun m ρ _ =>
  (θ_run Cert.UkvDwRefIdeal.defs _ _).mono (fun r h => ⟨fun c => (h c).2, sem_eq_zero_of_no_sems (by decide) r.2⟩)
    (Cert.UkvDwRefIdeal.Value.run m ρ)

theorem frame_UkvDx : Cert.quiescent_UkvDx := fun m ρ _ => Cert.UkvDx.Gen.frame m ρ
theorem frame_UkvDxIdeal : Cert.quiescent_UkvDxIdeal := fun m ρ _ => Cert.UkvDxIdeal.Gen.frame m ρ
theorem frame_UkvDxRefIdeal : Cert.quiescent_UkvDxRefIdeal := fun m ρ _ =>
  (θ_run Cert.UkvDxRefIdeal.defs _ _).mono (fun r h => ⟨fun c => (h c).2, sem_eq_zero_of_no_sems (by decide) r.2⟩)
    (Cert.UkvDxRefIdeal.Value.run m ρ)

theorem frame_O : Cert.quiescent_O := fun m ρ _ => Cert.O.Gen.frame m ρ
theorem frame_OIdeal : Cert.quiescent_OIdeal := fun m ρ _ => Cert.OIdeal.Gen.frame m ρ
theorem frame_ORefIdeal : Cert.quiescent_ORefIdeal := fun m ρ _ =>
  (θ_run Cert.ORefIdeal.defs _ _).mono (fun r h => ⟨fun c => (h c).2, sem_eq_zero_of_no_sems (by decide) r.2⟩)
    (Cert.ORefIdeal.Value.run m ρ)

theorem frame_ODw : Cert.quiescent_ODw := fun m ρ _ => Cert.ODw.Gen.frame m ρ
theorem frame_ODwIdeal : Cert.quiescent_ODwIdeal := fun m ρ _ => Cert.ODwIdeal.Gen.frame m ρ
theorem frame_ODwRefIdeal : Cert.quiescent_ODwRefIdeal := fun m ρ _ =>
  (θ_run Cert.ODwRefIdeal.defs _ _).mono (fun r h => ⟨fun c => (h c).2, sem_eq_zero_of_no_sems (by decide) r.2⟩)
    (Cert.ODwRefIdeal.Value.run m ρ)

theorem frame_ODx : Cert.quiescent_ODx := fun m ρ _ => Cert.ODx.Gen.frame m ρ
theorem frame_ODxIdeal : Cert.quiescent_ODxIdeal := fun m ρ _ => Cert.ODxIdeal.Gen.frame m ρ
theorem frame_ODxRefIdeal : Cert.quiescent_ODxRefIdeal := fun m ρ _ =>
  (θ_run Cert.ODxRefIdeal.defs _ _).mono (fun r h => ⟨fun c => (h c).2, sem_eq_zero_of_no_sems (by decide) r.2⟩)
    (Cert.ODxRefIdeal.Value.run m ρ)

end Cert.Proof

end
-- ==== Proof.Product.lean ====
/-
  Matrix products over the extended reals, by their entries' numbers: the three products, and a sum taken block by block.
-/
module

public import Idealize.ShloMosaic.Lib.Pipeline.Value
public import Idealize.ShloMosaic.Lib.KernelVsHost
public import Idealize.ShloMosaic.Lib.ValueLayout
public import Idealize.ShloMosaic.Lib.StackMember
public import Idealize.ShloMosaic.PureOps.Ideal.Laws

@[expose] public section

set_option maxRecDepth 20000

noncomputable section

namespace Cert.Product

open Idealize.ShloMosaic Idealize.ShloMosaic.ValueIdx

variable {m k n : ℕ} {φ₁ φ₂ : FTy}

/-- The place in row `i` and column `j`. -/
abbrev px {a b : ℕ} (i : Fin a) (j : Fin b) : (⟨2, ![a, b]⟩ : Shape).Idx := ValueIdx.ix2 i j

/-- A start at the origin. -/
theorem zz : (![0, 0] : Fin 2 → ℕ) = fun _ => 0 := by
  funext a
  match a with
  | ⟨0, _⟩ => rfl
  | ⟨1, _⟩ => rfl

/-- The entry in row `i` and column `j`, and zero past the edge. -/
def at2 {a b : ℕ} {φ : FTy} (X : FVec Ideal ⟨2, ![a, b]⟩ φ) (i j : ℕ) : EReal :=
  if h : i < a ∧ j < b then X (px ⟨i, h.1⟩ ⟨j, h.2⟩) else 0

theorem at2_ix2 {a b : ℕ} {φ : FTy} (X : FVec Ideal ⟨2, ![a, b]⟩ φ) (i : Fin a) (j : Fin b) : at2 X i.val j.val = X (px i j) :=
  dif_pos ⟨i.isLt, j.isLt⟩

/-- An entry by the two numbers of its place. -/
theorem at2_of {a b : ℕ} {φ : FTy} (X : FVec Ideal ⟨2, ![a, b]⟩ φ) (p : (⟨2, ![a, b]⟩ : Shape).Idx) (i j : ℕ)
    (hi : (p 0).val = i) (hj : (p 1).val = j) : X p = at2 X i j := by
  subst hi hj
  have e : p = px ⟨(p 0).val, (p 0).isLt⟩ ⟨(p 1).val, (p 1).isLt⟩ := by
    funext a
    match a with
    | ⟨0, _⟩ => rfl
    | ⟨1, _⟩ => rfl
  refine Eq.trans ?_ (at2_ix2 X ⟨(p 0).val, (p 0).isLt⟩ ⟨(p 1).val, (p 1).isLt⟩).symm
  exact congrArg X e

/-- Two arrays with equal entries are equal. -/
theorem ext2 {a b : ℕ} {φ : FTy} {X Y : FVec Ideal ⟨2, ![a, b]⟩ φ} (h : ∀ i j, X (px i j) = Y (px i j)) : X = Y := by
  funext p
  have e : p = px ⟨(p 0).val, (p 0).isLt⟩ ⟨(p 1).val, (p 1).isLt⟩ := by
    funext a
    match a with
    | ⟨0, _⟩ => rfl
    | ⟨1, _⟩ => rfl
  rw [e]
  exact h _ _

/-- One entry of a product of rows by columns, of columns by columns, and of rows by rows. -/
def nn (A : FVec Ideal ⟨2, ![m, k]⟩ φ₁) (B : FVec Ideal ⟨2, ![k, n]⟩ φ₂) (i j : ℕ) : EReal := ∑ c ∈ Finset.range k, at2 A i c * at2 B c j
def tn (A : FVec Ideal ⟨2, ![k, m]⟩ φ₁) (B : FVec Ideal ⟨2, ![k, n]⟩ φ₂) (i j : ℕ) : EReal := ∑ c ∈ Finset.range k, at2 A c i * at2 B c j
def nt (A : FVec Ideal ⟨2, ![m, k]⟩ φ₁) (B : FVec Ideal ⟨2, ![n, k]⟩ φ₂) (i j : ℕ) : EReal := ∑ c ∈ Finset.range k, at2 A i c * at2 B j c

section
variable {ψ₁ ψ₂ : FTy}
theorem nn_congr {A : FVec Ideal ⟨2, ![m, k]⟩ φ₁} {A' : FVec Ideal ⟨2, ![m, k]⟩ ψ₁} {B : FVec Ideal ⟨2, ![k, n]⟩ φ₂} {B' : FVec Ideal ⟨2, ![k, n]⟩ ψ₂}
    (hA : (A : (⟨2, ![m, k]⟩ : Shape).Idx → EReal) = A') (hB : (B : (⟨2, ![k, n]⟩ : Shape).Idx → EReal) = B') (i j : ℕ) : nn A B i j = nn A' B' i j := by
  cases hA; cases hB; rfl
theorem tn_congr {A : FVec Ideal ⟨2, ![k, m]⟩ φ₁} {A' : FVec Ideal ⟨2, ![k, m]⟩ ψ₁} {B : FVec Ideal ⟨2, ![k, n]⟩ φ₂} {B' : FVec Ideal ⟨2, ![k, n]⟩ ψ₂}
    (hA : (A : (⟨2, ![k, m]⟩ : Shape).Idx → EReal) = A') (hB : (B : (⟨2, ![k, n]⟩ : Shape).Idx → EReal) = B') (i j : ℕ) : tn A B i j = tn A' B' i j := by
  cases hA; cases hB; rfl
theorem nt_congr {A : FVec Ideal ⟨2, ![m, k]⟩ φ₁} {A' : FVec Ideal ⟨2, ![m, k]⟩ ψ₁} {B : FVec Ideal ⟨2, ![n, k]⟩ φ₂} {B' : FVec Ideal ⟨2, ![n, k]⟩ ψ₂}
    (hA : (A : (⟨2, ![m, k]⟩ : Shape).Idx → EReal) = A') (hB : (B : (⟨2, ![n, k]⟩ : Shape).Idx → EReal) = B') (i j : ℕ) : nt A B i j = nt A' B' i j := by
  cases hA; cases hB; rfl
end

theorem dot_nn (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (i : Fin m) (j : Fin n) :
    Host.dotGeneral (⟨[1], [0], [0], [1], [], [], w⟩ : DotDims _ _ _) none A B (px i j) = nn A B i.val j.val := by
  show FloatOps.dotGeneral _ none _ A B (px i j) = _
  rw [Ideal.dotGeneral_apply, ← Equiv.sum_comp (contrEquiv1 (⟨[1], [0], [0], [1], [], [], w⟩ : DotDims _ _ _) k rfl rfl).symm]
  unfold nn
  rw [Finset.sum_range]
  refine Finset.sum_congr rfl fun c _ => ?_
  have ec := contrEquiv1_symm_val (⟨[1], [0], [0], [1], [], [], w⟩ : DotDims ⟨2, ![m, k]⟩ ⟨2, ![k, n]⟩ ⟨2, ![m, n]⟩) k rfl rfl c
  refine congrArg₂ (· * ·) (at2_of A _ _ _ ?_ ?_) (at2_of B _ _ _ ?_ ?_)
  · simp [DotDims.lhsIdx]; rfl
  · simp [DotDims.lhsIdx]; exact ec
  · simp [DotDims.rhsIdx]; exact ec
  · simp [DotDims.rhsIdx]; rfl

theorem dot_tn (w : DotDims.WF ⟨2, ![k, m]⟩ ⟨2, ![k, n]⟩ ⟨2, ![m, n]⟩ [0] [0] [1] [1] [] [])
    (A : FVec Ideal ⟨2, ![k, m]⟩ φ₁) (B : FVec Ideal ⟨2, ![k, n]⟩ φ₂) (i : Fin m) (j : Fin n) :
    Host.dotGeneral (⟨[0], [0], [1], [1], [], [], w⟩ : DotDims _ _ _) none A B (px i j) = tn A B i.val j.val := by
  show FloatOps.dotGeneral _ none _ A B (px i j) = _
  rw [Ideal.dotGeneral_apply, ← Equiv.sum_comp (contrEquiv1 (⟨[0], [0], [1], [1], [], [], w⟩ : DotDims _ _ _) k rfl rfl).symm]
  unfold tn
  rw [Finset.sum_range]
  refine Finset.sum_congr rfl fun c _ => ?_
  have ec := contrEquiv1_symm_val (⟨[0], [0], [1], [1], [], [], w⟩ : DotDims ⟨2, ![k, m]⟩ ⟨2, ![k, n]⟩ ⟨2, ![m, n]⟩) k rfl rfl c
  refine congrArg₂ (· * ·) (at2_of A _ _ _ ?_ ?_) (at2_of B _ _ _ ?_ ?_)
  · simp [DotDims.lhsIdx]; exact ec
  · simp [DotDims.lhsIdx]; rfl
  · simp [DotDims.rhsIdx]; exact ec
  · simp [DotDims.rhsIdx]; rfl

theorem dot_nt (w : DotDims.WF ⟨2, ![m, k]⟩ ⟨2, ![n, k]⟩ ⟨2, ![m, n]⟩ [1] [1] [0] [0] [] [])
    (A : FVec Ideal ⟨2, ![m, k]⟩ φ₁) (B : FVec Ideal ⟨2, ![n, k]⟩ φ₂) (i : Fin m) (j : Fin n) :
    Host.dotGeneral (⟨[1], [1], [0], [0], [], [], w⟩ : DotDims _ _ _) none A B (px i j) = nt A B i.val j.val := by
  show FloatOps.dotGeneral _ none _ A B (px i j) = _
  rw [Ideal.dotGeneral_apply, ← Equiv.sum_comp (contrEquiv1 (⟨[1], [1], [0], [0], [], [], w⟩ : DotDims _ _ _) k rfl rfl).symm]
  unfold nt
  rw [Finset.sum_range]
  refine Finset.sum_congr rfl fun c _ => ?_
  have ec := contrEquiv1_symm_val (⟨[1], [1], [0], [0], [], [], w⟩ : DotDims ⟨2, ![m, k]⟩ ⟨2, ![n, k]⟩ ⟨2, ![m, n]⟩) k rfl rfl c
  refine congrArg₂ (· * ·) (at2_of A _ _ _ ?_ ?_) (at2_of B _ _ _ ?_ ?_)
  · simp [DotDims.lhsIdx]; rfl
  · simp [DotDims.lhsIdx]; exact ec
  · simp [DotDims.rhsIdx]; rfl
  · simp [DotDims.rhsIdx]; exact ec

/-- The same three with a zero accumulator, as a kernel takes them. -/
theorem mul_nn (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (i : Fin m) (j : Fin n) :
    matmul (⟨[1], [0], [0], [1], [], [], w⟩ : DotDims _ _ _) none A B (constant ⟨2, ![m, n]⟩ .f32 0x00000000#32) (px i j) = nn A B i.val j.val := by
  rw [matmul_zero_eq_dotGeneral]
  exact dot_nn w A B i j

theorem mul_tn (w : DotDims.WF ⟨2, ![k, m]⟩ ⟨2, ![k, n]⟩ ⟨2, ![m, n]⟩ [0] [0] [1] [1] [] [])
    (A : FVec Ideal ⟨2, ![k, m]⟩ φ₁) (B : FVec Ideal ⟨2, ![k, n]⟩ φ₂) (i : Fin m) (j : Fin n) :
    matmul (⟨[0], [0], [1], [1], [], [], w⟩ : DotDims _ _ _) none A B (constant ⟨2, ![m, n]⟩ .f32 0x00000000#32) (px i j) = tn A B i.val j.val := by
  rw [matmul_zero_eq_dotGeneral]
  exact dot_tn w A B i j

theorem mul_nt (w : DotDims.WF ⟨2, ![m, k]⟩ ⟨2, ![n, k]⟩ ⟨2, ![m, n]⟩ [1] [1] [0] [0] [] [])
    (A : FVec Ideal ⟨2, ![m, k]⟩ φ₁) (B : FVec Ideal ⟨2, ![n, k]⟩ φ₂) (i : Fin m) (j : Fin n) :
    matmul (⟨[1], [1], [0], [0], [], [], w⟩ : DotDims _ _ _) none A B (constant ⟨2, ![m, n]⟩ .f32 0x00000000#32) (px i j) = nt A B i.val j.val := by
  rw [matmul_zero_eq_dotGeneral]
  exact dot_nt w A B i j

/-- The first operand's columns by the second's, turned over. -/
theorem tn_comm (A : FVec Ideal ⟨2, ![k, m]⟩ φ₁) (B : FVec Ideal ⟨2, ![k, n]⟩ φ₂) (i j : ℕ) : tn A B i j = tn B A j i :=
  Finset.sum_congr rfl fun _ _ => mul_comm _ _

/-- A product of columns by columns, turned over. -/
theorem turned_tn (w : DotDims.WF ⟨2, ![k, m]⟩ ⟨2, ![k, n]⟩ ⟨2, ![m, n]⟩ [0] [0] [1] [1] [] [])
    (A : FVec Ideal ⟨2, ![k, m]⟩ φ₁) (B : FVec Ideal ⟨2, ![k, n]⟩ φ₂) (h : (⟨2, ![m, n]⟩ : Shape).Transposes [1, 0] ⟨2, ![n, m]⟩) (i : Fin n) (j : Fin m) :
    transpose ⟨2, ![n, m]⟩ [1, 0] (Host.dotGeneral (⟨[0], [0], [1], [1], [], [], w⟩ : DotDims _ _ _) none A B) h (px i j) = tn B A i.val j.val := by
  rw [ValueIdx.transpose_ix2_apply, tn_comm]
  exact dot_tn w A B j i

/-- A running sum that starts afresh every `q` points and takes a block of `b` terms at each holds, before the last of the `q`,
    the sum of all terms so far. -/
theorem running {N q b : ℕ} (hq2 : 2 ≤ q) (st : (t : ℕ) → t < N → EReal) (f : ℕ → ℕ → EReal)
    (h0 : ∀ t h, t % q = 0 → st t h = ∑ c ∈ Finset.range b, f (t / q) (b * (t % q) + c))
    (h1 : ∀ t h, ¬ t % q = 0 → ¬ t % q = q - 1 →
      st t h = st (t - 1) (Nat.lt_of_le_of_lt (Nat.sub_le _ _) h) + ∑ c ∈ Finset.range b, f (t / q) (b * (t % q) + c)) :
    ∀ t h, ¬ t % q = q - 1 → st t h = ∑ c ∈ Finset.range (b * (t % q + 1)), f (t / q) c := by
  intro t
  induction t with
  | zero =>
    intro h hq
    rw [h0 0 h (Nat.zero_mod _)]
    simp
  | succ t ih =>
    intro h hq
    by_cases hz : (t + 1) % q = 0
    · rw [h0 _ h hz, hz]
      simp
    · have hq0 : q ≠ 0 := by omega
      have hd : (t + 1) / q = t / q := by
        rw [Nat.succ_div, if_neg fun hdvd => hz (Nat.mod_eq_zero_of_dvd hdvd), Nat.add_zero]
      have hm : (t + 1) % q = t % q + 1 := by
        have e1 := Nat.div_add_mod (t + 1) q
        have e2 := Nat.div_add_mod t q
        rw [hd] at e1
        omega
      have hl : (t + 1) % q < q := Nat.mod_lt _ (Nat.pos_of_ne_zero hq0)
      rw [h1 _ h hz hq]
      show st t _ + _ = _
      rw [ih _ (by omega), hd, hm, Nat.mul_succ b (t % q + 1), Finset.sum_range_add]

/-- So the sum the last of the `q` points makes of what it finds and its own block is the sum of all terms. -/
theorem total {N q b : ℕ} (hq : 2 ≤ q) (st : (t : ℕ) → t < N → EReal) (f : ℕ → ℕ → EReal)
    (h0 : ∀ t h, t % q = 0 → st t h = ∑ c ∈ Finset.range b, f (t / q) (b * (t % q) + c))
    (h1 : ∀ t h, ¬ t % q = 0 → ¬ t % q = q - 1 →
      st t h = st (t - 1) (Nat.lt_of_le_of_lt (Nat.sub_le _ _) h) + ∑ c ∈ Finset.range b, f (t / q) (b * (t % q) + c))
    (t : ℕ) (h : t < N) (ht : t % q = q - 1) :
    st (t - 1) (Nat.lt_of_le_of_lt (Nat.sub_le _ _) h) + ∑ c ∈ Finset.range b, f (t / q) (b * (t % q) + c)
      = ∑ c ∈ Finset.range (b * q), f (t / q) c := by
  have e := Nat.div_add_mod t q
  have hm : (t - 1) % q = q - 2 := by
    have : t - 1 = q - 2 + q * (t / q) := by omega
    rw [this, Nat.add_mul_mod_self_left, Nat.mod_eq_of_lt (by omega)]
  have hd : (t - 1) / q = t / q := by
    have : t - 1 = q - 2 + q * (t / q) := by omega
    rw [this, Nat.add_mul_div_left _ _ (by omega), Nat.div_eq_of_lt (by omega), Nat.zero_add]
  rw [running hq st f h0 h1 (t - 1) _ (by omega), hm, hd, ht, show q - 2 + 1 = q - 1 by omega]
  conv_rhs => rw [show q = q - 1 + 1 by omega, Nat.mul_succ, Finset.sum_range_add]
  rw [show (q - 1 + 1) = q by omega]

/-- A block's product, read off the whole arrays: the contraction runs from `o`. -/
theorem nn_block {A : FVec Ideal ⟨2, ![m, k]⟩ φ₁} {B : FVec Ideal ⟨2, ![k, n]⟩ φ₂} {L R : ℕ → ℕ → EReal} (i : Fin m) (j : Fin n) (I J o : ℕ)
    (hA : ∀ c : Fin k, A (px i c) = L I (o + c.val)) (hB : ∀ c : Fin k, B (px c j) = R (o + c.val) J) :
    nn A B i.val j.val = ∑ c ∈ Finset.range k, L I (o + c) * R (o + c) J := by
  unfold nn
  refine Finset.sum_congr rfl fun c hc => ?_
  have hc := Finset.mem_range.mp hc
  exact congrArg₂ (· * ·) ((at2_ix2 A i ⟨c, hc⟩).trans (hA ⟨c, hc⟩)) ((at2_ix2 B ⟨c, hc⟩ j).trans (hB ⟨c, hc⟩))

theorem tn_block {A : FVec Ideal ⟨2, ![k, m]⟩ φ₁} {B : FVec Ideal ⟨2, ![k, n]⟩ φ₂} {L R : ℕ → ℕ → EReal} (i : Fin m) (j : Fin n) (I J o : ℕ)
    (hA : ∀ c : Fin k, A (px c i) = L (o + c.val) I) (hB : ∀ c : Fin k, B (px c j) = R (o + c.val) J) :
    tn A B i.val j.val = ∑ c ∈ Finset.range k, L (o + c) I * R (o + c) J := by
  unfold tn
  refine Finset.sum_congr rfl fun c hc => ?_
  have hc := Finset.mem_range.mp hc
  exact congrArg₂ (· * ·) ((at2_ix2 A ⟨c, hc⟩ i).trans (hA ⟨c, hc⟩)) ((at2_ix2 B ⟨c, hc⟩ j).trans (hB ⟨c, hc⟩))

theorem nt_block {A : FVec Ideal ⟨2, ![m, k]⟩ φ₁} {B : FVec Ideal ⟨2, ![n, k]⟩ φ₂} {L R : ℕ → ℕ → EReal} (i : Fin m) (j : Fin n) (I J o : ℕ)
    (hA : ∀ c : Fin k, A (px i c) = L I (o + c.val)) (hB : ∀ c : Fin k, B (px j c) = R J (o + c.val)) :
    nt A B i.val j.val = ∑ c ∈ Finset.range k, L I (o + c) * R J (o + c) := by
  unfold nt
  refine Finset.sum_congr rfl fun c hc => ?_
  have hc := Finset.mem_range.mp hc
  exact congrArg₂ (· * ·) ((at2_ix2 A i ⟨c, hc⟩).trans (hA ⟨c, hc⟩)) ((at2_ix2 B j ⟨c, hc⟩).trans (hB ⟨c, hc⟩))

/-- A block's product that contracts everything is the arrays' product. -/
theorem nn_whole {M N : ℕ} {ψ₁ ψ₂ : FTy} {A : FVec Ideal ⟨2, ![m, k]⟩ φ₁} {B : FVec Ideal ⟨2, ![k, n]⟩ φ₂} {X : FVec Ideal ⟨2, ![M, k]⟩ ψ₁} {Y : FVec Ideal ⟨2, ![k, N]⟩ ψ₂}
    (i : Fin m) (j : Fin n) (I J : ℕ) (hA : ∀ c : Fin k, A (px i c) = at2 X I c.val) (hB : ∀ c : Fin k, B (px c j) = at2 Y c.val J) :
    nn A B i.val j.val = nn X Y I J := by
  refine (nn_block (L := at2 X) (R := at2 Y) i j I J 0 (by simpa using hA) (by simpa using hB)).trans ?_
  simp only [Nat.zero_add]
  rfl

theorem nt_whole {M N : ℕ} {ψ₁ ψ₂ : FTy} {A : FVec Ideal ⟨2, ![m, k]⟩ φ₁} {B : FVec Ideal ⟨2, ![n, k]⟩ φ₂} {X : FVec Ideal ⟨2, ![M, k]⟩ ψ₁} {Y : FVec Ideal ⟨2, ![N, k]⟩ ψ₂}
    (i : Fin m) (j : Fin n) (I J : ℕ) (hA : ∀ c : Fin k, A (px i c) = at2 X I c.val) (hB : ∀ c : Fin k, B (px j c) = at2 Y J c.val) :
    nt A B i.val j.val = nt X Y I J := by
  refine (nt_block (L := at2 X) (R := at2 Y) i j I J 0 (by simpa using hA) (by simpa using hB)).trans ?_
  simp only [Nat.zero_add]
  rfl

/-- An array known on each tile of `p` rows and `q` columns is known everywhere. -/
theorem tiled {a b p q u N : ℕ} {φ : FTy} (A : FVec Ideal ⟨2, ![a, b]⟩ φ) (f : ℕ → ℕ → EReal) (hp : 0 < p) (hq : 0 < q) (ha : a * u ≤ p * N) (hb : b ≤ q * u)
    (hu : u ∣ N) (h : ∀ (t : Fin N) (r : Fin p) (s : Fin q), at2 A (p * (t.val / u) + r.val) (q * (t.val % u) + s.val) = f (p * (t.val / u) + r.val) (q * (t.val % u) + s.val))
    (i : Fin a) (j : Fin b) : A (px i j) = f i.val j.val := by
  obtain ⟨w, rfl⟩ := hu
  have hi := i.isLt
  have hj := j.isLt
  have h0 : 0 < u := Nat.pos_of_ne_zero fun e => by subst e; omega
  have hiw : i.val / p < w := by
    refine Nat.div_lt_of_lt_mul (lt_of_lt_of_le hi (Nat.le_of_mul_le_mul_right ?_ h0))
    calc a * u ≤ p * (u * w) := ha
      _ = p * w * u := by ring
  have hju : j.val / q < u := Nat.div_lt_of_lt_mul (lt_of_lt_of_le hj hb)
  have ht : u * (i.val / p) + j.val / q < u * w := by
    calc u * (i.val / p) + j.val / q < u * (i.val / p) + u := by omega
      _ = u * (i.val / p + 1) := by ring
      _ ≤ u * w := Nat.mul_le_mul_left u hiw
  have hd : (u * (i.val / p) + j.val / q) / u = i.val / p := by
    rw [Nat.mul_add_div h0, Nat.div_eq_of_lt hju, Nat.add_zero]
  have hm : (u * (i.val / p) + j.val / q) % u = j.val / q := by
    rw [Nat.mul_add_mod, Nat.mod_eq_of_lt hju]
  have e := h ⟨_, ht⟩ ⟨i.val % p, Nat.mod_lt _ hp⟩ ⟨j.val % q, Nat.mod_lt _ hq⟩
  simp only [hd, hm, Nat.div_add_mod] at e
  exact (at2_ix2 A i j).symm.trans e

end Cert.Product
-- ==== Proof.Tiling.lean ====
/-
  A product that a grid computes: from what each point reads and leaves, to the whole array.
-/
module

public import proofs.«01_k».proof.Proof.Product

@[expose] public section

set_option maxRecDepth 20000

noncomputable section

namespace Cert.Product

open Idealize.ShloMosaic Idealize.ShloMosaic.ValueIdx

/-! ### Loads and stores of a whole buffer -/

section
variable {Val : EltTy → Type} {a b : ℕ} {e : EltTy} {sig : RefSig} {κ : Kind} {sp : Space}

/-- After one store of the whole buffer it reads as what was stored. -/
theorem wrote [∀ e, Nonempty (Val e)] (v : View sig κ sp ⟨2, ![a, b]⟩ e) (f : v.ty.Contents Val) {inb} (w : (⟨2, ![a, b]⟩ : Shape).Idx → Val e) :
    v.read Val (v.writes Val f [(⟨Rect.unit ![0, 0] ![a, b] inb, w⟩ : View.Piece Val ⟨2, ![a, b]⟩ e)]) = w := by
  have hc : ∀ y, ∃ p ∈ [(⟨Rect.unit (s := ⟨2, ![a, b]⟩) ![0, 0] ![a, b] inb, w⟩ : View.Piece Val ⟨2, ![a, b]⟩ e)], y ∈ p.1.set := fun y =>
    ⟨_, List.mem_singleton_self _, View.mem_set_unit_zero zz inb y⟩
  rw [View.read_writes_eq_canon v f _ hc]
  exact View.canon_unit_zero (S := ⟨2, ![a, b]⟩) zz inb w

/-- And a load of the whole buffer gives what was stored. -/
theorem reread [∀ e, Nonempty (Val e)] (v : View sig κ sp ⟨2, ![a, b]⟩ e) {inb} (w : (⟨2, ![a, b]⟩ : Shape).Idx → Val e) :
    v.readCov [(⟨Rect.unit (s := ⟨2, ![a, b]⟩) ![0, 0] ![a, b] inb, w⟩ : View.Piece Val ⟨2, ![a, b]⟩ e)] (Rect.unit (s := ⟨2, ![a, b]⟩) ![0, 0] ![a, b] inb).toLoadRect = w :=
  View.readCov_unit_zero (S := ⟨2, ![a, b]⟩) v zz inb w

/-- A load of a whole buffer gives its contents. -/
theorem loaded {M : Memref sig κ sp ⟨2, ![a, b]⟩ e} (h : M.IsWhole) {inb} (X : (⟨2, ![a, b]⟩ : Shape).Idx → Val e) :
    M.view.readAt Val (Rect.unit (s := ⟨2, ![a, b]⟩) ![0, 0] ![a, b] inb).toLoadRect (h.unread X) = X := by
  rw [View.readAt_eq_ld, h.read_unread]
  exact View.ld_unit_zero (S := ⟨2, ![a, b]⟩) zz inb X

/-- One store of what is made of two whole loads, or of three. -/
theorem kept₂ {a' b' a'' b'' : ℕ} {e' e'' : EltTy} {i i' i''} (f : ((⟨2, ![a', b']⟩ : Shape).Idx → Elt Ideal e') → ((⟨2, ![a'', b'']⟩ : Shape).Idx → Elt Ideal e'') → (⟨2, ![a, b]⟩ : Shape).Idx → Elt Ideal e)
    (x : (⟨2, ![a', b']⟩ : Shape).Idx → Elt Ideal e') (y : (⟨2, ![a'', b'']⟩ : Shape).Idx → Elt Ideal e'') :
    View.canon [(⟨Rect.unit (s := ⟨2, ![a, b]⟩) ![0, 0] ![a, b] i, f (View.ld x (Rect.unit (s := ⟨2, ![a', b']⟩) ![0, 0] ![a', b'] i')) (View.ld y (Rect.unit (s := ⟨2, ![a'', b'']⟩) ![0, 0] ![a'', b''] i''))⟩ :
      View.Piece (Elt Ideal) ⟨2, ![a, b]⟩ e)] = f x y :=
  (View.canon_unit_zero (S := ⟨2, ![a, b]⟩) zz i _).trans (congrArg₂ f (View.ld_unit_zero (S := ⟨2, ![a', b']⟩) zz i' x) (View.ld_unit_zero (S := ⟨2, ![a'', b'']⟩) zz i'' y))

theorem kept₃ {a' b' a'' b'' c d : ℕ} {e' e'' e₃ : EltTy} {i i' i'' i₃} (f : ((⟨2, ![a', b']⟩ : Shape).Idx → Elt Ideal e') → ((⟨2, ![a'', b'']⟩ : Shape).Idx → Elt Ideal e'') → ((⟨2, ![c, d]⟩ : Shape).Idx → Elt Ideal e₃) → (⟨2, ![a, b]⟩ : Shape).Idx → Elt Ideal e)
    (x : (⟨2, ![a', b']⟩ : Shape).Idx → Elt Ideal e') (y : (⟨2, ![a'', b'']⟩ : Shape).Idx → Elt Ideal e'') (z : (⟨2, ![c, d]⟩ : Shape).Idx → Elt Ideal e₃) :
    View.canon [(⟨Rect.unit (s := ⟨2, ![a, b]⟩) ![0, 0] ![a, b] i, f (View.ld x (Rect.unit (s := ⟨2, ![a', b']⟩) ![0, 0] ![a', b'] i')) (View.ld y (Rect.unit (s := ⟨2, ![a'', b'']⟩) ![0, 0] ![a'', b''] i''))
      (View.ld z (Rect.unit (s := ⟨2, ![c, d]⟩) ![0, 0] ![c, d] i₃))⟩ : View.Piece (Elt Ideal) ⟨2, ![a, b]⟩ e)] = f x y z :=
  (kept₂ (fun x y => f x y _) x y).trans (congrArg (f x y) (View.ld_unit_zero (S := ⟨2, ![c, d]⟩) zz i₃ z))

end

section
variable {sig : RefSig} {κ : Kind} {sp sp' : Space} {a b a' b' a'' b'' : ℕ} {e₁ e₂ : EltTy}
  (f : ((⟨2, ![a', b']⟩ : Shape).Idx → Elt Ideal e₁) → ((⟨2, ![a'', b'']⟩ : Shape).Idx → Elt Ideal e₂) → FVec Ideal ⟨2, ![a, b]⟩ .f32)
  {M₁ : Memref sig κ sp ⟨2, ![a', b']⟩ e₁} (h₁ : M₁.IsWhole) {M₂ : Memref sig κ sp ⟨2, ![a'', b'']⟩ e₂} (h₂ : M₂.IsWhole)
  {M : Memref sig κ sp ⟨2, ![a, b]⟩ .f32} (h : M.IsWhole) (v : View sig κ sp' ⟨2, ![a, b]⟩ .f32) (old : v.ty.Contents (Elt Ideal))
  {i i' i'' i₃} (x : (⟨2, ![a', b']⟩ : Shape).Idx → Elt Ideal e₁) (y : (⟨2, ![a'', b'']⟩ : Shape).Idx → Elt Ideal e₂) (z : FVec Ideal ⟨2, ![a, b]⟩ .f32) (hs : (⟨2, ![a, b]⟩ : Shape).ShapeCasts ⟨2, ![a, b]⟩)

/-- What the first point of a run stores in the accumulator. -/
theorem begun : v.read (Elt Ideal) (v.writes (Elt Ideal) old [(⟨Rect.unit (s := ⟨2, ![a, b]⟩) ![0, 0] ![a, b] i, shapeCast ⟨2, ![a, b]⟩
      (f (M₁.view.readAt (Elt Ideal) (Rect.unit (s := ⟨2, ![a', b']⟩) ![0, 0] ![a', b'] i').toLoadRect (h₁.unread x))
        (M₂.view.readAt (Elt Ideal) (Rect.unit (s := ⟨2, ![a'', b'']⟩) ![0, 0] ![a'', b''] i'').toLoadRect (h₂.unread y))) hs⟩ : View.Piece (Elt Ideal) ⟨2, ![a, b]⟩ .f32)]) = f x y :=
  (wrote _ _ _).trans ((shapeCast_self _ _).trans (congrArg₂ f (loaded h₁ x) (loaded h₂ y)))

/-- What a later point stores there. -/
theorem added : v.read (Elt Ideal) (v.writes (Elt Ideal) old [(⟨Rect.unit (s := ⟨2, ![a, b]⟩) ![0, 0] ![a, b] i, shapeCast ⟨2, ![a, b]⟩
      (addf (M.view.readAt (Elt Ideal) (Rect.unit (s := ⟨2, ![a, b]⟩) ![0, 0] ![a, b] i₃).toLoadRect (h.unread z))
        (f (M₁.view.readAt (Elt Ideal) (Rect.unit (s := ⟨2, ![a', b']⟩) ![0, 0] ![a', b'] i').toLoadRect (h₁.unread x))
          (M₂.view.readAt (Elt Ideal) (Rect.unit (s := ⟨2, ![a'', b'']⟩) ![0, 0] ![a'', b''] i'').toLoadRect (h₂.unread y)))) hs⟩ : View.Piece (Elt Ideal) ⟨2, ![a, b]⟩ .f32)])
    = addf z (f x y) :=
  (wrote _ _ _).trans ((shapeCast_self _ _).trans (congrArg₂ (addf) (loaded (Val := Elt Ideal) h z) (congrArg₂ f (loaded h₁ x) (loaded h₂ y))))

/-- What the last point reads back from the accumulator. -/
theorem summed {sp'' : Space} (v' : View sig κ sp'' ⟨2, ![a, b]⟩ .f32) {j'} : v'.readCov [(⟨Rect.unit (s := ⟨2, ![a, b]⟩) ![0, 0] ![a, b] j', shapeCast ⟨2, ![a, b]⟩
        (addf (M.view.readAt (Elt Ideal) (Rect.unit (s := ⟨2, ![a, b]⟩) ![0, 0] ![a, b] i₃).toLoadRect (h.unread z))
          (f (M₁.view.readAt (Elt Ideal) (Rect.unit (s := ⟨2, ![a', b']⟩) ![0, 0] ![a', b'] i').toLoadRect (h₁.unread x))
            (M₂.view.readAt (Elt Ideal) (Rect.unit (s := ⟨2, ![a'', b'']⟩) ![0, 0] ![a'', b''] i'').toLoadRect (h₂.unread y)))) hs⟩ : View.Piece (Elt Ideal) ⟨2, ![a, b]⟩ .f32)]
        (Rect.unit (s := ⟨2, ![a, b]⟩) ![0, 0] ![a, b] j').toLoadRect
    = addf z (f x y) :=
  (reread _ _).trans ((shapeCast_self _ _).trans (congrArg₂ (addf) (loaded (Val := Elt Ideal) h z) (congrArg₂ f (loaded h₁ x) (loaded h₂ y))))

/-- What the last point stores in the array's tile, by way of the accumulator. -/
theorem ended {sp'' : Space} (v' : View sig κ sp'' ⟨2, ![a, b]⟩ .f32) {j j'} : v.read (Elt Ideal) (v.writes (Elt Ideal) old [(⟨Rect.unit (s := ⟨2, ![a, b]⟩) ![0, 0] ![a, b] j,
      v'.readCov [(⟨Rect.unit (s := ⟨2, ![a, b]⟩) ![0, 0] ![a, b] j', shapeCast ⟨2, ![a, b]⟩
        (addf (M.view.readAt (Elt Ideal) (Rect.unit (s := ⟨2, ![a, b]⟩) ![0, 0] ![a, b] i₃).toLoadRect (h.unread z))
          (f (M₁.view.readAt (Elt Ideal) (Rect.unit (s := ⟨2, ![a', b']⟩) ![0, 0] ![a', b'] i').toLoadRect (h₁.unread x))
            (M₂.view.readAt (Elt Ideal) (Rect.unit (s := ⟨2, ![a'', b'']⟩) ![0, 0] ![a'', b''] i'').toLoadRect (h₂.unread y)))) hs⟩ : View.Piece (Elt Ideal) ⟨2, ![a, b]⟩ .f32)]
        (Rect.unit (s := ⟨2, ![a, b]⟩) ![0, 0] ![a, b] j').toLoadRect⟩ : View.Piece (Elt Ideal) ⟨2, ![a, b]⟩ .f32)])
    = addf z (f x y) :=
  (wrote _ _ _).trans (summed f h₁ h₂ h x y z hs v')

end

/-! ### An entry of a block -/

/-- The entry of an array under the entry in row `r` and column `s` of a block, the block being the one in row `u` and column `v` of blocks. -/
theorem at_block {a b : ℕ} {φ : FTy} (X : FVec Ideal ⟨2, ![a, b]⟩ φ) {p : (⟨2, ![a, b]⟩ : Shape).Idx} {u v u' v' q r h s : ℕ}
    (e : u = u' ∧ v = v') (h0 : (p 0).val = u * q + 1 * r) (h1 : (p 1).val = v * h + 1 * s) : X p = at2 X (q * u' + r) (h * v' + s) := by
  obtain ⟨rfl, rfl⟩ := e
  exact at2_of X p _ _ (by rw [h0, Nat.mul_comm, Nat.one_mul]) (by rw [h1, Nat.mul_comm, Nat.one_mul])

/-! ### One point, one tile -/

section
variable {M K C p q u P N : ℕ} {φ₁ φ₂ φ : FTy} (O : FVec Ideal ⟨2, ![M, C]⟩ φ) (g : ℕ → ℕ → EReal → EReal)
  (hN : N = u * P) (hM : M = p * P) (hC : C = q * u)
include hN hM hC

/-- An array known on each of `P` by `u` tiles is known everywhere. -/
theorem on_tiles (f : ℕ → ℕ → EReal)
    (h : ∀ (t : Fin N) (r : Fin p) (s : Fin q), at2 O (p * (t.val / u) + r.val) (q * (t.val % u) + s.val) = f (p * (t.val / u) + r.val) (q * (t.val % u) + s.val))
    (i : Fin M) (j : Fin C) : O (px i j) = f i.val j.val := by
  subst hN hM hC
  exact tiled O f (Nat.pos_of_mul_pos_right i.pos) (Nat.pos_of_mul_pos_right j.pos) (by rw [Nat.mul_assoc, Nat.mul_comm P u]) le_rfl (dvd_mul_right u P) h i j

/-- Where each point leaves the product of a band of rows and a band of columns, with `g` applied, the array is the product with `g` applied. -/
theorem tiles_nn (X : FVec Ideal ⟨2, ![M, K]⟩ φ₁) (Y : FVec Ideal ⟨2, ![K, C]⟩ φ₂) (A : Fin N → FVec Ideal ⟨2, ![p, K]⟩ φ₁) (B : Fin N → FVec Ideal ⟨2, ![K, q]⟩ φ₂)
    (hA : ∀ t r c, A t (px r c) = at2 X (p * (t.val / u) + r.val) (K * 0 + c.val)) (hB : ∀ t c s, B t (px c s) = at2 Y (K * 0 + c.val) (q * (t.val % u) + s.val))
    (hO : ∀ (t : Fin N) (r : Fin p) (s : Fin q), at2 O (p * (t.val / u) + r.val) (q * (t.val % u) + s.val)
      = g (p * (t.val / u) + r.val) (q * (t.val % u) + s.val) (nn (A t) (B t) r.val s.val))
    (i : Fin M) (j : Fin C) : O (px i j) = g i.val j.val (nn X Y i.val j.val) :=
  on_tiles O hN hM hC (fun i j => g i j (nn X Y i j)) (fun t r s => (hO t r s).trans (congrArg _ (nn_whole r s _ _
    (fun c => by simpa using hA t r c) (fun c => by simpa using hB t c s)))) i j

theorem tiles_nt (X : FVec Ideal ⟨2, ![M, K]⟩ φ₁) (Y : FVec Ideal ⟨2, ![C, K]⟩ φ₂) (A : Fin N → FVec Ideal ⟨2, ![p, K]⟩ φ₁) (B : Fin N → FVec Ideal ⟨2, ![q, K]⟩ φ₂)
    (hA : ∀ t r c, A t (px r c) = at2 X (p * (t.val / u) + r.val) (K * 0 + c.val)) (hB : ∀ t s c, B t (px s c) = at2 Y (q * (t.val % u) + s.val) (K * 0 + c.val))
    (hO : ∀ (t : Fin N) (r : Fin p) (s : Fin q), at2 O (p * (t.val / u) + r.val) (q * (t.val % u) + s.val)
      = g (p * (t.val / u) + r.val) (q * (t.val % u) + s.val) (nt (A t) (B t) r.val s.val))
    (i : Fin M) (j : Fin C) : O (px i j) = g i.val j.val (nt X Y i.val j.val) :=
  on_tiles O hN hM hC (fun i j => g i j (nt X Y i j)) (fun t r s => (hO t r s).trans (congrArg _ (nt_whole r s _ _
    (fun c => by simpa using hA t r c) (fun c => by simpa using hB t s c)))) i j

end

/-! ### A run of points, one tile -/

section
variable {M K C p w q b u P N : ℕ} {φ₁ φ₂ φ : FTy} (O : FVec Ideal ⟨2, ![M, C]⟩ φ) (g : ℕ → ℕ → EReal → EReal)
  (hq : 2 ≤ q) (hN : N = q * (u * P)) (hM : M = p * P) (hC : C = w * u)
  (out acc : (t : ℕ) → t < N → FVec Ideal ⟨2, ![p, w]⟩ .f32) (x : Fin N → FVec Ideal ⟨2, ![p, w]⟩ .f32)
  (h0 : ∀ t : Fin N, t.val % q = 0 → acc t.val t.isLt = x t)
  (h1 : ∀ t : Fin N, ¬ t.val % q = 0 → ¬ t.val % q = q - 1 →
    acc t.val t.isLt = addf (acc (t.val - 1) (Nat.lt_of_le_of_lt (Nat.sub_le _ _) t.isLt)) (x t))
  (h2 : ∀ t : Fin N, t.val % q = q - 1 →
    out t.val t.isLt = addf (acc (t.val - 1) (Nat.lt_of_le_of_lt (Nat.sub_le _ _) t.isLt)) (x t))
  (hO : ∀ (t : Fin N), t.val % q = q - 1 → ∀ (r : Fin p) (s : Fin w), at2 O (p * (t.val / q / u) + r.val) (w * (t.val / q % u) + s.val)
    = g (p * (t.val / q / u) + r.val) (w * (t.val / q % u) + s.val) (out t.val t.isLt (px r s)))
include hq hN hM hC h0 h1 h2 hO

/-- Where `q` points in a row add their blocks' terms into one tile, the array holds the sums of all terms. -/
theorem swept (f : ℕ → ℕ → ℕ → EReal)
    (hx : ∀ (t : Fin N) (r : Fin p) (s : Fin w), x t (px r s)
      = ∑ c ∈ Finset.range b, f (p * (t.val / q / u) + r.val) (w * (t.val / q % u) + s.val) (b * (t.val % q) + c))
    (i : Fin M) (j : Fin C) : O (px i j) = g i.val j.val (∑ c ∈ Finset.range (b * q), f i.val j.val c) := by
  refine on_tiles O rfl hM hC (fun i j => g i j (∑ c ∈ Finset.range (b * q), f i j c)) (fun n r s => ?_) i j
  have hn : q * n.val + (q - 1) < N := by
    have := Nat.mul_le_mul_left q (Nat.succ_le_of_lt n.isLt)
    rw [hN]
    rw [Nat.mul_succ] at this
    omega
  have hd : (q * n.val + (q - 1)) / q = n.val := by
    rw [Nat.mul_add_div (by omega), Nat.div_eq_of_lt (by omega), Nat.add_zero]
  have hm : (q * n.val + (q - 1)) % q = q - 1 := by
    rw [Nat.mul_add_mod, Nat.mod_eq_of_lt (by omega)]
  have e := total hq (fun t ht => (acc t ht (px r s) : EReal)) (fun n c => f (p * (n / u) + r.val) (w * (n % u) + s.val) c)
    (fun t ht hz => (congrFun (h0 ⟨t, ht⟩ hz) _).trans (hx ⟨t, ht⟩ r s))
    (fun t ht hz hl => (congrFun (h1 ⟨t, ht⟩ hz hl) _).trans (congrArg (_ + ·) (hx ⟨t, ht⟩ r s))) _ hn hm
  have o := hO ⟨_, hn⟩ hm r s
  have l := (congrFun (h2 ⟨_, hn⟩ hm) (px r s)).trans ((congrArg (_ + ·) (hx ⟨_, hn⟩ r s)).trans e)
  rw [l] at o
  simpa only [hd] using o

/-- The blocks' terms those of a product of columns by columns. -/
theorem swept_tn (hK : K = b * q) (X : FVec Ideal ⟨2, ![K, M]⟩ φ₁) (Y : FVec Ideal ⟨2, ![K, C]⟩ φ₂)
    (A : Fin N → FVec Ideal ⟨2, ![b, p]⟩ φ₁) (B : Fin N → FVec Ideal ⟨2, ![b, w]⟩ φ₂)
    (hA : ∀ t c r, A t (px c r) = at2 X (b * (t.val % q) + c.val) (p * (t.val / q / u) + r.val))
    (hB : ∀ t c s, B t (px c s) = at2 Y (b * (t.val % q) + c.val) (w * (t.val / q % u) + s.val))
    (hx : ∀ t r s, x t (px r s) = tn (A t) (B t) r.val s.val) (i : Fin M) (j : Fin C) : O (px i j) = g i.val j.val (tn X Y i.val j.val) := by
  subst hK
  exact swept O g hq hN hM hC out acc x h0 h1 h2 hO (fun i j c => at2 X c i * at2 Y c j)
    (fun t r s => (hx t r s).trans (tn_block r s _ _ _ (fun c => hA t c r) (fun c => hB t c s))) i j

/-- The blocks' terms those of a product of rows by columns. -/
theorem swept_nn (hK : K = b * q) (X : FVec Ideal ⟨2, ![M, K]⟩ φ₁) (Y : FVec Ideal ⟨2, ![K, C]⟩ φ₂)
    (A : Fin N → FVec Ideal ⟨2, ![p, b]⟩ φ₁) (B : Fin N → FVec Ideal ⟨2, ![b, w]⟩ φ₂)
    (hA : ∀ t r c, A t (px r c) = at2 X (p * (t.val / q / u) + r.val) (b * (t.val % q) + c.val))
    (hB : ∀ t c s, B t (px c s) = at2 Y (b * (t.val % q) + c.val) (w * (t.val / q % u) + s.val))
    (hx : ∀ t r s, x t (px r s) = nn (A t) (B t) r.val s.val) (i : Fin M) (j : Fin C) : O (px i j) = g i.val j.val (nn X Y i.val j.val) := by
  subst hK
  exact swept O g hq hN hM hC out acc x h0 h1 h2 hO (fun i j c => at2 X i c * at2 Y c j)
    (fun t r s => (hx t r s).trans (nn_block r s _ _ _ (fun c => hA t r c) (fun c => hB t c s))) i j

/-- The blocks' terms those of a product of rows by rows. -/
theorem swept_nt (hK : K = b * q) (X : FVec Ideal ⟨2, ![M, K]⟩ φ₁) (Y : FVec Ideal ⟨2, ![C, K]⟩ φ₂)
    (A : Fin N → FVec Ideal ⟨2, ![p, b]⟩ φ₁) (B : Fin N → FVec Ideal ⟨2, ![w, b]⟩ φ₂)
    (hA : ∀ t r c, A t (px r c) = at2 X (p * (t.val / q / u) + r.val) (b * (t.val % q) + c.val))
    (hB : ∀ t s c, B t (px s c) = at2 Y (w * (t.val / q % u) + s.val) (b * (t.val % q) + c.val))
    (hx : ∀ t r s, x t (px r s) = nt (A t) (B t) r.val s.val) (i : Fin M) (j : Fin C) : O (px i j) = g i.val j.val (nt X Y i.val j.val) := by
  subst hK
  exact swept O g hq hN hM hC out acc x h0 h1 h2 hO (fun i j c => at2 X i c * at2 Y j c)
    (fun t r s => (hx t r s).trans (nt_block r s _ _ _ (fun c => hA t r c) (fun c => hB t s c))) i j

end

end Cert.Product
-- ==== Proof.MlpUp.lean ====
/-
  The up projection: the kernel's arrays are the squares and the values of the product's positive part.
-/
module

public import proofs.«01_k».proof.Proof.Tiling
public import proofs.«01_k».proof.Proof.Gen.UpIdeal.Value
public import proofs.«01_k».proof.Proof.Gen.UpRefIdeal.Run
public import proofs.«01_k».proof.Defs

@[expose] public section

set_option maxRecDepth 20000

noncomputable section

namespace Cert.UpIdeal.Sum

open Idealize.ShloMosaic Idealize.ShloMosaic.TcCoe
open Cert.UpIdeal Cert.UpIdeal.Gen Cert.UpIdeal.Value Cert.Product

theorem places : ∀ t : Fin cfg0.N, ((cfg0.win 2).flush t = true ∧ (cfg0.win 3).flush t = true) ∧ (win0_0.index t 0 = t.val / 4 ∧ win0_0.index t 1 = 0)
    ∧ (win0_1.index t 0 = 0 ∧ win0_1.index t 1 = t.val % 4) ∧ (win0_2.index t 0 = t.val / 4 ∧ win0_2.index t 1 = t.val % 4)
    ∧ win0_3.index t 0 = t.val / 4 ∧ win0_3.index t 1 = t.val % 4 :=
  (by decide +kernel : ∀ t : Fin grid0.N, _)

/-- The positive part, as the program writes it. -/
def pos (x : Ideal .f32) : Ideal .f32 := FloatOps.maximumf x (Scalar.ofBits .f32 0x00000000#32)

/-- What a point makes of its blocks before it rounds. -/
theorem part (x : FVec Ideal S2048x1024 .bf16) (y : FVec Ideal S1024x1024 .bf16) (r : Fin 2048) (s : Fin 1024) :
    k0_pay1 x y (px r s) = pos (nn x y r.val s.val) := by
  unfold k0_pay1
  exact congrArg pos (mul_nn _ _ _ r s)

variable (m : (ℓ : Loc nD τ sig) → Buf (Elt Ideal) ℓ) (c : Dev nD)

theorem array2 (i : Fin 16384) (j : Fin 4096) :
    ((dats m 0 c).arrAt 2 cfg0.N : FVec Ideal S16384x4096 .bf16) (px i j)
      = FloatOps.mulf (pos (nn (m := 16384) (k := 1024) (n := 4096) (φ₁ := .bf16) (φ₂ := .bf16) (V m c main_arg0) (V m c main_arg1) i.val j.val))
        (pos (nn (m := 16384) (k := 1024) (n := 4096) (φ₁ := .bf16) (φ₂ := .bf16) (V m c main_arg0) (V m c main_arg1) i.val j.val)) :=
  tiles_nn (p := 2048) (q := 1024) (u := 4) (P := 8) _ (fun _ _ x => FloatOps.mulf (pos x) (pos x)) N_0 rfl rfl (V m c main_arg0) (V m c main_arg1) (iblk m c 0) (iblk m c 1)
    (fun t _ _ => at_block (a := 16384) (b := 1024) _ (places t).2.1 rfl rfl)
    (fun t _ _ => at_block (a := 1024) (b := 4096) (V m c main_arg1) (places t).2.2.1 rfl rfl)
    (fun t r s => (at_block (a := 16384) (b := 4096) _ (places t).2.2.2.1 rfl rfl).symm.trans
      ((congrFun ((blocks2 m c t (places t).1.1).trans (flushed2 m c t)) (px r s)).trans (by
        show out0_2 _ _ (px r s) = _
        unfold out0_2
        refine (congrFun (kept₂ (e := .bf16) (e' := .bf16) (e'' := .bf16) (k0_pay2) _ _) _).trans ?_
        exact congrArg₂ FloatOps.mulf (part _ _ r s) (part _ _ r s)))) i j

theorem array3 (i : Fin 16384) (j : Fin 4096) :
    ((dats m 0 c).arrAt 3 cfg0.N : FVec Ideal S16384x4096 .bf16) (px i j)
      = pos (nn (m := 16384) (k := 1024) (n := 4096) (φ₁ := .bf16) (φ₂ := .bf16) (V m c main_arg0) (V m c main_arg1) i.val j.val) :=
  tiles_nn (p := 2048) (q := 1024) (u := 4) (P := 8) _ (fun _ _ x => pos x) N_0 rfl rfl (V m c main_arg0) (V m c main_arg1) (iblk m c 0) (iblk m c 1)
    (fun t _ _ => at_block (a := 16384) (b := 1024) _ (places t).2.1 rfl rfl)
    (fun t _ _ => at_block (a := 1024) (b := 4096) (V m c main_arg1) (places t).2.2.1 rfl rfl)
    (fun t r s => (at_block (a := 16384) (b := 4096) _ (places t).2.2.2.2 rfl rfl).symm.trans
      ((congrFun ((blocks3 m c t (places t).1.2).trans (flushed3 m c t)) (px r s)).trans (by
        show out0_3 _ _ (px r s) = _
        unfold out0_3
        refine (congrFun (kept₂ (e := .bf16) (e' := .bf16) (e'' := .bf16) (k0_pay3) _ _) _).trans ?_
        exact part _ _ r s))) i j

/-- The kernel and the reference end with the same activations. -/
theorem algebraic : algebraic_UpIdeal_UpRefIdeal (hUpIdeal := Cert.UpIdeal.Gen.facts)
    (hUpRefIdeal := Cert.UpRefIdeal.Gen.facts) := by
  intro m g m' g' _ hm
  refine ⟨fun c => (dats m 0 c).arrAt 2 cfg0.N, fun c => (dats m 0 c).arrAt 3 cfg0.N, run_blocks m g, ?_⟩
  refine (θ_run Cert.UpRefIdeal.defs _ _).mono (fun r h c => ⟨(h c).1.trans ?_, (h c).2.1.trans ?_, (h c).2.2⟩) (Cert.UpRefIdeal.Value.run m' g')
  all_goals
    obtain ⟨e0, e1⟩ := hm c
    rw [e0, e1]
    refine ext2 (a := 16384) (b := 4096) fun i j => ?_
  · refine Eq.trans ?_ (array2 m c i j).symm
    exact congrArg (fun x : Ideal .f32 => FloatOps.mulf (pos x) (pos x)) (dot_nn _ _ _ i j)
  · refine Eq.trans ?_ (array3 m c i j).symm
    exact congrArg pos (dot_nn _ _ _ i j)

end Cert.UpIdeal.Sum
-- ==== Proof.MlpDown.lean ====
/-
  The down projection: the kernel's array is what is added plus the product of the activations and the weights.
-/
module

public import proofs.«01_k».proof.Proof.Tiling
public import proofs.«01_k».proof.Proof.Gen.DownIdeal.Value
public import proofs.«01_k».proof.Proof.Gen.DownRefIdeal.Run
public import proofs.«01_k».proof.Defs
public import Idealize.ShloMosaic.Lib.StableHlo.ReadAt

@[expose] public section

set_option maxRecDepth 20000

noncomputable section

namespace Cert.DownIdeal.Sum

open Idealize.ShloMosaic Idealize.ShloMosaic.TcCoe
open Cert.DownIdeal Cert.DownIdeal.Gen Cert.DownIdeal.Value Cert.Product

theorem places : ∀ t : Fin cfg0.N, (win0_0.index t 0 = t.val / 4 / 1 ∧ win0_0.index t 1 = t.val % 4)
    ∧ (win0_1.index t 0 = t.val % 4 ∧ win0_1.index t 1 = t.val / 4 % 1) ∧ (win0_2.index t 0 = t.val / 4 / 1 ∧ win0_2.index t 1 = t.val / 4 % 1)
    ∧ win0_3.index t 0 = t.val / 4 / 1 ∧ win0_3.index t 1 = t.val / 4 % 1 :=
  (by decide +kernel : ∀ t : Fin grid0.N, _)

variable (m : (ℓ : Loc nD τ sig) → Buf (Elt Ideal) ℓ) (c : Dev nD)

theorem array (i : Fin 16384) (j : Fin 1024) :
    (G3 m c : FVec Ideal S16384x1024 .f32) (px i j)
      = nn (m := 16384) (k := 4096) (n := 1024) (φ₁ := .bf16) (φ₂ := .bf16) (V m c main_v5) (V m c main_arg3) i.val j.val
        + @at2 16384 1024 .f32 (V m c main_arg1) i.val j.val := by
  have hN := N_0
  refine swept_nn (p := 1024) (w := 1024) (q := 4) (b := 1024) (u := 1) (P := 16) (φ := .f32) _
    (fun i j x => x + @at2 16384 1024 .f32 (V m c main_arg1) i j) (by decide) hN rfl rfl
    (fun t h => addf (outsAt0 m c (t - 1) (Nat.lt_of_le_of_lt (Nat.sub_le _ _) h)).2 (k0_pay1 (iblk m c 0 ⟨t, h⟩) (iblk m c 1 ⟨t, h⟩)))
    (fun t h => (outsAt0 m c t h).2) (fun t => k0_pay1 (iblk m c 0 t) (iblk m c 1 t))
    (fun t h => ?_) (fun t h h' => ?_) (fun t h => rfl)
    (fun t h r s => (at_block (a := 16384) (b := 1024) (φ := .f32) _ (places t).2.2.2 rfl rfl).symm.trans
      ((congrFun ((flushed3_eq m c t ((flush0_3 t).mpr h)).symm.trans (flushed3 m c t)) (px r s)).trans ?_))
    rfl (V m c main_v5) (V m c main_arg3) (iblk m c 0) (iblk m c 1)
    (fun t _ _ => at_block (a := 16384) (b := 4096) (φ := .bf16) (V m c main_v5) (places t).1 rfl rfl)
    (fun t _ _ => at_block (a := 4096) (b := 1024) (φ := .bf16) (V m c main_arg3) (places t).2.1 rfl rfl)
    (fun t r s => ?_) i j
  · rw [outsAt0_A m c t h (by omega) (by omega)]
    unfold sout0_A_0 kernelRun0_A
    dsimp only
    sl_unfold_words
    exact begun (e₁ := .bf16) (e₂ := .bf16) (k0_pay1 (F := Ideal)) ..
  · rw [outsAt0_B m c t h (by omega) h']
    unfold sout0_B_0 kernelRun0_B
    dsimp only
    sl_unfold_words
    exact added (e₁ := .bf16) (e₂ := .bf16) (k0_pay1 (F := Ideal)) ..
  · show (outsAt0 m c t.val t.isLt).1 (px r s) = _
    rw [outsAt0_C m c t (by omega) (by omega) h]
    unfold out0_C_3 kernelRun0_C
    dsimp only
    sl_unfold_words
    exact (congrFun ((wrote _ _ _).trans (congrArg₂ (k0_pay4 (F := Ideal)) (summed (e₁ := .bf16) (e₂ := .bf16) (k0_pay1 (F := Ideal)) ..) (loaded (Val := Elt Ideal) _ _))) _).trans
      (congrArg (_ + ·) (at_block (a := 16384) (b := 1024) (φ := .f32) (V m c main_arg1) (places t).2.2.1 rfl rfl))
  · show k0_pay1 _ _ (px r s) = _
    unfold k0_pay1
    rw [shapeCast_self]
    exact mul_nn _ _ _ r s

/-- The activations, of what is multiplied and the weights. -/
def relu (X : FVec Ideal S16384x1024 .bf16) (W : FVec Ideal S1024x4096 .bf16) : FVec Ideal S16384x4096 .f32 :=
  maximumf (Host.dotGeneral dot_S16384x1024_S1024x4096_S16384x4096_1_0_0_1_n_n none (extf .f32 X bitsLt_bf16_f32) (extf .f32 W bitsLt_bf16_f32))
    (broadcastInDim S16384x4096 ![] bcast_S_S16384x4096 (constant S_ .f32 0x00000000#32))
def act (X : FVec Ideal S16384x1024 .bf16) (W : FVec Ideal S1024x4096 .bf16) : FVec Ideal S16384x4096 .bf16 :=
  truncf .bf16 (mulf (relu X W) (relu X W)) bitsLt_bf16_f32

/-- The activations the host gives the kernel. -/
theorem V_act : V m c main_v5 = act (m ((c.tc : Thread nD τ).loc main_arg0)) (m ((c.tc : Thread nD τ).loc main_arg2)) := by
  unfold V
  after_reads_simp
  rfl

/-- The kernel and the reference end with the same result. -/
theorem algebraic : algebraic_DownIdeal_DownRefIdeal (hDownIdeal := Cert.DownIdeal.Gen.facts)
    (hDownRefIdeal := Cert.DownRefIdeal.Gen.facts) := by
  intro m g m' g' _ hm
  refine ⟨fun c => G3 m c, Value.run (F := Ideal) m g, ?_⟩
  refine (θ_run Cert.DownRefIdeal.defs _ _).mono (fun r h c => ⟨(h c).1.trans ?_, (h c).2⟩) (Cert.DownRefIdeal.Value.run (F := Ideal) m' g')
  obtain ⟨e0, e1, e2, e3⟩ := hm c
  rw [e0, e1, e2, e3]
  refine ext2 (a := 16384) (b := 1024) (φ := .f32) fun i j => ?_
  show _ = G3 m c (px i j)
  rw [array, add_comm]
  refine congrArg₂ (· + ·) ?_ ?_
  · exact (congrFun (V_main_arg1 m c).symm (px i j)).trans (at2_ix2 (φ := .f32) _ i j).symm
  · refine (dot_nn _ _ _ i j).trans ?_
    exact nn_congr (V_act m c).symm (V_main_arg3 m c).symm i.val j.val

end Cert.DownIdeal.Sum
-- ==== Proof.MlpDownDw.lean ====
/-
  The gradient of the down projection's weights: the kernel's array is the product of the activations and the output's gradient.
-/
module

public import proofs.«01_k».proof.Proof.Tiling
public import proofs.«01_k».proof.Proof.Gen.DownDwIdeal.Value
public import proofs.«01_k».proof.Proof.Gen.DownDwRefIdeal.Run
public import proofs.«01_k».proof.Defs
public import Idealize.ShloMosaic.Lib.StableHlo.ReadAt

@[expose] public section

set_option maxRecDepth 20000

noncomputable section

namespace Cert.DownDwIdeal.Sum

open Idealize.ShloMosaic Idealize.ShloMosaic.TcCoe
open Cert.DownDwIdeal Cert.DownDwIdeal.Gen Cert.DownDwIdeal.Value Cert.Product

theorem places : ∀ t : Fin cfg0.N, (win0_0.index t 0 = t.val % 16 ∧ win0_0.index t 1 = t.val / 16 / 1)
    ∧ (win0_1.index t 0 = t.val % 16 ∧ win0_1.index t 1 = t.val / 16 % 1) ∧ win0_2.index t 0 = t.val / 16 / 1 ∧ win0_2.index t 1 = t.val / 16 % 1 :=
  (by decide +kernel : ∀ t : Fin grid0.N, _)

variable (m : (ℓ : Loc nD τ sig) → Buf (Elt Ideal) ℓ) (c : Dev nD)

theorem array (i : Fin 4096) (j : Fin 1024) :
    (G2 m c : FVec Ideal S4096x1024 .f32) (px i j) = tn (m := 4096) (k := 16384) (n := 1024) (φ₁ := .bf16) (φ₂ := .bf16) (V m c main_v5) (V m c main_arg3) i.val j.val := by
  have hN := N_0
  refine swept_tn (p := 2048) (w := 1024) (q := 16) (b := 1024) (u := 1) (P := 2) (φ := .f32) _ (fun _ _ x => x) (by decide) hN rfl rfl
    (fun t h => (outsAt0 m c t h).1) (fun t h => (outsAt0 m c t h).2) (fun t => k0_pay1 (iblk m c 0 t) (iblk m c 1 t))
    (fun t h => ?_) (fun t h h' => ?_) (fun t h => ?_)
    (fun t h r s => (at_block (a := 4096) (b := 1024) (φ := .f32) _ (places t).2.2 rfl rfl).symm.trans
      (congrFun ((flushed2_eq m c t ((flush0_2 t).mpr h)).symm.trans (flushed2 m c t)) (px r s)))
    rfl (V m c main_v5) (V m c main_arg3) (iblk m c 0) (iblk m c 1)
    (fun t _ _ => at_block (a := 16384) (b := 4096) (φ := .bf16) (V m c main_v5) (places t).1 rfl rfl)
    (fun t _ _ => at_block (a := 16384) (b := 1024) (φ := .bf16) (V m c main_arg3) (places t).2.1 rfl rfl)
    (fun t r s => ?_) i j
  · rw [outsAt0_A m c t h (by omega) (by omega)]
    unfold sout0_A_0 kernelRun0_A
    dsimp only
    sl_unfold_words
    exact begun (e₁ := .bf16) (e₂ := .bf16) (k0_pay1 (F := Ideal)) ..
  · rw [outsAt0_B m c t h (by omega) h']
    unfold sout0_B_0 kernelRun0_B
    dsimp only
    sl_unfold_words
    exact added (e₁ := .bf16) (e₂ := .bf16) (k0_pay1 (F := Ideal)) ..
  · rw [outsAt0_C m c t (by omega) (by omega) h]
    unfold out0_C_2 kernelRun0_C
    dsimp only
    sl_unfold_words
    exact ended (e₁ := .bf16) (e₂ := .bf16) (k0_pay1 (F := Ideal)) ..
  · show k0_pay1 _ _ (px r s) = _
    unfold k0_pay1
    rw [shapeCast_self]
    exact mul_tn _ _ _ r s

/-- The activations, of what is multiplied and the weights. -/
def relu (X : FVec Ideal S16384x1024 .bf16) (W : FVec Ideal S1024x4096 .bf16) : FVec Ideal S16384x4096 .f32 :=
  maximumf (Host.dotGeneral dot_S16384x1024_S1024x4096_S16384x4096_1_0_0_1_n_n none (extf .f32 X bitsLt_bf16_f32) (extf .f32 W bitsLt_bf16_f32))
    (broadcastInDim S16384x4096 ![] bcast_S_S16384x4096 (constant S_ .f32 0x00000000#32))
def act (X : FVec Ideal S16384x1024 .bf16) (W : FVec Ideal S1024x4096 .bf16) : FVec Ideal S16384x4096 .bf16 :=
  truncf .bf16 (mulf (relu X W) (relu X W)) bitsLt_bf16_f32

/-- The activations the host gives the kernel. -/
theorem V_act : V m c main_v5 = act (m ((c.tc : Thread nD τ).loc main_arg0)) (m ((c.tc : Thread nD τ).loc main_arg1)) := by
  unfold V
  after_reads_simp
  rfl

/-- The kernel and the reference end with the same gradient. -/
theorem algebraic : algebraic_DownDwIdeal_DownDwRefIdeal (hDownDwIdeal := Cert.DownDwIdeal.Gen.facts)
    (hDownDwRefIdeal := Cert.DownDwRefIdeal.Gen.facts) := by
  intro m g m' g' _ hm
  refine ⟨fun c => G2 m c, Value.run (F := Ideal) m g, ?_⟩
  refine (θ_run Cert.DownDwRefIdeal.defs _ _).mono (fun r h c => ⟨(h c).1.trans ?_, (h c).2⟩) (Cert.DownDwRefIdeal.Value.run (F := Ideal) m' g')
  obtain ⟨e0, e1, e2, e3⟩ := hm c
  rw [e0, e1, e3]
  refine ext2 (a := 4096) (b := 1024) (φ := .f32) fun i j => ?_
  refine (turned_tn _ _ _ _ i j).trans ?_
  show _ = G2 m c (px i j)
  rw [array]
  exact tn_congr (V_act m c).symm (V_main_arg3 m c).symm i.val j.val

end Cert.DownDwIdeal.Sum
-- ==== Proof.MlpDownDx.lean ====
/-
  The hidden gradient: the kernel's array is the product of the output's gradient and the weights' rows, times twice the saved positive part.
-/
module

public import proofs.«01_k».proof.Proof.Tiling
public import proofs.«01_k».proof.Proof.Gen.DownDxIdeal.Value
public import proofs.«01_k».proof.Proof.Gen.DownDxRefIdeal.Run
public import proofs.«01_k».proof.Defs
public import Idealize.ShloMosaic.Lib.StableHlo.ReadAt
public import Idealize.ShloMosaic.Lib.IdealHost

@[expose] public section

set_option maxRecDepth 20000

noncomputable section

namespace Cert.DownDxIdeal.Sum

open Idealize.ShloMosaic Idealize.ShloMosaic.TcCoe
open Cert.DownDxIdeal Cert.DownDxIdeal.Gen Cert.DownDxIdeal.Value Cert.Product

/-! ### The two ways of writing the square's derivative -/

theorem ofBits_two : Ideal.ofBits .f32 0x40000000#32 = 2 := by
  rw [show (2 : EReal) = ((2 : ℝ) : EReal) by norm_cast]
  simp [Ideal.ofBits, Ideal.ieee, -EReal.coe_mul]; norm_num

/-- The positive part, as the program writes it. -/
def pos (x : Ideal .f32) : Ideal .f32 := FloatOps.maximumf x (Scalar.ofBits .f32 0x00000000#32)

/-- What the kernel makes of one entry of the product and the saved positive part. -/
def doubled (g r : Ideal .f32) : Ideal .f32 := FloatOps.mulf g (FloatOps.mulf (Scalar.ofBits .f32 0x40000000#32) r)

/-- Where the product is positive the two terms of the square's derivative are twice one of them; elsewhere both ways give zero. -/
theorem derivative (u g : Ideal .f32) :
    Scalar.select (FloatOps.cmpf .ogt u (Scalar.ofBits .f32 0x00000000#32)) (FloatOps.addf (FloatOps.mulf (pos u) g) (FloatOps.mulf g (pos u)))
      (Scalar.ofBits .f32 0x00000000#32) = doubled g (pos u) := by
  have hz : (Scalar.ofBits .f32 0x00000000#32 : Ideal .f32) = (0 : EReal) := Ideal.ofBits_zero_f32
  have h2 : (Scalar.ofBits .f32 0x40000000#32 : Ideal .f32) = (2 : EReal) := ofBits_two
  unfold doubled pos
  rw [hz, h2]
  show Scalar.select (Ideal.cmp .ogt u 0) ((max u 0 * g + g * max u 0 : EReal)) 0 = (g * (2 * max u 0) : EReal)
  have hr : (0 : EReal) ≤ max u 0 := le_max_right _ _
  have ht : (2 : EReal) * max u 0 = max u 0 + max u 0 := by
    rw [show (2 : EReal) = 1 + 1 by norm_num, EReal.right_distrib_of_nonneg zero_le_one zero_le_one, one_mul]
  by_cases h : (0 : EReal) < u
  · rw [ht, EReal.left_distrib_of_nonneg hr hr, mul_comm (max u 0) g]
    simp [Scalar.select, Ideal.cmp, h]
  · rw [max_eq_right (not_lt.mp h), mul_zero, mul_zero]
    simp [Scalar.select, Ideal.cmp, h]

/-! ### The array -/

theorem places : ∀ t : Fin cfg0.N, (cfg0.win 3).flush t = true ∧ (win0_0.index t 0 = t.val / 4 ∧ win0_0.index t 1 = 0)
    ∧ (win0_1.index t 0 = t.val % 4 ∧ win0_1.index t 1 = 0) ∧ (win0_2.index t 0 = t.val / 4 ∧ win0_2.index t 1 = t.val % 4)
    ∧ win0_3.index t 0 = t.val / 4 ∧ win0_3.index t 1 = t.val % 4 :=
  (by decide +kernel : ∀ t : Fin grid0.N, _)

variable (m : (ℓ : Loc nD τ sig) → Buf (Elt Ideal) ℓ) (c : Dev nD)

theorem array (i : Fin 16384) (j : Fin 4096) :
    ((dats m 0 c).arrAt 3 cfg0.N : FVec Ideal S16384x4096 .bf16) (px i j)
      = doubled (nt (m := 16384) (k := 1024) (n := 4096) (φ₁ := .bf16) (φ₂ := .bf16) (V m c main_arg3) (V m c main_arg2) i.val j.val)
        (@at2 16384 4096 .bf16 (V m c main_v4) i.val j.val) :=
  tiles_nt (p := 2048) (q := 1024) (u := 4) (P := 8) (φ := .bf16) _ (fun i j x => doubled x (@at2 16384 4096 .bf16 (V m c main_v4) i j))
    N_0 rfl rfl (V m c main_arg3) (V m c main_arg2) (iblk m c 0) (iblk m c 1)
    (fun t _ _ => at_block (a := 16384) (b := 1024) (φ := .bf16) _ (places t).2.1 rfl rfl)
    (fun t _ _ => at_block (a := 4096) (b := 1024) (φ := .bf16) (V m c main_arg2) (places t).2.2.1 rfl rfl)
    (fun t r s => (at_block (a := 16384) (b := 4096) (φ := .bf16) _ (places t).2.2.2.2 rfl rfl).symm.trans
      ((congrFun ((blocks3 m c t (places t).1).trans (flushed3 m c t)) (px r s)).trans (by
        show out0_3 _ _ _ (px r s) = _
        unfold out0_3
        refine (congrFun (kept₃ (e := .bf16) (e' := .bf16) (e'' := .bf16) (e₃ := .bf16) (k0_pay1 (F := Ideal)) _ _ _) _).trans ?_
        unfold k0_pay1
        rw [shapeCast_self]
        exact congrArg₂ doubled (mul_nt _ _ _ r s) (at_block (a := 16384) (b := 4096) (φ := .bf16) (V m c main_v4) (places t).2.2.2.1 rfl rfl)))) i j

/-- The product, of what is projected and the weights, and its positive part. -/
def up (X : FVec Ideal S16384x1024 .bf16) (W : FVec Ideal S1024x4096 .bf16) : FVec Ideal S16384x4096 .f32 :=
  Host.dotGeneral dot_S16384x1024_S1024x4096_S16384x4096_1_0_0_1_n_n none (extf .f32 X bitsLt_bf16_f32) (extf .f32 W bitsLt_bf16_f32)
def saved (U : FVec Ideal S16384x4096 .f32) : FVec Ideal S16384x4096 .bf16 :=
  truncf .bf16 (maximumf U (broadcastInDim S16384x4096 ![] bcast_S_S16384x4096 (constant S_ .f32 0x00000000#32))) bitsLt_bf16_f32

/-- The positive part the host gives the kernel. -/
theorem V_saved : V m c main_v4 = saved (up (m ((c.tc : Thread nD τ).loc main_arg0)) (m ((c.tc : Thread nD τ).loc main_arg1))) := by
  unfold V
  after_reads_simp
  rfl

/-- The kernel and the reference end with the same gradient. -/
theorem algebraic : algebraic_DownDxIdeal_DownDxRefIdeal (hDownDxIdeal := Cert.DownDxIdeal.Gen.facts)
    (hDownDxRefIdeal := Cert.DownDxRefIdeal.Gen.facts) := by
  intro m g m' g' _ hm
  refine ⟨fun c => (dats m 0 c).arrAt 3 cfg0.N, run_blocks (F := Ideal) m g, ?_⟩
  refine (θ_run Cert.DownDxRefIdeal.defs _ _).mono (fun r h c => ⟨(h c).1.trans ?_, (h c).2⟩) (Cert.DownDxRefIdeal.Value.run (F := Ideal) m' g')
  obtain ⟨e0, e1, e2, e3⟩ := hm c
  rw [e0, e1, e2, e3]
  refine ext2 (a := 16384) (b := 4096) (φ := .bf16) fun i j => ?_
  refine Eq.trans ?_ (array m c i j).symm
  have hs : @at2 16384 4096 .bf16 (V m c main_v4) i.val j.val
      = pos (up (m ((c.tc : Thread nD τ).loc main_arg0)) (m ((c.tc : Thread nD τ).loc main_arg1)) (px i j)) :=
    (at2_ix2 (φ := .bf16) _ i j).trans (congrFun (V_saved m c) (px i j))
  rw [hs]
  refine (derivative (up (m ((c.tc : Thread nD τ).loc main_arg0)) (m ((c.tc : Thread nD τ).loc main_arg1)) (px i j)) _).trans ?_
  refine congrArg (doubled · _) ((dot_nt _ _ _ i j).trans ?_)
  exact nt_congr (V_main_arg3 m c).symm (V_main_arg2 m c).symm i.val j.val

end Cert.DownDxIdeal.Sum
-- ==== Proof.MlpUpDw.lean ====
/-
  The gradient of the up projection's weights: the kernel's array is the product of what is projected and the hidden gradient.
-/
module

public import proofs.«01_k».proof.Proof.Tiling
public import proofs.«01_k».proof.Proof.Gen.UpDwIdeal.Value
public import proofs.«01_k».proof.Proof.Gen.UpDwRefIdeal.Run
public import proofs.«01_k».proof.Defs
public import Idealize.ShloMosaic.Lib.StableHlo.ReadAt

@[expose] public section

set_option maxRecDepth 20000

noncomputable section

namespace Cert.UpDwIdeal.Sum

open Idealize.ShloMosaic Idealize.ShloMosaic.TcCoe
open Cert.UpDwIdeal Cert.UpDwIdeal.Gen Cert.UpDwIdeal.Value Cert.Product

theorem places : ∀ t : Fin cfg0.N, (win0_0.index t 0 = t.val % 16 ∧ win0_0.index t 1 = t.val / 16 / 4)
    ∧ (win0_1.index t 0 = t.val % 16 ∧ win0_1.index t 1 = t.val / 16 % 4) ∧ win0_2.index t 0 = t.val / 16 / 4 ∧ win0_2.index t 1 = t.val / 16 % 4 :=
  (by decide +kernel : ∀ t : Fin grid0.N, _)

variable (m : (ℓ : Loc nD τ sig) → Buf (Elt Ideal) ℓ) (c : Dev nD)

theorem array (i : Fin 1024) (j : Fin 4096) :
    (G2 m c : FVec Ideal S1024x4096 .f32) (px i j) = tn (m := 1024) (k := 16384) (n := 4096) (φ₁ := .bf16) (φ₂ := .bf16) (V m c main_arg0) (V m c main_v17) i.val j.val := by
  have hN := N_0
  refine swept_tn (p := 1024) (w := 1024) (q := 16) (b := 1024) (u := 4) (P := 1) (φ := .f32) _ (fun _ _ x => x) (by decide) hN rfl rfl
    (fun t h => (outsAt0 m c t h).1) (fun t h => (outsAt0 m c t h).2) (fun t => k0_pay1 (iblk m c 0 t) (iblk m c 1 t))
    (fun t h => ?_) (fun t h h' => ?_) (fun t h => ?_)
    (fun t h r s => (at_block (a := 1024) (b := 4096) (φ := .f32) _ (places t).2.2 rfl rfl).symm.trans
      (congrFun ((flushed2_eq m c t ((flush0_2 t).mpr h)).symm.trans (flushed2 m c t)) (px r s)))
    rfl (V m c main_arg0) (V m c main_v17) (iblk m c 0) (iblk m c 1)
    (fun t _ _ => at_block (a := 16384) (b := 1024) (φ := .bf16) (V m c main_arg0) (places t).1 rfl rfl)
    (fun t _ _ => at_block (a := 16384) (b := 4096) (φ := .bf16) (V m c main_v17) (places t).2.1 rfl rfl)
    (fun t r s => ?_) i j
  · rw [outsAt0_A m c t h (by omega) (by omega)]
    unfold sout0_A_0 kernelRun0_A
    dsimp only
    sl_unfold_words
    exact begun (e₁ := .bf16) (e₂ := .bf16) (k0_pay1 (F := Ideal)) ..
  · rw [outsAt0_B m c t h (by omega) h']
    unfold sout0_B_0 kernelRun0_B
    dsimp only
    sl_unfold_words
    exact added (e₁ := .bf16) (e₂ := .bf16) (k0_pay1 (F := Ideal)) ..
  · rw [outsAt0_C m c t (by omega) (by omega) h]
    unfold out0_C_2 kernelRun0_C
    dsimp only
    sl_unfold_words
    exact ended (e₁ := .bf16) (e₂ := .bf16) (k0_pay1 (F := Ideal)) ..
  · show k0_pay1 _ _ (px r s) = _
    unfold k0_pay1
    rw [shapeCast_self]
    exact mul_tn _ _ _ r s

/-- The hidden gradient, of what was projected, the two weights and the output's gradient. -/
def up (X : FVec Ideal S16384x1024 .bf16) (W : FVec Ideal S1024x4096 .bf16) : FVec Ideal S16384x4096 .f32 :=
  Host.dotGeneral dot_S16384x1024_S1024x4096_S16384x4096_1_0_0_1_n_n none (extf .f32 X bitsLt_bf16_f32) (extf .f32 W bitsLt_bf16_f32)
def nought : FVec Ideal S16384x4096 .f32 := broadcastInDim S16384x4096 ![] bcast_S_S16384x4096 (constant S_ .f32 0x00000000#32)
def back (D : FVec Ideal S16384x1024 .bf16) (W : FVec Ideal S4096x1024 .bf16) : FVec Ideal S16384x4096 .f32 :=
  Host.dotGeneral dot_S16384x1024_S4096x1024_S16384x4096_1_1_0_0_n_n none (extf .f32 D bitsLt_bf16_f32) (extf .f32 W bitsLt_bf16_f32)
def hidden (U G : FVec Ideal S16384x4096 .f32) : FVec Ideal S16384x4096 .bf16 :=
  truncf .bf16 (select (cmpf .ogt U nought) (addf (mulf (maximumf U nought) G) (mulf G (maximumf U nought))) nought) bitsLt_bf16_f32

/-- The hidden gradient the host gives the kernel. -/
theorem V_hidden : V m c main_v17 = hidden (up (m ((c.tc : Thread nD τ).loc main_arg0)) (m ((c.tc : Thread nD τ).loc main_arg1)))
    (back (m ((c.tc : Thread nD τ).loc main_arg3)) (m ((c.tc : Thread nD τ).loc main_arg2))) := by
  unfold V
  after_reads_simp
  rfl

/-- The kernel and the reference end with the same gradient. -/
theorem algebraic : algebraic_UpDwIdeal_UpDwRefIdeal (hUpDwIdeal := Cert.UpDwIdeal.Gen.facts)
    (hUpDwRefIdeal := Cert.UpDwRefIdeal.Gen.facts) := by
  intro m g m' g' _ hm
  refine ⟨fun c => G2 m c, Value.run (F := Ideal) m g, ?_⟩
  refine (θ_run Cert.UpDwRefIdeal.defs _ _).mono (fun r h c => ⟨(h c).1.trans ?_, (h c).2⟩) (Cert.UpDwRefIdeal.Value.run (F := Ideal) m' g')
  obtain ⟨e0, e1, e2, e3⟩ := hm c
  rw [e0, e1, e2, e3]
  refine ext2 (a := 1024) (b := 4096) (φ := .f32) fun i j => ?_
  refine (turned_tn _ _ _ _ i j).trans ?_
  show _ = G2 m c (px i j)
  rw [array]
  exact tn_congr (V_main_arg0 m c).symm (V_hidden m c).symm i.val j.val

end Cert.UpDwIdeal.Sum
-- ==== Proof.MlpUpDx.lean ====
/-
  The gradient of what the up projection takes: the kernel's array is the product of the hidden gradient and the weights' rows.
-/
module

public import proofs.«01_k».proof.Proof.Tiling
public import proofs.«01_k».proof.Proof.Gen.UpDxIdeal.Value
public import proofs.«01_k».proof.Proof.Gen.UpDxRefIdeal.Run
public import proofs.«01_k».proof.Defs
public import Idealize.ShloMosaic.Lib.StableHlo.ReadAt

@[expose] public section

set_option maxRecDepth 20000

noncomputable section

namespace Cert.UpDxIdeal.Sum

open Idealize.ShloMosaic Idealize.ShloMosaic.TcCoe
open Cert.UpDxIdeal Cert.UpDxIdeal.Gen Cert.UpDxIdeal.Value Cert.Product

theorem places : ∀ t : Fin cfg0.N, (win0_0.index t 0 = t.val / 4 / 1 ∧ win0_0.index t 1 = t.val % 4)
    ∧ (win0_1.index t 0 = t.val / 4 % 1 ∧ win0_1.index t 1 = t.val % 4) ∧ win0_2.index t 0 = t.val / 4 / 1 ∧ win0_2.index t 1 = t.val / 4 % 1 :=
  (by decide +kernel : ∀ t : Fin grid0.N, _)

variable (m : (ℓ : Loc nD τ sig) → Buf (Elt Ideal) ℓ) (c : Dev nD)

theorem array (i : Fin 16384) (j : Fin 1024) :
    (G2 m c : FVec Ideal S16384x1024 .f32) (px i j) = nt (m := 16384) (k := 4096) (n := 1024) (φ₁ := .bf16) (φ₂ := .bf16) (V m c main_v17) (V m c main_arg1) i.val j.val := by
  have hN := N_0
  refine swept_nt (p := 2048) (w := 1024) (q := 4) (b := 1024) (u := 1) (P := 8) (φ := .f32) _ (fun _ _ x => x) (by decide) hN rfl rfl
    (fun t h => (outsAt0 m c t h).1) (fun t h => (outsAt0 m c t h).2) (fun t => k0_pay1 (iblk m c 0 t) (iblk m c 1 t))
    (fun t h => ?_) (fun t h h' => ?_) (fun t h => ?_)
    (fun t h r s => (at_block (a := 16384) (b := 1024) (φ := .f32) _ (places t).2.2 rfl rfl).symm.trans
      (congrFun ((flushed2_eq m c t ((flush0_2 t).mpr h)).symm.trans (flushed2 m c t)) (px r s)))
    rfl (V m c main_v17) (V m c main_arg1) (iblk m c 0) (iblk m c 1)
    (fun t _ _ => at_block (a := 16384) (b := 4096) (φ := .bf16) (V m c main_v17) (places t).1 rfl rfl)
    (fun t _ _ => at_block (a := 1024) (b := 4096) (φ := .bf16) (V m c main_arg1) (places t).2.1 rfl rfl)
    (fun t r s => ?_) i j
  · rw [outsAt0_A m c t h (by omega) (by omega)]
    unfold sout0_A_0 kernelRun0_A
    dsimp only
    sl_unfold_words
    exact begun (e₁ := .bf16) (e₂ := .bf16) (k0_pay1 (F := Ideal)) ..
  · rw [outsAt0_B m c t h (by omega) h']
    unfold sout0_B_0 kernelRun0_B
    dsimp only
    sl_unfold_words
    exact added (e₁ := .bf16) (e₂ := .bf16) (k0_pay1 (F := Ideal)) ..
  · rw [outsAt0_C m c t (by omega) (by omega) h]
    unfold out0_C_2 kernelRun0_C
    dsimp only
    sl_unfold_words
    exact ended (e₁ := .bf16) (e₂ := .bf16) (k0_pay1 (F := Ideal)) ..
  · show k0_pay1 _ _ (px r s) = _
    unfold k0_pay1
    rw [shapeCast_self]
    exact mul_nt _ _ _ r s

/-- The hidden gradient, of what was projected, the two weights and the output's gradient. -/
def up (X : FVec Ideal S16384x1024 .bf16) (W : FVec Ideal S1024x4096 .bf16) : FVec Ideal S16384x4096 .f32 :=
  Host.dotGeneral dot_S16384x1024_S1024x4096_S16384x4096_1_0_0_1_n_n none (extf .f32 X bitsLt_bf16_f32) (extf .f32 W bitsLt_bf16_f32)
def nought : FVec Ideal S16384x4096 .f32 := broadcastInDim S16384x4096 ![] bcast_S_S16384x4096 (constant S_ .f32 0x00000000#32)
def back (D : FVec Ideal S16384x1024 .bf16) (W : FVec Ideal S4096x1024 .bf16) : FVec Ideal S16384x4096 .f32 :=
  Host.dotGeneral dot_S16384x1024_S4096x1024_S16384x4096_1_1_0_0_n_n none (extf .f32 D bitsLt_bf16_f32) (extf .f32 W bitsLt_bf16_f32)
def hidden (U G : FVec Ideal S16384x4096 .f32) : FVec Ideal S16384x4096 .bf16 :=
  truncf .bf16 (select (cmpf .ogt U nought) (addf (mulf (maximumf U nought) G) (mulf G (maximumf U nought))) nought) bitsLt_bf16_f32

/-- The hidden gradient the host gives the kernel. -/
theorem V_hidden : V m c main_v17 = hidden (up (m ((c.tc : Thread nD τ).loc main_arg0)) (m ((c.tc : Thread nD τ).loc main_arg1)))
    (back (m ((c.tc : Thread nD τ).loc main_arg3)) (m ((c.tc : Thread nD τ).loc main_arg2))) := by
  unfold V
  after_reads_simp
  rfl

/-- The kernel and the reference end with the same gradient. -/
theorem algebraic : algebraic_UpDxIdeal_UpDxRefIdeal (hUpDxIdeal := Cert.UpDxIdeal.Gen.facts)
    (hUpDxRefIdeal := Cert.UpDxRefIdeal.Gen.facts) := by
  intro m g m' g' _ hm
  refine ⟨fun c => G2 m c, Value.run (F := Ideal) m g, ?_⟩
  refine (θ_run Cert.UpDxRefIdeal.defs _ _).mono (fun r h c => ⟨(h c).1.trans ?_, (h c).2⟩) (Cert.UpDxRefIdeal.Value.run (F := Ideal) m' g')
  obtain ⟨e0, e1, e2, e3⟩ := hm c
  rw [e0, e1, e2, e3]
  refine ext2 (a := 16384) (b := 1024) (φ := .f32) fun i j => ?_
  refine (dot_nt _ _ _ i j).trans ?_
  show _ = G2 m c (px i j)
  rw [array]
  exact nt_congr (V_hidden m c).symm (V_main_arg1 m c).symm i.val j.val

end Cert.UpDxIdeal.Sum
-- ==== Proof.ProjForward.lean ====
/-
  The projections into the attentions and out of their latents: the kernel's array is the product.
-/
module

public import proofs.«01_k».proof.Proof.Tiling
public import proofs.«01_k».proof.Proof.Gen.InIdeal.Value
public import proofs.«01_k».proof.Proof.Gen.InRefIdeal.Run
public import proofs.«01_k».proof.Proof.Gen.LatIdeal.Value
public import proofs.«01_k».proof.Proof.Gen.LatRefIdeal.Run
public import proofs.«01_k».proof.Proof.Gen.UqIdeal.Value
public import proofs.«01_k».proof.Proof.Gen.UqRefIdeal.Run
public import proofs.«01_k».proof.Proof.Gen.UkvIdeal.Value
public import proofs.«01_k».proof.Proof.Gen.UkvRefIdeal.Run
public import proofs.«01_k».proof.Defs

@[expose] public section

set_option maxRecDepth 20000

noncomputable section

open Idealize.ShloMosaic Idealize.ShloMosaic.TcCoe Cert.Product

/-! ### The projection into an even layer's attention -/

namespace Cert.InIdeal.Sum
open Cert.InIdeal Cert.InIdeal.Gen Cert.InIdeal.Value

theorem places : ∀ t : Fin cfg0.N, (cfg0.win 2).flush t = true ∧ (win0_0.index t 0 = t.val / 3 ∧ win0_0.index t 1 = 0)
    ∧ (win0_1.index t 0 = 0 ∧ win0_1.index t 1 = t.val % 3) ∧ win0_2.index t 0 = t.val / 3 ∧ win0_2.index t 1 = t.val % 3 :=
  (by decide +kernel : ∀ t : Fin grid0.N, _)

theorem array (m : (ℓ : Loc nD τ sig) → Buf (Elt Ideal) ℓ) (c : Dev nD) (i : Fin 16384) (j : Fin 3072) :
    ((dats m 0 c).arrAt 2 cfg0.N : FVec Ideal S16384x3072 .bf16) (px i j)
      = nn (m := 16384) (k := 1024) (n := 3072) (φ₁ := .bf16) (φ₂ := .bf16) (V m c main_arg0) (V m c main_arg1) i.val j.val :=
  tiles_nn (p := 2048) (q := 1024) (u := 3) (P := 8) (φ := .bf16) _ (fun _ _ x => x) N_0 rfl rfl (V m c main_arg0) (V m c main_arg1) (iblk m c 0) (iblk m c 1)
    (fun t _ _ => at_block (a := 16384) (b := 1024) (φ := .bf16) _ (places t).2.1 rfl rfl)
    (fun t _ _ => at_block (a := 1024) (b := 3072) (φ := .bf16) (V m c main_arg1) (places t).2.2.1 rfl rfl)
    (fun t r s => (at_block (a := 16384) (b := 3072) (φ := .bf16) _ (places t).2.2.2 rfl rfl).symm.trans
      ((congrFun ((blocks2 m c t (places t).1).trans (flushed2 m c t)) (px r s)).trans (by
        show out0_2 _ _ (px r s) = _
        unfold out0_2
        refine (congrFun (kept₂ (e := .bf16) (e' := .bf16) (e'' := .bf16) (k0_pay1 (F := Ideal)) _ _) _).trans ?_
        unfold k0_pay1
        exact mul_nn _ _ _ r s))) i j

/-- The kernel and the reference end with the same array. -/
theorem algebraic : algebraic_InIdeal_InRefIdeal (hInIdeal := Cert.InIdeal.Gen.facts) (hInRefIdeal := Cert.InRefIdeal.Gen.facts) := by
  intro m g m' g' _ hm
  refine ⟨fun c => (dats m 0 c).arrAt 2 cfg0.N, run_blocks (F := Ideal) m g, ?_⟩
  refine (θ_run Cert.InRefIdeal.defs _ _).mono (fun r h c => ⟨(h c).1.trans ?_, (h c).2⟩) (Cert.InRefIdeal.Value.run (F := Ideal) m' g')
  obtain ⟨e0, e1⟩ := hm c
  rw [e0, e1]
  exact ext2 (a := 16384) (b := 3072) (φ := .bf16) fun i j => (dot_nn _ _ _ i j).trans (array m c i j).symm

end Cert.InIdeal.Sum

/-! ### The projection to the latent queries, keys and values -/

namespace Cert.LatIdeal.Sum
open Cert.LatIdeal Cert.LatIdeal.Gen Cert.LatIdeal.Value

theorem places : ∀ t : Fin cfg0.N, (cfg0.win 2).flush t = true ∧ (win0_0.index t 0 = t.val / 1 ∧ win0_0.index t 1 = 0)
    ∧ (win0_1.index t 0 = 0 ∧ win0_1.index t 1 = t.val % 1) ∧ win0_2.index t 0 = t.val / 1 ∧ win0_2.index t 1 = t.val % 1 :=
  (by decide +kernel : ∀ t : Fin grid0.N, _)

theorem array (m : (ℓ : Loc nD τ sig) → Buf (Elt Ideal) ℓ) (c : Dev nD) (i : Fin 16384) (j : Fin 672) :
    ((dats m 0 c).arrAt 2 cfg0.N : FVec Ideal S16384x672 .f32) (px i j)
      = nn (m := 16384) (k := 1024) (n := 672) (φ₁ := .bf16) (φ₂ := .bf16) (V m c main_arg0) (V m c main_arg1) i.val j.val :=
  tiles_nn (p := 2048) (q := 672) (u := 1) (P := 8) (φ := .f32) _ (fun _ _ x => x) N_0 rfl rfl (V m c main_arg0) (V m c main_arg1) (iblk m c 0) (iblk m c 1)
    (fun t _ _ => at_block (a := 16384) (b := 1024) (φ := .bf16) _ (places t).2.1 rfl rfl)
    (fun t _ _ => at_block (a := 1024) (b := 672) (φ := .bf16) (V m c main_arg1) (places t).2.2.1 rfl rfl)
    (fun t r s => (at_block (a := 16384) (b := 672) (φ := .f32) _ (places t).2.2.2 rfl rfl).symm.trans
      ((congrFun ((blocks2 m c t (places t).1).trans (flushed2 m c t)) (px r s)).trans (by
        show out0_2 _ _ (px r s) = _
        unfold out0_2
        refine (congrFun (kept₂ (e := .f32) (e' := .bf16) (e'' := .bf16) (k0_pay1 (F := Ideal)) _ _) _).trans ?_
        unfold k0_pay1
        exact mul_nn _ _ _ r s))) i j

/-- The kernel and the reference end with the same array. -/
theorem algebraic : algebraic_LatIdeal_LatRefIdeal (hLatIdeal := Cert.LatIdeal.Gen.facts) (hLatRefIdeal := Cert.LatRefIdeal.Gen.facts) := by
  intro m g m' g' _ hm
  refine ⟨fun c => (dats m 0 c).arrAt 2 cfg0.N, run_blocks m g, ?_⟩
  refine (θ_run Cert.LatRefIdeal.defs _ _).mono (fun r h c => ⟨(h c).1.trans ?_, (h c).2⟩) (Cert.LatRefIdeal.Value.run m' g')
  obtain ⟨e0, e1⟩ := hm c
  rw [e0, e1]
  exact ext2 (a := 16384) (b := 672) fun i j => (dot_nn _ _ _ i j).trans (array m c i j).symm

end Cert.LatIdeal.Sum

/-! ### The latent queries' projection to the heads -/

namespace Cert.UqIdeal.Sum
open Cert.UqIdeal Cert.UqIdeal.Gen Cert.UqIdeal.Value

theorem places : ∀ t : Fin cfg0.N, (cfg0.win 2).flush t = true ∧ (win0_0.index t 0 = t.val / 1 ∧ win0_0.index t 1 = 0)
    ∧ (win0_1.index t 0 = 0 ∧ win0_1.index t 1 = t.val % 1) ∧ win0_2.index t 0 = t.val / 1 ∧ win0_2.index t 1 = t.val % 1 :=
  (by decide +kernel : ∀ t : Fin grid0.N, _)

theorem array (m : (ℓ : Loc nD τ sig) → Buf (Elt Ideal) ℓ) (c : Dev nD) (i : Fin 16384) (j : Fin 768) :
    ((dats m 0 c).arrAt 2 cfg0.N : FVec Ideal S16384x768 .f32) (px i j)
      = nn (m := 16384) (k := 384) (n := 768) (φ₁ := .bf16) (φ₂ := .bf16) (V m c main_arg0) (V m c main_arg1) i.val j.val :=
  tiles_nn (p := 2048) (q := 768) (u := 1) (P := 8) (φ := .f32) _ (fun _ _ x => x) N_0 rfl rfl (V m c main_arg0) (V m c main_arg1) (iblk m c 0) (iblk m c 1)
    (fun t _ _ => at_block (a := 16384) (b := 384) (φ := .bf16) _ (places t).2.1 rfl rfl)
    (fun t _ _ => at_block (a := 384) (b := 768) (φ := .bf16) (V m c main_arg1) (places t).2.2.1 rfl rfl)
    (fun t r s => (at_block (a := 16384) (b := 768) (φ := .f32) _ (places t).2.2.2 rfl rfl).symm.trans
      ((congrFun ((blocks2 m c t (places t).1).trans (flushed2 m c t)) (px r s)).trans (by
        show out0_2 _ _ (px r s) = _
        unfold out0_2
        refine (congrFun (kept₂ (e := .f32) (e' := .bf16) (e'' := .bf16) (k0_pay1 (F := Ideal)) _ _) _).trans ?_
        unfold k0_pay1
        exact mul_nn _ _ _ r s))) i j

/-- The kernel and the reference end with the same array. -/
theorem algebraic : algebraic_UqIdeal_UqRefIdeal (hUqIdeal := Cert.UqIdeal.Gen.facts) (hUqRefIdeal := Cert.UqRefIdeal.Gen.facts) := by
  intro m g m' g' _ hm
  refine ⟨fun c => (dats m 0 c).arrAt 2 cfg0.N, run_blocks m g, ?_⟩
  refine (θ_run Cert.UqRefIdeal.defs _ _).mono (fun r h c => ⟨(h c).1.trans ?_, (h c).2⟩) (Cert.UqRefIdeal.Value.run m' g')
  obtain ⟨e0, e1⟩ := hm c
  rw [e0, e1]
  exact ext2 (a := 16384) (b := 768) fun i j => (dot_nn _ _ _ i j).trans (array m c i j).symm

end Cert.UqIdeal.Sum

/-! ### The latent keys' and values' projection to the heads -/

namespace Cert.UkvIdeal.Sum
open Cert.UkvIdeal Cert.UkvIdeal.Gen Cert.UkvIdeal.Value

theorem places : ∀ t : Fin cfg0.N, (cfg0.win 2).flush t = true ∧ (win0_0.index t 0 = t.val / 1 ∧ win0_0.index t 1 = 0)
    ∧ (win0_1.index t 0 = 0 ∧ win0_1.index t 1 = t.val % 1) ∧ win0_2.index t 0 = t.val / 1 ∧ win0_2.index t 1 = t.val % 1 :=
  (by decide +kernel : ∀ t : Fin grid0.N, _)

theorem array (m : (ℓ : Loc nD τ sig) → Buf (Elt Ideal) ℓ) (c : Dev nD) (i : Fin 16384) (j : Fin 1024) :
    ((dats m 0 c).arrAt 2 cfg0.N : FVec Ideal S16384x1024 .bf16) (px i j)
      = nn (m := 16384) (k := 256) (n := 1024) (φ₁ := .bf16) (φ₂ := .bf16) (V m c main_arg0) (V m c main_arg1) i.val j.val :=
  tiles_nn (p := 2048) (q := 1024) (u := 1) (P := 8) (φ := .bf16) _ (fun _ _ x => x) N_0 rfl rfl (V m c main_arg0) (V m c main_arg1) (iblk m c 0) (iblk m c 1)
    (fun t _ _ => at_block (a := 16384) (b := 256) (φ := .bf16) _ (places t).2.1 rfl rfl)
    (fun t _ _ => at_block (a := 256) (b := 1024) (φ := .bf16) (V m c main_arg1) (places t).2.2.1 rfl rfl)
    (fun t r s => (at_block (a := 16384) (b := 1024) (φ := .bf16) _ (places t).2.2.2 rfl rfl).symm.trans
      ((congrFun ((blocks2 m c t (places t).1).trans (flushed2 m c t)) (px r s)).trans (by
        show out0_2 _ _ (px r s) = _
        unfold out0_2
        refine (congrFun (kept₂ (e := .bf16) (e' := .bf16) (e'' := .bf16) (k0_pay1 (F := Ideal)) _ _) _).trans ?_
        unfold k0_pay1
        exact mul_nn _ _ _ r s))) i j

/-- The kernel and the reference end with the same array. -/
theorem algebraic : algebraic_UkvIdeal_UkvRefIdeal (hUkvIdeal := Cert.UkvIdeal.Gen.facts) (hUkvRefIdeal := Cert.UkvRefIdeal.Gen.facts) := by
  intro m g m' g' _ hm
  refine ⟨fun c => (dats m 0 c).arrAt 2 cfg0.N, run_blocks (F := Ideal) m g, ?_⟩
  refine (θ_run Cert.UkvRefIdeal.defs _ _).mono (fun r h c => ⟨(h c).1.trans ?_, (h c).2⟩) (Cert.UkvRefIdeal.Value.run (F := Ideal) m' g')
  obtain ⟨e0, e1⟩ := hm c
  rw [e0, e1]
  exact ext2 (a := 16384) (b := 1024) (φ := .bf16) fun i j => (dot_nn _ _ _ i j).trans (array m c i j).symm

end Cert.UkvIdeal.Sum
-- ==== Proof.ProjAdded.lean ====
/-
  The projections out of the attentions: the kernel's array is the product with the residual added.
-/
module

public import proofs.«01_k».proof.Proof.Tiling
public import proofs.«01_k».proof.Proof.Gen.OutIdeal.Value
public import proofs.«01_k».proof.Proof.Gen.OutRefIdeal.Run
public import proofs.«01_k».proof.Proof.Gen.OIdeal.Value
public import proofs.«01_k».proof.Proof.Gen.ORefIdeal.Run
public import proofs.«01_k».proof.Defs

@[expose] public section

set_option maxRecDepth 20000

noncomputable section

open Idealize.ShloMosaic Idealize.ShloMosaic.TcCoe Cert.Product

/-! ### The projection out of an even layer's attention -/

namespace Cert.OutIdeal.Sum
open Cert.OutIdeal Cert.OutIdeal.Gen Cert.OutIdeal.Value

theorem places : ∀ t : Fin cfg0.N, (cfg0.win 3).flush t = true ∧ (win0_0.index t 0 = t.val / 1 ∧ win0_0.index t 1 = 0)
    ∧ (win0_1.index t 0 = 0 ∧ win0_1.index t 1 = t.val % 1) ∧ (win0_2.index t 0 = t.val / 1 ∧ win0_2.index t 1 = t.val % 1)
    ∧ win0_3.index t 0 = t.val / 1 ∧ win0_3.index t 1 = t.val % 1 :=
  (by decide +kernel : ∀ t : Fin grid0.N, _)

theorem array (m : (ℓ : Loc nD τ sig) → Buf (Elt Ideal) ℓ) (c : Dev nD) (i : Fin 16384) (j : Fin 1024) :
    ((dats m 0 c).arrAt 3 cfg0.N : FVec Ideal S16384x1024 .f32) (px i j)
      = @at2 16384 1024 .f32 (V m c main_arg0) i.val j.val
        + nn (m := 16384) (k := 768) (n := 1024) (φ₁ := .bf16) (φ₂ := .bf16) (V m c main_arg1) (V m c main_arg2) i.val j.val :=
  tiles_nn (p := 1024) (q := 1024) (u := 1) (P := 16) (φ := .f32) _ (fun i j x => @at2 16384 1024 .f32 (V m c main_arg0) i j + x)
    N_0 rfl rfl (V m c main_arg1) (V m c main_arg2) (iblk m c 0) (iblk m c 1)
    (fun t _ _ => at_block (a := 16384) (b := 768) (φ := .bf16) _ (places t).2.1 rfl rfl)
    (fun t _ _ => at_block (a := 768) (b := 1024) (φ := .bf16) (V m c main_arg2) (places t).2.2.1 rfl rfl)
    (fun t r s => (at_block (a := 16384) (b := 1024) (φ := .f32) _ (places t).2.2.2.2 rfl rfl).symm.trans
      ((congrFun ((blocks3 m c t (places t).1).trans (flushed3 m c t)) (px r s)).trans (by
        show out0_3 _ _ _ (px r s) = _
        unfold out0_3
        refine (congrFun (kept₃ (e := .f32) (e' := .bf16) (e'' := .bf16) (e₃ := .f32) (k0_pay1 (F := Ideal)) _ _ _) _).trans ?_
        unfold k0_pay1
        exact (add_comm _ _).trans (congrArg₂ (· + ·) (at_block (a := 16384) (b := 1024) (φ := .f32) (V m c main_arg0) (places t).2.2.2.1 rfl rfl) (mul_nn _ _ _ r s))))) i j

/-- The kernel and the reference end with the same array. -/
theorem algebraic : algebraic_OutIdeal_OutRefIdeal (hOutIdeal := Cert.OutIdeal.Gen.facts) (hOutRefIdeal := Cert.OutRefIdeal.Gen.facts) := by
  intro m g m' g' _ hm
  refine ⟨fun c => (dats m 0 c).arrAt 3 cfg0.N, run_blocks (F := Ideal) m g, ?_⟩
  refine (θ_run Cert.OutRefIdeal.defs _ _).mono (fun r h c => ⟨(h c).1.trans ?_, (h c).2⟩) (Cert.OutRefIdeal.Value.run (F := Ideal) m' g')
  obtain ⟨e0, e1, e2⟩ := hm c
  rw [e0, e1, e2]
  exact ext2 (a := 16384) (b := 1024) (φ := .f32) fun i j => (congrArg₂ (· + ·) (at2_ix2 _ i j).symm (dot_nn _ _ _ i j)).trans (array m c i j).symm

end Cert.OutIdeal.Sum

/-! ### The projection out of the latent attention -/

namespace Cert.OIdeal.Sum
open Cert.OIdeal Cert.OIdeal.Gen Cert.OIdeal.Value

theorem places : ∀ t : Fin cfg0.N, (cfg0.win 3).flush t = true ∧ (win0_0.index t 0 = t.val / 1 ∧ win0_0.index t 1 = 0)
    ∧ (win0_1.index t 0 = 0 ∧ win0_1.index t 1 = t.val % 1) ∧ (win0_2.index t 0 = t.val / 1 ∧ win0_2.index t 1 = t.val % 1)
    ∧ win0_3.index t 0 = t.val / 1 ∧ win0_3.index t 1 = t.val % 1 :=
  (by decide +kernel : ∀ t : Fin grid0.N, _)

theorem array (m : (ℓ : Loc nD τ sig) → Buf (Elt Ideal) ℓ) (c : Dev nD) (i : Fin 16384) (j : Fin 1024) :
    ((dats m 0 c).arrAt 3 cfg0.N : FVec Ideal S16384x1024 .f32) (px i j)
      = @at2 16384 1024 .f32 (V m c main_arg0) i.val j.val
        + nn (m := 16384) (k := 512) (n := 1024) (φ₁ := .bf16) (φ₂ := .bf16) (V m c main_arg1) (V m c main_arg2) i.val j.val :=
  tiles_nn (p := 1024) (q := 1024) (u := 1) (P := 16) (φ := .f32) _ (fun i j x => @at2 16384 1024 .f32 (V m c main_arg0) i j + x)
    N_0 rfl rfl (V m c main_arg1) (V m c main_arg2) (iblk m c 0) (iblk m c 1)
    (fun t _ _ => at_block (a := 16384) (b := 512) (φ := .bf16) _ (places t).2.1 rfl rfl)
    (fun t _ _ => at_block (a := 512) (b := 1024) (φ := .bf16) (V m c main_arg2) (places t).2.2.1 rfl rfl)
    (fun t r s => (at_block (a := 16384) (b := 1024) (φ := .f32) _ (places t).2.2.2.2 rfl rfl).symm.trans
      ((congrFun ((blocks3 m c t (places t).1).trans (flushed3 m c t)) (px r s)).trans (by
        show out0_3 _ _ _ (px r s) = _
        unfold out0_3
        refine (congrFun (kept₃ (e := .f32) (e' := .bf16) (e'' := .bf16) (e₃ := .f32) (k0_pay1 (F := Ideal)) _ _ _) _).trans ?_
        unfold k0_pay1
        exact (add_comm _ _).trans (congrArg₂ (· + ·) (at_block (a := 16384) (b := 1024) (φ := .f32) (V m c main_arg0) (places t).2.2.2.1 rfl rfl) (mul_nn _ _ _ r s))))) i j

/-- The kernel and the reference end with the same array. -/
theorem algebraic : algebraic_OIdeal_ORefIdeal (hOIdeal := Cert.OIdeal.Gen.facts) (hORefIdeal := Cert.ORefIdeal.Gen.facts) := by
  intro m g m' g' _ hm
  refine ⟨fun c => (dats m 0 c).arrAt 3 cfg0.N, run_blocks (F := Ideal) m g, ?_⟩
  refine (θ_run Cert.ORefIdeal.defs _ _).mono (fun r h c => ⟨(h c).1.trans ?_, (h c).2⟩) (Cert.ORefIdeal.Value.run (F := Ideal) m' g')
  obtain ⟨e0, e1, e2⟩ := hm c
  rw [e0, e1, e2]
  exact ext2 (a := 16384) (b := 1024) (φ := .f32) fun i j => (congrArg₂ (· + ·) (at2_ix2 _ i j).symm (dot_nn _ _ _ i j)).trans (array m c i j).symm

end Cert.OIdeal.Sum
-- ==== Proof.ProjByInput.lean ====
/-
  The projections' backward calls by their input: the kernel's array is the product with the weights turned.
-/
module

public import proofs.«01_k».proof.Proof.Tiling
public import proofs.«01_k».proof.Proof.Gen.InDxIdeal.Value
public import proofs.«01_k».proof.Proof.Gen.InDxRefIdeal.Run
public import proofs.«01_k».proof.Proof.Gen.OutDxIdeal.Value
public import proofs.«01_k».proof.Proof.Gen.OutDxRefIdeal.Run
public import proofs.«01_k».proof.Proof.Gen.LatDxIdeal.Value
public import proofs.«01_k».proof.Proof.Gen.LatDxRefIdeal.Run
public import proofs.«01_k».proof.Proof.Gen.UqDxIdeal.Value
public import proofs.«01_k».proof.Proof.Gen.UqDxRefIdeal.Run
public import proofs.«01_k».proof.Proof.Gen.UkvDxIdeal.Value
public import proofs.«01_k».proof.Proof.Gen.UkvDxRefIdeal.Run
public import proofs.«01_k».proof.Proof.Gen.ODxIdeal.Value
public import proofs.«01_k».proof.Proof.Gen.ODxRefIdeal.Run
public import proofs.«01_k».proof.Defs

@[expose] public section

set_option maxRecDepth 20000

noncomputable section

open Idealize.ShloMosaic Idealize.ShloMosaic.TcCoe Cert.Product

/-! ### Into an even layer's attention: its product goes in three pieces -/

namespace Cert.InDxIdeal.Sum
open Cert.InDxIdeal Cert.InDxIdeal.Gen Cert.InDxIdeal.Value

theorem places : ∀ t : Fin cfg0.N, (win0_0.index t 0 = t.val / 3 / 1 ∧ win0_0.index t 1 = t.val % 3)
    ∧ (win0_1.index t 0 = t.val / 3 % 1 ∧ win0_1.index t 1 = t.val % 3) ∧ win0_2.index t 0 = t.val / 3 / 1 ∧ win0_2.index t 1 = t.val / 3 % 1 :=
  (by decide +kernel : ∀ t : Fin grid0.N, _)

theorem array (m : (ℓ : Loc nD τ sig) → Buf (Elt Ideal) ℓ) (c : Dev nD) (i : Fin 16384) (j : Fin 1024) :
    (G2 m c : FVec Ideal S16384x1024 .f32) (px i j) = nt (m := 16384) (k := 3072) (n := 1024) (φ₁ := .bf16) (φ₂ := .bf16) (V m c main_arg2) (V m c main_arg1) i.val j.val := by
  have hN := N_0
  refine swept_nt (p := 2048) (w := 1024) (q := 3) (b := 1024) (u := 1) (P := 8) (φ := .f32) _ (fun _ _ x => x) (by decide) hN rfl rfl
    (fun t h => (outsAt0 m c t h).1) (fun t h => (outsAt0 m c t h).2) (fun t => k0_pay1 (iblk m c 0 t) (iblk m c 1 t))
    (fun t h => ?_) (fun t h h' => ?_) (fun t h => ?_)
    (fun t h r s => (at_block (a := 16384) (b := 1024) (φ := .f32) _ (places t).2.2 rfl rfl).symm.trans
      (congrFun ((flushed2_eq m c t ((flush0_2 t).mpr h)).symm.trans (flushed2 m c t)) (px r s)))
    rfl (V m c main_arg2) (V m c main_arg1) (iblk m c 0) (iblk m c 1)
    (fun t _ _ => at_block (a := 16384) (b := 3072) (φ := .bf16) (V m c main_arg2) (places t).1 rfl rfl)
    (fun t _ _ => at_block (a := 1024) (b := 3072) (φ := .bf16) (V m c main_arg1) (places t).2.1 rfl rfl)
    (fun t r s => mul_nt _ _ _ r s) i j
  · rw [outsAt0_A m c t h (by omega) (by omega)]
    unfold sout0_A_0 kernelRun0_A
    dsimp only
    sl_unfold_words
    exact begun (e₁ := .bf16) (e₂ := .bf16) (k0_pay1 (F := Ideal)) ..
  · rw [outsAt0_B m c t h (by omega) h']
    unfold sout0_B_0 kernelRun0_B
    dsimp only
    sl_unfold_words
    exact added (e₁ := .bf16) (e₂ := .bf16) (k0_pay1 (F := Ideal)) ..
  · rw [outsAt0_C m c t (by omega) (by omega) h]
    unfold out0_C_2 kernelRun0_C
    dsimp only
    sl_unfold_words
    exact ended (e₁ := .bf16) (e₂ := .bf16) (k0_pay1 (F := Ideal)) ..

/-- The kernel and the reference end with the same array. -/
theorem algebraic : algebraic_InDxIdeal_InDxRefIdeal (hInDxIdeal := Cert.InDxIdeal.Gen.facts) (hInDxRefIdeal := Cert.InDxRefIdeal.Gen.facts) := by
  intro m g m' g' _ hm
  refine ⟨fun c => G2 m c, Value.run (F := Ideal) m g, ?_⟩
  refine (θ_run Cert.InDxRefIdeal.defs _ _).mono (fun r h c => ⟨(h c).1.trans ?_, (h c).2⟩) (Cert.InDxRefIdeal.Value.run (F := Ideal) m' g')
  obtain ⟨-, e1, e2⟩ := hm c
  rw [e1, e2]
  exact ext2 (a := 16384) (b := 1024) (φ := .f32) fun i j => (dot_nt _ _ _ i j).trans (array m c i j).symm

end Cert.InDxIdeal.Sum

/-! ### Out of an even layer's attention -/

namespace Cert.OutDxIdeal.Sum
open Cert.OutDxIdeal Cert.OutDxIdeal.Gen Cert.OutDxIdeal.Value

theorem places : ∀ t : Fin cfg0.N, (cfg0.win 2).flush t = true ∧ (win0_0.index t 0 = t.val / 1 ∧ win0_0.index t 1 = 0)
    ∧ (win0_1.index t 0 = t.val % 1 ∧ win0_1.index t 1 = 0) ∧ win0_2.index t 0 = t.val / 1 ∧ win0_2.index t 1 = t.val % 1 :=
  (by decide +kernel : ∀ t : Fin grid0.N, _)

theorem array (m : (ℓ : Loc nD τ sig) → Buf (Elt Ideal) ℓ) (c : Dev nD) (i : Fin 16384) (j : Fin 768) :
    ((dats m 0 c).arrAt 2 cfg0.N : FVec Ideal S16384x768 .bf16) (px i j)
      = nt (m := 16384) (k := 1024) (n := 768) (φ₁ := .bf16) (φ₂ := .bf16) (V m c main_arg2) (V m c main_arg1) i.val j.val :=
  tiles_nt (p := 2048) (q := 768) (u := 1) (P := 8) (φ := .bf16) _ (fun _ _ x => x) N_0 rfl rfl (V m c main_arg2) (V m c main_arg1) (iblk m c 0) (iblk m c 1)
    (fun t _ _ => at_block (a := 16384) (b := 1024) (φ := .bf16) _ (places t).2.1 rfl rfl)
    (fun t _ _ => at_block (a := 768) (b := 1024) (φ := .bf16) (V m c main_arg1) (places t).2.2.1 rfl rfl)
    (fun t r s => (at_block (a := 16384) (b := 768) (φ := .bf16) _ (places t).2.2.2 rfl rfl).symm.trans
      ((congrFun ((blocks2 m c t (places t).1).trans (flushed2 m c t)) (px r s)).trans (by
        show out0_2 _ _ (px r s) = _
        unfold out0_2
        refine (congrFun (kept₂ (e := .bf16) (e' := .bf16) (e'' := .bf16) (k0_pay1 (F := Ideal)) _ _) _).trans ?_
        unfold k0_pay1
        exact mul_nt _ _ _ r s))) i j

/-- The kernel and the reference end with the same array. -/
theorem algebraic : algebraic_OutDxIdeal_OutDxRefIdeal (hOutDxIdeal := Cert.OutDxIdeal.Gen.facts) (hOutDxRefIdeal := Cert.OutDxRefIdeal.Gen.facts) := by
  intro m g m' g' _ hm
  refine ⟨fun c => (dats m 0 c).arrAt 2 cfg0.N, run_blocks (F := Ideal) m g, ?_⟩
  refine (θ_run Cert.OutDxRefIdeal.defs _ _).mono (fun r h c => ⟨(h c).1.trans ?_, (h c).2⟩) (Cert.OutDxRefIdeal.Value.run (F := Ideal) m' g')
  obtain ⟨-, e1, e2⟩ := hm c
  rw [e1, e2]
  exact ext2 (a := 16384) (b := 768) (φ := .bf16) fun i j => (dot_nt _ _ _ i j).trans (array m c i j).symm

end Cert.OutDxIdeal.Sum

/-! ### To the latent queries, keys and values -/

namespace Cert.LatDxIdeal.Sum
open Cert.LatDxIdeal Cert.LatDxIdeal.Gen Cert.LatDxIdeal.Value

theorem places : ∀ t : Fin cfg0.N, (cfg0.win 2).flush t = true ∧ (win0_0.index t 0 = t.val / 1 ∧ win0_0.index t 1 = 0)
    ∧ (win0_1.index t 0 = t.val % 1 ∧ win0_1.index t 1 = 0) ∧ win0_2.index t 0 = t.val / 1 ∧ win0_2.index t 1 = t.val % 1 :=
  (by decide +kernel : ∀ t : Fin grid0.N, _)

theorem array (m : (ℓ : Loc nD τ sig) → Buf (Elt Ideal) ℓ) (c : Dev nD) (i : Fin 16384) (j : Fin 1024) :
    ((dats m 0 c).arrAt 2 cfg0.N : FVec Ideal S16384x1024 .f32) (px i j)
      = nt (m := 16384) (k := 672) (n := 1024) (φ₁ := .bf16) (φ₂ := .bf16) (V m c main_arg2) (V m c main_arg1) i.val j.val :=
  tiles_nt (p := 2048) (q := 1024) (u := 1) (P := 8) (φ := .f32) _ (fun _ _ x => x) N_0 rfl rfl (V m c main_arg2) (V m c main_arg1) (iblk m c 0) (iblk m c 1)
    (fun t _ _ => at_block (a := 16384) (b := 672) (φ := .bf16) _ (places t).2.1 rfl rfl)
    (fun t _ _ => at_block (a := 1024) (b := 672) (φ := .bf16) (V m c main_arg1) (places t).2.2.1 rfl rfl)
    (fun t r s => (at_block (a := 16384) (b := 1024) (φ := .f32) _ (places t).2.2.2 rfl rfl).symm.trans
      ((congrFun ((blocks2 m c t (places t).1).trans (flushed2 m c t)) (px r s)).trans (by
        show out0_2 _ _ (px r s) = _
        unfold out0_2
        refine (congrFun (kept₂ (e := .f32) (e' := .bf16) (e'' := .bf16) (k0_pay1 (F := Ideal)) _ _) _).trans ?_
        unfold k0_pay1
        exact mul_nt _ _ _ r s))) i j

/-- The kernel and the reference end with the same array. -/
theorem algebraic : algebraic_LatDxIdeal_LatDxRefIdeal (hLatDxIdeal := Cert.LatDxIdeal.Gen.facts) (hLatDxRefIdeal := Cert.LatDxRefIdeal.Gen.facts) := by
  intro m g m' g' _ hm
  refine ⟨fun c => (dats m 0 c).arrAt 2 cfg0.N, run_blocks m g, ?_⟩
  refine (θ_run Cert.LatDxRefIdeal.defs _ _).mono (fun r h c => ⟨(h c).1.trans ?_, (h c).2⟩) (Cert.LatDxRefIdeal.Value.run m' g')
  obtain ⟨-, e1, e2⟩ := hm c
  rw [e1, e2]
  exact ext2 (a := 16384) (b := 1024) fun i j => (dot_nt _ _ _ i j).trans (array m c i j).symm

end Cert.LatDxIdeal.Sum

/-! ### The latent queries to the heads -/

namespace Cert.UqDxIdeal.Sum
open Cert.UqDxIdeal Cert.UqDxIdeal.Gen Cert.UqDxIdeal.Value

theorem places : ∀ t : Fin cfg0.N, (cfg0.win 2).flush t = true ∧ (win0_0.index t 0 = t.val / 1 ∧ win0_0.index t 1 = 0)
    ∧ (win0_1.index t 0 = t.val % 1 ∧ win0_1.index t 1 = 0) ∧ win0_2.index t 0 = t.val / 1 ∧ win0_2.index t 1 = t.val % 1 :=
  (by decide +kernel : ∀ t : Fin grid0.N, _)

theorem array (m : (ℓ : Loc nD τ sig) → Buf (Elt Ideal) ℓ) (c : Dev nD) (i : Fin 16384) (j : Fin 384) :
    ((dats m 0 c).arrAt 2 cfg0.N : FVec Ideal S16384x384 .f32) (px i j)
      = nt (m := 16384) (k := 768) (n := 384) (φ₁ := .bf16) (φ₂ := .bf16) (V m c main_arg2) (V m c main_arg1) i.val j.val :=
  tiles_nt (p := 2048) (q := 384) (u := 1) (P := 8) (φ := .f32) _ (fun _ _ x => x) N_0 rfl rfl (V m c main_arg2) (V m c main_arg1) (iblk m c 0) (iblk m c 1)
    (fun t _ _ => at_block (a := 16384) (b := 768) (φ := .bf16) _ (places t).2.1 rfl rfl)
    (fun t _ _ => at_block (a := 384) (b := 768) (φ := .bf16) (V m c main_arg1) (places t).2.2.1 rfl rfl)
    (fun t r s => (at_block (a := 16384) (b := 384) (φ := .f32) _ (places t).2.2.2 rfl rfl).symm.trans
      ((congrFun ((blocks2 m c t (places t).1).trans (flushed2 m c t)) (px r s)).trans (by
        show out0_2 _ _ (px r s) = _
        unfold out0_2
        refine (congrFun (kept₂ (e := .f32) (e' := .bf16) (e'' := .bf16) (k0_pay1 (F := Ideal)) _ _) _).trans ?_
        unfold k0_pay1
        exact mul_nt _ _ _ r s))) i j

/-- The kernel and the reference end with the same array. -/
theorem algebraic : algebraic_UqDxIdeal_UqDxRefIdeal (hUqDxIdeal := Cert.UqDxIdeal.Gen.facts) (hUqDxRefIdeal := Cert.UqDxRefIdeal.Gen.facts) := by
  intro m g m' g' _ hm
  refine ⟨fun c => (dats m 0 c).arrAt 2 cfg0.N, run_blocks m g, ?_⟩
  refine (θ_run Cert.UqDxRefIdeal.defs _ _).mono (fun r h c => ⟨(h c).1.trans ?_, (h c).2⟩) (Cert.UqDxRefIdeal.Value.run m' g')
  obtain ⟨-, e1, e2⟩ := hm c
  rw [e1, e2]
  exact ext2 (a := 16384) (b := 384) fun i j => (dot_nt _ _ _ i j).trans (array m c i j).symm

end Cert.UqDxIdeal.Sum

/-! ### The latent keys and values to the heads -/

namespace Cert.UkvDxIdeal.Sum
open Cert.UkvDxIdeal Cert.UkvDxIdeal.Gen Cert.UkvDxIdeal.Value

theorem places : ∀ t : Fin cfg0.N, (cfg0.win 2).flush t = true ∧ (win0_0.index t 0 = t.val / 1 ∧ win0_0.index t 1 = 0)
    ∧ (win0_1.index t 0 = t.val % 1 ∧ win0_1.index t 1 = 0) ∧ win0_2.index t 0 = t.val / 1 ∧ win0_2.index t 1 = t.val % 1 :=
  (by decide +kernel : ∀ t : Fin grid0.N, _)

theorem array (m : (ℓ : Loc nD τ sig) → Buf (Elt Ideal) ℓ) (c : Dev nD) (i : Fin 16384) (j : Fin 256) :
    ((dats m 0 c).arrAt 2 cfg0.N : FVec Ideal S16384x256 .f32) (px i j)
      = nt (m := 16384) (k := 1024) (n := 256) (φ₁ := .bf16) (φ₂ := .bf16) (V m c main_arg2) (V m c main_arg1) i.val j.val :=
  tiles_nt (p := 2048) (q := 256) (u := 1) (P := 8) (φ := .f32) _ (fun _ _ x => x) N_0 rfl rfl (V m c main_arg2) (V m c main_arg1) (iblk m c 0) (iblk m c 1)
    (fun t _ _ => at_block (a := 16384) (b := 1024) (φ := .bf16) _ (places t).2.1 rfl rfl)
    (fun t _ _ => at_block (a := 256) (b := 1024) (φ := .bf16) (V m c main_arg1) (places t).2.2.1 rfl rfl)
    (fun t r s => (at_block (a := 16384) (b := 256) (φ := .f32) _ (places t).2.2.2 rfl rfl).symm.trans
      ((congrFun ((blocks2 m c t (places t).1).trans (flushed2 m c t)) (px r s)).trans (by
        show out0_2 _ _ (px r s) = _
        unfold out0_2
        refine (congrFun (kept₂ (e := .f32) (e' := .bf16) (e'' := .bf16) (k0_pay1 (F := Ideal)) _ _) _).trans ?_
        unfold k0_pay1
        exact mul_nt _ _ _ r s))) i j

/-- The kernel and the reference end with the same array. -/
theorem algebraic : algebraic_UkvDxIdeal_UkvDxRefIdeal (hUkvDxIdeal := Cert.UkvDxIdeal.Gen.facts) (hUkvDxRefIdeal := Cert.UkvDxRefIdeal.Gen.facts) := by
  intro m g m' g' _ hm
  refine ⟨fun c => (dats m 0 c).arrAt 2 cfg0.N, run_blocks m g, ?_⟩
  refine (θ_run Cert.UkvDxRefIdeal.defs _ _).mono (fun r h c => ⟨(h c).1.trans ?_, (h c).2⟩) (Cert.UkvDxRefIdeal.Value.run m' g')
  obtain ⟨-, e1, e2⟩ := hm c
  rw [e1, e2]
  exact ext2 (a := 16384) (b := 256) fun i j => (dot_nt _ _ _ i j).trans (array m c i j).symm

end Cert.UkvDxIdeal.Sum

/-! ### Out of the latent attention -/

namespace Cert.ODxIdeal.Sum
open Cert.ODxIdeal Cert.ODxIdeal.Gen Cert.ODxIdeal.Value

theorem places : ∀ t : Fin cfg0.N, (cfg0.win 2).flush t = true ∧ (win0_0.index t 0 = t.val / 1 ∧ win0_0.index t 1 = 0)
    ∧ (win0_1.index t 0 = t.val % 1 ∧ win0_1.index t 1 = 0) ∧ win0_2.index t 0 = t.val / 1 ∧ win0_2.index t 1 = t.val % 1 :=
  (by decide +kernel : ∀ t : Fin grid0.N, _)

theorem array (m : (ℓ : Loc nD τ sig) → Buf (Elt Ideal) ℓ) (c : Dev nD) (i : Fin 16384) (j : Fin 512) :
    ((dats m 0 c).arrAt 2 cfg0.N : FVec Ideal S16384x512 .bf16) (px i j)
      = nt (m := 16384) (k := 1024) (n := 512) (φ₁ := .bf16) (φ₂ := .bf16) (V m c main_arg2) (V m c main_arg1) i.val j.val :=
  tiles_nt (p := 2048) (q := 512) (u := 1) (P := 8) (φ := .bf16) _ (fun _ _ x => x) N_0 rfl rfl (V m c main_arg2) (V m c main_arg1) (iblk m c 0) (iblk m c 1)
    (fun t _ _ => at_block (a := 16384) (b := 1024) (φ := .bf16) _ (places t).2.1 rfl rfl)
    (fun t _ _ => at_block (a := 512) (b := 1024) (φ := .bf16) (V m c main_arg1) (places t).2.2.1 rfl rfl)
    (fun t r s => (at_block (a := 16384) (b := 512) (φ := .bf16) _ (places t).2.2.2 rfl rfl).symm.trans
      ((congrFun ((blocks2 m c t (places t).1).trans (flushed2 m c t)) (px r s)).trans (by
        show out0_2 _ _ (px r s) = _
        unfold out0_2
        refine (congrFun (kept₂ (e := .bf16) (e' := .bf16) (e'' := .bf16) (k0_pay1 (F := Ideal)) _ _) _).trans ?_
        unfold k0_pay1
        exact mul_nt _ _ _ r s))) i j

/-- The kernel and the reference end with the same array. -/
theorem algebraic : algebraic_ODxIdeal_ODxRefIdeal (hODxIdeal := Cert.ODxIdeal.Gen.facts) (hODxRefIdeal := Cert.ODxRefIdeal.Gen.facts) := by
  intro m g m' g' _ hm
  refine ⟨fun c => (dats m 0 c).arrAt 2 cfg0.N, run_blocks (F := Ideal) m g, ?_⟩
  refine (θ_run Cert.ODxRefIdeal.defs _ _).mono (fun r h c => ⟨(h c).1.trans ?_, (h c).2⟩) (Cert.ODxRefIdeal.Value.run (F := Ideal) m' g')
  obtain ⟨-, e1, e2⟩ := hm c
  rw [e1, e2]
  exact ext2 (a := 16384) (b := 512) (φ := .bf16) fun i j => (dot_nt _ _ _ i j).trans (array m c i j).symm

end Cert.ODxIdeal.Sum
-- ==== Proof.ProjByWeights.lean ====
/-
  The projections' backward calls by their weights: the kernel's array is the product of the turned activations and the cotangent.
-/
module

public import proofs.«01_k».proof.Proof.Tiling
public import proofs.«01_k».proof.Proof.Gen.InDwIdeal.Value
public import proofs.«01_k».proof.Proof.Gen.InDwRefIdeal.Run
public import proofs.«01_k».proof.Proof.Gen.OutDwIdeal.Value
public import proofs.«01_k».proof.Proof.Gen.OutDwRefIdeal.Run
public import proofs.«01_k».proof.Proof.Gen.LatDwIdeal.Value
public import proofs.«01_k».proof.Proof.Gen.LatDwRefIdeal.Run
public import proofs.«01_k».proof.Proof.Gen.UqDwIdeal.Value
public import proofs.«01_k».proof.Proof.Gen.UqDwRefIdeal.Run
public import proofs.«01_k».proof.Proof.Gen.UkvDwIdeal.Value
public import proofs.«01_k».proof.Proof.Gen.UkvDwRefIdeal.Run
public import proofs.«01_k».proof.Proof.Gen.ODwIdeal.Value
public import proofs.«01_k».proof.Proof.Gen.ODwRefIdeal.Run
public import proofs.«01_k».proof.Defs

@[expose] public section

set_option maxRecDepth 20000

noncomputable section

open Idealize.ShloMosaic Idealize.ShloMosaic.TcCoe Cert.Product

/-! ### Into an even layer's attention: its array is made in three bands of columns -/

namespace Cert.InDwIdeal.Sum
open Cert.InDwIdeal Cert.InDwIdeal.Gen Cert.InDwIdeal.Value

theorem places : ∀ t : Fin cfg0.N, (win0_0.index t 0 = t.val % 16 ∧ win0_0.index t 1 = t.val / 16 / 3)
    ∧ (win0_1.index t 0 = t.val % 16 ∧ win0_1.index t 1 = t.val / 16 % 3) ∧ win0_2.index t 0 = t.val / 16 / 3 ∧ win0_2.index t 1 = t.val / 16 % 3 :=
  (by decide +kernel : ∀ t : Fin grid0.N, _)

theorem array (m : (ℓ : Loc nD τ sig) → Buf (Elt Ideal) ℓ) (c : Dev nD) (i : Fin 1024) (j : Fin 3072) :
    (G2 m c : FVec Ideal S1024x3072 .f32) (px i j) = tn (m := 1024) (k := 16384) (n := 3072) (φ₁ := .bf16) (φ₂ := .bf16) (V m c main_arg0) (V m c main_arg2) i.val j.val := by
  have hN := N_0
  refine swept_tn (p := 1024) (w := 1024) (q := 16) (b := 1024) (u := 3) (P := 1) (φ := .f32) _ (fun _ _ x => x) (by decide) hN rfl rfl
    (fun t h => (outsAt0 m c t h).1) (fun t h => (outsAt0 m c t h).2) (fun t => k0_pay1 (iblk m c 0 t) (iblk m c 1 t))
    (fun t h => ?_) (fun t h h' => ?_) (fun t h => ?_)
    (fun t h r s => (at_block (a := 1024) (b := 3072) (φ := .f32) _ (places t).2.2 rfl rfl).symm.trans
      (congrFun ((flushed2_eq m c t ((flush0_2 t).mpr h)).symm.trans (flushed2 m c t)) (px r s)))
    rfl (V m c main_arg0) (V m c main_arg2) (iblk m c 0) (iblk m c 1)
    (fun t _ _ => at_block (a := 16384) (b := 1024) (φ := .bf16) (V m c main_arg0) (places t).1 rfl rfl)
    (fun t _ _ => at_block (a := 16384) (b := 3072) (φ := .bf16) (V m c main_arg2) (places t).2.1 rfl rfl)
    (fun t r s => mul_tn _ _ _ r s) i j
  · rw [outsAt0_A m c t h (by omega) (by omega)]
    unfold sout0_A_0 kernelRun0_A
    dsimp only
    sl_unfold_words
    exact begun (e₁ := .bf16) (e₂ := .bf16) (k0_pay1 (F := Ideal)) ..
  · rw [outsAt0_B m c t h (by omega) h']
    unfold sout0_B_0 kernelRun0_B
    dsimp only
    sl_unfold_words
    exact added (e₁ := .bf16) (e₂ := .bf16) (k0_pay1 (F := Ideal)) ..
  · rw [outsAt0_C m c t (by omega) (by omega) h]
    unfold out0_C_2 kernelRun0_C
    dsimp only
    sl_unfold_words
    exact ended (e₁ := .bf16) (e₂ := .bf16) (k0_pay1 (F := Ideal)) ..

/-- The kernel and the reference end with the same array. -/
theorem algebraic : algebraic_InDwIdeal_InDwRefIdeal (hInDwIdeal := Cert.InDwIdeal.Gen.facts) (hInDwRefIdeal := Cert.InDwRefIdeal.Gen.facts) := by
  intro m g m' g' _ hm
  refine ⟨fun c => G2 m c, Value.run (F := Ideal) m g, ?_⟩
  refine (θ_run Cert.InDwRefIdeal.defs _ _).mono (fun r h c => ⟨(h c).1.trans ?_, (h c).2⟩) (Cert.InDwRefIdeal.Value.run (F := Ideal) m' g')
  obtain ⟨e0, -, e2⟩ := hm c
  rw [e0, e2]
  exact ext2 (a := 1024) (b := 3072) (φ := .f32) fun i j => (turned_tn _ _ _ _ i j).trans (array m c i j).symm

end Cert.InDwIdeal.Sum

/-! ### Out of an even layer's attention -/

namespace Cert.OutDwIdeal.Sum
open Cert.OutDwIdeal Cert.OutDwIdeal.Gen Cert.OutDwIdeal.Value

theorem places : ∀ t : Fin cfg0.N, (win0_0.index t 0 = t.val % 16 ∧ win0_0.index t 1 = t.val / 16 / 1)
    ∧ (win0_1.index t 0 = t.val % 16 ∧ win0_1.index t 1 = t.val / 16 % 1) ∧ win0_2.index t 0 = t.val / 16 / 1 ∧ win0_2.index t 1 = t.val / 16 % 1 :=
  (by decide +kernel : ∀ t : Fin grid0.N, _)

theorem array (m : (ℓ : Loc nD τ sig) → Buf (Elt Ideal) ℓ) (c : Dev nD) (i : Fin 768) (j : Fin 1024) :
    (G2 m c : FVec Ideal S768x1024 .f32) (px i j) = tn (m := 768) (k := 16384) (n := 1024) (φ₁ := .bf16) (φ₂ := .bf16) (V m c main_arg0) (V m c main_arg2) i.val j.val := by
  have hN := N_0
  refine swept_tn (p := 768) (w := 1024) (q := 16) (b := 1024) (u := 1) (P := 1) (φ := .f32) _ (fun _ _ x => x) (by decide) hN rfl rfl
    (fun t h => (outsAt0 m c t h).1) (fun t h => (outsAt0 m c t h).2) (fun t => k0_pay1 (iblk m c 0 t) (iblk m c 1 t))
    (fun t h => ?_) (fun t h h' => ?_) (fun t h => ?_)
    (fun t h r s => (at_block (a := 768) (b := 1024) (φ := .f32) _ (places t).2.2 rfl rfl).symm.trans
      (congrFun ((flushed2_eq m c t ((flush0_2 t).mpr h)).symm.trans (flushed2 m c t)) (px r s)))
    rfl (V m c main_arg0) (V m c main_arg2) (iblk m c 0) (iblk m c 1)
    (fun t _ _ => at_block (a := 16384) (b := 768) (φ := .bf16) (V m c main_arg0) (places t).1 rfl rfl)
    (fun t _ _ => at_block (a := 16384) (b := 1024) (φ := .bf16) (V m c main_arg2) (places t).2.1 rfl rfl)
    (fun t r s => mul_tn _ _ _ r s) i j
  · rw [outsAt0_A m c t h (by omega) (by omega)]
    unfold sout0_A_0 kernelRun0_A
    dsimp only
    sl_unfold_words
    exact begun (e₁ := .bf16) (e₂ := .bf16) (k0_pay1 (F := Ideal)) ..
  · rw [outsAt0_B m c t h (by omega) h']
    unfold sout0_B_0 kernelRun0_B
    dsimp only
    sl_unfold_words
    exact added (e₁ := .bf16) (e₂ := .bf16) (k0_pay1 (F := Ideal)) ..
  · rw [outsAt0_C m c t (by omega) (by omega) h]
    unfold out0_C_2 kernelRun0_C
    dsimp only
    sl_unfold_words
    exact ended (e₁ := .bf16) (e₂ := .bf16) (k0_pay1 (F := Ideal)) ..

/-- The kernel and the reference end with the same array. -/
theorem algebraic : algebraic_OutDwIdeal_OutDwRefIdeal (hOutDwIdeal := Cert.OutDwIdeal.Gen.facts) (hOutDwRefIdeal := Cert.OutDwRefIdeal.Gen.facts) := by
  intro m g m' g' _ hm
  refine ⟨fun c => G2 m c, Value.run (F := Ideal) m g, ?_⟩
  refine (θ_run Cert.OutDwRefIdeal.defs _ _).mono (fun r h c => ⟨(h c).1.trans ?_, (h c).2⟩) (Cert.OutDwRefIdeal.Value.run (F := Ideal) m' g')
  obtain ⟨e0, -, e2⟩ := hm c
  rw [e0, e2]
  exact ext2 (a := 768) (b := 1024) (φ := .f32) fun i j => (turned_tn _ _ _ _ i j).trans (array m c i j).symm

end Cert.OutDwIdeal.Sum

/-! ### To the latent queries, keys and values -/

namespace Cert.LatDwIdeal.Sum
open Cert.LatDwIdeal Cert.LatDwIdeal.Gen Cert.LatDwIdeal.Value

theorem places : ∀ t : Fin cfg0.N, (win0_0.index t 0 = t.val % 16 ∧ win0_0.index t 1 = t.val / 16 / 1)
    ∧ (win0_1.index t 0 = t.val % 16 ∧ win0_1.index t 1 = t.val / 16 % 1) ∧ win0_2.index t 0 = t.val / 16 / 1 ∧ win0_2.index t 1 = t.val / 16 % 1 :=
  (by decide +kernel : ∀ t : Fin grid0.N, _)

theorem array (m : (ℓ : Loc nD τ sig) → Buf (Elt Ideal) ℓ) (c : Dev nD) (i : Fin 1024) (j : Fin 672) :
    (G2 m c : FVec Ideal S1024x672 .f32) (px i j) = tn (m := 1024) (k := 16384) (n := 672) (φ₁ := .bf16) (φ₂ := .bf16) (V m c main_arg0) (V m c main_arg2) i.val j.val := by
  have hN := N_0
  refine swept_tn (p := 1024) (w := 672) (q := 16) (b := 1024) (u := 1) (P := 1) (φ := .f32) _ (fun _ _ x => x) (by decide) hN rfl rfl
    (fun t h => (outsAt0 m c t h).1) (fun t h => (outsAt0 m c t h).2) (fun t => k0_pay1 (iblk m c 0 t) (iblk m c 1 t))
    (fun t h => ?_) (fun t h h' => ?_) (fun t h => ?_)
    (fun t h r s => (at_block (a := 1024) (b := 672) (φ := .f32) _ (places t).2.2 rfl rfl).symm.trans
      (congrFun ((flushed2_eq m c t ((flush0_2 t).mpr h)).symm.trans (flushed2 m c t)) (px r s)))
    rfl (V m c main_arg0) (V m c main_arg2) (iblk m c 0) (iblk m c 1)
    (fun t _ _ => at_block (a := 16384) (b := 1024) (φ := .bf16) (V m c main_arg0) (places t).1 rfl rfl)
    (fun t _ _ => at_block (a := 16384) (b := 672) (φ := .bf16) (V m c main_arg2) (places t).2.1 rfl rfl)
    (fun t r s => mul_tn _ _ _ r s) i j
  · rw [outsAt0_A m c t h (by omega) (by omega)]
    unfold sout0_A_0 kernelRun0_A
    dsimp only
    sl_unfold_words
    exact begun (e₁ := .bf16) (e₂ := .bf16) (k0_pay1 (F := Ideal)) ..
  · rw [outsAt0_B m c t h (by omega) h']
    unfold sout0_B_0 kernelRun0_B
    dsimp only
    sl_unfold_words
    exact added (e₁ := .bf16) (e₂ := .bf16) (k0_pay1 (F := Ideal)) ..
  · rw [outsAt0_C m c t (by omega) (by omega) h]
    unfold out0_C_2 kernelRun0_C
    dsimp only
    sl_unfold_words
    exact ended (e₁ := .bf16) (e₂ := .bf16) (k0_pay1 (F := Ideal)) ..

/-- The kernel and the reference end with the same array. -/
theorem algebraic : algebraic_LatDwIdeal_LatDwRefIdeal (hLatDwIdeal := Cert.LatDwIdeal.Gen.facts) (hLatDwRefIdeal := Cert.LatDwRefIdeal.Gen.facts) := by
  intro m g m' g' _ hm
  refine ⟨fun c => G2 m c, Value.run (F := Ideal) m g, ?_⟩
  refine (θ_run Cert.LatDwRefIdeal.defs _ _).mono (fun r h c => ⟨(h c).1.trans ?_, (h c).2⟩) (Cert.LatDwRefIdeal.Value.run (F := Ideal) m' g')
  obtain ⟨e0, -, e2⟩ := hm c
  rw [e0, e2]
  exact ext2 (a := 1024) (b := 672) (φ := .f32) fun i j => (turned_tn _ _ _ _ i j).trans (array m c i j).symm

end Cert.LatDwIdeal.Sum

/-! ### The latent queries to the heads -/

namespace Cert.UqDwIdeal.Sum
open Cert.UqDwIdeal Cert.UqDwIdeal.Gen Cert.UqDwIdeal.Value

theorem places : ∀ t : Fin cfg0.N, (win0_0.index t 0 = t.val % 16 ∧ win0_0.index t 1 = t.val / 16 / 1)
    ∧ (win0_1.index t 0 = t.val % 16 ∧ win0_1.index t 1 = t.val / 16 % 1) ∧ win0_2.index t 0 = t.val / 16 / 1 ∧ win0_2.index t 1 = t.val / 16 % 1 :=
  (by decide +kernel : ∀ t : Fin grid0.N, _)

theorem array (m : (ℓ : Loc nD τ sig) → Buf (Elt Ideal) ℓ) (c : Dev nD) (i : Fin 384) (j : Fin 768) :
    (G2 m c : FVec Ideal S384x768 .f32) (px i j) = tn (m := 384) (k := 16384) (n := 768) (φ₁ := .bf16) (φ₂ := .bf16) (V m c main_arg0) (V m c main_arg2) i.val j.val := by
  have hN := N_0
  refine swept_tn (p := 384) (w := 768) (q := 16) (b := 1024) (u := 1) (P := 1) (φ := .f32) _ (fun _ _ x => x) (by decide) hN rfl rfl
    (fun t h => (outsAt0 m c t h).1) (fun t h => (outsAt0 m c t h).2) (fun t => k0_pay1 (iblk m c 0 t) (iblk m c 1 t))
    (fun t h => ?_) (fun t h h' => ?_) (fun t h => ?_)
    (fun t h r s => (at_block (a := 384) (b := 768) (φ := .f32) _ (places t).2.2 rfl rfl).symm.trans
      (congrFun ((flushed2_eq m c t ((flush0_2 t).mpr h)).symm.trans (flushed2 m c t)) (px r s)))
    rfl (V m c main_arg0) (V m c main_arg2) (iblk m c 0) (iblk m c 1)
    (fun t _ _ => at_block (a := 16384) (b := 384) (φ := .bf16) (V m c main_arg0) (places t).1 rfl rfl)
    (fun t _ _ => at_block (a := 16384) (b := 768) (φ := .bf16) (V m c main_arg2) (places t).2.1 rfl rfl)
    (fun t r s => mul_tn _ _ _ r s) i j
  · rw [outsAt0_A m c t h (by omega) (by omega)]
    unfold sout0_A_0 kernelRun0_A
    dsimp only
    sl_unfold_words
    exact begun (e₁ := .bf16) (e₂ := .bf16) (k0_pay1 (F := Ideal)) ..
  · rw [outsAt0_B m c t h (by omega) h']
    unfold sout0_B_0 kernelRun0_B
    dsimp only
    sl_unfold_words
    exact added (e₁ := .bf16) (e₂ := .bf16) (k0_pay1 (F := Ideal)) ..
  · rw [outsAt0_C m c t (by omega) (by omega) h]
    unfold out0_C_2 kernelRun0_C
    dsimp only
    sl_unfold_words
    exact ended (e₁ := .bf16) (e₂ := .bf16) (k0_pay1 (F := Ideal)) ..

/-- The kernel and the reference end with the same array. -/
theorem algebraic : algebraic_UqDwIdeal_UqDwRefIdeal (hUqDwIdeal := Cert.UqDwIdeal.Gen.facts) (hUqDwRefIdeal := Cert.UqDwRefIdeal.Gen.facts) := by
  intro m g m' g' _ hm
  refine ⟨fun c => G2 m c, Value.run (F := Ideal) m g, ?_⟩
  refine (θ_run Cert.UqDwRefIdeal.defs _ _).mono (fun r h c => ⟨(h c).1.trans ?_, (h c).2⟩) (Cert.UqDwRefIdeal.Value.run (F := Ideal) m' g')
  obtain ⟨e0, -, e2⟩ := hm c
  rw [e0, e2]
  exact ext2 (a := 384) (b := 768) (φ := .f32) fun i j => (turned_tn _ _ _ _ i j).trans (array m c i j).symm

end Cert.UqDwIdeal.Sum

/-! ### The latent keys and values to the heads -/

namespace Cert.UkvDwIdeal.Sum
open Cert.UkvDwIdeal Cert.UkvDwIdeal.Gen Cert.UkvDwIdeal.Value

theorem places : ∀ t : Fin cfg0.N, (win0_0.index t 0 = t.val % 16 ∧ win0_0.index t 1 = t.val / 16 / 1)
    ∧ (win0_1.index t 0 = t.val % 16 ∧ win0_1.index t 1 = t.val / 16 % 1) ∧ win0_2.index t 0 = t.val / 16 / 1 ∧ win0_2.index t 1 = t.val / 16 % 1 :=
  (by decide +kernel : ∀ t : Fin grid0.N, _)

theorem array (m : (ℓ : Loc nD τ sig) → Buf (Elt Ideal) ℓ) (c : Dev nD) (i : Fin 256) (j : Fin 1024) :
    (G2 m c : FVec Ideal S256x1024 .f32) (px i j) = tn (m := 256) (k := 16384) (n := 1024) (φ₁ := .bf16) (φ₂ := .bf16) (V m c main_arg0) (V m c main_arg2) i.val j.val := by
  have hN := N_0
  refine swept_tn (p := 256) (w := 1024) (q := 16) (b := 1024) (u := 1) (P := 1) (φ := .f32) _ (fun _ _ x => x) (by decide) hN rfl rfl
    (fun t h => (outsAt0 m c t h).1) (fun t h => (outsAt0 m c t h).2) (fun t => k0_pay1 (iblk m c 0 t) (iblk m c 1 t))
    (fun t h => ?_) (fun t h h' => ?_) (fun t h => ?_)
    (fun t h r s => (at_block (a := 256) (b := 1024) (φ := .f32) _ (places t).2.2 rfl rfl).symm.trans
      (congrFun ((flushed2_eq m c t ((flush0_2 t).mpr h)).symm.trans (flushed2 m c t)) (px r s)))
    rfl (V m c main_arg0) (V m c main_arg2) (iblk m c 0) (iblk m c 1)
    (fun t _ _ => at_block (a := 16384) (b := 256) (φ := .bf16) (V m c main_arg0) (places t).1 rfl rfl)
    (fun t _ _ => at_block (a := 16384) (b := 1024) (φ := .bf16) (V m c main_arg2) (places t).2.1 rfl rfl)
    (fun t r s => mul_tn _ _ _ r s) i j
  · rw [outsAt0_A m c t h (by omega) (by omega)]
    unfold sout0_A_0 kernelRun0_A
    dsimp only
    sl_unfold_words
    exact begun (e₁ := .bf16) (e₂ := .bf16) (k0_pay1 (F := Ideal)) ..
  · rw [outsAt0_B m c t h (by omega) h']
    unfold sout0_B_0 kernelRun0_B
    dsimp only
    sl_unfold_words
    exact added (e₁ := .bf16) (e₂ := .bf16) (k0_pay1 (F := Ideal)) ..
  · rw [outsAt0_C m c t (by omega) (by omega) h]
    unfold out0_C_2 kernelRun0_C
    dsimp only
    sl_unfold_words
    exact ended (e₁ := .bf16) (e₂ := .bf16) (k0_pay1 (F := Ideal)) ..

/-- The kernel and the reference end with the same array. -/
theorem algebraic : algebraic_UkvDwIdeal_UkvDwRefIdeal (hUkvDwIdeal := Cert.UkvDwIdeal.Gen.facts) (hUkvDwRefIdeal := Cert.UkvDwRefIdeal.Gen.facts) := by
  intro m g m' g' _ hm
  refine ⟨fun c => G2 m c, Value.run (F := Ideal) m g, ?_⟩
  refine (θ_run Cert.UkvDwRefIdeal.defs _ _).mono (fun r h c => ⟨(h c).1.trans ?_, (h c).2⟩) (Cert.UkvDwRefIdeal.Value.run (F := Ideal) m' g')
  obtain ⟨e0, -, e2⟩ := hm c
  rw [e0, e2]
  exact ext2 (a := 256) (b := 1024) (φ := .f32) fun i j => (turned_tn _ _ _ _ i j).trans (array m c i j).symm

end Cert.UkvDwIdeal.Sum

/-! ### Out of the latent attention -/

namespace Cert.ODwIdeal.Sum
open Cert.ODwIdeal Cert.ODwIdeal.Gen Cert.ODwIdeal.Value

theorem places : ∀ t : Fin cfg0.N, (win0_0.index t 0 = t.val % 16 ∧ win0_0.index t 1 = t.val / 16 / 1)
    ∧ (win0_1.index t 0 = t.val % 16 ∧ win0_1.index t 1 = t.val / 16 % 1) ∧ win0_2.index t 0 = t.val / 16 / 1 ∧ win0_2.index t 1 = t.val / 16 % 1 :=
  (by decide +kernel : ∀ t : Fin grid0.N, _)

theorem array (m : (ℓ : Loc nD τ sig) → Buf (Elt Ideal) ℓ) (c : Dev nD) (i : Fin 512) (j : Fin 1024) :
    (G2 m c : FVec Ideal S512x1024 .f32) (px i j) = tn (m := 512) (k := 16384) (n := 1024) (φ₁ := .bf16) (φ₂ := .bf16) (V m c main_arg0) (V m c main_arg2) i.val j.val := by
  have hN := N_0
  refine swept_tn (p := 512) (w := 1024) (q := 16) (b := 1024) (u := 1) (P := 1) (φ := .f32) _ (fun _ _ x => x) (by decide) hN rfl rfl
    (fun t h => (outsAt0 m c t h).1) (fun t h => (outsAt0 m c t h).2) (fun t => k0_pay1 (iblk m c 0 t) (iblk m c 1 t))
    (fun t h => ?_) (fun t h h' => ?_) (fun t h => ?_)
    (fun t h r s => (at_block (a := 512) (b := 1024) (φ := .f32) _ (places t).2.2 rfl rfl).symm.trans
      (congrFun ((flushed2_eq m c t ((flush0_2 t).mpr h)).symm.trans (flushed2 m c t)) (px r s)))
    rfl (V m c main_arg0) (V m c main_arg2) (iblk m c 0) (iblk m c 1)
    (fun t _ _ => at_block (a := 16384) (b := 512) (φ := .bf16) (V m c main_arg0) (places t).1 rfl rfl)
    (fun t _ _ => at_block (a := 16384) (b := 1024) (φ := .bf16) (V m c main_arg2) (places t).2.1 rfl rfl)
    (fun t r s => mul_tn _ _ _ r s) i j
  · rw [outsAt0_A m c t h (by omega) (by omega)]
    unfold sout0_A_0 kernelRun0_A
    dsimp only
    sl_unfold_words
    exact begun (e₁ := .bf16) (e₂ := .bf16) (k0_pay1 (F := Ideal)) ..
  · rw [outsAt0_B m c t h (by omega) h']
    unfold sout0_B_0 kernelRun0_B
    dsimp only
    sl_unfold_words
    exact added (e₁ := .bf16) (e₂ := .bf16) (k0_pay1 (F := Ideal)) ..
  · rw [outsAt0_C m c t (by omega) (by omega) h]
    unfold out0_C_2 kernelRun0_C
    dsimp only
    sl_unfold_words
    exact ended (e₁ := .bf16) (e₂ := .bf16) (k0_pay1 (F := Ideal)) ..

/-- The kernel and the reference end with the same array. -/
theorem algebraic : algebraic_ODwIdeal_ODwRefIdeal (hODwIdeal := Cert.ODwIdeal.Gen.facts) (hODwRefIdeal := Cert.ODwRefIdeal.Gen.facts) := by
  intro m g m' g' _ hm
  refine ⟨fun c => G2 m c, Value.run (F := Ideal) m g, ?_⟩
  refine (θ_run Cert.ODwRefIdeal.defs _ _).mono (fun r h c => ⟨(h c).1.trans ?_, (h c).2⟩) (Cert.ODwRefIdeal.Value.run (F := Ideal) m' g')
  obtain ⟨e0, -, e2⟩ := hm c
  rw [e0, e2]
  exact ext2 (a := 512) (b := 1024) (φ := .f32) fun i j => (turned_tn _ _ _ _ i j).trans (array m c i j).symm

end Cert.ODwIdeal.Sum
-- ==== Proof.NormFrames.lean ====
module
public import proofs.«01_k».proof.Defs
public import proofs.«01_k».proof.Proof.Gen.Norm.Frame
public import proofs.«01_k».proof.Proof.Gen.NormIdeal.Frame
public import proofs.«01_k».proof.Proof.Gen.NormRefIdeal.Run
public import proofs.«01_k».proof.Proof.Gen.QNorm.Frame
public import proofs.«01_k».proof.Proof.Gen.QNormIdeal.Frame
public import proofs.«01_k».proof.Proof.Gen.QNormRefIdeal.Run
public import proofs.«01_k».proof.Proof.Gen.KvNorm.Frame
public import proofs.«01_k».proof.Proof.Gen.KvNormIdeal.Frame
public import proofs.«01_k».proof.Proof.Gen.KvNormRefIdeal.Run
public import proofs.«01_k».proof.Proof.Gen.NormDx.Frame
public import proofs.«01_k».proof.Proof.Gen.NormDxIdeal.Frame
public import proofs.«01_k».proof.Proof.Gen.NormDxRefIdeal.Run
public import proofs.«01_k».proof.Proof.Gen.NormDxFirst.Frame
public import proofs.«01_k».proof.Proof.Gen.NormDxFirstIdeal.Frame
public import proofs.«01_k».proof.Proof.Gen.NormDxFirstRefIdeal.Run
public import proofs.«01_k».proof.Proof.Gen.QNormDx.Frame
public import proofs.«01_k».proof.Proof.Gen.QNormDxIdeal.Frame
public import proofs.«01_k».proof.Proof.Gen.QNormDxRefIdeal.Run
public import proofs.«01_k».proof.Proof.Gen.KvNormDx.Frame
public import proofs.«01_k».proof.Proof.Gen.KvNormDxIdeal.Frame
public import proofs.«01_k».proof.Proof.Gen.KvNormDxRefIdeal.Run
public import proofs.«01_k».proof.Proof.Gen.Loss.Frame
public import proofs.«01_k».proof.Proof.Gen.LossIdeal.Frame
public import proofs.«01_k».proof.Proof.Gen.LossRefIdeal.Run
public import Idealize.ShloMosaic.Adequacy
public import Idealize.ShloMosaic.Init
@[expose] public section

/-!
# The frames of the norms' and the loss head's programs
-/

noncomputable section

namespace Cert.Proof
open Idealize.ShloMosaic Idealize.SL.Sem

theorem frame_Norm : Cert.quiescent_Norm := fun m ρ _ => Cert.Norm.Gen.frame m ρ
theorem frame_NormIdeal : Cert.quiescent_NormIdeal := fun m ρ _ => Cert.NormIdeal.Gen.frame m ρ
theorem frame_NormRefIdeal : Cert.quiescent_NormRefIdeal := fun m ρ _ =>
  (θ_run Cert.NormRefIdeal.defs _ _).mono (fun r h => ⟨fun c => (h c).2, Idealize.ShloMosaic.sem_eq_zero_of_no_sems (by decide) r.2⟩)
    (Cert.NormRefIdeal.Value.run (F := Ideal) m ρ)

theorem frame_QNorm : Cert.quiescent_QNorm := fun m ρ _ => Cert.QNorm.Gen.frame m ρ
theorem frame_QNormIdeal : Cert.quiescent_QNormIdeal := fun m ρ _ => Cert.QNormIdeal.Gen.frame m ρ
theorem frame_QNormRefIdeal : Cert.quiescent_QNormRefIdeal := fun m ρ _ =>
  (θ_run Cert.QNormRefIdeal.defs _ _).mono (fun r h => ⟨fun c => (h c).2, Idealize.ShloMosaic.sem_eq_zero_of_no_sems (by decide) r.2⟩)
    (Cert.QNormRefIdeal.Value.run (F := Ideal) m ρ)

theorem frame_KvNorm : Cert.quiescent_KvNorm := fun m ρ _ => Cert.KvNorm.Gen.frame m ρ
theorem frame_KvNormIdeal : Cert.quiescent_KvNormIdeal := fun m ρ _ => Cert.KvNormIdeal.Gen.frame m ρ
theorem frame_KvNormRefIdeal : Cert.quiescent_KvNormRefIdeal := fun m ρ _ =>
  (θ_run Cert.KvNormRefIdeal.defs _ _).mono (fun r h => ⟨fun c => (h c).2, Idealize.ShloMosaic.sem_eq_zero_of_no_sems (by decide) r.2⟩)
    (Cert.KvNormRefIdeal.Value.run (F := Ideal) m ρ)

theorem frame_NormDx : Cert.quiescent_NormDx := fun m ρ _ => Cert.NormDx.Gen.frame m ρ
theorem frame_NormDxIdeal : Cert.quiescent_NormDxIdeal := fun m ρ _ => Cert.NormDxIdeal.Gen.frame m ρ
theorem frame_NormDxRefIdeal : Cert.quiescent_NormDxRefIdeal := fun m ρ _ =>
  (θ_run Cert.NormDxRefIdeal.defs _ _).mono (fun r h => ⟨fun c => (h c).2.2.2, Idealize.ShloMosaic.sem_eq_zero_of_no_sems (by decide) r.2⟩)
    (Cert.NormDxRefIdeal.Value.run (F := Ideal) m ρ)

theorem frame_NormDxFirst : Cert.quiescent_NormDxFirst := fun m ρ _ => Cert.NormDxFirst.Gen.frame m ρ
theorem frame_NormDxFirstIdeal : Cert.quiescent_NormDxFirstIdeal := fun m ρ _ => Cert.NormDxFirstIdeal.Gen.frame m ρ
theorem frame_NormDxFirstRefIdeal : Cert.quiescent_NormDxFirstRefIdeal := fun m ρ _ =>
  (θ_run Cert.NormDxFirstRefIdeal.defs _ _).mono (fun r h => ⟨fun c => (h c).2.2, Idealize.ShloMosaic.sem_eq_zero_of_no_sems (by decide) r.2⟩)
    (Cert.NormDxFirstRefIdeal.Value.run (F := Ideal) m ρ)

theorem frame_QNormDx : Cert.quiescent_QNormDx := fun m ρ _ => Cert.QNormDx.Gen.frame m ρ
theorem frame_QNormDxIdeal : Cert.quiescent_QNormDxIdeal := fun m ρ _ => Cert.QNormDxIdeal.Gen.frame m ρ
theorem frame_QNormDxRefIdeal : Cert.quiescent_QNormDxRefIdeal := fun m ρ _ =>
  (θ_run Cert.QNormDxRefIdeal.defs _ _).mono (fun r h => ⟨fun c => (h c).2.2, Idealize.ShloMosaic.sem_eq_zero_of_no_sems (by decide) r.2⟩)
    (Cert.QNormDxRefIdeal.Value.run (F := Ideal) m ρ)

theorem frame_KvNormDx : Cert.quiescent_KvNormDx := fun m ρ _ => Cert.KvNormDx.Gen.frame m ρ
theorem frame_KvNormDxIdeal : Cert.quiescent_KvNormDxIdeal := fun m ρ _ => Cert.KvNormDxIdeal.Gen.frame m ρ
theorem frame_KvNormDxRefIdeal : Cert.quiescent_KvNormDxRefIdeal := fun m ρ _ =>
  (θ_run Cert.KvNormDxRefIdeal.defs _ _).mono (fun r h => ⟨fun c => (h c).2.2, Idealize.ShloMosaic.sem_eq_zero_of_no_sems (by decide) r.2⟩)
    (Cert.KvNormDxRefIdeal.Value.run (F := Ideal) m ρ)

theorem frame_Loss : Cert.quiescent_Loss := fun m ρ _ => Cert.Loss.Gen.frame m ρ
theorem frame_LossIdeal : Cert.quiescent_LossIdeal := fun m ρ _ => Cert.LossIdeal.Gen.frame m ρ
theorem frame_LossRefIdeal : Cert.quiescent_LossRefIdeal := fun m ρ _ =>
  (θ_run Cert.LossRefIdeal.defs _ _).mono (fun r h => ⟨fun c => (h c).2.2.2.2, Idealize.ShloMosaic.sem_eq_zero_of_no_sems (by decide) r.2⟩)
    (Cert.LossRefIdeal.Value.run (F := Ideal) m ρ)

end Cert.Proof

end
-- ==== Proof.Rows.lean ====
/-
  Arrays of rows: what the operations that sum, widen and reshape them leave at an entry, and the gradient of a root mean square norm.
-/
module

public import proofs.«01_k».proof.Proof.Tiling
public import proofs.«01_k».proof.Proof.Reals
public import Idealize.ShloMosaic.Lib.Pointwise.Tactic

@[expose] public section

noncomputable section

namespace Cert.Rows

open Idealize.ShloMosaic Idealize.ShloMosaic.ValueIdx Cert.Product

/-! ### Entries -/

section
variable {p n : ℕ} {α : Type}

theorem small {a : ℕ} (i : Fin a) : i.val = if a = 1 then 0 else i.val := by
  split
  · have := i.isLt; omega
  · rfl

theorem widened (v : (⟨2, ![p, 1]⟩ : Shape).Idx → α) (h : (⟨2, ![p, 1]⟩ : Shape).Broadcasts ⟨2, ![p, n]⟩) (i : Fin p) (j : Fin n) :
    broadcastTo ⟨2, ![p, n]⟩ v h (px i j) = v (px i 0) :=
  broadcastTo_apply v h _ _ fun ax => match ax with | ⟨0, _⟩ => small i | ⟨1, _⟩ => rfl

theorem widened_host (v : (⟨2, ![p, 1]⟩ : Shape).Idx → α) (h : (⟨2, ![p, 1]⟩ : Shape).BroadcastsInDim ⟨2, ![p, n]⟩ ![0, 1]) (i : Fin p) (j : Fin n) :
    broadcastInDim ⟨2, ![p, n]⟩ ![0, 1] h v (px i j) = v (px i 0) :=
  broadcastInDim_apply _ h v _ _ fun ax => match ax with | ⟨0, _⟩ => small i | ⟨1, _⟩ => rfl

theorem repeated_host (v : (⟨2, ![1, n]⟩ : Shape).Idx → α) (h : (⟨2, ![1, n]⟩ : Shape).BroadcastsInDim ⟨2, ![p, n]⟩ ![0, 1]) (i : Fin p) (j : Fin n) :
    broadcastInDim ⟨2, ![p, n]⟩ ![0, 1] h v (px i j) = v (px 0 j) :=
  broadcastInDim_apply _ h v _ _ fun ax => match ax with | ⟨0, _⟩ => rfl | ⟨1, _⟩ => small j

theorem down_host (v : (⟨1, ![p]⟩ : Shape).Idx → α) (h : (⟨1, ![p]⟩ : Shape).BroadcastsInDim ⟨2, ![p, n]⟩ ![0]) (i : Fin p) (j : Fin n) :
    broadcastInDim ⟨2, ![p, n]⟩ ![0] h v (px i j) = v (Idealize.ShloMosaic.ValueIdx.ix1 i) :=
  broadcastInDim_apply _ h v _ _ fun ax => match ax with | ⟨0, _⟩ => small i

theorem along_host (v : (⟨1, ![n]⟩ : Shape).Idx → α) (h : (⟨1, ![n]⟩ : Shape).BroadcastsInDim ⟨2, ![p, n]⟩ ![1]) (i : Fin p) (j : Fin n) :
    broadcastInDim ⟨2, ![p, n]⟩ ![1] h v (px i j) = v (Idealize.ShloMosaic.ValueIdx.ix1 j) :=
  broadcastInDim_apply _ h v _ _ fun ax => match ax with | ⟨0, _⟩ => small j

theorem column (v : (⟨1, ![p]⟩ : Shape).Idx → α) (h : (⟨1, ![p]⟩ : Shape).ShapeCasts ⟨2, ![p, 1]⟩) (i : Fin p) (k : Fin 1) :
    shapeCast ⟨2, ![p, 1]⟩ v h (px i k) = v (Idealize.ShloMosaic.ValueIdx.ix1 i) :=
  shapeCast_apply v h _ _ (by
    rw [Shape.rowMajor_val_one, Shape.rowMajor_val_two]
    show i.val = i.val * 1 + k.val
    omega)

theorem row (v : (⟨1, ![n]⟩ : Shape).Idx → α) (h : (⟨1, ![n]⟩ : Shape).ShapeCasts ⟨2, ![1, n]⟩) (k : Fin 1) (j : Fin n) :
    shapeCast ⟨2, ![1, n]⟩ v h (px k j) = v (Idealize.ShloMosaic.ValueIdx.ix1 j) :=
  shapeCast_apply v h _ _ (by
    rw [Shape.rowMajor_val_one, Shape.rowMajor_val_two]
    show j.val = k.val * n + j.val
    rw [Fin.val_eq_zero k]
    omega)

variable {φ : FTy}

theorem row_sum (x : FVec Ideal ⟨2, ![p, n]⟩ .f32) (w) (h : (⟨2, ![p, n]⟩ : Shape).Reduces [1] ⟨1, ![p]⟩) (hφ hw) (i : Fin p) :
    multiReduction .add [1] ⟨1, ![p]⟩ x w h hφ hw (Idealize.ShloMosaic.ValueIdx.ix1 i) = ∑ k : Fin n, (x (px i k) : EReal) :=
  Ideal.reduceAdd_r2_a1 h x (Idealize.ShloMosaic.ValueIdx.ix1 i)

theorem column_sum (x : FVec Ideal ⟨2, ![p, n]⟩ .f32) (w) (h : (⟨2, ![p, n]⟩ : Shape).Reduces [0] ⟨1, ![n]⟩) (hφ hw) (j : Fin n) :
    multiReduction .add [0] ⟨1, ![n]⟩ x w h hφ hw (Idealize.ShloMosaic.ValueIdx.ix1 j) = ∑ k : Fin p, (x (px k j) : EReal) :=
  Ideal.reduceAdd_r2_a0 h x (Idealize.ShloMosaic.ValueIdx.ix1 j)

theorem row_sum_host (x : FVec Ideal ⟨2, ![p, n]⟩ .f32) (h : (⟨2, ![p, n]⟩ : Shape).ReducesTo [1] ⟨1, ![p]⟩) (hu) (i : Fin p) :
    Host.reduceAdd x (constant ⟨0, ![]⟩ .f32 0x00000000#32) h hu (Idealize.ShloMosaic.ValueIdx.ix1 i) = ∑ k : Fin n, (x (px i k) : EReal) :=
  (Ideal.hostReduceAdd_r2_a1 h x _ (Idealize.ShloMosaic.ValueIdx.ix1 i)).trans ((congrArg (· + _) Ideal.ofBits_zero_f32).trans (zero_add _))

theorem column_sum_host (x : FVec Ideal ⟨2, ![p, n]⟩ .f32) (h : (⟨2, ![p, n]⟩ : Shape).ReducesTo [0] ⟨1, ![n]⟩) (hu) (j : Fin n) :
    Host.reduceAdd x (constant ⟨0, ![]⟩ .f32 0x00000000#32) h hu (Idealize.ShloMosaic.ValueIdx.ix1 j) = ∑ k : Fin p, (x (px k j) : EReal) :=
  (Ideal.hostReduceAdd_r2_a0 h x _ (Idealize.ShloMosaic.ValueIdx.ix1 j)).trans ((congrArg (· + _) Ideal.ofBits_zero_f32).trans (zero_add _))

end

/-! ### The law -/

theorem square_nonneg (x : EReal) : 0 ≤ x * x := by
  induction x with
  | bot => simp
  | top => simp
  | coe a => exact_mod_cast mul_self_nonneg a

theorem sum_mul_real {ι : Type} (s : Finset ι) (f : ι → EReal) {r : ℝ} (hr : 0 ≤ r) : (∑ k ∈ s, f k) * (r : EReal) = ∑ k ∈ s, f k * (r : EReal) := by
  classical
  induction s using Finset.induction_on with
  | empty => simp
  | insert a s ha ih => rw [Finset.sum_insert ha, Finset.sum_insert ha, ← ih,
      EReal.right_distrib_of_nonneg_of_ne_top (by exact_mod_cast hr) (EReal.coe_ne_top r)]

theorem twice (y : EReal) : y + y = y * ((2 : ℝ) : EReal) := by
  induction y with
  | bot => rw [EReal.bot_mul_coe_of_pos (by norm_num)]; rfl
  | top => rw [EReal.top_mul_coe_of_pos (by norm_num)]; rfl
  | coe a => rw [← EReal.coe_mul, ← EReal.coe_add]; congr 1; ring

theorem div_real (x : EReal) {w : ℝ} (hw : w ≠ 0) : Ideal.div x (w : EReal) = x * ((w⁻¹ : ℝ) : EReal) := by
  unfold Ideal.div
  rw [if_neg (by exact_mod_cast hw), EReal.coe_inv]

/-- The mean square of a row and a little more, and the reciprocal of its root. -/
def spread {n : ℕ} (w e : EReal) (x : Fin n → EReal) : EReal := Ideal.div (∑ k, x k * x k) w + e
def root {n : ℕ} (w e : EReal) (x : Fin n → EReal) : EReal := Ideal.rsqrt (spread w e x)

/-- Either an element of the row is infinite, and the root's reciprocal is zero, or all of them are reals. -/
theorem spread_cases {n : ℕ} {w e : ℝ} (hw : 0 < w) (he : 0 < e) (x : Fin n → EReal) :
    spread w e x = ⊤ ∨ ∃ s : ℝ, 0 < s ∧ spread w e x = (s : EReal) ∧ ∃ a : Fin n → ℝ, ∀ k, x k = (a k : EReal) := by
  unfold spread
  rw [div_real _ hw.ne']
  by_cases h : ∀ k, x k ≠ ⊤ ∧ x k ≠ ⊥
  · refine .inr ?_
    have hx : ∀ k, x k = ((x k).toReal : EReal) := fun k => (EReal.coe_toReal (h k).1 (h k).2).symm
    refine ⟨(∑ k, (x k).toReal * (x k).toReal) * w⁻¹ + e, ?_, ?_, _, hx⟩
    · have := mul_nonneg (Finset.sum_nonneg fun k (_ : k ∈ Finset.univ) => mul_self_nonneg (x k).toReal) (inv_nonneg.mpr hw.le)
      linarith
    · rw [EReal.coe_add, EReal.coe_mul]
      congr 2
      rw [← Soft.coe_sum]
      exact Finset.sum_congr rfl fun k _ => by rw [EReal.coe_mul, ← hx k]
  · refine .inl ?_
    push Not at h
    obtain ⟨k, hk⟩ := h
    have hk' : x k * x k = ⊤ := by
      by_cases ht : x k = ⊤
      · rw [ht]; rfl
      · rw [hk ht]; rfl
    have hs : ∑ k, x k * x k = ⊤ := top_le_iff.mp (hk' ▸ Finset.single_le_sum (fun k _ => square_nonneg (x k)) (Finset.mem_univ k))
    rw [hs, EReal.top_mul_coe_of_pos (inv_pos.mpr hw)]
    rfl

/-- The gradient by the row of its normed form: as the calls compute it, and as the reference's derivative has it. -/
theorem gradient {n : ℕ} {w e : ℝ} (hw : 0 < w) (he : 0 < e) (x d : Fin n → EReal) (j : Fin n) :
    root w e x * (d j - x j * root w e x * Ideal.div (∑ k, d k * (x k * root w e x)) w)
      = d j * root w e x + (x j * Ideal.div ((∑ k, x k * d k) * (((-1 / 2 : ℝ) : EReal) * Ideal.div (root w e x) (spread w e x))) w
        + Ideal.div ((∑ k, x k * d k) * (((-1 / 2 : ℝ) : EReal) * Ideal.div (root w e x) (spread w e x))) w * x j) := by
  rw [div_real _ hw.ne', div_real _ hw.ne']
  rcases spread_cases hw he x with h | ⟨s, hs, h, a, ha⟩
  · have hr : root w e x = 0 := by unfold root; rw [h]; rfl
    have hd : Ideal.div 0 (⊤ : EReal) = 0 := by unfold Ideal.div; simp
    rw [hr, h, hd]
    simp
  · have hr : root w e x = (((Real.sqrt s)⁻¹ : ℝ) : EReal) := by
      unfold root
      rw [h, Ideal.rsqrt_coe, if_neg (not_lt.mpr hs.le), if_neg hs.ne']
    have hp : 0 < (Real.sqrt s)⁻¹ := inv_pos.mpr (Real.sqrt_pos.mpr hs)
    have hq : s⁻¹ = (Real.sqrt s)⁻¹ * (Real.sqrt s)⁻¹ := by rw [← mul_inv, Real.mul_self_sqrt hs.le]
    rw [h, hr, div_real _ hs.ne', hq]
    generalize (Real.sqrt s)⁻¹ = r at hp
    have hD : ∑ k, d k * (x k * (r : EReal)) = (∑ k, x k * d k) * (r : EReal) := by
      rw [sum_mul_real _ _ hp.le]
      exact Finset.sum_congr rfl fun k _ => by rw [← mul_assoc, mul_comm (d k)]
    rw [hD]
    generalize (∑ k, x k * d k) = D
    rw [ha j, sub_eq_add_neg, EReal.left_distrib_of_nonneg_of_ne_top (by exact_mod_cast hp.le) (EReal.coe_ne_top r), mul_comm (r : EReal) (d j),
      mul_comm (D * _ * _) ((a j : ℝ) : EReal), twice]
    congr 1
    have e1 : (r : EReal) * -((a j : EReal) * r * (D * r * ((w⁻¹ : ℝ) : EReal))) = D * ((-(r * (a j * r * (r * w⁻¹))) : ℝ) : EReal) := by
      rw [EReal.coe_neg, mul_neg, mul_neg]
      push_cast
      congr 1
      ac_rfl
    have e2 : (a j : EReal) * (D * (((-1 / 2 : ℝ) : EReal) * ((r : EReal) * ((r * r : ℝ) : EReal))) * ((w⁻¹ : ℝ) : EReal)) * ((2 : ℝ) : EReal)
        = D * ((a j * ((-1 / 2) * (r * (r * r))) * w⁻¹ * 2 : ℝ) : EReal) := by
      simp only [EReal.coe_mul]
      ac_rfl
    rw [e1, e2]
    congr 2
    ring

/-! ### The calls' terms at an entry -/

section
variable {p n : ℕ} (bw be : BitVec 32)

/-- The element of `x` in row `i`, normed, and with its gain. -/
def normed (x : ℕ → Fin n → EReal) (g : Fin n → EReal) (i : ℕ) (j : Fin n) : EReal :=
  x i j * root (Ideal.ofBits .f32 bw) (Ideal.ofBits .f32 be) (x i) * g j

theorem rstd_tile (x : FVec Ideal ⟨2, ![p, n]⟩ .f32) (w hr hφ hw hs) (i : Fin p) (k : Fin 1) :
    rsqrt (addf (divf (shapeCast ⟨2, ![p, 1]⟩ (multiReduction .add [1] ⟨1, ![p]⟩ (mulf x x) w hr hφ hw) hs)
      (broadcast ⟨2, ![p, 1]⟩ (Scalar.ofBits .f32 bw))) (broadcast ⟨2, ![p, 1]⟩ (Scalar.ofBits .f32 be))) (px i k)
      = root (Ideal.ofBits .f32 bw) (Ideal.ofBits .f32 be) fun k => (x (px i k) : EReal) :=
  congrArg (fun z => Ideal.rsqrt (Ideal.div z (Ideal.ofBits .f32 bw) + Ideal.ofBits .f32 be)) ((column _ hs i k).trans (row_sum _ w hr hφ hw i))

theorem spread_host (x : FVec Ideal ⟨2, ![p, n]⟩ .f32) (hr hu) (h₁ : (⟨1, ![p]⟩ : Shape).BroadcastsInDim ⟨2, ![p, 1]⟩ ![0])
    (h₂ h₃ : (⟨0, ![]⟩ : Shape).BroadcastsInDim ⟨2, ![p, 1]⟩ ![]) (i : Fin p) (k : Fin 1) :
    addf (Host.divf (broadcastInDim ⟨2, ![p, 1]⟩ ![0] h₁ (Host.reduceAdd (axes := [1]) (t := ⟨1, ![p]⟩) (mulf x x) (constant ⟨0, ![]⟩ .f32 0x00000000#32) hr hu))
      (broadcastInDim ⟨2, ![p, 1]⟩ ![] h₂ (constant ⟨0, ![]⟩ .f32 bw))) (broadcastInDim ⟨2, ![p, 1]⟩ ![] h₃ (constant ⟨0, ![]⟩ .f32 be)) (px i k)
      = spread (Ideal.ofBits .f32 bw) (Ideal.ofBits .f32 be) fun k => (x (px i k) : EReal) :=
  congrArg (fun z => Ideal.div z (Ideal.ofBits .f32 bw) + Ideal.ofBits .f32 be) ((down_host _ h₁ i k).trans (row_sum_host _ hr hu i))

/-- A tile, normed, with its gain. -/
theorem normed_tile (x : FVec Ideal ⟨2, ![p, n]⟩ .f32) (g : FVec Ideal ⟨2, ![1, n]⟩ .f32) (r : FVec Ideal ⟨2, ![p, 1]⟩ .f32) (h₁ h₂ h₃ h₄)
    (hr : ∀ i, r (px i 0) = root (Ideal.ofBits .f32 bw) (Ideal.ofBits .f32 be) fun k => (x (px i k) : EReal)) (i : Fin p) (j : Fin n) :
    truncf .bf16 (mulf (mulf x (broadcastTo ⟨2, ![p, n]⟩ r h₁)) (broadcastTo ⟨2, ![p, n]⟩ (shapeCast ⟨2, ![1, n]⟩ g h₂) h₃)) h₄ (px i j)
      = (x (px i j) : EReal) * root (Ideal.ofBits .f32 bw) (Ideal.ofBits .f32 be) (fun k => (x (px i k) : EReal)) * g (px 0 j) := by
  rw [shapeCast_self]
  exact congrArg₂ (fun a b : EReal => x (px i j) * a * b) ((widened r h₁ i j).trans (hr i)) (broadcastTo_1b_ab_apply g h₃ i j)

theorem normed_host (x : FVec Ideal ⟨2, ![p, n]⟩ .f32) (g : FVec Ideal ⟨1, ![n]⟩ .f32) (r : FVec Ideal ⟨2, ![p, 1]⟩ .f32)
    (h₁ : (⟨2, ![p, 1]⟩ : Shape).BroadcastsInDim ⟨2, ![p, n]⟩ ![0, 1]) (h₂ : (⟨1, ![n]⟩ : Shape).BroadcastsInDim ⟨2, ![1, n]⟩ ![1])
    (h₃ : (⟨2, ![1, n]⟩ : Shape).BroadcastsInDim ⟨2, ![p, n]⟩ ![0, 1]) (h₄)
    (hr : ∀ i, r (px i 0) = root (Ideal.ofBits .f32 bw) (Ideal.ofBits .f32 be) fun k => (x (px i k) : EReal)) (i : Fin p) (j : Fin n) :
    truncf .bf16 (mulf (mulf x (broadcastInDim ⟨2, ![p, n]⟩ ![0, 1] h₁ r)) (broadcastInDim ⟨2, ![p, n]⟩ ![0, 1] h₃ (broadcastInDim ⟨2, ![1, n]⟩ ![1] h₂ g))) h₄ (px i j)
      = (x (px i j) : EReal) * root (Ideal.ofBits .f32 bw) (Ideal.ofBits .f32 be) (fun k => (x (px i k) : EReal)) * g (ValueIdx.ix1 j) :=
  congrArg₂ (fun a b : EReal => x (px i j) * a * b) ((widened_host r h₁ i j).trans (hr i)) ((repeated_host _ h₃ i j).trans (along_host g h₂ 0 j))

end

/-! ### Bands of rows -/

/-- Where each point leaves its band of rows of `f`, the array is `f`. -/
theorem bands {N p n M : ℕ} {φ : FTy} (O : FVec Ideal ⟨2, ![M, n]⟩ φ) (hM : M = p * N) (f : ℕ → Fin n → EReal)
    (h : ∀ (t : Fin N) (r : Fin p) (s : Fin n), at2 O (p * t.val + r.val) (n * 0 + s.val) = f (p * t.val + r.val) s) (i : Fin M) (j : Fin n) : O (px i j) = f i.val j := by
  subst hM
  have hp : 0 < p := Nat.pos_of_mul_pos_right i.pos
  have := h ⟨i.val / p, Nat.div_lt_of_lt_mul i.isLt⟩ ⟨i.val % p, Nat.mod_lt _ hp⟩ j
  rw [Nat.mul_zero, Nat.zero_add, Nat.div_add_mod, at2_ix2] at this
  exact this

/-! ### The gradients' terms at an entry -/

section
variable {p n : ℕ} (bw : BitVec 32)

theorem gained_tile (d : FVec Ideal ⟨2, ![p, n]⟩ .f32) (g : FVec Ideal ⟨2, ![1, n]⟩ .f32) (h₁ h₂) (i : Fin p) (j : Fin n) :
    mulf d (broadcastTo ⟨2, ![p, n]⟩ (shapeCast ⟨2, ![1, n]⟩ g h₁) h₂) (px i j) = (d (px i j) : EReal) * g (px 0 j) := by
  rw [shapeCast_self]
  exact congrArg (fun b : EReal => d (px i j) * b) (broadcastTo_1b_ab_apply g h₂ i j)

theorem gained_host (d : FVec Ideal ⟨2, ![p, n]⟩ .f32) (g : FVec Ideal ⟨1, ![n]⟩ .f32) (h₂ : (⟨1, ![n]⟩ : Shape).BroadcastsInDim ⟨2, ![1, n]⟩ ![1])
    (h₃ : (⟨2, ![1, n]⟩ : Shape).BroadcastsInDim ⟨2, ![p, n]⟩ ![0, 1]) (i : Fin p) (j : Fin n) :
    mulf d (broadcastInDim ⟨2, ![p, n]⟩ ![0, 1] h₃ (broadcastInDim ⟨2, ![1, n]⟩ ![1] h₂ g)) (px i j) = (d (px i j) : EReal) * g (ValueIdx.ix1 j) :=
  congrArg (fun b : EReal => d (px i j) * b) ((repeated_host _ h₃ i j).trans (along_host g h₂ 0 j))

theorem scaled_tile (x : FVec Ideal ⟨2, ![p, n]⟩ .f32) (r : FVec Ideal ⟨2, ![p, 1]⟩ .f32) (h) (i : Fin p) (j : Fin n) :
    mulf x (broadcastTo ⟨2, ![p, n]⟩ r h) (px i j) = (x (px i j) : EReal) * r (px i 0) :=
  congrArg (fun b : EReal => x (px i j) * b) (widened r h i j)

theorem scaled_host (x : FVec Ideal ⟨2, ![p, n]⟩ .f32) (r : FVec Ideal ⟨2, ![p, 1]⟩ .f32) (h : (⟨2, ![p, 1]⟩ : Shape).BroadcastsInDim ⟨2, ![p, n]⟩ ![0, 1]) (i : Fin p) (j : Fin n) :
    mulf x (broadcastInDim ⟨2, ![p, n]⟩ ![0, 1] h r) (px i j) = (x (px i j) : EReal) * r (px i 0) :=
  congrArg (fun b : EReal => x (px i j) * b) (widened_host r h i j)

/-- A tile of the gradient by the row. -/
theorem back_tile (r : FVec Ideal ⟨2, ![p, 1]⟩ .f32) (d h : FVec Ideal ⟨2, ![p, n]⟩ .f32) (h₁ w hr hφ hw hs h₂) (i : Fin p) (j : Fin n) :
    mulf (broadcastTo ⟨2, ![p, n]⟩ r h₁) (subf d (mulf h (broadcastTo ⟨2, ![p, n]⟩
      (divf (shapeCast ⟨2, ![p, 1]⟩ (multiReduction .add [1] ⟨1, ![p]⟩ (mulf d h) w hr hφ hw) hs) (broadcast ⟨2, ![p, 1]⟩ (Scalar.ofBits .f32 bw))) h₂))) (px i j)
      = (r (px i 0) : EReal) * (d (px i j) - h (px i j) * Ideal.div (∑ k, (d (px i k) : EReal) * h (px i k)) (Ideal.ofBits .f32 bw)) :=
  congrArg₂ (fun a b : EReal => a * (d (px i j) - h (px i j) * b)) (widened r h₁ i j)
    ((widened _ h₂ i j).trans (congrArg (fun z => Ideal.div z (Ideal.ofBits .f32 bw)) ((column _ hs i 0).trans (row_sum _ w hr hφ hw i))))

/-- What the reference adds twice to a row, by its element. -/
theorem pull_host (bm : BitVec 32) (x d : FVec Ideal ⟨2, ![p, n]⟩ .f32) (r s : FVec Ideal ⟨2, ![p, 1]⟩ .f32) (hr hu hs hr' hu') (h₁ h₂ : (⟨0, ![]⟩ : Shape).BroadcastsInDim ⟨2, ![p, 1]⟩ ![])
    (h₃ : (⟨1, ![p]⟩ : Shape).BroadcastsInDim ⟨2, ![p, n]⟩ ![0]) (i : Fin p) (j : Fin n) :
    broadcastInDim ⟨2, ![p, n]⟩ ![0] h₃ (Host.reduceAdd (s := ⟨2, ![p, 1]⟩) (axes := [1]) (t := ⟨1, ![p]⟩) (Host.divf (mulf (shapeCast ⟨2, ![p, 1]⟩ (Host.reduceAdd (axes := [1]) (t := ⟨1, ![p]⟩) (mulf x d) (constant ⟨0, ![]⟩ .f32 0x00000000#32) hr hu) hs)
        (mulf (broadcastInDim ⟨2, ![p, 1]⟩ ![] h₁ (constant ⟨0, ![]⟩ .f32 bm)) (Host.divf r s))) (broadcastInDim ⟨2, ![p, 1]⟩ ![] h₂ (constant ⟨0, ![]⟩ .f32 bw)))
        (constant ⟨0, ![]⟩ .f32 0x00000000#32) hr' hu') (px i j)
      = Ideal.div ((∑ k, (x (px i k) : EReal) * d (px i k)) * (Ideal.ofBits .f32 bm * Ideal.div (r (px i 0)) (s (px i 0)))) (Ideal.ofBits .f32 bw) :=
  (down_host _ h₃ i j).trans ((row_sum_host _ hr' hu' i).trans ((Fin.sum_univ_one _).trans
    (congrArg (fun z => Ideal.div (z * (Ideal.ofBits .f32 bm * Ideal.div (r (px i 0)) (s (px i 0)))) (Ideal.ofBits .f32 bw)) ((column _ hs i 0).trans (row_sum_host _ hr hu i)))))

/-- A tile's part of the gradient by the gain, and the reference's whole. -/
theorem gain_tile (f : FVec Ideal ⟨2, ![p, n]⟩ .f32) (w hr hφ hw hs) (k : Fin 1) (j : Fin n) :
    shapeCast ⟨2, ![1, n]⟩ (multiReduction .add [0] ⟨1, ![n]⟩ f w hr hφ hw) hs (px k j) = ∑ i : Fin p, (f (px i j) : EReal) :=
  (row _ hs k j).trans (column_sum f w hr hφ hw j)

theorem gain_host (f : FVec Ideal ⟨2, ![p, n]⟩ .f32) (hr hu hs hr' hu' hs') (k : Fin 1) (j : Fin n) :
    shapeCast ⟨2, ![1, n]⟩ (Host.reduceAdd (s := ⟨2, ![1, n]⟩) (axes := [0]) (t := ⟨1, ![n]⟩) (shapeCast ⟨2, ![1, n]⟩
      (Host.reduceAdd (axes := [0]) (t := ⟨1, ![n]⟩) f (constant ⟨0, ![]⟩ .f32 0x00000000#32) hr hu) hs) (constant ⟨0, ![]⟩ .f32 0x00000000#32) hr' hu') hs' (px k j)
      = ∑ i : Fin p, (f (px i j) : EReal) :=
  (row _ hs' k j).trans ((column_sum_host _ hr' hu' j).trans ((Fin.sum_univ_one _).trans ((row _ hs 0 j).trans (column_sum_host f hr hu j))))

end

/-! ### The constants, and the law with them -/

theorem bits_1024 : Ideal.ofBits .f32 0x44800000#32 = ((1024 : ℝ) : EReal) := by
  simp [Ideal.ofBits, Ideal.ieee, -EReal.coe_mul]; norm_num
theorem bits_384 : Ideal.ofBits .f32 0x43C00000#32 = ((384 : ℝ) : EReal) := by
  simp [Ideal.ofBits, Ideal.ieee, -EReal.coe_mul]; norm_num
theorem bits_256 : Ideal.ofBits .f32 0x43800000#32 = ((256 : ℝ) : EReal) := by
  simp [Ideal.ofBits, Ideal.ieee, -EReal.coe_mul]; norm_num
theorem bits_minus_half : Ideal.ofBits .f32 0xBF000000#32 = ((-1 / 2 : ℝ) : EReal) := by
  simp [Ideal.ofBits, Ideal.ieee, -EReal.coe_mul]; norm_num
theorem bits_small : Ideal.ofBits .f32 0x358637BD#32 = ((8796093 / 2 ^ 43 : ℝ) : EReal) := by
  simp [Ideal.ofBits, Ideal.ieee, -EReal.coe_mul]; norm_num

/-- The gradient by a row, as the calls compute it. -/
def back {n : ℕ} (w e : EReal) (x d : Fin n → EReal) (j : Fin n) : EReal :=
  root w e x * (d j - x j * root w e x * Ideal.div (∑ k, d k * (x k * root w e x)) w)

theorem back_eq {n : ℕ} {bw : BitVec 32} {w : ℝ} (hb : Ideal.ofBits .f32 bw = (w : EReal)) (hw : 0 < w) (x d : Fin n → EReal) (j : Fin n) {P Q : EReal}
    (hP : P = Ideal.div ((∑ k, x k * d k) * (Ideal.ofBits .f32 0xBF000000#32 * Ideal.div (root (Ideal.ofBits .f32 bw) (Ideal.ofBits .f32 0x358637BD#32) x)
      (spread (Ideal.ofBits .f32 bw) (Ideal.ofBits .f32 0x358637BD#32) x))) (Ideal.ofBits .f32 bw))
    (hQ : Q = d j * root (Ideal.ofBits .f32 bw) (Ideal.ofBits .f32 0x358637BD#32) x) :
    Q + x j * P + P * x j = back (Ideal.ofBits .f32 bw) (Ideal.ofBits .f32 0x358637BD#32) x d j := by
  unfold back
  rw [hP, hQ, hb, bits_small, bits_minus_half, gradient hw (by norm_num), add_assoc]

/-! ### A column's sum over bands of rows -/

theorem column_total {N p M : ℕ} (hM : M = p * N) (acc : (t : ℕ) → t < N → EReal) (f : ℕ → EReal)
    (h0 : ∀ h, acc 0 h = ∑ k : Fin p, f (p * 0 + k.val))
    (h1 : ∀ t h, acc (t + 1) h = acc t (Nat.lt_of_succ_lt h) + ∑ k : Fin p, f (p * (t + 1) + k.val)) (t : ℕ) (h : t < N) (ht : t + 1 = N) :
    acc t h = ∑ i : Fin M, f i.val := by
  have key : ∀ t h, acc t h = ∑ c ∈ Finset.range (p * (t + 1)), f c := by
    intro t
    induction t with
    | zero => intro h; rw [h0 h, Fin.sum_univ_eq_sum_range (fun c => f (p * 0 + c))]; simp
    | succ t ih => intro h; rw [h1 t h, ih, Fin.sum_univ_eq_sum_range (fun c => f (p * (t + 1) + c)), Nat.mul_succ p (t + 1), Finset.sum_range_add]
  subst ht hM
  rw [key t h, Fin.sum_univ_eq_sum_range]

/-! ### Stores of what is made of whole loads -/

section
variable {sig : RefSig} {κ : Kind} {sp sp' : Space} {a b a₁ b₁ a₂ b₂ a₃ b₃ a₄ b₄ : ℕ} {e e₁ e₂ e₃ e₄ : EltTy}
  {M₁ : Memref sig κ sp ⟨2, ![a₁, b₁]⟩ e₁} (h₁ : M₁.IsWhole) {M₂ : Memref sig κ sp ⟨2, ![a₂, b₂]⟩ e₂} (h₂ : M₂.IsWhole)
  {M₃ : Memref sig κ sp ⟨2, ![a₃, b₃]⟩ e₃} (h₃ : M₃.IsWhole) {M₄ : Memref sig κ sp ⟨2, ![a₄, b₄]⟩ e₄} (h₄ : M₄.IsWhole)
  (v : View sig κ sp' ⟨2, ![a, b]⟩ e) (old : v.ty.Contents (Elt Ideal)) {i i₁ i₂ i₃ i₄}
  (x : (⟨2, ![a₁, b₁]⟩ : Shape).Idx → Elt Ideal e₁) (y : (⟨2, ![a₂, b₂]⟩ : Shape).Idx → Elt Ideal e₂)
  (z : (⟨2, ![a₃, b₃]⟩ : Shape).Idx → Elt Ideal e₃) (u : (⟨2, ![a₄, b₄]⟩ : Shape).Idx → Elt Ideal e₄)

/-- The last store of a whole buffer is what it reads as. -/
theorem rewrote (w : (⟨2, ![a, b]⟩ : Shape).Idx → Elt Ideal e) (L : List (View.Piece (Elt Ideal) ⟨2, ![a, b]⟩ e)) :
    v.read (Elt Ideal) (v.writes (Elt Ideal) old ((⟨Rect.unit ![0, 0] ![a, b] i, w⟩ : View.Piece (Elt Ideal) ⟨2, ![a, b]⟩ e) :: L)) = w := by
  have hc : ∀ y, ∃ p ∈ (⟨Rect.unit (s := ⟨2, ![a, b]⟩) ![0, 0] ![a, b] i, w⟩ : View.Piece (Elt Ideal) ⟨2, ![a, b]⟩ e) :: L, y ∈ p.1.set := fun y =>
    ⟨_, List.mem_cons_self, View.mem_set_unit_zero zz i y⟩
  rw [View.read_writes_eq_canon v old _ hc]
  exact View.canon_cons_unit_zero (S := ⟨2, ![a, b]⟩) zz i w L

theorem left₃ (f : ((⟨2, ![a₁, b₁]⟩ : Shape).Idx → Elt Ideal e₁) → ((⟨2, ![a₂, b₂]⟩ : Shape).Idx → Elt Ideal e₂) → ((⟨2, ![a₃, b₃]⟩ : Shape).Idx → Elt Ideal e₃) → (⟨2, ![a, b]⟩ : Shape).Idx → Elt Ideal e)
    (L : List (View.Piece (Elt Ideal) ⟨2, ![a, b]⟩ e)) :
    v.read (Elt Ideal) (v.writes (Elt Ideal) old ((⟨Rect.unit ![0, 0] ![a, b] i,
      f (M₁.view.readAt (Elt Ideal) (Rect.unit (s := ⟨2, ![a₁, b₁]⟩) ![0, 0] ![a₁, b₁] i₁).toLoadRect (h₁.unread x))
        (M₂.view.readAt (Elt Ideal) (Rect.unit (s := ⟨2, ![a₂, b₂]⟩) ![0, 0] ![a₂, b₂] i₂).toLoadRect (h₂.unread y))
        (M₃.view.readAt (Elt Ideal) (Rect.unit (s := ⟨2, ![a₃, b₃]⟩) ![0, 0] ![a₃, b₃] i₃).toLoadRect (h₃.unread z))⟩ : View.Piece (Elt Ideal) ⟨2, ![a, b]⟩ e) :: L)) = f x y z := by
  rw [rewrote, loaded h₁, loaded h₂, loaded h₃]

/-- The same where the third was set in this run and read back. -/
theorem left₂ {i' : ∀ k, ![0, 0] k + ![a₃, b₃] k ≤ (⟨2, ![a₃, b₃]⟩ : Shape).size k} (v₃ : View sig κ sp' ⟨2, ![a₃, b₃]⟩ e₃) (f : ((⟨2, ![a₁, b₁]⟩ : Shape).Idx → Elt Ideal e₁) → ((⟨2, ![a₂, b₂]⟩ : Shape).Idx → Elt Ideal e₂) → ((⟨2, ![a₃, b₃]⟩ : Shape).Idx → Elt Ideal e₃) → (⟨2, ![a, b]⟩ : Shape).Idx → Elt Ideal e)
    (L : List (View.Piece (Elt Ideal) ⟨2, ![a, b]⟩ e)) :
    v.read (Elt Ideal) (v.writes (Elt Ideal) old ((⟨Rect.unit ![0, 0] ![a, b] i,
      f (M₁.view.readAt (Elt Ideal) (Rect.unit (s := ⟨2, ![a₁, b₁]⟩) ![0, 0] ![a₁, b₁] i₁).toLoadRect (h₁.unread x))
        (M₂.view.readAt (Elt Ideal) (Rect.unit (s := ⟨2, ![a₂, b₂]⟩) ![0, 0] ![a₂, b₂] i₂).toLoadRect (h₂.unread y))
        (v₃.readCov [(⟨Rect.unit (s := ⟨2, ![a₃, b₃]⟩) ![0, 0] ![a₃, b₃] i', z⟩ : View.Piece (Elt Ideal) ⟨2, ![a₃, b₃]⟩ e₃)] (Rect.unit (s := ⟨2, ![a₃, b₃]⟩) ![0, 0] ![a₃, b₃] i').toLoadRect)⟩ : View.Piece (Elt Ideal) ⟨2, ![a, b]⟩ e) :: L)) = f x y z := by
  rw [rewrote, loaded h₁, loaded h₂, reread]

theorem left₃₁ {i' : ∀ k, ![0, 0] k + ![a₄, b₄] k ≤ (⟨2, ![a₄, b₄]⟩ : Shape).size k} (v₄ : View sig κ sp' ⟨2, ![a₄, b₄]⟩ e₄) (f : ((⟨2, ![a₁, b₁]⟩ : Shape).Idx → Elt Ideal e₁) → ((⟨2, ![a₂, b₂]⟩ : Shape).Idx → Elt Ideal e₂) → ((⟨2, ![a₃, b₃]⟩ : Shape).Idx → Elt Ideal e₃) → ((⟨2, ![a₄, b₄]⟩ : Shape).Idx → Elt Ideal e₄) → (⟨2, ![a, b]⟩ : Shape).Idx → Elt Ideal e)
    (L : List (View.Piece (Elt Ideal) ⟨2, ![a, b]⟩ e)) :
    v.read (Elt Ideal) (v.writes (Elt Ideal) old ((⟨Rect.unit ![0, 0] ![a, b] i,
      f (M₁.view.readAt (Elt Ideal) (Rect.unit (s := ⟨2, ![a₁, b₁]⟩) ![0, 0] ![a₁, b₁] i₁).toLoadRect (h₁.unread x))
        (M₂.view.readAt (Elt Ideal) (Rect.unit (s := ⟨2, ![a₂, b₂]⟩) ![0, 0] ![a₂, b₂] i₂).toLoadRect (h₂.unread y))
        (M₃.view.readAt (Elt Ideal) (Rect.unit (s := ⟨2, ![a₃, b₃]⟩) ![0, 0] ![a₃, b₃] i₃).toLoadRect (h₃.unread z))
        (v₄.readCov [(⟨Rect.unit (s := ⟨2, ![a₄, b₄]⟩) ![0, 0] ![a₄, b₄] i', u⟩ : View.Piece (Elt Ideal) ⟨2, ![a₄, b₄]⟩ e₄)] (Rect.unit (s := ⟨2, ![a₄, b₄]⟩) ![0, 0] ![a₄, b₄] i').toLoadRect)⟩ : View.Piece (Elt Ideal) ⟨2, ![a, b]⟩ e) :: L)) = f x y z u := by
  rw [rewrote, loaded h₁, loaded h₂, loaded h₃, reread]

theorem left₄ (f : ((⟨2, ![a₁, b₁]⟩ : Shape).Idx → Elt Ideal e₁) → ((⟨2, ![a₂, b₂]⟩ : Shape).Idx → Elt Ideal e₂) → ((⟨2, ![a₃, b₃]⟩ : Shape).Idx → Elt Ideal e₃) → ((⟨2, ![a₄, b₄]⟩ : Shape).Idx → Elt Ideal e₄) → (⟨2, ![a, b]⟩ : Shape).Idx → Elt Ideal e)
    (L : List (View.Piece (Elt Ideal) ⟨2, ![a, b]⟩ e)) :
    v.read (Elt Ideal) (v.writes (Elt Ideal) old ((⟨Rect.unit ![0, 0] ![a, b] i,
      f (M₁.view.readAt (Elt Ideal) (Rect.unit (s := ⟨2, ![a₁, b₁]⟩) ![0, 0] ![a₁, b₁] i₁).toLoadRect (h₁.unread x))
        (M₂.view.readAt (Elt Ideal) (Rect.unit (s := ⟨2, ![a₂, b₂]⟩) ![0, 0] ![a₂, b₂] i₂).toLoadRect (h₂.unread y))
        (M₃.view.readAt (Elt Ideal) (Rect.unit (s := ⟨2, ![a₃, b₃]⟩) ![0, 0] ![a₃, b₃] i₃).toLoadRect (h₃.unread z))
        (M₄.view.readAt (Elt Ideal) (Rect.unit (s := ⟨2, ![a₄, b₄]⟩) ![0, 0] ![a₄, b₄] i₄).toLoadRect (h₄.unread u))⟩ : View.Piece (Elt Ideal) ⟨2, ![a, b]⟩ e) :: L)) = f x y z u := by
  rw [rewrote, loaded h₁, loaded h₂, loaded h₃, loaded h₄]

end

/-! ### An array by its rows -/

def rows {a b : ℕ} {φ : FTy} (X : FVec Ideal ⟨2, ![a, b]⟩ φ) (i : ℕ) (k : Fin b) : EReal := at2 X i (0 + k.val)

theorem rows_at {a b : ℕ} {φ : FTy} (X : FVec Ideal ⟨2, ![a, b]⟩ φ) (i : Fin a) (k : Fin b) : rows X i.val k = X (px i k) := by
  unfold rows
  rw [Nat.zero_add, at2_ix2]

/-- A band of an array's rows, read through a block. -/
theorem rows_block {a b p n : ℕ} {φ : FTy} (X : FVec Ideal ⟨2, ![a, b]⟩ φ) {q : (⟨2, ![a, b]⟩ : Shape).Idx} {t u v r : ℕ} {s : Fin b}
    (e : u = t ∧ v = 0) (h0 : (q 0).val = u * p + 1 * r) (h1 : (q 1).val = v * n + 1 * s.val) : X q = rows X (p * t + r) s := by
  have := at_block X e h0 h1
  rw [Nat.mul_zero] at this
  exact this

/-! ### The gradients of a norm at an entry, on a tile and in the reference -/

section
variable {p n : ℕ} {bw be : BitVec 32} (x d : FVec Ideal ⟨2, ![p, n]⟩ .f32) {r s : FVec Ideal ⟨2, ![p, 1]⟩ .f32}
  (hrt : ∀ i : Fin p, r (px i 0) = root (Ideal.ofBits .f32 bw) (Ideal.ofBits .f32 be) (fun k : Fin n => x (px i k)))

include hrt in
theorem graded_tile (g : FVec Ideal ⟨2, ![1, n]⟩ .f32) (h₁ h₂ h₃ h₄ w hr hφ hw hs h₅) (i : Fin p) (j : Fin n) :
    mulf (broadcastTo ⟨2, ![p, n]⟩ r h₁) (subf (mulf d (broadcastTo ⟨2, ![p, n]⟩ (shapeCast ⟨2, ![1, n]⟩ g h₂) h₃)) (mulf (mulf x (broadcastTo ⟨2, ![p, n]⟩ r h₄)) (broadcastTo ⟨2, ![p, n]⟩
      (divf (shapeCast ⟨2, ![p, 1]⟩ (multiReduction .add [1] ⟨1, ![p]⟩ (mulf (mulf d (broadcastTo ⟨2, ![p, n]⟩ (shapeCast ⟨2, ![1, n]⟩ g h₂) h₃)) (mulf x (broadcastTo ⟨2, ![p, n]⟩ r h₄))) w hr hφ hw) hs)
        (broadcast ⟨2, ![p, 1]⟩ (Scalar.ofBits .f32 bw))) h₅))) (px i j)
      = back (Ideal.ofBits .f32 bw) (Ideal.ofBits .f32 be) (fun k => x (px i k)) (fun k => (d (px i k) : EReal) * g (px 0 k)) j := by
  rw [back_tile]
  simp only [gained_tile, scaled_tile, hrt]
  rfl

include hrt in
theorem gain_part (h₁ w hr hφ hw hs) (k : Fin 1) (j : Fin n) :
    shapeCast ⟨2, ![1, n]⟩ (multiReduction .add [0] ⟨1, ![n]⟩ (mulf d (mulf x (broadcastTo ⟨2, ![p, n]⟩ r h₁))) w hr hφ hw) hs (px k j)
      = ∑ i : Fin p, (d (px i j) : EReal) * (x (px i j) * root (Ideal.ofBits .f32 bw) (Ideal.ofBits .f32 be) (fun k : Fin n => x (px i k))) :=
  (gain_tile _ w hr hφ hw hs k j).trans (Finset.sum_congr rfl fun i _ => congrArg (fun b : EReal => d (px i j) * b) ((scaled_tile x r h₁ i j).trans (by rw [hrt])))

include hrt in
theorem gain_whole (h₁ : (⟨2, ![p, 1]⟩ : Shape).BroadcastsInDim ⟨2, ![p, n]⟩ ![0, 1]) (hr hu hs hr' hu' hs') (k : Fin 1) (j : Fin n) :
    shapeCast ⟨2, ![1, n]⟩ (Host.reduceAdd (s := ⟨2, ![1, n]⟩) (axes := [0]) (t := ⟨1, ![n]⟩) (shapeCast ⟨2, ![1, n]⟩
      (Host.reduceAdd (axes := [0]) (t := ⟨1, ![n]⟩) (mulf (mulf x (broadcastInDim ⟨2, ![p, n]⟩ ![0, 1] h₁ r)) d) (constant ⟨0, ![]⟩ .f32 0x00000000#32) hr hu) hs) (constant ⟨0, ![]⟩ .f32 0x00000000#32) hr' hu') hs' (px k j)
      = ∑ i : Fin p, (d (px i j) : EReal) * (x (px i j) * root (Ideal.ofBits .f32 bw) (Ideal.ofBits .f32 be) (fun k : Fin n => x (px i k))) :=
  (gain_host _ hr hu hs hr' hu' hs' k j).trans (Finset.sum_congr rfl fun i _ => (congrArg (fun b : EReal => b * d (px i j)) ((scaled_host x r h₁ i j).trans (by rw [hrt]))).trans (mul_comm _ _))

/-- The reference's gradient by the row, at an entry; `d` is what reaches the row, times the gain. -/
theorem graded_host {w : ℝ} (hb : Ideal.ofBits .f32 bw = (w : EReal)) (hw : 0 < w)
    (hrt : ∀ i : Fin p, r (px i 0) = root (Ideal.ofBits .f32 bw) (Ideal.ofBits .f32 0x358637BD#32) (fun k : Fin n => x (px i k)))
    (hst : ∀ i : Fin p, s (px i 0) = spread (Ideal.ofBits .f32 bw) (Ideal.ofBits .f32 0x358637BD#32) (fun k : Fin n => x (px i k)))
    (h₀ : (⟨2, ![p, 1]⟩ : Shape).BroadcastsInDim ⟨2, ![p, n]⟩ ![0, 1]) (hr hu hs hr' hu') (h₁ h₂ : (⟨0, ![]⟩ : Shape).BroadcastsInDim ⟨2, ![p, 1]⟩ ![])
    (h₃ : (⟨1, ![p]⟩ : Shape).BroadcastsInDim ⟨2, ![p, n]⟩ ![0]) (i : Fin p) (j : Fin n) :
    addf (addf (mulf d (broadcastInDim ⟨2, ![p, n]⟩ ![0, 1] h₀ r))
      (mulf x (broadcastInDim ⟨2, ![p, n]⟩ ![0] h₃ (Host.reduceAdd (s := ⟨2, ![p, 1]⟩) (axes := [1]) (t := ⟨1, ![p]⟩) (Host.divf (mulf (shapeCast ⟨2, ![p, 1]⟩ (Host.reduceAdd (axes := [1]) (t := ⟨1, ![p]⟩) (mulf x d) (constant ⟨0, ![]⟩ .f32 0x00000000#32) hr hu) hs)
        (mulf (broadcastInDim ⟨2, ![p, 1]⟩ ![] h₁ (constant ⟨0, ![]⟩ .f32 0xBF000000#32)) (Host.divf r s))) (broadcastInDim ⟨2, ![p, 1]⟩ ![] h₂ (constant ⟨0, ![]⟩ .f32 bw)))
        (constant ⟨0, ![]⟩ .f32 0x00000000#32) hr' hu'))))
      (mulf (broadcastInDim ⟨2, ![p, n]⟩ ![0] h₃ (Host.reduceAdd (s := ⟨2, ![p, 1]⟩) (axes := [1]) (t := ⟨1, ![p]⟩) (Host.divf (mulf (shapeCast ⟨2, ![p, 1]⟩ (Host.reduceAdd (axes := [1]) (t := ⟨1, ![p]⟩) (mulf x d) (constant ⟨0, ![]⟩ .f32 0x00000000#32) hr hu) hs)
        (mulf (broadcastInDim ⟨2, ![p, 1]⟩ ![] h₁ (constant ⟨0, ![]⟩ .f32 0xBF000000#32)) (Host.divf r s))) (broadcastInDim ⟨2, ![p, 1]⟩ ![] h₂ (constant ⟨0, ![]⟩ .f32 bw)))
        (constant ⟨0, ![]⟩ .f32 0x00000000#32) hr' hu')) x) (px i j)
      = back (Ideal.ofBits .f32 bw) (Ideal.ofBits .f32 0x358637BD#32) (fun k => x (px i k)) (fun k => d (px i k)) j :=
  back_eq hb hw (fun k => x (px i k)) (fun k => d (px i k)) j ((pull_host bw _ x d r s hr hu hs hr' hu' h₁ h₂ h₃ i j).trans (by rw [hrt, hst]))
    ((scaled_host d r h₀ i j).trans (by rw [hrt]))

end

/-! ### The loss at the end of the forward pass -/

theorem bits_half : Ideal.ofBits .f32 0x3F000000#32 = ((1 / 2 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_part : Ideal.ofBits .f32 0x3A800000#32 = ((1 / 1024 : ℝ) : EReal) := by
  simp [Ideal.ofBits, Ideal.ieee, -EReal.coe_mul]; norm_num

/-- By how much a normed row misses its target. -/
def miss {n : ℕ} (w e : EReal) (x g y : Fin n → EReal) (j : Fin n) : EReal := x j * root w e x * g j - y j

/-- Half the mean square of a row. -/
def cost {n : ℕ} (w : EReal) (d : Fin n → EReal) : EReal := Ideal.ofBits .f32 0x3F000000#32 * Ideal.div (∑ k, d k * d k) w

theorem half_sum {p : ℕ} (f : Fin p → EReal) : Ideal.ofBits .f32 0x3F000000#32 * ∑ i, f i = ∑ i, Ideal.ofBits .f32 0x3F000000#32 * f i := by
  rw [bits_half, mul_comm, sum_mul_real _ _ (by norm_num)]
  exact Finset.sum_congr rfl fun _ _ => mul_comm _ _

section
variable {p n : ℕ} {bw be : BitVec 32} (x y d : FVec Ideal ⟨2, ![p, n]⟩ .f32) {r : FVec Ideal ⟨2, ![p, 1]⟩ .f32}
  (hrt : ∀ i : Fin p, r (px i 0) = root (Ideal.ofBits .f32 bw) (Ideal.ofBits .f32 be) (fun k : Fin n => x (px i k)))

include hrt in
theorem miss_tile (g : FVec Ideal ⟨2, ![1, n]⟩ .f32) (h₁ h₂ h₃) (i : Fin p) (j : Fin n) :
    subf (mulf (mulf x (broadcastTo ⟨2, ![p, n]⟩ r h₁)) (broadcastTo ⟨2, ![p, n]⟩ (shapeCast ⟨2, ![1, n]⟩ g h₂) h₃)) y (px i j)
      = miss (Ideal.ofBits .f32 bw) (Ideal.ofBits .f32 be) (fun k => x (px i k)) (fun k => g (px 0 k)) (fun k => y (px i k)) j :=
  congrArg (fun b : EReal => b - y (px i j)) ((gained_tile _ g h₂ h₃ i j).trans (congrArg (fun b : EReal => b * g (px 0 j)) ((scaled_tile x r h₁ i j).trans (by rw [hrt]))))

include hrt in
theorem miss_host (g : FVec Ideal ⟨1, ![n]⟩ .f32) (h₁ : (⟨2, ![p, 1]⟩ : Shape).BroadcastsInDim ⟨2, ![p, n]⟩ ![0, 1]) (h₂ : (⟨1, ![n]⟩ : Shape).BroadcastsInDim ⟨2, ![1, n]⟩ ![1])
    (h₃ : (⟨2, ![1, n]⟩ : Shape).BroadcastsInDim ⟨2, ![p, n]⟩ ![0, 1]) (i : Fin p) (j : Fin n) :
    subf (mulf (mulf x (broadcastInDim ⟨2, ![p, n]⟩ ![0, 1] h₁ r)) (broadcastInDim ⟨2, ![p, n]⟩ ![0, 1] h₃ (broadcastInDim ⟨2, ![1, n]⟩ ![1] h₂ g))) y (px i j)
      = miss (Ideal.ofBits .f32 bw) (Ideal.ofBits .f32 be) (fun k => x (px i k)) (fun k => g (ValueIdx.ix1 k)) (fun k => y (px i k)) j :=
  congrArg (fun b : EReal => b - y (px i j)) ((gained_host _ g h₂ h₃ i j).trans (congrArg (fun b : EReal => b * g (ValueIdx.ix1 j)) ((scaled_host x r h₁ i j).trans (by rw [hrt]))))

theorem cost_tile {q : ℕ} (w hr hφ hw hs w' hr' hφ' hw' hs' hs'' h₁) (k : Fin 1) (j : Fin q) :
    broadcastTo ⟨2, ![1, q]⟩ (shapeCast ⟨2, ![1, 1]⟩ (mulf (broadcast ⟨2, ![1, 1]⟩ (Scalar.ofBits .f32 0x3F000000#32)) (shapeCast ⟨2, ![1, 1]⟩
      (multiReduction .add [0] ⟨1, ![1]⟩ (divf (shapeCast ⟨2, ![p, 1]⟩ (multiReduction .add [1] ⟨1, ![p]⟩ (mulf d d) w hr hφ hw) hs) (broadcast ⟨2, ![p, 1]⟩ (Scalar.ofBits .f32 bw))) w' hr' hφ' hw') hs')) hs'') h₁ (px k j)
      = ∑ i : Fin p, cost (Ideal.ofBits .f32 bw) (fun k => d (px i k)) := by
  rw [shapeCast_self]
  refine (widened _ h₁ k j).trans (Eq.trans ?_ (half_sum fun i : Fin p => Ideal.div (∑ k, (d (px i k) : EReal) * d (px i k)) (Ideal.ofBits .f32 bw)))
  exact congrArg (Ideal.ofBits .f32 0x3F000000#32 * ·) ((gain_tile _ w' hr' hφ' hw' hs' k 0).trans (Finset.sum_congr rfl fun i _ =>
    congrArg (fun z => Ideal.div z (Ideal.ofBits .f32 bw)) ((column _ hs i 0).trans (row_sum _ w hr hφ hw i))))

theorem cost_host {q : ℕ} (hr hu) (hr' : (⟨1, ![p]⟩ : Shape).ReducesTo [0] ⟨0, ![]⟩) (hu') (h₁ : (⟨0, ![]⟩ : Shape).BroadcastsInDim ⟨1, ![p]⟩ ![]) (h₂ : (⟨0, ![]⟩ : Shape).BroadcastsInDim ⟨2, ![1, q]⟩ ![]) (k : Fin 1) (j : Fin q) :
    broadcastInDim ⟨2, ![1, q]⟩ ![] h₂ (mulf (constant ⟨0, ![]⟩ .f32 0x3F000000#32) (Host.reduceAdd (axes := [0]) (t := ⟨0, ![]⟩) (Host.divf (Host.reduceAdd (axes := [1]) (t := ⟨1, ![p]⟩) (mulf d d)
      (constant ⟨0, ![]⟩ .f32 0x00000000#32) hr hu) (broadcastInDim ⟨1, ![p]⟩ ![] h₁ (constant ⟨0, ![]⟩ .f32 bw))) (constant ⟨0, ![]⟩ .f32 0x00000000#32) hr' hu')) (px k j)
      = ∑ i : Fin p, cost (Ideal.ofBits .f32 bw) (fun k => d (px i k)) := by
  refine (broadcastInDim_apply _ h₂ _ _ (fun ax : Fin 0 => ax.elim0) fun ax => ax.elim0).trans (Eq.trans ?_ (half_sum fun i : Fin p => Ideal.div (∑ k, (d (px i k) : EReal) * d (px i k)) (Ideal.ofBits .f32 bw)))
  exact congrArg (Ideal.ofBits .f32 0x3F000000#32 * ·) ((Ideal.hostReduceAdd_r1_a0 hr' _ _ _).trans ((congrArg (· + _) Ideal.ofBits_zero_f32).trans ((zero_add _).trans (Finset.sum_congr rfl fun i _ =>
    congrArg (fun z => Ideal.div z (Ideal.ofBits .f32 bw)) (row_sum_host _ hr hu i)))))

/-- The slope of half a mean square. -/
theorem slope_host (h₀ : (⟨1, ![p]⟩ : Shape).BroadcastsInDim ⟨2, ![p, n]⟩ ![0]) (h₁ h₂ : (⟨0, ![]⟩ : Shape).BroadcastsInDim ⟨1, ![p]⟩ ![]) (h₃ : (⟨0, ![]⟩ : Shape).BroadcastsInDim ⟨2, ![p, n]⟩ ![]) (i : Fin p) (j : Fin n) :
    mulf (broadcastInDim ⟨2, ![p, n]⟩ ![0] h₀ (Host.divf (broadcastInDim ⟨1, ![p]⟩ ![] h₁ (mulf (constant ⟨0, ![]⟩ .f32 0x3F000000#32) (constant ⟨0, ![]⟩ .f32 0x3F800000#32)))
      (broadcastInDim ⟨1, ![p]⟩ ![] h₂ (constant ⟨0, ![]⟩ .f32 0x44800000#32)))) (mulf (broadcastInDim ⟨2, ![p, n]⟩ ![] h₃ (constant ⟨0, ![]⟩ .f32 0x40000000#32)) d) (px i j)
      = (d (px i j) : EReal) * Ideal.ofBits .f32 0x3A800000#32 := by
  refine (congrArg (fun b : EReal => b * (Ideal.ofBits .f32 0x40000000#32 * d (px i j))) (down_host _ h₀ i j)).trans ?_
  show Ideal.div (Ideal.ofBits .f32 0x3F000000#32 * Ideal.ofBits .f32 0x3F800000#32) (Ideal.ofBits .f32 0x44800000#32) * (Ideal.ofBits .f32 0x40000000#32 * d (px i j)) = _
  rw [bits_half, Ideal.ofBits_one_f32, bits_1024, bits_two, bits_part, mul_one, div_real _ (by norm_num), ← mul_assoc, ← EReal.coe_mul, ← EReal.coe_mul, mul_comm]
  norm_num

end

end Cert.Rows
-- ==== Proof.NormForward.lean ====
/-
  The norms forward: each array the kernel leaves is the reference's.
-/
module
public import Idealize.ShloMosaic.Lib.StableHlo.ReadAt
public import proofs.«01_k».proof.Proof.Rows
public import proofs.«01_k».proof.Proof.Gen.NormIdeal.Value
public import proofs.«01_k».proof.Proof.Gen.NormRefIdeal.Run
public import proofs.«01_k».proof.Proof.Gen.QNormIdeal.Value
public import proofs.«01_k».proof.Proof.Gen.QNormRefIdeal.Run
public import proofs.«01_k».proof.Proof.Gen.KvNormIdeal.Value
public import proofs.«01_k».proof.Proof.Gen.KvNormRefIdeal.Run
public import proofs.«01_k».proof.Defs

@[expose] public section

set_option maxRecDepth 20000

noncomputable section

open Idealize.ShloMosaic Idealize.ShloMosaic.TcCoe Cert.Product Cert.Rows

/-! ### The norm before a layer's attention or multilayer part -/

namespace Cert.NormIdeal.Sum
open Cert.NormIdeal Cert.NormIdeal.Gen Cert.NormIdeal.Value

theorem places : ∀ t : Fin cfg0.N, (cfg0.win 2).flush t = true ∧ (win0_0.index t 0 = t.val ∧ win0_0.index t 1 = 0)
    ∧ (win0_1.index t 0 = 0 ∧ win0_1.index t 1 = 0) ∧ win0_2.index t 0 = t.val ∧ win0_2.index t 1 = 0 :=
  (by decide +kernel : ∀ t : Fin grid0.N, _)

section
variable (m : (ℓ : Loc nD τ sig) → Buf (Elt Ideal) ℓ) (c : Dev nD)

theorem gain : V m c main_v0 = shapeCast S1x1024 (m ((c.tc : Thread nD τ).loc main_arg1)) shapeCasts_S1024_S1x1024 := by
  unfold V
  after_reads_simp
  rfl

theorem array (i : Fin 16384) (j : Fin 1024) : ((dats m 0 c).arrAt 2 cfg0.N : FVec Ideal S16384x1024 .bf16) (px i j)
    = normed 0x44800000#32 0x358637BD#32 (fun i (k : Fin 1024) => @at2 16384 1024 .f32 (V m c main_arg0) i (0 + k.val))
      (fun j => @at2 1 1024 .f32 (V m c main_v0) 0 (0 + j.val)) i.val j :=
  bands (p := 2048) (φ := .bf16) _ (congrArg (2048 * ·) N_0.symm) _
    (fun t r s => (at_block (a := 16384) (b := 1024) (φ := .bf16) _ (places t).2.2.2 rfl rfl).symm.trans
      ((congrFun ((blocks2 m c t (places t).1).trans (flushed2 m c t)) (px r s)).trans (by
        show out0_2 _ _ (px r s) = _
        unfold out0_2
        refine (congrFun (kept₂ (e := .bf16) (e' := .f32) (e'' := .f32) (k0_pay1 (F := Ideal)) _ _) _).trans ?_
        unfold k0_pay1
        refine (normed_tile (p := 2048) (n := 1024) 0x44800000#32 0x358637BD#32 _ _ _ _ _ _ _ (fun i => rstd_tile _ _ _ _ _ _ _ _ i 0) r s).trans ?_
        unfold normed
        have hx : ∀ k, iblk m c 0 t (px r k) = @at2 16384 1024 .f32 (V m c main_arg0) (2048 * t.val + r.val) (0 + k.val) := fun k =>
          at_block (a := 16384) (b := 1024) (φ := .f32) _ (places t).2.1 rfl rfl
        have hg : iblk m c 1 t (px 0 s) = @at2 1 1024 .f32 (V m c main_v0) 0 (0 + s.val) :=
          at_block (a := 1) (b := 1024) (φ := .f32) (V m c main_v0) (places t).2.2.1 (q := 1) (r := 0) (h := 1024) (s := s.val) rfl rfl
        exact congrArg₂ (· * ·) (congrArg₂ (· * ·) (hx s) (congrArg _ (funext hx))) hg))) i j

end

/-- The kernel and the reference end with the same array. -/
theorem algebraic : algebraic_NormIdeal_NormRefIdeal (hNormIdeal := Cert.NormIdeal.Gen.facts) (hNormRefIdeal := Cert.NormRefIdeal.Gen.facts) := by
  intro m g m' g' _ hm
  refine ⟨fun c => (dats m 0 c).arrAt 2 cfg0.N, run_blocks m g, ?_⟩
  refine (θ_run Cert.NormRefIdeal.defs _ _).mono (fun r h c => ⟨(h c).1.trans ?_, (h c).2⟩) (Cert.NormRefIdeal.Value.run m' g')
  obtain ⟨e0, e1⟩ := hm c
  rw [e0, e1]
  refine ext2 (a := 16384) (b := 1024) fun i j => ?_
  refine (normed_host (p := 16384) (n := 1024) 0x44800000#32 0x358637BD#32 _ _ _ _ _ _ _ (fun i => congrArg Ideal.rsqrt (spread_host _ _ _ _ _ _ _ _ i 0)) i j).trans ((array m c i j).trans ?_).symm
  unfold normed
  simp only [Nat.zero_add, at2_ix2 (a := 16384) (b := 1024)]
  rw [gain, V_main_arg0]
  exact congrArg _ ((at2_ix2 (a := 1) (b := 1024) _ 0 j).trans (row _ _ 0 j))

end Cert.NormIdeal.Sum

/-! ### The norm of the latent queries -/

namespace Cert.QNormIdeal.Sum
open Cert.QNormIdeal Cert.QNormIdeal.Gen Cert.QNormIdeal.Value

theorem places : ∀ t : Fin cfg0.N, (cfg0.win 2).flush t = true ∧ (win0_0.index t 0 = t.val ∧ win0_0.index t 1 = 0)
    ∧ (win0_1.index t 0 = 0 ∧ win0_1.index t 1 = 0) ∧ win0_2.index t 0 = t.val ∧ win0_2.index t 1 = 0 :=
  (by decide +kernel : ∀ t : Fin grid0.N, _)

section
variable (m : (ℓ : Loc nD τ sig) → Buf (Elt Ideal) ℓ) (c : Dev nD)

theorem gain : V m c main_v0 = shapeCast S1x384 (m ((c.tc : Thread nD τ).loc main_arg1)) shapeCasts_S384_S1x384 := by
  unfold V
  after_reads_simp
  rfl

theorem array (i : Fin 16384) (j : Fin 384) : ((dats m 0 c).arrAt 2 cfg0.N : FVec Ideal S16384x384 .bf16) (px i j)
    = normed 0x43C00000#32 0x358637BD#32 (fun i (k : Fin 384) => @at2 16384 384 .f32 (V m c main_arg0) i (0 + k.val))
      (fun j => @at2 1 384 .f32 (V m c main_v0) 0 (0 + j.val)) i.val j :=
  bands (p := 4096) (φ := .bf16) _ (congrArg (4096 * ·) N_0.symm) _
    (fun t r s => (at_block (a := 16384) (b := 384) (φ := .bf16) _ (places t).2.2.2 rfl rfl).symm.trans
      ((congrFun ((blocks2 m c t (places t).1).trans (flushed2 m c t)) (px r s)).trans (by
        show out0_2 _ _ (px r s) = _
        unfold out0_2
        refine (congrFun (kept₂ (e := .bf16) (e' := .f32) (e'' := .f32) (k0_pay1 (F := Ideal)) _ _) _).trans ?_
        unfold k0_pay1
        refine (normed_tile (p := 4096) (n := 384) 0x43C00000#32 0x358637BD#32 _ _ _ _ _ _ _ (fun i => rstd_tile _ _ _ _ _ _ _ _ i 0) r s).trans ?_
        unfold normed
        have hx : ∀ k, iblk m c 0 t (px r k) = @at2 16384 384 .f32 (V m c main_arg0) (4096 * t.val + r.val) (0 + k.val) := fun k =>
          at_block (a := 16384) (b := 384) (φ := .f32) _ (places t).2.1 rfl rfl
        have hg : iblk m c 1 t (px 0 s) = @at2 1 384 .f32 (V m c main_v0) 0 (0 + s.val) :=
          at_block (a := 1) (b := 384) (φ := .f32) (V m c main_v0) (places t).2.2.1 (q := 1) (r := 0) (h := 384) (s := s.val) rfl rfl
        exact congrArg₂ (· * ·) (congrArg₂ (· * ·) (hx s) (congrArg _ (funext hx))) hg))) i j

end

/-- The kernel and the reference end with the same array. -/
theorem algebraic : algebraic_QNormIdeal_QNormRefIdeal (hQNormIdeal := Cert.QNormIdeal.Gen.facts) (hQNormRefIdeal := Cert.QNormRefIdeal.Gen.facts) := by
  intro m g m' g' _ hm
  refine ⟨fun c => (dats m 0 c).arrAt 2 cfg0.N, run_blocks m g, ?_⟩
  refine (θ_run Cert.QNormRefIdeal.defs _ _).mono (fun r h c => ⟨(h c).1.trans ?_, (h c).2⟩) (Cert.QNormRefIdeal.Value.run m' g')
  obtain ⟨e0, e1⟩ := hm c
  rw [e0, e1]
  refine ext2 (a := 16384) (b := 384) fun i j => ?_
  refine (normed_host (p := 16384) (n := 384) 0x43C00000#32 0x358637BD#32 _ _ _ _ _ _ _ (fun i => congrArg Ideal.rsqrt (spread_host _ _ _ _ _ _ _ _ i 0)) i j).trans ((array m c i j).trans ?_).symm
  unfold normed
  simp only [Nat.zero_add, at2_ix2 (a := 16384) (b := 384)]
  rw [gain, V_main_arg0]
  exact congrArg _ ((at2_ix2 (a := 1) (b := 384) _ 0 j).trans (row _ _ 0 j))

end Cert.QNormIdeal.Sum

/-! ### The norm of the latent keys and values -/

namespace Cert.KvNormIdeal.Sum
open Cert.KvNormIdeal Cert.KvNormIdeal.Gen Cert.KvNormIdeal.Value

theorem places : ∀ t : Fin cfg0.N, (cfg0.win 2).flush t = true ∧ (win0_0.index t 0 = t.val ∧ win0_0.index t 1 = 0)
    ∧ (win0_1.index t 0 = 0 ∧ win0_1.index t 1 = 0) ∧ win0_2.index t 0 = t.val ∧ win0_2.index t 1 = 0 :=
  (by decide +kernel : ∀ t : Fin grid0.N, _)

section
variable (m : (ℓ : Loc nD τ sig) → Buf (Elt Ideal) ℓ) (c : Dev nD)

theorem gain : V m c main_v0 = shapeCast S1x256 (m ((c.tc : Thread nD τ).loc main_arg1)) shapeCasts_S256_S1x256 := by
  unfold V
  after_reads_simp
  rfl

theorem array (i : Fin 16384) (j : Fin 256) : ((dats m 0 c).arrAt 2 cfg0.N : FVec Ideal S16384x256 .bf16) (px i j)
    = normed 0x43800000#32 0x358637BD#32 (fun i (k : Fin 256) => @at2 16384 256 .f32 (V m c main_arg0) i (0 + k.val))
      (fun j => @at2 1 256 .f32 (V m c main_v0) 0 (0 + j.val)) i.val j :=
  bands (p := 8192) (φ := .bf16) _ (congrArg (8192 * ·) N_0.symm) _
    (fun t r s => (at_block (a := 16384) (b := 256) (φ := .bf16) _ (places t).2.2.2 rfl rfl).symm.trans
      ((congrFun ((blocks2 m c t (places t).1).trans (flushed2 m c t)) (px r s)).trans (by
        show out0_2 _ _ (px r s) = _
        unfold out0_2
        refine (congrFun (kept₂ (e := .bf16) (e' := .f32) (e'' := .f32) (k0_pay1 (F := Ideal)) _ _) _).trans ?_
        unfold k0_pay1
        refine (normed_tile (p := 8192) (n := 256) 0x43800000#32 0x358637BD#32 _ _ _ _ _ _ _ (fun i => rstd_tile _ _ _ _ _ _ _ _ i 0) r s).trans ?_
        unfold normed
        have hx : ∀ k, iblk m c 0 t (px r k) = @at2 16384 256 .f32 (V m c main_arg0) (8192 * t.val + r.val) (0 + k.val) := fun k =>
          at_block (a := 16384) (b := 256) (φ := .f32) _ (places t).2.1 rfl rfl
        have hg : iblk m c 1 t (px 0 s) = @at2 1 256 .f32 (V m c main_v0) 0 (0 + s.val) :=
          at_block (a := 1) (b := 256) (φ := .f32) (V m c main_v0) (places t).2.2.1 (q := 1) (r := 0) (h := 256) (s := s.val) rfl rfl
        exact congrArg₂ (· * ·) (congrArg₂ (· * ·) (hx s) (congrArg _ (funext hx))) hg))) i j

end

/-- The kernel and the reference end with the same array. -/
theorem algebraic : algebraic_KvNormIdeal_KvNormRefIdeal (hKvNormIdeal := Cert.KvNormIdeal.Gen.facts) (hKvNormRefIdeal := Cert.KvNormRefIdeal.Gen.facts) := by
  intro m g m' g' _ hm
  refine ⟨fun c => (dats m 0 c).arrAt 2 cfg0.N, run_blocks m g, ?_⟩
  refine (θ_run Cert.KvNormRefIdeal.defs _ _).mono (fun r h c => ⟨(h c).1.trans ?_, (h c).2⟩) (Cert.KvNormRefIdeal.Value.run m' g')
  obtain ⟨e0, e1⟩ := hm c
  rw [e0, e1]
  refine ext2 (a := 16384) (b := 256) fun i j => ?_
  refine (normed_host (p := 16384) (n := 256) 0x43800000#32 0x358637BD#32 _ _ _ _ _ _ _ (fun i => congrArg Ideal.rsqrt (spread_host _ _ _ _ _ _ _ _ i 0)) i j).trans ((array m c i j).trans ?_).symm
  unfold normed
  simp only [Nat.zero_add, at2_ix2 (a := 16384) (b := 256)]
  rw [gain, V_main_arg0]
  exact congrArg _ ((at2_ix2 (a := 1) (b := 256) _ 0 j).trans (row _ _ 0 j))

end Cert.KvNormIdeal.Sum
-- ==== Proof.NormBackward.lean ====
/-
  The norms backward: each array the kernel leaves is the reference's.
-/
module
public import Idealize.ShloMosaic.Lib.StableHlo.ReadAt
public import proofs.«01_k».proof.Proof.Rows
public import proofs.«01_k».proof.Proof.Gen.NormDxIdeal.Value
public import proofs.«01_k».proof.Proof.Gen.NormDxRefIdeal.Run
public import proofs.«01_k».proof.Proof.Gen.NormDxFirstIdeal.Value
public import proofs.«01_k».proof.Proof.Gen.NormDxFirstRefIdeal.Run
public import proofs.«01_k».proof.Proof.Gen.QNormDxIdeal.Value
public import proofs.«01_k».proof.Proof.Gen.QNormDxRefIdeal.Run
public import proofs.«01_k».proof.Proof.Gen.KvNormDxIdeal.Value
public import proofs.«01_k».proof.Proof.Gen.KvNormDxRefIdeal.Run
public import proofs.«01_k».proof.Defs

@[expose] public section

set_option maxRecDepth 20000

noncomputable section

open Idealize.ShloMosaic Idealize.ShloMosaic.TcCoe Cert.Product Cert.Rows

/-! ### The norm before a layer's attention or multilayer part -/

namespace Cert.NormDxIdeal.Sum
open Cert.NormDxIdeal Cert.NormDxIdeal.Gen Cert.NormDxIdeal.Value

theorem places : ∀ t : Fin cfg0.N, (win0_0.index t 0 = t.val ∧ win0_0.index t 1 = 0) ∧ (win0_1.index t 0 = 0 ∧ win0_1.index t 1 = 0) ∧ (win0_2.index t 0 = t.val ∧ win0_2.index t 1 = 0)
    ∧ ((cfg0.win 4).flush t = true ∧ win0_4.index t 0 = t.val ∧ win0_4.index t 1 = 0) ∧ (win0_6.index t 0 = 0 ∧ win0_6.index t 1 = 0) ∧ ((cfg0.win 6).flush t = true ↔ t.val + 1 = 32)
    ∧ (win0_3.index t 0 = t.val ∧ win0_3.index t 1 = 0)
    ∧ ((cfg0.win 5).flush t = true ∧ win0_5.index t 0 = t.val ∧ win0_5.index t 1 = 0) :=
  (by decide +kernel : ∀ t : Fin grid0.N, _)

section
variable (m : (ℓ : Loc nD τ sig) → Buf (Elt Ideal) ℓ) (c : Dev nD)

theorem gain : V m c main_v0 = shapeCast S1x1024 (m ((c.tc : Thread nD τ).loc main_arg1)) shapeCasts_S1024_S1x1024 := by
  unfold V
  after_reads_simp
  rfl

/-- What a point leaves of the gradient by the rows. -/
theorem left (t : Fin cfg0.N) : (outsAt0 m c t.val t.isLt).1 = k0_pay5 (F := Ideal) (iblk m c 0 t) (iblk m c 1 t) (iblk m c 2 t) (iblk m c 3 t) := by
  by_cases h0 : t.val % 32 = 0
  · rw [outsAt0_A m c t h0]
    unfold out0_A_4 kernelRun0_A
    dsimp only
    sl_unfold_words
    exact left₄ (hs0_0 t) (hs0_1 t) (hs0_2 t) (hs0_3 t) VO0_4 _ _ _ _ _ (k0_pay5 (F := Ideal)) []
  · rw [outsAt0_B m c t h0]
    unfold out0_B_4 kernelRun0_B
    dsimp only
    sl_unfold_words
    exact left₄ (hs0_0 t) (hs0_1 t) (hs0_2 t) (hs0_3 t) VO0_4 _ _ _ _ _ (k0_pay5 (F := Ideal)) []

theorem left_narrow (t : Fin cfg0.N) : (outsAt0 m c t.val t.isLt).2.1 = k0_pay7 (F := Ideal) (iblk m c 0 t) (iblk m c 1 t) (iblk m c 2 t) (iblk m c 3 t) := by
  by_cases h0 : t.val % 32 = 0
  · rw [outsAt0_A m c t h0]
    unfold out0_A_5 kernelRun0_A
    dsimp only
    sl_unfold_words
    exact left₄ (hs0_0 t) (hs0_1 t) (hs0_2 t) (hs0_3 t) VO0_5 _ _ _ _ _ (k0_pay7 (F := Ideal)) []
  · rw [outsAt0_B m c t h0]
    unfold out0_B_5 kernelRun0_B
    dsimp only
    sl_unfold_words
    exact left₄ (hs0_0 t) (hs0_1 t) (hs0_2 t) (hs0_3 t) VO0_5 _ _ _ _ _ (k0_pay7 (F := Ideal)) []

/-- And of the gradient by the gain: the first point begins it, the others add to it. -/
theorem begins (t : Fin cfg0.N) (h0 : t.val % 32 = 0) : (outsAt0 m c t.val t.isLt).2.2 = k0_pay2 (F := Ideal) (k0_pay6 (F := Ideal) (iblk m c 0 t) (iblk m c 2 t)) (k0_pay1 (F := Ideal)) := by
  rw [outsAt0_A m c t h0]
  unfold out0_A_6 kernelRun0_A
  dsimp only
  sl_unfold_words
  exact left₂ (hs0_0 t) (hs0_2 t) VO0_6 _ _ _ _ _ (fun x d a => k0_pay2 (F := Ideal) (k0_pay6 (F := Ideal) x d) a) _

theorem adds (t : Fin cfg0.N) (h0 : ¬t.val % 32 = 0) : (outsAt0 m c t.val t.isLt).2.2
    = k0_pay2 (F := Ideal) (k0_pay6 (F := Ideal) (iblk m c 0 t) (iblk m c 2 t)) (outsAt0 m c (t.val - 1) (Nat.lt_of_le_of_lt (Nat.sub_le _ _) t.isLt)).2.2 := by
  rw [outsAt0_B m c t h0]
  unfold out0_B_6 kernelRun0_B
  dsimp only
  sl_unfold_words
  exact left₃ (hs0_0 t) (hs0_2 t) (hs0_6 t) VO0_6 _ _ _ _ (fun x d a => k0_pay2 (F := Ideal) (k0_pay6 (F := Ideal) x d) a) []

/-- A point's blocks of the rows and of what reaches them, and the gain. -/
theorem row_at (t : Fin cfg0.N) (r : Fin 512) (k : Fin 1024) : iblk m c 0 t (px r k) = @rows 16384 1024 .f32 (V m c main_arg0) (512 * t.val + r.val) k :=
  rows_block (a := 16384) (b := 1024) (φ := .f32) _ (places t).1 rfl rfl

theorem reach_at (t : Fin cfg0.N) (r : Fin 512) (k : Fin 1024) : iblk m c 2 t (px r k) = @rows 16384 1024 .f32 (V m c main_arg2) (512 * t.val + r.val) k :=
  rows_block (a := 16384) (b := 1024) (φ := .f32) _ (places t).2.2.1 rfl rfl

theorem also_at (t : Fin cfg0.N) (r : Fin 512) (k : Fin 1024) : iblk m c 3 t (px r k) = @rows 16384 1024 .f32 (V m c main_arg3) (512 * t.val + r.val) k :=
  rows_block (a := 16384) (b := 1024) (φ := .f32) _ (places t).2.2.2.2.2.2.1 rfl rfl

theorem gain_at (t : Fin cfg0.N) (k : Fin 1024) : iblk m c 1 t (px 0 k) = @rows 1 1024 .f32 (V m c main_v0) 0 k :=
  at_block (a := 1) (b := 1024) (φ := .f32) (V m c main_v0) (places t).2.1 (q := 1) (r := 0) (h := 1024) (s := k.val) rfl rfl

/-- The gradients, by rows. -/
def dRow (i : ℕ) (j : Fin 1024) : EReal :=
  back (Ideal.ofBits .f32 0x44800000#32) (Ideal.ofBits .f32 0x358637BD#32) (@rows 16384 1024 .f32 (V m c main_arg0) i)
    (fun k => @rows 16384 1024 .f32 (V m c main_arg2) i k * @rows 1 1024 .f32 (V m c main_v0) 0 k) j + @rows 16384 1024 .f32 (V m c main_arg3) i j

def dGain (i : ℕ) (j : Fin 1024) : EReal :=
  @rows 16384 1024 .f32 (V m c main_arg2) i j * (@rows 16384 1024 .f32 (V m c main_arg0) i j * root (Ideal.ofBits .f32 0x44800000#32) (Ideal.ofBits .f32 0x358637BD#32) (@rows 16384 1024 .f32 (V m c main_arg0) i))

theorem tile_at (t : Fin cfg0.N) (r : Fin 512) (s : Fin 1024) : k0_pay5 (F := Ideal) (iblk m c 0 t) (iblk m c 1 t) (iblk m c 2 t) (iblk m c 3 t) (px r s) = dRow m c (512 * t.val + r.val) s := by
  unfold k0_pay5 k0_pay4 k0_pay3 dRow
  exact congrArg₂ (· + ·) ((graded_tile (p := 512) (n := 1024) (bw := 0x44800000#32) (be := 0x358637BD#32) (iblk m c 0 t) (iblk m c 2 t) (fun i => rstd_tile _ _ _ _ _ _ _ _ i 0) (iblk m c 1 t) _ _ _ _ _ _ _ _ _ _ r s).trans
    (congrArg₂ (fun x d => back _ _ x d s) (funext fun k => row_at m c t r k) (funext fun k => congrArg₂ (· * ·) (reach_at m c t r k) (gain_at m c t k)))) (also_at m c t r s)

theorem part_at (t : Fin cfg0.N) (A : FVec Ideal S1x1024 .f32) (j : Fin 1024) : k0_pay2 (F := Ideal) (k0_pay6 (F := Ideal) (iblk m c 0 t) (iblk m c 2 t)) A (px 0 j) = A (px 0 j) + ∑ r : Fin 512, dGain m c (512 * t.val + r.val) j := by
  unfold k0_pay2 k0_pay6 k0_pay4 k0_pay3 dGain
  exact congrArg₂ (· + ·) (congrFun (shapeCast_self A _) _) ((gain_part (p := 512) (n := 1024) (bw := 0x44800000#32) (be := 0x358637BD#32) (iblk m c 0 t) (iblk m c 2 t) (fun i => rstd_tile _ _ _ _ _ _ _ _ i 0) _ _ _ _ _ _ 0 j).trans
    (Finset.sum_congr rfl fun r _ => congrArg₂ (· * ·) (reach_at m c t r j) (congrArg₂ (· * ·) (row_at m c t r j) (congrArg _ (funext fun k => row_at m c t r k)))))

theorem rows_array (i : Fin 16384) (j : Fin 1024) : ((dats m 0 c).arrAt 4 cfg0.N : FVec Ideal S16384x1024 .f32) (px i j) = dRow m c i.val j :=
  bands (p := 512) (φ := .f32) _ (congrArg (512 * ·) N_0.symm) _
    (fun t r s => (at_block (a := 16384) (b := 1024) (φ := .f32) _ (places t).2.2.2.1.2 rfl rfl).symm.trans
      ((congrFun ((blocks4 m c t (places t).2.2.2.1.1).trans (flushed4 m c t)) (px r s)).trans
        ((congrFun (left m c t) (px r s)).trans (tile_at m c t r s)))) i j

theorem narrow_array (i : Fin 16384) (j : Fin 1024) : ((dats m 0 c).arrAt 5 cfg0.N : FVec Ideal S16384x1024 .bf16) (px i j) = dRow m c i.val j :=
  bands (p := 512) (φ := .bf16) _ (congrArg (512 * ·) N_0.symm) _
    (fun t r s => (at_block (a := 16384) (b := 1024) (φ := .bf16) _ (places t).2.2.2.2.2.2.2.2 rfl rfl).symm.trans
      ((congrFun ((blocks5 m c t (places t).2.2.2.2.2.2.2.1).trans (flushed5 m c t)) (px r s)).trans
        ((congrFun (left_narrow m c t) (px r s)).trans (tile_at m c t r s)))) i j

theorem gain_array (j : Fin 1024) : ((dats m 0 c).arrAt 6 cfg0.N : FVec Ideal S1x1024 .f32) (px 0 j) = ∑ i : Fin 16384, dGain m c i.val j := by
  have h : 31 < cfg0.N := (by decide : 31 < 32).trans_eq N_0.symm
  have one := (dats m 0 c).read_blk_arrAt_eq_flushed 6 (fun t t' h h' hne => absurd (Fin.ext (Nat.succ_injective (((places t).2.2.2.2.2.1.1 h).trans ((places t').2.2.2.2.2.1.1 h').symm))) hne)
    cfg0.N ⟨31, h⟩ h ((places _).2.2.2.2.2.1.2 rfl)
  have h' : 0 < cfg0.N := Nat.lt_of_le_of_lt (Nat.zero_le _) h
  have zero : (outsAt0 m c 0 h').2.2 (px 0 j) = ∑ r : Fin 512, dGain m c (512 * 0 + r.val) j :=
    (congrFun (begins m c ⟨0, h'⟩ rfl) (px 0 j)).trans ((part_at m c ⟨0, h'⟩ (k0_pay1 (F := Ideal)) j).trans
      ((congrArg (· + ∑ r : Fin 512, dGain m c (512 * 0 + r.val) j) Ideal.ofBits_zero_f32).trans (zero_add _)))
  refine Eq.trans ?_ (column_total (N := cfg0.N) (p := 512) (M := 16384) (congrArg (512 * ·) N_0.symm) (fun t h => (outsAt0 m c t h).2.2 (px 0 j)) (fun i => dGain m c i j) (fun _ => zero)
    (fun t h => ?_) 31 h N_0.symm)
  · exact (rows_at (a := 1) (b := 1024) (φ := .f32) _ 0 j).symm.trans ((at_block (a := 1) (b := 1024) (φ := .f32) (q := 1) (r := 0) (h := 1024) (s := j.val) _ (places ⟨31, h⟩).2.2.2.2.1 rfl rfl).symm.trans
      (congrFun (one.trans (flushed6 m c ⟨31, h⟩)) (px 0 j)))
  · have : cfg0.N = 32 := N_0
    exact (congrFun (adds m c ⟨t + 1, h⟩ (by show ¬(t + 1) % 32 = 0; omega)) (px 0 j)).trans (part_at m c ⟨t + 1, h⟩ _ j)

/-- The rows, what reaches them and the gain, as the arguments are given. -/
theorem row_of (i : Fin 16384) (k : Fin 1024) : @rows 16384 1024 .f32 (V m c main_arg0) i.val k = m ((c.tc : Thread nD τ).loc main_arg0) (px i k) :=
  (rows_at (a := 16384) (b := 1024) (φ := .f32) _ i k).trans (congrFun (V_main_arg0 m c) _)

theorem reach_of (i : Fin 16384) (k : Fin 1024) : @rows 16384 1024 .f32 (V m c main_arg2) i.val k = m ((c.tc : Thread nD τ).loc main_arg2) (px i k) :=
  (rows_at (a := 16384) (b := 1024) (φ := .f32) _ i k).trans (congrFun (V_main_arg2 m c) _)

theorem also_of (i : Fin 16384) (k : Fin 1024) : @rows 16384 1024 .f32 (V m c main_arg3) i.val k = m ((c.tc : Thread nD τ).loc main_arg3) (px i k) :=
  (rows_at (a := 16384) (b := 1024) (φ := .f32) _ i k).trans (congrFun (V_main_arg3 m c) _)

theorem gain_of (k : Fin 1024) : @rows 1 1024 .f32 (V m c main_v0) 0 k = m ((c.tc : Thread nD τ).loc main_arg1) (ValueIdx.ix1 k) :=
  (rows_at (a := 1) (b := 1024) (φ := .f32) _ 0 k).trans ((congrFun (gain m c) _).trans (row _ _ 0 k))

end

/-- The kernel and the reference end with the same arrays. -/
theorem algebraic : algebraic_NormDxIdeal_NormDxRefIdeal (hNormDxIdeal := Cert.NormDxIdeal.Gen.facts) (hNormDxRefIdeal := Cert.NormDxRefIdeal.Gen.facts) := by
  intro m g m' g' _ hm
  refine ⟨fun c => (dats m 0 c).arrAt 4 cfg0.N, fun c => (dats m 0 c).arrAt 5 cfg0.N, fun c => (dats m 0 c).arrAt 6 cfg0.N, run_blocks (F := Ideal) m g, ?_⟩
  refine (θ_run Cert.NormDxRefIdeal.defs _ _).mono (fun r h c => ?_) (Cert.NormDxRefIdeal.Value.run (F := Ideal) m' g')
  have first : r.2.mem ((c.tc : Thread Cert.NormDxRefIdeal.nD Cert.NormDxRefIdeal.τ).loc Cert.NormDxRefIdeal.main_v36) = (dats m 0 c).arrAt 4 cfg0.N := by
    refine (h c).1.trans ?_
    clear h
    obtain ⟨e0, e1, e2, e3⟩ := hm c
    clear hm
    rw [e0, e1, e2, e3]
    refine @ext2 16384 1024 .f32 _ _ fun i j => (congrArg (fun b : EReal => b + m (c.tc.loc main_arg3) (px i j)) (graded_host (p := 16384) (n := 1024) _ _ bits_1024 (by norm_num) (fun i => congrArg Ideal.rsqrt (spread_host _ _ _ _ _ _ _ _ i 0)) (fun i => spread_host _ _ _ _ _ _ _ _ i 0)
      _ _ _ _ _ _ _ _ _ i j)).trans ((rows_array m c i j).trans ?_).symm
    unfold dRow
    exact congrArg₂ (· + ·) (congrArg₂ (fun x d => back _ _ x d j) (funext fun k => row_of m c i k) (funext fun k => (congrArg₂ (· * ·) (reach_of m c i k) (gain_of m c k)).trans (gained_host (p := 16384) (n := 1024) _ _ _ _ i k).symm)) (also_of m c i j)
  refine ⟨first, (h c).2.1.trans (@ext2 16384 1024 .bf16 _ _ fun i j => (congrFun ((h c).1.symm.trans first) (px i j)).trans ((rows_array m c i j).trans (narrow_array m c i j).symm)), (h c).2.2.1.trans ?_, (h c).2.2.2⟩
  · clear h
    obtain ⟨e0, e1, e2, e3⟩ := hm c
    clear hm
    rw [e0, e2]
    refine @ext2 1 1024 .f32 _ _ fun i j => ?_
    obtain rfl : i = 0 := Subsingleton.elim _ _
    refine (gain_whole (p := 16384) (n := 1024) (be := 0x358637BD#32) (bw := 0x44800000#32) _ _ (fun i => congrArg Ideal.rsqrt (spread_host _ _ _ _ _ _ _ _ i 0)) _ _ _ _ _ _ _ 0 j).trans ((gain_array m c j).trans ?_).symm
    unfold dGain
    exact Finset.sum_congr (M := EReal) rfl fun i _ => congrArg₂ (· * ·) (reach_of m c i j) (congrArg₂ (· * ·) (row_of m c i j) (congrArg _ (funext fun k => row_of m c i k)))

end Cert.NormDxIdeal.Sum

/-! ### The first layer's norm, whose gradient by the rows is the step's -/

namespace Cert.NormDxFirstIdeal.Sum
open Cert.NormDxFirstIdeal Cert.NormDxFirstIdeal.Gen Cert.NormDxFirstIdeal.Value

theorem places : ∀ t : Fin cfg0.N, (win0_0.index t 0 = t.val ∧ win0_0.index t 1 = 0) ∧ (win0_1.index t 0 = 0 ∧ win0_1.index t 1 = 0) ∧ (win0_2.index t 0 = t.val ∧ win0_2.index t 1 = 0)
    ∧ ((cfg0.win 4).flush t = true ∧ win0_4.index t 0 = t.val ∧ win0_4.index t 1 = 0) ∧ (win0_5.index t 0 = 0 ∧ win0_5.index t 1 = 0) ∧ ((cfg0.win 5).flush t = true ↔ t.val + 1 = 32)
    ∧ (win0_3.index t 0 = t.val ∧ win0_3.index t 1 = 0) :=
  (by decide +kernel : ∀ t : Fin grid0.N, _)

section
variable (m : (ℓ : Loc nD τ sig) → Buf (Elt Ideal) ℓ) (c : Dev nD)

theorem gain : V m c main_v0 = shapeCast S1x1024 (m ((c.tc : Thread nD τ).loc main_arg1)) shapeCasts_S1024_S1x1024 := by
  unfold V
  after_reads_simp
  rfl

/-- What a point leaves of the gradient by the rows. -/
theorem left (t : Fin cfg0.N) : (outsAt0 m c t.val t.isLt).1 = k0_pay4 (F := Ideal) (iblk m c 0 t) (iblk m c 1 t) (iblk m c 2 t) (iblk m c 3 t) := by
  by_cases h0 : t.val % 32 = 0
  · rw [outsAt0_A m c t h0]
    unfold out0_A_4 kernelRun0_A
    dsimp only
    sl_unfold_words
    exact left₄ (hs0_0 t) (hs0_1 t) (hs0_2 t) (hs0_3 t) VO0_4 _ _ _ _ _ (k0_pay4 (F := Ideal)) []
  · rw [outsAt0_B m c t h0]
    unfold out0_B_4 kernelRun0_B
    dsimp only
    sl_unfold_words
    exact left₄ (hs0_0 t) (hs0_1 t) (hs0_2 t) (hs0_3 t) VO0_4 _ _ _ _ _ (k0_pay4 (F := Ideal)) []

/-- And of the gradient by the gain: the first point begins it, the others add to it. -/
theorem begins (t : Fin cfg0.N) (h0 : t.val % 32 = 0) : (outsAt0 m c t.val t.isLt).2 = k0_pay1 (F := Ideal) (k0_pay5 (F := Ideal) (iblk m c 0 t) (iblk m c 2 t)) (k0_pay7 (F := Ideal) (k0_pay6 (F := Ideal))) := by
  rw [outsAt0_A m c t h0]
  unfold out0_A_5 kernelRun0_A
  dsimp only
  sl_unfold_words
  exact left₂ (hs0_0 t) (hs0_2 t) VO0_5 _ _ _ _ _ (fun x d a => k0_pay1 (F := Ideal) (k0_pay5 (F := Ideal) x d) (k0_pay7 (F := Ideal) a)) _

theorem adds (t : Fin cfg0.N) (h0 : ¬t.val % 32 = 0) : (outsAt0 m c t.val t.isLt).2
    = k0_pay1 (F := Ideal) (k0_pay5 (F := Ideal) (iblk m c 0 t) (iblk m c 2 t)) (k0_pay7 (F := Ideal) (outsAt0 m c (t.val - 1) (Nat.lt_of_le_of_lt (Nat.sub_le _ _) t.isLt)).2) := by
  rw [outsAt0_B m c t h0]
  unfold out0_B_5 kernelRun0_B
  dsimp only
  sl_unfold_words
  exact left₃ (hs0_0 t) (hs0_2 t) (hs0_5 t) VO0_5 _ _ _ _ (fun x d a => k0_pay1 (F := Ideal) (k0_pay5 (F := Ideal) x d) (k0_pay7 (F := Ideal) a)) []

/-- A point's blocks of the rows and of what reaches them, and the gain. -/
theorem row_at (t : Fin cfg0.N) (r : Fin 512) (k : Fin 1024) : iblk m c 0 t (px r k) = @rows 16384 1024 .f32 (V m c main_arg0) (512 * t.val + r.val) k :=
  rows_block (a := 16384) (b := 1024) (φ := .f32) _ (places t).1 rfl rfl

theorem reach_at (t : Fin cfg0.N) (r : Fin 512) (k : Fin 1024) : iblk m c 2 t (px r k) = @rows 16384 1024 .f32 (V m c main_arg2) (512 * t.val + r.val) k :=
  rows_block (a := 16384) (b := 1024) (φ := .f32) _ (places t).2.2.1 rfl rfl

theorem also_at (t : Fin cfg0.N) (r : Fin 512) (k : Fin 1024) : iblk m c 3 t (px r k) = @rows 16384 1024 .f32 (V m c main_arg3) (512 * t.val + r.val) k :=
  rows_block (a := 16384) (b := 1024) (φ := .f32) _ (places t).2.2.2.2.2.2 rfl rfl

theorem gain_at (t : Fin cfg0.N) (k : Fin 1024) : iblk m c 1 t (px 0 k) = @rows 1 1024 .f32 (V m c main_v0) 0 k :=
  at_block (a := 1) (b := 1024) (φ := .f32) (V m c main_v0) (places t).2.1 (q := 1) (r := 0) (h := 1024) (s := k.val) rfl rfl

/-- The gradients, by rows. -/
def dRow (i : ℕ) (j : Fin 1024) : EReal :=
  back (Ideal.ofBits .f32 0x44800000#32) (Ideal.ofBits .f32 0x358637BD#32) (@rows 16384 1024 .f32 (V m c main_arg0) i)
    (fun k => @rows 16384 1024 .f32 (V m c main_arg2) i k * @rows 1 1024 .f32 (V m c main_v0) 0 k) j + @rows 16384 1024 .f32 (V m c main_arg3) i j

def dGain (i : ℕ) (j : Fin 1024) : EReal :=
  @rows 16384 1024 .f32 (V m c main_arg2) i j * (@rows 16384 1024 .f32 (V m c main_arg0) i j * root (Ideal.ofBits .f32 0x44800000#32) (Ideal.ofBits .f32 0x358637BD#32) (@rows 16384 1024 .f32 (V m c main_arg0) i))

theorem tile_at (t : Fin cfg0.N) (r : Fin 512) (s : Fin 1024) : k0_pay4 (F := Ideal) (iblk m c 0 t) (iblk m c 1 t) (iblk m c 2 t) (iblk m c 3 t) (px r s) = dRow m c (512 * t.val + r.val) s := by
  unfold k0_pay4 k0_pay3 k0_pay2 dRow
  exact congrArg₂ (· + ·) ((graded_tile (p := 512) (n := 1024) (bw := 0x44800000#32) (be := 0x358637BD#32) (iblk m c 0 t) (iblk m c 2 t) (fun i => rstd_tile _ _ _ _ _ _ _ _ i 0) (iblk m c 1 t) _ _ _ _ _ _ _ _ _ _ r s).trans
    (congrArg₂ (fun x d => back _ _ x d s) (funext fun k => row_at m c t r k) (funext fun k => congrArg₂ (· * ·) (reach_at m c t r k) (gain_at m c t k)))) (also_at m c t r s)

theorem part_at (t : Fin cfg0.N) (A : FVec Ideal S1x1024 .f32) (j : Fin 1024) : k0_pay1 (F := Ideal) (k0_pay5 (F := Ideal) (iblk m c 0 t) (iblk m c 2 t)) (k0_pay7 (F := Ideal) A) (px 0 j) = A (px 0 j) + ∑ r : Fin 512, dGain m c (512 * t.val + r.val) j := by
  unfold k0_pay1 k0_pay7 k0_pay5 k0_pay3 k0_pay2 dGain
  exact congrArg₂ (· + ·) (congrFun (shapeCast_self A _) _) ((gain_part (p := 512) (n := 1024) (bw := 0x44800000#32) (be := 0x358637BD#32) (iblk m c 0 t) (iblk m c 2 t) (fun i => rstd_tile _ _ _ _ _ _ _ _ i 0) _ _ _ _ _ _ 0 j).trans
    (Finset.sum_congr rfl fun r _ => congrArg₂ (· * ·) (reach_at m c t r j) (congrArg₂ (· * ·) (row_at m c t r j) (congrArg _ (funext fun k => row_at m c t r k)))))

theorem rows_array (i : Fin 16384) (j : Fin 1024) : ((dats m 0 c).arrAt 4 cfg0.N : FVec Ideal S16384x1024 .f32) (px i j) = dRow m c i.val j :=
  bands (p := 512) (φ := .f32) _ (congrArg (512 * ·) N_0.symm) _
    (fun t r s => (at_block (a := 16384) (b := 1024) (φ := .f32) _ (places t).2.2.2.1.2 rfl rfl).symm.trans
      ((congrFun ((blocks4 m c t (places t).2.2.2.1.1).trans (flushed4 m c t)) (px r s)).trans
        ((congrFun (left m c t) (px r s)).trans (tile_at m c t r s)))) i j

theorem gain_array (j : Fin 1024) : ((dats m 0 c).arrAt 5 cfg0.N : FVec Ideal S1x1024 .f32) (px 0 j) = ∑ i : Fin 16384, dGain m c i.val j := by
  have h : 31 < cfg0.N := (by decide : 31 < 32).trans_eq N_0.symm
  have one := (dats m 0 c).read_blk_arrAt_eq_flushed 5 (fun t t' h h' hne => absurd (Fin.ext (Nat.succ_injective (((places t).2.2.2.2.2.1.1 h).trans ((places t').2.2.2.2.2.1.1 h').symm))) hne)
    cfg0.N ⟨31, h⟩ h ((places _).2.2.2.2.2.1.2 rfl)
  have h' : 0 < cfg0.N := Nat.lt_of_le_of_lt (Nat.zero_le _) h
  have zero : (outsAt0 m c 0 h').2 (px 0 j) = ∑ r : Fin 512, dGain m c (512 * 0 + r.val) j :=
    (congrFun (begins m c ⟨0, h'⟩ rfl) (px 0 j)).trans ((part_at m c ⟨0, h'⟩ (k0_pay6 (F := Ideal)) j).trans
      ((congrArg (· + ∑ r : Fin 512, dGain m c (512 * 0 + r.val) j) Ideal.ofBits_zero_f32).trans (zero_add _)))
  refine Eq.trans ?_ (column_total (N := cfg0.N) (p := 512) (M := 16384) (congrArg (512 * ·) N_0.symm) (fun t h => (outsAt0 m c t h).2 (px 0 j)) (fun i => dGain m c i j) (fun _ => zero)
    (fun t h => ?_) 31 h N_0.symm)
  · exact (rows_at (a := 1) (b := 1024) (φ := .f32) _ 0 j).symm.trans ((at_block (a := 1) (b := 1024) (φ := .f32) (q := 1) (r := 0) (h := 1024) (s := j.val) _ (places ⟨31, h⟩).2.2.2.2.1 rfl rfl).symm.trans
      (congrFun (one.trans (flushed5 m c ⟨31, h⟩)) (px 0 j)))
  · have : cfg0.N = 32 := N_0
    exact (congrFun (adds m c ⟨t + 1, h⟩ (by show ¬(t + 1) % 32 = 0; omega)) (px 0 j)).trans (part_at m c ⟨t + 1, h⟩ _ j)

/-- The rows, what reaches them and the gain, as the arguments are given. -/
theorem row_of (i : Fin 16384) (k : Fin 1024) : @rows 16384 1024 .f32 (V m c main_arg0) i.val k = m ((c.tc : Thread nD τ).loc main_arg0) (px i k) :=
  (rows_at (a := 16384) (b := 1024) (φ := .f32) _ i k).trans (congrFun (V_main_arg0 m c) _)

theorem reach_of (i : Fin 16384) (k : Fin 1024) : @rows 16384 1024 .f32 (V m c main_arg2) i.val k = m ((c.tc : Thread nD τ).loc main_arg2) (px i k) :=
  (rows_at (a := 16384) (b := 1024) (φ := .f32) _ i k).trans (congrFun (V_main_arg2 m c) _)

theorem also_of (i : Fin 16384) (k : Fin 1024) : @rows 16384 1024 .f32 (V m c main_arg3) i.val k = m ((c.tc : Thread nD τ).loc main_arg3) (px i k) :=
  (rows_at (a := 16384) (b := 1024) (φ := .f32) _ i k).trans (congrFun (V_main_arg3 m c) _)

theorem gain_of (k : Fin 1024) : @rows 1 1024 .f32 (V m c main_v0) 0 k = m ((c.tc : Thread nD τ).loc main_arg1) (ValueIdx.ix1 k) :=
  (rows_at (a := 1) (b := 1024) (φ := .f32) _ 0 k).trans ((congrFun (gain m c) _).trans (row _ _ 0 k))

end

/-- The kernel and the reference end with the same arrays. -/
theorem algebraic : algebraic_NormDxFirstIdeal_NormDxFirstRefIdeal (hNormDxFirstIdeal := Cert.NormDxFirstIdeal.Gen.facts) (hNormDxFirstRefIdeal := Cert.NormDxFirstRefIdeal.Gen.facts) := by
  intro m g m' g' _ hm
  refine ⟨fun c => (dats m 0 c).arrAt 4 cfg0.N, fun c => (dats m 0 c).arrAt 5 cfg0.N, run_blocks (F := Ideal) m g, ?_⟩
  refine (θ_run Cert.NormDxFirstRefIdeal.defs _ _).mono (fun r h c => ?_) (Cert.NormDxFirstRefIdeal.Value.run (F := Ideal) m' g')
  have first : r.2.mem ((c.tc : Thread Cert.NormDxFirstRefIdeal.nD Cert.NormDxFirstRefIdeal.τ).loc Cert.NormDxFirstRefIdeal.main_v36) = (dats m 0 c).arrAt 4 cfg0.N := by
    refine (h c).1.trans ?_
    clear h
    obtain ⟨e0, e1, e2, e3⟩ := hm c
    clear hm
    rw [e0, e1, e2, e3]
    refine @ext2 16384 1024 .f32 _ _ fun i j => (congrArg (fun b : EReal => b + m (c.tc.loc main_arg3) (px i j)) (graded_host (p := 16384) (n := 1024) _ _ bits_1024 (by norm_num) (fun i => congrArg Ideal.rsqrt (spread_host _ _ _ _ _ _ _ _ i 0)) (fun i => spread_host _ _ _ _ _ _ _ _ i 0)
      _ _ _ _ _ _ _ _ _ i j)).trans ((rows_array m c i j).trans ?_).symm
    unfold dRow
    exact congrArg₂ (· + ·) (congrArg₂ (fun x d => back _ _ x d j) (funext fun k => row_of m c i k) (funext fun k => (congrArg₂ (· * ·) (reach_of m c i k) (gain_of m c k)).trans (gained_host (p := 16384) (n := 1024) _ _ _ _ i k).symm)) (also_of m c i j)
  refine ⟨first, (h c).2.1.trans ?_, (h c).2.2⟩
  · clear h
    obtain ⟨e0, e1, e2, e3⟩ := hm c
    clear hm
    rw [e0, e2]
    refine @ext2 1 1024 .f32 _ _ fun i j => ?_
    obtain rfl : i = 0 := Subsingleton.elim _ _
    refine (gain_whole (p := 16384) (n := 1024) (be := 0x358637BD#32) (bw := 0x44800000#32) _ _ (fun i => congrArg Ideal.rsqrt (spread_host _ _ _ _ _ _ _ _ i 0)) _ _ _ _ _ _ _ 0 j).trans ((gain_array m c j).trans ?_).symm
    unfold dGain
    exact Finset.sum_congr (M := EReal) rfl fun i _ => congrArg₂ (· * ·) (reach_of m c i j) (congrArg₂ (· * ·) (row_of m c i j) (congrArg _ (funext fun k => row_of m c i k)))

end Cert.NormDxFirstIdeal.Sum

/-! ### The norm of the query's low rank -/

namespace Cert.QNormDxIdeal.Sum
open Cert.QNormDxIdeal Cert.QNormDxIdeal.Gen Cert.QNormDxIdeal.Value

theorem places : ∀ t : Fin cfg0.N, (win0_0.index t 0 = t.val ∧ win0_0.index t 1 = 0) ∧ (win0_1.index t 0 = 0 ∧ win0_1.index t 1 = 0) ∧ (win0_2.index t 0 = t.val ∧ win0_2.index t 1 = 0)
    ∧ ((cfg0.win 3).flush t = true ∧ win0_3.index t 0 = t.val ∧ win0_3.index t 1 = 0) ∧ (win0_4.index t 0 = 0 ∧ win0_4.index t 1 = 0) ∧ ((cfg0.win 4).flush t = true ↔ t.val + 1 = 8) :=
  (by decide +kernel : ∀ t : Fin grid0.N, _)

section
variable (m : (ℓ : Loc nD τ sig) → Buf (Elt Ideal) ℓ) (c : Dev nD)

theorem gain : V m c main_v0 = shapeCast S1x384 (m ((c.tc : Thread nD τ).loc main_arg1)) shapeCasts_S384_S1x384 := by
  unfold V
  after_reads_simp
  rfl

/-- What a point leaves of the gradient by the rows. -/
theorem left (t : Fin cfg0.N) : (outsAt0 m c t.val t.isLt).1 = k0_pay3 (F := Ideal) (iblk m c 0 t) (iblk m c 1 t) (iblk m c 2 t) := by
  by_cases h0 : t.val % 8 = 0
  · rw [outsAt0_A m c t h0]
    unfold out0_A_3 kernelRun0_A
    dsimp only
    sl_unfold_words
    exact left₃ (hs0_0 t) (hs0_1 t) (hs0_2 t) VO0_3 _ _ _ _ (k0_pay3 (F := Ideal)) []
  · rw [outsAt0_B m c t h0]
    unfold out0_B_3 kernelRun0_B
    dsimp only
    sl_unfold_words
    exact left₃ (hs0_0 t) (hs0_1 t) (hs0_2 t) VO0_3 _ _ _ _ (k0_pay3 (F := Ideal)) []

/-- And of the gradient by the gain: the first point begins it, the others add to it. -/
theorem begins (t : Fin cfg0.N) (h0 : t.val % 8 = 0) : (outsAt0 m c t.val t.isLt).2 = k0_pay5 (F := Ideal) (iblk m c 0 t) (iblk m c 2 t) (k0_pay4 (F := Ideal)) := by
  rw [outsAt0_A m c t h0]
  unfold out0_A_4 kernelRun0_A
  dsimp only
  sl_unfold_words
  exact left₂ (hs0_0 t) (hs0_2 t) VO0_4 _ _ _ _ _ (fun x d a => k0_pay5 (F := Ideal) x d a) _

theorem adds (t : Fin cfg0.N) (h0 : ¬t.val % 8 = 0) : (outsAt0 m c t.val t.isLt).2
    = k0_pay5 (F := Ideal) (iblk m c 0 t) (iblk m c 2 t) (outsAt0 m c (t.val - 1) (Nat.lt_of_le_of_lt (Nat.sub_le _ _) t.isLt)).2 := by
  rw [outsAt0_B m c t h0]
  unfold out0_B_4 kernelRun0_B
  dsimp only
  sl_unfold_words
  exact left₃ (hs0_0 t) (hs0_2 t) (hs0_4 t) VO0_4 _ _ _ _ (fun x d a => k0_pay5 (F := Ideal) x d a) []

/-- A point's blocks of the rows and of what reaches them, and the gain. -/
theorem row_at (t : Fin cfg0.N) (r : Fin 2048) (k : Fin 384) : iblk m c 0 t (px r k) = @rows 16384 384 .f32 (V m c main_arg0) (2048 * t.val + r.val) k :=
  rows_block (a := 16384) (b := 384) (φ := .f32) _ (places t).1 rfl rfl

theorem reach_at (t : Fin cfg0.N) (r : Fin 2048) (k : Fin 384) : iblk m c 2 t (px r k) = @rows 16384 384 .f32 (V m c main_arg2) (2048 * t.val + r.val) k :=
  rows_block (a := 16384) (b := 384) (φ := .f32) _ (places t).2.2.1 rfl rfl

theorem gain_at (t : Fin cfg0.N) (k : Fin 384) : iblk m c 1 t (px 0 k) = @rows 1 384 .f32 (V m c main_v0) 0 k :=
  at_block (a := 1) (b := 384) (φ := .f32) (V m c main_v0) (places t).2.1 (q := 1) (r := 0) (h := 384) (s := k.val) rfl rfl

/-- The gradients, by rows. -/
def dRow (i : ℕ) (j : Fin 384) : EReal :=
  back (Ideal.ofBits .f32 0x43C00000#32) (Ideal.ofBits .f32 0x358637BD#32) (@rows 16384 384 .f32 (V m c main_arg0) i)
    (fun k => @rows 16384 384 .f32 (V m c main_arg2) i k * @rows 1 384 .f32 (V m c main_v0) 0 k) j

def dGain (i : ℕ) (j : Fin 384) : EReal :=
  @rows 16384 384 .f32 (V m c main_arg2) i j * (@rows 16384 384 .f32 (V m c main_arg0) i j * root (Ideal.ofBits .f32 0x43C00000#32) (Ideal.ofBits .f32 0x358637BD#32) (@rows 16384 384 .f32 (V m c main_arg0) i))

theorem tile_at (t : Fin cfg0.N) (r : Fin 2048) (s : Fin 384) : k0_pay3 (F := Ideal) (iblk m c 0 t) (iblk m c 1 t) (iblk m c 2 t) (px r s) = dRow m c (2048 * t.val + r.val) s := by
  unfold k0_pay3 k0_pay2 k0_pay1 dRow
  exact (graded_tile (p := 2048) (n := 384) (bw := 0x43C00000#32) (be := 0x358637BD#32) (iblk m c 0 t) (iblk m c 2 t) (fun i => rstd_tile _ _ _ _ _ _ _ _ i 0) (iblk m c 1 t) _ _ _ _ _ _ _ _ _ _ r s).trans
    (congrArg₂ (fun x d => back _ _ x d s) (funext fun k => row_at m c t r k) (funext fun k => congrArg₂ (· * ·) (reach_at m c t r k) (gain_at m c t k)))

theorem part_at (t : Fin cfg0.N) (A : FVec Ideal S1x384 .f32) (j : Fin 384) : k0_pay5 (F := Ideal) (iblk m c 0 t) (iblk m c 2 t) A (px 0 j) = A (px 0 j) + ∑ r : Fin 2048, dGain m c (2048 * t.val + r.val) j := by
  unfold k0_pay5 k0_pay2 k0_pay1 dGain
  exact congrArg₂ (· + ·) (congrFun (shapeCast_self A _) _) ((gain_part (p := 2048) (n := 384) (bw := 0x43C00000#32) (be := 0x358637BD#32) (iblk m c 0 t) (iblk m c 2 t) (fun i => rstd_tile _ _ _ _ _ _ _ _ i 0) _ _ _ _ _ _ 0 j).trans
    (Finset.sum_congr rfl fun r _ => congrArg₂ (· * ·) (reach_at m c t r j) (congrArg₂ (· * ·) (row_at m c t r j) (congrArg _ (funext fun k => row_at m c t r k)))))

theorem rows_array (i : Fin 16384) (j : Fin 384) : ((dats m 0 c).arrAt 3 cfg0.N : FVec Ideal S16384x384 .f32) (px i j) = dRow m c i.val j :=
  bands (p := 2048) (φ := .f32) _ (congrArg (2048 * ·) N_0.symm) _
    (fun t r s => (at_block (a := 16384) (b := 384) (φ := .f32) _ (places t).2.2.2.1.2 rfl rfl).symm.trans
      ((congrFun ((blocks3 m c t (places t).2.2.2.1.1).trans (flushed3 m c t)) (px r s)).trans
        ((congrFun (left m c t) (px r s)).trans (tile_at m c t r s)))) i j

theorem gain_array (j : Fin 384) : ((dats m 0 c).arrAt 4 cfg0.N : FVec Ideal S1x384 .f32) (px 0 j) = ∑ i : Fin 16384, dGain m c i.val j := by
  have h : 7 < cfg0.N := (by decide : 7 < 8).trans_eq N_0.symm
  have one := (dats m 0 c).read_blk_arrAt_eq_flushed 4 (fun t t' h h' hne => absurd (Fin.ext (Nat.succ_injective (((places t).2.2.2.2.2.1 h).trans ((places t').2.2.2.2.2.1 h').symm))) hne)
    cfg0.N ⟨7, h⟩ h ((places _).2.2.2.2.2.2 rfl)
  have h' : 0 < cfg0.N := Nat.lt_of_le_of_lt (Nat.zero_le _) h
  have zero : (outsAt0 m c 0 h').2 (px 0 j) = ∑ r : Fin 2048, dGain m c (2048 * 0 + r.val) j :=
    (congrFun (begins m c ⟨0, h'⟩ rfl) (px 0 j)).trans ((part_at m c ⟨0, h'⟩ (k0_pay4 (F := Ideal)) j).trans
      ((congrArg (· + ∑ r : Fin 2048, dGain m c (2048 * 0 + r.val) j) Ideal.ofBits_zero_f32).trans (zero_add _)))
  refine Eq.trans ?_ (column_total (N := cfg0.N) (p := 2048) (M := 16384) (congrArg (2048 * ·) N_0.symm) (fun t h => (outsAt0 m c t h).2 (px 0 j)) (fun i => dGain m c i j) (fun _ => zero)
    (fun t h => ?_) 7 h N_0.symm)
  · exact (rows_at (a := 1) (b := 384) (φ := .f32) _ 0 j).symm.trans ((at_block (a := 1) (b := 384) (φ := .f32) (q := 1) (r := 0) (h := 384) (s := j.val) _ (places ⟨7, h⟩).2.2.2.2.1 rfl rfl).symm.trans
      (congrFun (one.trans (flushed4 m c ⟨7, h⟩)) (px 0 j)))
  · have : cfg0.N = 8 := N_0
    exact (congrFun (adds m c ⟨t + 1, h⟩ (by show ¬(t + 1) % 8 = 0; omega)) (px 0 j)).trans (part_at m c ⟨t + 1, h⟩ _ j)

/-- The rows, what reaches them and the gain, as the arguments are given. -/
theorem row_of (i : Fin 16384) (k : Fin 384) : @rows 16384 384 .f32 (V m c main_arg0) i.val k = m ((c.tc : Thread nD τ).loc main_arg0) (px i k) :=
  (rows_at (a := 16384) (b := 384) (φ := .f32) _ i k).trans (congrFun (V_main_arg0 m c) _)

theorem reach_of (i : Fin 16384) (k : Fin 384) : @rows 16384 384 .f32 (V m c main_arg2) i.val k = m ((c.tc : Thread nD τ).loc main_arg2) (px i k) :=
  (rows_at (a := 16384) (b := 384) (φ := .f32) _ i k).trans (congrFun (V_main_arg2 m c) _)

theorem gain_of (k : Fin 384) : @rows 1 384 .f32 (V m c main_v0) 0 k = m ((c.tc : Thread nD τ).loc main_arg1) (ValueIdx.ix1 k) :=
  (rows_at (a := 1) (b := 384) (φ := .f32) _ 0 k).trans ((congrFun (gain m c) _).trans (row _ _ 0 k))

end

/-- The kernel and the reference end with the same arrays. -/
theorem algebraic : algebraic_QNormDxIdeal_QNormDxRefIdeal (hQNormDxIdeal := Cert.QNormDxIdeal.Gen.facts) (hQNormDxRefIdeal := Cert.QNormDxRefIdeal.Gen.facts) := by
  intro m g m' g' _ hm
  refine ⟨fun c => (dats m 0 c).arrAt 3 cfg0.N, fun c => (dats m 0 c).arrAt 4 cfg0.N, run_blocks (F := Ideal) m g, ?_⟩
  refine (θ_run Cert.QNormDxRefIdeal.defs _ _).mono (fun r h c => ?_) (Cert.QNormDxRefIdeal.Value.run (F := Ideal) m' g')
  have first : r.2.mem ((c.tc : Thread Cert.QNormDxRefIdeal.nD Cert.QNormDxRefIdeal.τ).loc Cert.QNormDxRefIdeal.main_v35) = (dats m 0 c).arrAt 3 cfg0.N := by
    refine (h c).1.trans ?_
    clear h
    obtain ⟨e0, e1, e2⟩ := hm c
    clear hm
    rw [e0, e1, e2]
    refine @ext2 16384 384 .f32 _ _ fun i j => (graded_host (p := 16384) (n := 384) _ _ bits_384 (by norm_num) (fun i => congrArg Ideal.rsqrt (spread_host _ _ _ _ _ _ _ _ i 0)) (fun i => spread_host _ _ _ _ _ _ _ _ i 0)
      _ _ _ _ _ _ _ _ _ i j).trans ((rows_array m c i j).trans ?_).symm
    unfold dRow
    exact congrArg₂ (fun x d => back _ _ x d j) (funext fun k => row_of m c i k) (funext fun k => (congrArg₂ (· * ·) (reach_of m c i k) (gain_of m c k)).trans (gained_host (p := 16384) (n := 384) _ _ _ _ i k).symm)
  refine ⟨first, (h c).2.1.trans ?_, (h c).2.2⟩
  · clear h
    obtain ⟨e0, e1, e2⟩ := hm c
    clear hm
    rw [e0, e2]
    refine @ext2 1 384 .f32 _ _ fun i j => ?_
    obtain rfl : i = 0 := Subsingleton.elim _ _
    refine (gain_whole (p := 16384) (n := 384) (be := 0x358637BD#32) (bw := 0x43C00000#32) _ _ (fun i => congrArg Ideal.rsqrt (spread_host _ _ _ _ _ _ _ _ i 0)) _ _ _ _ _ _ _ 0 j).trans ((gain_array m c j).trans ?_).symm
    unfold dGain
    exact Finset.sum_congr (M := EReal) rfl fun i _ => congrArg₂ (· * ·) (reach_of m c i j) (congrArg₂ (· * ·) (row_of m c i j) (congrArg _ (funext fun k => row_of m c i k)))

end Cert.QNormDxIdeal.Sum

/-! ### The norm of the keys' and values' low rank -/

namespace Cert.KvNormDxIdeal.Sum
open Cert.KvNormDxIdeal Cert.KvNormDxIdeal.Gen Cert.KvNormDxIdeal.Value

theorem places : ∀ t : Fin cfg0.N, (win0_0.index t 0 = t.val ∧ win0_0.index t 1 = 0) ∧ (win0_1.index t 0 = 0 ∧ win0_1.index t 1 = 0) ∧ (win0_2.index t 0 = t.val ∧ win0_2.index t 1 = 0)
    ∧ ((cfg0.win 3).flush t = true ∧ win0_3.index t 0 = t.val ∧ win0_3.index t 1 = 0) ∧ (win0_4.index t 0 = 0 ∧ win0_4.index t 1 = 0) ∧ ((cfg0.win 4).flush t = true ↔ t.val + 1 = 4) :=
  (by decide +kernel : ∀ t : Fin grid0.N, _)

section
variable (m : (ℓ : Loc nD τ sig) → Buf (Elt Ideal) ℓ) (c : Dev nD)

theorem gain : V m c main_v0 = shapeCast S1x256 (m ((c.tc : Thread nD τ).loc main_arg1)) shapeCasts_S256_S1x256 := by
  unfold V
  after_reads_simp
  rfl

/-- What a point leaves of the gradient by the rows. -/
theorem left (t : Fin cfg0.N) : (outsAt0 m c t.val t.isLt).1 = k0_pay3 (F := Ideal) (iblk m c 0 t) (iblk m c 1 t) (iblk m c 2 t) := by
  by_cases h0 : t.val % 4 = 0
  · rw [outsAt0_A m c t h0]
    unfold out0_A_3 kernelRun0_A
    dsimp only
    sl_unfold_words
    exact left₃ (hs0_0 t) (hs0_1 t) (hs0_2 t) VO0_3 _ _ _ _ (k0_pay3 (F := Ideal)) []
  · rw [outsAt0_B m c t h0]
    unfold out0_B_3 kernelRun0_B
    dsimp only
    sl_unfold_words
    exact left₃ (hs0_0 t) (hs0_1 t) (hs0_2 t) VO0_3 _ _ _ _ (k0_pay3 (F := Ideal)) []

/-- And of the gradient by the gain: the first point begins it, the others add to it. -/
theorem begins (t : Fin cfg0.N) (h0 : t.val % 4 = 0) : (outsAt0 m c t.val t.isLt).2 = k0_pay5 (F := Ideal) (iblk m c 0 t) (iblk m c 2 t) (k0_pay4 (F := Ideal)) := by
  rw [outsAt0_A m c t h0]
  unfold out0_A_4 kernelRun0_A
  dsimp only
  sl_unfold_words
  exact left₂ (hs0_0 t) (hs0_2 t) VO0_4 _ _ _ _ _ (fun x d a => k0_pay5 (F := Ideal) x d a) _

theorem adds (t : Fin cfg0.N) (h0 : ¬t.val % 4 = 0) : (outsAt0 m c t.val t.isLt).2
    = k0_pay5 (F := Ideal) (iblk m c 0 t) (iblk m c 2 t) (outsAt0 m c (t.val - 1) (Nat.lt_of_le_of_lt (Nat.sub_le _ _) t.isLt)).2 := by
  rw [outsAt0_B m c t h0]
  unfold out0_B_4 kernelRun0_B
  dsimp only
  sl_unfold_words
  exact left₃ (hs0_0 t) (hs0_2 t) (hs0_4 t) VO0_4 _ _ _ _ (fun x d a => k0_pay5 (F := Ideal) x d a) []

/-- A point's blocks of the rows and of what reaches them, and the gain. -/
theorem row_at (t : Fin cfg0.N) (r : Fin 4096) (k : Fin 256) : iblk m c 0 t (px r k) = @rows 16384 256 .f32 (V m c main_arg0) (4096 * t.val + r.val) k :=
  rows_block (a := 16384) (b := 256) (φ := .f32) _ (places t).1 rfl rfl

theorem reach_at (t : Fin cfg0.N) (r : Fin 4096) (k : Fin 256) : iblk m c 2 t (px r k) = @rows 16384 256 .f32 (V m c main_arg2) (4096 * t.val + r.val) k :=
  rows_block (a := 16384) (b := 256) (φ := .f32) _ (places t).2.2.1 rfl rfl

theorem gain_at (t : Fin cfg0.N) (k : Fin 256) : iblk m c 1 t (px 0 k) = @rows 1 256 .f32 (V m c main_v0) 0 k :=
  at_block (a := 1) (b := 256) (φ := .f32) (V m c main_v0) (places t).2.1 (q := 1) (r := 0) (h := 256) (s := k.val) rfl rfl

/-- The gradients, by rows. -/
def dRow (i : ℕ) (j : Fin 256) : EReal :=
  back (Ideal.ofBits .f32 0x43800000#32) (Ideal.ofBits .f32 0x358637BD#32) (@rows 16384 256 .f32 (V m c main_arg0) i)
    (fun k => @rows 16384 256 .f32 (V m c main_arg2) i k * @rows 1 256 .f32 (V m c main_v0) 0 k) j

def dGain (i : ℕ) (j : Fin 256) : EReal :=
  @rows 16384 256 .f32 (V m c main_arg2) i j * (@rows 16384 256 .f32 (V m c main_arg0) i j * root (Ideal.ofBits .f32 0x43800000#32) (Ideal.ofBits .f32 0x358637BD#32) (@rows 16384 256 .f32 (V m c main_arg0) i))

theorem tile_at (t : Fin cfg0.N) (r : Fin 4096) (s : Fin 256) : k0_pay3 (F := Ideal) (iblk m c 0 t) (iblk m c 1 t) (iblk m c 2 t) (px r s) = dRow m c (4096 * t.val + r.val) s := by
  unfold k0_pay3 k0_pay2 k0_pay1 dRow
  exact (graded_tile (p := 4096) (n := 256) (bw := 0x43800000#32) (be := 0x358637BD#32) (iblk m c 0 t) (iblk m c 2 t) (fun i => rstd_tile _ _ _ _ _ _ _ _ i 0) (iblk m c 1 t) _ _ _ _ _ _ _ _ _ _ r s).trans
    (congrArg₂ (fun x d => back _ _ x d s) (funext fun k => row_at m c t r k) (funext fun k => congrArg₂ (· * ·) (reach_at m c t r k) (gain_at m c t k)))

theorem part_at (t : Fin cfg0.N) (A : FVec Ideal S1x256 .f32) (j : Fin 256) : k0_pay5 (F := Ideal) (iblk m c 0 t) (iblk m c 2 t) A (px 0 j) = A (px 0 j) + ∑ r : Fin 4096, dGain m c (4096 * t.val + r.val) j := by
  unfold k0_pay5 k0_pay2 k0_pay1 dGain
  exact congrArg₂ (· + ·) (congrFun (shapeCast_self A _) _) ((gain_part (p := 4096) (n := 256) (bw := 0x43800000#32) (be := 0x358637BD#32) (iblk m c 0 t) (iblk m c 2 t) (fun i => rstd_tile _ _ _ _ _ _ _ _ i 0) _ _ _ _ _ _ 0 j).trans
    (Finset.sum_congr rfl fun r _ => congrArg₂ (· * ·) (reach_at m c t r j) (congrArg₂ (· * ·) (row_at m c t r j) (congrArg _ (funext fun k => row_at m c t r k)))))

theorem rows_array (i : Fin 16384) (j : Fin 256) : ((dats m 0 c).arrAt 3 cfg0.N : FVec Ideal S16384x256 .f32) (px i j) = dRow m c i.val j :=
  bands (p := 4096) (φ := .f32) _ (congrArg (4096 * ·) N_0.symm) _
    (fun t r s => (at_block (a := 16384) (b := 256) (φ := .f32) _ (places t).2.2.2.1.2 rfl rfl).symm.trans
      ((congrFun ((blocks3 m c t (places t).2.2.2.1.1).trans (flushed3 m c t)) (px r s)).trans
        ((congrFun (left m c t) (px r s)).trans (tile_at m c t r s)))) i j

theorem gain_array (j : Fin 256) : ((dats m 0 c).arrAt 4 cfg0.N : FVec Ideal S1x256 .f32) (px 0 j) = ∑ i : Fin 16384, dGain m c i.val j := by
  have h : 3 < cfg0.N := (by decide : 3 < 4).trans_eq N_0.symm
  have one := (dats m 0 c).read_blk_arrAt_eq_flushed 4 (fun t t' h h' hne => absurd (Fin.ext (Nat.succ_injective (((places t).2.2.2.2.2.1 h).trans ((places t').2.2.2.2.2.1 h').symm))) hne)
    cfg0.N ⟨3, h⟩ h ((places _).2.2.2.2.2.2 rfl)
  have h' : 0 < cfg0.N := Nat.lt_of_le_of_lt (Nat.zero_le _) h
  have zero : (outsAt0 m c 0 h').2 (px 0 j) = ∑ r : Fin 4096, dGain m c (4096 * 0 + r.val) j :=
    (congrFun (begins m c ⟨0, h'⟩ rfl) (px 0 j)).trans ((part_at m c ⟨0, h'⟩ (k0_pay4 (F := Ideal)) j).trans
      ((congrArg (· + ∑ r : Fin 4096, dGain m c (4096 * 0 + r.val) j) Ideal.ofBits_zero_f32).trans (zero_add _)))
  refine Eq.trans ?_ (column_total (N := cfg0.N) (p := 4096) (M := 16384) (congrArg (4096 * ·) N_0.symm) (fun t h => (outsAt0 m c t h).2 (px 0 j)) (fun i => dGain m c i j) (fun _ => zero)
    (fun t h => ?_) 3 h N_0.symm)
  · exact (rows_at (a := 1) (b := 256) (φ := .f32) _ 0 j).symm.trans ((at_block (a := 1) (b := 256) (φ := .f32) (q := 1) (r := 0) (h := 256) (s := j.val) _ (places ⟨3, h⟩).2.2.2.2.1 rfl rfl).symm.trans
      (congrFun (one.trans (flushed4 m c ⟨3, h⟩)) (px 0 j)))
  · have : cfg0.N = 4 := N_0
    exact (congrFun (adds m c ⟨t + 1, h⟩ (by show ¬(t + 1) % 4 = 0; omega)) (px 0 j)).trans (part_at m c ⟨t + 1, h⟩ _ j)

/-- The rows, what reaches them and the gain, as the arguments are given. -/
theorem row_of (i : Fin 16384) (k : Fin 256) : @rows 16384 256 .f32 (V m c main_arg0) i.val k = m ((c.tc : Thread nD τ).loc main_arg0) (px i k) :=
  (rows_at (a := 16384) (b := 256) (φ := .f32) _ i k).trans (congrFun (V_main_arg0 m c) _)

theorem reach_of (i : Fin 16384) (k : Fin 256) : @rows 16384 256 .f32 (V m c main_arg2) i.val k = m ((c.tc : Thread nD τ).loc main_arg2) (px i k) :=
  (rows_at (a := 16384) (b := 256) (φ := .f32) _ i k).trans (congrFun (V_main_arg2 m c) _)

theorem gain_of (k : Fin 256) : @rows 1 256 .f32 (V m c main_v0) 0 k = m ((c.tc : Thread nD τ).loc main_arg1) (ValueIdx.ix1 k) :=
  (rows_at (a := 1) (b := 256) (φ := .f32) _ 0 k).trans ((congrFun (gain m c) _).trans (row _ _ 0 k))

end

/-- The kernel and the reference end with the same arrays. -/
theorem algebraic : algebraic_KvNormDxIdeal_KvNormDxRefIdeal (hKvNormDxIdeal := Cert.KvNormDxIdeal.Gen.facts) (hKvNormDxRefIdeal := Cert.KvNormDxRefIdeal.Gen.facts) := by
  intro m g m' g' _ hm
  refine ⟨fun c => (dats m 0 c).arrAt 3 cfg0.N, fun c => (dats m 0 c).arrAt 4 cfg0.N, run_blocks (F := Ideal) m g, ?_⟩
  refine (θ_run Cert.KvNormDxRefIdeal.defs _ _).mono (fun r h c => ?_) (Cert.KvNormDxRefIdeal.Value.run (F := Ideal) m' g')
  have first : r.2.mem ((c.tc : Thread Cert.KvNormDxRefIdeal.nD Cert.KvNormDxRefIdeal.τ).loc Cert.KvNormDxRefIdeal.main_v35) = (dats m 0 c).arrAt 3 cfg0.N := by
    refine (h c).1.trans ?_
    clear h
    obtain ⟨e0, e1, e2⟩ := hm c
    clear hm
    rw [e0, e1, e2]
    refine @ext2 16384 256 .f32 _ _ fun i j => (graded_host (p := 16384) (n := 256) _ _ bits_256 (by norm_num) (fun i => congrArg Ideal.rsqrt (spread_host _ _ _ _ _ _ _ _ i 0)) (fun i => spread_host _ _ _ _ _ _ _ _ i 0)
      _ _ _ _ _ _ _ _ _ i j).trans ((rows_array m c i j).trans ?_).symm
    unfold dRow
    exact congrArg₂ (fun x d => back _ _ x d j) (funext fun k => row_of m c i k) (funext fun k => (congrArg₂ (· * ·) (reach_of m c i k) (gain_of m c k)).trans (gained_host (p := 16384) (n := 256) _ _ _ _ i k).symm)
  refine ⟨first, (h c).2.1.trans ?_, (h c).2.2⟩
  · clear h
    obtain ⟨e0, e1, e2⟩ := hm c
    clear hm
    rw [e0, e2]
    refine @ext2 1 256 .f32 _ _ fun i j => ?_
    obtain rfl : i = 0 := Subsingleton.elim _ _
    refine (gain_whole (p := 16384) (n := 256) (be := 0x358637BD#32) (bw := 0x43800000#32) _ _ (fun i => congrArg Ideal.rsqrt (spread_host _ _ _ _ _ _ _ _ i 0)) _ _ _ _ _ _ _ 0 j).trans ((gain_array m c j).trans ?_).symm
    unfold dGain
    exact Finset.sum_congr (M := EReal) rfl fun i _ => congrArg₂ (· * ·) (reach_of m c i j) (congrArg₂ (· * ·) (row_of m c i j) (congrArg _ (funext fun k => row_of m c i k)))

end Cert.KvNormDxIdeal.Sum

end
-- ==== Proof.LossHead.lean ====
/-
  The end of the forward pass: the last norm, the loss and its gradients; each array the kernel leaves is the reference's.
-/
module
public import Idealize.ShloMosaic.Lib.StableHlo.ReadAt
public import proofs.«01_k».proof.Proof.Rows
public import proofs.«01_k».proof.Proof.Gen.LossIdeal.Value
public import proofs.«01_k».proof.Proof.Gen.LossRefIdeal.Run
public import proofs.«01_k».proof.Defs

@[expose] public section

set_option maxRecDepth 20000

noncomputable section

open Idealize.ShloMosaic Idealize.ShloMosaic.TcCoe Cert.Product Cert.Rows

/-! ### The last norm, the loss and their gradients -/

namespace Cert.LossIdeal.Sum
open Cert.LossIdeal Cert.LossIdeal.Gen Cert.LossIdeal.Value

theorem places : ∀ t : Fin cfg0.N, (win0_0.index t 0 = t.val ∧ win0_0.index t 1 = 0) ∧ (win0_1.index t 0 = 0 ∧ win0_1.index t 1 = 0) ∧ (win0_2.index t 0 = t.val ∧ win0_2.index t 1 = 0)
    ∧ ((cfg0.win 3).flush t = true ∧ win0_3.index t 0 = t.val ∧ win0_3.index t 1 = 0) ∧ ((cfg0.win 4).flush t = true ∧ win0_4.index t 0 = t.val ∧ win0_4.index t 1 = 0)
    ∧ (win0_5.index t 0 = 0 ∧ win0_5.index t 1 = 0) ∧ ((cfg0.win 5).flush t = true ↔ t.val + 1 = 32)
    ∧ (win0_6.index t 0 = 0 ∧ win0_6.index t 1 = 0) ∧ ((cfg0.win 6).flush t = true ↔ t.val + 1 = 32) :=
  (by decide +kernel : ∀ t : Fin grid0.N, _)

section
variable (m : (ℓ : Loc nD τ sig) → Buf (Elt Ideal) ℓ) (c : Dev nD)

theorem gain : V m c main_v0 = shapeCast S1x1024 (m ((c.tc : Thread nD τ).loc main_arg1)) shapeCasts_S1024_S1x1024 := by
  unfold V
  after_reads_simp
  rfl

/-- What a point leaves of the gradient by the rows. -/
theorem left (t : Fin cfg0.N) : (outsAt0 m c t.val t.isLt).1 = k0_pay11 (F := Ideal) (iblk m c 0 t) (iblk m c 1 t) (iblk m c 2 t) := by
  by_cases h0 : t.val % 32 = 0
  · rw [outsAt0_A m c t h0]
    unfold out0_A_3 kernelRun0_A
    dsimp only
    sl_unfold_words
    exact left₃ (hs0_0 t) (hs0_1 t) (hs0_2 t) VO0_3 _ _ _ _ (k0_pay11 (F := Ideal)) []
  · rw [outsAt0_B m c t h0]
    unfold out0_B_3 kernelRun0_B
    dsimp only
    sl_unfold_words
    exact left₃ (hs0_0 t) (hs0_1 t) (hs0_2 t) VO0_3 _ _ _ _ (k0_pay11 (F := Ideal)) []

theorem left_narrow (t : Fin cfg0.N) : (outsAt0 m c t.val t.isLt).2.1 = k0_pay1 (F := Ideal) (k0_pay11 (F := Ideal) (iblk m c 0 t) (iblk m c 1 t) (iblk m c 2 t)) := by
  by_cases h0 : t.val % 32 = 0
  · rw [outsAt0_A m c t h0]
    unfold out0_A_4 kernelRun0_A
    dsimp only
    sl_unfold_words
    exact left₃ (hs0_0 t) (hs0_1 t) (hs0_2 t) VO0_4 _ _ _ _ (fun x g y => k0_pay1 (F := Ideal) (k0_pay11 (F := Ideal) x g y)) []
  · rw [outsAt0_B m c t h0]
    unfold out0_B_4 kernelRun0_B
    dsimp only
    sl_unfold_words
    exact left₃ (hs0_0 t) (hs0_1 t) (hs0_2 t) VO0_4 _ _ _ _ (fun x g y => k0_pay1 (F := Ideal) (k0_pay11 (F := Ideal) x g y)) []

/-- Of the loss: the first point begins it, the others add to it. -/
theorem begins_loss (t : Fin cfg0.N) (h0 : t.val % 32 = 0) : (outsAt0 m c t.val t.isLt).2.2.1
    = k0_pay4 (F := Ideal) (k0_pay12 (F := Ideal) (iblk m c 0 t) (iblk m c 1 t) (iblk m c 2 t)) (k0_pay2 (F := Ideal)) := by
  rw [outsAt0_A m c t h0]
  unfold out0_A_5 kernelRun0_A
  dsimp only
  sl_unfold_words
  exact left₃₁ (hs0_0 t) (hs0_1 t) (hs0_2 t) VO0_5 _ _ _ _ _ _ (fun x g y a => k0_pay4 (F := Ideal) (k0_pay12 (F := Ideal) x g y) a) _

theorem adds_loss (t : Fin cfg0.N) (h0 : ¬t.val % 32 = 0) : (outsAt0 m c t.val t.isLt).2.2.1
    = k0_pay4 (F := Ideal) (k0_pay12 (F := Ideal) (iblk m c 0 t) (iblk m c 1 t) (iblk m c 2 t)) (outsAt0 m c (t.val - 1) (Nat.lt_of_le_of_lt (Nat.sub_le _ _) t.isLt)).2.2.1 := by
  rw [outsAt0_B m c t h0]
  unfold out0_B_5 kernelRun0_B
  dsimp only
  sl_unfold_words
  exact left₄ (hs0_0 t) (hs0_1 t) (hs0_2 t) (hs0_5 t) VO0_5 _ _ _ _ _ (fun x g y a => k0_pay4 (F := Ideal) (k0_pay12 (F := Ideal) x g y) a) []

/-- And of the gradient by the gain, likewise. -/
theorem begins (t : Fin cfg0.N) (h0 : t.val % 32 = 0) : (outsAt0 m c t.val t.isLt).2.2.2
    = k0_pay5 (F := Ideal) (k0_pay13 (F := Ideal) (iblk m c 0 t) (iblk m c 1 t) (iblk m c 2 t)) (k0_pay3 (F := Ideal)) := by
  rw [outsAt0_A m c t h0]
  unfold out0_A_6 kernelRun0_A
  dsimp only
  sl_unfold_words
  exact left₃₁ (hs0_0 t) (hs0_1 t) (hs0_2 t) VO0_6 _ _ _ _ _ _ (fun x g y a => k0_pay5 (F := Ideal) (k0_pay13 (F := Ideal) x g y) a) _

theorem adds (t : Fin cfg0.N) (h0 : ¬t.val % 32 = 0) : (outsAt0 m c t.val t.isLt).2.2.2
    = k0_pay5 (F := Ideal) (k0_pay13 (F := Ideal) (iblk m c 0 t) (iblk m c 1 t) (iblk m c 2 t)) (outsAt0 m c (t.val - 1) (Nat.lt_of_le_of_lt (Nat.sub_le _ _) t.isLt)).2.2.2 := by
  rw [outsAt0_B m c t h0]
  unfold out0_B_6 kernelRun0_B
  dsimp only
  sl_unfold_words
  exact left₄ (hs0_0 t) (hs0_1 t) (hs0_2 t) (hs0_6 t) VO0_6 _ _ _ _ _ (fun x g y a => k0_pay5 (F := Ideal) (k0_pay13 (F := Ideal) x g y) a) []

/-- A point's blocks of the rows and of their targets, and the gain. -/
theorem row_at (t : Fin cfg0.N) (r : Fin 512) (k : Fin 1024) : iblk m c 0 t (px r k) = @rows 16384 1024 .f32 (V m c main_arg0) (512 * t.val + r.val) k :=
  rows_block (a := 16384) (b := 1024) (φ := .f32) _ (places t).1 rfl rfl

theorem target_at (t : Fin cfg0.N) (r : Fin 512) (k : Fin 1024) : iblk m c 2 t (px r k) = @rows 16384 1024 .f32 (V m c main_arg2) (512 * t.val + r.val) k :=
  rows_block (a := 16384) (b := 1024) (φ := .f32) _ (places t).2.2.1 rfl rfl

theorem gain_at (t : Fin cfg0.N) (k : Fin 1024) : iblk m c 1 t (px 0 k) = @rows 1 1024 .f32 (V m c main_v0) 0 k :=
  at_block (a := 1) (b := 1024) (φ := .f32) (V m c main_v0) (places t).2.1 (q := 1) (r := 0) (h := 1024) (s := k.val) rfl rfl

/-- By how much a row misses its target, what that sends back, the loss and the gradients, by rows. -/
def off (i : ℕ) (j : Fin 1024) : EReal :=
  miss (Ideal.ofBits .f32 0x44800000#32) (Ideal.ofBits .f32 0x358637BD#32) (@rows 16384 1024 .f32 (V m c main_arg0) i) (@rows 1 1024 .f32 (V m c main_v0) 0)
    (@rows 16384 1024 .f32 (V m c main_arg2) i) j

def sent (i : ℕ) (j : Fin 1024) : EReal := off m c i j * Ideal.ofBits .f32 0x3A800000#32

def dLoss (i : ℕ) : EReal := cost (Ideal.ofBits .f32 0x44800000#32) (off m c i)

def dRow (i : ℕ) (j : Fin 1024) : EReal :=
  back (Ideal.ofBits .f32 0x44800000#32) (Ideal.ofBits .f32 0x358637BD#32) (@rows 16384 1024 .f32 (V m c main_arg0) i) (fun k => sent m c i k * @rows 1 1024 .f32 (V m c main_v0) 0 k) j

def dGain (i : ℕ) (j : Fin 1024) : EReal :=
  sent m c i j * (@rows 16384 1024 .f32 (V m c main_arg0) i j * root (Ideal.ofBits .f32 0x44800000#32) (Ideal.ofBits .f32 0x358637BD#32) (@rows 16384 1024 .f32 (V m c main_arg0) i))

theorem off_at (t : Fin cfg0.N) (r : Fin 512) (s : Fin 1024) : k0_pay9 (F := Ideal) (iblk m c 0 t) (iblk m c 1 t) (iblk m c 2 t) (px r s) = off m c (512 * t.val + r.val) s := by
  unfold k0_pay9 k0_pay8 k0_pay6 off
  refine (miss_tile (p := 512) (n := 1024) (bw := 0x44800000#32) (be := 0x358637BD#32) (iblk m c 0 t) (iblk m c 2 t) (fun i => rstd_tile _ _ _ _ _ _ _ _ i 0) (iblk m c 1 t) _ _ _ r s).trans ?_
  rw [funext fun k => row_at m c t r k, funext fun k => gain_at m c t k, funext fun k => target_at m c t r k]

theorem sent_at (t : Fin cfg0.N) (r : Fin 512) (s : Fin 1024) : k0_pay10 (F := Ideal) (iblk m c 0 t) (iblk m c 1 t) (iblk m c 2 t) (px r s) = sent m c (512 * t.val + r.val) s :=
  congrArg (· * Ideal.ofBits .f32 0x3A800000#32) (off_at m c t r s)

theorem tile_at (t : Fin cfg0.N) (r : Fin 512) (s : Fin 1024) : k0_pay11 (F := Ideal) (iblk m c 0 t) (iblk m c 1 t) (iblk m c 2 t) (px r s) = dRow m c (512 * t.val + r.val) s := by
  unfold k0_pay11 k0_pay8 k0_pay6 dRow
  exact (graded_tile (p := 512) (n := 1024) (bw := 0x44800000#32) (be := 0x358637BD#32) (iblk m c 0 t) (k0_pay10 (F := Ideal) (iblk m c 0 t) (iblk m c 1 t) (iblk m c 2 t)) (fun i => rstd_tile _ _ _ _ _ _ _ _ i 0) (iblk m c 1 t) _ _ _ _ _ _ _ _ _ _ r s).trans
    (congrArg₂ (fun x d => back _ _ x d s) (funext fun k => row_at m c t r k) (funext fun k => congrArg₂ (· * ·) (sent_at m c t r k) (gain_at m c t k)))

theorem part_at_loss (t : Fin cfg0.N) (A : FVec Ideal S1x128 .f32) (j : Fin 128) : k0_pay4 (F := Ideal) (k0_pay12 (F := Ideal) (iblk m c 0 t) (iblk m c 1 t) (iblk m c 2 t)) A (px 0 j) = A (px 0 j) + ∑ r : Fin 512, dLoss m c (512 * t.val + r.val) := by
  unfold k0_pay4 k0_pay12 dLoss
  exact congrArg₂ (· + ·) (congrFun (shapeCast_self A _) _) ((cost_tile (p := 512) (n := 1024) (bw := 0x44800000#32) (k0_pay9 (F := Ideal) (iblk m c 0 t) (iblk m c 1 t) (iblk m c 2 t)) _ _ _ _ _ _ _ _ _ _ _ _ 0 j).trans
    (Finset.sum_congr rfl fun r _ => congrArg _ (funext fun k => off_at m c t r k)))

theorem part_at (t : Fin cfg0.N) (A : FVec Ideal S1x1024 .f32) (j : Fin 1024) : k0_pay5 (F := Ideal) (k0_pay13 (F := Ideal) (iblk m c 0 t) (iblk m c 1 t) (iblk m c 2 t)) A (px 0 j) = A (px 0 j) + ∑ r : Fin 512, dGain m c (512 * t.val + r.val) j := by
  unfold k0_pay5 k0_pay13 k0_pay8 dGain
  exact congrArg₂ (· + ·) (congrFun (shapeCast_self A _) _) ((gain_part (p := 512) (n := 1024) (bw := 0x44800000#32) (be := 0x358637BD#32) (iblk m c 0 t) (k0_pay10 (F := Ideal) (iblk m c 0 t) (iblk m c 1 t) (iblk m c 2 t)) (fun i => rstd_tile _ _ _ _ _ _ _ _ i 0) _ _ _ _ _ _ 0 j).trans
    (Finset.sum_congr rfl fun r _ => congrArg₂ (· * ·) (sent_at m c t r j) (congrArg₂ (· * ·) (row_at m c t r j) (congrArg _ (funext fun k => row_at m c t r k)))))

theorem rows_array (i : Fin 16384) (j : Fin 1024) : ((dats m 0 c).arrAt 3 cfg0.N : FVec Ideal S16384x1024 .f32) (px i j) = dRow m c i.val j :=
  bands (p := 512) (φ := .f32) _ (congrArg (512 * ·) N_0.symm) _
    (fun t r s => (at_block (a := 16384) (b := 1024) (φ := .f32) _ (places t).2.2.2.1.2 rfl rfl).symm.trans
      ((congrFun ((blocks3 m c t (places t).2.2.2.1.1).trans (flushed3 m c t)) (px r s)).trans
        ((congrFun (left m c t) (px r s)).trans (tile_at m c t r s)))) i j

theorem narrow_array (i : Fin 16384) (j : Fin 1024) : ((dats m 0 c).arrAt 4 cfg0.N : FVec Ideal S16384x1024 .bf16) (px i j) = dRow m c i.val j :=
  bands (p := 512) (φ := .bf16) _ (congrArg (512 * ·) N_0.symm) _
    (fun t r s => (at_block (a := 16384) (b := 1024) (φ := .bf16) _ (places t).2.2.2.2.1.2 rfl rfl).symm.trans
      ((congrFun ((blocks4 m c t (places t).2.2.2.2.1.1).trans (flushed4 m c t)) (px r s)).trans
        ((congrFun (left_narrow m c t) (px r s)).trans (tile_at m c t r s)))) i j

theorem last_loss (t : Fin cfg0.N) (ht : t.val + 1 = 32) (j : Fin 128) : ((dats m 0 c).arrAt 5 cfg0.N : FVec Ideal S1x128 .f32) (px 0 j) = (outsAt0 m c t.val t.isLt).2.2.1 (px 0 j) := by
  have one := (dats m 0 c).read_blk_arrAt_eq_flushed 5 (fun t t' h h' hne => absurd (Fin.ext (Nat.succ_injective (((places t).2.2.2.2.2.2.1.1 h).trans ((places t').2.2.2.2.2.2.1.1 h').symm))) hne)
    cfg0.N t t.isLt ((places t).2.2.2.2.2.2.1.2 ht)
  have whole : ∀ X : FVec Ideal S1x128 .f32, (cfg0.win 5).cut (grid0.coords t) X = X := fun _ => rfl
  exact (rows_at (a := 1) (b := 128) (φ := .f32) _ 0 j).symm.trans ((at_block (a := 1) (b := 128) (φ := .f32) (q := 1) (r := 0) (h := 128) (s := j.val) _ (places t).2.2.2.2.2.1 rfl rfl).symm.trans
    (congrFun (one.trans ((flushed5 m c t).trans (whole _))) (px 0 j)))

/-- The entry after a point. -/
def after_loss (j : Fin 128) (t : ℕ) (h : t < cfg0.N) : EReal := (outsAt0 m c t h).2.2.1 (px 0 j)

theorem after_loss_zero (j : Fin 128) (h : 0 < cfg0.N) : after_loss m c j 0 h = ∑ r : Fin 512, dLoss m c (512 * 0 + r.val) := by
  refine (congrFun (begins_loss m c ⟨0, h⟩ rfl) (px 0 j)).trans ((part_at_loss m c ⟨0, h⟩ (k0_pay2 (F := Ideal)) j).trans ?_)
  exact (congrArg (· + ∑ r : Fin 512, dLoss m c (512 * 0 + r.val)) Ideal.ofBits_zero_f32).trans (zero_add _)

theorem after_loss_next (j : Fin 128) (t : ℕ) (h : t + 1 < cfg0.N) : after_loss m c j (t + 1) h = after_loss m c j t (Nat.lt_of_succ_lt h) + ∑ r : Fin 512, dLoss m c (512 * (t + 1) + r.val) := by
  have : cfg0.N = 32 := N_0
  exact (congrFun (adds_loss m c ⟨t + 1, h⟩ (by show ¬(t + 1) % 32 = 0; omega)) (px 0 j)).trans (part_at_loss m c ⟨t + 1, h⟩ _ j)

theorem loss_array (j : Fin 128) : ((dats m 0 c).arrAt 5 cfg0.N : FVec Ideal S1x128 .f32) (px 0 j) = ∑ i : Fin 16384, dLoss m c i.val := by
  have total (t : Fin cfg0.N) (ht : t.val + 1 = 32) : ((dats m 0 c).arrAt 5 cfg0.N : FVec Ideal S1x128 .f32) (px 0 j) = ∑ i : Fin 16384, dLoss m c i.val :=
    (last_loss m c t ht j).trans (column_total (N := cfg0.N) (p := 512) (M := 16384) (congrArg (512 * ·) N_0.symm) (after_loss m c j) (fun i => dLoss m c i) (after_loss_zero m c j)
      (after_loss_next m c j) t.val t.isLt (ht.trans N_0.symm))
  exact total ⟨31, (by decide : 31 < 32).trans_eq N_0.symm⟩ rfl

theorem last (t : Fin cfg0.N) (ht : t.val + 1 = 32) (j : Fin 1024) : ((dats m 0 c).arrAt 6 cfg0.N : FVec Ideal S1x1024 .f32) (px 0 j) = (outsAt0 m c t.val t.isLt).2.2.2 (px 0 j) := by
  have one := (dats m 0 c).read_blk_arrAt_eq_flushed 6 (fun t t' h h' hne => absurd (Fin.ext (Nat.succ_injective (((places t).2.2.2.2.2.2.2.2.1 h).trans ((places t').2.2.2.2.2.2.2.2.1 h').symm))) hne)
    cfg0.N t t.isLt ((places t).2.2.2.2.2.2.2.2.2 ht)
  have whole : ∀ X : FVec Ideal S1x1024 .f32, (cfg0.win 6).cut (grid0.coords t) X = X := fun _ => rfl
  exact (rows_at (a := 1) (b := 1024) (φ := .f32) _ 0 j).symm.trans ((at_block (a := 1) (b := 1024) (φ := .f32) (q := 1) (r := 0) (h := 1024) (s := j.val) _ (places t).2.2.2.2.2.2.2.1 rfl rfl).symm.trans
    (congrFun (one.trans ((flushed6 m c t).trans (whole _))) (px 0 j)))

/-- The entry after a point. -/
def after (j : Fin 1024) (t : ℕ) (h : t < cfg0.N) : EReal := (outsAt0 m c t h).2.2.2 (px 0 j)

theorem after_zero (j : Fin 1024) (h : 0 < cfg0.N) : after m c j 0 h = ∑ r : Fin 512, dGain m c (512 * 0 + r.val) j := by
  refine (congrFun (begins m c ⟨0, h⟩ rfl) (px 0 j)).trans ((part_at m c ⟨0, h⟩ (k0_pay3 (F := Ideal)) j).trans ?_)
  exact (congrArg (· + ∑ r : Fin 512, dGain m c (512 * 0 + r.val) j) Ideal.ofBits_zero_f32).trans (zero_add _)

theorem after_next (j : Fin 1024) (t : ℕ) (h : t + 1 < cfg0.N) : after m c j (t + 1) h = after m c j t (Nat.lt_of_succ_lt h) + ∑ r : Fin 512, dGain m c (512 * (t + 1) + r.val) j := by
  have : cfg0.N = 32 := N_0
  exact (congrFun (adds m c ⟨t + 1, h⟩ (by show ¬(t + 1) % 32 = 0; omega)) (px 0 j)).trans (part_at m c ⟨t + 1, h⟩ _ j)

theorem gain_array (j : Fin 1024) : ((dats m 0 c).arrAt 6 cfg0.N : FVec Ideal S1x1024 .f32) (px 0 j) = ∑ i : Fin 16384, dGain m c i.val j := by
  have total (t : Fin cfg0.N) (ht : t.val + 1 = 32) : ((dats m 0 c).arrAt 6 cfg0.N : FVec Ideal S1x1024 .f32) (px 0 j) = ∑ i : Fin 16384, dGain m c i.val j :=
    (last m c t ht j).trans (column_total (N := cfg0.N) (p := 512) (M := 16384) (congrArg (512 * ·) N_0.symm) (after m c j) (fun i => dGain m c i j) (after_zero m c j)
      (after_next m c j) t.val t.isLt (ht.trans N_0.symm))
  exact total ⟨31, (by decide : 31 < 32).trans_eq N_0.symm⟩ rfl

/-- The rows, their targets and the gain, as the arguments are given. -/
theorem row_of (i : Fin 16384) (k : Fin 1024) : @rows 16384 1024 .f32 (V m c main_arg0) i.val k = m ((c.tc : Thread nD τ).loc main_arg0) (px i k) :=
  (rows_at (a := 16384) (b := 1024) (φ := .f32) _ i k).trans (congrFun (V_main_arg0 m c) _)

theorem target_of (i : Fin 16384) (k : Fin 1024) : @rows 16384 1024 .f32 (V m c main_arg2) i.val k = m ((c.tc : Thread nD τ).loc main_arg2) (px i k) :=
  (rows_at (a := 16384) (b := 1024) (φ := .f32) _ i k).trans (congrFun (V_main_arg2 m c) _)

theorem gain_of (k : Fin 1024) : @rows 1 1024 .f32 (V m c main_v0) 0 k = m ((c.tc : Thread nD τ).loc main_arg1) (ValueIdx.ix1 k) :=
  (rows_at (a := 1) (b := 1024) (φ := .f32) _ 0 k).trans ((congrFun (gain m c) _).trans (row _ _ 0 k))

theorem off_of (i : Fin 16384) (j : Fin 1024) : off m c i.val j = miss (Ideal.ofBits .f32 0x44800000#32) (Ideal.ofBits .f32 0x358637BD#32) (fun k => m ((c.tc : Thread nD τ).loc main_arg0) (px i k))
    (fun k => m ((c.tc : Thread nD τ).loc main_arg1) (ValueIdx.ix1 k)) (fun k => m ((c.tc : Thread nD τ).loc main_arg2) (px i k)) j := by
  unfold off
  rw [funext fun k => row_of m c i k, funext fun k => gain_of m c k, funext fun k => target_of m c i k]

end

/-- The kernel and the reference end with the same arrays. -/
theorem algebraic : algebraic_LossIdeal_LossRefIdeal (hLossIdeal := Cert.LossIdeal.Gen.facts) (hLossRefIdeal := Cert.LossRefIdeal.Gen.facts) := by
  intro m g m' g' _ hm
  refine ⟨fun c => (dats m 0 c).arrAt 3 cfg0.N, fun c => (dats m 0 c).arrAt 4 cfg0.N, fun c => (dats m 0 c).arrAt 5 cfg0.N, fun c => (dats m 0 c).arrAt 6 cfg0.N, run_blocks (F := Ideal) m g, ?_⟩
  refine (θ_run Cert.LossRefIdeal.defs _ _).mono (fun r h c => ?_) (Cert.LossRefIdeal.Value.run (F := Ideal) m' g')
  have first : r.2.mem ((c.tc : Thread Cert.LossRefIdeal.nD Cert.LossRefIdeal.τ).loc Cert.LossRefIdeal.main_v50) = (dats m 0 c).arrAt 3 cfg0.N := by
    refine (h c).1.trans ?_
    clear h
    obtain ⟨e0, e1, e2⟩ := hm c
    clear hm
    unfold Cert.LossRefIdeal.Value.res_main_v50
    rw [e0, e1, e2]
    refine @ext2 16384 1024 .f32 _ _ fun i j => (graded_host (p := 16384) (n := 1024) _ _ bits_1024 (by norm_num) (fun i => congrArg Ideal.rsqrt (spread_host _ _ _ _ _ _ _ _ i 0)) (fun i => spread_host _ _ _ _ _ _ _ _ i 0)
      _ _ _ _ _ _ _ _ _ i j).trans ((rows_array m c i j).trans ?_).symm
    unfold dRow
    refine congrArg₂ (fun x d => back _ _ x d j) (funext fun k => row_of m c i k) (funext fun k => (congrArg₂ (· * ·) ?_ (gain_of m c k)).trans (gained_host (p := 16384) (n := 1024) _ _ _ _ i k).symm)
    exact ((slope_host _ _ _ _ _ i k).trans (congrArg (· * Ideal.ofBits .f32 0x3A800000#32) ((miss_host (p := 16384) (n := 1024) (bw := 0x44800000#32) (be := 0x358637BD#32) _ _ (fun i => congrArg Ideal.rsqrt (spread_host _ _ _ _ _ _ _ _ i 0)) _ _ _ _ i k).trans (off_of m c i k).symm))).symm
  refine ⟨first, (h c).2.1.trans (@ext2 16384 1024 .bf16 _ _ fun i j => (congrFun ((h c).1.symm.trans first) (px i j)).trans ((rows_array m c i j).trans (narrow_array m c i j).symm)),
    (h c).2.2.1.trans ?_, (h c).2.2.2.1.trans ?_, (h c).2.2.2.2⟩
  · clear h first
    obtain ⟨e0, e1, e2⟩ := hm c
    clear hm
    rw [e0, e1, e2]
    refine @ext2 1 128 .f32 _ _ fun i j => ?_
    obtain rfl : i = 0 := Subsingleton.elim _ _
    refine (cost_host (p := 16384) (n := 1024) (bw := 0x44800000#32) _ _ _ _ _ _ _ 0 j).trans ((loss_array m c j).trans ?_).symm
    unfold dLoss
    exact Finset.sum_congr (M := EReal) rfl fun i _ => congrArg _ (funext fun k => (off_of m c i k).trans
      (miss_host (p := 16384) (n := 1024) (bw := 0x44800000#32) (be := 0x358637BD#32) _ _ (fun i => congrArg Ideal.rsqrt (spread_host _ _ _ _ _ _ _ _ i 0)) _ _ _ _ i k).symm)
  · clear h first
    obtain ⟨e0, e1, e2⟩ := hm c
    clear hm
    rw [e0, e1, e2]
    refine @ext2 1 1024 .f32 _ _ fun i j => ?_
    obtain rfl : i = 0 := Subsingleton.elim _ _
    refine (gain_whole (p := 16384) (n := 1024) (be := 0x358637BD#32) (bw := 0x44800000#32) _ _ (fun i => congrArg Ideal.rsqrt (spread_host _ _ _ _ _ _ _ _ i 0)) _ _ _ _ _ _ _ 0 j).trans ((gain_array m c j).trans ?_).symm
    unfold dGain
    refine Finset.sum_congr (M := EReal) rfl fun i _ => congrArg₂ (· * ·) ?_ (congrArg₂ (· * ·) (row_of m c i j) (congrArg _ (funext fun k => row_of m c i k)))
    exact ((slope_host _ _ _ _ _ i j).trans (congrArg (· * Ideal.ofBits .f32 0x3A800000#32) ((miss_host (p := 16384) (n := 1024) (bw := 0x44800000#32) (be := 0x358637BD#32) _ _ (fun i => congrArg Ideal.rsqrt (spread_host _ _ _ _ _ _ _ _ i 0)) _ _ _ _ i j).trans (off_of m c i j).symm))).symm

end Cert.LossIdeal.Sum
-- ==== Proof.StepFrames.lean ====
module
public import proofs.«01_k».proof.Defs
public import proofs.«01_k».proof.Proof.Gen.AdamRelBias.Frame
public import proofs.«01_k».proof.Proof.Gen.AdamRelBiasIdeal.Frame
public import proofs.«01_k».proof.Proof.Gen.AdamRelBiasRefIdeal.Run
public import proofs.«01_k».proof.Proof.Gen.AdamLayerNorms.Frame
public import proofs.«01_k».proof.Proof.Gen.AdamLayerNormsIdeal.Frame
public import proofs.«01_k».proof.Proof.Gen.AdamLayerNormsRefIdeal.Run
public import proofs.«01_k».proof.Proof.Gen.AdamFinalNorm.Frame
public import proofs.«01_k».proof.Proof.Gen.AdamFinalNormIdeal.Frame
public import proofs.«01_k».proof.Proof.Gen.AdamFinalNormRefIdeal.Run
public import proofs.«01_k».proof.Proof.Gen.AdamWIn.Frame
public import proofs.«01_k».proof.Proof.Gen.AdamWInIdeal.Frame
public import proofs.«01_k».proof.Proof.Gen.AdamWInRefIdeal.Run
public import proofs.«01_k».proof.Proof.Gen.AdamSinks.Frame
public import proofs.«01_k».proof.Proof.Gen.AdamSinksIdeal.Frame
public import proofs.«01_k».proof.Proof.Gen.AdamSinksRefIdeal.Run
public import proofs.«01_k».proof.Proof.Gen.AdamWOut.Frame
public import proofs.«01_k».proof.Proof.Gen.AdamWOutIdeal.Frame
public import proofs.«01_k».proof.Proof.Gen.AdamWOutRefIdeal.Run
public import proofs.«01_k».proof.Proof.Gen.AdamWDown.Frame
public import proofs.«01_k».proof.Proof.Gen.AdamWDownIdeal.Frame
public import proofs.«01_k».proof.Proof.Gen.AdamWDownRefIdeal.Run
public import proofs.«01_k».proof.Proof.Gen.AdamQNorms.Frame
public import proofs.«01_k».proof.Proof.Gen.AdamQNormsIdeal.Frame
public import proofs.«01_k».proof.Proof.Gen.AdamQNormsRefIdeal.Run
public import proofs.«01_k».proof.Proof.Gen.AdamWUq.Frame
public import proofs.«01_k».proof.Proof.Gen.AdamWUqIdeal.Frame
public import proofs.«01_k».proof.Proof.Gen.AdamWUqRefIdeal.Run
public import proofs.«01_k».proof.Proof.Gen.AdamKvNorms.Frame
public import proofs.«01_k».proof.Proof.Gen.AdamKvNormsIdeal.Frame
public import proofs.«01_k».proof.Proof.Gen.AdamKvNormsRefIdeal.Run
public import proofs.«01_k».proof.Proof.Gen.AdamWUkv.Frame
public import proofs.«01_k».proof.Proof.Gen.AdamWUkvIdeal.Frame
public import proofs.«01_k».proof.Proof.Gen.AdamWUkvRefIdeal.Run
public import proofs.«01_k».proof.Proof.Gen.AdamWO.Frame
public import proofs.«01_k».proof.Proof.Gen.AdamWOIdeal.Frame
public import proofs.«01_k».proof.Proof.Gen.AdamWORefIdeal.Run
public import proofs.«01_k».proof.Proof.Gen.AdamWMlp.Frame
public import proofs.«01_k».proof.Proof.Gen.AdamWMlpIdeal.Frame
public import proofs.«01_k».proof.Proof.Gen.AdamWMlpRefIdeal.Run
public import Idealize.ShloMosaic.Adequacy
public import Idealize.ShloMosaic.Init
@[expose] public section
/-!
# The frames of the optimiser's programs
-/

noncomputable section

namespace Cert.Proof
open Idealize.ShloMosaic Idealize.SL.Sem

theorem frame_AdamRelBias : Cert.quiescent_AdamRelBias := fun m ρ _ => Cert.AdamRelBias.Gen.frame m ρ
theorem frame_AdamRelBiasIdeal : Cert.quiescent_AdamRelBiasIdeal := fun m ρ _ => Cert.AdamRelBiasIdeal.Gen.frame m ρ
theorem frame_AdamRelBiasRefIdeal : Cert.quiescent_AdamRelBiasRefIdeal := fun m ρ _ =>
  (θ_run Cert.AdamRelBiasRefIdeal.defs _ _).mono (fun r h => ⟨fun c => (h c).2.2.2, Idealize.ShloMosaic.sem_eq_zero_of_no_sems (by decide) r.2⟩)
    (Cert.AdamRelBiasRefIdeal.Value.run m ρ)

theorem frame_AdamLayerNorms : Cert.quiescent_AdamLayerNorms := fun m ρ _ => Cert.AdamLayerNorms.Gen.frame m ρ
theorem frame_AdamLayerNormsIdeal : Cert.quiescent_AdamLayerNormsIdeal := fun m ρ _ => Cert.AdamLayerNormsIdeal.Gen.frame m ρ
theorem frame_AdamLayerNormsRefIdeal : Cert.quiescent_AdamLayerNormsRefIdeal := fun m ρ _ =>
  (θ_run Cert.AdamLayerNormsRefIdeal.defs _ _).mono (fun r h => ⟨fun c => (h c).2.2.2, Idealize.ShloMosaic.sem_eq_zero_of_no_sems (by decide) r.2⟩)
    (Cert.AdamLayerNormsRefIdeal.Value.run m ρ)

theorem frame_AdamFinalNorm : Cert.quiescent_AdamFinalNorm := fun m ρ _ => Cert.AdamFinalNorm.Gen.frame m ρ
theorem frame_AdamFinalNormIdeal : Cert.quiescent_AdamFinalNormIdeal := fun m ρ _ => Cert.AdamFinalNormIdeal.Gen.frame m ρ
theorem frame_AdamFinalNormRefIdeal : Cert.quiescent_AdamFinalNormRefIdeal := fun m ρ _ =>
  (θ_run Cert.AdamFinalNormRefIdeal.defs _ _).mono (fun r h => ⟨fun c => (h c).2.2.2, Idealize.ShloMosaic.sem_eq_zero_of_no_sems (by decide) r.2⟩)
    (Cert.AdamFinalNormRefIdeal.Value.run m ρ)

theorem frame_AdamWIn : Cert.quiescent_AdamWIn := fun m ρ _ => Cert.AdamWIn.Gen.frame m ρ
theorem frame_AdamWInIdeal : Cert.quiescent_AdamWInIdeal := fun m ρ _ => Cert.AdamWInIdeal.Gen.frame m ρ
theorem frame_AdamWInRefIdeal : Cert.quiescent_AdamWInRefIdeal := fun m ρ _ =>
  (θ_run Cert.AdamWInRefIdeal.defs _ _).mono (fun r h => ⟨fun c => (h c).2.2.2, Idealize.ShloMosaic.sem_eq_zero_of_no_sems (by decide) r.2⟩)
    (Cert.AdamWInRefIdeal.Value.run m ρ)

theorem frame_AdamSinks : Cert.quiescent_AdamSinks := fun m ρ _ => Cert.AdamSinks.Gen.frame m ρ
theorem frame_AdamSinksIdeal : Cert.quiescent_AdamSinksIdeal := fun m ρ _ => Cert.AdamSinksIdeal.Gen.frame m ρ
theorem frame_AdamSinksRefIdeal : Cert.quiescent_AdamSinksRefIdeal := fun m ρ _ =>
  (θ_run Cert.AdamSinksRefIdeal.defs _ _).mono (fun r h => ⟨fun c => (h c).2.2.2, Idealize.ShloMosaic.sem_eq_zero_of_no_sems (by decide) r.2⟩)
    (Cert.AdamSinksRefIdeal.Value.run m ρ)

theorem frame_AdamWOut : Cert.quiescent_AdamWOut := fun m ρ _ => Cert.AdamWOut.Gen.frame m ρ
theorem frame_AdamWOutIdeal : Cert.quiescent_AdamWOutIdeal := fun m ρ _ => Cert.AdamWOutIdeal.Gen.frame m ρ
theorem frame_AdamWOutRefIdeal : Cert.quiescent_AdamWOutRefIdeal := fun m ρ _ =>
  (θ_run Cert.AdamWOutRefIdeal.defs _ _).mono (fun r h => ⟨fun c => (h c).2.2.2, Idealize.ShloMosaic.sem_eq_zero_of_no_sems (by decide) r.2⟩)
    (Cert.AdamWOutRefIdeal.Value.run m ρ)

theorem frame_AdamWDown : Cert.quiescent_AdamWDown := fun m ρ _ => Cert.AdamWDown.Gen.frame m ρ
theorem frame_AdamWDownIdeal : Cert.quiescent_AdamWDownIdeal := fun m ρ _ => Cert.AdamWDownIdeal.Gen.frame m ρ
theorem frame_AdamWDownRefIdeal : Cert.quiescent_AdamWDownRefIdeal := fun m ρ _ =>
  (θ_run Cert.AdamWDownRefIdeal.defs _ _).mono (fun r h => ⟨fun c => (h c).2.2.2, Idealize.ShloMosaic.sem_eq_zero_of_no_sems (by decide) r.2⟩)
    (Cert.AdamWDownRefIdeal.Value.run m ρ)

theorem frame_AdamQNorms : Cert.quiescent_AdamQNorms := fun m ρ _ => Cert.AdamQNorms.Gen.frame m ρ
theorem frame_AdamQNormsIdeal : Cert.quiescent_AdamQNormsIdeal := fun m ρ _ => Cert.AdamQNormsIdeal.Gen.frame m ρ
theorem frame_AdamQNormsRefIdeal : Cert.quiescent_AdamQNormsRefIdeal := fun m ρ _ =>
  (θ_run Cert.AdamQNormsRefIdeal.defs _ _).mono (fun r h => ⟨fun c => (h c).2.2.2, Idealize.ShloMosaic.sem_eq_zero_of_no_sems (by decide) r.2⟩)
    (Cert.AdamQNormsRefIdeal.Value.run m ρ)

theorem frame_AdamWUq : Cert.quiescent_AdamWUq := fun m ρ _ => Cert.AdamWUq.Gen.frame m ρ
theorem frame_AdamWUqIdeal : Cert.quiescent_AdamWUqIdeal := fun m ρ _ => Cert.AdamWUqIdeal.Gen.frame m ρ
theorem frame_AdamWUqRefIdeal : Cert.quiescent_AdamWUqRefIdeal := fun m ρ _ =>
  (θ_run Cert.AdamWUqRefIdeal.defs _ _).mono (fun r h => ⟨fun c => (h c).2.2.2, Idealize.ShloMosaic.sem_eq_zero_of_no_sems (by decide) r.2⟩)
    (Cert.AdamWUqRefIdeal.Value.run m ρ)

theorem frame_AdamKvNorms : Cert.quiescent_AdamKvNorms := fun m ρ _ => Cert.AdamKvNorms.Gen.frame m ρ
theorem frame_AdamKvNormsIdeal : Cert.quiescent_AdamKvNormsIdeal := fun m ρ _ => Cert.AdamKvNormsIdeal.Gen.frame m ρ
theorem frame_AdamKvNormsRefIdeal : Cert.quiescent_AdamKvNormsRefIdeal := fun m ρ _ =>
  (θ_run Cert.AdamKvNormsRefIdeal.defs _ _).mono (fun r h => ⟨fun c => (h c).2.2.2, Idealize.ShloMosaic.sem_eq_zero_of_no_sems (by decide) r.2⟩)
    (Cert.AdamKvNormsRefIdeal.Value.run m ρ)

theorem frame_AdamWUkv : Cert.quiescent_AdamWUkv := fun m ρ _ => Cert.AdamWUkv.Gen.frame m ρ
theorem frame_AdamWUkvIdeal : Cert.quiescent_AdamWUkvIdeal := fun m ρ _ => Cert.AdamWUkvIdeal.Gen.frame m ρ
theorem frame_AdamWUkvRefIdeal : Cert.quiescent_AdamWUkvRefIdeal := fun m ρ _ =>
  (θ_run Cert.AdamWUkvRefIdeal.defs _ _).mono (fun r h => ⟨fun c => (h c).2.2.2, Idealize.ShloMosaic.sem_eq_zero_of_no_sems (by decide) r.2⟩)
    (Cert.AdamWUkvRefIdeal.Value.run m ρ)

theorem frame_AdamWO : Cert.quiescent_AdamWO := fun m ρ _ => Cert.AdamWO.Gen.frame m ρ
theorem frame_AdamWOIdeal : Cert.quiescent_AdamWOIdeal := fun m ρ _ => Cert.AdamWOIdeal.Gen.frame m ρ
theorem frame_AdamWORefIdeal : Cert.quiescent_AdamWORefIdeal := fun m ρ _ =>
  (θ_run Cert.AdamWORefIdeal.defs _ _).mono (fun r h => ⟨fun c => (h c).2.2.2, Idealize.ShloMosaic.sem_eq_zero_of_no_sems (by decide) r.2⟩)
    (Cert.AdamWORefIdeal.Value.run m ρ)

theorem frame_AdamWMlp : Cert.quiescent_AdamWMlp := fun m ρ _ => Cert.AdamWMlp.Gen.frame m ρ
theorem frame_AdamWMlpIdeal : Cert.quiescent_AdamWMlpIdeal := fun m ρ _ => Cert.AdamWMlpIdeal.Gen.frame m ρ
theorem frame_AdamWMlpRefIdeal : Cert.quiescent_AdamWMlpRefIdeal := fun m ρ _ =>
  (θ_run Cert.AdamWMlpRefIdeal.defs _ _).mono (fun r h => ⟨fun c => (h c).2.2.2, Idealize.ShloMosaic.sem_eq_zero_of_no_sems (by decide) r.2⟩)
    (Cert.AdamWMlpRefIdeal.Value.run m ρ)

end Cert.Proof

end
-- ==== Proof.Step.lean ====
/-
  The optimiser: each array a call of it leaves is the reference's.
-/
module
public import proofs.«01_k».proof.Proof.Rows
public import proofs.«01_k».proof.Proof.Gen.AdamRelBiasIdeal.Value
public import proofs.«01_k».proof.Proof.Gen.AdamRelBiasRefIdeal.Run
public import proofs.«01_k».proof.Proof.Gen.AdamLayerNormsIdeal.Value
public import proofs.«01_k».proof.Proof.Gen.AdamLayerNormsRefIdeal.Run
public import proofs.«01_k».proof.Proof.Gen.AdamFinalNormIdeal.Value
public import proofs.«01_k».proof.Proof.Gen.AdamFinalNormRefIdeal.Run
public import proofs.«01_k».proof.Proof.Gen.AdamWInIdeal.Value
public import proofs.«01_k».proof.Proof.Gen.AdamWInRefIdeal.Run
public import proofs.«01_k».proof.Proof.Gen.AdamSinksIdeal.Value
public import proofs.«01_k».proof.Proof.Gen.AdamSinksRefIdeal.Run
public import proofs.«01_k».proof.Proof.Gen.AdamWOutIdeal.Value
public import proofs.«01_k».proof.Proof.Gen.AdamWOutRefIdeal.Run
public import proofs.«01_k».proof.Proof.Gen.AdamWDownIdeal.Value
public import proofs.«01_k».proof.Proof.Gen.AdamWDownRefIdeal.Run
public import proofs.«01_k».proof.Proof.Gen.AdamQNormsIdeal.Value
public import proofs.«01_k».proof.Proof.Gen.AdamQNormsRefIdeal.Run
public import proofs.«01_k».proof.Proof.Gen.AdamWUqIdeal.Value
public import proofs.«01_k».proof.Proof.Gen.AdamWUqRefIdeal.Run
public import proofs.«01_k».proof.Proof.Gen.AdamKvNormsIdeal.Value
public import proofs.«01_k».proof.Proof.Gen.AdamKvNormsRefIdeal.Run
public import proofs.«01_k».proof.Proof.Gen.AdamWUkvIdeal.Value
public import proofs.«01_k».proof.Proof.Gen.AdamWUkvRefIdeal.Run
public import proofs.«01_k».proof.Proof.Gen.AdamWOIdeal.Value
public import proofs.«01_k».proof.Proof.Gen.AdamWORefIdeal.Run
public import proofs.«01_k».proof.Proof.Gen.AdamWMlpIdeal.Value
public import proofs.«01_k».proof.Proof.Gen.AdamWMlpRefIdeal.Run
public import proofs.«01_k».proof.Defs

@[expose] public section

noncomputable section

namespace Cert.Update

open Idealize.ShloMosaic Idealize.ShloMosaic.TcCoe

/-! ### One entry's update, from its weight, gradient and two moments -/

def moment (g m : EReal) : EReal := Ideal.ofBits .f32 0x3F666666#32 * m + Ideal.ofBits .f32 0x3DCCCCCD#32 * g
def second (g v : EReal) : EReal := Ideal.ofBits .f32 0x3F7FBE77#32 * v + Ideal.ofBits .f32 0x3A83126F#32 * (g * g)
def step (w g m v : EReal) : EReal :=
  Ideal.ofBits .f32 0xBA83126F#32 * (Ideal.div (Ideal.div (moment g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

/-! ### The reference's terms, at every entry, for weights of any shape -/

section
variable {s : Shape} (h : (⟨0, ![]⟩ : Shape).BroadcastsInDim s ![]) (w g m v : FVec Ideal s .f32)

theorem moment_host : addf (mulf (broadcastInDim s ![] h (constant ⟨0, ![]⟩ .f32 0x3F666666#32)) m) (mulf (broadcastInDim s ![] h (constant ⟨0, ![]⟩ .f32 0x3DCCCCCD#32)) g)
    = fun i => moment (g i) (m i) := rfl

theorem second_host : addf (mulf (broadcastInDim s ![] h (constant ⟨0, ![]⟩ .f32 0x3F7FBE77#32)) v) (mulf (broadcastInDim s ![] h (constant ⟨0, ![]⟩ .f32 0x3A83126F#32)) (mulf g g))
    = fun i => second (g i) (v i) := rfl

theorem step_host : mulf (broadcastInDim s ![] h (constant ⟨0, ![]⟩ .f32 0xBA83126F#32)) (addf (Host.divf (Host.divf (addf (mulf (broadcastInDim s ![] h (constant ⟨0, ![]⟩ .f32 0x3F666666#32)) m) (mulf (broadcastInDim s ![] h (constant ⟨0, ![]⟩ .f32 0x3DCCCCCD#32)) g)) (broadcastInDim s ![] h (constant ⟨0, ![]⟩ .f32 0x3F26BD02#32))) (addf (Host.sqrt (Host.divf (addf (mulf (broadcastInDim s ![] h (constant ⟨0, ![]⟩ .f32 0x3F7FBE77#32)) v) (mulf (broadcastInDim s ![] h (constant ⟨0, ![]⟩ .f32 0x3A83126F#32)) (mulf g g))) (broadcastInDim s ![] h (constant ⟨0, ![]⟩ .f32 0x3C231ACC#32)))) (broadcastInDim s ![] h (constant ⟨0, ![]⟩ .f32 0x322BCC77#32)))) (mulf (broadcastInDim s ![] h (constant ⟨0, ![]⟩ .f32 0x3C23D70A#32)) w))
    = fun i => step (w i) (g i) (m i) (v i) := rfl

end

/-! ### The calls, one for every shape of weights -/

/-- For the relative biases. -/
theorem algebraic_AdamRelBias : algebraic_AdamRelBiasIdeal_AdamRelBiasRefIdeal (hAdamRelBiasIdeal := Cert.AdamRelBiasIdeal.Gen.facts) (hAdamRelBiasRefIdeal := Cert.AdamRelBiasRefIdeal.Gen.facts) := by
  intro m g m' g' _ hm
  refine ⟨_, _, _, Cert.AdamRelBiasIdeal.Value.run m g, (θ_run _ _ _).mono (fun r h c => ?_) (Cert.AdamRelBiasRefIdeal.Value.run m' g')⟩
  obtain ⟨e0, e1, e2, e3⟩ := hm c
  refine ⟨(h c).1.trans ?_, (h c).2.1.trans ?_, (h c).2.2.1.trans ?_, (h c).2.2.2⟩ <;> rw [e1]
  · rw [e0, e2, e3]; exact step_host _ _ _ _ _
  · rw [e2]; exact moment_host _ _ _
  · rw [e3]; exact second_host _ _ _

/-- For the gains of the layers' norms: before attention, and before the multilayer part. -/
theorem algebraic_AdamLayerNorms : algebraic_AdamLayerNormsIdeal_AdamLayerNormsRefIdeal (hAdamLayerNormsIdeal := Cert.AdamLayerNormsIdeal.Gen.facts) (hAdamLayerNormsRefIdeal := Cert.AdamLayerNormsRefIdeal.Gen.facts) := by
  intro m g m' g' _ hm
  refine ⟨_, _, _, Cert.AdamLayerNormsIdeal.Value.run m g, (θ_run _ _ _).mono (fun r h c => ?_) (Cert.AdamLayerNormsRefIdeal.Value.run m' g')⟩
  obtain ⟨e0, e1, e2, e3⟩ := hm c
  refine ⟨(h c).1.trans ?_, (h c).2.1.trans ?_, (h c).2.2.1.trans ?_, (h c).2.2.2⟩ <;> rw [e1]
  · rw [e0, e2, e3]; exact step_host _ _ _ _ _
  · rw [e2]; exact moment_host _ _ _
  · rw [e3]; exact second_host _ _ _

/-- For the gain of the last norm. -/
theorem algebraic_AdamFinalNorm : algebraic_AdamFinalNormIdeal_AdamFinalNormRefIdeal (hAdamFinalNormIdeal := Cert.AdamFinalNormIdeal.Gen.facts) (hAdamFinalNormRefIdeal := Cert.AdamFinalNormRefIdeal.Gen.facts) := by
  intro m g m' g' _ hm
  refine ⟨_, _, _, Cert.AdamFinalNormIdeal.Value.run m g, (θ_run _ _ _).mono (fun r h c => ?_) (Cert.AdamFinalNormRefIdeal.Value.run m' g')⟩
  obtain ⟨e0, e1, e2, e3⟩ := hm c
  refine ⟨(h c).1.trans ?_, (h c).2.1.trans ?_, (h c).2.2.1.trans ?_, (h c).2.2.2⟩ <;> rw [e1]
  · rw [e0, e2, e3]; exact step_host _ _ _ _ _
  · rw [e2]; exact moment_host _ _ _
  · rw [e3]; exact second_host _ _ _

/-- For the input projection. -/
theorem algebraic_AdamWIn : algebraic_AdamWInIdeal_AdamWInRefIdeal (hAdamWInIdeal := Cert.AdamWInIdeal.Gen.facts) (hAdamWInRefIdeal := Cert.AdamWInRefIdeal.Gen.facts) := by
  intro m g m' g' _ hm
  refine ⟨_, _, _, Cert.AdamWInIdeal.Value.run m g, (θ_run _ _ _).mono (fun r h c => ?_) (Cert.AdamWInRefIdeal.Value.run m' g')⟩
  obtain ⟨e0, e1, e2, e3⟩ := hm c
  refine ⟨(h c).1.trans ?_, (h c).2.1.trans ?_, (h c).2.2.1.trans ?_, (h c).2.2.2⟩ <;> rw [e1]
  · rw [e0, e2, e3]; exact step_host _ _ _ _ _
  · rw [e2]; exact moment_host _ _ _
  · rw [e3]; exact second_host _ _ _

/-- For the sinks. -/
theorem algebraic_AdamSinks : algebraic_AdamSinksIdeal_AdamSinksRefIdeal (hAdamSinksIdeal := Cert.AdamSinksIdeal.Gen.facts) (hAdamSinksRefIdeal := Cert.AdamSinksRefIdeal.Gen.facts) := by
  intro m g m' g' _ hm
  refine ⟨_, _, _, Cert.AdamSinksIdeal.Value.run m g, (θ_run _ _ _).mono (fun r h c => ?_) (Cert.AdamSinksRefIdeal.Value.run m' g')⟩
  obtain ⟨e0, e1, e2, e3⟩ := hm c
  refine ⟨(h c).1.trans ?_, (h c).2.1.trans ?_, (h c).2.2.1.trans ?_, (h c).2.2.2⟩ <;> rw [e1]
  · rw [e0, e2, e3]; exact step_host _ _ _ _ _
  · rw [e2]; exact moment_host _ _ _
  · rw [e3]; exact second_host _ _ _

/-- For the output projection. -/
theorem algebraic_AdamWOut : algebraic_AdamWOutIdeal_AdamWOutRefIdeal (hAdamWOutIdeal := Cert.AdamWOutIdeal.Gen.facts) (hAdamWOutRefIdeal := Cert.AdamWOutRefIdeal.Gen.facts) := by
  intro m g m' g' _ hm
  refine ⟨_, _, _, Cert.AdamWOutIdeal.Value.run m g, (θ_run _ _ _).mono (fun r h c => ?_) (Cert.AdamWOutRefIdeal.Value.run m' g')⟩
  obtain ⟨e0, e1, e2, e3⟩ := hm c
  refine ⟨(h c).1.trans ?_, (h c).2.1.trans ?_, (h c).2.2.1.trans ?_, (h c).2.2.2⟩ <;> rw [e1]
  · rw [e0, e2, e3]; exact step_host _ _ _ _ _
  · rw [e2]; exact moment_host _ _ _
  · rw [e3]; exact second_host _ _ _

/-- For the projection to the latents. -/
theorem algebraic_AdamWDown : algebraic_AdamWDownIdeal_AdamWDownRefIdeal (hAdamWDownIdeal := Cert.AdamWDownIdeal.Gen.facts) (hAdamWDownRefIdeal := Cert.AdamWDownRefIdeal.Gen.facts) := by
  intro m g m' g' _ hm
  refine ⟨_, _, _, Cert.AdamWDownIdeal.Value.run m g, (θ_run _ _ _).mono (fun r h c => ?_) (Cert.AdamWDownRefIdeal.Value.run m' g')⟩
  obtain ⟨e0, e1, e2, e3⟩ := hm c
  refine ⟨(h c).1.trans ?_, (h c).2.1.trans ?_, (h c).2.2.1.trans ?_, (h c).2.2.2⟩ <;> rw [e1]
  · rw [e0, e2, e3]; exact step_host _ _ _ _ _
  · rw [e2]; exact moment_host _ _ _
  · rw [e3]; exact second_host _ _ _

/-- For the gains of the latent queries' norms. -/
theorem algebraic_AdamQNorms : algebraic_AdamQNormsIdeal_AdamQNormsRefIdeal (hAdamQNormsIdeal := Cert.AdamQNormsIdeal.Gen.facts) (hAdamQNormsRefIdeal := Cert.AdamQNormsRefIdeal.Gen.facts) := by
  intro m g m' g' _ hm
  refine ⟨_, _, _, Cert.AdamQNormsIdeal.Value.run m g, (θ_run _ _ _).mono (fun r h c => ?_) (Cert.AdamQNormsRefIdeal.Value.run m' g')⟩
  obtain ⟨e0, e1, e2, e3⟩ := hm c
  refine ⟨(h c).1.trans ?_, (h c).2.1.trans ?_, (h c).2.2.1.trans ?_, (h c).2.2.2⟩ <;> rw [e1]
  · rw [e0, e2, e3]; exact step_host _ _ _ _ _
  · rw [e2]; exact moment_host _ _ _
  · rw [e3]; exact second_host _ _ _

/-- For the latents' projection to the queries. -/
theorem algebraic_AdamWUq : algebraic_AdamWUqIdeal_AdamWUqRefIdeal (hAdamWUqIdeal := Cert.AdamWUqIdeal.Gen.facts) (hAdamWUqRefIdeal := Cert.AdamWUqRefIdeal.Gen.facts) := by
  intro m g m' g' _ hm
  refine ⟨_, _, _, Cert.AdamWUqIdeal.Value.run m g, (θ_run _ _ _).mono (fun r h c => ?_) (Cert.AdamWUqRefIdeal.Value.run m' g')⟩
  obtain ⟨e0, e1, e2, e3⟩ := hm c
  refine ⟨(h c).1.trans ?_, (h c).2.1.trans ?_, (h c).2.2.1.trans ?_, (h c).2.2.2⟩ <;> rw [e1]
  · rw [e0, e2, e3]; exact step_host _ _ _ _ _
  · rw [e2]; exact moment_host _ _ _
  · rw [e3]; exact second_host _ _ _

/-- For the gains of the latent keys' and values' norms. -/
theorem algebraic_AdamKvNorms : algebraic_AdamKvNormsIdeal_AdamKvNormsRefIdeal (hAdamKvNormsIdeal := Cert.AdamKvNormsIdeal.Gen.facts) (hAdamKvNormsRefIdeal := Cert.AdamKvNormsRefIdeal.Gen.facts) := by
  intro m g m' g' _ hm
  refine ⟨_, _, _, Cert.AdamKvNormsIdeal.Value.run m g, (θ_run _ _ _).mono (fun r h c => ?_) (Cert.AdamKvNormsRefIdeal.Value.run m' g')⟩
  obtain ⟨e0, e1, e2, e3⟩ := hm c
  refine ⟨(h c).1.trans ?_, (h c).2.1.trans ?_, (h c).2.2.1.trans ?_, (h c).2.2.2⟩ <;> rw [e1]
  · rw [e0, e2, e3]; exact step_host _ _ _ _ _
  · rw [e2]; exact moment_host _ _ _
  · rw [e3]; exact second_host _ _ _

/-- For the latents' projection to the keys and values. -/
theorem algebraic_AdamWUkv : algebraic_AdamWUkvIdeal_AdamWUkvRefIdeal (hAdamWUkvIdeal := Cert.AdamWUkvIdeal.Gen.facts) (hAdamWUkvRefIdeal := Cert.AdamWUkvRefIdeal.Gen.facts) := by
  intro m g m' g' _ hm
  refine ⟨_, _, _, Cert.AdamWUkvIdeal.Value.run m g, (θ_run _ _ _).mono (fun r h c => ?_) (Cert.AdamWUkvRefIdeal.Value.run m' g')⟩
  obtain ⟨e0, e1, e2, e3⟩ := hm c
  refine ⟨(h c).1.trans ?_, (h c).2.1.trans ?_, (h c).2.2.1.trans ?_, (h c).2.2.2⟩ <;> rw [e1]
  · rw [e0, e2, e3]; exact step_host _ _ _ _ _
  · rw [e2]; exact moment_host _ _ _
  · rw [e3]; exact second_host _ _ _

/-- For the attention's output projection. -/
theorem algebraic_AdamWO : algebraic_AdamWOIdeal_AdamWORefIdeal (hAdamWOIdeal := Cert.AdamWOIdeal.Gen.facts) (hAdamWORefIdeal := Cert.AdamWORefIdeal.Gen.facts) := by
  intro m g m' g' _ hm
  refine ⟨_, _, _, Cert.AdamWOIdeal.Value.run m g, (θ_run _ _ _).mono (fun r h c => ?_) (Cert.AdamWORefIdeal.Value.run m' g')⟩
  obtain ⟨e0, e1, e2, e3⟩ := hm c
  refine ⟨(h c).1.trans ?_, (h c).2.1.trans ?_, (h c).2.2.1.trans ?_, (h c).2.2.2⟩ <;> rw [e1]
  · rw [e0, e2, e3]; exact step_host _ _ _ _ _
  · rw [e2]; exact moment_host _ _ _
  · rw [e3]; exact second_host _ _ _

/-- For the multilayer part: its first and its second. -/
theorem algebraic_AdamWMlp : algebraic_AdamWMlpIdeal_AdamWMlpRefIdeal (hAdamWMlpIdeal := Cert.AdamWMlpIdeal.Gen.facts) (hAdamWMlpRefIdeal := Cert.AdamWMlpRefIdeal.Gen.facts) := by
  intro m g m' g' _ hm
  refine ⟨_, _, _, Cert.AdamWMlpIdeal.Value.run m g, (θ_run _ _ _).mono (fun r h c => ?_) (Cert.AdamWMlpRefIdeal.Value.run m' g')⟩
  obtain ⟨e0, e1, e2, e3⟩ := hm c
  refine ⟨(h c).1.trans ?_, (h c).2.1.trans ?_, (h c).2.2.1.trans ?_, (h c).2.2.2⟩ <;> rw [e1]
  · rw [e0, e2, e3]; exact step_host _ _ _ _ _
  · rw [e2]; exact moment_host _ _ _
  · rw [e3]; exact second_host _ _ _

end Cert.Update

end
-- ==== Proof.RotaryFrames.lean ====
module
public import proofs.«01_k».proof.Defs
public import proofs.«01_k».proof.Proof.Gen.Rope.Frame
public import proofs.«01_k».proof.Proof.Gen.RopeIdeal.Frame
public import proofs.«01_k».proof.Proof.Gen.RopeRefIdeal.Run
public import proofs.«01_k».proof.Proof.Gen.RopeDx.Frame
public import proofs.«01_k».proof.Proof.Gen.RopeDxIdeal.Frame
public import proofs.«01_k».proof.Proof.Gen.RopeDxRefIdeal.Run
public import proofs.«01_k».proof.Proof.Gen.KvDx.Frame
public import proofs.«01_k».proof.Proof.Gen.KvDxIdeal.Frame
public import proofs.«01_k».proof.Proof.Gen.KvDxRefIdeal.Run
public import Idealize.ShloMosaic.Adequacy
public import Idealize.ShloMosaic.Init
@[expose] public section
/-!
# The frames of the rotary embedding's programs
-/

noncomputable section

namespace Cert.Proof
open Idealize.ShloMosaic Idealize.SL.Sem

theorem frame_Rope : Cert.quiescent_Rope := fun m ρ _ => Cert.Rope.Gen.frame m ρ
theorem frame_RopeIdeal : Cert.quiescent_RopeIdeal := fun m ρ _ => Cert.RopeIdeal.Gen.frame m ρ
theorem frame_RopeRefIdeal : Cert.quiescent_RopeRefIdeal := fun m ρ _ =>
  (θ_run Cert.RopeRefIdeal.defs _ _).mono (fun r h => ⟨fun c => (h c).2, Idealize.ShloMosaic.sem_eq_zero_of_no_sems (by decide) r.2⟩)
    (Cert.RopeRefIdeal.Value.run (F := Ideal) m ρ)

theorem frame_RopeDx : Cert.quiescent_RopeDx := fun m ρ _ => Cert.RopeDx.Gen.frame m ρ
theorem frame_RopeDxIdeal : Cert.quiescent_RopeDxIdeal := fun m ρ _ => Cert.RopeDxIdeal.Gen.frame m ρ
theorem frame_RopeDxRefIdeal : Cert.quiescent_RopeDxRefIdeal := fun m ρ _ =>
  (θ_run Cert.RopeDxRefIdeal.defs _ _).mono (fun r h => ⟨fun c => (h c).2, Idealize.ShloMosaic.sem_eq_zero_of_no_sems (by decide) r.2⟩)
    (Cert.RopeDxRefIdeal.Value.run (F := Ideal) m ρ)

theorem frame_KvDx : Cert.quiescent_KvDx := fun m ρ _ => Cert.KvDx.Gen.frame m ρ
theorem frame_KvDxIdeal : Cert.quiescent_KvDxIdeal := fun m ρ _ => Cert.KvDxIdeal.Gen.frame m ρ
theorem frame_KvDxRefIdeal : Cert.quiescent_KvDxRefIdeal := fun m ρ _ =>
  (θ_run Cert.KvDxRefIdeal.defs _ _).mono (fun r h => ⟨fun c => (h c).2.2, Idealize.ShloMosaic.sem_eq_zero_of_no_sems (by decide) r.2⟩)
    (Cert.KvDxRefIdeal.Value.run (F := Ideal) m ρ)

end Cert.Proof

end
-- ==== Proof.Rotary.lean ====
/-
  The rotary embedding of the queries and its gradient: each array the kernel leaves is the reference's.
-/
module
public import Idealize.ShloMosaic.Lib.StableHlo.ReadAt
public import Idealize.ShloMosaic.Lib.KernelVsHost
public import proofs.«01_k».proof.Proof.Rows
public import proofs.«01_k».proof.Proof.Gen.RopeIdeal.Value
public import proofs.«01_k».proof.Proof.Gen.RopeRefIdeal.Run
public import proofs.«01_k».proof.Proof.Gen.RopeDxIdeal.Value
public import proofs.«01_k».proof.Proof.Gen.RopeDxRefIdeal.Run
public import proofs.«01_k».proof.Defs

@[expose] public section

set_option maxRecDepth 20000

noncomputable section

open Idealize.ShloMosaic Idealize.ShloMosaic.TcCoe Cert.Product Cert.Rows

namespace Cert.Rotary

/-- The index of a head's coordinate, heads apart. -/
abbrev p4 {p n q : ℕ} (i : Fin p) (h : Fin n) (k : Fin q) : (⟨4, ![1, p, n, q]⟩ : Shape).Idx := ValueIdx.ix4 0 i h k

/-- One store of a whole buffer, from four whole loads. -/
theorem kept₄ {a b a' b' a'' b'' a₃ b₃ a₄ b₄ : ℕ} {e e' e'' e₃ e₄ : EltTy} {i i' i'' i₃ i₄} (f : ((⟨2, ![a', b']⟩ : Shape).Idx → Elt Ideal e') → ((⟨2, ![a'', b'']⟩ : Shape).Idx → Elt Ideal e'') → ((⟨2, ![a₃, b₃]⟩ : Shape).Idx → Elt Ideal e₃) → ((⟨2, ![a₄, b₄]⟩ : Shape).Idx → Elt Ideal e₄) → (⟨2, ![a, b]⟩ : Shape).Idx → Elt Ideal e)
    (x : (⟨2, ![a', b']⟩ : Shape).Idx → Elt Ideal e') (y : (⟨2, ![a'', b'']⟩ : Shape).Idx → Elt Ideal e'') (z : (⟨2, ![a₃, b₃]⟩ : Shape).Idx → Elt Ideal e₃) (u : (⟨2, ![a₄, b₄]⟩ : Shape).Idx → Elt Ideal e₄) :
    View.canon [(⟨Rect.unit (s := ⟨2, ![a, b]⟩) ![0, 0] ![a, b] i, f (View.ld x (Rect.unit (s := ⟨2, ![a', b']⟩) ![0, 0] ![a', b'] i')) (View.ld y (Rect.unit (s := ⟨2, ![a'', b'']⟩) ![0, 0] ![a'', b''] i''))
      (View.ld z (Rect.unit (s := ⟨2, ![a₃, b₃]⟩) ![0, 0] ![a₃, b₃] i₃)) (View.ld u (Rect.unit (s := ⟨2, ![a₄, b₄]⟩) ![0, 0] ![a₄, b₄] i₄))⟩ : View.Piece (Elt Ideal) ⟨2, ![a, b]⟩ e)] = f x y z u :=
  (kept₃ (fun x y z => f x y z _) x y z).trans (congrArg (f x y z) (View.ld_unit_zero (S := ⟨2, ![a₄, b₄]⟩) zz i₄ u))

/-! ### The kernel's own steps, at an entry -/

section
variable {p : ℕ}

/-- The column of a head's coordinate. -/
def col (h : Fin 8) (e : Fin 96) : Fin 768 := ⟨96 * h.val + e.val, by omega⟩

theorem every (c : Fin 768) : ∃ h e, c = col h e :=
  ⟨⟨c.val / 96, by omega⟩, ⟨c.val % 96, by omega⟩, Fin.ext (by show c.val = 96 * (c.val / 96) + c.val % 96; omega)⟩

/-- A row turned by `752` lanes: what stood `16` lanes further on. -/
theorem turned_back (x : (⟨2, ![p, 768]⟩ : Shape).Idx → EReal) (h) (r : Fin p) (c : Fin 768) :
    dynamicRotate (1 : Fin 2) 752#32 none x h (px r c) = x (px r ⟨(c.val + 16) % 768, Nat.mod_lt _ (by decide)⟩) :=
  dynamicRotate_apply _ _ _ _ _ _ fun b => match b with
    | ⟨0, _⟩ => rfl
    | ⟨1, _⟩ => by show (c.val + 16) % 768 = (c.val + 768 - 752) % 768; omega

/-- A row turned by `16` lanes: what stood `16` lanes before. -/
theorem turned_on (x : (⟨2, ![p, 768]⟩ : Shape).Idx → EReal) (h) (r : Fin p) (c : Fin 768) :
    dynamicRotate (1 : Fin 2) 16#32 none x h (px r c) = x (px r ⟨(c.val + 752) % 768, Nat.mod_lt _ (by decide)⟩) :=
  dynamicRotate_apply _ _ _ _ _ _ fun b => match b with
    | ⟨0, _⟩ => rfl
    | ⟨1, _⟩ => by show (c.val + 752) % 768 = (c.val + 768 - 16) % 768; omega

/-- A table of four heads, twice side by side. -/
theorem twice (T : (⟨2, ![p, 384]⟩ : Shape).Idx → EReal) (h) (r : Fin p) (c : Fin 768) :
    concatenate ⟨2, ![p, 768]⟩ (1 : Fin 2) [⟨⟨2, ![p, 384]⟩, T⟩, ⟨⟨2, ![p, 384]⟩, T⟩] h (px r c) = T (px r ⟨c.val % 384, Nat.mod_lt _ (by decide)⟩) := by
  by_cases hc : c.val < 384
  · exact concatenate_pair_apply_left (t := ⟨2, ![p, 768]⟩) (s₁ := ⟨2, ![p, 384]⟩) (1 : Fin 2) T T h (px r c) rfl (px r ⟨c.val % 384, Nat.mod_lt _ (by decide)⟩) fun b => match b with
      | ⟨0, _⟩ => rfl
      | ⟨1, _⟩ => Nat.mod_eq_of_lt hc
  · exact concatenate_pair_apply_right (t := ⟨2, ![p, 768]⟩) (s₁ := ⟨2, ![p, 384]⟩) (1 : Fin 2) T T h (px r c) rfl rfl (px r ⟨c.val % 384, Nat.mod_lt _ (by decide)⟩)
      (fun b hb => match b with
        | ⟨0, _⟩ => rfl
        | ⟨1, _⟩ => absurd rfl hb)
      (by show c.val % 384 + 384 = c.val; omega)

/-- Where a head's coordinate is read when every head's is the same. -/
theorem spread_ax {n q : ℕ} (i : Fin p) (h : Fin n) (k : Fin q) (ax : Fin 4) :
    ((p4 i (0 : Fin 1) k) ax).val = if (⟨4, ![1, p, 1, q]⟩ : Shape).size ax = 1 then 0 else ((p4 i h k) ((![0, 1, 2, 3] : Fin 4 → Fin 4) ax)).val := by
  have one : ∀ {u : ℕ} (w : Fin u), w.val = if u = 1 then 0 else w.val := fun w => by split <;> omega
  match ax with
  | ⟨0, _⟩ => rfl
  | ⟨1, _⟩ => exact one i
  | ⟨2, _⟩ => rfl
  | ⟨3, _⟩ => exact one k

/-- The four heads' tables are one. -/
theorem repeated (T : (⟨2, ![p, 96]⟩ : Shape).Idx → EReal) (h₁ h₂ h₃) (i : Fin p) (d : Fin 384) :
    shapeCast ⟨2, ![p, 384]⟩ (broadcastInDim ⟨4, ![1, p, 4, 96]⟩ ![0, 1, 2, 3] h₂ (shapeCast ⟨4, ![1, p, 1, 96]⟩ T h₁)) h₃ (px i d)
      = T (px i ⟨d.val % 96, Nat.mod_lt _ (by decide)⟩) := by
  refine (shapeCast_apply _ _ _ (p4 i ⟨d.val / 96, by omega⟩ ⟨d.val % 96, Nat.mod_lt _ (by decide)⟩) ?_).trans
    ((broadcastInDim_apply _ _ _ _ (p4 i 0 ⟨d.val % 96, Nat.mod_lt _ (by decide)⟩) (spread_ax i _ _)).trans (shapeCast_apply _ _ _ _ ?_))
  · rw [Shape.rowMajor_val_two, Shape.rowMajor_val_four]
    show ((0 * p + i.val) * 4 + d.val / 96) * 96 + d.val % 96 = i.val * 384 + d.val
    omega
  · rw [Shape.rowMajor_val_two, Shape.rowMajor_val_four]
    show i.val * 96 + d.val % 96 = ((0 * p + i.val) * 1 + 0) * 96 + d.val % 96
    omega

/-- Three pieces of a table, at an entry. -/
theorem three (A : (⟨2, ![p, 64]⟩ : Shape).Idx → EReal) (B D : (⟨2, ![p, 16]⟩ : Shape).Idx → EReal) (h) (i : Fin p) (e : Fin 96) :
    concatenate ⟨2, ![p, 96]⟩ (1 : Fin 2) [⟨⟨2, ![p, 64]⟩, A⟩, ⟨⟨2, ![p, 16]⟩, B⟩, ⟨⟨2, ![p, 16]⟩, D⟩] h (px i e)
      = if h₁ : e.val < 64 then A (px i ⟨e.val, h₁⟩) else if h₂ : e.val < 80 then B (px i ⟨e.val - 64, by omega⟩) else D (px i ⟨e.val - 80, by omega⟩) := by
  have row : ∀ {u : ℕ} (k : Fin u) (b : Fin 2), b ≠ 1 → ((px i k) b).val = ((px i e) b).val := fun k b hb => match b with
    | ⟨0, _⟩ => rfl
    | ⟨1, _⟩ => absurd rfl hb
  split
  · exact concatenate_apply_piece (t := ⟨2, ![p, 96]⟩) (1 : Fin 2) [⟨⟨2, ![p, 64]⟩, A⟩, ⟨⟨2, ![p, 16]⟩, B⟩, ⟨⟨2, ![p, 16]⟩, D⟩] h _ 0 (by decide : 0 < 3) ⟨2, ![p, 64]⟩ A rfl rfl 0 rfl _ (row _) (Nat.zero_add _)
  · split
    · exact concatenate_apply_piece (t := ⟨2, ![p, 96]⟩) (1 : Fin 2) [⟨⟨2, ![p, 64]⟩, A⟩, ⟨⟨2, ![p, 16]⟩, B⟩, ⟨⟨2, ![p, 16]⟩, D⟩] h _ 1 (by decide : 1 < 3) ⟨2, ![p, 16]⟩ B rfl rfl 64 rfl _ (row _)
        (by show 64 + (e.val - 64) = e.val; omega)
    · exact concatenate_apply_piece (t := ⟨2, ![p, 96]⟩) (1 : Fin 2) [⟨⟨2, ![p, 64]⟩, A⟩, ⟨⟨2, ![p, 16]⟩, B⟩, ⟨⟨2, ![p, 16]⟩, D⟩] h _ 2 (by decide : 2 < 3) ⟨2, ![p, 16]⟩ D rfl rfl 80 rfl _ (row _)
        (by show 80 + (e.val - 80) = e.val; omega)

/-! ### The reference's own steps, at an entry -/

/-- The heads apart. -/
theorem heads (X : (⟨2, ![p, 768]⟩ : Shape).Idx → EReal) (h₁) (i : Fin p) (h : Fin 8) (e : Fin 96) :
    shapeCast ⟨4, ![1, p, 8, 96]⟩ X h₁ (p4 i h e) = X (px i (col h e)) := by
  refine shapeCast_apply _ _ _ _ ?_
  rw [Shape.rowMajor_val_two, Shape.rowMajor_val_four]
  show i.val * 768 + (96 * h.val + e.val) = ((0 * p + i.val) * 8 + h.val) * 96 + e.val
  omega

/-- The heads together again. -/
theorem joined (Y : (⟨4, ![1, p, 8, 96]⟩ : Shape).Idx → EReal) (h₁) (i : Fin p) (h : Fin 8) (e : Fin 96) :
    shapeCast ⟨2, ![p, 768]⟩ Y h₁ (px i (col h e)) = Y (p4 i h e) := by
  refine shapeCast_apply _ _ _ _ ?_
  rw [Shape.rowMajor_val_two, Shape.rowMajor_val_four]
  show ((0 * p + i.val) * 8 + h.val) * 96 + e.val = i.val * 768 + (96 * h.val + e.val)
  omega

/-- The same, narrowed. -/
theorem joined_narrow (Y : FVec Ideal ⟨4, ![1, p, 8, 96]⟩ .f32) (h₁ hb) (i : Fin p) (h : Fin 8) (e : Fin 96) :
    truncf .bf16 (shapeCast ⟨2, ![p, 768]⟩ Y h₁) hb (px i (col h e)) = Y (p4 i h e) :=
  joined Y h₁ i h e

/-- A position's angles, for every head. -/
theorem spread_heads (C : (⟨2, ![p, 16]⟩ : Shape).Idx → EReal) (h₁ h₂) (i : Fin p) (h : Fin 8) (k : Fin 16) :
    broadcastInDim ⟨4, ![1, p, 8, 16]⟩ ![0, 1, 2, 3] h₂ (shapeCast ⟨4, ![1, p, 1, 16]⟩ C h₁) (p4 i h k) = C (px i k) := by
  refine (broadcastInDim_apply _ _ _ _ (p4 i 0 k) (spread_ax i h k)).trans (shapeCast_apply _ _ _ _ ?_)
  · rw [Shape.rowMajor_val_two, Shape.rowMajor_val_four]
    show i.val * 16 + k.val = ((0 * p + i.val) * 1 + 0) * 16 + k.val
    omega

/-- A run of a head's coordinates. -/
theorem cut {a b o : ℕ} (Y : (⟨4, ![1, p, 8, a]⟩ : Shape).Idx → EReal) (h₁) (i : Fin p) (h : Fin 8) (k : Fin b) (ho : o + k.val < a) :
    extractStridedSlice ⟨4, ![1, p, 8, b]⟩ ![0, 0, 0, o] Y h₁ (p4 i h k) = Y (p4 i h ⟨o + k.val, ho⟩) :=
  extractStridedSlice_apply _ _ _ _ _ fun ax => match ax with
    | ⟨0, _⟩ => rfl
    | ⟨1, _⟩ => (Nat.zero_add _).symm
    | ⟨2, _⟩ => (Nat.zero_add _).symm
    | ⟨3, _⟩ => rfl

/-- Two runs of a head's coordinates, one after the other. -/
theorem beside {a b n : ℕ} (Y : (⟨4, ![1, p, 8, a]⟩ : Shape).Idx → EReal) (Z : (⟨4, ![1, p, 8, b]⟩ : Shape).Idx → EReal) (h₁) (hn : n = a + b) (i : Fin p) (h : Fin 8) (k : Fin n) :
    concatenate ⟨4, ![1, p, 8, n]⟩ (3 : Fin 4) [⟨⟨4, ![1, p, 8, a]⟩, Y⟩, ⟨⟨4, ![1, p, 8, b]⟩, Z⟩] h₁ (p4 i h k)
      = if hk : k.val < a then Y (p4 i h ⟨k.val, hk⟩) else Z (p4 i h ⟨k.val - a, by omega⟩) := by
  split
  · rename_i hk
    exact concatenate_pair_apply_left (t := ⟨4, ![1, p, 8, n]⟩) (s₁ := ⟨4, ![1, p, 8, a]⟩) (3 : Fin 4) Y Z h₁ (p4 i h k) rfl (p4 i h ⟨k.val, hk⟩) fun b => match b with
      | ⟨0, _⟩ => rfl
      | ⟨1, _⟩ => rfl
      | ⟨2, _⟩ => rfl
      | ⟨3, _⟩ => rfl
  · exact concatenate_pair_apply_right (t := ⟨4, ![1, p, 8, n]⟩) (s₁ := ⟨4, ![1, p, 8, a]⟩) (3 : Fin 4) Y Z h₁ (p4 i h k) rfl rfl (p4 i h ⟨k.val - a, by omega⟩)
      (fun b hb => match b with
        | ⟨0, _⟩ => rfl
        | ⟨1, _⟩ => rfl
        | ⟨2, _⟩ => rfl
        | ⟨3, _⟩ => absurd rfl hb)
      (by show k.val - a + a = k.val; omega)

/-- A run of a head's coordinates among zeros: `o` of them before it. -/
theorem placed {a n o q : ℕ} (Y : (⟨4, ![1, p, 8, a]⟩ : Shape).Idx → EReal) {u : Shape} (v : u.Idx → EReal) (h₁ hu) (i : Fin p) (h : Fin 8) (k : Fin n) :
    pad ⟨4, ![1, p, 8, n]⟩ ![0, 0, 0, o] ![0, 0, 0, q] ![0, 0, 0, 0] Y v h₁ hu (p4 i h k)
      = if hk : o ≤ k.val ∧ k.val < o + a then Y (p4 i h ⟨k.val - o, by omega⟩) else v (Shape.Idx.first hu) := by
  split
  · rename_i hk
    exact pad_apply_of_inside _ _ _ _ _ _ _ _ _ fun ax => match ax with
      | ⟨0, _⟩ => rfl
      | ⟨1, _⟩ => by show i.val = 0 + i.val * (0 + 1); omega
      | ⟨2, _⟩ => by show h.val = 0 + h.val * (0 + 1); omega
      | ⟨3, _⟩ => by show k.val = o + (k.val - o) * (0 + 1); omega
  · rename_i hk
    refine pad_apply_of_not_inside _ _ _ _ _ _ _ _ (3 : Fin 4) fun hh => hk ?_
    obtain ⟨h1, _, h3⟩ := hh
    have h1 : o ≤ k.val := h1
    have h3 : (k.val - o) / (0 + 1) < a := h3
    rw [Nat.zero_add, Nat.div_one] at h3
    omega

/-- A half of a head's last coordinates. -/
theorem part {o : ℕ} (X : (⟨2, ![p, 768]⟩ : Shape).Idx → EReal) (h₀ h₁ h₂) (i : Fin p) (h : Fin 8) (k : Fin 16) (e : Fin 96) (ho : o + k.val < 32) (he : e.val = 64 + (o + k.val)) :
    extractStridedSlice ⟨4, ![1, p, 8, 16]⟩ ![0, 0, 0, o] (extractStridedSlice ⟨4, ![1, p, 8, 32]⟩ ![0, 0, 0, 64] (shapeCast ⟨4, ![1, p, 8, 96]⟩ X h₀) h₁) h₂ (p4 i h k)
      = X (px i (col h e)) := by
  obtain ⟨e, _⟩ := e
  subst he
  exact (cut _ h₂ i h k ho).trans ((cut _ h₁ i h ⟨o + k.val, ho⟩ _).trans (heads X h₀ i h _))

/-! ### The embedding at an entry -/

/-- A head's coordinate, embedded; `w` is `1` forward and `-1` for the gradient. -/
def embedded (w : EReal) (X : (⟨2, ![p, 768]⟩ : Shape).Idx → EReal) (C S : (⟨2, ![p, 16]⟩ : Shape).Idx → EReal) (i : Fin p) (h : Fin 8) (e : Fin 96) : EReal :=
  if h₁ : e.val < 64 then X (px i (col h e))
  else if h₂ : e.val < 80 then
    X (px i (col h e)) * C (px i ⟨e.val - 64, by omega⟩) - w * (X (px i (col h ⟨e.val + 16, by omega⟩)) * S (px i ⟨e.val - 64, by omega⟩))
  else X (px i (col h e)) * C (px i ⟨e.val - 80, by omega⟩) + w * (X (px i (col h ⟨e.val - 16, by omega⟩)) * S (px i ⟨e.val - 80, by omega⟩))

/-- What the kernel forms of three tables. -/
def mixed (w : EReal) (X : (⟨2, ![p, 768]⟩ : Shape).Idx → EReal) (K A B : (⟨2, ![p, 384]⟩ : Shape).Idx → EReal) (i : Fin p) (c : Fin 768) : EReal :=
  X (px i c) * K (px i ⟨c.val % 384, Nat.mod_lt _ (by decide)⟩)
    + w * (X (px i ⟨(c.val + 16) % 768, Nat.mod_lt _ (by decide)⟩) * A (px i ⟨c.val % 384, Nat.mod_lt _ (by decide)⟩)
      + X (px i ⟨(c.val + 752) % 768, Nat.mod_lt _ (by decide)⟩) * B (px i ⟨c.val % 384, Nat.mod_lt _ (by decide)⟩))

/-- The kernel's payload is that. -/
theorem mixed_tile (bw : BitVec 32) (x : FVec Ideal ⟨2, ![p, 768]⟩ .f32) (k a b : FVec Ideal ⟨2, ![p, 384]⟩ .f32) (hb h₁ h₂ hr hr') (r : Fin p) (c : Fin 768) :
    truncf .bf16 (addf (mulf x (concatenate ⟨2, ![p, 768]⟩ (1 : Fin 2) [⟨⟨2, ![p, 384]⟩, shapeCast ⟨2, ![p, 384]⟩ k h₁⟩, ⟨⟨2, ![p, 384]⟩, shapeCast ⟨2, ![p, 384]⟩ k h₁⟩] h₂))
      (mulf (broadcast ⟨2, ![p, 768]⟩ (Scalar.ofBits .f32 bw))
        (addf (mulf (dynamicRotate (1 : Fin 2) 752#32 none x hr) (concatenate ⟨2, ![p, 768]⟩ (1 : Fin 2) [⟨⟨2, ![p, 384]⟩, shapeCast ⟨2, ![p, 384]⟩ a h₁⟩, ⟨⟨2, ![p, 384]⟩, shapeCast ⟨2, ![p, 384]⟩ a h₁⟩] h₂))
          (mulf (dynamicRotate (1 : Fin 2) 16#32 none x hr') (concatenate ⟨2, ![p, 768]⟩ (1 : Fin 2) [⟨⟨2, ![p, 384]⟩, shapeCast ⟨2, ![p, 384]⟩ b h₁⟩, ⟨⟨2, ![p, 384]⟩, shapeCast ⟨2, ![p, 384]⟩ b h₁⟩] h₂))))) hb (px r c)
      = mixed (Ideal.ofBits .f32 bw) x k a b r c :=
  have same : ∀ (T : FVec Ideal ⟨2, ![p, 384]⟩ .f32) j, shapeCast ⟨2, ![p, 384]⟩ T h₁ j = T j := fun T j => shapeCast_apply T h₁ j j rfl
  have tab : ∀ T : FVec Ideal ⟨2, ![p, 384]⟩ .f32, concatenate ⟨2, ![p, 768]⟩ (1 : Fin 2) [⟨⟨2, ![p, 384]⟩, shapeCast ⟨2, ![p, 384]⟩ T h₁⟩, ⟨⟨2, ![p, 384]⟩, shapeCast ⟨2, ![p, 384]⟩ T h₁⟩] h₂ (px r c)
      = T (px r ⟨c.val % 384, Nat.mod_lt _ (by decide)⟩) := fun T => (twice (shapeCast ⟨2, ![p, 384]⟩ T h₁) h₂ r c).trans (same T _)
  congrArg₂ (· + ·) (congrArg (x (px r c) * ·) (tab k))
    (congrArg (Ideal.ofBits .f32 bw * ·) (congrArg₂ (· + ·) (congrArg₂ (· * ·) (turned_back x hr r c) (tab a)) (congrArg₂ (· * ·) (turned_on x hr' r c) (tab b))))

/-- With the three tables of the rotary embedding, that is the embedding. -/
theorem mixed_eq (w : EReal) (X : (⟨2, ![p, 768]⟩ : Shape).Idx → EReal) (O Z : (⟨2, ![p, 64]⟩ : Shape).Idx → EReal) (z C S N : (⟨2, ![p, 16]⟩ : Shape).Idx → EReal)
    (hO : ∀ q, O q = 1) (hZ : ∀ q, Z q = 0) (hz : ∀ q, z q = 0) (hN : ∀ q, N q = -S q) (h₁ h₂ h₃ h₄) (i : Fin p) (h : Fin 8) (e : Fin 96) :
    mixed w X (shapeCast ⟨2, ![p, 384]⟩ (broadcastInDim ⟨4, ![1, p, 4, 96]⟩ ![0, 1, 2, 3] h₂ (shapeCast ⟨4, ![1, p, 1, 96]⟩ (concatenate ⟨2, ![p, 96]⟩ (1 : Fin 2) [⟨⟨2, ![p, 64]⟩, O⟩, ⟨⟨2, ![p, 16]⟩, C⟩, ⟨⟨2, ![p, 16]⟩, C⟩] h₄) h₁)) h₃)
      (shapeCast ⟨2, ![p, 384]⟩ (broadcastInDim ⟨4, ![1, p, 4, 96]⟩ ![0, 1, 2, 3] h₂ (shapeCast ⟨4, ![1, p, 1, 96]⟩ (concatenate ⟨2, ![p, 96]⟩ (1 : Fin 2) [⟨⟨2, ![p, 64]⟩, Z⟩, ⟨⟨2, ![p, 16]⟩, N⟩, ⟨⟨2, ![p, 16]⟩, z⟩] h₄) h₁)) h₃)
      (shapeCast ⟨2, ![p, 384]⟩ (broadcastInDim ⟨4, ![1, p, 4, 96]⟩ ![0, 1, 2, 3] h₂ (shapeCast ⟨4, ![1, p, 1, 96]⟩ (concatenate ⟨2, ![p, 96]⟩ (1 : Fin 2) [⟨⟨2, ![p, 64]⟩, Z⟩, ⟨⟨2, ![p, 16]⟩, z⟩, ⟨⟨2, ![p, 16]⟩, S⟩] h₄) h₁)) h₃) i (col h e)
      = embedded w X C S i h e := by
  have he : ((⟨(col h e).val % 384 % 96, Nat.mod_lt _ (by decide)⟩ : Fin 96)) = e := Fin.ext (by show (96 * h.val + e.val) % 384 % 96 = e.val; omega)
  unfold mixed embedded
  rw [repeated, repeated, repeated]
  simp only [he]
  rw [three, three, three]
  by_cases h64 : e.val < 64
  · simp only [dif_pos h64, hO, hZ, mul_one, mul_zero, add_zero]
  · by_cases h80 : e.val < 80
    · have hc : (⟨((col h e).val + 16) % 768, Nat.mod_lt _ (by decide)⟩ : Fin 768) = col h ⟨e.val + 16, by omega⟩ :=
        Fin.ext (by show (96 * h.val + e.val + 16) % 768 = 96 * h.val + (e.val + 16); omega)
      simp only [dif_neg h64, dif_pos h80, hN, hz, mul_zero, add_zero, mul_neg, sub_eq_add_neg, hc]
    · have hc : (⟨((col h e).val + 752) % 768, Nat.mod_lt _ (by decide)⟩ : Fin 768) = col h ⟨e.val - 16, by omega⟩ :=
        Fin.ext (by show (96 * h.val + e.val + 752) % 768 = 96 * h.val + (e.val - 16); omega)
      simp only [dif_neg h64, dif_neg h80, hz, mul_zero, zero_add, hc]

/-- The reference's embedding. -/
theorem rope_host (X : FVec Ideal ⟨2, ![p, 768]⟩ .f32) (C S : FVec Ideal ⟨2, ![p, 16]⟩ .f32) (hb h₀ h₁ h₂ h₃ h₄ h₅ h₆ h₇ h₈ h₉) (i : Fin p) (h : Fin 8) (e : Fin 96) :
    truncf .bf16 (shapeCast ⟨2, ![p, 768]⟩ (concatenate ⟨4, ![1, p, 8, 96]⟩ (3 : Fin 4)
      [⟨⟨4, ![1, p, 8, 64]⟩, extractStridedSlice ⟨4, ![1, p, 8, 64]⟩ ![0, 0, 0, 0] (shapeCast ⟨4, ![1, p, 8, 96]⟩ X h₀) h₁⟩,
       ⟨⟨4, ![1, p, 8, 32]⟩, concatenate ⟨4, ![1, p, 8, 32]⟩ (3 : Fin 4)
        [⟨⟨4, ![1, p, 8, 16]⟩, subf
          (mulf (extractStridedSlice ⟨4, ![1, p, 8, 16]⟩ ![0, 0, 0, 0] (extractStridedSlice ⟨4, ![1, p, 8, 32]⟩ ![0, 0, 0, 64] (shapeCast ⟨4, ![1, p, 8, 96]⟩ X h₀) h₂) h₃) (broadcastInDim ⟨4, ![1, p, 8, 16]⟩ ![0, 1, 2, 3] h₅ (shapeCast ⟨4, ![1, p, 1, 16]⟩ C h₆)))
          (mulf (extractStridedSlice ⟨4, ![1, p, 8, 16]⟩ ![0, 0, 0, 16] (extractStridedSlice ⟨4, ![1, p, 8, 32]⟩ ![0, 0, 0, 64] (shapeCast ⟨4, ![1, p, 8, 96]⟩ X h₀) h₂) h₄) (broadcastInDim ⟨4, ![1, p, 8, 16]⟩ ![0, 1, 2, 3] h₅ (shapeCast ⟨4, ![1, p, 1, 16]⟩ S h₆)))⟩,
         ⟨⟨4, ![1, p, 8, 16]⟩, addf
          (mulf (extractStridedSlice ⟨4, ![1, p, 8, 16]⟩ ![0, 0, 0, 0] (extractStridedSlice ⟨4, ![1, p, 8, 32]⟩ ![0, 0, 0, 64] (shapeCast ⟨4, ![1, p, 8, 96]⟩ X h₀) h₂) h₃) (broadcastInDim ⟨4, ![1, p, 8, 16]⟩ ![0, 1, 2, 3] h₅ (shapeCast ⟨4, ![1, p, 1, 16]⟩ S h₆)))
          (mulf (extractStridedSlice ⟨4, ![1, p, 8, 16]⟩ ![0, 0, 0, 16] (extractStridedSlice ⟨4, ![1, p, 8, 32]⟩ ![0, 0, 0, 64] (shapeCast ⟨4, ![1, p, 8, 96]⟩ X h₀) h₂) h₄) (broadcastInDim ⟨4, ![1, p, 8, 16]⟩ ![0, 1, 2, 3] h₅ (shapeCast ⟨4, ![1, p, 1, 16]⟩ C h₆)))⟩] h₇⟩] h₈) h₉) hb (px i (col h e))
      = embedded 1 X C S i h e := by
  refine (joined _ h₉ i h e).trans ((beside _ _ h₈ rfl i h e).trans ?_)
  unfold embedded
  by_cases h64 : e.val < 64
  · rw [dif_pos h64, dif_pos h64]
    refine (cut _ h₁ i h ⟨e.val, h64⟩ (by show 0 + e.val < 96; omega)).trans ((heads X h₀ i h _).trans ?_)
    exact congrArg (fun e => X (px i (col h e))) (Fin.ext (Nat.zero_add _))
  · rw [dif_neg h64, dif_neg h64]
    refine (beside _ _ h₇ rfl i h ⟨e.val - 64, by omega⟩).trans ?_
    by_cases h80 : e.val < 80
    · rw [dif_pos (show e.val - 64 < 16 by omega), dif_pos h80, one_mul]
      exact congrArg₂ (· - ·)
        (congrArg₂ (· * ·) (part X h₀ h₂ h₃ i h ⟨e.val - 64, by omega⟩ e (by show 0 + (e.val - 64) < 32; omega) (by show e.val = 64 + (0 + (e.val - 64)); omega)) (spread_heads C h₆ h₅ i h ⟨e.val - 64, by omega⟩))
        (congrArg₂ (· * ·) (part X h₀ h₂ h₄ i h ⟨e.val - 64, by omega⟩ ⟨e.val + 16, by omega⟩ (by show 16 + (e.val - 64) < 32; omega) (by show e.val + 16 = 64 + (16 + (e.val - 64)); omega)) (spread_heads S h₆ h₅ i h ⟨e.val - 64, by omega⟩))
    · rw [dif_neg (show ¬e.val - 64 < 16 by omega), dif_neg h80, one_mul]
      have hk : (⟨e.val - 64 - 16, by omega⟩ : Fin 16) = ⟨e.val - 80, by omega⟩ := Fin.ext (by show e.val - 64 - 16 = e.val - 80; omega)
      rw [hk]
      exact (congrArg₂ (· + ·)
        (congrArg₂ (· * ·) (part X h₀ h₂ h₃ i h ⟨e.val - 80, by omega⟩ ⟨e.val - 16, by omega⟩ (by show 0 + (e.val - 80) < 32; omega) (by show e.val - 16 = 64 + (0 + (e.val - 80)); omega)) (spread_heads S h₆ h₅ i h ⟨e.val - 80, by omega⟩))
        (congrArg₂ (· * ·) (part X h₀ h₂ h₄ i h ⟨e.val - 80, by omega⟩ e (by show 16 + (e.val - 80) < 32; omega) (by show e.val = 64 + (16 + (e.val - 80)); omega)) (spread_heads C h₆ h₅ i h ⟨e.val - 80, by omega⟩))).trans
        (add_comm _ _)

/-- The reference's gradient of the embedding. -/
theorem rope_dx_host (X : FVec Ideal ⟨2, ![p, 768]⟩ .f32) (C S : FVec Ideal ⟨2, ![p, 16]⟩ .f32) (hb h₀ h₁ h₂ h₃ h₄ h₅ h₆ h₇ h₈ h₉ g₁ g₂ hu) (i : Fin p) (h : Fin 8) (e : Fin 96) :
    truncf (F := Ideal) .bf16 (shapeCast ⟨2, ![p, 768]⟩ (addf (φ := .f32)
      (pad ⟨4, ![1, p, 8, 96]⟩ ![0, 0, 0, 64] ![0, 0, 0, 0] ![0, 0, 0, 0] (addf (φ := .f32)
        (pad ⟨4, ![1, p, 8, 32]⟩ ![0, 0, 0, 16] ![0, 0, 0, 0] ![0, 0, 0, 0] (addf (φ := .f32)
          (mulf (extractStridedSlice ⟨4, ![1, p, 8, 16]⟩ ![0, 0, 0, 16] (extractStridedSlice ⟨4, ![1, p, 8, 32]⟩ ![0, 0, 0, 64] (shapeCast ⟨4, ![1, p, 8, 96]⟩ X h₀) h₂) h₄) (broadcastInDim ⟨4, ![1, p, 8, 16]⟩ ![0, 1, 2, 3] h₅ (shapeCast ⟨4, ![1, p, 1, 16]⟩ C h₆)))
          (mulf (Host.negf (extractStridedSlice ⟨4, ![1, p, 8, 16]⟩ ![0, 0, 0, 0] (extractStridedSlice ⟨4, ![1, p, 8, 32]⟩ ![0, 0, 0, 64] (shapeCast ⟨4, ![1, p, 8, 96]⟩ X h₀) h₂) h₃)) (broadcastInDim ⟨4, ![1, p, 8, 16]⟩ ![0, 1, 2, 3] h₅ (shapeCast ⟨4, ![1, p, 1, 16]⟩ S h₆))))
          (constant ⟨0, ![]⟩ .f32 0x00000000#32) h₇ hu)
        (pad ⟨4, ![1, p, 8, 32]⟩ ![0, 0, 0, 0] ![0, 0, 0, 16] ![0, 0, 0, 0] (addf (φ := .f32)
          (mulf (extractStridedSlice ⟨4, ![1, p, 8, 16]⟩ ![0, 0, 0, 16] (extractStridedSlice ⟨4, ![1, p, 8, 32]⟩ ![0, 0, 0, 64] (shapeCast ⟨4, ![1, p, 8, 96]⟩ X h₀) h₂) h₄) (broadcastInDim ⟨4, ![1, p, 8, 16]⟩ ![0, 1, 2, 3] h₅ (shapeCast ⟨4, ![1, p, 1, 16]⟩ S h₆)))
          (mulf (extractStridedSlice ⟨4, ![1, p, 8, 16]⟩ ![0, 0, 0, 0] (extractStridedSlice ⟨4, ![1, p, 8, 32]⟩ ![0, 0, 0, 64] (shapeCast ⟨4, ![1, p, 8, 96]⟩ X h₀) h₂) h₃) (broadcastInDim ⟨4, ![1, p, 8, 16]⟩ ![0, 1, 2, 3] h₅ (shapeCast ⟨4, ![1, p, 1, 16]⟩ C h₆))))
          (constant ⟨0, ![]⟩ .f32 0x00000000#32) h₈ hu))
        (constant ⟨0, ![]⟩ .f32 0x00000000#32) g₁ hu)
      (pad ⟨4, ![1, p, 8, 96]⟩ ![0, 0, 0, 0] ![0, 0, 0, 32] ![0, 0, 0, 0] (extractStridedSlice ⟨4, ![1, p, 8, 64]⟩ ![0, 0, 0, 0] (shapeCast ⟨4, ![1, p, 8, 96]⟩ X h₀) h₁)
        (constant ⟨0, ![]⟩ .f32 0x00000000#32) g₂ hu)) h₉) hb (px i (col h e))
      = embedded (-1) X C S i h e := by
  have zero : ∀ j, (constant (F := Ideal) ⟨0, ![]⟩ .f32 0x00000000#32 : (⟨0, ![]⟩ : Shape).Idx → EReal) j = 0 := fun _ => Ideal.ofBits_zero_f32
  refine (joined_narrow _ h₉ hb i h e).trans ?_
  refine (congrArg₂ (· + ·) (placed _ _ g₁ hu i h e) (placed _ _ g₂ hu i h e)).trans ?_
  unfold embedded
  by_cases h64 : e.val < 64
  · rw [dif_pos h64, dif_neg (by omega), dif_pos (by omega), zero, zero_add]
    refine (cut _ h₁ i h ⟨e.val - 0, by omega⟩ (by show 0 + e.val < 96; omega)).trans ((heads X h₀ i h _).trans ?_)
    exact congrArg (fun e => X (px i (col h e))) (Fin.ext (Nat.zero_add _))
  · rw [dif_neg h64, dif_pos (by omega), dif_neg (by omega), zero, add_zero]
    refine (congrArg₂ (· + ·) (placed _ _ h₇ hu i h ⟨e.val - 64, by omega⟩) (placed _ _ h₈ hu i h ⟨e.val - 64, by omega⟩)).trans ?_
    by_cases h80 : e.val < 80
    · rw [dif_pos h80, dif_neg (by show ¬(16 ≤ e.val - 64 ∧ e.val - 64 < 16 + 16); omega), dif_pos (by show 0 ≤ e.val - 64 ∧ e.val - 64 < 0 + 16; omega), zero, zero_add, neg_mul, one_mul, sub_eq_add_neg, neg_neg]
      exact (congrArg₂ (· + ·)
        (congrArg₂ (· * ·) (part X h₀ h₂ h₄ i h ⟨e.val - 64, by omega⟩ ⟨e.val + 16, by omega⟩ (by show 16 + (e.val - 64) < 32; omega) (by show e.val + 16 = 64 + (16 + (e.val - 64)); omega)) (spread_heads S h₆ h₅ i h ⟨e.val - 64, by omega⟩))
        (congrArg₂ (· * ·) (part X h₀ h₂ h₃ i h ⟨e.val - 64, by omega⟩ e (by show 0 + (e.val - 64) < 32; omega) (by show e.val = 64 + (0 + (e.val - 64)); omega)) (spread_heads C h₆ h₅ i h ⟨e.val - 64, by omega⟩))).trans
        (add_comm _ _)
    · rw [dif_neg h80, dif_pos (by show 16 ≤ e.val - 64 ∧ e.val - 64 < 16 + 16; omega), dif_neg (by show ¬(0 ≤ e.val - 64 ∧ e.val - 64 < 0 + 16); omega), zero, add_zero, neg_mul, one_mul, ← neg_mul]
      have hk : (⟨e.val - 64 - 16, by omega⟩ : Fin 16) = ⟨e.val - 80, by omega⟩ := Fin.ext (by show e.val - 64 - 16 = e.val - 80; omega)
      rw [hk]
      exact congrArg₂ (· + ·)
        (congrArg₂ (· * ·) (part X h₀ h₂ h₄ i h ⟨e.val - 80, by omega⟩ e (by show 16 + (e.val - 80) < 32; omega) (by show e.val = 64 + (16 + (e.val - 80)); omega)) (spread_heads C h₆ h₅ i h ⟨e.val - 80, by omega⟩))
        (congrArg₂ (· * ·) (congrArg (- ·) (part X h₀ h₂ h₃ i h ⟨e.val - 80, by omega⟩ ⟨e.val - 16, by omega⟩ (by show 0 + (e.val - 80) < 32; omega) (by show e.val - 16 = 64 + (0 + (e.val - 80)); omega))) (spread_heads S h₆ h₅ i h ⟨e.val - 80, by omega⟩))

end

/-! ### The angles and the tables of them -/

/-- The angle of each position and each pair of coordinates. -/
def angles : FVec Ideal ⟨2, ![16384, 16]⟩ .f32 :=
  open Cert.RopeRefIdeal Cert.RopeRefIdeal.Gen in
  mulf (broadcastInDim S16384x16 ![0, 1] bcast_S16384x1_S16384x16_0_1 (broadcastInDim S16384x1 ![0] bcast_S16384_S16384x1_0 (sitofp .f32 (iotaInDim S16384 32 0)))) (broadcastInDim S16384x16 ![0, 1] bcast_S1x16_S16384x16_0_1 (broadcastInDim S1x16 ![1] bcast_S16_S1x16_1 (Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))

/-- A table of the kernel's from its three pieces. -/
def table (A : FVec Ideal ⟨2, ![16384, 64]⟩ .f32) (B D : FVec Ideal ⟨2, ![16384, 16]⟩ .f32) : FVec Ideal ⟨2, ![16384, 384]⟩ .f32 :=
  open Cert.RopeIdeal Cert.RopeIdeal.Gen in
  shapeCast S16384x384 (broadcastInDim S1x16384x4x96 ![0, 1, 2, 3] bcast_S1x16384x1x96_S1x16384x4x96_0_1_2_3
    (shapeCast S1x16384x1x96 (concatenate S16384x96 1 [⟨S16384x64, A⟩, ⟨S16384x16, B⟩, ⟨S16384x16, D⟩] concatenates_S16384x64_S16384x16_S16384x16_S16384x96_d1) shapeCasts_S16384x96_S1x16384x1x96)) shapeCasts_S1x16384x4x96_S16384x384

theorem mixed_table (w : EReal) (X : FVec Ideal ⟨2, ![16384, 768]⟩ .f32) (i : Fin 16384) (h : Fin 8) (e : Fin 96) :
    mixed w X (table (fun _ => Ideal.ofBits .f32 0x3F800000#32) (Host.cos angles) (Host.cos angles))
      (table (fun _ => Ideal.ofBits .f32 0x00000000#32) (Host.negf (Host.sin angles)) (fun _ => Ideal.ofBits .f32 0x00000000#32))
      (table (fun _ => Ideal.ofBits .f32 0x00000000#32) (fun _ => Ideal.ofBits .f32 0x00000000#32) (Host.sin angles)) i (col h e)
      = embedded w X (Host.cos angles) (Host.sin angles) i h e :=
  mixed_eq w X (fun _ => Ideal.ofBits .f32 0x3F800000#32) (fun _ => Ideal.ofBits .f32 0x00000000#32) (fun _ => Ideal.ofBits .f32 0x00000000#32) (Host.cos angles) (Host.sin angles) (Host.negf (Host.sin angles))
    (fun _ => Ideal.ofBits_one_f32) (fun _ => Ideal.ofBits_zero_f32) (fun _ => Ideal.ofBits_zero_f32) (fun _ => rfl) _ _ _ _ i h e

/-! ### By numbers -/

/-- What the kernel forms, its row named by a number. -/
def mixed_at (w : EReal) (X : FVec Ideal ⟨2, ![16384, 768]⟩ .f32) (K A B : FVec Ideal ⟨2, ![16384, 384]⟩ .f32) (i : ℕ) (c : Fin 768) : EReal :=
  at2 X i c.val * at2 K i (c.val % 384) + w * (at2 X i ((c.val + 16) % 768) * at2 A i (c.val % 384) + at2 X i ((c.val + 752) % 768) * at2 B i (c.val % 384))

theorem mixed_whole (w : EReal) (X : FVec Ideal ⟨2, ![16384, 768]⟩ .f32) (K A B : FVec Ideal ⟨2, ![16384, 384]⟩ .f32) (i : Fin 16384) (c : Fin 768) :
    mixed_at w X K A B i.val c = mixed w X K A B i c := by
  have hx : ∀ (k : ℕ) (hk : k < 768), at2 X i.val k = X (px i ⟨k, hk⟩) := fun k hk => at2_ix2 X i ⟨k, hk⟩
  have ht : ∀ (T : FVec Ideal ⟨2, ![16384, 384]⟩ .f32) (k : ℕ) (hk : k < 384), at2 T i.val k = T (px i ⟨k, hk⟩) := fun T k hk => at2_ix2 T i ⟨k, hk⟩
  have h4 : c.val % 384 < 384 := Nat.mod_lt _ (by decide)
  unfold mixed_at mixed
  rw [hx _ c.isLt, hx _ (Nat.mod_lt (c.val + 16) (by decide)), hx _ (Nat.mod_lt (c.val + 752) (by decide)), ht K _ h4, ht A _ h4, ht B _ h4]

/-- A tile's is the whole array's. -/
theorem mixed_of {q u : ℕ} {r : Fin q} (w : EReal) (X : FVec Ideal ⟨2, ![16384, 768]⟩ .f32) (K A B : FVec Ideal ⟨2, ![16384, 384]⟩ .f32) (x : FVec Ideal ⟨2, ![q, 768]⟩ .f32) {k a b : FVec Ideal ⟨2, ![q, 384]⟩ .f32}
    (hx : ∀ j : Fin 768, x (px r j) = at2 X u (768 * 0 + j.val)) (hk : ∀ j : Fin 384, k (px r j) = at2 K u (384 * 0 + j.val))
    (ha : ∀ j : Fin 384, a (px r j) = at2 A u (384 * 0 + j.val)) (hb : ∀ j : Fin 384, b (px r j) = at2 B u (384 * 0 + j.val)) (c : Fin 768) :
    mixed w x k a b r c = mixed_at w X K A B u c := by
  unfold mixed mixed_at
  rw [hx, hx, hx, hk, ha, hb]
  simp only [Nat.mul_zero, Nat.zero_add]

theorem neg_one : Ideal.ofBits .f32 0xBF800000#32 = -1 := by
  have : Ideal.ofBits .f32 0xBF800000#32 = ((-1 : ℝ) : EReal) := by
    simp [Ideal.ofBits, Ideal.ieee, -EReal.coe_mul, -EReal.coe_neg]; norm_num
  rw [this, EReal.coe_neg, EReal.coe_one]

end Cert.Rotary

/-! ### The queries embedded -/

namespace Cert.RopeIdeal.Sum
open Cert.RopeIdeal Cert.RopeIdeal.Gen Cert.RopeIdeal.Value Cert.Rotary

theorem places : ∀ t : Fin cfg0.N, (cfg0.win 4).flush t = true ∧ (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = t.val ∧ win0_3.index t 1 = 0) ∧ win0_4.index t 0 = t.val ∧ win0_4.index t 1 = 0 :=
  (by decide +kernel : ∀ t : Fin grid0.N, _)

section
variable (m : (ℓ : Loc nD τ sig) → Buf (Elt Ideal) ℓ) (c : Dev nD)

theorem keep : V m c main_v24 = table (fun _ => Ideal.ofBits .f32 0x3F800000#32) (Host.cos angles) (Host.cos angles) := by
  unfold V
  after_reads_simp
  rfl

theorem above : V m c main_v29 = table (fun _ => Ideal.ofBits .f32 0x00000000#32) (Host.negf (Host.sin angles)) (fun _ => Ideal.ofBits .f32 0x00000000#32) := by
  unfold V
  after_reads_simp
  rfl

theorem below : V m c main_v33 = table (fun _ => Ideal.ofBits .f32 0x00000000#32) (fun _ => Ideal.ofBits .f32 0x00000000#32) (Host.sin angles) := by
  unfold V
  after_reads_simp
  rfl

theorem block (Y : FVec Ideal S16384x384 .f32) (t : Fin cfg0.N) (r : Fin 1024) (k : Fin 384) :
    (V m c main_v24 = Y → iblk m c 1 t (px r k) = at2 Y (1024 * t.val + r.val) (384 * 0 + k.val))
    ∧ (V m c main_v29 = Y → iblk m c 2 t (px r k) = at2 Y (1024 * t.val + r.val) (384 * 0 + k.val))
    ∧ (V m c main_v33 = Y → iblk m c 3 t (px r k) = at2 Y (1024 * t.val + r.val) (384 * 0 + k.val)) := by
  refine ⟨fun h => ?_, fun h => ?_, fun h => ?_⟩
  · show ((cfg0.win 1).blk t).view.read (Elt Ideal) (V m c (Pipeline.arrRef spec0 1)) (px r k) = _
    rw [show V m c (Pipeline.arrRef spec0 1) = Y from h]
    exact at_block Y (places t).2.2.1 rfl rfl
  · show ((cfg0.win 2).blk t).view.read (Elt Ideal) (V m c (Pipeline.arrRef spec0 2)) (px r k) = _
    rw [show V m c (Pipeline.arrRef spec0 2) = Y from h]
    exact at_block Y (places t).2.2.2.1 rfl rfl
  · show ((cfg0.win 3).blk t).view.read (Elt Ideal) (V m c (Pipeline.arrRef spec0 3)) (px r k) = _
    rw [show V m c (Pipeline.arrRef spec0 3) = Y from h]
    exact at_block Y (places t).2.2.2.2.1 rfl rfl

theorem array (K A B : FVec Ideal S16384x384 .f32) (eK : V m c main_v24 = K) (eA : V m c main_v29 = A) (eB : V m c main_v33 = B) (i : Fin 16384) (j : Fin 768) : ((dats m 0 c).arrAt 4 cfg0.N : FVec Ideal S16384x768 .bf16) (px i j)
    = mixed (Ideal.ofBits .f32 0x3F800000#32) (V m c main_arg0) K A B i j :=
  (bands (p := 1024) (φ := .bf16) _ (congrArg (1024 * ·) N_0.symm) (mixed_at (Ideal.ofBits .f32 0x3F800000#32) (V m c main_arg0) K A B)
    (fun t r s => (at_block (a := 16384) (b := 768) (φ := .bf16) _ (places t).2.2.2.2.2 rfl rfl).symm.trans
      ((congrFun ((blocks4 m c t (places t).1).trans (flushed4 m c t)) (px r s)).trans (by
        show out0_4 _ _ _ _ (px r s) = _
        unfold out0_4
        refine (congrFun (kept₄ (e := .bf16) (e' := .f32) (e'' := .f32) (e₃ := .f32) (e₄ := .f32) (k0_pay1 (F := Ideal)) _ _ _ _) _).trans ?_
        unfold k0_pay1
        refine (mixed_tile (p := 1024) 0x3F800000#32 _ _ _ _ _ _ _ _ _ r s).trans ?_
        have hx : ∀ k : Fin 768, iblk m c 0 t (px r k) = @at2 16384 768 .f32 (V m c main_arg0) (1024 * t.val + r.val) (768 * 0 + k.val) := fun k =>
          at_block (a := 16384) (b := 768) (φ := .f32) _ (places t).2.1 rfl rfl
        exact mixed_of _ _ _ _ _ _ hx (fun k => (block m c K t r k).1 eK) (fun k => (block m c A t r k).2.1 eA) (fun k => (block m c B t r k).2.2 eB) s))) i j).trans (mixed_whole _ _ _ _ _ i j)

end

set_option maxHeartbeats 4000000 in
/-- The kernel and the reference end with the same array. -/
theorem algebraic : algebraic_RopeIdeal_RopeRefIdeal (hRopeIdeal := Cert.RopeIdeal.Gen.facts) (hRopeRefIdeal := Cert.RopeRefIdeal.Gen.facts) := by
  intro m g m' g' _ hm
  refine ⟨fun c => (dats m 0 c).arrAt 4 cfg0.N, run_blocks (F := Ideal) m g, ?_⟩
  refine (θ_run Cert.RopeRefIdeal.defs _ _).mono (fun r h c => ⟨(h c).1.trans ?_, (h c).2⟩) (Cert.RopeRefIdeal.Value.run (F := Ideal) m' g')
  have e0 := hm c
  unfold Cert.RopeRefIdeal.Value.res_main_v38
  rw [e0]
  refine ext2 (a := 16384) (b := 768) (φ := .bf16) fun i j => ?_
  obtain ⟨h, e, rfl⟩ := every j
  refine (rope_host (p := 16384) _ (Host.cos angles) (Host.sin angles) _ _ _ _ _ _ _ _ _ _ _ i h e).trans ((array m c _ _ _ (keep m c) (above m c) (below m c) i (col h e)).trans ?_).symm
  rw [V_main_arg0]
  exact (mixed_table _ _ i h e).trans (by rw [Ideal.ofBits_one_f32])

end Cert.RopeIdeal.Sum

/-! ### The gradient by the queries before the embedding -/

namespace Cert.RopeDxIdeal.Sum
open Cert.RopeDxIdeal Cert.RopeDxIdeal.Gen Cert.RopeDxIdeal.Value Cert.Rotary

theorem places : ∀ t : Fin cfg0.N, (cfg0.win 4).flush t = true ∧ (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = t.val ∧ win0_3.index t 1 = 0) ∧ win0_4.index t 0 = t.val ∧ win0_4.index t 1 = 0 :=
  (by decide +kernel : ∀ t : Fin grid0.N, _)

section
variable (m : (ℓ : Loc nD τ sig) → Buf (Elt Ideal) ℓ) (c : Dev nD)

theorem keep : V m c main_v24 = table (fun _ => Ideal.ofBits .f32 0x3F800000#32) (Host.cos angles) (Host.cos angles) := by
  unfold V
  after_reads_simp
  rfl

theorem above : V m c main_v29 = table (fun _ => Ideal.ofBits .f32 0x00000000#32) (Host.negf (Host.sin angles)) (fun _ => Ideal.ofBits .f32 0x00000000#32) := by
  unfold V
  after_reads_simp
  rfl

theorem below : V m c main_v33 = table (fun _ => Ideal.ofBits .f32 0x00000000#32) (fun _ => Ideal.ofBits .f32 0x00000000#32) (Host.sin angles) := by
  unfold V
  after_reads_simp
  rfl

theorem block (Y : FVec Ideal S16384x384 .f32) (t : Fin cfg0.N) (r : Fin 1024) (k : Fin 384) :
    (V m c main_v24 = Y → iblk m c 1 t (px r k) = at2 Y (1024 * t.val + r.val) (384 * 0 + k.val))
    ∧ (V m c main_v29 = Y → iblk m c 2 t (px r k) = at2 Y (1024 * t.val + r.val) (384 * 0 + k.val))
    ∧ (V m c main_v33 = Y → iblk m c 3 t (px r k) = at2 Y (1024 * t.val + r.val) (384 * 0 + k.val)) := by
  refine ⟨fun h => ?_, fun h => ?_, fun h => ?_⟩
  · show ((cfg0.win 1).blk t).view.read (Elt Ideal) (V m c (Pipeline.arrRef spec0 1)) (px r k) = _
    rw [show V m c (Pipeline.arrRef spec0 1) = Y from h]
    exact at_block Y (places t).2.2.1 rfl rfl
  · show ((cfg0.win 2).blk t).view.read (Elt Ideal) (V m c (Pipeline.arrRef spec0 2)) (px r k) = _
    rw [show V m c (Pipeline.arrRef spec0 2) = Y from h]
    exact at_block Y (places t).2.2.2.1 rfl rfl
  · show ((cfg0.win 3).blk t).view.read (Elt Ideal) (V m c (Pipeline.arrRef spec0 3)) (px r k) = _
    rw [show V m c (Pipeline.arrRef spec0 3) = Y from h]
    exact at_block Y (places t).2.2.2.2.1 rfl rfl

theorem array (K A B : FVec Ideal S16384x384 .f32) (eK : V m c main_v24 = K) (eA : V m c main_v29 = A) (eB : V m c main_v33 = B) (i : Fin 16384) (j : Fin 768) : ((dats m 0 c).arrAt 4 cfg0.N : FVec Ideal S16384x768 .bf16) (px i j)
    = mixed (Ideal.ofBits .f32 0xBF800000#32) (V m c main_arg0) K A B i j :=
  (bands (p := 1024) (φ := .bf16) _ (congrArg (1024 * ·) N_0.symm) (mixed_at (Ideal.ofBits .f32 0xBF800000#32) (V m c main_arg0) K A B)
    (fun t r s => (at_block (a := 16384) (b := 768) (φ := .bf16) _ (places t).2.2.2.2.2 rfl rfl).symm.trans
      ((congrFun ((blocks4 m c t (places t).1).trans (flushed4 m c t)) (px r s)).trans (by
        show out0_4 _ _ _ _ (px r s) = _
        unfold out0_4
        refine (congrFun (kept₄ (e := .bf16) (e' := .f32) (e'' := .f32) (e₃ := .f32) (e₄ := .f32) (k0_pay1 (F := Ideal)) _ _ _ _) _).trans ?_
        unfold k0_pay1
        refine (mixed_tile (p := 1024) 0xBF800000#32 _ _ _ _ _ _ _ _ _ r s).trans ?_
        have hx : ∀ k : Fin 768, iblk m c 0 t (px r k) = @at2 16384 768 .f32 (V m c main_arg0) (1024 * t.val + r.val) (768 * 0 + k.val) := fun k =>
          at_block (a := 16384) (b := 768) (φ := .f32) _ (places t).2.1 rfl rfl
        exact mixed_of _ _ _ _ _ _ hx (fun k => (block m c K t r k).1 eK) (fun k => (block m c A t r k).2.1 eA) (fun k => (block m c B t r k).2.2 eB) s))) i j).trans (mixed_whole _ _ _ _ _ i j)

end

/-- The kernel and the reference end with the same array. -/
theorem algebraic : algebraic_RopeDxIdeal_RopeDxRefIdeal (hRopeDxIdeal := Cert.RopeDxIdeal.Gen.facts) (hRopeDxRefIdeal := Cert.RopeDxRefIdeal.Gen.facts) := by
  intro m g m' g' _ hm
  refine ⟨fun c => (dats m 0 c).arrAt 4 cfg0.N, run_blocks m g, ?_⟩
  refine (θ_run Cert.RopeDxRefIdeal.defs _ _).mono (fun r h c => ⟨(h c).1.trans ?_, (h c).2⟩) (Cert.RopeDxRefIdeal.Value.run m' g')
  have e0 := hm c
  unfold Cert.RopeDxRefIdeal.Value.res_main_v62
  rw [e0]
  refine ext2 fun i j => ?_
  obtain ⟨h, e, rfl⟩ := every j
  refine (rope_dx_host _ (Host.cos angles) (Host.sin angles) _ _ _ _ _ _ _ _ _ _ _ _ _ _ i h e).trans ((array m c _ _ _ (keep m c) (above m c) (below m c) i (col h e)).trans ?_).symm
  rw [V_main_arg0]
  exact (mixed_table _ _ i h e).trans (by rw [neg_one])

end Cert.RopeDxIdeal.Sum

namespace Cert.Rotary

theorem algebraic_Rope : algebraic_RopeIdeal_RopeRefIdeal (hRopeIdeal := Cert.RopeIdeal.Gen.facts) (hRopeRefIdeal := Cert.RopeRefIdeal.Gen.facts) :=
  Cert.RopeIdeal.Sum.algebraic

theorem algebraic_RopeDx : algebraic_RopeDxIdeal_RopeDxRefIdeal (hRopeDxIdeal := Cert.RopeDxIdeal.Gen.facts) (hRopeDxRefIdeal := Cert.RopeDxRefIdeal.Gen.facts) :=
  Cert.RopeDxIdeal.Sum.algebraic

end Cert.Rotary
-- ==== Proof.KvDx.lean ====
/-
  The gradient by the keys and values of every head, joined to rows, and by the rotary key that the heads share.
-/
module
public import Idealize.ShloMosaic.Lib.Pipeline.ValueKit.Tiles
public import proofs.«01_k».proof.Proof.Rotary
public import proofs.«01_k».proof.Proof.Gen.KvDxIdeal.Value
public import proofs.«01_k».proof.Proof.Gen.KvDxRefIdeal.Run

@[expose] public section

set_option maxRecDepth 20000

noncomputable section

open Idealize.ShloMosaic Idealize.ShloMosaic.TcCoe Cert.Product Cert.Rows

namespace Cert.KvDx

/-- The index of a head's row's coordinate. -/
abbrev p3 {a b d : ℕ} (j : Fin a) (i : Fin b) (k : Fin d) : (⟨3, ![a, b, d]⟩ : Shape).Idx := ValueIdx.ix3 j i k

/-- An entry of an array of heads by the three numbers of its place, zero outside. -/
def cell {a b d : ℕ} (X : (⟨3, ![a, b, d]⟩ : Shape).Idx → EReal) (j i k : ℕ) : EReal :=
  if h : j < a ∧ i < b ∧ k < d then X (p3 ⟨j, h.1⟩ ⟨i, h.2.1⟩ ⟨k, h.2.2⟩) else 0

theorem cell_of {a b d : ℕ} (X : (⟨3, ![a, b, d]⟩ : Shape).Idx → EReal) (p : (⟨3, ![a, b, d]⟩ : Shape).Idx) {j i k : ℕ}
    (h0 : (p 0).val = j) (h1 : (p 1).val = i) (h2 : (p 2).val = k) : X p = cell X j i k := by
  subst h0 h1 h2
  have e : p = p3 ⟨(p 0).val, (p 0).isLt⟩ ⟨(p 1).val, (p 1).isLt⟩ ⟨(p 2).val, (p 2).isLt⟩ := by
    funext x
    match x with
    | ⟨0, _⟩ => rfl
    | ⟨1, _⟩ => rfl
    | ⟨2, _⟩ => rfl
  unfold cell
  rw [dif_pos (⟨(p 0).isLt, (p 1).isLt, (p 2).isLt⟩ : (p 0).val < a ∧ (p 1).val < b ∧ (p 2).val < d)]
  exact congrArg X e

/-- The row of a band, in every head, is the array's. -/
theorem cell_band {a b d q : ℕ} (X : (⟨3, ![a, b, d]⟩ : Shape).Idx → EReal) (x : (⟨3, ![a, q, d]⟩ : Shape).Idx → EReal) (o : ℕ)
    (h : ∀ p, x p = cell X (p 0).val (o + (p 1).val) (p 2).val) (j : ℕ) (r : Fin q) (k : ℕ) : cell x j r.val k = cell X j (o + r.val) k := by
  by_cases hr : j < a ∧ k < d
  · exact (cell_of x (p3 ⟨j, hr.1⟩ r ⟨k, hr.2⟩) rfl rfl rfl).symm.trans (h _)
  · unfold cell
    rw [dif_neg fun hh => hr ⟨hh.1, hh.2.2⟩, dif_neg fun hh => hr ⟨hh.1, hh.2.2⟩]

/-- A head's part of a band, as a matrix. -/
theorem tile {a p q n o j : ℕ} (x : (⟨3, ![a, p, q]⟩ : Shape).Idx → Elt Ideal .f32) (inb hc) (s : (⟨2, ![p, n]⟩ : Shape).Idx) :
    shapeCast ⟨2, ![p, n]⟩ (View.ld x (Rect.unit (s := ⟨3, ![a, p, q]⟩) ![j, 0, o] ![1, p, n] inb)) hc s = cell (a := a) (b := p) (d := q) x j (s 0).val (o + (s 1).val) :=
  (shapeCast_apply _ _ _ (p3 (0 : Fin 1) (s 0) (s 1)) (by
    rw [Shape.rowMajor_val_two, Shape.rowMajor_val_three]
    show (0 * p + (s 0).val) * n + (s 1).val = (s 0).val * n + (s 1).val
    rw [Nat.zero_mul, Nat.zero_add])).trans (cell_of x _ (show j + 1 * 0 = j from rfl)
      (show 0 + 1 * (s 0).val = (s 0).val by omega) (show o + 1 * (s 1).val = o + (s 1).val by omega))

section
variable {p : ℕ}

/-- The gradients by the keys without the rotary part and by the values, head beside head. -/
def flat (K : (⟨3, ![8, p, 96]⟩ : Shape).Idx → EReal) (W : (⟨3, ![8, p, 64]⟩ : Shape).Idx → EReal) (i c : ℕ) : EReal :=
  if c % 128 < 64 then cell K (c / 128) i (c % 128) else cell W (c / 128) i (c % 128 - 64)

/-- The gradient by the rotary key, over all heads, before the rotation is undone. -/
def pooled (K : (⟨3, ![8, p, 96]⟩ : Shape).Idx → EReal) (i e : ℕ) : EReal := ∑ j : Fin 8, cell K j.val i (64 + e)

/-- The rotation undone. -/
def undone (G : ℕ → ℕ → EReal) (C S : ℕ → ℕ → EReal) (i e : ℕ) : EReal :=
  if e < 16 then G i e * C i e + G i (16 + e) * S i e
  else G i (16 + (e - 16)) * C i (e - 16) - G i (e - 16) * S i (e - 16)

/-- Undone alike where the sum and the tables are alike. -/
theorem undone_band {G G' C C' S S' : ℕ → ℕ → EReal} {i i' : ℕ} (hG : ∀ e, G i e = G' i' e) (hC : ∀ k : Fin 16, C i k.val = C' i' k.val) (hS : ∀ k : Fin 16, S i k.val = S' i' k.val) (e : Fin 32) :
    undone G C S i e.val = undone G' C' S' i' e.val := by
  unfold undone
  split
  · rename_i h
    rw [hG, hG, hC ⟨e.val, h⟩, hS ⟨e.val, h⟩]
  · rw [hG, hG, hC ⟨e.val - 16, by omega⟩, hS ⟨e.val - 16, by omega⟩]

/-- A store of a head's keys. -/
theorem keys {o j : ℕ} (x : (⟨3, ![8, p, 96]⟩ : Shape).Idx → Elt Ideal .f32) (w : (⟨3, ![8, p, 64]⟩ : Shape).Idx → Elt Ideal .f32) (y : (⟨2, ![p, 1024]⟩ : Shape).Idx) (ho : o = 128 * j) (inb hc hb) :
    View.TileAt (Val := Elt Ideal) (e := .bf16) y ![0, o] ![p, 64] (truncf (F := Ideal) (φ := .f32) .bf16 (shapeCast ⟨2, ![p, 64]⟩ (View.ld x (Rect.unit (s := ⟨3, ![8, p, 96]⟩) ![j, 0, 0] ![1, p, 64] inb)) hc) hb)
      (flat (p := p) x w (y 0).val (y 1).val) := by
  intro s hs
  have h0 : (y 0).val = 0 + (s 0).val := hs 0
  have h1 : (y 1).val = o + (s 1).val := hs 1
  have hl : (s 1).val < 64 := (s 1).isLt
  refine (tile x inb hc s).trans ?_
  unfold flat
  rw [if_pos (by omega), h0, h1, show (o + (s 1).val) / 128 = j by omega, show (o + (s 1).val) % 128 = (s 1).val by omega, Nat.zero_add, Nat.zero_add]

/-- A store of a head's values. -/
theorem values {o j : ℕ} (x : (⟨3, ![8, p, 96]⟩ : Shape).Idx → Elt Ideal .f32) (w : (⟨3, ![8, p, 64]⟩ : Shape).Idx → Elt Ideal .f32) (y : (⟨2, ![p, 1024]⟩ : Shape).Idx) (ho : o = 128 * j + 64) (inb hc hb) :
    View.TileAt (Val := Elt Ideal) (e := .bf16) y ![0, o] ![p, 64] (truncf (F := Ideal) (φ := .f32) .bf16 (shapeCast ⟨2, ![p, 64]⟩ (View.ld w (Rect.unit (s := ⟨3, ![8, p, 64]⟩) ![j, 0, 0] ![1, p, 64] inb)) hc) hb)
      (flat (p := p) x w (y 0).val (y 1).val) := by
  intro s hs
  have h0 : (y 0).val = 0 + (s 0).val := hs 0
  have h1 : (y 1).val = o + (s 1).val := hs 1
  have hl : (s 1).val < 64 := (s 1).isLt
  refine (tile w inb hc s).trans ?_
  unfold flat
  rw [if_neg (by omega), h0, h1, show (o + (s 1).val) / 128 = j by omega, show (o + (s 1).val) % 128 - 64 = (s 1).val by omega, Nat.zero_add, Nat.zero_add]

/-- A run of coordinates of every row of every head. -/
theorem cut {a b n o : ℕ} (Y : (⟨3, ![n, p, a]⟩ : Shape).Idx → EReal) (h₁) (j : Fin n) (i : Fin p) (k : Fin b) :
    extractStridedSlice ⟨3, ![n, p, b]⟩ ![0, 0, o] Y h₁ (p3 j i k) = cell Y j.val i.val (o + k.val) :=
  have hl : o + b ≤ a := h₁.2 (2 : Fin 3)
  (extractStridedSlice_apply _ _ _ _ (p3 j i ⟨o + k.val, by omega⟩) fun ax => match ax with
    | ⟨0, _⟩ => (Nat.zero_add _).symm
    | ⟨1, _⟩ => (Nat.zero_add _).symm
    | ⟨2, _⟩ => rfl).trans (cell_of Y _ rfl rfl rfl)

/-- Coordinates put in place among zeros. -/
theorem placed {a b n o q : ℕ} (Y : (⟨3, ![n, p, a]⟩ : Shape).Idx → EReal) {u : Shape} (h₁ hu) (j : Fin n) (i : Fin p) (k : Fin b) :
    pad ⟨3, ![n, p, b]⟩ ![0, 0, o] ![0, 0, q] ![0, 0, 0] Y (constant (F := Ideal) u .f32 0x00000000#32) h₁ hu (p3 j i k)
      = if o ≤ k.val then cell Y j.val i.val (k.val - o) else 0 := by
  have z : (constant (F := Ideal) u .f32 0x00000000#32) (Shape.Idx.first hu) = (0 : EReal) := Ideal.ofBits_zero_f32
  by_cases hk : o ≤ k.val ∧ k.val < o + a
  · rw [if_pos hk.1]
    exact (pad_apply_of_inside _ _ _ _ _ _ _ _ (p3 j i ⟨k.val - o, by omega⟩) fun ax => match ax with
      | ⟨0, _⟩ => by show j.val = 0 + j.val * (0 + 1); omega
      | ⟨1, _⟩ => by show i.val = 0 + i.val * (0 + 1); omega
      | ⟨2, _⟩ => by show k.val = o + (k.val - o) * (0 + 1); omega).trans (cell_of Y _ rfl rfl rfl)
  · refine ((pad_apply_of_not_inside _ _ _ _ _ _ _ _ (2 : Fin 3) fun hh => hk ?_).trans z).trans ?_
    · obtain ⟨h1, _, h3⟩ := hh
      have h1 : o ≤ k.val := h1
      have h3 : (k.val - o) / (0 + 1) < a := h3
      rw [Nat.zero_add, Nat.div_one] at h3
      omega
    · split
      · unfold cell
        rw [dif_neg fun hh => hk (by omega)]
      · rfl

/-- The reference's rows. -/
theorem rows_host (K : FVec Ideal ⟨3, ![8, p, 96]⟩ .f32) (W : FVec Ideal ⟨3, ![8, p, 64]⟩ .f32) {u : Shape} (h₁ h₂ h₃ h₄ h₅) (hu : 0 < u.numel) (i : Fin p) (c : Fin 1024) :
    shapeCast ⟨2, ![p, 1024]⟩ (transpose ⟨3, ![p, 8, 128]⟩ [1, 0, 2] (addf (F := Ideal) (φ := .f32)
      (pad ⟨3, ![8, p, 128]⟩ ![0, 0, 64] ![0, 0, 0] ![0, 0, 0] W (constant (F := Ideal) u .f32 0x00000000#32) h₁ hu)
      (pad ⟨3, ![8, p, 128]⟩ ![0, 0, 0] ![0, 0, 64] ![0, 0, 0] (extractStridedSlice ⟨3, ![8, p, 64]⟩ ![0, 0, 0] K h₂) (constant (F := Ideal) u .f32 0x00000000#32) h₃ hu)) h₄) h₅ (px i c)
      = flat (p := p) K W i.val c.val := by
  refine (shapeCast_apply _ _ _ (p3 i (⟨c.val / 128, by omega⟩ : Fin 8) (⟨c.val % 128, Nat.mod_lt _ (by decide)⟩ : Fin 128)) ?_).trans ?_
  · rw [Shape.rowMajor_val_two, Shape.rowMajor_val_three]
    show (i.val * 8 + c.val / 128) * 128 + c.val % 128 = i.val * 1024 + c.val
    omega
  · refine (transpose_apply _ _ _ _ (p3 (⟨c.val / 128, by omega⟩ : Fin 8) i (⟨c.val % 128, Nat.mod_lt _ (by decide)⟩ : Fin 128)) fun b => match b with
      | ⟨0, _⟩ => rfl
      | ⟨1, _⟩ => rfl
      | ⟨2, _⟩ => rfl).trans ?_
    refine (congrArg₂ (· + ·) (placed W _ _ _ _ _) (placed _ _ _ _ _ _)).trans ?_
    unfold flat
    show (if 64 ≤ c.val % 128 then _ else _) + (if 0 ≤ c.val % 128 then cell _ _ _ (c.val % 128 - 0) else _) = _
    rw [if_pos (Nat.zero_le _), Nat.sub_zero]
    by_cases hc : c.val % 128 < 64
    · rw [if_pos hc, if_neg (by omega), zero_add]
      refine (cell_of _ (p3 (⟨c.val / 128, by omega⟩ : Fin 8) i (⟨c.val % 128, hc⟩ : Fin 64)) rfl rfl rfl).symm.trans ((cut K _ _ _ _).trans ?_)
      show cell K _ _ (0 + c.val % 128) = _
      rw [Nat.zero_add]
    · rw [if_neg hc, if_pos (by omega)]
      refine (congrArg (_ + ·) ?_).trans (add_zero _)
      unfold cell
      exact dif_neg fun hh => hc hh.2.2

/-- The reference's sum over the heads. -/
theorem gathered {u : Shape} (K : FVec Ideal ⟨3, ![8, p, 96]⟩ .f32) (h₁ h₂ hb) (hu : 0 < u.numel) (i : Fin p) (e : Fin 32) :
    broadcastInDim ⟨3, ![1, p, 32]⟩ ![1, 2] hb (Host.reduceAdd (F := Ideal) (φ := .f32) (t := ⟨2, ![p, 32]⟩) (axes := [0]) (extractStridedSlice ⟨3, ![8, p, 32]⟩ ![0, 0, 64] K h₁) (constant (F := Ideal) u .f32 0x00000000#32) h₂ hu) (p3 0 i e)
      = pooled K i.val e.val := by
  have one : ∀ {u : ℕ} (w : Fin u), w.val = if u = 1 then 0 else w.val := fun w => by split <;> omega
  have spread : ∀ ax : Fin 2, ((px i e) ax).val = if (⟨2, ![p, 32]⟩ : Shape).size ax = 1 then 0 else ((p3 (0 : Fin 1) i e) ((![1, 2] : Fin 2 → Fin 3) ax)).val := fun ax => match ax with
    | ⟨0, _⟩ => one i
    | ⟨1, _⟩ => one e
  refine (broadcastInDim_apply _ _ _ _ (px i e) spread).trans ?_
  refine ((Ideal.hostReduceAdd_r3_a0 h₂ _ _ (px i e)).trans ((congrArg (· + _) Ideal.ofBits_zero_f32).trans ((zero_add _).trans (Finset.sum_congr rfl fun j _ => ?_))))
  exact cut K h₁ j i e

/-- A half of that sum. -/
theorem gathered_half {o : ℕ} (K : FVec Ideal ⟨3, ![8, p, 96]⟩ .f32) (G : FVec Ideal ⟨3, ![1, p, 32]⟩ .f32) (hG : ∀ i e, G (p3 0 i e) = pooled K i.val e.val) (h₃) (i : Fin p) (e : Fin 16) :
    extractStridedSlice ⟨3, ![1, p, 16]⟩ ![0, 0, o] G h₃ (p3 0 i e)
      = pooled K i.val (o + e.val) :=
  have hl : o + 16 ≤ 32 := h₃.2 (2 : Fin 3)
  (cut _ h₃ 0 i e).trans ((cell_of _ (p3 0 i (⟨o + e.val, by omega⟩ : Fin 32)) rfl rfl rfl).symm.trans (hG i _))

/-- A table with an axis of one in front. -/
theorem fronted (C : FVec Ideal ⟨2, ![p, 16]⟩ .f32) (h) (i : Fin p) (e : Fin 16) : shapeCast ⟨3, ![1, p, 16]⟩ C h (p3 0 i e) = at2 C i.val e.val :=
  (shapeCast_apply _ _ _ (px i e) (by
    rw [Shape.rowMajor_val_two, Shape.rowMajor_val_three]
    show i.val * 16 + e.val = (0 * p + i.val) * 16 + e.val
    rw [Nat.zero_mul, Nat.zero_add])).trans (at2_ix2 C i e).symm

/-- The reference's gradient by the rotary key. -/
theorem undone_host {u : Shape} (K : FVec Ideal ⟨3, ![8, p, 96]⟩ .f32) (G : FVec Ideal ⟨3, ![1, p, 32]⟩ .f32) (hG : ∀ i e, G (p3 0 i e) = pooled K i.val e.val) (C S : FVec Ideal ⟨2, ![p, 16]⟩ .f32) (h₃ h₄ h₅ h₆ h₇ h₈) (hu : 0 < u.numel) (i : Fin p) (e : Fin 32) :
    shapeCast ⟨2, ![p, 32]⟩ (addf (F := Ideal) (φ := .f32)
      (pad ⟨3, ![1, p, 32]⟩ ![0, 0, 16] ![0, 0, 0] ![0, 0, 0] (addf (F := Ideal) (φ := .f32) (mulf (F := Ideal) (φ := .f32) (extractStridedSlice ⟨3, ![1, p, 16]⟩ ![0, 0, 16] G h₃) (shapeCast ⟨3, ![1, p, 16]⟩ C h₅)) (mulf (F := Ideal) (φ := .f32) (Host.negf (F := Ideal) (φ := .f32) (extractStridedSlice ⟨3, ![1, p, 16]⟩ ![0, 0, 0] G h₄)) (shapeCast ⟨3, ![1, p, 16]⟩ S h₅))) (constant (F := Ideal) u .f32 0x00000000#32) h₆ hu)
      (pad ⟨3, ![1, p, 32]⟩ ![0, 0, 0] ![0, 0, 16] ![0, 0, 0] (addf (F := Ideal) (φ := .f32) (mulf (F := Ideal) (φ := .f32) (extractStridedSlice ⟨3, ![1, p, 16]⟩ ![0, 0, 16] G h₃) (shapeCast ⟨3, ![1, p, 16]⟩ S h₅)) (mulf (F := Ideal) (φ := .f32) (extractStridedSlice ⟨3, ![1, p, 16]⟩ ![0, 0, 0] G h₄) (shapeCast ⟨3, ![1, p, 16]⟩ C h₅))) (constant (F := Ideal) u .f32 0x00000000#32) h₇ hu)) h₈ (px i e)
      = undone (pooled K) (at2 C) (at2 S) i.val e.val := by
  refine (shapeCast_apply _ _ _ (p3 0 i e) ?_).trans ((congrArg₂ (· + ·) (placed _ _ _ _ _ _) (placed _ _ _ _ _ _)).trans ?_)
  · rw [Shape.rowMajor_val_two, Shape.rowMajor_val_three]
    show (0 * p + i.val) * 32 + e.val = i.val * 32 + e.val
    rw [Nat.zero_mul, Nat.zero_add]
  · rw [if_pos (Nat.zero_le _), Nat.sub_zero]
    unfold undone
    by_cases he : e.val < 16
    · rw [if_pos he, if_neg (by omega), zero_add]
      refine (cell_of _ (p3 0 i (⟨e.val, he⟩ : Fin 16)) rfl rfl rfl).symm.trans ((congrArg₂ (· + ·)
        (congrArg₂ (· * ·) (gathered_half K G hG h₃ i _) (fronted S h₅ i _))
        (congrArg₂ (· * ·) (gathered_half K G hG h₄ i _) (fronted C h₅ i _))).trans ?_)
      rw [Nat.zero_add]
      exact add_comm _ _
    · rw [if_neg he, if_pos (by omega)]
      have hz : ∀ Y : (⟨3, ![1, p, 16]⟩ : Shape).Idx → EReal, cell Y 0 i.val e.val = 0 := fun Y => by
        unfold cell
        exact dif_neg fun hh => he hh.2.2
      refine (congrArg (_ + ·) (hz _)).trans ((add_zero _).trans ((cell_of _ (p3 0 i (⟨e.val - 16, by omega⟩ : Fin 16)) rfl rfl rfl).symm.trans ((congrArg₂ (· + ·)
        (congrArg₂ (· * ·) (gathered_half K G hG h₃ i _) (fronted C h₅ i _))
        (congrArg₂ (· * ·) (congrArg Neg.neg (gathered_half K G hG h₄ i _)) (fronted S h₅ i _))).trans ?_)))
      rw [Nat.zero_add, EReal.neg_mul, sub_eq_add_neg]

end

end Cert.KvDx

namespace Cert.KvDxIdeal.Sum
open Cert.KvDxIdeal Cert.KvDxIdeal.Gen Cert.KvDxIdeal.Value Cert.Rotary Cert.KvDx

theorem places : ∀ t : Fin cfg0.N, ((cfg0.win 4).flush t = true ∧ (cfg0.win 5).flush t = true)
    ∧ (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = t.val ∧ win0_2.index t 1 = 0) ∧ (win0_3.index t 0 = t.val ∧ win0_3.index t 1 = 0)
    ∧ (win0_4.index t 0 = t.val ∧ win0_4.index t 1 = 0) ∧ win0_5.index t 0 = t.val ∧ win0_5.index t 1 = 0 :=
  (by decide +kernel : ∀ t : Fin grid0.N, _)

section
variable (m : (ℓ : Loc nD τ sig) → Buf (Elt Ideal) ℓ) (c : Dev nD)

theorem cosines : V m c main_v16 = Host.cos angles := by
  unfold V
  after_reads_simp
  rfl

theorem sines : V m c main_v17 = Host.sin angles := by
  unfold V
  after_reads_simp
  rfl

/-- The blocks that a point reads. -/
theorem block₀ (t : Fin cfg0.N) (p : S8x1024x96.Idx) : iblk m c 0 t p = cell (a := 8) (b := 16384) (d := 96) (V m c main_arg0) (p 0).val (1024 * t.val + (p 1).val) (p 2).val := by
  refine cell_of (a := 8) (b := 16384) (d := 96) (V m c main_arg0) _ (i := 1024 * t.val + (p 1).val)
    (show win0_0.index t 0 * 8 + 1 * (p 0).val = _ from ?_) (show win0_0.index t 1 * 1024 + 1 * (p 1).val = _ from ?_) (show win0_0.index t 2 * 96 + 1 * (p 2).val = _ from ?_)
  · rw [(places t).2.1.1]; omega
  · rw [(places t).2.1.2.1]; omega
  · rw [(places t).2.1.2.2]; omega

theorem block₁ (t : Fin cfg0.N) (p : S8x1024x64.Idx) : iblk m c 1 t p = cell (a := 8) (b := 16384) (d := 64) (V m c main_arg1) (p 0).val (1024 * t.val + (p 1).val) (p 2).val := by
  refine cell_of (a := 8) (b := 16384) (d := 64) (V m c main_arg1) _ (i := 1024 * t.val + (p 1).val)
    (show win0_1.index t 0 * 8 + 1 * (p 0).val = _ from ?_) (show win0_1.index t 1 * 1024 + 1 * (p 1).val = _ from ?_) (show win0_1.index t 2 * 64 + 1 * (p 2).val = _ from ?_)
  · rw [(places t).2.2.1.1]; omega
  · rw [(places t).2.2.1.2.1]; omega
  · rw [(places t).2.2.1.2.2]; omega

/-- The tables' rows that a point reads. -/
theorem angles_block (Y : FVec Ideal S16384x16 .f32) (t : Fin cfg0.N) (r : Fin 1024) (k : Fin 16) :
    (V m c main_v16 = Y → iblk m c 2 t (px r k) = at2 Y (1024 * t.val + r.val) (16 * 0 + k.val))
    ∧ (V m c main_v17 = Y → iblk m c 3 t (px r k) = at2 Y (1024 * t.val + r.val) (16 * 0 + k.val)) := by
  refine ⟨fun h => ?_, fun h => ?_⟩
  · show ((cfg0.win 2).blk t).view.read (Elt Ideal) (V m c (Pipeline.arrRef spec0 2)) (px r k) = _
    rw [show V m c (Pipeline.arrRef spec0 2) = Y from h]
    exact at_block (a := 16384) (b := 16) (φ := .f32) Y (places t).2.2.2.1 rfl rfl
  · show ((cfg0.win 3).blk t).view.read (Elt Ideal) (V m c (Pipeline.arrRef spec0 3)) (px r k) = _
    rw [show V m c (Pipeline.arrRef spec0 3) = Y from h]
    exact at_block (a := 16384) (b := 16) (φ := .f32) Y (places t).2.2.2.2.1 rfl rfl

/-- A point's tile of the joined rows. -/
theorem tile₄ (x : Vec Ideal S8x1024x96 .f32) (w : Vec Ideal S8x1024x64 .f32) (a b : Vec Ideal S1024x16 .f32) (y : S1024x1024.Idx) :
    out0_4 (F := Ideal) x w a b y = flat (p := 1024) x w (y 0).val (y 1).val := by
  unfold out0_4
  refine View.canon_eq_of_allAt _ y _ (cover0_4 _ _ _ _ _ _ _ _ _ _ _ _ _ _ _ _ y) ?_
  iterate 8
    refine View.allAt_cons_unit _ _ _ _ _ (values (p := 1024) x w y (by rfl) _ _ _) ?_
    refine View.allAt_cons_unit _ _ _ _ _ (keys (p := 1024) x w y (by rfl) _ _ _) ?_
  exact View.allAt_nil _ _

/-- The sum over the heads in a point's tile. -/
theorem summed_tile (x : Vec Ideal S8x1024x96 .f32) (w : Vec Ideal S8x1024x64 .f32) (a b : Vec Ideal S1024x16 .f32) (s : S1024x32.Idx) :
    k0_pay3 (F := Ideal) (k0_pay27 x w a b) (View.ld x r0_34) (View.ld x r0_39) s = pooled (p := 1024) x (s 0).val (s 1).val := by
  unfold k0_pay3 k0_pay27 k0_pay24 k0_pay19 k0_pay14 pooled
  rw [Fin.sum_univ_eight]
  exact congrArg₂ (· + ·) (congrArg₂ (· + ·) (congrArg₂ (· + ·) (congrArg₂ (· + ·) (congrArg₂ (· + ·) (congrArg₂ (· + ·) (congrArg₂ (· + ·)
    (tile (n := 32) x _ _ s) (tile (n := 32) x _ _ s)) (tile (n := 32) x _ _ s)) (tile (n := 32) x _ _ s)) (tile (n := 32) x _ _ s)) (tile (n := 32) x _ _ s)) (tile (n := 32) x _ _ s)) (tile (n := 32) x _ _ s)

/-- A half of it. -/
theorem half {o : ℕ} (x : Vec Ideal S8x1024x96 .f32) (w : Vec Ideal S8x1024x64 .f32) (a b : Vec Ideal S1024x16 .f32) (h) (s : S1024x16.Idx) :
    extractStridedSlice S1024x16 ![0, o] (k0_pay3 (F := Ideal) (k0_pay27 x w a b) (View.ld x r0_34) (View.ld x r0_39)) h s = pooled (p := 1024) x (s 0).val (o + (s 1).val) :=
  have hl : o + 16 ≤ 32 := h.2 (1 : Fin 2)
  have hs : (s 1).val < 16 := (s 1).isLt
  (extractStridedSlice_apply _ _ _ s (px (s 0) (⟨o + (s 1).val, by omega⟩ : Fin 32)) fun ax => match ax with
    | ⟨0, _⟩ => (Nat.zero_add _).symm
    | ⟨1, _⟩ => rfl).trans (summed_tile x w a b _)

/-- A table's tile, as loaded. -/
theorem loaded (a : Vec Ideal S1024x16 .f32) (h) (s : S1024x16.Idx) : shapeCast S1024x16 (View.ld a r0_40) h s = @at2 1024 16 .f32 a (s 0).val (s 1).val := by
  rw [View.ld_unit_zero zz]
  exact (shapeCast_apply _ _ _ s rfl).trans (at2_of (a := 1024) (b := 16) (φ := .f32) a s _ _ rfl rfl)

/-- A point's tile of the gradient by the rotary key. -/
theorem tile₅ (x : Vec Ideal S8x1024x96 .f32) (w : Vec Ideal S8x1024x64 .f32) (a b : Vec Ideal S1024x16 .f32) (y : S1024x32.Idx) :
    out0_5 (F := Ideal) x w a b y = undone (pooled (p := 1024) x) (@at2 1024 16 .f32 a) (@at2 1024 16 .f32 b) (y 0).val (y 1).val := by
  unfold out0_5
  refine View.canon_eq_of_allAt _ y _ (cover0_5 _ _ y) ?_
  refine View.allAt_cons_unit _ _ _ _ _ (fun s hs => ?_) (View.allAt_cons_unit _ _ _ _ _ (fun s hs => ?_) (View.allAt_nil _ _))
  · have h0 : (y 0).val = 0 + (s 0).val := hs 0
    have h1 : (y 1).val = 16 + (s 1).val := hs 1
    unfold undone
    rw [h0, h1, if_neg (by omega), Nat.add_sub_cancel_left, Nat.zero_add]
    have h₁ := half x w a b slices_S1024x32_o0_0_S1024x16 s
    rw [Nat.zero_add] at h₁
    exact congrArg₂ (· - ·) (congrArg₂ (· * ·) (half x w a b slices_S1024x32_o0_16_S1024x16 s) (loaded a _ s)) (congrArg₂ (· * ·) h₁ (loaded b _ s))
  · have h0 : (y 0).val = 0 + (s 0).val := hs 0
    have h1 : (y 1).val = 0 + (s 1).val := hs 1
    have hl : (s 1).val < 16 := (s 1).isLt
    unfold undone
    rw [h0, h1, Nat.zero_add, Nat.zero_add, if_pos hl]
    have h₁ := half x w a b slices_S1024x32_o0_0_S1024x16 s
    rw [Nat.zero_add] at h₁
    exact congrArg₂ (· + ·) (congrArg₂ (· * ·) h₁ (loaded a _ s)) (congrArg₂ (· * ·) (half x w a b slices_S1024x32_o0_16_S1024x16 s) (loaded b _ s))

/-- The joined rows, whole. -/
theorem array₄ (i : Fin 16384) (j : Fin 1024) : ((dats m 0 c).arrAt 4 cfg0.N : FVec Ideal S16384x1024 .bf16) (px i j)
    = flat (p := 16384) (V m c main_arg0) (V m c main_arg1) i.val j.val :=
  bands (p := 1024) (φ := .bf16) _ (congrArg (1024 * ·) N_0.symm) (fun i (j : Fin 1024) => flat (p := 16384) (V m c main_arg0) (V m c main_arg1) i j.val)
    (fun t r s => (at_block (a := 16384) (b := 1024) (φ := .bf16) _ (places t).2.2.2.2.2.1 rfl rfl).symm.trans
      ((congrFun ((blocks4 m c t (places t).1.1).trans (flushed4 m c t)) (px r s)).trans (by
        show out0_4 _ _ _ _ (px r s) = _
        refine (tile₄ _ _ _ _ _).trans ?_
        show flat (p := 1024) (iblk m c 0 t) (iblk m c 1 t) r.val s.val = _
        unfold flat
        rw [cell_band (a := 8) (b := 16384) (d := 96) (q := 1024) (V m c main_arg0) (iblk m c 0 t) (1024 * t.val) (block₀ m c t),
          cell_band (a := 8) (b := 16384) (d := 64) (q := 1024) (V m c main_arg1) (iblk m c 1 t) (1024 * t.val) (block₁ m c t)]))) i j

/-- The gradient by the rotary key, whole. -/
theorem array₅ (C S : FVec Ideal S16384x16 .f32) (eC : V m c main_v16 = C) (eS : V m c main_v17 = S) (i : Fin 16384) (j : Fin 32) : ((dats m 0 c).arrAt 5 cfg0.N : FVec Ideal S16384x32 .f32) (px i j)
    = undone (pooled (p := 16384) (V m c main_arg0)) (at2 C) (at2 S) i.val j.val :=
  bands (p := 1024) (φ := .f32) _ (congrArg (1024 * ·) N_0.symm) (fun i (j : Fin 32) => undone (pooled (p := 16384) (V m c main_arg0)) (at2 C) (at2 S) i j.val)
    (fun t r s => (at_block (a := 16384) (b := 32) (φ := .f32) _ (places t).2.2.2.2.2.2 rfl rfl).symm.trans
      ((congrFun ((blocks5 m c t (places t).1.2).trans (flushed5 m c t)) (px r s)).trans (by
        show out0_5 _ _ _ _ (px r s) = _
        refine (tile₅ _ _ _ _ _).trans ?_
        refine undone_band (fun e => ?_) (fun k => ?_) (fun k => ?_) s
        · unfold pooled
          exact Finset.sum_congr rfl fun j _ => cell_band (a := 8) (b := 16384) (d := 96) (q := 1024) (V m c main_arg0) (iblk m c 0 t) (1024 * t.val) (block₀ m c t) _ r _
        · exact (at2_ix2 (a := 1024) (b := 16) (φ := .f32) (iblk m c 2 t) r k).trans (((angles_block m c C t r k).1 eC).trans (by rw [Nat.mul_zero, Nat.zero_add]))
        · exact (at2_ix2 (a := 1024) (b := 16) (φ := .f32) (iblk m c 3 t) r k).trans (((angles_block m c S t r k).2 eS).trans (by rw [Nat.mul_zero, Nat.zero_add]))))) i j

end

/-- The kernel and the reference end with the same two arrays. -/
theorem algebraic : algebraic_KvDxIdeal_KvDxRefIdeal (hKvDxIdeal := Cert.KvDxIdeal.Gen.facts) (hKvDxRefIdeal := Cert.KvDxRefIdeal.Gen.facts) := by
  intro m g m' g' _ hm
  refine ⟨fun c => (dats m 0 c).arrAt 4 cfg0.N, fun c => (dats m 0 c).arrAt 5 cfg0.N, run_blocks (F := Ideal) m g, ?_⟩
  refine (θ_run Cert.KvDxRefIdeal.defs _ _).mono (fun r h c => ⟨(h c).1.trans ?_, (h c).2.1.trans ?_, (h c).2.2⟩) (Cert.KvDxRefIdeal.Value.run (F := Ideal) m' g')
  · rw [(hm c).1, (hm c).2]
    refine ext2 (a := 16384) (b := 1024) (φ := .bf16) fun i j => ?_
    refine (rows_host (p := 16384) _ _ _ _ _ _ _ _ i j).trans ((array₄ m c i j).trans ?_).symm
    rw [V_main_arg0, V_main_arg1]
  · unfold Cert.KvDxRefIdeal.Value.res_main_v57
    rw [(hm c).1]
    refine ext2 (a := 16384) (b := 32) (φ := .f32) fun i j => ?_
    refine (undone_host (p := 16384) _ _ (fun i e => gathered (p := 16384) _ _ _ _ _ i e) (Host.cos angles) (Host.sin angles) _ _ _ _ _ _ _ i j).trans ((array₅ m c _ _ (cosines m c) (sines m c) i j).trans ?_).symm
    rw [V_main_arg0]

end Cert.KvDxIdeal.Sum
-- ==== Proof.Moves.lean ====
/-
  The moves between one device's rows, the heads side by side, and the heads apart.
-/
module
public import proofs.«01_k».proof.Proof.KvDx
public import proofs.«01_k».proof.Proof.Gen.QSplitIdeal.Value
public import proofs.«01_k».proof.Proof.Gen.QSplitRefIdeal.Run
public import proofs.«01_k».proof.Proof.Gen.DoSplitIdeal.Value
public import proofs.«01_k».proof.Proof.Gen.DoSplitRefIdeal.Run
public import proofs.«01_k».proof.Proof.Gen.DqMergeIdeal.Value
public import proofs.«01_k».proof.Proof.Gen.DqMergeRefIdeal.Run
public import proofs.«01_k».proof.Proof.Gen.OMergeIdeal.Frame
public import proofs.«01_k».proof.Proof.Gen.OMergeRefIdeal.Run
public import Idealize.ShloMosaic.Lib.Pipeline.Value

@[expose] public section

set_option maxRecDepth 20000

noncomputable section

open Idealize.ShloMosaic Idealize.ShloMosaic.TcCoe Cert.Product Cert.Rows Cert.KvDx

namespace Cert.Moves

section
variable {a p w n M N : ℕ} {φ : FTy}

/-- Two arrays of heads are one if they agree at every row and coordinate of every head. -/
theorem ext3 {X Y : (⟨3, ![a, M, w]⟩ : Shape).Idx → EReal} (h : ∀ j i k, X (p3 j i k) = Y (p3 j i k)) : X = Y := by
  funext y
  have e : y = p3 ⟨(y 0).val, (y 0).isLt⟩ ⟨(y 1).val, (y 1).isLt⟩ ⟨(y 2).val, (y 2).isLt⟩ := by
    funext x
    match x with
    | ⟨0, _⟩ => rfl
    | ⟨1, _⟩ => rfl
    | ⟨2, _⟩ => rfl
  rw [e]
  exact h _ _ _

/-- An array of heads, known on every band of rows. -/
theorem bands₃ (O : (⟨3, ![a, M, w]⟩ : Shape).Idx → EReal) (hM : M = p * N) (f : ℕ → ℕ → ℕ → EReal)
    (h : ∀ (t : Fin N) (j : Fin a) (r : Fin p) (k : Fin w), cell O j.val (p * t.val + r.val) k.val = f j.val (p * t.val + r.val) k.val)
    (j : Fin a) (i : Fin M) (k : Fin w) : O (p3 j i k) = f j.val i.val k.val := by
  subst hM
  have hp : 0 < p := Nat.pos_of_mul_pos_right i.pos
  have := h ⟨i.val / p, Nat.div_lt_of_lt_mul i.isLt⟩ j ⟨i.val % p, Nat.mod_lt _ hp⟩ k
  rw [Nat.div_add_mod] at this
  exact (cell_of O _ rfl rfl rfl).trans this

/-- One head's coordinates of a band of rows, as stored. -/
theorem head {o j : ℕ} (x : FVec Ideal ⟨2, ![p, n]⟩ φ) (z : FVec Ideal ⟨2, ![p, w]⟩ φ) (hz : ∀ s, z s = at2 x (s 0).val (o + (s 1).val))
    (y : (⟨3, ![a, p, w]⟩ : Shape).Idx) (ho : o = w * j) (hc) (s : (⟨3, ![1, p, w]⟩ : Shape).Idx) (h0 : (y 0).val = j + (s 0).val) (h1 : (y 1).val = 0 + (s 1).val)
    (h2 : (y 2).val = 0 + (s 2).val) : shapeCast ⟨3, ![1, p, w]⟩ z hc s = at2 x (y 1).val (w * (y 0).val + (y 2).val) := by
  have hl : (s 0).val < 1 := (s 0).isLt
  refine (shapeCast_apply _ _ _ (px (s 1) (s 2)) (by
    rw [Shape.rowMajor_val_two, Shape.rowMajor_val_three]
    show (s 1).val * w + (s 2).val = ((s 0).val * p + (s 1).val) * w + (s 2).val
    rw [show (s 0).val = 0 by omega, Nat.zero_mul, Nat.zero_add])).trans ((hz _).trans ?_)
  show at2 x (s 1).val (o + (s 2).val) = _
  rw [ho, h0, h1, h2, show (s 0).val = 0 by omega, Nat.add_zero, Nat.zero_add, Nat.zero_add]

/-- A store of one head's columns, loaded from a band of rows. -/
theorem apart {o j : ℕ} (x : (⟨2, ![p, n]⟩ : Shape).Idx → Elt Ideal .bf16) (y : (⟨3, ![a, p, w]⟩ : Shape).Idx) (ho : o = w * j) (inb hc) :
    View.TileAt (Val := Elt Ideal) (e := .bf16) y ![j, 0, 0] ![1, p, w] (shapeCast ⟨3, ![1, p, w]⟩ (View.ld x (Rect.unit (s := ⟨2, ![p, n]⟩) ![0, o] ![p, w] inb)) hc)
      (at2 (a := p) (b := n) (φ := .bf16) x (y 1).val (w * (y 0).val + (y 2).val)) := fun s hs =>
  head (φ := .bf16) x _ (fun s => at2_of (a := p) (b := n) (φ := .bf16) x _ _ _ (show 0 + 1 * (s 0).val = (s 0).val by omega)
    (show o + 1 * (s 1).val = o + (s 1).val by omega)) y ho hc s (hs 0) (hs 1) (hs 2)

/-- A store of one head's columns, cut from a band of rows. -/
theorem sliced {o j : ℕ} (x : (⟨2, ![p, n]⟩ : Shape).Idx → Elt Ideal .f32) (y : (⟨3, ![a, p, w]⟩ : Shape).Idx) (ho : o = w * j) (h₁ hc) :
    View.TileAt (Val := Elt Ideal) (e := .f32) y ![j, 0, 0] ![1, p, w] (shapeCast ⟨3, ![1, p, w]⟩ (extractStridedSlice ⟨2, ![p, w]⟩ ![0, o] x h₁) hc)
      (at2 (a := p) (b := n) (φ := .f32) x (y 1).val (w * (y 0).val + (y 2).val)) := fun s hs =>
  head (φ := .f32) x _ (fun (s : (⟨2, ![p, w]⟩ : Shape).Idx) => have hl : o + w ≤ n := h₁.2 (1 : Fin 2)
    have hs : (s 1).val < w := (s 1).isLt
    (extractStridedSlice_apply _ _ _ s (px (s 0) (⟨o + (s 1).val, by omega⟩ : Fin n)) fun ax => match ax with
      | ⟨0, _⟩ => (Nat.zero_add _).symm
      | ⟨1, _⟩ => rfl).trans (at2_of (a := p) (b := n) (φ := .f32) x _ _ _ rfl rfl)) y ho hc s (hs 0) (hs 1) (hs 2)

/-- The rows parted into heads by a reshape and a transpose. -/
theorem parted (X : FVec Ideal ⟨2, ![M, n]⟩ φ) (hn : n = a * w) (h₁ h₂) (j : Fin a) (i : Fin M) (k : Fin w) :
    transpose ⟨3, ![a, M, w]⟩ [1, 0, 2] (shapeCast ⟨3, ![M, a, w]⟩ X h₁) h₂ (p3 j i k) = at2 X i.val (w * j.val + k.val) := by
  subst hn
  have hc : w * j.val + k.val < a * w := by nlinarith [j.isLt, k.isLt]
  refine (transpose_apply _ _ _ _ (p3 i j k) fun ax => match ax with
    | ⟨0, _⟩ => rfl
    | ⟨1, _⟩ => rfl
    | ⟨2, _⟩ => rfl).trans ((shapeCast_apply _ _ _ (px i ⟨w * j.val + k.val, hc⟩) ?_).trans (at2_of X _ _ _ rfl rfl))
  rw [Shape.rowMajor_val_two, Shape.rowMajor_val_three]
  show i.val * (a * w) + (w * j.val + k.val) = (i.val * a + j.val) * w + k.val
  ring

/-- A start at the origin. -/
theorem zzz : (![0, 0, 0] : Fin 3 → ℕ) = fun _ => 0 := by
  funext x
  match x with
  | ⟨0, _⟩ => rfl
  | ⟨1, _⟩ => rfl
  | ⟨2, _⟩ => rfl

/-- The heads' columns joined to rows. -/
theorem joined (X : (⟨3, ![a, w, M]⟩ : Shape).Idx → EReal) (hw : 0 < w) (hn : n = a * w) (h₁ h₂) (i : Fin M) (c : Fin n) :
    shapeCast ⟨2, ![M, n]⟩ (transpose ⟨3, ![M, a, w]⟩ [2, 0, 1] X h₁) h₂ (px i c) = cell X (c.val / w) (c.val % w) i.val := by
  subst hn
  have hd : c.val / w < a := Nat.div_lt_of_lt_mul (c.isLt.trans_eq (Nat.mul_comm a w))
  have hm : c.val % w < w := Nat.mod_lt _ hw
  refine (shapeCast_apply _ _ _ (p3 i ⟨c.val / w, hd⟩ ⟨c.val % w, hm⟩) ?_).trans ((transpose_apply _ _ _ _ (p3 ⟨c.val / w, hd⟩ ⟨c.val % w, hm⟩ i) fun ax => match ax with
    | ⟨0, _⟩ => rfl
    | ⟨1, _⟩ => rfl
    | ⟨2, _⟩ => rfl).trans (cell_of X _ rfl rfl rfl))
  rw [Shape.rowMajor_val_two, Shape.rowMajor_val_three]
  show (i.val * a + c.val / w) * w + c.val % w = i.val * (a * w) + c.val
  nlinarith [Nat.div_add_mod c.val w]

/-- The same of a band, by a reshape and then a transpose. -/
theorem turned (X : (⟨3, ![a, w, p]⟩ : Shape).Idx → EReal) (hw : 0 < w) (hn : n = a * w) (h₁ h₂) (r : Fin p) (c : Fin n) :
    transpose ⟨2, ![p, n]⟩ [1, 0] (shapeCast ⟨2, ![n, p]⟩ X h₁) h₂ (px r c) = cell X (c.val / w) (c.val % w) r.val := by
  subst hn
  have hd : c.val / w < a := Nat.div_lt_of_lt_mul (c.isLt.trans_eq (Nat.mul_comm a w))
  have hm : c.val % w < w := Nat.mod_lt _ hw
  refine (transpose_apply _ _ _ _ (px c r) fun ax => match ax with
    | ⟨0, _⟩ => rfl
    | ⟨1, _⟩ => rfl).trans ((shapeCast_apply _ _ _ (p3 ⟨c.val / w, hd⟩ ⟨c.val % w, hm⟩ r) ?_).trans (cell_of X _ rfl rfl rfl))
  rw [Shape.rowMajor_val_two, Shape.rowMajor_val_three]
  show (c.val / w * w + c.val % w) * p + r.val = c.val * p + r.val
  rw [Nat.div_add_mod']

end

end Cert.Moves

namespace Cert.QSplitIdeal.Sum
open Cert.QSplitIdeal Cert.QSplitIdeal.Gen Cert.QSplitIdeal.Value Cert.Moves

theorem places : ∀ t : Fin cfg0.N, (cfg0.win 1).flush t = true ∧ (win0_0.index t 0 = t.val ∧ win0_0.index t 1 = 0)
    ∧ win0_1.index t 0 = 0 ∧ win0_1.index t 1 = t.val ∧ win0_1.index t 2 = 0 :=
  (by decide +kernel : ∀ t : Fin grid0.N, _)

/-- A point's tile. -/
theorem tile₁ (x : Vec Ideal S2048x768 .bf16) (y : S8x2048x96.Idx) :
    out0_1 (F := Ideal) x y = @at2 2048 768 .bf16 x (y 1).val (96 * (y 0).val + (y 2).val) := by
  unfold out0_1
  refine View.canon_eq_of_allAt _ y _ (cover0_1 _ _ _ _ _ _ _ _ y) ?_
  iterate 8
    refine View.allAt_cons_unit _ _ _ _ _ (apart (a := 8) (p := 2048) (w := 96) (n := 768) x y (by rfl) _ _) ?_
  exact View.allAt_nil _ _

theorem array₁ (m : (ℓ : Loc nD τ sig) → Buf (Elt Ideal) ℓ) (c : Dev nD) (j : Fin 8) (i : Fin 16384) (k : Fin 96) :
    ((dats m 0 c).arrAt 1 cfg0.N : (⟨3, ![8, 16384, 96]⟩ : Shape).Idx → EReal) (p3 j i k) = @at2 16384 768 .bf16 (V m c main_arg0) i.val (96 * j.val + k.val) :=
  bands₃ (p := 2048) _ (congrArg (2048 * ·) N_0.symm) (fun j i k => @at2 16384 768 .bf16 (V m c main_arg0) i (96 * j + k))
    (fun t j r k => (cell_of (a := 8) (b := 16384) (d := 96) _ (((cfg0.win 1).blk t).view.emb (p3 j r k))
      (show win0_1.index t 0 * 8 + 1 * j.val = _ by rw [(places t).2.2.1]; omega)
      (show win0_1.index t 1 * 2048 + 1 * r.val = _ by rw [(places t).2.2.2.1]; omega)
      (show win0_1.index t 2 * 96 + 1 * k.val = _ by rw [(places t).2.2.2.2]; omega)).symm.trans
      ((congrFun ((blocks1 m c t (places t).1).trans (flushed1 m c t)) (p3 j r k)).trans (by
        show out0_1 _ (p3 j r k) = _
        refine (tile₁ _ _).trans ?_
        have hl : 96 * j.val + k.val < 768 := by omega
        refine (at2_ix2 (a := 2048) (b := 768) (φ := .bf16) (iblk m c 0 t) r ⟨96 * j.val + k.val, hl⟩).trans ?_
        refine (at_block (a := 16384) (b := 768) (φ := .bf16) (V m c main_arg0) (places t).2.1 rfl rfl).trans ?_
        rw [Nat.mul_zero, Nat.zero_add]
        rfl))) j i k

/-- The kernel and the reference end with the same array. -/
theorem algebraic : algebraic_QSplitIdeal_QSplitRefIdeal (hQSplitIdeal := Cert.QSplitIdeal.Gen.facts) (hQSplitRefIdeal := Cert.QSplitRefIdeal.Gen.facts) := by
  intro m g m' g' _ hm
  refine ⟨fun c => (dats m 0 c).arrAt 1 cfg0.N, run_blocks (F := Ideal) m g, ?_⟩
  refine (θ_run Cert.QSplitRefIdeal.defs _ _).mono (fun r h c => ⟨(h c).1.trans ?_, (h c).2⟩) (Cert.QSplitRefIdeal.Value.run (F := Ideal) m' g')
  rw [hm c]
  refine ext3 (a := 8) (M := 16384) (w := 96) fun j i k => ?_
  refine (parted (a := 8) (w := 96) (M := 16384) (n := 768) (φ := .bf16) _ rfl _ _ j i k).trans ((array₁ m c j i k).trans ?_).symm
  rw [V_main_arg0]

end Cert.QSplitIdeal.Sum

namespace Cert.DoSplitIdeal.Sum
open Cert.DoSplitIdeal Cert.DoSplitIdeal.Gen Cert.DoSplitIdeal.Value Cert.Moves

theorem places : ∀ t : Fin cfg0.N, (cfg0.win 1).flush t = true ∧ (win0_0.index t 0 = t.val ∧ win0_0.index t 1 = 0)
    ∧ win0_1.index t 0 = 0 ∧ win0_1.index t 1 = t.val ∧ win0_1.index t 2 = 0 :=
  (by decide +kernel : ∀ t : Fin grid0.N, _)

/-- A point's tile. -/
theorem tile₁ (x : Vec Ideal S4096x512 .bf16) (y : S8x4096x64.Idx) :
    out0_1 (F := Ideal) x y = @at2 4096 512 .bf16 x (y 1).val (64 * (y 0).val + (y 2).val) := by
  unfold out0_1
  refine View.canon_eq_of_allAt _ y _ (cover0_1 _ _ _ _ _ _ _ _ y) ?_
  iterate 8
    refine View.allAt_cons_unit _ _ _ _ _ (apart (a := 8) (p := 4096) (w := 64) (n := 512) x y (by rfl) _ _) ?_
  exact View.allAt_nil _ _

theorem array₁ (m : (ℓ : Loc nD τ sig) → Buf (Elt Ideal) ℓ) (c : Dev nD) (j : Fin 8) (i : Fin 16384) (k : Fin 64) :
    ((dats m 0 c).arrAt 1 cfg0.N : (⟨3, ![8, 16384, 64]⟩ : Shape).Idx → EReal) (p3 j i k) = @at2 16384 512 .bf16 (V m c main_arg0) i.val (64 * j.val + k.val) :=
  bands₃ (p := 4096) _ (congrArg (4096 * ·) N_0.symm) (fun j i k => @at2 16384 512 .bf16 (V m c main_arg0) i (64 * j + k))
    (fun t j r k => (cell_of (a := 8) (b := 16384) (d := 64) _ (((cfg0.win 1).blk t).view.emb (p3 j r k))
      (show win0_1.index t 0 * 8 + 1 * j.val = _ by rw [(places t).2.2.1]; omega)
      (show win0_1.index t 1 * 4096 + 1 * r.val = _ by rw [(places t).2.2.2.1]; omega)
      (show win0_1.index t 2 * 64 + 1 * k.val = _ by rw [(places t).2.2.2.2]; omega)).symm.trans
      ((congrFun ((blocks1 m c t (places t).1).trans (flushed1 m c t)) (p3 j r k)).trans (by
        show out0_1 _ (p3 j r k) = _
        refine (tile₁ _ _).trans ?_
        have hl : 64 * j.val + k.val < 512 := by omega
        refine (at2_ix2 (a := 4096) (b := 512) (φ := .bf16) (iblk m c 0 t) r ⟨64 * j.val + k.val, hl⟩).trans ?_
        refine (at_block (a := 16384) (b := 512) (φ := .bf16) (V m c main_arg0) (places t).2.1 rfl rfl).trans ?_
        rw [Nat.mul_zero, Nat.zero_add]
        rfl))) j i k

/-- The kernel and the reference end with the same array. -/
theorem algebraic : algebraic_DoSplitIdeal_DoSplitRefIdeal (hDoSplitIdeal := Cert.DoSplitIdeal.Gen.facts) (hDoSplitRefIdeal := Cert.DoSplitRefIdeal.Gen.facts) := by
  intro m g m' g' _ hm
  refine ⟨fun c => (dats m 0 c).arrAt 1 cfg0.N, run_blocks (F := Ideal) m g, ?_⟩
  refine (θ_run Cert.DoSplitRefIdeal.defs _ _).mono (fun r h c => ⟨(h c).1.trans ?_, (h c).2⟩) (Cert.DoSplitRefIdeal.Value.run (F := Ideal) m' g')
  rw [hm c]
  refine ext3 (a := 8) (M := 16384) (w := 64) fun j i k => ?_
  refine (parted (a := 8) (w := 64) (M := 16384) (n := 512) (φ := .bf16) _ rfl _ _ j i k).trans ((array₁ m c j i k).trans ?_).symm
  rw [V_main_arg0]

end Cert.DoSplitIdeal.Sum

namespace Cert.DqMergeIdeal.Sum
open Cert.DqMergeIdeal Cert.DqMergeIdeal.Gen Cert.DqMergeIdeal.Value Cert.Moves

theorem places : ∀ t : Fin cfg0.N, (cfg0.win 1).flush t = true ∧ (win0_0.index t 0 = 0 ∧ win0_0.index t 1 = 0 ∧ win0_0.index t 2 = t.val)
    ∧ win0_1.index t 0 = t.val ∧ win0_1.index t 1 = 0 :=
  (by decide +kernel : ∀ t : Fin grid0.N, _)

theorem array₁ (m : (ℓ : Loc nD τ sig) → Buf (Elt Ideal) ℓ) (c : Dev nD) (i : Fin 16384) (k : Fin 768) :
    ((dats m 0 c).arrAt 1 cfg0.N : FVec Ideal S16384x768 .f32) (px i k) = cell (a := 8) (b := 96) (d := 16384) (V m c main_arg0) (k.val / 96) (k.val % 96) i.val :=
  bands (p := 512) (φ := .f32) _ (congrArg (512 * ·) N_0.symm) (fun i (k : Fin 768) => cell (a := 8) (b := 96) (d := 16384) (V m c main_arg0) (k.val / 96) (k.val % 96) i)
    (fun t r s => (at_block (a := 16384) (b := 768) (φ := .f32) _ (places t).2.2 rfl rfl).symm.trans
      ((congrFun ((blocks1 m c t (places t).1).trans (flushed1 m c t)) (px r s)).trans (by
        show out0_1 _ (px r s) = _
        unfold out0_1
        rw [View.canon_cons_unit_zero zz, View.ld_unit_zero zzz]
        refine (turned (a := 8) (w := 96) (p := 512) (n := 768) _ (by decide) rfl _ _ r s).trans ?_
        refine (cell_of (a := 8) (b := 96) (d := 512) (iblk m c 0 t) (p3 (⟨s.val / 96, by omega⟩ : Fin 8) (⟨s.val % 96, by omega⟩ : Fin 96) r) rfl rfl rfl).symm.trans ?_
        exact cell_of (a := 8) (b := 96) (d := 16384) (V m c main_arg0) _
          (show win0_0.index t 0 * 8 + 1 * (s.val / 96) = _ by rw [(places t).2.1.1]; omega)
          (show win0_0.index t 1 * 96 + 1 * (s.val % 96) = _ by rw [(places t).2.1.2.1]; omega)
          (show win0_0.index t 2 * 512 + 1 * r.val = _ by rw [(places t).2.1.2.2]; omega)))) i k

/-- The kernel and the reference end with the same array. -/
theorem algebraic : algebraic_DqMergeIdeal_DqMergeRefIdeal (hDqMergeIdeal := Cert.DqMergeIdeal.Gen.facts) (hDqMergeRefIdeal := Cert.DqMergeRefIdeal.Gen.facts) := by
  intro m g m' g' _ hm
  refine ⟨fun c => (dats m 0 c).arrAt 1 cfg0.N, run_blocks (F := Ideal) m g, ?_⟩
  refine (θ_run Cert.DqMergeRefIdeal.defs _ _).mono (fun r h c => ⟨(h c).1.trans ?_, (h c).2⟩) (Cert.DqMergeRefIdeal.Value.run (F := Ideal) m' g')
  rw [hm c]
  refine ext2 (a := 16384) (b := 768) (φ := .f32) fun i k => ?_
  refine (joined (a := 8) (w := 96) (M := 16384) (n := 768) _ (by decide) rfl _ _ i k).trans ((array₁ m c i k).trans ?_).symm
  rw [V_main_arg0]

end Cert.DqMergeIdeal.Sum

namespace Cert.OMergeIdeal.Sum
open Cert.OMergeIdeal Cert.OMergeIdeal.Gen Cert.Moves

theorem places : ∀ t : Fin cfg0.N, ((cfg0.win 1).flush t = true ∧ (cfg0.win 2).flush t = true)
    ∧ (win0_0.index t 0 = 0 ∧ win0_0.index t 1 = 0 ∧ win0_0.index t 2 = t.val) ∧ (win0_1.index t 0 = t.val ∧ win0_1.index t 1 = 0)
    ∧ win0_2.index t 0 = 0 ∧ win0_2.index t 1 = t.val ∧ win0_2.index t 2 = 0 :=
  (by decide +kernel : ∀ t : Fin grid0.N, _)

section
variable (m : (ℓ : Loc nD τ sig) → Buf (Elt Ideal) ℓ) (c : Dev nD)

/-- What a point leaves of the rows, and of the heads. -/
theorem blocks₁ (t : Fin cfg0.N) : ((cfg0.win 1).blk t).view.read (Elt Ideal) ((dats m 0 c).arrAt 1 cfg0.N) = (cfg0.win 1).cut (grid0.coords t) (out0_1 (iblk m c 0 t)) :=
  ((dats m 0 c).read_blk_arrAt_eq_flushed 1 (fun t t' _ _ hne => (cfg0.win 1).disjoint_blk fun h => hne (Fin.ext
    ((places t).2.2.1.1.symm.trans ((congrFun h 0).trans (places t').2.2.1.1)))) cfg0.N t t.isLt (places t).1.1).trans (by
    show (cfg0.win 1).cut (grid0.coords t) ((dats m 0 c).after 1 t) = _
    rw [after0_1])

theorem blocks₂ (t : Fin cfg0.N) : ((cfg0.win 2).blk t).view.read (Elt Ideal) ((dats m 0 c).arrAt 2 cfg0.N) = (cfg0.win 2).cut (grid0.coords t) (out0_2 (iblk m c 0 t)) :=
  ((dats m 0 c).read_blk_arrAt_eq_flushed 2 (fun t t' _ _ hne => (cfg0.win 2).disjoint_blk fun h => hne (Fin.ext
    ((places t).2.2.2.2.1.symm.trans ((congrFun h 1).trans (places t').2.2.2.2.1)))) cfg0.N t t.isLt (places t).1.2).trans (by
    show (cfg0.win 2).cut (grid0.coords t) ((dats m 0 c).after 2 t) = _
    rw [after0_2])

/-- A point's tile turned to rows. -/
theorem rows (t : Fin cfg0.N) (r : Fin 1024) (s : Fin 512) : k0_pay3 (F := Ideal) (View.ld (iblk m c 0 t) r0_0) (px r s)
    = cell (a := 8) (b := 64) (d := 16384) (V m c main_arg0) (s.val / 64) (s.val % 64) (1024 * t.val + r.val) := by
  unfold k0_pay3
  rw [show View.ld (iblk m c 0 t) r0_0 = iblk m c 0 t from View.ld_unit_zero zzz _ _]
  refine (turned (a := 8) (w := 64) (p := 1024) (n := 512) _ (by decide) rfl _ _ r s).trans ?_
  refine (cell_of (a := 8) (b := 64) (d := 1024) (iblk m c 0 t) (p3 (⟨s.val / 64, by omega⟩ : Fin 8) (⟨s.val % 64, by omega⟩ : Fin 64) r) rfl rfl rfl).symm.trans ?_
  exact cell_of (a := 8) (b := 64) (d := 16384) (V m c main_arg0) _
    (show win0_0.index t 0 * 8 + 1 * (s.val / 64) = _ by rw [(places t).2.1.1]; omega)
    (show win0_0.index t 1 * 64 + 1 * (s.val % 64) = _ by rw [(places t).2.1.2.1]; omega)
    (show win0_0.index t 2 * 1024 + 1 * r.val = _ by rw [(places t).2.1.2.2]; omega)

theorem array₁ (i : Fin 16384) (k : Fin 512) :
    ((dats m 0 c).arrAt 1 cfg0.N : FVec Ideal S16384x512 .bf16) (px i k) = cell (a := 8) (b := 64) (d := 16384) (V m c main_arg0) (k.val / 64) (k.val % 64) i.val :=
  bands (p := 1024) (φ := .bf16) _ (congrArg (1024 * ·) N_0.symm) (fun i (k : Fin 512) => cell (a := 8) (b := 64) (d := 16384) (V m c main_arg0) (k.val / 64) (k.val % 64) i)
    (fun t r s => (at_block (a := 16384) (b := 512) (φ := .bf16) _ (places t).2.2.1 rfl rfl).symm.trans
      ((congrFun (blocks₁ m c t) (px r s)).trans (by
        show out0_1 _ (px r s) = _
        unfold out0_1
        rw [View.canon_cons_unit_zero zz]
        exact rows m c t r s))) i k

/-- A point's tile of the heads. -/
theorem tile₂ (x : Vec Ideal S8x64x1024 .f32) (y : S8x1024x64.Idx) :
    out0_2 (F := Ideal) x y = @at2 1024 512 .f32 (k0_pay3 (F := Ideal) (View.ld x r0_0)) (y 1).val (64 * (y 0).val + (y 2).val) := by
  unfold out0_2
  refine View.canon_eq_of_allAt _ y _ (cover0_2 _ _ _ _ _ _ _ _ y) ?_
  iterate 8
    refine View.allAt_cons_unit _ _ _ _ _ (sliced (a := 8) (p := 1024) (w := 64) (n := 512) (k0_pay3 (F := Ideal) (View.ld x r0_0)) y (by rfl) _ _) ?_
  exact View.allAt_nil _ _

theorem array₂ (j : Fin 8) (i : Fin 16384) (k : Fin 64) :
    ((dats m 0 c).arrAt 2 cfg0.N : (⟨3, ![8, 16384, 64]⟩ : Shape).Idx → EReal) (p3 j i k) = cell (a := 8) (b := 64) (d := 16384) (V m c main_arg0) j.val k.val i.val :=
  bands₃ (p := 1024) _ (congrArg (1024 * ·) N_0.symm) (fun j i k => cell (a := 8) (b := 64) (d := 16384) (V m c main_arg0) j k i)
    (fun t j r k => (cell_of (a := 8) (b := 16384) (d := 64) _ (((cfg0.win 2).blk t).view.emb (p3 j r k))
      (show win0_2.index t 0 * 8 + 1 * j.val = _ by rw [(places t).2.2.2.1]; omega)
      (show win0_2.index t 1 * 1024 + 1 * r.val = _ by rw [(places t).2.2.2.2.1]; omega)
      (show win0_2.index t 2 * 64 + 1 * k.val = _ by rw [(places t).2.2.2.2.2]; omega)).symm.trans
      ((congrFun (blocks₂ m c t) (p3 j r k)).trans (by
        show out0_2 _ (p3 j r k) = _
        refine (tile₂ _ _).trans ?_
        have hl : 64 * j.val + k.val < 512 := by omega
        refine (at2_ix2 (a := 1024) (b := 512) (φ := .f32) _ r ⟨64 * j.val + k.val, hl⟩).trans ((rows m c t r _).trans ?_)
        show cell _ ((64 * j.val + k.val) / 64) ((64 * j.val + k.val) % 64) _ = _
        rw [show (64 * j.val + k.val) / 64 = j.val by omega, show (64 * j.val + k.val) % 64 = k.val by omega]))) j i k

end

/-- The kernel and the reference end with the same two arrays. -/
theorem algebraic : algebraic_OMergeIdeal_OMergeRefIdeal (hOMergeIdeal := Cert.OMergeIdeal.Gen.facts) (hOMergeRefIdeal := Cert.OMergeRefIdeal.Gen.facts) := by
  intro m g m' g' _ hm
  refine ⟨fun c => (dats m 0 c).arrAt 1 cfg0.N, fun c => (dats m 0 c).arrAt 2 cfg0.N,
    (θ_run defs _ _).mono (fun r h c => ⟨(h c).1 1, (h c).1 2, ((h c).1 0).trans (((dats m 0 c).arrAt_in 0 rfl _).trans ((A_eq m c 0).trans (V_main_arg0 m c)))⟩) (run_main m g), ?_⟩
  refine (θ_run Cert.OMergeRefIdeal.defs _ _).mono (fun r h c => ⟨(h c).1.trans ?_, (h c).2.1.trans ?_, (h c).2.2⟩) (Cert.OMergeRefIdeal.Value.run (F := Ideal) m' g')
  · rw [hm c]
    refine ext2 (a := 16384) (b := 512) (φ := .bf16) fun i k => ?_
    refine (joined (a := 8) (w := 64) (M := 16384) (n := 512) _ (by decide) rfl _ _ i k).trans ((array₁ m c i k).trans ?_).symm
    rw [V_main_arg0]
  · rw [hm c]
    refine ext3 (a := 8) (M := 16384) (w := 64) fun j i k => ?_
    refine ((transpose_apply _ _ _ _ (p3 j k i) fun ax => match ax with
      | ⟨0, _⟩ => rfl
      | ⟨1, _⟩ => rfl
      | ⟨2, _⟩ => rfl).trans (cell_of (a := 8) (b := 64) (d := 16384) _ _ rfl rfl rfl)).trans ((array₂ m c j i k).trans ?_).symm
    rw [V_main_arg0]

end Cert.OMergeIdeal.Sum
-- ==== Proof.MoveFrames.lean ====
module
public import proofs.«01_k».proof.Defs
public import proofs.«01_k».proof.Proof.Gen.QSplit.Frame
public import proofs.«01_k».proof.Proof.Gen.QSplitIdeal.Frame
public import proofs.«01_k».proof.Proof.Gen.QSplitRefIdeal.Run
public import proofs.«01_k».proof.Proof.Gen.DoSplit.Frame
public import proofs.«01_k».proof.Proof.Gen.DoSplitIdeal.Frame
public import proofs.«01_k».proof.Proof.Gen.DoSplitRefIdeal.Run
public import proofs.«01_k».proof.Proof.Gen.DqMerge.Frame
public import proofs.«01_k».proof.Proof.Gen.DqMergeIdeal.Frame
public import proofs.«01_k».proof.Proof.Gen.DqMergeRefIdeal.Run
public import proofs.«01_k».proof.Proof.Gen.OMerge.Frame
public import proofs.«01_k».proof.Proof.Gen.OMergeIdeal.Frame
public import proofs.«01_k».proof.Proof.Gen.OMergeRefIdeal.Run
public import Idealize.ShloMosaic.Adequacy
public import Idealize.ShloMosaic.Init
@[expose] public section
/-!
# The frames of the moves between heads and rows
-/

noncomputable section

namespace Cert.Proof
open Idealize.ShloMosaic Idealize.SL.Sem

theorem frame_QSplit : Cert.quiescent_QSplit := fun m ρ _ => Cert.QSplit.Gen.frame m ρ
theorem frame_QSplitIdeal : Cert.quiescent_QSplitIdeal := fun m ρ _ => Cert.QSplitIdeal.Gen.frame m ρ
theorem frame_QSplitRefIdeal : Cert.quiescent_QSplitRefIdeal := fun m ρ _ =>
  (θ_run Cert.QSplitRefIdeal.defs _ _).mono (fun r h => ⟨fun c => (h c).2, Idealize.ShloMosaic.sem_eq_zero_of_no_sems (by decide) r.2⟩)
    (Cert.QSplitRefIdeal.Value.run (F := Ideal) m ρ)

theorem frame_DoSplit : Cert.quiescent_DoSplit := fun m ρ _ => Cert.DoSplit.Gen.frame m ρ
theorem frame_DoSplitIdeal : Cert.quiescent_DoSplitIdeal := fun m ρ _ => Cert.DoSplitIdeal.Gen.frame m ρ
theorem frame_DoSplitRefIdeal : Cert.quiescent_DoSplitRefIdeal := fun m ρ _ =>
  (θ_run Cert.DoSplitRefIdeal.defs _ _).mono (fun r h => ⟨fun c => (h c).2, Idealize.ShloMosaic.sem_eq_zero_of_no_sems (by decide) r.2⟩)
    (Cert.DoSplitRefIdeal.Value.run (F := Ideal) m ρ)

theorem frame_DqMerge : Cert.quiescent_DqMerge := fun m ρ _ => Cert.DqMerge.Gen.frame m ρ
theorem frame_DqMergeIdeal : Cert.quiescent_DqMergeIdeal := fun m ρ _ => Cert.DqMergeIdeal.Gen.frame m ρ
theorem frame_DqMergeRefIdeal : Cert.quiescent_DqMergeRefIdeal := fun m ρ _ =>
  (θ_run Cert.DqMergeRefIdeal.defs _ _).mono (fun r h => ⟨fun c => (h c).2, Idealize.ShloMosaic.sem_eq_zero_of_no_sems (by decide) r.2⟩)
    (Cert.DqMergeRefIdeal.Value.run (F := Ideal) m ρ)

theorem frame_OMerge : Cert.quiescent_OMerge := fun m ρ _ => Cert.OMerge.Gen.frame m ρ
theorem frame_OMergeIdeal : Cert.quiescent_OMergeIdeal := fun m ρ _ => Cert.OMergeIdeal.Gen.frame m ρ
theorem frame_OMergeRefIdeal : Cert.quiescent_OMergeRefIdeal := fun m ρ _ =>
  (θ_run Cert.OMergeRefIdeal.defs _ _).mono (fun r h => ⟨fun c => (h c).2.2, Idealize.ShloMosaic.sem_eq_zero_of_no_sems (by decide) r.2⟩)
    (Cert.OMergeRefIdeal.Value.run (F := Ideal) m ρ)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Frames
public import proofs.«01_k».proof.Proof.Algebraic
public import proofs.«01_k».proof.Proof.MlpFrames
public import proofs.«01_k».proof.Proof.ProjFrames
public import proofs.«01_k».proof.Proof.MlpUp
public import proofs.«01_k».proof.Proof.MlpDown
public import proofs.«01_k».proof.Proof.MlpDownDw
public import proofs.«01_k».proof.Proof.MlpDownDx
public import proofs.«01_k».proof.Proof.MlpUpDw
public import proofs.«01_k».proof.Proof.MlpUpDx
public import proofs.«01_k».proof.Proof.ProjForward
public import proofs.«01_k».proof.Proof.ProjAdded
public import proofs.«01_k».proof.Proof.ProjByInput
public import proofs.«01_k».proof.Proof.ProjByWeights
public import proofs.«01_k».proof.Proof.NormFrames
public import proofs.«01_k».proof.Proof.NormForward
public import proofs.«01_k».proof.Proof.NormBackward
public import proofs.«01_k».proof.Proof.LossHead
public import proofs.«01_k».proof.Proof.StepFrames
public import proofs.«01_k».proof.Proof.Step
public import proofs.«01_k».proof.Proof.RotaryFrames
public import proofs.«01_k».proof.Proof.Rotary
public import proofs.«01_k».proof.Proof.KvDx
public import proofs.«01_k».proof.Proof.Moves
public import proofs.«01_k».proof.Proof.MoveFrames
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.DownDw.Gen.facts, Cert.DownDwIdeal.Gen.facts, Cert.DownDwRefIdeal.Gen.facts,
  Cert.DownDx.Gen.facts, Cert.DownDxIdeal.Gen.facts, Cert.DownDxRefIdeal.Gen.facts,
  Cert.UpDw.Gen.facts, Cert.UpDwIdeal.Gen.facts, Cert.UpDwRefIdeal.Gen.facts,
  Cert.UpDx.Gen.facts, Cert.UpDxIdeal.Gen.facts, Cert.UpDxRefIdeal.Gen.facts,
  Cert.In.Gen.facts, Cert.InIdeal.Gen.facts, Cert.InRefIdeal.Gen.facts,
  Cert.InDw.Gen.facts, Cert.InDwIdeal.Gen.facts, Cert.InDwRefIdeal.Gen.facts,
  Cert.InDx.Gen.facts, Cert.InDxIdeal.Gen.facts, Cert.InDxRefIdeal.Gen.facts,
  Cert.Out.Gen.facts, Cert.OutIdeal.Gen.facts, Cert.OutRefIdeal.Gen.facts,
  Cert.OutDw.Gen.facts, Cert.OutDwIdeal.Gen.facts, Cert.OutDwRefIdeal.Gen.facts,
  Cert.OutDx.Gen.facts, Cert.OutDxIdeal.Gen.facts, Cert.OutDxRefIdeal.Gen.facts,
  Cert.Lat.Gen.facts, Cert.LatIdeal.Gen.facts, Cert.LatRefIdeal.Gen.facts,
  Cert.LatDw.Gen.facts, Cert.LatDwIdeal.Gen.facts, Cert.LatDwRefIdeal.Gen.facts,
  Cert.LatDx.Gen.facts, Cert.LatDxIdeal.Gen.facts, Cert.LatDxRefIdeal.Gen.facts,
  Cert.Uq.Gen.facts, Cert.UqIdeal.Gen.facts, Cert.UqRefIdeal.Gen.facts,
  Cert.UqDw.Gen.facts, Cert.UqDwIdeal.Gen.facts, Cert.UqDwRefIdeal.Gen.facts,
  Cert.UqDx.Gen.facts, Cert.UqDxIdeal.Gen.facts, Cert.UqDxRefIdeal.Gen.facts,
  Cert.Ukv.Gen.facts, Cert.UkvIdeal.Gen.facts, Cert.UkvRefIdeal.Gen.facts,
  Cert.UkvDw.Gen.facts, Cert.UkvDwIdeal.Gen.facts, Cert.UkvDwRefIdeal.Gen.facts,
  Cert.UkvDx.Gen.facts, Cert.UkvDxIdeal.Gen.facts, Cert.UkvDxRefIdeal.Gen.facts,
  Cert.O.Gen.facts, Cert.OIdeal.Gen.facts, Cert.ORefIdeal.Gen.facts,
  Cert.ODw.Gen.facts, Cert.ODwIdeal.Gen.facts, Cert.ODwRefIdeal.Gen.facts,
  Cert.ODx.Gen.facts, Cert.ODxIdeal.Gen.facts, Cert.ODxRefIdeal.Gen.facts,
  Cert.Norm.Gen.facts, Cert.NormIdeal.Gen.facts, Cert.NormRefIdeal.Gen.facts,
  Cert.QNorm.Gen.facts, Cert.QNormIdeal.Gen.facts, Cert.QNormRefIdeal.Gen.facts,
  Cert.KvNorm.Gen.facts, Cert.KvNormIdeal.Gen.facts, Cert.KvNormRefIdeal.Gen.facts,
  Cert.NormDx.Gen.facts, Cert.NormDxIdeal.Gen.facts, Cert.NormDxRefIdeal.Gen.facts,
  Cert.NormDxFirst.Gen.facts, Cert.NormDxFirstIdeal.Gen.facts, Cert.NormDxFirstRefIdeal.Gen.facts,
  Cert.QNormDx.Gen.facts, Cert.QNormDxIdeal.Gen.facts, Cert.QNormDxRefIdeal.Gen.facts,
  Cert.KvNormDx.Gen.facts, Cert.KvNormDxIdeal.Gen.facts, Cert.KvNormDxRefIdeal.Gen.facts,
  Cert.Loss.Gen.facts, Cert.LossIdeal.Gen.facts, Cert.LossRefIdeal.Gen.facts,
  Cert.AdamRelBias.Gen.facts, Cert.AdamRelBiasIdeal.Gen.facts, Cert.AdamRelBiasRefIdeal.Gen.facts,
  Cert.AdamLayerNorms.Gen.facts, Cert.AdamLayerNormsIdeal.Gen.facts, Cert.AdamLayerNormsRefIdeal.Gen.facts,
  Cert.AdamFinalNorm.Gen.facts, Cert.AdamFinalNormIdeal.Gen.facts, Cert.AdamFinalNormRefIdeal.Gen.facts,
  Cert.AdamWIn.Gen.facts, Cert.AdamWInIdeal.Gen.facts, Cert.AdamWInRefIdeal.Gen.facts,
  Cert.AdamSinks.Gen.facts, Cert.AdamSinksIdeal.Gen.facts, Cert.AdamSinksRefIdeal.Gen.facts,
  Cert.AdamWOut.Gen.facts, Cert.AdamWOutIdeal.Gen.facts, Cert.AdamWOutRefIdeal.Gen.facts,
  Cert.AdamWDown.Gen.facts, Cert.AdamWDownIdeal.Gen.facts, Cert.AdamWDownRefIdeal.Gen.facts,
  Cert.AdamQNorms.Gen.facts, Cert.AdamQNormsIdeal.Gen.facts, Cert.AdamQNormsRefIdeal.Gen.facts,
  Cert.AdamWUq.Gen.facts, Cert.AdamWUqIdeal.Gen.facts, Cert.AdamWUqRefIdeal.Gen.facts,
  Cert.AdamKvNorms.Gen.facts, Cert.AdamKvNormsIdeal.Gen.facts, Cert.AdamKvNormsRefIdeal.Gen.facts,
  Cert.AdamWUkv.Gen.facts, Cert.AdamWUkvIdeal.Gen.facts, Cert.AdamWUkvRefIdeal.Gen.facts,
  Cert.AdamWO.Gen.facts, Cert.AdamWOIdeal.Gen.facts, Cert.AdamWORefIdeal.Gen.facts,
  Cert.AdamWMlp.Gen.facts, Cert.AdamWMlpIdeal.Gen.facts, Cert.AdamWMlpRefIdeal.Gen.facts,
  Cert.Rope.Gen.facts, Cert.RopeIdeal.Gen.facts, Cert.RopeRefIdeal.Gen.facts,
  Cert.RopeDx.Gen.facts, Cert.RopeDxIdeal.Gen.facts, Cert.RopeDxRefIdeal.Gen.facts,
  Cert.KvDx.Gen.facts, Cert.KvDxIdeal.Gen.facts, Cert.KvDxRefIdeal.Gen.facts,
  Cert.QSplit.Gen.facts, Cert.QSplitIdeal.Gen.facts, Cert.QSplitRefIdeal.Gen.facts,
  Cert.DoSplit.Gen.facts, Cert.DoSplitIdeal.Gen.facts, Cert.DoSplitRefIdeal.Gen.facts,
  Cert.DqMerge.Gen.facts, Cert.DqMergeIdeal.Gen.facts, Cert.DqMergeRefIdeal.Gen.facts,
  Cert.OMerge.Gen.facts, Cert.OMergeIdeal.Gen.facts, Cert.OMergeRefIdeal.Gen.facts,
  facts_finite,
  frame_kernel, frame_kernelIdeal, fun m g _ => frame_kernelIdeal m g trivial, frame_referenceIdeal,
  fun m g _ => frame_referenceIdeal m g trivial,
  frame_Up, frame_UpIdeal, frame_UpRefIdeal,
  frame_Down, frame_DownIdeal, frame_DownRefIdeal,
  frame_DownDw, frame_DownDwIdeal, frame_DownDwRefIdeal,
  frame_DownDx, frame_DownDxIdeal, frame_DownDxRefIdeal,
  frame_UpDw, frame_UpDwIdeal, frame_UpDwRefIdeal,
  frame_UpDx, frame_UpDxIdeal, frame_UpDxRefIdeal,
  frame_In, frame_InIdeal, frame_InRefIdeal,
  frame_InDw, frame_InDwIdeal, frame_InDwRefIdeal,
  frame_InDx, frame_InDxIdeal, frame_InDxRefIdeal,
  frame_Out, frame_OutIdeal, frame_OutRefIdeal,
  frame_OutDw, frame_OutDwIdeal, frame_OutDwRefIdeal,
  frame_OutDx, frame_OutDxIdeal, frame_OutDxRefIdeal,
  frame_Lat, frame_LatIdeal, frame_LatRefIdeal,
  frame_LatDw, frame_LatDwIdeal, frame_LatDwRefIdeal,
  frame_LatDx, frame_LatDxIdeal, frame_LatDxRefIdeal,
  frame_Uq, frame_UqIdeal, frame_UqRefIdeal,
  frame_UqDw, frame_UqDwIdeal, frame_UqDwRefIdeal,
  frame_UqDx, frame_UqDxIdeal, frame_UqDxRefIdeal,
  frame_Ukv, frame_UkvIdeal, frame_UkvRefIdeal,
  frame_UkvDw, frame_UkvDwIdeal, frame_UkvDwRefIdeal,
  frame_UkvDx, frame_UkvDxIdeal, frame_UkvDxRefIdeal,
  frame_O, frame_OIdeal, frame_ORefIdeal,
  frame_ODw, frame_ODwIdeal, frame_ODwRefIdeal,
  frame_ODx, frame_ODxIdeal, frame_ODxRefIdeal,
  frame_Norm, frame_NormIdeal, frame_NormRefIdeal,
  frame_QNorm, frame_QNormIdeal, frame_QNormRefIdeal,
  frame_KvNorm, frame_KvNormIdeal, frame_KvNormRefIdeal,
  frame_NormDx, frame_NormDxIdeal, frame_NormDxRefIdeal,
  frame_NormDxFirst, frame_NormDxFirstIdeal, frame_NormDxFirstRefIdeal,
  frame_QNormDx, frame_QNormDxIdeal, frame_QNormDxRefIdeal,
  frame_KvNormDx, frame_KvNormDxIdeal, frame_KvNormDxRefIdeal,
  frame_Loss, frame_LossIdeal, frame_LossRefIdeal,
  frame_AdamRelBias, frame_AdamRelBiasIdeal, frame_AdamRelBiasRefIdeal,
  frame_AdamLayerNorms, frame_AdamLayerNormsIdeal, frame_AdamLayerNormsRefIdeal,
  frame_AdamFinalNorm, frame_AdamFinalNormIdeal, frame_AdamFinalNormRefIdeal,
  frame_AdamWIn, frame_AdamWInIdeal, frame_AdamWInRefIdeal,
  frame_AdamSinks, frame_AdamSinksIdeal, frame_AdamSinksRefIdeal,
  frame_AdamWOut, frame_AdamWOutIdeal, frame_AdamWOutRefIdeal,
  frame_AdamWDown, frame_AdamWDownIdeal, frame_AdamWDownRefIdeal,
  frame_AdamQNorms, frame_AdamQNormsIdeal, frame_AdamQNormsRefIdeal,
  frame_AdamWUq, frame_AdamWUqIdeal, frame_AdamWUqRefIdeal,
  frame_AdamKvNorms, frame_AdamKvNormsIdeal, frame_AdamKvNormsRefIdeal,
  frame_AdamWUkv, frame_AdamWUkvIdeal, frame_AdamWUkvRefIdeal,
  frame_AdamWO, frame_AdamWOIdeal, frame_AdamWORefIdeal,
  frame_AdamWMlp, frame_AdamWMlpIdeal, frame_AdamWMlpRefIdeal,
  frame_Rope, frame_RopeIdeal, frame_RopeRefIdeal,
  frame_RopeDx, frame_RopeDxIdeal, frame_RopeDxRefIdeal,
  frame_KvDx, frame_KvDxIdeal, frame_KvDxRefIdeal,
  frame_QSplit, frame_QSplitIdeal, frame_QSplitRefIdeal,
  frame_DoSplit, frame_DoSplitIdeal, frame_DoSplitRefIdeal,
  frame_DqMerge, frame_DqMergeIdeal, frame_DqMergeRefIdeal,
  frame_OMerge, frame_OMergeIdeal, frame_OMergeRefIdeal,
  preserves, algebraic,
  trivial, Cert.UpIdeal.Sum.algebraic,
  trivial, Cert.DownIdeal.Sum.algebraic,
  trivial, Cert.DownDwIdeal.Sum.algebraic,
  trivial, Cert.DownDxIdeal.Sum.algebraic,
  trivial, Cert.UpDwIdeal.Sum.algebraic,
  trivial, Cert.UpDxIdeal.Sum.algebraic,
  trivial, Cert.InIdeal.Sum.algebraic,
  trivial, Cert.InDwIdeal.Sum.algebraic,
  trivial, Cert.InDxIdeal.Sum.algebraic,
  trivial, Cert.OutIdeal.Sum.algebraic,
  trivial, Cert.OutDwIdeal.Sum.algebraic,
  trivial, Cert.OutDxIdeal.Sum.algebraic,
  trivial, Cert.LatIdeal.Sum.algebraic,
  trivial, Cert.LatDwIdeal.Sum.algebraic,
  trivial, Cert.LatDxIdeal.Sum.algebraic,
  trivial, Cert.UqIdeal.Sum.algebraic,
  trivial, Cert.UqDwIdeal.Sum.algebraic,
  trivial, Cert.UqDxIdeal.Sum.algebraic,
  trivial, Cert.UkvIdeal.Sum.algebraic,
  trivial, Cert.UkvDwIdeal.Sum.algebraic,
  trivial, Cert.UkvDxIdeal.Sum.algebraic,
  trivial, Cert.OIdeal.Sum.algebraic,
  trivial, Cert.ODwIdeal.Sum.algebraic,
  trivial, Cert.ODxIdeal.Sum.algebraic,
  trivial, Cert.NormIdeal.Sum.algebraic,
  trivial, Cert.QNormIdeal.Sum.algebraic,
  trivial, Cert.KvNormIdeal.Sum.algebraic,
  trivial, Cert.NormDxIdeal.Sum.algebraic,
  trivial, Cert.NormDxFirstIdeal.Sum.algebraic,
  trivial, Cert.QNormDxIdeal.Sum.algebraic,
  trivial, Cert.KvNormDxIdeal.Sum.algebraic,
  trivial, Cert.LossIdeal.Sum.algebraic,
  trivial, Cert.Update.algebraic_AdamRelBias,
  trivial, Cert.Update.algebraic_AdamLayerNorms,
  trivial, Cert.Update.algebraic_AdamFinalNorm,
  trivial, Cert.Update.algebraic_AdamWIn,
  trivial, Cert.Update.algebraic_AdamSinks,
  trivial, Cert.Update.algebraic_AdamWOut,
  trivial, Cert.Update.algebraic_AdamWDown,
  trivial, Cert.Update.algebraic_AdamQNorms,
  trivial, Cert.Update.algebraic_AdamWUq,
  trivial, Cert.Update.algebraic_AdamKvNorms,
  trivial, Cert.Update.algebraic_AdamWUkv,
  trivial, Cert.Update.algebraic_AdamWO,
  trivial, Cert.Update.algebraic_AdamWMlp,
  trivial, Cert.Rotary.algebraic_Rope,
  trivial, Cert.Rotary.algebraic_RopeDx,
  trivial, Cert.KvDxIdeal.Sum.algebraic,
  trivial, Cert.QSplitIdeal.Sum.algebraic,
  trivial, Cert.DoSplitIdeal.Sum.algebraic,
  trivial, Cert.DqMergeIdeal.Sum.algebraic,
  trivial, Cert.OMergeIdeal.Sum.algebraic⟩

end Cert.Proof

end
